-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_on_plane_logits [hKernelIdeal : Cert.KernelIdeal.Facts] [hReferenceIdeal : Cert.ReferenceIdeal.Facts] [hOn_plane_logits : Cert.On_plane_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (Cert.KernelIdeal.threads (F := Ideal)) ⟨m, fun _ => 0, g⟩ (fun r => ∀ c : Dev Cert.KernelIdeal.nD,
          (∀ i : (⟨1, ![3216384]⟩ : Shape).Idx, (Cert.On_plane_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.KernelIdeal.nD Cert.KernelIdeal.τ).loc Cert.KernelIdeal.main_v79) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![3216384]⟩ : Shape).Idx, (Cert.On_plane_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.ReferenceIdeal.nD Cert.ReferenceIdeal.τ).loc Cert.ReferenceIdeal.main_v107) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hOn_plane_logits : Cert.On_plane_logits.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_plane_logits (hKernelIdeal := hKernelIdeal) (hReferenceIdeal := hReferenceIdeal) (hOn_plane_logits := hOn_plane_logits)
-- ==== On_plane_logits.lean ====
abbrev S50000x128 : Shape := ⟨2, ![50000, 128]⟩
abbrev S50000x3 : Shape := ⟨2, ![50000, 3]⟩
abbrev S3 : Shape := ⟨1, ![3]⟩
abbrev S64x3 : Shape := ⟨2, ![64, 3]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S3216384 : Shape := ⟨1, ![3216384]⟩
abbrev S_ : Shape := ⟨0, ![]⟩

class Facts : Prop where
  bcast_S_S3216384 : S_.BroadcastsInDim S3216384 (![] : Fin 0 → Fin S3216384.rank)

variable [Facts]

def fn {F : FTy → Type} [FloatOps F] (main_arg0 : FVec F S50000x128 .f32) (main_arg1 : FVec F S50000x128 .f32) (main_arg2 : FVec F S50000x3 .f32) (main_arg3 : FVec F S3 .f32) (main_arg4 : FVec F S64x3 .f32) (main_arg5 : FVec F S64x3 .f32) (main_arg6 : FVec F S64x3 .f32) (main_arg7 : FVec F S64x3 .f32) (main_arg8 : FVec F S256x128 .f32) (main_arg9 : FVec F S128 .f32) (main_arg10 : FVec F S128x128 .f32) (main_arg11 : FVec F S128 .f32) (main_arg12 : FVec F S128x1 .f32) (main_arg13 : FVec F S1 .f32) : IVec S3216384 1 :=
  let main_v0 : IVec S3216384 32 := iotaInDim S3216384 32 0
  let main_c : IVec S_ 32 := constantI S_ 32 3200000#32
  let main_v1 : IVec S3216384 32 := broadcastInDim S3216384 ![] bcast_S_S3216384 main_c
  let main_v2 : IVec S3216384 1 := cmpi .slt main_v0 main_v1
  main_v2
-- ==== Kernel.lean ====
abbrev S50000x128 : Shape := ⟨2, ![50000, 128]⟩
abbrev S50000x3 : Shape := ⟨2, ![50000, 3]⟩
abbrev S3 : Shape := ⟨1, ![3]⟩
abbrev S64x3 : Shape := ⟨2, ![64, 3]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x3 : Shape := ⟨2, ![1, 3]⟩
abbrev S_ : Shape := ⟨0, ![]⟩
abbrev S50000x8 : Shape := ⟨2, ![50000, 8]⟩
abbrev S16x64 : Shape := ⟨2, ![16, 64]⟩
abbrev S64x1 : Shape := ⟨2, ![64, 1]⟩
abbrev S64 : Shape := ⟨1, ![64]⟩
abbrev S3x64 : Shape := ⟨2, ![3, 64]⟩
abbrev S128x16 : Shape := ⟨2, ![128, 16]⟩
abbrev S128x2 : Shape := ⟨2, ![128, 2]⟩
abbrev S1x128 : Shape := ⟨2, ![1, 128]⟩
abbrev S1x1 : Shape := ⟨2, ![1, 1]⟩
abbrev S50000x64 : Shape := ⟨2, ![50000, 64]⟩
abbrev S54000x128 : Shape := ⟨2, ![54000, 128]⟩
abbrev S54000x16 : Shape := ⟨2, ![54000, 16]⟩
abbrev S2000x128 : Shape := ⟨2, ![2000, 128]⟩
abbrev S2000x8 : Shape := ⟨2, ![2000, 8]⟩
abbrev S2000x64 : Shape := ⟨2, ![2000, 64]⟩
abbrev S2000x16 : Shape := ⟨2, ![2000, 16]⟩
abbrev S2000x1 : Shape := ⟨2, ![2000, 1]⟩
abbrev S1x64 : Shape := ⟨2, ![1, 64]⟩
abbrev S2000x256 : Shape := ⟨2, ![2000, 256]⟩
abbrev S32x128x128 : Shape := ⟨3, ![32, 128, 128]⟩
abbrev S2x128x128 : Shape := ⟨3, ![2, 128, 128]⟩
abbrev S2x128x16 : Shape := ⟨3, ![2, 128, 16]⟩
abbrev S4 : Shape := ⟨1, ![4]⟩
abbrev S16 : Shape := ⟨1, ![16]⟩
abbrev S1x16 : Shape := ⟨2, ![1, 16]⟩
abbrev S1x128x128 : Shape := ⟨3, ![1, 128, 128]⟩
abbrev S1x128x16 : Shape := ⟨3, ![1, 128, 16]⟩
abbrev S1x1x16 : Shape := ⟨3, ![1, 1, 16]⟩
abbrev S64x128 : Shape := ⟨2, ![64, 128]⟩
abbrev S64x50000 : Shape := ⟨2, ![64, 50000]⟩
abbrev S3200000 : Shape := ⟨1, ![3200000]⟩
abbrev S8192 : Shape := ⟨1, ![8192]⟩
abbrev S3216384 : Shape := ⟨1, ![3216384]⟩

abbrev nBuf : Table → Nat
  | .hbm => 173
  | .local .tc .vmem => 23
  | .local .scVector .vmem => 3
  | _ => 0

abbrev hbmTy0_0 (i : Nat) : BufTy := match i % 128 with
  | 0 => ⟨S50000x128, .f32⟩
  | 1 => ⟨S50000x128, .f32⟩
  | 2 => ⟨S50000x3, .f32⟩
  | 3 => ⟨S3, .f32⟩
  | 4 => ⟨S64x3, .f32⟩
  | 5 => ⟨S64x3, .f32⟩
  | 6 => ⟨S64x3, .f32⟩
  | 7 => ⟨S64x3, .f32⟩
  | 8 => ⟨S256x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x3, .f32⟩
  | 15 => ⟨S50000x3, .f32⟩
  | 16 => ⟨S50000x3, .f32⟩
  | 17 => ⟨S_, .f32⟩
  | 18 => ⟨S50000x8, .f32⟩
  | 19 => ⟨S_, .i32⟩
  | 20 => ⟨S1, .i32⟩
  | 21 => ⟨S50000x8, .f32⟩
  | 22 => ⟨S_, .f32⟩
  | 23 => ⟨S16x64, .f32⟩
  | 24 => ⟨S64x1, .f32⟩
  | 25 => ⟨S64, .f32⟩
  | 26 => ⟨S_, .i32⟩
  | 27 => ⟨S1, .i32⟩
  | 28 => ⟨S16x64, .f32⟩
  | 29 => ⟨S64x1, .f32⟩
  | 30 => ⟨S64, .f32⟩
  | 31 => ⟨S_, .i32⟩
  | 32 => ⟨S1, .i32⟩
  | 33 => ⟨S16x64, .f32⟩
  | 34 => ⟨S64x1, .f32⟩
  | 35 => ⟨S64, .f32⟩
  | 36 => ⟨S_, .i32⟩
  | 37 => ⟨S1, .i32⟩
  | 38 => ⟨S16x64, .f32⟩
  | 39 => ⟨S64x1, .f32⟩
  | 40 => ⟨S64, .f32⟩
  | 41 => ⟨S_, .i32⟩
  | 42 => ⟨S1, .i32⟩
  | 43 => ⟨S16x64, .f32⟩
  | 44 => ⟨S3x64, .f32⟩
  | 45 => ⟨S_, .i32⟩
  | 46 => ⟨S1, .i32⟩
  | 47 => ⟨S16x64, .f32⟩
  | 48 => ⟨S3x64, .f32⟩
  | 49 => ⟨S_, .i32⟩
  | 50 => ⟨S1, .i32⟩
  | 51 => ⟨S16x64, .f32⟩
  | 52 => ⟨S128, .i32⟩
  | 53 => ⟨S_, .f32⟩
  | 54 => ⟨S128x16, .f32⟩
  | 55 => ⟨S_, .i32⟩
  | 56 => ⟨S_, .i32⟩
  | 57 => ⟨S128, .i32⟩
  | 58 => ⟨S128, .i32⟩
  | 59 => ⟨S128, .i32⟩
  | 60 => ⟨S_, .i32⟩
  | 61 => ⟨S128, .i32⟩
  | 62 => ⟨S128, .i1⟩
  | 63 => ⟨S128, .i32⟩
  | 64 => ⟨S128, .i32⟩
  | 65 => ⟨S_, .i32⟩
  | 66 => ⟨S128, .i32⟩
  | 67 => ⟨S128, .i1⟩
  | 68 => ⟨S128, .i1⟩
  | 69 => ⟨S_, .i32⟩
  | 70 => ⟨S128, .i32⟩
  | 71 => ⟨S128, .i32⟩
  | 72 => ⟨S128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i1⟩
  | 87 => ⟨S_, .i32⟩
  | 88 => ⟨S_, .i1⟩
  | 89 => ⟨S128, .i1⟩
  | 90 => ⟨S128, .i1⟩
  | 91 => ⟨S128, .i1⟩
  | 92 => ⟨S128, .i32⟩
  | 93 => ⟨S128, .i32⟩
  | 94 => ⟨S128, .i32⟩
  | 95 => ⟨S128, .f32⟩
  | 96 => ⟨S_, .f32⟩
  | 97 => ⟨S128, .f32⟩
  | 98 => ⟨S128, .f32⟩
  | 99 => ⟨S128, .f32⟩
  | 100 => ⟨S_, .i32⟩
  | 101 => ⟨S128, .i32⟩
  | 102 => ⟨S128, .i1⟩
  | 103 => ⟨S_, .i32⟩
  | 104 => ⟨S128, .i32⟩
  | 105 => ⟨S128, .i32⟩
  | 106 => ⟨S128, .i32⟩
  | 107 => ⟨S_, .i32⟩
  | 108 => ⟨S128, .i32⟩
  | 109 => ⟨S128, .i1⟩
  | 110 => ⟨S_, .i32⟩
  | 111 => ⟨S128, .i32⟩
  | 112 => ⟨S128, .i32⟩
  | 113 => ⟨S128, .i32⟩
  | 114 => ⟨S128x1, .i32⟩
  | 115 => ⟨S128x1, .i32⟩
  | 116 => ⟨S128x2, .i32⟩
  | 117 => ⟨S128x16, .f32⟩
  | 118 => ⟨S_, .i32⟩
  | 119 => ⟨S_, .i32⟩
  | 120 => ⟨S128, .i32⟩
  | 121 => ⟨S128, .i32⟩
  | 122 => ⟨S128, .i32⟩
  | 123 => ⟨S_, .i32⟩
  | 124 => ⟨S128, .i32⟩
  | 125 => ⟨S128, .i1⟩
  | 126 => ⟨S128, .i32⟩
  | 127 => ⟨S128, .i32⟩
  | _ => ⟨S50000x128, .f32⟩

abbrev hbmTy0_1 (i : Nat) : BufTy := match i % 128 with
  | 0 => ⟨S_, .i32⟩
  | 1 => ⟨S128, .i32⟩
  | 2 => ⟨S128, .i1⟩
  | 3 => ⟨S128, .i1⟩
  | 4 => ⟨S_, .i32⟩
  | 5 => ⟨S128, .i32⟩
  | 6 => ⟨S128, .i32⟩
  | 7 => ⟨S128, .i32⟩
  | 8 => ⟨S_, .i32⟩
  | 9 => ⟨S128, .i32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S_, .i32⟩
  | 22 => ⟨S128, .i32⟩
  | 23 => ⟨S128, .i32⟩
  | 24 => ⟨S128, .i32⟩
  | 25 => ⟨S128x1, .i32⟩
  | 26 => ⟨S128x1, .i32⟩
  | 27 => ⟨S128x2, .i32⟩
  | 28 => ⟨S_, .f32⟩
  | 29 => ⟨S128, .f32⟩
  | 30 => ⟨S128x16, .f32⟩
  | 31 => ⟨S1x128, .f32⟩
  | 32 => ⟨S1x128, .f32⟩
  | 33 => ⟨S1x1, .f32⟩
  | 34 => ⟨S50000x64, .f32⟩
  | 35 => ⟨S54000x128, .f32⟩
  | 36 => ⟨S54000x16, .i32⟩
  | 37 => ⟨S32x128x128, .f32⟩
  | 38 => ⟨S64x128, .f32⟩
  | 39 => ⟨S64x128, .f32⟩
  | 40 => ⟨S64x50000, .f32⟩
  | 41 => ⟨S3200000, .f32⟩
  | 42 => ⟨S8192, .f32⟩
  | 43 => ⟨S8192, .f32⟩
  | 44 => ⟨S3216384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (nBuf tb) → BufTy
  | .hbm, ⟨i, _⟩ => hbmTy i
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S2000x8, .f32⟩
  | .local .tc .vmem, ⟨5, _⟩ => ⟨S2000x8, .f32⟩
  | .local .tc .vmem, ⟨6, _⟩ => ⟨S16x64, .f32⟩
  | .local .tc .vmem, ⟨7, _⟩ => ⟨S256x128, .f32⟩
  | .local .tc .vmem, ⟨8, _⟩ => ⟨S128x128, .f32⟩
  | .local .tc .vmem, ⟨9, _⟩ => ⟨S128x1, .f32⟩
  | .local .tc .vmem, ⟨10, _⟩ => ⟨S1x128, .f32⟩
  | .local .tc .vmem, ⟨11, _⟩ => ⟨S1x128, .f32⟩
  | .local .tc .vmem, ⟨12, _⟩ => ⟨S1x1, .f32⟩
  | .local .tc .vmem, ⟨13, _⟩ => ⟨S128x16, .f32⟩
  | .local .tc .vmem, ⟨14, _⟩ => ⟨S2000x64, .f32⟩
  | .local .tc .vmem, ⟨15, _⟩ => ⟨S2000x64, .f32⟩
  | .local .tc .vmem, ⟨16, _⟩ => ⟨S2000x128, .f32⟩
  | .local .tc .vmem, ⟨17, _⟩ => ⟨S2000x128, .f32⟩
  | .local .tc .vmem, ⟨18, _⟩ => ⟨S2000x16, .i32⟩
  | .local .tc .vmem, ⟨19, _⟩ => ⟨S2000x16, .i32⟩
  | .local .tc .vmem, ⟨20, _⟩ => ⟨S32x128x128, .f32⟩
  | .local .tc .vmem, ⟨21, _⟩ => ⟨S64x128, .f32⟩
  | .local .tc .vmem, ⟨22, _⟩ => ⟨S64x128, .f32⟩
  | .local .scVector .vmem, ⟨0, _⟩ => ⟨S2x128x128, .f32⟩
  | .local .scVector .vmem, ⟨1, _⟩ => ⟨S2x128x16, .i32⟩
  | .local .scVector .vmem, ⟨2, _⟩ => ⟨S128x128, .f32⟩
  | _, _ => ⟨S50000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_c_8 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_c : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_0 : Ref sig .tc := ⟨.hbm, 69, rfl⟩
abbrev main_call0_v12 : Ref sig .tc := ⟨.hbm, 70, rfl⟩
abbrev main_call0_v13 : Ref sig .tc := ⟨.hbm, 71, rfl⟩
abbrev main_v31 : Ref sig .tc := ⟨.hbm, 72, rfl⟩
abbrev main_c_9 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v32 : Ref sig .tc := ⟨.hbm, 94, rfl⟩
abbrev main_v33 : Ref sig .tc := ⟨.hbm, 95, rfl⟩
abbrev main_cst_10 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_11 : Ref sig .tc := ⟨.hbm, 100, rfl⟩
abbrev main_v37 : Ref sig .tc := ⟨.hbm, 101, rfl⟩
abbrev main_v38 : Ref sig .tc := ⟨.hbm, 102, rfl⟩
abbrev main_c_12 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_c_13 : Ref sig .tc := ⟨.hbm, 107, rfl⟩
abbrev main_v42 : Ref sig .tc := ⟨.hbm, 108, rfl⟩
abbrev main_v43 : Ref sig .tc := ⟨.hbm, 109, rfl⟩
abbrev main_c_14 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_c_15 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_c : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_0 : Ref sig .tc := ⟨.hbm, 132, rfl⟩
abbrev main_call2_v12 : Ref sig .tc := ⟨.hbm, 133, rfl⟩
abbrev main_call2_v13 : Ref sig .tc := ⟨.hbm, 134, rfl⟩
abbrev main_v51 : Ref sig .tc := ⟨.hbm, 135, rfl⟩
abbrev main_c_16 : Ref sig .tc := ⟨.hbm, 136, rfl⟩
abbrev main_v52 : Ref sig .tc := ⟨.hbm, 137, rfl⟩
abbrev main_v53 : Ref sig .tc := ⟨.hbm, 138, rfl⟩
abbrev main_c_17 : Ref sig .tc := ⟨.hbm, 139, rfl⟩
abbrev main_v54 : Ref sig .tc := ⟨.hbm, 140, rfl⟩
abbrev main_v55 : Ref sig .tc := ⟨.hbm, 141, rfl⟩
abbrev main_c_18 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_c_19 : Ref sig .tc := ⟨.hbm, 146, rfl⟩
abbrev main_v59 : Ref sig .tc := ⟨.hbm, 147, rfl⟩
abbrev main_v60 : Ref sig .tc := ⟨.hbm, 148, rfl⟩
abbrev main_c_20 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_cst_21 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72_0 : Ref sig .tc := ⟨.hbm, 162, rfl⟩
abbrev main_v72_1 : Ref sig .tc := ⟨.hbm, 163, rfl⟩
abbrev main_v72_2 : Ref sig .tc := ⟨.hbm, 164, rfl⟩
abbrev main_v73 : Ref sig .tc := ⟨.hbm, 165, rfl⟩
abbrev main_v74_0 : Ref sig .tc := ⟨.hbm, 166, rfl⟩
abbrev main_v74_1 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v72_1_scv : Ref sig .scVector := ⟨.hbm, 163, rfl⟩
abbrev main_v72_2_scv : Ref sig .scVector := ⟨.hbm, 164, rfl⟩
abbrev main_v73_scv : Ref sig .scVector := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc2_sem0_0 : DmaSem sig := 25
abbrev cc2_sem1_0 : DmaSem sig := 26
abbrev cc2_sem2_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x16 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![2, 16], ![false, false]⟩

@[reducible] def k1_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k1_off1 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v474 : Index := Scalar.indexCast arg9
  let c0 : Index := 0#32
  ![v474.toNat, 0]
def k1_off2 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v479 : Index := Scalar.indexCast arg9
  let c16 : Index := 16#32
  ![v479.toNat, 16]
def k1_off3 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v484 : Index := Scalar.indexCast arg9
  let c32 : Index := 32#32
  ![v484.toNat, 32]
def k1_off4 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v489 : Index := Scalar.indexCast arg9
  let c48 : Index := 48#32
  ![v489.toNat, 48]
def k1_off5 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v494 : Index := Scalar.indexCast arg9
  let c64 : Index := 64#32
  ![v494.toNat, 64]
def k1_off6 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v499 : Index := Scalar.indexCast arg9
  let c80 : Index := 80#32
  ![v499.toNat, 80]
def k1_off7 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v504 : Index := Scalar.indexCast arg9
  let c96 : Index := 96#32
  ![v504.toNat, 96]
def k1_off8 (k1_t1 : Fin k1_t1_loop.trips) : Fin 2 → Nat :=
  let c0_i32_0 : BitVec 32 := 0#32
  let c1_i32 : BitVec 32 := 1#32
  let arg9 : BitVec 32 := Scf.iv c0_i32_0 c1_i32 k1_t1
  let v509 : Index := Scalar.indexCast arg9
  let c112 : Index := 112#32
  ![v509.toNat, 112]
def k1_off9 (i : grid1.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let v5 : BitVec 32 := Scalar.addi v2 c0_i32_2
  let c0_i32_7 : BitVec 32 := 0#32
  ![v5.toNat, 0]
def k1_off10 (i : grid1.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let v5 : BitVec 32 := Scalar.addi v2 c0_i32_2
  let c0_i32_15 : BitVec 32 := 0#32
  ![v5.toNat, 0]
@[reducible] def k1_t2_loop : Scf.Loop 32 :=
  let c0_i32_53 : BitVec 32 := 0#32
  let c128_i32_54 : BitVec 32 := 128#32
  let v56 : BitVec 32 := Scalar.addi c0_i32_53 c128_i32_54
  let c1_i32_55 : BitVec 32 := 1#32
  ⟨c0_i32_53, v56, c1_i32_55⟩
def k1_off11 (k1_t2 : Fin k1_t2_loop.trips) : Fin 3 → Nat :=
  let c0_i32_497 : BitVec 32 := 0#32
  let v475 : Index := Scalar.indexCast c0_i32_497
  let c0_i32_53 : BitVec 32 := 0#32
  let c1_i32_55 : BitVec 32 := 1#32
  let arg9 : BitVec 32 := Scf.iv c0_i32_53 c1_i32_55 k1_t2
  let v476 : Index := Scalar.indexCast arg9
  let c0 : Index := 0#32
  ![0, v476.toNat, 0]
def k1_off12 (k1_t2 : Fin k1_t2_loop.trips) : Fin 3 → Nat :=
  let c0_i32_498 : BitVec 32 := 0#32
  let v479 : Index := Scalar.indexCast c0_i32_498
  let c0_i32_53 : BitVec 32 := 0#32
  let c1_i32_55 : BitVec 32 := 1#32
  let arg9 : BitVec 32 := Scf.iv c0_i32_53 c1_i32_55 k1_t2
  let v480 : Index := Scalar.indexCast arg9
  let c16 : Index := 16#32
  ![0, v480.toNat, 16]
def k1_off13 (k1_t2 : Fin k1_t2_loop.trips) : Fin 3 → Nat :=
  let c0_i32_499 : BitVec 32 := 0#32
  let v483 : Index := Scalar.indexCast c0_i32_499
  let c0_i32_53 : BitVec 32 := 0#32
  let c1_i32_55 : BitVec 32 := 1#32
  let arg9 : BitVec 32 := Scf.iv c0_i32_53 c1_i32_55 k1_t2
  let v484 : Index := Scalar.indexCast arg9
  let c32 : Index := 32#32
  ![0, v484.toNat, 32]
def k1_off14 (k1_t2 : Fin k1_t2_loop.trips) : Fin 3 → Nat :=
  let c0_i32_500 : BitVec 32 := 0#32
  let v487 : Index := Scalar.indexCast c0_i32_500
  let c0_i32_53 : BitVec 32 := 0#32
  let c1_i32_55 : BitVec 32 := 1#32
  let arg9 : BitVec 32 := Scf.iv c0_i32_53 c1_i32_55 k1_t2
  let v488 : Index := Scalar.indexCast arg9
  let c48 : Index := 48#32
  ![0, v488.toNat, 48]
def k1_off15 (k1_t2 : Fin k1_t2_loop.trips) : Fin 3 → Nat :=
  let c0_i32_501 : BitVec 32 := 0#32
  let v491 : Index := Scalar.indexCast c0_i32_501
  let c0_i32_53 : BitVec 32 := 0#32
  let c1_i32_55 : BitVec 32 := 1#32
  let arg9 : BitVec 32 := Scf.iv c0_i32_53 c1_i32_55 k1_t2
  let v492 : Index := Scalar.indexCast arg9
  let c64 : Index := 64#32
  ![0, v492.toNat, 64]
def k1_off16 (k1_t2 : Fin k1_t2_loop.trips) : Fin 3 → Nat :=
  let c0_i32_502 : BitVec 32 := 0#32
  let v495 : Index := Scalar.indexCast c0_i32_502
  let c0_i32_53 : BitVec 32 := 0#32
  let c1_i32_55 : BitVec 32 := 1#32
  let arg9 : BitVec 32 := Scf.iv c0_i32_53 c1_i32_55 k1_t2
  let v496 : Index := Scalar.indexCast arg9
  let c80 : Index := 80#32
  ![0, v496.toNat, 80]
def k1_off17 (k1_t2 : Fin k1_t2_loop.trips) : Fin 3 → Nat :=
  let c0_i32_503 : BitVec 32 := 0#32
  let v499 : Index := Scalar.indexCast c0_i32_503
  let c0_i32_53 : BitVec 32 := 0#32
  let c1_i32_55 : BitVec 32 := 1#32
  let arg9 : BitVec 32 := Scf.iv c0_i32_53 c1_i32_55 k1_t2
  let v500 : Index := Scalar.indexCast arg9
  let c96 : Index := 96#32
  ![0, v500.toNat, 96]
def k1_off18 (k1_t2 : Fin k1_t2_loop.trips) : Fin 3 → Nat :=
  let c0_i32_504 : BitVec 32 := 0#32
  let v503 : Index := Scalar.indexCast c0_i32_504
  let c0_i32_53 : BitVec 32 := 0#32
  let c1_i32_55 : BitVec 32 := 1#32
  let arg9 : BitVec 32 := Scf.iv c0_i32_53 c1_i32_55 k1_t2
  let v504 : Index := Scalar.indexCast arg9
  let c112 : Index := 112#32
  ![0, v504.toNat, 112]
def k1_off19 (k1_t2 : Fin k1_t2_loop.trips) : Fin 3 → Nat :=
  let c0_i32_505 : BitVec 32 := 0#32
  let v507 : Index := Scalar.indexCast c0_i32_505
  let c0_i32_53 : BitVec 32 := 0#32
  let c1_i32_55 : BitVec 32 := 1#32
  let arg9 : BitVec 32 := Scf.iv c0_i32_53 c1_i32_55 k1_t2
  let v508 : Index := Scalar.indexCast arg9
  let c0_506 : Index := 0#32
  ![0, v508.toNat, 0]
@[reducible] def k1_t3_loop (i : grid1.Coords) (k1_t2 : Fin k1_t2_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off20 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off21 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off22 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off23 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off24 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off25 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off26 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off27 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk2 (arg12 : BitVec 32) : Prop :=
  (∀ a, (k1_off20 arg12) a + S1x16.size a ≤ S128x128.size a) ∧
  (∀ a, (k1_off21 arg12) a + S1x16.size a ≤ S128x128.size a) ∧
  (∀ a, (k1_off22 arg12) a + S1x16.size a ≤ S128x128.size a) ∧
  (∀ a, (k1_off23 arg12) a + S1x16.size a ≤ S128x128.size a) ∧
  (∀ a, (k1_off24 arg12) a + S1x16.size a ≤ S128x128.size a) ∧
  (∀ a, (k1_off25 arg12) a + S1x16.size a ≤ S128x128.size a) ∧
  (∀ a, (k1_off26 arg12) a + S1x16.size a ≤ S128x128.size a) ∧
  (∀ a, (k1_off27 arg12) a + S1x16.size a ≤ S128x128.size a)
theorem k1_off20_inb : ∀ (arg12 : BitVec 32) (k1_hw2 : k1_chk2 arg12), ∀ a, (k1_off20 arg12) a + S1x16.size a ≤ S128x128.size a := fun arg12 k1_hw2 => k1_hw2.1
theorem k1_off21_inb : ∀ (arg12 : BitVec 32) (k1_hw2 : k1_chk2 arg12), ∀ a, (k1_off21 arg12) a + S1x16.size a ≤ S128x128.size a := fun arg12 k1_hw2 => k1_hw2.2.1
theorem k1_off22_inb : ∀ (arg12 : BitVec 32) (k1_hw2 : k1_chk2 arg12), ∀ a, (k1_off22 arg12) a + S1x16.size a ≤ S128x128.size a := fun arg12 k1_hw2 => k1_hw2.2.2.1
theorem k1_off23_inb : ∀ (arg12 : BitVec 32) (k1_hw2 : k1_chk2 arg12), ∀ a, (k1_off23 arg12) a + S1x16.size a ≤ S128x128.size a := fun arg12 k1_hw2 => k1_hw2.2.2.2.1
theorem k1_off24_inb : ∀ (arg12 : BitVec 32) (k1_hw2 : k1_chk2 arg12), ∀ a, (k1_off24 arg12) a + S1x16.size a ≤ S128x128.size a := fun arg12 k1_hw2 => k1_hw2.2.2.2.2.1
theorem k1_off25_inb : ∀ (arg12 : BitVec 32) (k1_hw2 : k1_chk2 arg12), ∀ a, (k1_off25 arg12) a + S1x16.size a ≤ S128x128.size a := fun arg12 k1_hw2 => k1_hw2.2.2.2.2.2.1
theorem k1_off26_inb : ∀ (arg12 : BitVec 32) (k1_hw2 : k1_chk2 arg12), ∀ a, (k1_off26 arg12) a + S1x16.size a ≤ S128x128.size a := fun arg12 k1_hw2 => k1_hw2.2.2.2.2.2.2.1
theorem k1_off27_inb : ∀ (arg12 : BitVec 32) (k1_hw2 : k1_chk2 arg12), ∀ a, (k1_off27 arg12) a + S1x16.size a ≤ S128x128.size a := fun arg12 k1_hw2 => k1_hw2.2.2.2.2.2.2.2

@[reducible] def k1_t4_loop (i : grid1.Coords) (k1_t2 : Fin k1_t2_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk1 (i : grid1.Coords) (k1_t2 : Fin k1_t2_loop.trips) (v519 : BitVec 32) : Prop :=
  ((k1_t3_loop i k1_t2 v519).OK) ∧
  ((k1_t4_loop i k1_t2 v519).OK)
theorem k1_t3_ok : ∀ (i : grid1.Coords) (k1_t2 : Fin k1_t2_loop.trips) (v519 : BitVec 32) (k1_hw1 : k1_chk1 i k1_t2 v519), (k1_t3_loop i k1_t2 v519).OK := fun i k1_t2 v519 k1_hw1 => k1_hw1.1
theorem k1_t4_ok : ∀ (i : grid1.Coords) (k1_t2 : Fin k1_t2_loop.trips) (v519 : BitVec 32) (k1_hw1 : k1_chk1 i k1_t2 v519), (k1_t4_loop i k1_t2 v519).OK := fun i k1_t2 v519 k1_hw1 => k1_hw1.2

def k1_off28 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off29 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off30 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off31 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off32 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off33 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off34 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off35 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk3 (arg12 : BitVec 32) : Prop :=
  (∀ a, (k1_off28 arg12) a + S1x16.size a ≤ S128x128.size a) ∧
  (∀ a, (k1_off29 arg12) a + S1x16.size a ≤ S128x128.size a) ∧
  (∀ a, (k1_off30 arg12) a + S1x16.size a ≤ S128x128.size a) ∧
  (∀ a, (k1_off31 arg12) a + S1x16.size a ≤ S128x128.size a) ∧
  (∀ a, (k1_off32 arg12) a + S1x16.size a ≤ S128x128.size a) ∧
  (∀ a, (k1_off33 arg12) a + S1x16.size a ≤ S128x128.size a) ∧
  (∀ a, (k1_off34 arg12) a + S1x16.size a ≤ S128x128.size a) ∧
  (∀ a, (k1_off35 arg12) a + S1x16.size a ≤ S128x128.size a)
theorem k1_off28_inb : ∀ (arg12 : BitVec 32) (k1_hw3 : k1_chk3 arg12), ∀ a, (k1_off28 arg12) a + S1x16.size a ≤ S128x128.size a := fun arg12 k1_hw3 => k1_hw3.1
theorem k1_off29_inb : ∀ (arg12 : BitVec 32) (k1_hw3 : k1_chk3 arg12), ∀ a, (k1_off29 arg12) a + S1x16.size a ≤ S128x128.size a := fun arg12 k1_hw3 => k1_hw3.2.1
theorem k1_off30_inb : ∀ (arg12 : BitVec 32) (k1_hw3 : k1_chk3 arg12), ∀ a, (k1_off30 arg12) a + S1x16.size a ≤ S128x128.size a := fun arg12 k1_hw3 => k1_hw3.2.2.1
theorem k1_off31_inb : ∀ (arg12 : BitVec 32) (k1_hw3 : k1_chk3 arg12), ∀ a, (k1_off31 arg12) a + S1x16.size a ≤ S128x128.size a := fun arg12 k1_hw3 => k1_hw3.2.2.2.1
theorem k1_off32_inb : ∀ (arg12 : BitVec 32) (k1_hw3 : k1_chk3 arg12), ∀ a, (k1_off32 arg12) a + S1x16.size a ≤ S128x128.size a := fun arg12 k1_hw3 => k1_hw3.2.2.2.2.1
theorem k1_off33_inb : ∀ (arg12 : BitVec 32) (k1_hw3 : k1_chk3 arg12), ∀ a, (k1_off33 arg12) a + S1x16.size a ≤ S128x128.size a := fun arg12 k1_hw3 => k1_hw3.2.2.2.2.2.1
theorem k1_off34_inb : ∀ (arg12 : BitVec 32) (k1_hw3 : k1_chk3 arg12), ∀ a, (k1_off34 arg12) a + S1x16.size a ≤ S128x128.size a := fun arg12 k1_hw3 => k1_hw3.2.2.2.2.2.2.1
theorem k1_off35_inb : ∀ (arg12 : BitVec 32) (k1_hw3 : k1_chk3 arg12), ∀ a, (k1_off35 arg12) a + S1x16.size a ≤ S128x128.size a := fun arg12 k1_hw3 => k1_hw3.2.2.2.2.2.2.2

@[reducible] def k1_t5_loop (i : grid1.Coords) (k1_t2 : Fin k1_t2_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off36 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off37 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off38 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off39 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off40 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off41 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off42 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off43 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk5 (arg12 : BitVec 32) : Prop :=
  (∀ a, (k1_off36 arg12) a + S1x16.size a ≤ S128x128.size a) ∧
  (∀ a, (k1_off37 arg12) a + S1x16.size a ≤ S128x128.size a) ∧
  (∀ a, (k1_off38 arg12) a + S1x16.size a ≤ S128x128.size a) ∧
  (∀ a, (k1_off39 arg12) a + S1x16.size a ≤ S128x128.size a) ∧
  (∀ a, (k1_off40 arg12) a + S1x16.size a ≤ S128x128.size a) ∧
  (∀ a, (k1_off41 arg12) a + S1x16.size a ≤ S128x128.size a) ∧
  (∀ a, (k1_off42 arg12) a + S1x16.size a ≤ S128x128.size a) ∧
  (∀ a, (k1_off43 arg12) a + S1x16.size a ≤ S128x128.size a)
theorem k1_off36_inb : ∀ (arg12 : BitVec 32) (k1_hw5 : k1_chk5 arg12), ∀ a, (k1_off36 arg12) a + S1x16.size a ≤ S128x128.size a := fun arg12 k1_hw5 => k1_hw5.1
theorem k1_off37_inb : ∀ (arg12 : BitVec 32) (k1_hw5 : k1_chk5 arg12), ∀ a, (k1_off37 arg12) a + S1x16.size a ≤ S128x128.size a := fun arg12 k1_hw5 => k1_hw5.2.1
theorem k1_off38_inb : ∀ (arg12 : BitVec 32) (k1_hw5 : k1_chk5 arg12), ∀ a, (k1_off38 arg12) a + S1x16.size a ≤ S128x128.size a := fun arg12 k1_hw5 => k1_hw5.2.2.1
theorem k1_off39_inb : ∀ (arg12 : BitVec 32) (k1_hw5 : k1_chk5 arg12), ∀ a, (k1_off39 arg12) a + S1x16.size a ≤ S128x128.size a := fun arg12 k1_hw5 => k1_hw5.2.2.2.1
theorem k1_off40_inb : ∀ (arg12 : BitVec 32) (k1_hw5 : k1_chk5 arg12), ∀ a, (k1_off40 arg12) a + S1x16.size a ≤ S128x128.size a := fun arg12 k1_hw5 => k1_hw5.2.2.2.2.1
theorem k1_off41_inb : ∀ (arg12 : BitVec 32) (k1_hw5 : k1_chk5 arg12), ∀ a, (k1_off41 arg12) a + S1x16.size a ≤ S128x128.size a := fun arg12 k1_hw5 => k1_hw5.2.2.2.2.2.1
theorem k1_off42_inb : ∀ (arg12 : BitVec 32) (k1_hw5 : k1_chk5 arg12), ∀ a, (k1_off42 arg12) a + S1x16.size a ≤ S128x128.size a := fun arg12 k1_hw5 => k1_hw5.2.2.2.2.2.2.1
theorem k1_off43_inb : ∀ (arg12 : BitVec 32) (k1_hw5 : k1_chk5 arg12), ∀ a, (k1_off43 arg12) a + S1x16.size a ≤ S128x128.size a := fun arg12 k1_hw5 => k1_hw5.2.2.2.2.2.2.2

@[reducible] def k1_t6_loop (i : grid1.Coords) (k1_t2 : Fin k1_t2_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk4 (i : grid1.Coords) (k1_t2 : Fin k1_t2_loop.trips) (v540 : BitVec 32) : Prop :=
  ((k1_t5_loop i k1_t2 v540).OK) ∧
  ((k1_t6_loop i k1_t2 v540).OK)
theorem k1_t5_ok : ∀ (i : grid1.Coords) (k1_t2 : Fin k1_t2_loop.trips) (v540 : BitVec 32) (k1_hw4 : k1_chk4 i k1_t2 v540), (k1_t5_loop i k1_t2 v540).OK := fun i k1_t2 v540 k1_hw4 => k1_hw4.1
theorem k1_t6_ok : ∀ (i : grid1.Coords) (k1_t2 : Fin k1_t2_loop.trips) (v540 : BitVec 32) (k1_hw4 : k1_chk4 i k1_t2 v540), (k1_t6_loop i k1_t2 v540).OK := fun i k1_t2 v540 k1_hw4 => k1_hw4.2

def k1_off44 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off45 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off46 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off47 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off48 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off49 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off50 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off51 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk6 (arg12 : BitVec 32) : Prop :=
  (∀ a, (k1_off44 arg12) a + S1x16.size a ≤ S128x128.size a) ∧
  (∀ a, (k1_off45 arg12) a + S1x16.size a ≤ S128x128.size a) ∧
  (∀ a, (k1_off46 arg12) a + S1x16.size a ≤ S128x128.size a) ∧
  (∀ a, (k1_off47 arg12) a + S1x16.size a ≤ S128x128.size a) ∧
  (∀ a, (k1_off48 arg12) a + S1x16.size a ≤ S128x128.size a) ∧
  (∀ a, (k1_off49 arg12) a + S1x16.size a ≤ S128x128.size a) ∧
  (∀ a, (k1_off50 arg12) a + S1x16.size a ≤ S128x128.size a) ∧
  (∀ a, (k1_off51 arg12) a + S1x16.size a ≤ S128x128.size a)
theorem k1_off44_inb : ∀ (arg12 : BitVec 32) (k1_hw6 : k1_chk6 arg12), ∀ a, (k1_off44 arg12) a + S1x16.size a ≤ S128x128.size a := fun arg12 k1_hw6 => k1_hw6.1
theorem k1_off45_inb : ∀ (arg12 : BitVec 32) (k1_hw6 : k1_chk6 arg12), ∀ a, (k1_off45 arg12) a + S1x16.size a ≤ S128x128.size a := fun arg12 k1_hw6 => k1_hw6.2.1
theorem k1_off46_inb : ∀ (arg12 : BitVec 32) (k1_hw6 : k1_chk6 arg12), ∀ a, (k1_off46 arg12) a + S1x16.size a ≤ S128x128.size a := fun arg12 k1_hw6 => k1_hw6.2.2.1
theorem k1_off47_inb : ∀ (arg12 : BitVec 32) (k1_hw6 : k1_chk6 arg12), ∀ a, (k1_off47 arg12) a + S1x16.size a ≤ S128x128.size a := fun arg12 k1_hw6 => k1_hw6.2.2.2.1
theorem k1_off48_inb : ∀ (arg12 : BitVec 32) (k1_hw6 : k1_chk6 arg12), ∀ a, (k1_off48 arg12) a + S1x16.size a ≤ S128x128.size a := fun arg12 k1_hw6 => k1_hw6.2.2.2.2.1
theorem k1_off49_inb : ∀ (arg12 : BitVec 32) (k1_hw6 : k1_chk6 arg12), ∀ a, (k1_off49 arg12) a + S1x16.size a ≤ S128x128.size a := fun arg12 k1_hw6 => k1_hw6.2.2.2.2.2.1
theorem k1_off50_inb : ∀ (arg12 : BitVec 32) (k1_hw6 : k1_chk6 arg12), ∀ a, (k1_off50 arg12) a + S1x16.size a ≤ S128x128.size a := fun arg12 k1_hw6 => k1_hw6.2.2.2.2.2.2.1
theorem k1_off51_inb : ∀ (arg12 : BitVec 32) (k1_hw6 : k1_chk6 arg12), ∀ a, (k1_off51 arg12) a + S1x16.size a ≤ S128x128.size a := fun arg12 k1_hw6 => k1_hw6.2.2.2.2.2.2.2

@[reducible] def k1_t7_loop (i : grid1.Coords) (k1_t2 : Fin k1_t2_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off52 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off53 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off54 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off55 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off56 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off57 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off58 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off59 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk8 (arg12 : BitVec 32) : Prop :=
  (∀ a, (k1_off52 arg12) a + S1x16.size a ≤ S128x128.size a) ∧
  (∀ a, (k1_off53 arg12) a + S1x16.size a ≤ S128x128.size a) ∧
  (∀ a, (k1_off54 arg12) a + S1x16.size a ≤ S128x128.size a) ∧
  (∀ a, (k1_off55 arg12) a + S1x16.size a ≤ S128x128.size a) ∧
  (∀ a, (k1_off56 arg12) a + S1x16.size a ≤ S128x128.size a) ∧
  (∀ a, (k1_off57 arg12) a + S1x16.size a ≤ S128x128.size a) ∧
  (∀ a, (k1_off58 arg12) a + S1x16.size a ≤ S128x128.size a) ∧
  (∀ a, (k1_off59 arg12) a + S1x16.size a ≤ S128x128.size a)
theorem k1_off52_inb : ∀ (arg12 : BitVec 32) (k1_hw8 : k1_chk8 arg12), ∀ a, (k1_off52 arg12) a + S1x16.size a ≤ S128x128.size a := fun arg12 k1_hw8 => k1_hw8.1
theorem k1_off53_inb : ∀ (arg12 : BitVec 32) (k1_hw8 : k1_chk8 arg12), ∀ a, (k1_off53 arg12) a + S1x16.size a ≤ S128x128.size a := fun arg12 k1_hw8 => k1_hw8.2.1
theorem k1_off54_inb : ∀ (arg12 : BitVec 32) (k1_hw8 : k1_chk8 arg12), ∀ a, (k1_off54 arg12) a + S1x16.size a ≤ S128x128.size a := fun arg12 k1_hw8 => k1_hw8.2.2.1
theorem k1_off55_inb : ∀ (arg12 : BitVec 32) (k1_hw8 : k1_chk8 arg12), ∀ a, (k1_off55 arg12) a + S1x16.size a ≤ S128x128.size a := fun arg12 k1_hw8 => k1_hw8.2.2.2.1
theorem k1_off56_inb : ∀ (arg12 : BitVec 32) (k1_hw8 : k1_chk8 arg12), ∀ a, (k1_off56 arg12) a + S1x16.size a ≤ S128x128.size a := fun arg12 k1_hw8 => k1_hw8.2.2.2.2.1
theorem k1_off57_inb : ∀ (arg12 : BitVec 32) (k1_hw8 : k1_chk8 arg12), ∀ a, (k1_off57 arg12) a + S1x16.size a ≤ S128x128.size a := fun arg12 k1_hw8 => k1_hw8.2.2.2.2.2.1
theorem k1_off58_inb : ∀ (arg12 : BitVec 32) (k1_hw8 : k1_chk8 arg12), ∀ a, (k1_off58 arg12) a + S1x16.size a ≤ S128x128.size a := fun arg12 k1_hw8 => k1_hw8.2.2.2.2.2.2.1
theorem k1_off59_inb : ∀ (arg12 : BitVec 32) (k1_hw8 : k1_chk8 arg12), ∀ a, (k1_off59 arg12) a + S1x16.size a ≤ S128x128.size a := fun arg12 k1_hw8 => k1_hw8.2.2.2.2.2.2.2

@[reducible] def k1_t8_loop (i : grid1.Coords) (k1_t2 : Fin k1_t2_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk7 (i : grid1.Coords) (k1_t2 : Fin k1_t2_loop.trips) (v561 : BitVec 32) : Prop :=
  ((k1_t7_loop i k1_t2 v561).OK) ∧
  ((k1_t8_loop i k1_t2 v561).OK)
theorem k1_t7_ok : ∀ (i : grid1.Coords) (k1_t2 : Fin k1_t2_loop.trips) (v561 : BitVec 32) (k1_hw7 : k1_chk7 i k1_t2 v561), (k1_t7_loop i k1_t2 v561).OK := fun i k1_t2 v561 k1_hw7 => k1_hw7.1
theorem k1_t8_ok : ∀ (i : grid1.Coords) (k1_t2 : Fin k1_t2_loop.trips) (v561 : BitVec 32) (k1_hw7 : k1_chk7 i k1_t2 v561), (k1_t8_loop i k1_t2 v561).OK := fun i k1_t2 v561 k1_hw7 => k1_hw7.2

def k1_off60 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off61 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off62 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off63 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off64 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off65 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off66 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off67 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk9 (arg12 : BitVec 32) : Prop :=
  (∀ a, (k1_off60 arg12) a + S1x16.size a ≤ S128x128.size a) ∧
  (∀ a, (k1_off61 arg12) a + S1x16.size a ≤ S128x128.size a) ∧
  (∀ a, (k1_off62 arg12) a + S1x16.size a ≤ S128x128.size a) ∧
  (∀ a, (k1_off63 arg12) a + S1x16.size a ≤ S128x128.size a) ∧
  (∀ a, (k1_off64 arg12) a + S1x16.size a ≤ S128x128.size a) ∧
  (∀ a, (k1_off65 arg12) a + S1x16.size a ≤ S128x128.size a) ∧
  (∀ a, (k1_off66 arg12) a + S1x16.size a ≤ S128x128.size a) ∧
  (∀ a, (k1_off67 arg12) a + S1x16.size a ≤ S128x128.size a)
theorem k1_off60_inb : ∀ (arg12 : BitVec 32) (k1_hw9 : k1_chk9 arg12), ∀ a, (k1_off60 arg12) a + S1x16.size a ≤ S128x128.size a := fun arg12 k1_hw9 => k1_hw9.1
theorem k1_off61_inb : ∀ (arg12 : BitVec 32) (k1_hw9 : k1_chk9 arg12), ∀ a, (k1_off61 arg12) a + S1x16.size a ≤ S128x128.size a := fun arg12 k1_hw9 => k1_hw9.2.1
theorem k1_off62_inb : ∀ (arg12 : BitVec 32) (k1_hw9 : k1_chk9 arg12), ∀ a, (k1_off62 arg12) a + S1x16.size a ≤ S128x128.size a := fun arg12 k1_hw9 => k1_hw9.2.2.1
theorem k1_off63_inb : ∀ (arg12 : BitVec 32) (k1_hw9 : k1_chk9 arg12), ∀ a, (k1_off63 arg12) a + S1x16.size a ≤ S128x128.size a := fun arg12 k1_hw9 => k1_hw9.2.2.2.1
theorem k1_off64_inb : ∀ (arg12 : BitVec 32) (k1_hw9 : k1_chk9 arg12), ∀ a, (k1_off64 arg12) a + S1x16.size a ≤ S128x128.size a := fun arg12 k1_hw9 => k1_hw9.2.2.2.2.1
theorem k1_off65_inb : ∀ (arg12 : BitVec 32) (k1_hw9 : k1_chk9 arg12), ∀ a, (k1_off65 arg12) a + S1x16.size a ≤ S128x128.size a := fun arg12 k1_hw9 => k1_hw9.2.2.2.2.2.1
theorem k1_off66_inb : ∀ (arg12 : BitVec 32) (k1_hw9 : k1_chk9 arg12), ∀ a, (k1_off66 arg12) a + S1x16.size a ≤ S128x128.size a := fun arg12 k1_hw9 => k1_hw9.2.2.2.2.2.2.1
theorem k1_off67_inb : ∀ (arg12 : BitVec 32) (k1_hw9 : k1_chk9 arg12), ∀ a, (k1_off67 arg12) a + S1x16.size a ≤ S128x128.size a := fun arg12 k1_hw9 => k1_hw9.2.2.2.2.2.2.2

@[reducible] def k1_t9_loop (i : grid1.Coords) (k1_t2 : Fin k1_t2_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off68 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off69 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off70 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off71 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off72 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off73 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off74 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off75 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk11 (arg12 : BitVec 32) : Prop :=
  (∀ a, (k1_off68 arg12) a + S1x16.size a ≤ S128x128.size a) ∧
  (∀ a, (k1_off69 arg12) a + S1x16.size a ≤ S128x128.size a) ∧
  (∀ a, (k1_off70 arg12) a + S1x16.size a ≤ S128x128.size a) ∧
  (∀ a, (k1_off71 arg12) a + S1x16.size a ≤ S128x128.size a) ∧
  (∀ a, (k1_off72 arg12) a + S1x16.size a ≤ S128x128.size a) ∧
  (∀ a, (k1_off73 arg12) a + S1x16.size a ≤ S128x128.size a) ∧
  (∀ a, (k1_off74 arg12) a + S1x16.size a ≤ S128x128.size a) ∧
  (∀ a, (k1_off75 arg12) a + S1x16.size a ≤ S128x128.size a)
theorem k1_off68_inb : ∀ (arg12 : BitVec 32) (k1_hw11 : k1_chk11 arg12), ∀ a, (k1_off68 arg12) a + S1x16.size a ≤ S128x128.size a := fun arg12 k1_hw11 => k1_hw11.1
theorem k1_off69_inb : ∀ (arg12 : BitVec 32) (k1_hw11 : k1_chk11 arg12), ∀ a, (k1_off69 arg12) a + S1x16.size a ≤ S128x128.size a := fun arg12 k1_hw11 => k1_hw11.2.1
theorem k1_off70_inb : ∀ (arg12 : BitVec 32) (k1_hw11 : k1_chk11 arg12), ∀ a, (k1_off70 arg12) a + S1x16.size a ≤ S128x128.size a := fun arg12 k1_hw11 => k1_hw11.2.2.1
theorem k1_off71_inb : ∀ (arg12 : BitVec 32) (k1_hw11 : k1_chk11 arg12), ∀ a, (k1_off71 arg12) a + S1x16.size a ≤ S128x128.size a := fun arg12 k1_hw11 => k1_hw11.2.2.2.1
theorem k1_off72_inb : ∀ (arg12 : BitVec 32) (k1_hw11 : k1_chk11 arg12), ∀ a, (k1_off72 arg12) a + S1x16.size a ≤ S128x128.size a := fun arg12 k1_hw11 => k1_hw11.2.2.2.2.1
theorem k1_off73_inb : ∀ (arg12 : BitVec 32) (k1_hw11 : k1_chk11 arg12), ∀ a, (k1_off73 arg12) a + S1x16.size a ≤ S128x128.size a := fun arg12 k1_hw11 => k1_hw11.2.2.2.2.2.1
theorem k1_off74_inb : ∀ (arg12 : BitVec 32) (k1_hw11 : k1_chk11 arg12), ∀ a, (k1_off74 arg12) a + S1x16.size a ≤ S128x128.size a := fun arg12 k1_hw11 => k1_hw11.2.2.2.2.2.2.1
theorem k1_off75_inb : ∀ (arg12 : BitVec 32) (k1_hw11 : k1_chk11 arg12), ∀ a, (k1_off75 arg12) a + S1x16.size a ≤ S128x128.size a := fun arg12 k1_hw11 => k1_hw11.2.2.2.2.2.2.2

@[reducible] def k1_t10_loop (i : grid1.Coords) (k1_t2 : Fin k1_t2_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c0_i32_51 : BitVec 32 := 0#32
  let v55 : BitVec 32 := Scalar.addi v2 c0_i32_51
  let c0_i32_53 : BitVec 32 := 0#32
  let c1_i32_55 : BitVec 32 := 1#32
  let arg9 : BitVec 32 := Scf.iv c0_i32_53 c1_i32_55 k1_t2
  let v473 : BitVec 32 := Scalar.addi v55 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk10 (i : grid1.Coords) (k1_t2 : Fin k1_t2_loop.trips) (v582 : BitVec 32) : Prop :=
  ((k1_t9_loop i k1_t2 v582).OK) ∧
  ((k1_t10_loop i k1_t2 v582).OK)
theorem k1_t9_ok : ∀ (i : grid1.Coords) (k1_t2 : Fin k1_t2_loop.trips) (v582 : BitVec 32) (k1_hw10 : k1_chk10 i k1_t2 v582), (k1_t9_loop i k1_t2 v582).OK := fun i k1_t2 v582 k1_hw10 => k1_hw10.1
theorem k1_t10_ok : ∀ (i : grid1.Coords) (k1_t2 : Fin k1_t2_loop.trips) (v582 : BitVec 32) (k1_hw10 : k1_chk10 i k1_t2 v582), (k1_t10_loop i k1_t2 v582).OK := fun i k1_t2 v582 k1_hw10 => k1_hw10.2

def k1_off76 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off77 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off78 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off79 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off80 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off81 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off82 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off83 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk12 (arg12 : BitVec 32) : Prop :=
  (∀ a, (k1_off76 arg12) a + S1x16.size a ≤ S128x128.size a) ∧
  (∀ a, (k1_off77 arg12) a + S1x16.size a ≤ S128x128.size a) ∧
  (∀ a, (k1_off78 arg12) a + S1x16.size a ≤ S128x128.size a) ∧
  (∀ a, (k1_off79 arg12) a + S1x16.size a ≤ S128x128.size a) ∧
  (∀ a, (k1_off80 arg12) a + S1x16.size a ≤ S128x128.size a) ∧
  (∀ a, (k1_off81 arg12) a + S1x16.size a ≤ S128x128.size a) ∧
  (∀ a, (k1_off82 arg12) a + S1x16.size a ≤ S128x128.size a) ∧
  (∀ a, (k1_off83 arg12) a + S1x16.size a ≤ S128x128.size a)
theorem k1_off76_inb : ∀ (arg12 : BitVec 32) (k1_hw12 : k1_chk12 arg12), ∀ a, (k1_off76 arg12) a + S1x16.size a ≤ S128x128.size a := fun arg12 k1_hw12 => k1_hw12.1
theorem k1_off77_inb : ∀ (arg12 : BitVec 32) (k1_hw12 : k1_chk12 arg12), ∀ a, (k1_off77 arg12) a + S1x16.size a ≤ S128x128.size a := fun arg12 k1_hw12 => k1_hw12.2.1
theorem k1_off78_inb : ∀ (arg12 : BitVec 32) (k1_hw12 : k1_chk12 arg12), ∀ a, (k1_off78 arg12) a + S1x16.size a ≤ S128x128.size a := fun arg12 k1_hw12 => k1_hw12.2.2.1
theorem k1_off79_inb : ∀ (arg12 : BitVec 32) (k1_hw12 : k1_chk12 arg12), ∀ a, (k1_off79 arg12) a + S1x16.size a ≤ S128x128.size a := fun arg12 k1_hw12 => k1_hw12.2.2.2.1
theorem k1_off80_inb : ∀ (arg12 : BitVec 32) (k1_hw12 : k1_chk12 arg12), ∀ a, (k1_off80 arg12) a + S1x16.size a ≤ S128x128.size a := fun arg12 k1_hw12 => k1_hw12.2.2.2.2.1
theorem k1_off81_inb : ∀ (arg12 : BitVec 32) (k1_hw12 : k1_chk12 arg12), ∀ a, (k1_off81 arg12) a + S1x16.size a ≤ S128x128.size a := fun arg12 k1_hw12 => k1_hw12.2.2.2.2.2.1
theorem k1_off82_inb : ∀ (arg12 : BitVec 32) (k1_hw12 : k1_chk12 arg12), ∀ a, (k1_off82 arg12) a + S1x16.size a ≤ S128x128.size a := fun arg12 k1_hw12 => k1_hw12.2.2.2.2.2.2.1
theorem k1_off83_inb : ∀ (arg12 : BitVec 32) (k1_hw12 : k1_chk12 arg12), ∀ a, (k1_off83 arg12) a + S1x16.size a ≤ S128x128.size a := fun arg12 k1_hw12 => k1_hw12.2.2.2.2.2.2.2

@[reducible] def k1_t11_loop : Scf.Loop 32 :=
  let c0_i32_91 : BitVec 32 := 0#32
  let c128_i32_92 : BitVec 32 := 128#32
  let v92 : BitVec 32 := Scalar.addi c0_i32_91 c128_i32_92
  let c1_i32_93 : BitVec 32 := 1#32
  ⟨c0_i32_91, v92, c1_i32_93⟩
def k1_off84 (k1_t11 : Fin k1_t11_loop.trips) : Fin 3 → Nat :=
  let c1_i32_497 : BitVec 32 := 1#32
  let v475 : Index := Scalar.indexCast c1_i32_497
  let c0_i32_91 : BitVec 32 := 0#32
  let c1_i32_93 : BitVec 32 := 1#32
  let arg9 : BitVec 32 := Scf.iv c0_i32_91 c1_i32_93 k1_t11
  let v476 : Index := Scalar.indexCast arg9
  let c0 : Index := 0#32
  ![1, v476.toNat, 0]
def k1_off85 (k1_t11 : Fin k1_t11_loop.trips) : Fin 3 → Nat :=
  let c1_i32_498 : BitVec 32 := 1#32
  let v479 : Index := Scalar.indexCast c1_i32_498
  let c0_i32_91 : BitVec 32 := 0#32
  let c1_i32_93 : BitVec 32 := 1#32
  let arg9 : BitVec 32 := Scf.iv c0_i32_91 c1_i32_93 k1_t11
  let v480 : Index := Scalar.indexCast arg9
  let c16 : Index := 16#32
  ![1, v480.toNat, 16]
def k1_off86 (k1_t11 : Fin k1_t11_loop.trips) : Fin 3 → Nat :=
  let c1_i32_499 : BitVec 32 := 1#32
  let v483 : Index := Scalar.indexCast c1_i32_499
  let c0_i32_91 : BitVec 32 := 0#32
  let c1_i32_93 : BitVec 32 := 1#32
  let arg9 : BitVec 32 := Scf.iv c0_i32_91 c1_i32_93 k1_t11
  let v484 : Index := Scalar.indexCast arg9
  let c32 : Index := 32#32
  ![1, v484.toNat, 32]
def k1_off87 (k1_t11 : Fin k1_t11_loop.trips) : Fin 3 → Nat :=
  let c1_i32_500 : BitVec 32 := 1#32
  let v487 : Index := Scalar.indexCast c1_i32_500
  let c0_i32_91 : BitVec 32 := 0#32
  let c1_i32_93 : BitVec 32 := 1#32
  let arg9 : BitVec 32 := Scf.iv c0_i32_91 c1_i32_93 k1_t11
  let v488 : Index := Scalar.indexCast arg9
  let c48 : Index := 48#32
  ![1, v488.toNat, 48]
def k1_off88 (k1_t11 : Fin k1_t11_loop.trips) : Fin 3 → Nat :=
  let c1_i32_501 : BitVec 32 := 1#32
  let v491 : Index := Scalar.indexCast c1_i32_501
  let c0_i32_91 : BitVec 32 := 0#32
  let c1_i32_93 : BitVec 32 := 1#32
  let arg9 : BitVec 32 := Scf.iv c0_i32_91 c1_i32_93 k1_t11
  let v492 : Index := Scalar.indexCast arg9
  let c64 : Index := 64#32
  ![1, v492.toNat, 64]
def k1_off89 (k1_t11 : Fin k1_t11_loop.trips) : Fin 3 → Nat :=
  let c1_i32_502 : BitVec 32 := 1#32
  let v495 : Index := Scalar.indexCast c1_i32_502
  let c0_i32_91 : BitVec 32 := 0#32
  let c1_i32_93 : BitVec 32 := 1#32
  let arg9 : BitVec 32 := Scf.iv c0_i32_91 c1_i32_93 k1_t11
  let v496 : Index := Scalar.indexCast arg9
  let c80 : Index := 80#32
  ![1, v496.toNat, 80]
def k1_off90 (k1_t11 : Fin k1_t11_loop.trips) : Fin 3 → Nat :=
  let c1_i32_503 : BitVec 32 := 1#32
  let v499 : Index := Scalar.indexCast c1_i32_503
  let c0_i32_91 : BitVec 32 := 0#32
  let c1_i32_93 : BitVec 32 := 1#32
  let arg9 : BitVec 32 := Scf.iv c0_i32_91 c1_i32_93 k1_t11
  let v500 : Index := Scalar.indexCast arg9
  let c96 : Index := 96#32
  ![1, v500.toNat, 96]
def k1_off91 (k1_t11 : Fin k1_t11_loop.trips) : Fin 3 → Nat :=
  let c1_i32_504 : BitVec 32 := 1#32
  let v503 : Index := Scalar.indexCast c1_i32_504
  let c0_i32_91 : BitVec 32 := 0#32
  let c1_i32_93 : BitVec 32 := 1#32
  let arg9 : BitVec 32 := Scf.iv c0_i32_91 c1_i32_93 k1_t11
  let v504 : Index := Scalar.indexCast arg9
  let c112 : Index := 112#32
  ![1, v504.toNat, 112]
def k1_off92 (k1_t11 : Fin k1_t11_loop.trips) : Fin 3 → Nat :=
  let c1_i32_505 : BitVec 32 := 1#32
  let v507 : Index := Scalar.indexCast c1_i32_505
  let c0_i32_91 : BitVec 32 := 0#32
  let c1_i32_93 : BitVec 32 := 1#32
  let arg9 : BitVec 32 := Scf.iv c0_i32_91 c1_i32_93 k1_t11
  let v508 : Index := Scalar.indexCast arg9
  let c0_506 : Index := 0#32
  ![1, v508.toNat, 0]
@[reducible] def k1_t12_loop (i : grid1.Coords) (k1_t11 : Fin k1_t11_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off93 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off94 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off95 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off96 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off97 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off98 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off99 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off100 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk14 (arg12 : BitVec 32) : Prop :=
  (∀ a, (k1_off93 arg12) a + S1x16.size a ≤ S128x128.size a) ∧
  (∀ a, (k1_off94 arg12) a + S1x16.size a ≤ S128x128.size a) ∧
  (∀ a, (k1_off95 arg12) a + S1x16.size a ≤ S128x128.size a) ∧
  (∀ a, (k1_off96 arg12) a + S1x16.size a ≤ S128x128.size a) ∧
  (∀ a, (k1_off97 arg12) a + S1x16.size a ≤ S128x128.size a) ∧
  (∀ a, (k1_off98 arg12) a + S1x16.size a ≤ S128x128.size a) ∧
  (∀ a, (k1_off99 arg12) a + S1x16.size a ≤ S128x128.size a) ∧
  (∀ a, (k1_off100 arg12) a + S1x16.size a ≤ S128x128.size a)
theorem k1_off93_inb : ∀ (arg12 : BitVec 32) (k1_hw14 : k1_chk14 arg12), ∀ a, (k1_off93 arg12) a + S1x16.size a ≤ S128x128.size a := fun arg12 k1_hw14 => k1_hw14.1
theorem k1_off94_inb : ∀ (arg12 : BitVec 32) (k1_hw14 : k1_chk14 arg12), ∀ a, (k1_off94 arg12) a + S1x16.size a ≤ S128x128.size a := fun arg12 k1_hw14 => k1_hw14.2.1
theorem k1_off95_inb : ∀ (arg12 : BitVec 32) (k1_hw14 : k1_chk14 arg12), ∀ a, (k1_off95 arg12) a + S1x16.size a ≤ S128x128.size a := fun arg12 k1_hw14 => k1_hw14.2.2.1
theorem k1_off96_inb : ∀ (arg12 : BitVec 32) (k1_hw14 : k1_chk14 arg12), ∀ a, (k1_off96 arg12) a + S1x16.size a ≤ S128x128.size a := fun arg12 k1_hw14 => k1_hw14.2.2.2.1
theorem k1_off97_inb : ∀ (arg12 : BitVec 32) (k1_hw14 : k1_chk14 arg12), ∀ a, (k1_off97 arg12) a + S1x16.size a ≤ S128x128.size a := fun arg12 k1_hw14 => k1_hw14.2.2.2.2.1
theorem k1_off98_inb : ∀ (arg12 : BitVec 32) (k1_hw14 : k1_chk14 arg12), ∀ a, (k1_off98 arg12) a + S1x16.size a ≤ S128x128.size a := fun arg12 k1_hw14 => k1_hw14.2.2.2.2.2.1
theorem k1_off99_inb : ∀ (arg12 : BitVec 32) (k1_hw14 : k1_chk14 arg12), ∀ a, (k1_off99 arg12) a + S1x16.size a ≤ S128x128.size a := fun arg12 k1_hw14 => k1_hw14.2.2.2.2.2.2.1
theorem k1_off100_inb : ∀ (arg12 : BitVec 32) (k1_hw14 : k1_chk14 arg12), ∀ a, (k1_off100 arg12) a + S1x16.size a ≤ S128x128.size a := fun arg12 k1_hw14 => k1_hw14.2.2.2.2.2.2.2

@[reducible] def k1_t13_loop (i : grid1.Coords) (k1_t11 : Fin k1_t11_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk13 (i : grid1.Coords) (k1_t11 : Fin k1_t11_loop.trips) (v519 : BitVec 32) : Prop :=
  ((k1_t12_loop i k1_t11 v519).OK) ∧
  ((k1_t13_loop i k1_t11 v519).OK)
theorem k1_t12_ok : ∀ (i : grid1.Coords) (k1_t11 : Fin k1_t11_loop.trips) (v519 : BitVec 32) (k1_hw13 : k1_chk13 i k1_t11 v519), (k1_t12_loop i k1_t11 v519).OK := fun i k1_t11 v519 k1_hw13 => k1_hw13.1
theorem k1_t13_ok : ∀ (i : grid1.Coords) (k1_t11 : Fin k1_t11_loop.trips) (v519 : BitVec 32) (k1_hw13 : k1_chk13 i k1_t11 v519), (k1_t13_loop i k1_t11 v519).OK := fun i k1_t11 v519 k1_hw13 => k1_hw13.2

def k1_off101 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off102 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off103 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off104 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off105 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off106 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off107 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off108 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk15 (arg12 : BitVec 32) : Prop :=
  (∀ a, (k1_off101 arg12) a + S1x16.size a ≤ S128x128.size a) ∧
  (∀ a, (k1_off102 arg12) a + S1x16.size a ≤ S128x128.size a) ∧
  (∀ a, (k1_off103 arg12) a + S1x16.size a ≤ S128x128.size a) ∧
  (∀ a, (k1_off104 arg12) a + S1x16.size a ≤ S128x128.size a) ∧
  (∀ a, (k1_off105 arg12) a + S1x16.size a ≤ S128x128.size a) ∧
  (∀ a, (k1_off106 arg12) a + S1x16.size a ≤ S128x128.size a) ∧
  (∀ a, (k1_off107 arg12) a + S1x16.size a ≤ S128x128.size a) ∧
  (∀ a, (k1_off108 arg12) a + S1x16.size a ≤ S128x128.size a)
theorem k1_off101_inb : ∀ (arg12 : BitVec 32) (k1_hw15 : k1_chk15 arg12), ∀ a, (k1_off101 arg12) a + S1x16.size a ≤ S128x128.size a := fun arg12 k1_hw15 => k1_hw15.1
theorem k1_off102_inb : ∀ (arg12 : BitVec 32) (k1_hw15 : k1_chk15 arg12), ∀ a, (k1_off102 arg12) a + S1x16.size a ≤ S128x128.size a := fun arg12 k1_hw15 => k1_hw15.2.1
theorem k1_off103_inb : ∀ (arg12 : BitVec 32) (k1_hw15 : k1_chk15 arg12), ∀ a, (k1_off103 arg12) a + S1x16.size a ≤ S128x128.size a := fun arg12 k1_hw15 => k1_hw15.2.2.1
theorem k1_off104_inb : ∀ (arg12 : BitVec 32) (k1_hw15 : k1_chk15 arg12), ∀ a, (k1_off104 arg12) a + S1x16.size a ≤ S128x128.size a := fun arg12 k1_hw15 => k1_hw15.2.2.2.1
theorem k1_off105_inb : ∀ (arg12 : BitVec 32) (k1_hw15 : k1_chk15 arg12), ∀ a, (k1_off105 arg12) a + S1x16.size a ≤ S128x128.size a := fun arg12 k1_hw15 => k1_hw15.2.2.2.2.1
theorem k1_off106_inb : ∀ (arg12 : BitVec 32) (k1_hw15 : k1_chk15 arg12), ∀ a, (k1_off106 arg12) a + S1x16.size a ≤ S128x128.size a := fun arg12 k1_hw15 => k1_hw15.2.2.2.2.2.1
theorem k1_off107_inb : ∀ (arg12 : BitVec 32) (k1_hw15 : k1_chk15 arg12), ∀ a, (k1_off107 arg12) a + S1x16.size a ≤ S128x128.size a := fun arg12 k1_hw15 => k1_hw15.2.2.2.2.2.2.1
theorem k1_off108_inb : ∀ (arg12 : BitVec 32) (k1_hw15 : k1_chk15 arg12), ∀ a, (k1_off108 arg12) a + S1x16.size a ≤ S128x128.size a := fun arg12 k1_hw15 => k1_hw15.2.2.2.2.2.2.2

@[reducible] def k1_t14_loop (i : grid1.Coords) (k1_t11 : Fin k1_t11_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off109 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off110 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off111 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off112 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off113 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off114 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off115 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off116 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk17 (arg12 : BitVec 32) : Prop :=
  (∀ a, (k1_off109 arg12) a + S1x16.size a ≤ S128x128.size a) ∧
  (∀ a, (k1_off110 arg12) a + S1x16.size a ≤ S128x128.size a) ∧
  (∀ a, (k1_off111 arg12) a + S1x16.size a ≤ S128x128.size a) ∧
  (∀ a, (k1_off112 arg12) a + S1x16.size a ≤ S128x128.size a) ∧
  (∀ a, (k1_off113 arg12) a + S1x16.size a ≤ S128x128.size a) ∧
  (∀ a, (k1_off114 arg12) a + S1x16.size a ≤ S128x128.size a) ∧
  (∀ a, (k1_off115 arg12) a + S1x16.size a ≤ S128x128.size a) ∧
  (∀ a, (k1_off116 arg12) a + S1x16.size a ≤ S128x128.size a)
theorem k1_off109_inb : ∀ (arg12 : BitVec 32) (k1_hw17 : k1_chk17 arg12), ∀ a, (k1_off109 arg12) a + S1x16.size a ≤ S128x128.size a := fun arg12 k1_hw17 => k1_hw17.1
theorem k1_off110_inb : ∀ (arg12 : BitVec 32) (k1_hw17 : k1_chk17 arg12), ∀ a, (k1_off110 arg12) a + S1x16.size a ≤ S128x128.size a := fun arg12 k1_hw17 => k1_hw17.2.1
theorem k1_off111_inb : ∀ (arg12 : BitVec 32) (k1_hw17 : k1_chk17 arg12), ∀ a, (k1_off111 arg12) a + S1x16.size a ≤ S128x128.size a := fun arg12 k1_hw17 => k1_hw17.2.2.1
theorem k1_off112_inb : ∀ (arg12 : BitVec 32) (k1_hw17 : k1_chk17 arg12), ∀ a, (k1_off112 arg12) a + S1x16.size a ≤ S128x128.size a := fun arg12 k1_hw17 => k1_hw17.2.2.2.1
theorem k1_off113_inb : ∀ (arg12 : BitVec 32) (k1_hw17 : k1_chk17 arg12), ∀ a, (k1_off113 arg12) a + S1x16.size a ≤ S128x128.size a := fun arg12 k1_hw17 => k1_hw17.2.2.2.2.1
theorem k1_off114_inb : ∀ (arg12 : BitVec 32) (k1_hw17 : k1_chk17 arg12), ∀ a, (k1_off114 arg12) a + S1x16.size a ≤ S128x128.size a := fun arg12 k1_hw17 => k1_hw17.2.2.2.2.2.1
theorem k1_off115_inb : ∀ (arg12 : BitVec 32) (k1_hw17 : k1_chk17 arg12), ∀ a, (k1_off115 arg12) a + S1x16.size a ≤ S128x128.size a := fun arg12 k1_hw17 => k1_hw17.2.2.2.2.2.2.1
theorem k1_off116_inb : ∀ (arg12 : BitVec 32) (k1_hw17 : k1_chk17 arg12), ∀ a, (k1_off116 arg12) a + S1x16.size a ≤ S128x128.size a := fun arg12 k1_hw17 => k1_hw17.2.2.2.2.2.2.2

@[reducible] def k1_t15_loop (i : grid1.Coords) (k1_t11 : Fin k1_t11_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk16 (i : grid1.Coords) (k1_t11 : Fin k1_t11_loop.trips) (v540 : BitVec 32) : Prop :=
  ((k1_t14_loop i k1_t11 v540).OK) ∧
  ((k1_t15_loop i k1_t11 v540).OK)
theorem k1_t14_ok : ∀ (i : grid1.Coords) (k1_t11 : Fin k1_t11_loop.trips) (v540 : BitVec 32) (k1_hw16 : k1_chk16 i k1_t11 v540), (k1_t14_loop i k1_t11 v540).OK := fun i k1_t11 v540 k1_hw16 => k1_hw16.1
theorem k1_t15_ok : ∀ (i : grid1.Coords) (k1_t11 : Fin k1_t11_loop.trips) (v540 : BitVec 32) (k1_hw16 : k1_chk16 i k1_t11 v540), (k1_t15_loop i k1_t11 v540).OK := fun i k1_t11 v540 k1_hw16 => k1_hw16.2

def k1_off117 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off118 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off119 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off120 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off121 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off122 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off123 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off124 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk18 (arg12 : BitVec 32) : Prop :=
  (∀ a, (k1_off117 arg12) a + S1x16.size a ≤ S128x128.size a) ∧
  (∀ a, (k1_off118 arg12) a + S1x16.size a ≤ S128x128.size a) ∧
  (∀ a, (k1_off119 arg12) a + S1x16.size a ≤ S128x128.size a) ∧
  (∀ a, (k1_off120 arg12) a + S1x16.size a ≤ S128x128.size a) ∧
  (∀ a, (k1_off121 arg12) a + S1x16.size a ≤ S128x128.size a) ∧
  (∀ a, (k1_off122 arg12) a + S1x16.size a ≤ S128x128.size a) ∧
  (∀ a, (k1_off123 arg12) a + S1x16.size a ≤ S128x128.size a) ∧
  (∀ a, (k1_off124 arg12) a + S1x16.size a ≤ S128x128.size a)
theorem k1_off117_inb : ∀ (arg12 : BitVec 32) (k1_hw18 : k1_chk18 arg12), ∀ a, (k1_off117 arg12) a + S1x16.size a ≤ S128x128.size a := fun arg12 k1_hw18 => k1_hw18.1
theorem k1_off118_inb : ∀ (arg12 : BitVec 32) (k1_hw18 : k1_chk18 arg12), ∀ a, (k1_off118 arg12) a + S1x16.size a ≤ S128x128.size a := fun arg12 k1_hw18 => k1_hw18.2.1
theorem k1_off119_inb : ∀ (arg12 : BitVec 32) (k1_hw18 : k1_chk18 arg12), ∀ a, (k1_off119 arg12) a + S1x16.size a ≤ S128x128.size a := fun arg12 k1_hw18 => k1_hw18.2.2.1
theorem k1_off120_inb : ∀ (arg12 : BitVec 32) (k1_hw18 : k1_chk18 arg12), ∀ a, (k1_off120 arg12) a + S1x16.size a ≤ S128x128.size a := fun arg12 k1_hw18 => k1_hw18.2.2.2.1
theorem k1_off121_inb : ∀ (arg12 : BitVec 32) (k1_hw18 : k1_chk18 arg12), ∀ a, (k1_off121 arg12) a + S1x16.size a ≤ S128x128.size a := fun arg12 k1_hw18 => k1_hw18.2.2.2.2.1
theorem k1_off122_inb : ∀ (arg12 : BitVec 32) (k1_hw18 : k1_chk18 arg12), ∀ a, (k1_off122 arg12) a + S1x16.size a ≤ S128x128.size a := fun arg12 k1_hw18 => k1_hw18.2.2.2.2.2.1
theorem k1_off123_inb : ∀ (arg12 : BitVec 32) (k1_hw18 : k1_chk18 arg12), ∀ a, (k1_off123 arg12) a + S1x16.size a ≤ S128x128.size a := fun arg12 k1_hw18 => k1_hw18.2.2.2.2.2.2.1
theorem k1_off124_inb : ∀ (arg12 : BitVec 32) (k1_hw18 : k1_chk18 arg12), ∀ a, (k1_off124 arg12) a + S1x16.size a ≤ S128x128.size a := fun arg12 k1_hw18 => k1_hw18.2.2.2.2.2.2.2

@[reducible] def k1_t16_loop (i : grid1.Coords) (k1_t11 : Fin k1_t11_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off125 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off126 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off127 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off128 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off129 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off130 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off131 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off132 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk20 (arg12 : BitVec 32) : Prop :=
  (∀ a, (k1_off125 arg12) a + S1x16.size a ≤ S128x128.size a) ∧
  (∀ a, (k1_off126 arg12) a + S1x16.size a ≤ S128x128.size a) ∧
  (∀ a, (k1_off127 arg12) a + S1x16.size a ≤ S128x128.size a) ∧
  (∀ a, (k1_off128 arg12) a + S1x16.size a ≤ S128x128.size a) ∧
  (∀ a, (k1_off129 arg12) a + S1x16.size a ≤ S128x128.size a) ∧
  (∀ a, (k1_off130 arg12) a + S1x16.size a ≤ S128x128.size a) ∧
  (∀ a, (k1_off131 arg12) a + S1x16.size a ≤ S128x128.size a) ∧
  (∀ a, (k1_off132 arg12) a + S1x16.size a ≤ S128x128.size a)
theorem k1_off125_inb : ∀ (arg12 : BitVec 32) (k1_hw20 : k1_chk20 arg12), ∀ a, (k1_off125 arg12) a + S1x16.size a ≤ S128x128.size a := fun arg12 k1_hw20 => k1_hw20.1
theorem k1_off126_inb : ∀ (arg12 : BitVec 32) (k1_hw20 : k1_chk20 arg12), ∀ a, (k1_off126 arg12) a + S1x16.size a ≤ S128x128.size a := fun arg12 k1_hw20 => k1_hw20.2.1
theorem k1_off127_inb : ∀ (arg12 : BitVec 32) (k1_hw20 : k1_chk20 arg12), ∀ a, (k1_off127 arg12) a + S1x16.size a ≤ S128x128.size a := fun arg12 k1_hw20 => k1_hw20.2.2.1
theorem k1_off128_inb : ∀ (arg12 : BitVec 32) (k1_hw20 : k1_chk20 arg12), ∀ a, (k1_off128 arg12) a + S1x16.size a ≤ S128x128.size a := fun arg12 k1_hw20 => k1_hw20.2.2.2.1
theorem k1_off129_inb : ∀ (arg12 : BitVec 32) (k1_hw20 : k1_chk20 arg12), ∀ a, (k1_off129 arg12) a + S1x16.size a ≤ S128x128.size a := fun arg12 k1_hw20 => k1_hw20.2.2.2.2.1
theorem k1_off130_inb : ∀ (arg12 : BitVec 32) (k1_hw20 : k1_chk20 arg12), ∀ a, (k1_off130 arg12) a + S1x16.size a ≤ S128x128.size a := fun arg12 k1_hw20 => k1_hw20.2.2.2.2.2.1
theorem k1_off131_inb : ∀ (arg12 : BitVec 32) (k1_hw20 : k1_chk20 arg12), ∀ a, (k1_off131 arg12) a + S1x16.size a ≤ S128x128.size a := fun arg12 k1_hw20 => k1_hw20.2.2.2.2.2.2.1
theorem k1_off132_inb : ∀ (arg12 : BitVec 32) (k1_hw20 : k1_chk20 arg12), ∀ a, (k1_off132 arg12) a + S1x16.size a ≤ S128x128.size a := fun arg12 k1_hw20 => k1_hw20.2.2.2.2.2.2.2

@[reducible] def k1_t17_loop (i : grid1.Coords) (k1_t11 : Fin k1_t11_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk19 (i : grid1.Coords) (k1_t11 : Fin k1_t11_loop.trips) (v561 : BitVec 32) : Prop :=
  ((k1_t16_loop i k1_t11 v561).OK) ∧
  ((k1_t17_loop i k1_t11 v561).OK)
theorem k1_t16_ok : ∀ (i : grid1.Coords) (k1_t11 : Fin k1_t11_loop.trips) (v561 : BitVec 32) (k1_hw19 : k1_chk19 i k1_t11 v561), (k1_t16_loop i k1_t11 v561).OK := fun i k1_t11 v561 k1_hw19 => k1_hw19.1
theorem k1_t17_ok : ∀ (i : grid1.Coords) (k1_t11 : Fin k1_t11_loop.trips) (v561 : BitVec 32) (k1_hw19 : k1_chk19 i k1_t11 v561), (k1_t17_loop i k1_t11 v561).OK := fun i k1_t11 v561 k1_hw19 => k1_hw19.2

def k1_off133 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off134 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off135 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off136 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off137 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off138 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off139 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off140 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk21 (arg12 : BitVec 32) : Prop :=
  (∀ a, (k1_off133 arg12) a + S1x16.size a ≤ S128x128.size a) ∧
  (∀ a, (k1_off134 arg12) a + S1x16.size a ≤ S128x128.size a) ∧
  (∀ a, (k1_off135 arg12) a + S1x16.size a ≤ S128x128.size a) ∧
  (∀ a, (k1_off136 arg12) a + S1x16.size a ≤ S128x128.size a) ∧
  (∀ a, (k1_off137 arg12) a + S1x16.size a ≤ S128x128.size a) ∧
  (∀ a, (k1_off138 arg12) a + S1x16.size a ≤ S128x128.size a) ∧
  (∀ a, (k1_off139 arg12) a + S1x16.size a ≤ S128x128.size a) ∧
  (∀ a, (k1_off140 arg12) a + S1x16.size a ≤ S128x128.size a)
theorem k1_off133_inb : ∀ (arg12 : BitVec 32) (k1_hw21 : k1_chk21 arg12), ∀ a, (k1_off133 arg12) a + S1x16.size a ≤ S128x128.size a := fun arg12 k1_hw21 => k1_hw21.1
theorem k1_off134_inb : ∀ (arg12 : BitVec 32) (k1_hw21 : k1_chk21 arg12), ∀ a, (k1_off134 arg12) a + S1x16.size a ≤ S128x128.size a := fun arg12 k1_hw21 => k1_hw21.2.1
theorem k1_off135_inb : ∀ (arg12 : BitVec 32) (k1_hw21 : k1_chk21 arg12), ∀ a, (k1_off135 arg12) a + S1x16.size a ≤ S128x128.size a := fun arg12 k1_hw21 => k1_hw21.2.2.1
theorem k1_off136_inb : ∀ (arg12 : BitVec 32) (k1_hw21 : k1_chk21 arg12), ∀ a, (k1_off136 arg12) a + S1x16.size a ≤ S128x128.size a := fun arg12 k1_hw21 => k1_hw21.2.2.2.1
theorem k1_off137_inb : ∀ (arg12 : BitVec 32) (k1_hw21 : k1_chk21 arg12), ∀ a, (k1_off137 arg12) a + S1x16.size a ≤ S128x128.size a := fun arg12 k1_hw21 => k1_hw21.2.2.2.2.1
theorem k1_off138_inb : ∀ (arg12 : BitVec 32) (k1_hw21 : k1_chk21 arg12), ∀ a, (k1_off138 arg12) a + S1x16.size a ≤ S128x128.size a := fun arg12 k1_hw21 => k1_hw21.2.2.2.2.2.1
theorem k1_off139_inb : ∀ (arg12 : BitVec 32) (k1_hw21 : k1_chk21 arg12), ∀ a, (k1_off139 arg12) a + S1x16.size a ≤ S128x128.size a := fun arg12 k1_hw21 => k1_hw21.2.2.2.2.2.2.1
theorem k1_off140_inb : ∀ (arg12 : BitVec 32) (k1_hw21 : k1_chk21 arg12), ∀ a, (k1_off140 arg12) a + S1x16.size a ≤ S128x128.size a := fun arg12 k1_hw21 => k1_hw21.2.2.2.2.2.2.2

@[reducible] def k1_t18_loop (i : grid1.Coords) (k1_t11 : Fin k1_t11_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off141 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off142 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off143 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off144 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off145 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off146 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off147 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off148 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk23 (arg12 : BitVec 32) : Prop :=
  (∀ a, (k1_off141 arg12) a + S1x16.size a ≤ S128x128.size a) ∧
  (∀ a, (k1_off142 arg12) a + S1x16.size a ≤ S128x128.size a) ∧
  (∀ a, (k1_off143 arg12) a + S1x16.size a ≤ S128x128.size a) ∧
  (∀ a, (k1_off144 arg12) a + S1x16.size a ≤ S128x128.size a) ∧
  (∀ a, (k1_off145 arg12) a + S1x16.size a ≤ S128x128.size a) ∧
  (∀ a, (k1_off146 arg12) a + S1x16.size a ≤ S128x128.size a) ∧
  (∀ a, (k1_off147 arg12) a + S1x16.size a ≤ S128x128.size a) ∧
  (∀ a, (k1_off148 arg12) a + S1x16.size a ≤ S128x128.size a)
theorem k1_off141_inb : ∀ (arg12 : BitVec 32) (k1_hw23 : k1_chk23 arg12), ∀ a, (k1_off141 arg12) a + S1x16.size a ≤ S128x128.size a := fun arg12 k1_hw23 => k1_hw23.1
theorem k1_off142_inb : ∀ (arg12 : BitVec 32) (k1_hw23 : k1_chk23 arg12), ∀ a, (k1_off142 arg12) a + S1x16.size a ≤ S128x128.size a := fun arg12 k1_hw23 => k1_hw23.2.1
theorem k1_off143_inb : ∀ (arg12 : BitVec 32) (k1_hw23 : k1_chk23 arg12), ∀ a, (k1_off143 arg12) a + S1x16.size a ≤ S128x128.size a := fun arg12 k1_hw23 => k1_hw23.2.2.1
theorem k1_off144_inb : ∀ (arg12 : BitVec 32) (k1_hw23 : k1_chk23 arg12), ∀ a, (k1_off144 arg12) a + S1x16.size a ≤ S128x128.size a := fun arg12 k1_hw23 => k1_hw23.2.2.2.1
theorem k1_off145_inb : ∀ (arg12 : BitVec 32) (k1_hw23 : k1_chk23 arg12), ∀ a, (k1_off145 arg12) a + S1x16.size a ≤ S128x128.size a := fun arg12 k1_hw23 => k1_hw23.2.2.2.2.1
theorem k1_off146_inb : ∀ (arg12 : BitVec 32) (k1_hw23 : k1_chk23 arg12), ∀ a, (k1_off146 arg12) a + S1x16.size a ≤ S128x128.size a := fun arg12 k1_hw23 => k1_hw23.2.2.2.2.2.1
theorem k1_off147_inb : ∀ (arg12 : BitVec 32) (k1_hw23 : k1_chk23 arg12), ∀ a, (k1_off147 arg12) a + S1x16.size a ≤ S128x128.size a := fun arg12 k1_hw23 => k1_hw23.2.2.2.2.2.2.1
theorem k1_off148_inb : ∀ (arg12 : BitVec 32) (k1_hw23 : k1_chk23 arg12), ∀ a, (k1_off148 arg12) a + S1x16.size a ≤ S128x128.size a := fun arg12 k1_hw23 => k1_hw23.2.2.2.2.2.2.2

@[reducible] def k1_t19_loop (i : grid1.Coords) (k1_t11 : Fin k1_t11_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c128_i32_89 : BitVec 32 := 128#32
  let v91 : BitVec 32 := Scalar.addi v2 c128_i32_89
  let c0_i32_91 : BitVec 32 := 0#32
  let c1_i32_93 : BitVec 32 := 1#32
  let arg9 : BitVec 32 := Scf.iv c0_i32_91 c1_i32_93 k1_t11
  let v473 : BitVec 32 := Scalar.addi v91 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk22 (i : grid1.Coords) (k1_t11 : Fin k1_t11_loop.trips) (v582 : BitVec 32) : Prop :=
  ((k1_t18_loop i k1_t11 v582).OK) ∧
  ((k1_t19_loop i k1_t11 v582).OK)
theorem k1_t18_ok : ∀ (i : grid1.Coords) (k1_t11 : Fin k1_t11_loop.trips) (v582 : BitVec 32) (k1_hw22 : k1_chk22 i k1_t11 v582), (k1_t18_loop i k1_t11 v582).OK := fun i k1_t11 v582 k1_hw22 => k1_hw22.1
theorem k1_t19_ok : ∀ (i : grid1.Coords) (k1_t11 : Fin k1_t11_loop.trips) (v582 : BitVec 32) (k1_hw22 : k1_chk22 i k1_t11 v582), (k1_t19_loop i k1_t11 v582).OK := fun i k1_t11 v582 k1_hw22 => k1_hw22.2

def k1_off149 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off150 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off151 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off152 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off153 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off154 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off155 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off156 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk24 (arg12 : BitVec 32) : Prop :=
  (∀ a, (k1_off149 arg12) a + S1x16.size a ≤ S128x128.size a) ∧
  (∀ a, (k1_off150 arg12) a + S1x16.size a ≤ S128x128.size a) ∧
  (∀ a, (k1_off151 arg12) a + S1x16.size a ≤ S128x128.size a) ∧
  (∀ a, (k1_off152 arg12) a + S1x16.size a ≤ S128x128.size a) ∧
  (∀ a, (k1_off153 arg12) a + S1x16.size a ≤ S128x128.size a) ∧
  (∀ a, (k1_off154 arg12) a + S1x16.size a ≤ S128x128.size a) ∧
  (∀ a, (k1_off155 arg12) a + S1x16.size a ≤ S128x128.size a) ∧
  (∀ a, (k1_off156 arg12) a + S1x16.size a ≤ S128x128.size a)
theorem k1_off149_inb : ∀ (arg12 : BitVec 32) (k1_hw24 : k1_chk24 arg12), ∀ a, (k1_off149 arg12) a + S1x16.size a ≤ S128x128.size a := fun arg12 k1_hw24 => k1_hw24.1
theorem k1_off150_inb : ∀ (arg12 : BitVec 32) (k1_hw24 : k1_chk24 arg12), ∀ a, (k1_off150 arg12) a + S1x16.size a ≤ S128x128.size a := fun arg12 k1_hw24 => k1_hw24.2.1
theorem k1_off151_inb : ∀ (arg12 : BitVec 32) (k1_hw24 : k1_chk24 arg12), ∀ a, (k1_off151 arg12) a + S1x16.size a ≤ S128x128.size a := fun arg12 k1_hw24 => k1_hw24.2.2.1
theorem k1_off152_inb : ∀ (arg12 : BitVec 32) (k1_hw24 : k1_chk24 arg12), ∀ a, (k1_off152 arg12) a + S1x16.size a ≤ S128x128.size a := fun arg12 k1_hw24 => k1_hw24.2.2.2.1
theorem k1_off153_inb : ∀ (arg12 : BitVec 32) (k1_hw24 : k1_chk24 arg12), ∀ a, (k1_off153 arg12) a + S1x16.size a ≤ S128x128.size a := fun arg12 k1_hw24 => k1_hw24.2.2.2.2.1
theorem k1_off154_inb : ∀ (arg12 : BitVec 32) (k1_hw24 : k1_chk24 arg12), ∀ a, (k1_off154 arg12) a + S1x16.size a ≤ S128x128.size a := fun arg12 k1_hw24 => k1_hw24.2.2.2.2.2.1
theorem k1_off155_inb : ∀ (arg12 : BitVec 32) (k1_hw24 : k1_chk24 arg12), ∀ a, (k1_off155 arg12) a + S1x16.size a ≤ S128x128.size a := fun arg12 k1_hw24 => k1_hw24.2.2.2.2.2.2.1
theorem k1_off156_inb : ∀ (arg12 : BitVec 32) (k1_hw24 : k1_chk24 arg12), ∀ a, (k1_off156 arg12) a + S1x16.size a ≤ S128x128.size a := fun arg12 k1_hw24 => k1_hw24.2.2.2.2.2.2.2

@[reducible] def k1_t20_loop : Scf.Loop 32 :=
  let c0_i32_129 : BitVec 32 := 0#32
  let c128_i32_130 : BitVec 32 := 128#32
  let v128 : BitVec 32 := Scalar.addi c0_i32_129 c128_i32_130
  let c1_i32_131 : BitVec 32 := 1#32
  ⟨c0_i32_129, v128, c1_i32_131⟩
def k1_off157 (k1_t20 : Fin k1_t20_loop.trips) : Fin 3 → Nat :=
  let c0_i32_497 : BitVec 32 := 0#32
  let v475 : Index := Scalar.indexCast c0_i32_497
  let c0_i32_129 : BitVec 32 := 0#32
  let c1_i32_131 : BitVec 32 := 1#32
  let arg9 : BitVec 32 := Scf.iv c0_i32_129 c1_i32_131 k1_t20
  let v476 : Index := Scalar.indexCast arg9
  let c0 : Index := 0#32
  ![0, v476.toNat, 0]
def k1_off158 (k1_t20 : Fin k1_t20_loop.trips) : Fin 3 → Nat :=
  let c0_i32_498 : BitVec 32 := 0#32
  let v479 : Index := Scalar.indexCast c0_i32_498
  let c0_i32_129 : BitVec 32 := 0#32
  let c1_i32_131 : BitVec 32 := 1#32
  let arg9 : BitVec 32 := Scf.iv c0_i32_129 c1_i32_131 k1_t20
  let v480 : Index := Scalar.indexCast arg9
  let c16 : Index := 16#32
  ![0, v480.toNat, 16]
def k1_off159 (k1_t20 : Fin k1_t20_loop.trips) : Fin 3 → Nat :=
  let c0_i32_499 : BitVec 32 := 0#32
  let v483 : Index := Scalar.indexCast c0_i32_499
  let c0_i32_129 : BitVec 32 := 0#32
  let c1_i32_131 : BitVec 32 := 1#32
  let arg9 : BitVec 32 := Scf.iv c0_i32_129 c1_i32_131 k1_t20
  let v484 : Index := Scalar.indexCast arg9
  let c32 : Index := 32#32
  ![0, v484.toNat, 32]
def k1_off160 (k1_t20 : Fin k1_t20_loop.trips) : Fin 3 → Nat :=
  let c0_i32_500 : BitVec 32 := 0#32
  let v487 : Index := Scalar.indexCast c0_i32_500
  let c0_i32_129 : BitVec 32 := 0#32
  let c1_i32_131 : BitVec 32 := 1#32
  let arg9 : BitVec 32 := Scf.iv c0_i32_129 c1_i32_131 k1_t20
  let v488 : Index := Scalar.indexCast arg9
  let c48 : Index := 48#32
  ![0, v488.toNat, 48]
def k1_off161 (k1_t20 : Fin k1_t20_loop.trips) : Fin 3 → Nat :=
  let c0_i32_501 : BitVec 32 := 0#32
  let v491 : Index := Scalar.indexCast c0_i32_501
  let c0_i32_129 : BitVec 32 := 0#32
  let c1_i32_131 : BitVec 32 := 1#32
  let arg9 : BitVec 32 := Scf.iv c0_i32_129 c1_i32_131 k1_t20
  let v492 : Index := Scalar.indexCast arg9
  let c64 : Index := 64#32
  ![0, v492.toNat, 64]
def k1_off162 (k1_t20 : Fin k1_t20_loop.trips) : Fin 3 → Nat :=
  let c0_i32_502 : BitVec 32 := 0#32
  let v495 : Index := Scalar.indexCast c0_i32_502
  let c0_i32_129 : BitVec 32 := 0#32
  let c1_i32_131 : BitVec 32 := 1#32
  let arg9 : BitVec 32 := Scf.iv c0_i32_129 c1_i32_131 k1_t20
  let v496 : Index := Scalar.indexCast arg9
  let c80 : Index := 80#32
  ![0, v496.toNat, 80]
def k1_off163 (k1_t20 : Fin k1_t20_loop.trips) : Fin 3 → Nat :=
  let c0_i32_503 : BitVec 32 := 0#32
  let v499 : Index := Scalar.indexCast c0_i32_503
  let c0_i32_129 : BitVec 32 := 0#32
  let c1_i32_131 : BitVec 32 := 1#32
  let arg9 : BitVec 32 := Scf.iv c0_i32_129 c1_i32_131 k1_t20
  let v500 : Index := Scalar.indexCast arg9
  let c96 : Index := 96#32
  ![0, v500.toNat, 96]
def k1_off164 (k1_t20 : Fin k1_t20_loop.trips) : Fin 3 → Nat :=
  let c0_i32_504 : BitVec 32 := 0#32
  let v503 : Index := Scalar.indexCast c0_i32_504
  let c0_i32_129 : BitVec 32 := 0#32
  let c1_i32_131 : BitVec 32 := 1#32
  let arg9 : BitVec 32 := Scf.iv c0_i32_129 c1_i32_131 k1_t20
  let v504 : Index := Scalar.indexCast arg9
  let c112 : Index := 112#32
  ![0, v504.toNat, 112]
def k1_off165 (k1_t20 : Fin k1_t20_loop.trips) : Fin 3 → Nat :=
  let c0_i32_505 : BitVec 32 := 0#32
  let v507 : Index := Scalar.indexCast c0_i32_505
  let c0_i32_129 : BitVec 32 := 0#32
  let c1_i32_131 : BitVec 32 := 1#32
  let arg9 : BitVec 32 := Scf.iv c0_i32_129 c1_i32_131 k1_t20
  let v508 : Index := Scalar.indexCast arg9
  let c0_506 : Index := 0#32
  ![0, v508.toNat, 0]
@[reducible] def k1_t21_loop (i : grid1.Coords) (k1_t20 : Fin k1_t20_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off166 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off167 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off168 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off169 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off170 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off171 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off172 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off173 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk26 (arg12 : BitVec 32) : Prop :=
  (∀ a, (k1_off166 arg12) a + S1x16.size a ≤ S128x128.size a) ∧
  (∀ a, (k1_off167 arg12) a + S1x16.size a ≤ S128x128.size a) ∧
  (∀ a, (k1_off168 arg12) a + S1x16.size a ≤ S128x128.size a) ∧
  (∀ a, (k1_off169 arg12) a + S1x16.size a ≤ S128x128.size a) ∧
  (∀ a, (k1_off170 arg12) a + S1x16.size a ≤ S128x128.size a) ∧
  (∀ a, (k1_off171 arg12) a + S1x16.size a ≤ S128x128.size a) ∧
  (∀ a, (k1_off172 arg12) a + S1x16.size a ≤ S128x128.size a) ∧
  (∀ a, (k1_off173 arg12) a + S1x16.size a ≤ S128x128.size a)
theorem k1_off166_inb : ∀ (arg12 : BitVec 32) (k1_hw26 : k1_chk26 arg12), ∀ a, (k1_off166 arg12) a + S1x16.size a ≤ S128x128.size a := fun arg12 k1_hw26 => k1_hw26.1
theorem k1_off167_inb : ∀ (arg12 : BitVec 32) (k1_hw26 : k1_chk26 arg12), ∀ a, (k1_off167 arg12) a + S1x16.size a ≤ S128x128.size a := fun arg12 k1_hw26 => k1_hw26.2.1
theorem k1_off168_inb : ∀ (arg12 : BitVec 32) (k1_hw26 : k1_chk26 arg12), ∀ a, (k1_off168 arg12) a + S1x16.size a ≤ S128x128.size a := fun arg12 k1_hw26 => k1_hw26.2.2.1
theorem k1_off169_inb : ∀ (arg12 : BitVec 32) (k1_hw26 : k1_chk26 arg12), ∀ a, (k1_off169 arg12) a + S1x16.size a ≤ S128x128.size a := fun arg12 k1_hw26 => k1_hw26.2.2.2.1
theorem k1_off170_inb : ∀ (arg12 : BitVec 32) (k1_hw26 : k1_chk26 arg12), ∀ a, (k1_off170 arg12) a + S1x16.size a ≤ S128x128.size a := fun arg12 k1_hw26 => k1_hw26.2.2.2.2.1
theorem k1_off171_inb : ∀ (arg12 : BitVec 32) (k1_hw26 : k1_chk26 arg12), ∀ a, (k1_off171 arg12) a + S1x16.size a ≤ S128x128.size a := fun arg12 k1_hw26 => k1_hw26.2.2.2.2.2.1
theorem k1_off172_inb : ∀ (arg12 : BitVec 32) (k1_hw26 : k1_chk26 arg12), ∀ a, (k1_off172 arg12) a + S1x16.size a ≤ S128x128.size a := fun arg12 k1_hw26 => k1_hw26.2.2.2.2.2.2.1
theorem k1_off173_inb : ∀ (arg12 : BitVec 32) (k1_hw26 : k1_chk26 arg12), ∀ a, (k1_off173 arg12) a + S1x16.size a ≤ S128x128.size a := fun arg12 k1_hw26 => k1_hw26.2.2.2.2.2.2.2

@[reducible] def k1_t22_loop (i : grid1.Coords) (k1_t20 : Fin k1_t20_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk25 (i : grid1.Coords) (k1_t20 : Fin k1_t20_loop.trips) (v519 : BitVec 32) : Prop :=
  ((k1_t21_loop i k1_t20 v519).OK) ∧
  ((k1_t22_loop i k1_t20 v519).OK)
theorem k1_t21_ok : ∀ (i : grid1.Coords) (k1_t20 : Fin k1_t20_loop.trips) (v519 : BitVec 32) (k1_hw25 : k1_chk25 i k1_t20 v519), (k1_t21_loop i k1_t20 v519).OK := fun i k1_t20 v519 k1_hw25 => k1_hw25.1
theorem k1_t22_ok : ∀ (i : grid1.Coords) (k1_t20 : Fin k1_t20_loop.trips) (v519 : BitVec 32) (k1_hw25 : k1_chk25 i k1_t20 v519), (k1_t22_loop i k1_t20 v519).OK := fun i k1_t20 v519 k1_hw25 => k1_hw25.2

def k1_off174 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off175 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off176 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off177 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off178 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off179 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off180 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off181 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk27 (arg12 : BitVec 32) : Prop :=
  (∀ a, (k1_off174 arg12) a + S1x16.size a ≤ S128x128.size a) ∧
  (∀ a, (k1_off175 arg12) a + S1x16.size a ≤ S128x128.size a) ∧
  (∀ a, (k1_off176 arg12) a + S1x16.size a ≤ S128x128.size a) ∧
  (∀ a, (k1_off177 arg12) a + S1x16.size a ≤ S128x128.size a) ∧
  (∀ a, (k1_off178 arg12) a + S1x16.size a ≤ S128x128.size a) ∧
  (∀ a, (k1_off179 arg12) a + S1x16.size a ≤ S128x128.size a) ∧
  (∀ a, (k1_off180 arg12) a + S1x16.size a ≤ S128x128.size a) ∧
  (∀ a, (k1_off181 arg12) a + S1x16.size a ≤ S128x128.size a)
theorem k1_off174_inb : ∀ (arg12 : BitVec 32) (k1_hw27 : k1_chk27 arg12), ∀ a, (k1_off174 arg12) a + S1x16.size a ≤ S128x128.size a := fun arg12 k1_hw27 => k1_hw27.1
theorem k1_off175_inb : ∀ (arg12 : BitVec 32) (k1_hw27 : k1_chk27 arg12), ∀ a, (k1_off175 arg12) a + S1x16.size a ≤ S128x128.size a := fun arg12 k1_hw27 => k1_hw27.2.1
theorem k1_off176_inb : ∀ (arg12 : BitVec 32) (k1_hw27 : k1_chk27 arg12), ∀ a, (k1_off176 arg12) a + S1x16.size a ≤ S128x128.size a := fun arg12 k1_hw27 => k1_hw27.2.2.1
theorem k1_off177_inb : ∀ (arg12 : BitVec 32) (k1_hw27 : k1_chk27 arg12), ∀ a, (k1_off177 arg12) a + S1x16.size a ≤ S128x128.size a := fun arg12 k1_hw27 => k1_hw27.2.2.2.1
theorem k1_off178_inb : ∀ (arg12 : BitVec 32) (k1_hw27 : k1_chk27 arg12), ∀ a, (k1_off178 arg12) a + S1x16.size a ≤ S128x128.size a := fun arg12 k1_hw27 => k1_hw27.2.2.2.2.1
theorem k1_off179_inb : ∀ (arg12 : BitVec 32) (k1_hw27 : k1_chk27 arg12), ∀ a, (k1_off179 arg12) a + S1x16.size a ≤ S128x128.size a := fun arg12 k1_hw27 => k1_hw27.2.2.2.2.2.1
theorem k1_off180_inb : ∀ (arg12 : BitVec 32) (k1_hw27 : k1_chk27 arg12), ∀ a, (k1_off180 arg12) a + S1x16.size a ≤ S128x128.size a := fun arg12 k1_hw27 => k1_hw27.2.2.2.2.2.2.1
theorem k1_off181_inb : ∀ (arg12 : BitVec 32) (k1_hw27 : k1_chk27 arg12), ∀ a, (k1_off181 arg12) a + S1x16.size a ≤ S128x128.size a := fun arg12 k1_hw27 => k1_hw27.2.2.2.2.2.2.2

@[reducible] def k1_t23_loop (i : grid1.Coords) (k1_t20 : Fin k1_t20_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off182 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off183 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off184 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off185 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off186 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off187 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off188 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off189 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk29 (arg12 : BitVec 32) : Prop :=
  (∀ a, (k1_off182 arg12) a + S1x16.size a ≤ S128x128.size a) ∧
  (∀ a, (k1_off183 arg12) a + S1x16.size a ≤ S128x128.size a) ∧
  (∀ a, (k1_off184 arg12) a + S1x16.size a ≤ S128x128.size a) ∧
  (∀ a, (k1_off185 arg12) a + S1x16.size a ≤ S128x128.size a) ∧
  (∀ a, (k1_off186 arg12) a + S1x16.size a ≤ S128x128.size a) ∧
  (∀ a, (k1_off187 arg12) a + S1x16.size a ≤ S128x128.size a) ∧
  (∀ a, (k1_off188 arg12) a + S1x16.size a ≤ S128x128.size a) ∧
  (∀ a, (k1_off189 arg12) a + S1x16.size a ≤ S128x128.size a)
theorem k1_off182_inb : ∀ (arg12 : BitVec 32) (k1_hw29 : k1_chk29 arg12), ∀ a, (k1_off182 arg12) a + S1x16.size a ≤ S128x128.size a := fun arg12 k1_hw29 => k1_hw29.1
theorem k1_off183_inb : ∀ (arg12 : BitVec 32) (k1_hw29 : k1_chk29 arg12), ∀ a, (k1_off183 arg12) a + S1x16.size a ≤ S128x128.size a := fun arg12 k1_hw29 => k1_hw29.2.1
theorem k1_off184_inb : ∀ (arg12 : BitVec 32) (k1_hw29 : k1_chk29 arg12), ∀ a, (k1_off184 arg12) a + S1x16.size a ≤ S128x128.size a := fun arg12 k1_hw29 => k1_hw29.2.2.1
theorem k1_off185_inb : ∀ (arg12 : BitVec 32) (k1_hw29 : k1_chk29 arg12), ∀ a, (k1_off185 arg12) a + S1x16.size a ≤ S128x128.size a := fun arg12 k1_hw29 => k1_hw29.2.2.2.1
theorem k1_off186_inb : ∀ (arg12 : BitVec 32) (k1_hw29 : k1_chk29 arg12), ∀ a, (k1_off186 arg12) a + S1x16.size a ≤ S128x128.size a := fun arg12 k1_hw29 => k1_hw29.2.2.2.2.1
theorem k1_off187_inb : ∀ (arg12 : BitVec 32) (k1_hw29 : k1_chk29 arg12), ∀ a, (k1_off187 arg12) a + S1x16.size a ≤ S128x128.size a := fun arg12 k1_hw29 => k1_hw29.2.2.2.2.2.1
theorem k1_off188_inb : ∀ (arg12 : BitVec 32) (k1_hw29 : k1_chk29 arg12), ∀ a, (k1_off188 arg12) a + S1x16.size a ≤ S128x128.size a := fun arg12 k1_hw29 => k1_hw29.2.2.2.2.2.2.1
theorem k1_off189_inb : ∀ (arg12 : BitVec 32) (k1_hw29 : k1_chk29 arg12), ∀ a, (k1_off189 arg12) a + S1x16.size a ≤ S128x128.size a := fun arg12 k1_hw29 => k1_hw29.2.2.2.2.2.2.2

@[reducible] def k1_t24_loop (i : grid1.Coords) (k1_t20 : Fin k1_t20_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk28 (i : grid1.Coords) (k1_t20 : Fin k1_t20_loop.trips) (v540 : BitVec 32) : Prop :=
  ((k1_t23_loop i k1_t20 v540).OK) ∧
  ((k1_t24_loop i k1_t20 v540).OK)
theorem k1_t23_ok : ∀ (i : grid1.Coords) (k1_t20 : Fin k1_t20_loop.trips) (v540 : BitVec 32) (k1_hw28 : k1_chk28 i k1_t20 v540), (k1_t23_loop i k1_t20 v540).OK := fun i k1_t20 v540 k1_hw28 => k1_hw28.1
theorem k1_t24_ok : ∀ (i : grid1.Coords) (k1_t20 : Fin k1_t20_loop.trips) (v540 : BitVec 32) (k1_hw28 : k1_chk28 i k1_t20 v540), (k1_t24_loop i k1_t20 v540).OK := fun i k1_t20 v540 k1_hw28 => k1_hw28.2

def k1_off190 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off191 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off192 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off193 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off194 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off195 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off196 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off197 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk30 (arg12 : BitVec 32) : Prop :=
  (∀ a, (k1_off190 arg12) a + S1x16.size a ≤ S128x128.size a) ∧
  (∀ a, (k1_off191 arg12) a + S1x16.size a ≤ S128x128.size a) ∧
  (∀ a, (k1_off192 arg12) a + S1x16.size a ≤ S128x128.size a) ∧
  (∀ a, (k1_off193 arg12) a + S1x16.size a ≤ S128x128.size a) ∧
  (∀ a, (k1_off194 arg12) a + S1x16.size a ≤ S128x128.size a) ∧
  (∀ a, (k1_off195 arg12) a + S1x16.size a ≤ S128x128.size a) ∧
  (∀ a, (k1_off196 arg12) a + S1x16.size a ≤ S128x128.size a) ∧
  (∀ a, (k1_off197 arg12) a + S1x16.size a ≤ S128x128.size a)
theorem k1_off190_inb : ∀ (arg12 : BitVec 32) (k1_hw30 : k1_chk30 arg12), ∀ a, (k1_off190 arg12) a + S1x16.size a ≤ S128x128.size a := fun arg12 k1_hw30 => k1_hw30.1
theorem k1_off191_inb : ∀ (arg12 : BitVec 32) (k1_hw30 : k1_chk30 arg12), ∀ a, (k1_off191 arg12) a + S1x16.size a ≤ S128x128.size a := fun arg12 k1_hw30 => k1_hw30.2.1
theorem k1_off192_inb : ∀ (arg12 : BitVec 32) (k1_hw30 : k1_chk30 arg12), ∀ a, (k1_off192 arg12) a + S1x16.size a ≤ S128x128.size a := fun arg12 k1_hw30 => k1_hw30.2.2.1
theorem k1_off193_inb : ∀ (arg12 : BitVec 32) (k1_hw30 : k1_chk30 arg12), ∀ a, (k1_off193 arg12) a + S1x16.size a ≤ S128x128.size a := fun arg12 k1_hw30 => k1_hw30.2.2.2.1
theorem k1_off194_inb : ∀ (arg12 : BitVec 32) (k1_hw30 : k1_chk30 arg12), ∀ a, (k1_off194 arg12) a + S1x16.size a ≤ S128x128.size a := fun arg12 k1_hw30 => k1_hw30.2.2.2.2.1
theorem k1_off195_inb : ∀ (arg12 : BitVec 32) (k1_hw30 : k1_chk30 arg12), ∀ a, (k1_off195 arg12) a + S1x16.size a ≤ S128x128.size a := fun arg12 k1_hw30 => k1_hw30.2.2.2.2.2.1
theorem k1_off196_inb : ∀ (arg12 : BitVec 32) (k1_hw30 : k1_chk30 arg12), ∀ a, (k1_off196 arg12) a + S1x16.size a ≤ S128x128.size a := fun arg12 k1_hw30 => k1_hw30.2.2.2.2.2.2.1
theorem k1_off197_inb : ∀ (arg12 : BitVec 32) (k1_hw30 : k1_chk30 arg12), ∀ a, (k1_off197 arg12) a + S1x16.size a ≤ S128x128.size a := fun arg12 k1_hw30 => k1_hw30.2.2.2.2.2.2.2

@[reducible] def k1_t25_loop (i : grid1.Coords) (k1_t20 : Fin k1_t20_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off198 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off199 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off200 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off201 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off202 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off203 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off204 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off205 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk32 (arg12 : BitVec 32) : Prop :=
  (∀ a, (k1_off198 arg12) a + S1x16.size a ≤ S128x128.size a) ∧
  (∀ a, (k1_off199 arg12) a + S1x16.size a ≤ S128x128.size a) ∧
  (∀ a, (k1_off200 arg12) a + S1x16.size a ≤ S128x128.size a) ∧
  (∀ a, (k1_off201 arg12) a + S1x16.size a ≤ S128x128.size a) ∧
  (∀ a, (k1_off202 arg12) a + S1x16.size a ≤ S128x128.size a) ∧
  (∀ a, (k1_off203 arg12) a + S1x16.size a ≤ S128x128.size a) ∧
  (∀ a, (k1_off204 arg12) a + S1x16.size a ≤ S128x128.size a) ∧
  (∀ a, (k1_off205 arg12) a + S1x16.size a ≤ S128x128.size a)
theorem k1_off198_inb : ∀ (arg12 : BitVec 32) (k1_hw32 : k1_chk32 arg12), ∀ a, (k1_off198 arg12) a + S1x16.size a ≤ S128x128.size a := fun arg12 k1_hw32 => k1_hw32.1
theorem k1_off199_inb : ∀ (arg12 : BitVec 32) (k1_hw32 : k1_chk32 arg12), ∀ a, (k1_off199 arg12) a + S1x16.size a ≤ S128x128.size a := fun arg12 k1_hw32 => k1_hw32.2.1
theorem k1_off200_inb : ∀ (arg12 : BitVec 32) (k1_hw32 : k1_chk32 arg12), ∀ a, (k1_off200 arg12) a + S1x16.size a ≤ S128x128.size a := fun arg12 k1_hw32 => k1_hw32.2.2.1
theorem k1_off201_inb : ∀ (arg12 : BitVec 32) (k1_hw32 : k1_chk32 arg12), ∀ a, (k1_off201 arg12) a + S1x16.size a ≤ S128x128.size a := fun arg12 k1_hw32 => k1_hw32.2.2.2.1
theorem k1_off202_inb : ∀ (arg12 : BitVec 32) (k1_hw32 : k1_chk32 arg12), ∀ a, (k1_off202 arg12) a + S1x16.size a ≤ S128x128.size a := fun arg12 k1_hw32 => k1_hw32.2.2.2.2.1
theorem k1_off203_inb : ∀ (arg12 : BitVec 32) (k1_hw32 : k1_chk32 arg12), ∀ a, (k1_off203 arg12) a + S1x16.size a ≤ S128x128.size a := fun arg12 k1_hw32 => k1_hw32.2.2.2.2.2.1
theorem k1_off204_inb : ∀ (arg12 : BitVec 32) (k1_hw32 : k1_chk32 arg12), ∀ a, (k1_off204 arg12) a + S1x16.size a ≤ S128x128.size a := fun arg12 k1_hw32 => k1_hw32.2.2.2.2.2.2.1
theorem k1_off205_inb : ∀ (arg12 : BitVec 32) (k1_hw32 : k1_chk32 arg12), ∀ a, (k1_off205 arg12) a + S1x16.size a ≤ S128x128.size a := fun arg12 k1_hw32 => k1_hw32.2.2.2.2.2.2.2

@[reducible] def k1_t26_loop (i : grid1.Coords) (k1_t20 : Fin k1_t20_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk31 (i : grid1.Coords) (k1_t20 : Fin k1_t20_loop.trips) (v561 : BitVec 32) : Prop :=
  ((k1_t25_loop i k1_t20 v561).OK) ∧
  ((k1_t26_loop i k1_t20 v561).OK)
theorem k1_t25_ok : ∀ (i : grid1.Coords) (k1_t20 : Fin k1_t20_loop.trips) (v561 : BitVec 32) (k1_hw31 : k1_chk31 i k1_t20 v561), (k1_t25_loop i k1_t20 v561).OK := fun i k1_t20 v561 k1_hw31 => k1_hw31.1
theorem k1_t26_ok : ∀ (i : grid1.Coords) (k1_t20 : Fin k1_t20_loop.trips) (v561 : BitVec 32) (k1_hw31 : k1_chk31 i k1_t20 v561), (k1_t26_loop i k1_t20 v561).OK := fun i k1_t20 v561 k1_hw31 => k1_hw31.2

def k1_off206 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off207 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off208 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off209 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off210 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off211 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off212 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off213 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk33 (arg12 : BitVec 32) : Prop :=
  (∀ a, (k1_off206 arg12) a + S1x16.size a ≤ S128x128.size a) ∧
  (∀ a, (k1_off207 arg12) a + S1x16.size a ≤ S128x128.size a) ∧
  (∀ a, (k1_off208 arg12) a + S1x16.size a ≤ S128x128.size a) ∧
  (∀ a, (k1_off209 arg12) a + S1x16.size a ≤ S128x128.size a) ∧
  (∀ a, (k1_off210 arg12) a + S1x16.size a ≤ S128x128.size a) ∧
  (∀ a, (k1_off211 arg12) a + S1x16.size a ≤ S128x128.size a) ∧
  (∀ a, (k1_off212 arg12) a + S1x16.size a ≤ S128x128.size a) ∧
  (∀ a, (k1_off213 arg12) a + S1x16.size a ≤ S128x128.size a)
theorem k1_off206_inb : ∀ (arg12 : BitVec 32) (k1_hw33 : k1_chk33 arg12), ∀ a, (k1_off206 arg12) a + S1x16.size a ≤ S128x128.size a := fun arg12 k1_hw33 => k1_hw33.1
theorem k1_off207_inb : ∀ (arg12 : BitVec 32) (k1_hw33 : k1_chk33 arg12), ∀ a, (k1_off207 arg12) a + S1x16.size a ≤ S128x128.size a := fun arg12 k1_hw33 => k1_hw33.2.1
theorem k1_off208_inb : ∀ (arg12 : BitVec 32) (k1_hw33 : k1_chk33 arg12), ∀ a, (k1_off208 arg12) a + S1x16.size a ≤ S128x128.size a := fun arg12 k1_hw33 => k1_hw33.2.2.1
theorem k1_off209_inb : ∀ (arg12 : BitVec 32) (k1_hw33 : k1_chk33 arg12), ∀ a, (k1_off209 arg12) a + S1x16.size a ≤ S128x128.size a := fun arg12 k1_hw33 => k1_hw33.2.2.2.1
theorem k1_off210_inb : ∀ (arg12 : BitVec 32) (k1_hw33 : k1_chk33 arg12), ∀ a, (k1_off210 arg12) a + S1x16.size a ≤ S128x128.size a := fun arg12 k1_hw33 => k1_hw33.2.2.2.2.1
theorem k1_off211_inb : ∀ (arg12 : BitVec 32) (k1_hw33 : k1_chk33 arg12), ∀ a, (k1_off211 arg12) a + S1x16.size a ≤ S128x128.size a := fun arg12 k1_hw33 => k1_hw33.2.2.2.2.2.1
theorem k1_off212_inb : ∀ (arg12 : BitVec 32) (k1_hw33 : k1_chk33 arg12), ∀ a, (k1_off212 arg12) a + S1x16.size a ≤ S128x128.size a := fun arg12 k1_hw33 => k1_hw33.2.2.2.2.2.2.1
theorem k1_off213_inb : ∀ (arg12 : BitVec 32) (k1_hw33 : k1_chk33 arg12), ∀ a, (k1_off213 arg12) a + S1x16.size a ≤ S128x128.size a := fun arg12 k1_hw33 => k1_hw33.2.2.2.2.2.2.2

@[reducible] def k1_t27_loop (i : grid1.Coords) (k1_t20 : Fin k1_t20_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off214 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off215 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off216 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off217 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off218 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off219 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off220 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off221 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk35 (arg12 : BitVec 32) : Prop :=
  (∀ a, (k1_off214 arg12) a + S1x16.size a ≤ S128x128.size a) ∧
  (∀ a, (k1_off215 arg12) a + S1x16.size a ≤ S128x128.size a) ∧
  (∀ a, (k1_off216 arg12) a + S1x16.size a ≤ S128x128.size a) ∧
  (∀ a, (k1_off217 arg12) a + S1x16.size a ≤ S128x128.size a) ∧
  (∀ a, (k1_off218 arg12) a + S1x16.size a ≤ S128x128.size a) ∧
  (∀ a, (k1_off219 arg12) a + S1x16.size a ≤ S128x128.size a) ∧
  (∀ a, (k1_off220 arg12) a + S1x16.size a ≤ S128x128.size a) ∧
  (∀ a, (k1_off221 arg12) a + S1x16.size a ≤ S128x128.size a)
theorem k1_off214_inb : ∀ (arg12 : BitVec 32) (k1_hw35 : k1_chk35 arg12), ∀ a, (k1_off214 arg12) a + S1x16.size a ≤ S128x128.size a := fun arg12 k1_hw35 => k1_hw35.1
theorem k1_off215_inb : ∀ (arg12 : BitVec 32) (k1_hw35 : k1_chk35 arg12), ∀ a, (k1_off215 arg12) a + S1x16.size a ≤ S128x128.size a := fun arg12 k1_hw35 => k1_hw35.2.1
theorem k1_off216_inb : ∀ (arg12 : BitVec 32) (k1_hw35 : k1_chk35 arg12), ∀ a, (k1_off216 arg12) a + S1x16.size a ≤ S128x128.size a := fun arg12 k1_hw35 => k1_hw35.2.2.1
theorem k1_off217_inb : ∀ (arg12 : BitVec 32) (k1_hw35 : k1_chk35 arg12), ∀ a, (k1_off217 arg12) a + S1x16.size a ≤ S128x128.size a := fun arg12 k1_hw35 => k1_hw35.2.2.2.1
theorem k1_off218_inb : ∀ (arg12 : BitVec 32) (k1_hw35 : k1_chk35 arg12), ∀ a, (k1_off218 arg12) a + S1x16.size a ≤ S128x128.size a := fun arg12 k1_hw35 => k1_hw35.2.2.2.2.1
theorem k1_off219_inb : ∀ (arg12 : BitVec 32) (k1_hw35 : k1_chk35 arg12), ∀ a, (k1_off219 arg12) a + S1x16.size a ≤ S128x128.size a := fun arg12 k1_hw35 => k1_hw35.2.2.2.2.2.1
theorem k1_off220_inb : ∀ (arg12 : BitVec 32) (k1_hw35 : k1_chk35 arg12), ∀ a, (k1_off220 arg12) a + S1x16.size a ≤ S128x128.size a := fun arg12 k1_hw35 => k1_hw35.2.2.2.2.2.2.1
theorem k1_off221_inb : ∀ (arg12 : BitVec 32) (k1_hw35 : k1_chk35 arg12), ∀ a, (k1_off221 arg12) a + S1x16.size a ≤ S128x128.size a := fun arg12 k1_hw35 => k1_hw35.2.2.2.2.2.2.2

@[reducible] def k1_t28_loop (i : grid1.Coords) (k1_t20 : Fin k1_t20_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c256_i32_127 : BitVec 32 := 256#32
  let v127 : BitVec 32 := Scalar.addi v2 c256_i32_127
  let c0_i32_129 : BitVec 32 := 0#32
  let c1_i32_131 : BitVec 32 := 1#32
  let arg9 : BitVec 32 := Scf.iv c0_i32_129 c1_i32_131 k1_t20
  let v473 : BitVec 32 := Scalar.addi v127 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk34 (i : grid1.Coords) (k1_t20 : Fin k1_t20_loop.trips) (v582 : BitVec 32) : Prop :=
  ((k1_t27_loop i k1_t20 v582).OK) ∧
  ((k1_t28_loop i k1_t20 v582).OK)
theorem k1_t27_ok : ∀ (i : grid1.Coords) (k1_t20 : Fin k1_t20_loop.trips) (v582 : BitVec 32) (k1_hw34 : k1_chk34 i k1_t20 v582), (k1_t27_loop i k1_t20 v582).OK := fun i k1_t20 v582 k1_hw34 => k1_hw34.1
theorem k1_t28_ok : ∀ (i : grid1.Coords) (k1_t20 : Fin k1_t20_loop.trips) (v582 : BitVec 32) (k1_hw34 : k1_chk34 i k1_t20 v582), (k1_t28_loop i k1_t20 v582).OK := fun i k1_t20 v582 k1_hw34 => k1_hw34.2

def k1_off222 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off223 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off224 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off225 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off226 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off227 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off228 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off229 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk36 (arg12 : BitVec 32) : Prop :=
  (∀ a, (k1_off222 arg12) a + S1x16.size a ≤ S128x128.size a) ∧
  (∀ a, (k1_off223 arg12) a + S1x16.size a ≤ S128x128.size a) ∧
  (∀ a, (k1_off224 arg12) a + S1x16.size a ≤ S128x128.size a) ∧
  (∀ a, (k1_off225 arg12) a + S1x16.size a ≤ S128x128.size a) ∧
  (∀ a, (k1_off226 arg12) a + S1x16.size a ≤ S128x128.size a) ∧
  (∀ a, (k1_off227 arg12) a + S1x16.size a ≤ S128x128.size a) ∧
  (∀ a, (k1_off228 arg12) a + S1x16.size a ≤ S128x128.size a) ∧
  (∀ a, (k1_off229 arg12) a + S1x16.size a ≤ S128x128.size a)
theorem k1_off222_inb : ∀ (arg12 : BitVec 32) (k1_hw36 : k1_chk36 arg12), ∀ a, (k1_off222 arg12) a + S1x16.size a ≤ S128x128.size a := fun arg12 k1_hw36 => k1_hw36.1
theorem k1_off223_inb : ∀ (arg12 : BitVec 32) (k1_hw36 : k1_chk36 arg12), ∀ a, (k1_off223 arg12) a + S1x16.size a ≤ S128x128.size a := fun arg12 k1_hw36 => k1_hw36.2.1
theorem k1_off224_inb : ∀ (arg12 : BitVec 32) (k1_hw36 : k1_chk36 arg12), ∀ a, (k1_off224 arg12) a + S1x16.size a ≤ S128x128.size a := fun arg12 k1_hw36 => k1_hw36.2.2.1
theorem k1_off225_inb : ∀ (arg12 : BitVec 32) (k1_hw36 : k1_chk36 arg12), ∀ a, (k1_off225 arg12) a + S1x16.size a ≤ S128x128.size a := fun arg12 k1_hw36 => k1_hw36.2.2.2.1
theorem k1_off226_inb : ∀ (arg12 : BitVec 32) (k1_hw36 : k1_chk36 arg12), ∀ a, (k1_off226 arg12) a + S1x16.size a ≤ S128x128.size a := fun arg12 k1_hw36 => k1_hw36.2.2.2.2.1
theorem k1_off227_inb : ∀ (arg12 : BitVec 32) (k1_hw36 : k1_chk36 arg12), ∀ a, (k1_off227 arg12) a + S1x16.size a ≤ S128x128.size a := fun arg12 k1_hw36 => k1_hw36.2.2.2.2.2.1
theorem k1_off228_inb : ∀ (arg12 : BitVec 32) (k1_hw36 : k1_chk36 arg12), ∀ a, (k1_off228 arg12) a + S1x16.size a ≤ S128x128.size a := fun arg12 k1_hw36 => k1_hw36.2.2.2.2.2.2.1
theorem k1_off229_inb : ∀ (arg12 : BitVec 32) (k1_hw36 : k1_chk36 arg12), ∀ a, (k1_off229 arg12) a + S1x16.size a ≤ S128x128.size a := fun arg12 k1_hw36 => k1_hw36.2.2.2.2.2.2.2

@[reducible] def k1_t29_loop : Scf.Loop 32 :=
  let c0_i32_167 : BitVec 32 := 0#32
  let c128_i32_168 : BitVec 32 := 128#32
  let v164 : BitVec 32 := Scalar.addi c0_i32_167 c128_i32_168
  let c1_i32_169 : BitVec 32 := 1#32
  ⟨c0_i32_167, v164, c1_i32_169⟩
def k1_off230 (k1_t29 : Fin k1_t29_loop.trips) : Fin 3 → Nat :=
  let c1_i32_497 : BitVec 32 := 1#32
  let v475 : Index := Scalar.indexCast c1_i32_497
  let c0_i32_167 : BitVec 32 := 0#32
  let c1_i32_169 : BitVec 32 := 1#32
  let arg9 : BitVec 32 := Scf.iv c0_i32_167 c1_i32_169 k1_t29
  let v476 : Index := Scalar.indexCast arg9
  let c0 : Index := 0#32
  ![1, v476.toNat, 0]
def k1_off231 (k1_t29 : Fin k1_t29_loop.trips) : Fin 3 → Nat :=
  let c1_i32_498 : BitVec 32 := 1#32
  let v479 : Index := Scalar.indexCast c1_i32_498
  let c0_i32_167 : BitVec 32 := 0#32
  let c1_i32_169 : BitVec 32 := 1#32
  let arg9 : BitVec 32 := Scf.iv c0_i32_167 c1_i32_169 k1_t29
  let v480 : Index := Scalar.indexCast arg9
  let c16 : Index := 16#32
  ![1, v480.toNat, 16]
def k1_off232 (k1_t29 : Fin k1_t29_loop.trips) : Fin 3 → Nat :=
  let c1_i32_499 : BitVec 32 := 1#32
  let v483 : Index := Scalar.indexCast c1_i32_499
  let c0_i32_167 : BitVec 32 := 0#32
  let c1_i32_169 : BitVec 32 := 1#32
  let arg9 : BitVec 32 := Scf.iv c0_i32_167 c1_i32_169 k1_t29
  let v484 : Index := Scalar.indexCast arg9
  let c32 : Index := 32#32
  ![1, v484.toNat, 32]
def k1_off233 (k1_t29 : Fin k1_t29_loop.trips) : Fin 3 → Nat :=
  let c1_i32_500 : BitVec 32 := 1#32
  let v487 : Index := Scalar.indexCast c1_i32_500
  let c0_i32_167 : BitVec 32 := 0#32
  let c1_i32_169 : BitVec 32 := 1#32
  let arg9 : BitVec 32 := Scf.iv c0_i32_167 c1_i32_169 k1_t29
  let v488 : Index := Scalar.indexCast arg9
  let c48 : Index := 48#32
  ![1, v488.toNat, 48]
def k1_off234 (k1_t29 : Fin k1_t29_loop.trips) : Fin 3 → Nat :=
  let c1_i32_501 : BitVec 32 := 1#32
  let v491 : Index := Scalar.indexCast c1_i32_501
  let c0_i32_167 : BitVec 32 := 0#32
  let c1_i32_169 : BitVec 32 := 1#32
  let arg9 : BitVec 32 := Scf.iv c0_i32_167 c1_i32_169 k1_t29
  let v492 : Index := Scalar.indexCast arg9
  let c64 : Index := 64#32
  ![1, v492.toNat, 64]
def k1_off235 (k1_t29 : Fin k1_t29_loop.trips) : Fin 3 → Nat :=
  let c1_i32_502 : BitVec 32 := 1#32
  let v495 : Index := Scalar.indexCast c1_i32_502
  let c0_i32_167 : BitVec 32 := 0#32
  let c1_i32_169 : BitVec 32 := 1#32
  let arg9 : BitVec 32 := Scf.iv c0_i32_167 c1_i32_169 k1_t29
  let v496 : Index := Scalar.indexCast arg9
  let c80 : Index := 80#32
  ![1, v496.toNat, 80]
def k1_off236 (k1_t29 : Fin k1_t29_loop.trips) : Fin 3 → Nat :=
  let c1_i32_503 : BitVec 32 := 1#32
  let v499 : Index := Scalar.indexCast c1_i32_503
  let c0_i32_167 : BitVec 32 := 0#32
  let c1_i32_169 : BitVec 32 := 1#32
  let arg9 : BitVec 32 := Scf.iv c0_i32_167 c1_i32_169 k1_t29
  let v500 : Index := Scalar.indexCast arg9
  let c96 : Index := 96#32
  ![1, v500.toNat, 96]
def k1_off237 (k1_t29 : Fin k1_t29_loop.trips) : Fin 3 → Nat :=
  let c1_i32_504 : BitVec 32 := 1#32
  let v503 : Index := Scalar.indexCast c1_i32_504
  let c0_i32_167 : BitVec 32 := 0#32
  let c1_i32_169 : BitVec 32 := 1#32
  let arg9 : BitVec 32 := Scf.iv c0_i32_167 c1_i32_169 k1_t29
  let v504 : Index := Scalar.indexCast arg9
  let c112 : Index := 112#32
  ![1, v504.toNat, 112]
def k1_off238 (k1_t29 : Fin k1_t29_loop.trips) : Fin 3 → Nat :=
  let c1_i32_505 : BitVec 32 := 1#32
  let v507 : Index := Scalar.indexCast c1_i32_505
  let c0_i32_167 : BitVec 32 := 0#32
  let c1_i32_169 : BitVec 32 := 1#32
  let arg9 : BitVec 32 := Scf.iv c0_i32_167 c1_i32_169 k1_t29
  let v508 : Index := Scalar.indexCast arg9
  let c0_506 : Index := 0#32
  ![1, v508.toNat, 0]
@[reducible] def k1_t30_loop (i : grid1.Coords) (k1_t29 : Fin k1_t29_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off239 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off240 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off241 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off242 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off243 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off244 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off245 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off246 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk38 (arg12 : BitVec 32) : Prop :=
  (∀ a, (k1_off239 arg12) a + S1x16.size a ≤ S128x128.size a) ∧
  (∀ a, (k1_off240 arg12) a + S1x16.size a ≤ S128x128.size a) ∧
  (∀ a, (k1_off241 arg12) a + S1x16.size a ≤ S128x128.size a) ∧
  (∀ a, (k1_off242 arg12) a + S1x16.size a ≤ S128x128.size a) ∧
  (∀ a, (k1_off243 arg12) a + S1x16.size a ≤ S128x128.size a) ∧
  (∀ a, (k1_off244 arg12) a + S1x16.size a ≤ S128x128.size a) ∧
  (∀ a, (k1_off245 arg12) a + S1x16.size a ≤ S128x128.size a) ∧
  (∀ a, (k1_off246 arg12) a + S1x16.size a ≤ S128x128.size a)
theorem k1_off239_inb : ∀ (arg12 : BitVec 32) (k1_hw38 : k1_chk38 arg12), ∀ a, (k1_off239 arg12) a + S1x16.size a ≤ S128x128.size a := fun arg12 k1_hw38 => k1_hw38.1
theorem k1_off240_inb : ∀ (arg12 : BitVec 32) (k1_hw38 : k1_chk38 arg12), ∀ a, (k1_off240 arg12) a + S1x16.size a ≤ S128x128.size a := fun arg12 k1_hw38 => k1_hw38.2.1
theorem k1_off241_inb : ∀ (arg12 : BitVec 32) (k1_hw38 : k1_chk38 arg12), ∀ a, (k1_off241 arg12) a + S1x16.size a ≤ S128x128.size a := fun arg12 k1_hw38 => k1_hw38.2.2.1
theorem k1_off242_inb : ∀ (arg12 : BitVec 32) (k1_hw38 : k1_chk38 arg12), ∀ a, (k1_off242 arg12) a + S1x16.size a ≤ S128x128.size a := fun arg12 k1_hw38 => k1_hw38.2.2.2.1
theorem k1_off243_inb : ∀ (arg12 : BitVec 32) (k1_hw38 : k1_chk38 arg12), ∀ a, (k1_off243 arg12) a + S1x16.size a ≤ S128x128.size a := fun arg12 k1_hw38 => k1_hw38.2.2.2.2.1
theorem k1_off244_inb : ∀ (arg12 : BitVec 32) (k1_hw38 : k1_chk38 arg12), ∀ a, (k1_off244 arg12) a + S1x16.size a ≤ S128x128.size a := fun arg12 k1_hw38 => k1_hw38.2.2.2.2.2.1
theorem k1_off245_inb : ∀ (arg12 : BitVec 32) (k1_hw38 : k1_chk38 arg12), ∀ a, (k1_off245 arg12) a + S1x16.size a ≤ S128x128.size a := fun arg12 k1_hw38 => k1_hw38.2.2.2.2.2.2.1
theorem k1_off246_inb : ∀ (arg12 : BitVec 32) (k1_hw38 : k1_chk38 arg12), ∀ a, (k1_off246 arg12) a + S1x16.size a ≤ S128x128.size a := fun arg12 k1_hw38 => k1_hw38.2.2.2.2.2.2.2

@[reducible] def k1_t31_loop (i : grid1.Coords) (k1_t29 : Fin k1_t29_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk37 (i : grid1.Coords) (k1_t29 : Fin k1_t29_loop.trips) (v519 : BitVec 32) : Prop :=
  ((k1_t30_loop i k1_t29 v519).OK) ∧
  ((k1_t31_loop i k1_t29 v519).OK)
theorem k1_t30_ok : ∀ (i : grid1.Coords) (k1_t29 : Fin k1_t29_loop.trips) (v519 : BitVec 32) (k1_hw37 : k1_chk37 i k1_t29 v519), (k1_t30_loop i k1_t29 v519).OK := fun i k1_t29 v519 k1_hw37 => k1_hw37.1
theorem k1_t31_ok : ∀ (i : grid1.Coords) (k1_t29 : Fin k1_t29_loop.trips) (v519 : BitVec 32) (k1_hw37 : k1_chk37 i k1_t29 v519), (k1_t31_loop i k1_t29 v519).OK := fun i k1_t29 v519 k1_hw37 => k1_hw37.2

def k1_off247 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off248 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off249 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off250 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off251 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off252 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off253 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off254 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk39 (arg12 : BitVec 32) : Prop :=
  (∀ a, (k1_off247 arg12) a + S1x16.size a ≤ S128x128.size a) ∧
  (∀ a, (k1_off248 arg12) a + S1x16.size a ≤ S128x128.size a) ∧
  (∀ a, (k1_off249 arg12) a + S1x16.size a ≤ S128x128.size a) ∧
  (∀ a, (k1_off250 arg12) a + S1x16.size a ≤ S128x128.size a) ∧
  (∀ a, (k1_off251 arg12) a + S1x16.size a ≤ S128x128.size a) ∧
  (∀ a, (k1_off252 arg12) a + S1x16.size a ≤ S128x128.size a) ∧
  (∀ a, (k1_off253 arg12) a + S1x16.size a ≤ S128x128.size a) ∧
  (∀ a, (k1_off254 arg12) a + S1x16.size a ≤ S128x128.size a)
theorem k1_off247_inb : ∀ (arg12 : BitVec 32) (k1_hw39 : k1_chk39 arg12), ∀ a, (k1_off247 arg12) a + S1x16.size a ≤ S128x128.size a := fun arg12 k1_hw39 => k1_hw39.1
theorem k1_off248_inb : ∀ (arg12 : BitVec 32) (k1_hw39 : k1_chk39 arg12), ∀ a, (k1_off248 arg12) a + S1x16.size a ≤ S128x128.size a := fun arg12 k1_hw39 => k1_hw39.2.1
theorem k1_off249_inb : ∀ (arg12 : BitVec 32) (k1_hw39 : k1_chk39 arg12), ∀ a, (k1_off249 arg12) a + S1x16.size a ≤ S128x128.size a := fun arg12 k1_hw39 => k1_hw39.2.2.1
theorem k1_off250_inb : ∀ (arg12 : BitVec 32) (k1_hw39 : k1_chk39 arg12), ∀ a, (k1_off250 arg12) a + S1x16.size a ≤ S128x128.size a := fun arg12 k1_hw39 => k1_hw39.2.2.2.1
theorem k1_off251_inb : ∀ (arg12 : BitVec 32) (k1_hw39 : k1_chk39 arg12), ∀ a, (k1_off251 arg12) a + S1x16.size a ≤ S128x128.size a := fun arg12 k1_hw39 => k1_hw39.2.2.2.2.1
theorem k1_off252_inb : ∀ (arg12 : BitVec 32) (k1_hw39 : k1_chk39 arg12), ∀ a, (k1_off252 arg12) a + S1x16.size a ≤ S128x128.size a := fun arg12 k1_hw39 => k1_hw39.2.2.2.2.2.1
theorem k1_off253_inb : ∀ (arg12 : BitVec 32) (k1_hw39 : k1_chk39 arg12), ∀ a, (k1_off253 arg12) a + S1x16.size a ≤ S128x128.size a := fun arg12 k1_hw39 => k1_hw39.2.2.2.2.2.2.1
theorem k1_off254_inb : ∀ (arg12 : BitVec 32) (k1_hw39 : k1_chk39 arg12), ∀ a, (k1_off254 arg12) a + S1x16.size a ≤ S128x128.size a := fun arg12 k1_hw39 => k1_hw39.2.2.2.2.2.2.2

@[reducible] def k1_t32_loop (i : grid1.Coords) (k1_t29 : Fin k1_t29_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off255 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off256 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off257 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off258 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off259 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off260 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off261 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off262 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk41 (arg12 : BitVec 32) : Prop :=
  (∀ a, (k1_off255 arg12) a + S1x16.size a ≤ S128x128.size a) ∧
  (∀ a, (k1_off256 arg12) a + S1x16.size a ≤ S128x128.size a) ∧
  (∀ a, (k1_off257 arg12) a + S1x16.size a ≤ S128x128.size a) ∧
  (∀ a, (k1_off258 arg12) a + S1x16.size a ≤ S128x128.size a) ∧
  (∀ a, (k1_off259 arg12) a + S1x16.size a ≤ S128x128.size a) ∧
  (∀ a, (k1_off260 arg12) a + S1x16.size a ≤ S128x128.size a) ∧
  (∀ a, (k1_off261 arg12) a + S1x16.size a ≤ S128x128.size a) ∧
  (∀ a, (k1_off262 arg12) a + S1x16.size a ≤ S128x128.size a)
theorem k1_off255_inb : ∀ (arg12 : BitVec 32) (k1_hw41 : k1_chk41 arg12), ∀ a, (k1_off255 arg12) a + S1x16.size a ≤ S128x128.size a := fun arg12 k1_hw41 => k1_hw41.1
theorem k1_off256_inb : ∀ (arg12 : BitVec 32) (k1_hw41 : k1_chk41 arg12), ∀ a, (k1_off256 arg12) a + S1x16.size a ≤ S128x128.size a := fun arg12 k1_hw41 => k1_hw41.2.1
theorem k1_off257_inb : ∀ (arg12 : BitVec 32) (k1_hw41 : k1_chk41 arg12), ∀ a, (k1_off257 arg12) a + S1x16.size a ≤ S128x128.size a := fun arg12 k1_hw41 => k1_hw41.2.2.1
theorem k1_off258_inb : ∀ (arg12 : BitVec 32) (k1_hw41 : k1_chk41 arg12), ∀ a, (k1_off258 arg12) a + S1x16.size a ≤ S128x128.size a := fun arg12 k1_hw41 => k1_hw41.2.2.2.1
theorem k1_off259_inb : ∀ (arg12 : BitVec 32) (k1_hw41 : k1_chk41 arg12), ∀ a, (k1_off259 arg12) a + S1x16.size a ≤ S128x128.size a := fun arg12 k1_hw41 => k1_hw41.2.2.2.2.1
theorem k1_off260_inb : ∀ (arg12 : BitVec 32) (k1_hw41 : k1_chk41 arg12), ∀ a, (k1_off260 arg12) a + S1x16.size a ≤ S128x128.size a := fun arg12 k1_hw41 => k1_hw41.2.2.2.2.2.1
theorem k1_off261_inb : ∀ (arg12 : BitVec 32) (k1_hw41 : k1_chk41 arg12), ∀ a, (k1_off261 arg12) a + S1x16.size a ≤ S128x128.size a := fun arg12 k1_hw41 => k1_hw41.2.2.2.2.2.2.1
theorem k1_off262_inb : ∀ (arg12 : BitVec 32) (k1_hw41 : k1_chk41 arg12), ∀ a, (k1_off262 arg12) a + S1x16.size a ≤ S128x128.size a := fun arg12 k1_hw41 => k1_hw41.2.2.2.2.2.2.2

@[reducible] def k1_t33_loop (i : grid1.Coords) (k1_t29 : Fin k1_t29_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk40 (i : grid1.Coords) (k1_t29 : Fin k1_t29_loop.trips) (v540 : BitVec 32) : Prop :=
  ((k1_t32_loop i k1_t29 v540).OK) ∧
  ((k1_t33_loop i k1_t29 v540).OK)
theorem k1_t32_ok : ∀ (i : grid1.Coords) (k1_t29 : Fin k1_t29_loop.trips) (v540 : BitVec 32) (k1_hw40 : k1_chk40 i k1_t29 v540), (k1_t32_loop i k1_t29 v540).OK := fun i k1_t29 v540 k1_hw40 => k1_hw40.1
theorem k1_t33_ok : ∀ (i : grid1.Coords) (k1_t29 : Fin k1_t29_loop.trips) (v540 : BitVec 32) (k1_hw40 : k1_chk40 i k1_t29 v540), (k1_t33_loop i k1_t29 v540).OK := fun i k1_t29 v540 k1_hw40 => k1_hw40.2

def k1_off263 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off264 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off265 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off266 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off267 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off268 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off269 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off270 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk42 (arg12 : BitVec 32) : Prop :=
  (∀ a, (k1_off263 arg12) a + S1x16.size a ≤ S128x128.size a) ∧
  (∀ a, (k1_off264 arg12) a + S1x16.size a ≤ S128x128.size a) ∧
  (∀ a, (k1_off265 arg12) a + S1x16.size a ≤ S128x128.size a) ∧
  (∀ a, (k1_off266 arg12) a + S1x16.size a ≤ S128x128.size a) ∧
  (∀ a, (k1_off267 arg12) a + S1x16.size a ≤ S128x128.size a) ∧
  (∀ a, (k1_off268 arg12) a + S1x16.size a ≤ S128x128.size a) ∧
  (∀ a, (k1_off269 arg12) a + S1x16.size a ≤ S128x128.size a) ∧
  (∀ a, (k1_off270 arg12) a + S1x16.size a ≤ S128x128.size a)
theorem k1_off263_inb : ∀ (arg12 : BitVec 32) (k1_hw42 : k1_chk42 arg12), ∀ a, (k1_off263 arg12) a + S1x16.size a ≤ S128x128.size a := fun arg12 k1_hw42 => k1_hw42.1
theorem k1_off264_inb : ∀ (arg12 : BitVec 32) (k1_hw42 : k1_chk42 arg12), ∀ a, (k1_off264 arg12) a + S1x16.size a ≤ S128x128.size a := fun arg12 k1_hw42 => k1_hw42.2.1
theorem k1_off265_inb : ∀ (arg12 : BitVec 32) (k1_hw42 : k1_chk42 arg12), ∀ a, (k1_off265 arg12) a + S1x16.size a ≤ S128x128.size a := fun arg12 k1_hw42 => k1_hw42.2.2.1
theorem k1_off266_inb : ∀ (arg12 : BitVec 32) (k1_hw42 : k1_chk42 arg12), ∀ a, (k1_off266 arg12) a + S1x16.size a ≤ S128x128.size a := fun arg12 k1_hw42 => k1_hw42.2.2.2.1
theorem k1_off267_inb : ∀ (arg12 : BitVec 32) (k1_hw42 : k1_chk42 arg12), ∀ a, (k1_off267 arg12) a + S1x16.size a ≤ S128x128.size a := fun arg12 k1_hw42 => k1_hw42.2.2.2.2.1
theorem k1_off268_inb : ∀ (arg12 : BitVec 32) (k1_hw42 : k1_chk42 arg12), ∀ a, (k1_off268 arg12) a + S1x16.size a ≤ S128x128.size a := fun arg12 k1_hw42 => k1_hw42.2.2.2.2.2.1
theorem k1_off269_inb : ∀ (arg12 : BitVec 32) (k1_hw42 : k1_chk42 arg12), ∀ a, (k1_off269 arg12) a + S1x16.size a ≤ S128x128.size a := fun arg12 k1_hw42 => k1_hw42.2.2.2.2.2.2.1
theorem k1_off270_inb : ∀ (arg12 : BitVec 32) (k1_hw42 : k1_chk42 arg12), ∀ a, (k1_off270 arg12) a + S1x16.size a ≤ S128x128.size a := fun arg12 k1_hw42 => k1_hw42.2.2.2.2.2.2.2

@[reducible] def k1_t34_loop (i : grid1.Coords) (k1_t29 : Fin k1_t29_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off271 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off272 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off273 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off274 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off275 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off276 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off277 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off278 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk44 (arg12 : BitVec 32) : Prop :=
  (∀ a, (k1_off271 arg12) a + S1x16.size a ≤ S128x128.size a) ∧
  (∀ a, (k1_off272 arg12) a + S1x16.size a ≤ S128x128.size a) ∧
  (∀ a, (k1_off273 arg12) a + S1x16.size a ≤ S128x128.size a) ∧
  (∀ a, (k1_off274 arg12) a + S1x16.size a ≤ S128x128.size a) ∧
  (∀ a, (k1_off275 arg12) a + S1x16.size a ≤ S128x128.size a) ∧
  (∀ a, (k1_off276 arg12) a + S1x16.size a ≤ S128x128.size a) ∧
  (∀ a, (k1_off277 arg12) a + S1x16.size a ≤ S128x128.size a) ∧
  (∀ a, (k1_off278 arg12) a + S1x16.size a ≤ S128x128.size a)
theorem k1_off271_inb : ∀ (arg12 : BitVec 32) (k1_hw44 : k1_chk44 arg12), ∀ a, (k1_off271 arg12) a + S1x16.size a ≤ S128x128.size a := fun arg12 k1_hw44 => k1_hw44.1
theorem k1_off272_inb : ∀ (arg12 : BitVec 32) (k1_hw44 : k1_chk44 arg12), ∀ a, (k1_off272 arg12) a + S1x16.size a ≤ S128x128.size a := fun arg12 k1_hw44 => k1_hw44.2.1
theorem k1_off273_inb : ∀ (arg12 : BitVec 32) (k1_hw44 : k1_chk44 arg12), ∀ a, (k1_off273 arg12) a + S1x16.size a ≤ S128x128.size a := fun arg12 k1_hw44 => k1_hw44.2.2.1
theorem k1_off274_inb : ∀ (arg12 : BitVec 32) (k1_hw44 : k1_chk44 arg12), ∀ a, (k1_off274 arg12) a + S1x16.size a ≤ S128x128.size a := fun arg12 k1_hw44 => k1_hw44.2.2.2.1
theorem k1_off275_inb : ∀ (arg12 : BitVec 32) (k1_hw44 : k1_chk44 arg12), ∀ a, (k1_off275 arg12) a + S1x16.size a ≤ S128x128.size a := fun arg12 k1_hw44 => k1_hw44.2.2.2.2.1
theorem k1_off276_inb : ∀ (arg12 : BitVec 32) (k1_hw44 : k1_chk44 arg12), ∀ a, (k1_off276 arg12) a + S1x16.size a ≤ S128x128.size a := fun arg12 k1_hw44 => k1_hw44.2.2.2.2.2.1
theorem k1_off277_inb : ∀ (arg12 : BitVec 32) (k1_hw44 : k1_chk44 arg12), ∀ a, (k1_off277 arg12) a + S1x16.size a ≤ S128x128.size a := fun arg12 k1_hw44 => k1_hw44.2.2.2.2.2.2.1
theorem k1_off278_inb : ∀ (arg12 : BitVec 32) (k1_hw44 : k1_chk44 arg12), ∀ a, (k1_off278 arg12) a + S1x16.size a ≤ S128x128.size a := fun arg12 k1_hw44 => k1_hw44.2.2.2.2.2.2.2

@[reducible] def k1_t35_loop (i : grid1.Coords) (k1_t29 : Fin k1_t29_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk43 (i : grid1.Coords) (k1_t29 : Fin k1_t29_loop.trips) (v561 : BitVec 32) : Prop :=
  ((k1_t34_loop i k1_t29 v561).OK) ∧
  ((k1_t35_loop i k1_t29 v561).OK)
theorem k1_t34_ok : ∀ (i : grid1.Coords) (k1_t29 : Fin k1_t29_loop.trips) (v561 : BitVec 32) (k1_hw43 : k1_chk43 i k1_t29 v561), (k1_t34_loop i k1_t29 v561).OK := fun i k1_t29 v561 k1_hw43 => k1_hw43.1
theorem k1_t35_ok : ∀ (i : grid1.Coords) (k1_t29 : Fin k1_t29_loop.trips) (v561 : BitVec 32) (k1_hw43 : k1_chk43 i k1_t29 v561), (k1_t35_loop i k1_t29 v561).OK := fun i k1_t29 v561 k1_hw43 => k1_hw43.2

def k1_off279 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off280 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off281 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off282 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off283 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off284 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off285 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off286 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk45 (arg12 : BitVec 32) : Prop :=
  (∀ a, (k1_off279 arg12) a + S1x16.size a ≤ S128x128.size a) ∧
  (∀ a, (k1_off280 arg12) a + S1x16.size a ≤ S128x128.size a) ∧
  (∀ a, (k1_off281 arg12) a + S1x16.size a ≤ S128x128.size a) ∧
  (∀ a, (k1_off282 arg12) a + S1x16.size a ≤ S128x128.size a) ∧
  (∀ a, (k1_off283 arg12) a + S1x16.size a ≤ S128x128.size a) ∧
  (∀ a, (k1_off284 arg12) a + S1x16.size a ≤ S128x128.size a) ∧
  (∀ a, (k1_off285 arg12) a + S1x16.size a ≤ S128x128.size a) ∧
  (∀ a, (k1_off286 arg12) a + S1x16.size a ≤ S128x128.size a)
theorem k1_off279_inb : ∀ (arg12 : BitVec 32) (k1_hw45 : k1_chk45 arg12), ∀ a, (k1_off279 arg12) a + S1x16.size a ≤ S128x128.size a := fun arg12 k1_hw45 => k1_hw45.1
theorem k1_off280_inb : ∀ (arg12 : BitVec 32) (k1_hw45 : k1_chk45 arg12), ∀ a, (k1_off280 arg12) a + S1x16.size a ≤ S128x128.size a := fun arg12 k1_hw45 => k1_hw45.2.1
theorem k1_off281_inb : ∀ (arg12 : BitVec 32) (k1_hw45 : k1_chk45 arg12), ∀ a, (k1_off281 arg12) a + S1x16.size a ≤ S128x128.size a := fun arg12 k1_hw45 => k1_hw45.2.2.1
theorem k1_off282_inb : ∀ (arg12 : BitVec 32) (k1_hw45 : k1_chk45 arg12), ∀ a, (k1_off282 arg12) a + S1x16.size a ≤ S128x128.size a := fun arg12 k1_hw45 => k1_hw45.2.2.2.1
theorem k1_off283_inb : ∀ (arg12 : BitVec 32) (k1_hw45 : k1_chk45 arg12), ∀ a, (k1_off283 arg12) a + S1x16.size a ≤ S128x128.size a := fun arg12 k1_hw45 => k1_hw45.2.2.2.2.1
theorem k1_off284_inb : ∀ (arg12 : BitVec 32) (k1_hw45 : k1_chk45 arg12), ∀ a, (k1_off284 arg12) a + S1x16.size a ≤ S128x128.size a := fun arg12 k1_hw45 => k1_hw45.2.2.2.2.2.1
theorem k1_off285_inb : ∀ (arg12 : BitVec 32) (k1_hw45 : k1_chk45 arg12), ∀ a, (k1_off285 arg12) a + S1x16.size a ≤ S128x128.size a := fun arg12 k1_hw45 => k1_hw45.2.2.2.2.2.2.1
theorem k1_off286_inb : ∀ (arg12 : BitVec 32) (k1_hw45 : k1_chk45 arg12), ∀ a, (k1_off286 arg12) a + S1x16.size a ≤ S128x128.size a := fun arg12 k1_hw45 => k1_hw45.2.2.2.2.2.2.2

@[reducible] def k1_t36_loop (i : grid1.Coords) (k1_t29 : Fin k1_t29_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off287 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off288 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off289 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off290 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off291 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off292 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off293 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off294 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk47 (arg12 : BitVec 32) : Prop :=
  (∀ a, (k1_off287 arg12) a + S1x16.size a ≤ S128x128.size a) ∧
  (∀ a, (k1_off288 arg12) a + S1x16.size a ≤ S128x128.size a) ∧
  (∀ a, (k1_off289 arg12) a + S1x16.size a ≤ S128x128.size a) ∧
  (∀ a, (k1_off290 arg12) a + S1x16.size a ≤ S128x128.size a) ∧
  (∀ a, (k1_off291 arg12) a + S1x16.size a ≤ S128x128.size a) ∧
  (∀ a, (k1_off292 arg12) a + S1x16.size a ≤ S128x128.size a) ∧
  (∀ a, (k1_off293 arg12) a + S1x16.size a ≤ S128x128.size a) ∧
  (∀ a, (k1_off294 arg12) a + S1x16.size a ≤ S128x128.size a)
theorem k1_off287_inb : ∀ (arg12 : BitVec 32) (k1_hw47 : k1_chk47 arg12), ∀ a, (k1_off287 arg12) a + S1x16.size a ≤ S128x128.size a := fun arg12 k1_hw47 => k1_hw47.1
theorem k1_off288_inb : ∀ (arg12 : BitVec 32) (k1_hw47 : k1_chk47 arg12), ∀ a, (k1_off288 arg12) a + S1x16.size a ≤ S128x128.size a := fun arg12 k1_hw47 => k1_hw47.2.1
theorem k1_off289_inb : ∀ (arg12 : BitVec 32) (k1_hw47 : k1_chk47 arg12), ∀ a, (k1_off289 arg12) a + S1x16.size a ≤ S128x128.size a := fun arg12 k1_hw47 => k1_hw47.2.2.1
theorem k1_off290_inb : ∀ (arg12 : BitVec 32) (k1_hw47 : k1_chk47 arg12), ∀ a, (k1_off290 arg12) a + S1x16.size a ≤ S128x128.size a := fun arg12 k1_hw47 => k1_hw47.2.2.2.1
theorem k1_off291_inb : ∀ (arg12 : BitVec 32) (k1_hw47 : k1_chk47 arg12), ∀ a, (k1_off291 arg12) a + S1x16.size a ≤ S128x128.size a := fun arg12 k1_hw47 => k1_hw47.2.2.2.2.1
theorem k1_off292_inb : ∀ (arg12 : BitVec 32) (k1_hw47 : k1_chk47 arg12), ∀ a, (k1_off292 arg12) a + S1x16.size a ≤ S128x128.size a := fun arg12 k1_hw47 => k1_hw47.2.2.2.2.2.1
theorem k1_off293_inb : ∀ (arg12 : BitVec 32) (k1_hw47 : k1_chk47 arg12), ∀ a, (k1_off293 arg12) a + S1x16.size a ≤ S128x128.size a := fun arg12 k1_hw47 => k1_hw47.2.2.2.2.2.2.1
theorem k1_off294_inb : ∀ (arg12 : BitVec 32) (k1_hw47 : k1_chk47 arg12), ∀ a, (k1_off294 arg12) a + S1x16.size a ≤ S128x128.size a := fun arg12 k1_hw47 => k1_hw47.2.2.2.2.2.2.2

@[reducible] def k1_t37_loop (i : grid1.Coords) (k1_t29 : Fin k1_t29_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c384_i32_165 : BitVec 32 := 384#32
  let v163 : BitVec 32 := Scalar.addi v2 c384_i32_165
  let c0_i32_167 : BitVec 32 := 0#32
  let c1_i32_169 : BitVec 32 := 1#32
  let arg9 : BitVec 32 := Scf.iv c0_i32_167 c1_i32_169 k1_t29
  let v473 : BitVec 32 := Scalar.addi v163 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk46 (i : grid1.Coords) (k1_t29 : Fin k1_t29_loop.trips) (v582 : BitVec 32) : Prop :=
  ((k1_t36_loop i k1_t29 v582).OK) ∧
  ((k1_t37_loop i k1_t29 v582).OK)
theorem k1_t36_ok : ∀ (i : grid1.Coords) (k1_t29 : Fin k1_t29_loop.trips) (v582 : BitVec 32) (k1_hw46 : k1_chk46 i k1_t29 v582), (k1_t36_loop i k1_t29 v582).OK := fun i k1_t29 v582 k1_hw46 => k1_hw46.1
theorem k1_t37_ok : ∀ (i : grid1.Coords) (k1_t29 : Fin k1_t29_loop.trips) (v582 : BitVec 32) (k1_hw46 : k1_chk46 i k1_t29 v582), (k1_t37_loop i k1_t29 v582).OK := fun i k1_t29 v582 k1_hw46 => k1_hw46.2

def k1_off295 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off296 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off297 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off298 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off299 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off300 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off301 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off302 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk48 (arg12 : BitVec 32) : Prop :=
  (∀ a, (k1_off295 arg12) a + S1x16.size a ≤ S128x128.size a) ∧
  (∀ a, (k1_off296 arg12) a + S1x16.size a ≤ S128x128.size a) ∧
  (∀ a, (k1_off297 arg12) a + S1x16.size a ≤ S128x128.size a) ∧
  (∀ a, (k1_off298 arg12) a + S1x16.size a ≤ S128x128.size a) ∧
  (∀ a, (k1_off299 arg12) a + S1x16.size a ≤ S128x128.size a) ∧
  (∀ a, (k1_off300 arg12) a + S1x16.size a ≤ S128x128.size a) ∧
  (∀ a, (k1_off301 arg12) a + S1x16.size a ≤ S128x128.size a) ∧
  (∀ a, (k1_off302 arg12) a + S1x16.size a ≤ S128x128.size a)
theorem k1_off295_inb : ∀ (arg12 : BitVec 32) (k1_hw48 : k1_chk48 arg12), ∀ a, (k1_off295 arg12) a + S1x16.size a ≤ S128x128.size a := fun arg12 k1_hw48 => k1_hw48.1
theorem k1_off296_inb : ∀ (arg12 : BitVec 32) (k1_hw48 : k1_chk48 arg12), ∀ a, (k1_off296 arg12) a + S1x16.size a ≤ S128x128.size a := fun arg12 k1_hw48 => k1_hw48.2.1
theorem k1_off297_inb : ∀ (arg12 : BitVec 32) (k1_hw48 : k1_chk48 arg12), ∀ a, (k1_off297 arg12) a + S1x16.size a ≤ S128x128.size a := fun arg12 k1_hw48 => k1_hw48.2.2.1
theorem k1_off298_inb : ∀ (arg12 : BitVec 32) (k1_hw48 : k1_chk48 arg12), ∀ a, (k1_off298 arg12) a + S1x16.size a ≤ S128x128.size a := fun arg12 k1_hw48 => k1_hw48.2.2.2.1
theorem k1_off299_inb : ∀ (arg12 : BitVec 32) (k1_hw48 : k1_chk48 arg12), ∀ a, (k1_off299 arg12) a + S1x16.size a ≤ S128x128.size a := fun arg12 k1_hw48 => k1_hw48.2.2.2.2.1
theorem k1_off300_inb : ∀ (arg12 : BitVec 32) (k1_hw48 : k1_chk48 arg12), ∀ a, (k1_off300 arg12) a + S1x16.size a ≤ S128x128.size a := fun arg12 k1_hw48 => k1_hw48.2.2.2.2.2.1
theorem k1_off301_inb : ∀ (arg12 : BitVec 32) (k1_hw48 : k1_chk48 arg12), ∀ a, (k1_off301 arg12) a + S1x16.size a ≤ S128x128.size a := fun arg12 k1_hw48 => k1_hw48.2.2.2.2.2.2.1
theorem k1_off302_inb : ∀ (arg12 : BitVec 32) (k1_hw48 : k1_chk48 arg12), ∀ a, (k1_off302 arg12) a + S1x16.size a ≤ S128x128.size a := fun arg12 k1_hw48 => k1_hw48.2.2.2.2.2.2.2

@[reducible] def k1_t38_loop : Scf.Loop 32 :=
  let c0_i32_205 : BitVec 32 := 0#32
  let c128_i32_206 : BitVec 32 := 128#32
  let v200 : BitVec 32 := Scalar.addi c0_i32_205 c128_i32_206
  let c1_i32_207 : BitVec 32 := 1#32
  ⟨c0_i32_205, v200, c1_i32_207⟩
def k1_off303 (k1_t38 : Fin k1_t38_loop.trips) : Fin 3 → Nat :=
  let c0_i32_497 : BitVec 32 := 0#32
  let v475 : Index := Scalar.indexCast c0_i32_497
  let c0_i32_205 : BitVec 32 := 0#32
  let c1_i32_207 : BitVec 32 := 1#32
  let arg9 : BitVec 32 := Scf.iv c0_i32_205 c1_i32_207 k1_t38
  let v476 : Index := Scalar.indexCast arg9
  let c0 : Index := 0#32
  ![0, v476.toNat, 0]
def k1_off304 (k1_t38 : Fin k1_t38_loop.trips) : Fin 3 → Nat :=
  let c0_i32_498 : BitVec 32 := 0#32
  let v479 : Index := Scalar.indexCast c0_i32_498
  let c0_i32_205 : BitVec 32 := 0#32
  let c1_i32_207 : BitVec 32 := 1#32
  let arg9 : BitVec 32 := Scf.iv c0_i32_205 c1_i32_207 k1_t38
  let v480 : Index := Scalar.indexCast arg9
  let c16 : Index := 16#32
  ![0, v480.toNat, 16]
def k1_off305 (k1_t38 : Fin k1_t38_loop.trips) : Fin 3 → Nat :=
  let c0_i32_499 : BitVec 32 := 0#32
  let v483 : Index := Scalar.indexCast c0_i32_499
  let c0_i32_205 : BitVec 32 := 0#32
  let c1_i32_207 : BitVec 32 := 1#32
  let arg9 : BitVec 32 := Scf.iv c0_i32_205 c1_i32_207 k1_t38
  let v484 : Index := Scalar.indexCast arg9
  let c32 : Index := 32#32
  ![0, v484.toNat, 32]
def k1_off306 (k1_t38 : Fin k1_t38_loop.trips) : Fin 3 → Nat :=
  let c0_i32_500 : BitVec 32 := 0#32
  let v487 : Index := Scalar.indexCast c0_i32_500
  let c0_i32_205 : BitVec 32 := 0#32
  let c1_i32_207 : BitVec 32 := 1#32
  let arg9 : BitVec 32 := Scf.iv c0_i32_205 c1_i32_207 k1_t38
  let v488 : Index := Scalar.indexCast arg9
  let c48 : Index := 48#32
  ![0, v488.toNat, 48]
def k1_off307 (k1_t38 : Fin k1_t38_loop.trips) : Fin 3 → Nat :=
  let c0_i32_501 : BitVec 32 := 0#32
  let v491 : Index := Scalar.indexCast c0_i32_501
  let c0_i32_205 : BitVec 32 := 0#32
  let c1_i32_207 : BitVec 32 := 1#32
  let arg9 : BitVec 32 := Scf.iv c0_i32_205 c1_i32_207 k1_t38
  let v492 : Index := Scalar.indexCast arg9
  let c64 : Index := 64#32
  ![0, v492.toNat, 64]
def k1_off308 (k1_t38 : Fin k1_t38_loop.trips) : Fin 3 → Nat :=
  let c0_i32_502 : BitVec 32 := 0#32
  let v495 : Index := Scalar.indexCast c0_i32_502
  let c0_i32_205 : BitVec 32 := 0#32
  let c1_i32_207 : BitVec 32 := 1#32
  let arg9 : BitVec 32 := Scf.iv c0_i32_205 c1_i32_207 k1_t38
  let v496 : Index := Scalar.indexCast arg9
  let c80 : Index := 80#32
  ![0, v496.toNat, 80]
def k1_off309 (k1_t38 : Fin k1_t38_loop.trips) : Fin 3 → Nat :=
  let c0_i32_503 : BitVec 32 := 0#32
  let v499 : Index := Scalar.indexCast c0_i32_503
  let c0_i32_205 : BitVec 32 := 0#32
  let c1_i32_207 : BitVec 32 := 1#32
  let arg9 : BitVec 32 := Scf.iv c0_i32_205 c1_i32_207 k1_t38
  let v500 : Index := Scalar.indexCast arg9
  let c96 : Index := 96#32
  ![0, v500.toNat, 96]
def k1_off310 (k1_t38 : Fin k1_t38_loop.trips) : Fin 3 → Nat :=
  let c0_i32_504 : BitVec 32 := 0#32
  let v503 : Index := Scalar.indexCast c0_i32_504
  let c0_i32_205 : BitVec 32 := 0#32
  let c1_i32_207 : BitVec 32 := 1#32
  let arg9 : BitVec 32 := Scf.iv c0_i32_205 c1_i32_207 k1_t38
  let v504 : Index := Scalar.indexCast arg9
  let c112 : Index := 112#32
  ![0, v504.toNat, 112]
def k1_off311 (k1_t38 : Fin k1_t38_loop.trips) : Fin 3 → Nat :=
  let c0_i32_505 : BitVec 32 := 0#32
  let v507 : Index := Scalar.indexCast c0_i32_505
  let c0_i32_205 : BitVec 32 := 0#32
  let c1_i32_207 : BitVec 32 := 1#32
  let arg9 : BitVec 32 := Scf.iv c0_i32_205 c1_i32_207 k1_t38
  let v508 : Index := Scalar.indexCast arg9
  let c0_506 : Index := 0#32
  ![0, v508.toNat, 0]
@[reducible] def k1_t39_loop (i : grid1.Coords) (k1_t38 : Fin k1_t38_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off312 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off313 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off314 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off315 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off316 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off317 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off318 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off319 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk50 (arg12 : BitVec 32) : Prop :=
  (∀ a, (k1_off312 arg12) a + S1x16.size a ≤ S128x128.size a) ∧
  (∀ a, (k1_off313 arg12) a + S1x16.size a ≤ S128x128.size a) ∧
  (∀ a, (k1_off314 arg12) a + S1x16.size a ≤ S128x128.size a) ∧
  (∀ a, (k1_off315 arg12) a + S1x16.size a ≤ S128x128.size a) ∧
  (∀ a, (k1_off316 arg12) a + S1x16.size a ≤ S128x128.size a) ∧
  (∀ a, (k1_off317 arg12) a + S1x16.size a ≤ S128x128.size a) ∧
  (∀ a, (k1_off318 arg12) a + S1x16.size a ≤ S128x128.size a) ∧
  (∀ a, (k1_off319 arg12) a + S1x16.size a ≤ S128x128.size a)
theorem k1_off312_inb : ∀ (arg12 : BitVec 32) (k1_hw50 : k1_chk50 arg12), ∀ a, (k1_off312 arg12) a + S1x16.size a ≤ S128x128.size a := fun arg12 k1_hw50 => k1_hw50.1
theorem k1_off313_inb : ∀ (arg12 : BitVec 32) (k1_hw50 : k1_chk50 arg12), ∀ a, (k1_off313 arg12) a + S1x16.size a ≤ S128x128.size a := fun arg12 k1_hw50 => k1_hw50.2.1
theorem k1_off314_inb : ∀ (arg12 : BitVec 32) (k1_hw50 : k1_chk50 arg12), ∀ a, (k1_off314 arg12) a + S1x16.size a ≤ S128x128.size a := fun arg12 k1_hw50 => k1_hw50.2.2.1
theorem k1_off315_inb : ∀ (arg12 : BitVec 32) (k1_hw50 : k1_chk50 arg12), ∀ a, (k1_off315 arg12) a + S1x16.size a ≤ S128x128.size a := fun arg12 k1_hw50 => k1_hw50.2.2.2.1
theorem k1_off316_inb : ∀ (arg12 : BitVec 32) (k1_hw50 : k1_chk50 arg12), ∀ a, (k1_off316 arg12) a + S1x16.size a ≤ S128x128.size a := fun arg12 k1_hw50 => k1_hw50.2.2.2.2.1
theorem k1_off317_inb : ∀ (arg12 : BitVec 32) (k1_hw50 : k1_chk50 arg12), ∀ a, (k1_off317 arg12) a + S1x16.size a ≤ S128x128.size a := fun arg12 k1_hw50 => k1_hw50.2.2.2.2.2.1
theorem k1_off318_inb : ∀ (arg12 : BitVec 32) (k1_hw50 : k1_chk50 arg12), ∀ a, (k1_off318 arg12) a + S1x16.size a ≤ S128x128.size a := fun arg12 k1_hw50 => k1_hw50.2.2.2.2.2.2.1
theorem k1_off319_inb : ∀ (arg12 : BitVec 32) (k1_hw50 : k1_chk50 arg12), ∀ a, (k1_off319 arg12) a + S1x16.size a ≤ S128x128.size a := fun arg12 k1_hw50 => k1_hw50.2.2.2.2.2.2.2

@[reducible] def k1_t40_loop (i : grid1.Coords) (k1_t38 : Fin k1_t38_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk49 (i : grid1.Coords) (k1_t38 : Fin k1_t38_loop.trips) (v519 : BitVec 32) : Prop :=
  ((k1_t39_loop i k1_t38 v519).OK) ∧
  ((k1_t40_loop i k1_t38 v519).OK)
theorem k1_t39_ok : ∀ (i : grid1.Coords) (k1_t38 : Fin k1_t38_loop.trips) (v519 : BitVec 32) (k1_hw49 : k1_chk49 i k1_t38 v519), (k1_t39_loop i k1_t38 v519).OK := fun i k1_t38 v519 k1_hw49 => k1_hw49.1
theorem k1_t40_ok : ∀ (i : grid1.Coords) (k1_t38 : Fin k1_t38_loop.trips) (v519 : BitVec 32) (k1_hw49 : k1_chk49 i k1_t38 v519), (k1_t40_loop i k1_t38 v519).OK := fun i k1_t38 v519 k1_hw49 => k1_hw49.2

def k1_off320 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off321 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off322 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off323 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off324 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off325 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off326 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off327 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk51 (arg12 : BitVec 32) : Prop :=
  (∀ a, (k1_off320 arg12) a + S1x16.size a ≤ S128x128.size a) ∧
  (∀ a, (k1_off321 arg12) a + S1x16.size a ≤ S128x128.size a) ∧
  (∀ a, (k1_off322 arg12) a + S1x16.size a ≤ S128x128.size a) ∧
  (∀ a, (k1_off323 arg12) a + S1x16.size a ≤ S128x128.size a) ∧
  (∀ a, (k1_off324 arg12) a + S1x16.size a ≤ S128x128.size a) ∧
  (∀ a, (k1_off325 arg12) a + S1x16.size a ≤ S128x128.size a) ∧
  (∀ a, (k1_off326 arg12) a + S1x16.size a ≤ S128x128.size a) ∧
  (∀ a, (k1_off327 arg12) a + S1x16.size a ≤ S128x128.size a)
theorem k1_off320_inb : ∀ (arg12 : BitVec 32) (k1_hw51 : k1_chk51 arg12), ∀ a, (k1_off320 arg12) a + S1x16.size a ≤ S128x128.size a := fun arg12 k1_hw51 => k1_hw51.1
theorem k1_off321_inb : ∀ (arg12 : BitVec 32) (k1_hw51 : k1_chk51 arg12), ∀ a, (k1_off321 arg12) a + S1x16.size a ≤ S128x128.size a := fun arg12 k1_hw51 => k1_hw51.2.1
theorem k1_off322_inb : ∀ (arg12 : BitVec 32) (k1_hw51 : k1_chk51 arg12), ∀ a, (k1_off322 arg12) a + S1x16.size a ≤ S128x128.size a := fun arg12 k1_hw51 => k1_hw51.2.2.1
theorem k1_off323_inb : ∀ (arg12 : BitVec 32) (k1_hw51 : k1_chk51 arg12), ∀ a, (k1_off323 arg12) a + S1x16.size a ≤ S128x128.size a := fun arg12 k1_hw51 => k1_hw51.2.2.2.1
theorem k1_off324_inb : ∀ (arg12 : BitVec 32) (k1_hw51 : k1_chk51 arg12), ∀ a, (k1_off324 arg12) a + S1x16.size a ≤ S128x128.size a := fun arg12 k1_hw51 => k1_hw51.2.2.2.2.1
theorem k1_off325_inb : ∀ (arg12 : BitVec 32) (k1_hw51 : k1_chk51 arg12), ∀ a, (k1_off325 arg12) a + S1x16.size a ≤ S128x128.size a := fun arg12 k1_hw51 => k1_hw51.2.2.2.2.2.1
theorem k1_off326_inb : ∀ (arg12 : BitVec 32) (k1_hw51 : k1_chk51 arg12), ∀ a, (k1_off326 arg12) a + S1x16.size a ≤ S128x128.size a := fun arg12 k1_hw51 => k1_hw51.2.2.2.2.2.2.1
theorem k1_off327_inb : ∀ (arg12 : BitVec 32) (k1_hw51 : k1_chk51 arg12), ∀ a, (k1_off327 arg12) a + S1x16.size a ≤ S128x128.size a := fun arg12 k1_hw51 => k1_hw51.2.2.2.2.2.2.2

@[reducible] def k1_t41_loop (i : grid1.Coords) (k1_t38 : Fin k1_t38_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off328 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off329 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off330 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off331 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off332 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off333 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off334 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off335 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk53 (arg12 : BitVec 32) : Prop :=
  (∀ a, (k1_off328 arg12) a + S1x16.size a ≤ S128x128.size a) ∧
  (∀ a, (k1_off329 arg12) a + S1x16.size a ≤ S128x128.size a) ∧
  (∀ a, (k1_off330 arg12) a + S1x16.size a ≤ S128x128.size a) ∧
  (∀ a, (k1_off331 arg12) a + S1x16.size a ≤ S128x128.size a) ∧
  (∀ a, (k1_off332 arg12) a + S1x16.size a ≤ S128x128.size a) ∧
  (∀ a, (k1_off333 arg12) a + S1x16.size a ≤ S128x128.size a) ∧
  (∀ a, (k1_off334 arg12) a + S1x16.size a ≤ S128x128.size a) ∧
  (∀ a, (k1_off335 arg12) a + S1x16.size a ≤ S128x128.size a)
theorem k1_off328_inb : ∀ (arg12 : BitVec 32) (k1_hw53 : k1_chk53 arg12), ∀ a, (k1_off328 arg12) a + S1x16.size a ≤ S128x128.size a := fun arg12 k1_hw53 => k1_hw53.1
theorem k1_off329_inb : ∀ (arg12 : BitVec 32) (k1_hw53 : k1_chk53 arg12), ∀ a, (k1_off329 arg12) a + S1x16.size a ≤ S128x128.size a := fun arg12 k1_hw53 => k1_hw53.2.1
theorem k1_off330_inb : ∀ (arg12 : BitVec 32) (k1_hw53 : k1_chk53 arg12), ∀ a, (k1_off330 arg12) a + S1x16.size a ≤ S128x128.size a := fun arg12 k1_hw53 => k1_hw53.2.2.1
theorem k1_off331_inb : ∀ (arg12 : BitVec 32) (k1_hw53 : k1_chk53 arg12), ∀ a, (k1_off331 arg12) a + S1x16.size a ≤ S128x128.size a := fun arg12 k1_hw53 => k1_hw53.2.2.2.1
theorem k1_off332_inb : ∀ (arg12 : BitVec 32) (k1_hw53 : k1_chk53 arg12), ∀ a, (k1_off332 arg12) a + S1x16.size a ≤ S128x128.size a := fun arg12 k1_hw53 => k1_hw53.2.2.2.2.1
theorem k1_off333_inb : ∀ (arg12 : BitVec 32) (k1_hw53 : k1_chk53 arg12), ∀ a, (k1_off333 arg12) a + S1x16.size a ≤ S128x128.size a := fun arg12 k1_hw53 => k1_hw53.2.2.2.2.2.1
theorem k1_off334_inb : ∀ (arg12 : BitVec 32) (k1_hw53 : k1_chk53 arg12), ∀ a, (k1_off334 arg12) a + S1x16.size a ≤ S128x128.size a := fun arg12 k1_hw53 => k1_hw53.2.2.2.2.2.2.1
theorem k1_off335_inb : ∀ (arg12 : BitVec 32) (k1_hw53 : k1_chk53 arg12), ∀ a, (k1_off335 arg12) a + S1x16.size a ≤ S128x128.size a := fun arg12 k1_hw53 => k1_hw53.2.2.2.2.2.2.2

@[reducible] def k1_t42_loop (i : grid1.Coords) (k1_t38 : Fin k1_t38_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk52 (i : grid1.Coords) (k1_t38 : Fin k1_t38_loop.trips) (v540 : BitVec 32) : Prop :=
  ((k1_t41_loop i k1_t38 v540).OK) ∧
  ((k1_t42_loop i k1_t38 v540).OK)
theorem k1_t41_ok : ∀ (i : grid1.Coords) (k1_t38 : Fin k1_t38_loop.trips) (v540 : BitVec 32) (k1_hw52 : k1_chk52 i k1_t38 v540), (k1_t41_loop i k1_t38 v540).OK := fun i k1_t38 v540 k1_hw52 => k1_hw52.1
theorem k1_t42_ok : ∀ (i : grid1.Coords) (k1_t38 : Fin k1_t38_loop.trips) (v540 : BitVec 32) (k1_hw52 : k1_chk52 i k1_t38 v540), (k1_t42_loop i k1_t38 v540).OK := fun i k1_t38 v540 k1_hw52 => k1_hw52.2

def k1_off336 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off337 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off338 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off339 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off340 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off341 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off342 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off343 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk54 (arg12 : BitVec 32) : Prop :=
  (∀ a, (k1_off336 arg12) a + S1x16.size a ≤ S128x128.size a) ∧
  (∀ a, (k1_off337 arg12) a + S1x16.size a ≤ S128x128.size a) ∧
  (∀ a, (k1_off338 arg12) a + S1x16.size a ≤ S128x128.size a) ∧
  (∀ a, (k1_off339 arg12) a + S1x16.size a ≤ S128x128.size a) ∧
  (∀ a, (k1_off340 arg12) a + S1x16.size a ≤ S128x128.size a) ∧
  (∀ a, (k1_off341 arg12) a + S1x16.size a ≤ S128x128.size a) ∧
  (∀ a, (k1_off342 arg12) a + S1x16.size a ≤ S128x128.size a) ∧
  (∀ a, (k1_off343 arg12) a + S1x16.size a ≤ S128x128.size a)
theorem k1_off336_inb : ∀ (arg12 : BitVec 32) (k1_hw54 : k1_chk54 arg12), ∀ a, (k1_off336 arg12) a + S1x16.size a ≤ S128x128.size a := fun arg12 k1_hw54 => k1_hw54.1
theorem k1_off337_inb : ∀ (arg12 : BitVec 32) (k1_hw54 : k1_chk54 arg12), ∀ a, (k1_off337 arg12) a + S1x16.size a ≤ S128x128.size a := fun arg12 k1_hw54 => k1_hw54.2.1
theorem k1_off338_inb : ∀ (arg12 : BitVec 32) (k1_hw54 : k1_chk54 arg12), ∀ a, (k1_off338 arg12) a + S1x16.size a ≤ S128x128.size a := fun arg12 k1_hw54 => k1_hw54.2.2.1
theorem k1_off339_inb : ∀ (arg12 : BitVec 32) (k1_hw54 : k1_chk54 arg12), ∀ a, (k1_off339 arg12) a + S1x16.size a ≤ S128x128.size a := fun arg12 k1_hw54 => k1_hw54.2.2.2.1
theorem k1_off340_inb : ∀ (arg12 : BitVec 32) (k1_hw54 : k1_chk54 arg12), ∀ a, (k1_off340 arg12) a + S1x16.size a ≤ S128x128.size a := fun arg12 k1_hw54 => k1_hw54.2.2.2.2.1
theorem k1_off341_inb : ∀ (arg12 : BitVec 32) (k1_hw54 : k1_chk54 arg12), ∀ a, (k1_off341 arg12) a + S1x16.size a ≤ S128x128.size a := fun arg12 k1_hw54 => k1_hw54.2.2.2.2.2.1
theorem k1_off342_inb : ∀ (arg12 : BitVec 32) (k1_hw54 : k1_chk54 arg12), ∀ a, (k1_off342 arg12) a + S1x16.size a ≤ S128x128.size a := fun arg12 k1_hw54 => k1_hw54.2.2.2.2.2.2.1
theorem k1_off343_inb : ∀ (arg12 : BitVec 32) (k1_hw54 : k1_chk54 arg12), ∀ a, (k1_off343 arg12) a + S1x16.size a ≤ S128x128.size a := fun arg12 k1_hw54 => k1_hw54.2.2.2.2.2.2.2

@[reducible] def k1_t43_loop (i : grid1.Coords) (k1_t38 : Fin k1_t38_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off344 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off345 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off346 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off347 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off348 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off349 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off350 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off351 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk56 (arg12 : BitVec 32) : Prop :=
  (∀ a, (k1_off344 arg12) a + S1x16.size a ≤ S128x128.size a) ∧
  (∀ a, (k1_off345 arg12) a + S1x16.size a ≤ S128x128.size a) ∧
  (∀ a, (k1_off346 arg12) a + S1x16.size a ≤ S128x128.size a) ∧
  (∀ a, (k1_off347 arg12) a + S1x16.size a ≤ S128x128.size a) ∧
  (∀ a, (k1_off348 arg12) a + S1x16.size a ≤ S128x128.size a) ∧
  (∀ a, (k1_off349 arg12) a + S1x16.size a ≤ S128x128.size a) ∧
  (∀ a, (k1_off350 arg12) a + S1x16.size a ≤ S128x128.size a) ∧
  (∀ a, (k1_off351 arg12) a + S1x16.size a ≤ S128x128.size a)
theorem k1_off344_inb : ∀ (arg12 : BitVec 32) (k1_hw56 : k1_chk56 arg12), ∀ a, (k1_off344 arg12) a + S1x16.size a ≤ S128x128.size a := fun arg12 k1_hw56 => k1_hw56.1
theorem k1_off345_inb : ∀ (arg12 : BitVec 32) (k1_hw56 : k1_chk56 arg12), ∀ a, (k1_off345 arg12) a + S1x16.size a ≤ S128x128.size a := fun arg12 k1_hw56 => k1_hw56.2.1
theorem k1_off346_inb : ∀ (arg12 : BitVec 32) (k1_hw56 : k1_chk56 arg12), ∀ a, (k1_off346 arg12) a + S1x16.size a ≤ S128x128.size a := fun arg12 k1_hw56 => k1_hw56.2.2.1
theorem k1_off347_inb : ∀ (arg12 : BitVec 32) (k1_hw56 : k1_chk56 arg12), ∀ a, (k1_off347 arg12) a + S1x16.size a ≤ S128x128.size a := fun arg12 k1_hw56 => k1_hw56.2.2.2.1
theorem k1_off348_inb : ∀ (arg12 : BitVec 32) (k1_hw56 : k1_chk56 arg12), ∀ a, (k1_off348 arg12) a + S1x16.size a ≤ S128x128.size a := fun arg12 k1_hw56 => k1_hw56.2.2.2.2.1
theorem k1_off349_inb : ∀ (arg12 : BitVec 32) (k1_hw56 : k1_chk56 arg12), ∀ a, (k1_off349 arg12) a + S1x16.size a ≤ S128x128.size a := fun arg12 k1_hw56 => k1_hw56.2.2.2.2.2.1
theorem k1_off350_inb : ∀ (arg12 : BitVec 32) (k1_hw56 : k1_chk56 arg12), ∀ a, (k1_off350 arg12) a + S1x16.size a ≤ S128x128.size a := fun arg12 k1_hw56 => k1_hw56.2.2.2.2.2.2.1
theorem k1_off351_inb : ∀ (arg12 : BitVec 32) (k1_hw56 : k1_chk56 arg12), ∀ a, (k1_off351 arg12) a + S1x16.size a ≤ S128x128.size a := fun arg12 k1_hw56 => k1_hw56.2.2.2.2.2.2.2

@[reducible] def k1_t44_loop (i : grid1.Coords) (k1_t38 : Fin k1_t38_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk55 (i : grid1.Coords) (k1_t38 : Fin k1_t38_loop.trips) (v561 : BitVec 32) : Prop :=
  ((k1_t43_loop i k1_t38 v561).OK) ∧
  ((k1_t44_loop i k1_t38 v561).OK)
theorem k1_t43_ok : ∀ (i : grid1.Coords) (k1_t38 : Fin k1_t38_loop.trips) (v561 : BitVec 32) (k1_hw55 : k1_chk55 i k1_t38 v561), (k1_t43_loop i k1_t38 v561).OK := fun i k1_t38 v561 k1_hw55 => k1_hw55.1
theorem k1_t44_ok : ∀ (i : grid1.Coords) (k1_t38 : Fin k1_t38_loop.trips) (v561 : BitVec 32) (k1_hw55 : k1_chk55 i k1_t38 v561), (k1_t44_loop i k1_t38 v561).OK := fun i k1_t38 v561 k1_hw55 => k1_hw55.2

def k1_off352 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off353 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off354 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off355 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off356 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off357 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off358 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off359 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk57 (arg12 : BitVec 32) : Prop :=
  (∀ a, (k1_off352 arg12) a + S1x16.size a ≤ S128x128.size a) ∧
  (∀ a, (k1_off353 arg12) a + S1x16.size a ≤ S128x128.size a) ∧
  (∀ a, (k1_off354 arg12) a + S1x16.size a ≤ S128x128.size a) ∧
  (∀ a, (k1_off355 arg12) a + S1x16.size a ≤ S128x128.size a) ∧
  (∀ a, (k1_off356 arg12) a + S1x16.size a ≤ S128x128.size a) ∧
  (∀ a, (k1_off357 arg12) a + S1x16.size a ≤ S128x128.size a) ∧
  (∀ a, (k1_off358 arg12) a + S1x16.size a ≤ S128x128.size a) ∧
  (∀ a, (k1_off359 arg12) a + S1x16.size a ≤ S128x128.size a)
theorem k1_off352_inb : ∀ (arg12 : BitVec 32) (k1_hw57 : k1_chk57 arg12), ∀ a, (k1_off352 arg12) a + S1x16.size a ≤ S128x128.size a := fun arg12 k1_hw57 => k1_hw57.1
theorem k1_off353_inb : ∀ (arg12 : BitVec 32) (k1_hw57 : k1_chk57 arg12), ∀ a, (k1_off353 arg12) a + S1x16.size a ≤ S128x128.size a := fun arg12 k1_hw57 => k1_hw57.2.1
theorem k1_off354_inb : ∀ (arg12 : BitVec 32) (k1_hw57 : k1_chk57 arg12), ∀ a, (k1_off354 arg12) a + S1x16.size a ≤ S128x128.size a := fun arg12 k1_hw57 => k1_hw57.2.2.1
theorem k1_off355_inb : ∀ (arg12 : BitVec 32) (k1_hw57 : k1_chk57 arg12), ∀ a, (k1_off355 arg12) a + S1x16.size a ≤ S128x128.size a := fun arg12 k1_hw57 => k1_hw57.2.2.2.1
theorem k1_off356_inb : ∀ (arg12 : BitVec 32) (k1_hw57 : k1_chk57 arg12), ∀ a, (k1_off356 arg12) a + S1x16.size a ≤ S128x128.size a := fun arg12 k1_hw57 => k1_hw57.2.2.2.2.1
theorem k1_off357_inb : ∀ (arg12 : BitVec 32) (k1_hw57 : k1_chk57 arg12), ∀ a, (k1_off357 arg12) a + S1x16.size a ≤ S128x128.size a := fun arg12 k1_hw57 => k1_hw57.2.2.2.2.2.1
theorem k1_off358_inb : ∀ (arg12 : BitVec 32) (k1_hw57 : k1_chk57 arg12), ∀ a, (k1_off358 arg12) a + S1x16.size a ≤ S128x128.size a := fun arg12 k1_hw57 => k1_hw57.2.2.2.2.2.2.1
theorem k1_off359_inb : ∀ (arg12 : BitVec 32) (k1_hw57 : k1_chk57 arg12), ∀ a, (k1_off359 arg12) a + S1x16.size a ≤ S128x128.size a := fun arg12 k1_hw57 => k1_hw57.2.2.2.2.2.2.2

@[reducible] def k1_t45_loop (i : grid1.Coords) (k1_t38 : Fin k1_t38_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off360 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off361 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off362 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off363 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off364 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off365 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off366 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off367 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk59 (arg12 : BitVec 32) : Prop :=
  (∀ a, (k1_off360 arg12) a + S1x16.size a ≤ S128x128.size a) ∧
  (∀ a, (k1_off361 arg12) a + S1x16.size a ≤ S128x128.size a) ∧
  (∀ a, (k1_off362 arg12) a + S1x16.size a ≤ S128x128.size a) ∧
  (∀ a, (k1_off363 arg12) a + S1x16.size a ≤ S128x128.size a) ∧
  (∀ a, (k1_off364 arg12) a + S1x16.size a ≤ S128x128.size a) ∧
  (∀ a, (k1_off365 arg12) a + S1x16.size a ≤ S128x128.size a) ∧
  (∀ a, (k1_off366 arg12) a + S1x16.size a ≤ S128x128.size a) ∧
  (∀ a, (k1_off367 arg12) a + S1x16.size a ≤ S128x128.size a)
theorem k1_off360_inb : ∀ (arg12 : BitVec 32) (k1_hw59 : k1_chk59 arg12), ∀ a, (k1_off360 arg12) a + S1x16.size a ≤ S128x128.size a := fun arg12 k1_hw59 => k1_hw59.1
theorem k1_off361_inb : ∀ (arg12 : BitVec 32) (k1_hw59 : k1_chk59 arg12), ∀ a, (k1_off361 arg12) a + S1x16.size a ≤ S128x128.size a := fun arg12 k1_hw59 => k1_hw59.2.1
theorem k1_off362_inb : ∀ (arg12 : BitVec 32) (k1_hw59 : k1_chk59 arg12), ∀ a, (k1_off362 arg12) a + S1x16.size a ≤ S128x128.size a := fun arg12 k1_hw59 => k1_hw59.2.2.1
theorem k1_off363_inb : ∀ (arg12 : BitVec 32) (k1_hw59 : k1_chk59 arg12), ∀ a, (k1_off363 arg12) a + S1x16.size a ≤ S128x128.size a := fun arg12 k1_hw59 => k1_hw59.2.2.2.1
theorem k1_off364_inb : ∀ (arg12 : BitVec 32) (k1_hw59 : k1_chk59 arg12), ∀ a, (k1_off364 arg12) a + S1x16.size a ≤ S128x128.size a := fun arg12 k1_hw59 => k1_hw59.2.2.2.2.1
theorem k1_off365_inb : ∀ (arg12 : BitVec 32) (k1_hw59 : k1_chk59 arg12), ∀ a, (k1_off365 arg12) a + S1x16.size a ≤ S128x128.size a := fun arg12 k1_hw59 => k1_hw59.2.2.2.2.2.1
theorem k1_off366_inb : ∀ (arg12 : BitVec 32) (k1_hw59 : k1_chk59 arg12), ∀ a, (k1_off366 arg12) a + S1x16.size a ≤ S128x128.size a := fun arg12 k1_hw59 => k1_hw59.2.2.2.2.2.2.1
theorem k1_off367_inb : ∀ (arg12 : BitVec 32) (k1_hw59 : k1_chk59 arg12), ∀ a, (k1_off367 arg12) a + S1x16.size a ≤ S128x128.size a := fun arg12 k1_hw59 => k1_hw59.2.2.2.2.2.2.2

@[reducible] def k1_t46_loop (i : grid1.Coords) (k1_t38 : Fin k1_t38_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c512_i32_203 : BitVec 32 := 512#32
  let v199 : BitVec 32 := Scalar.addi v2 c512_i32_203
  let c0_i32_205 : BitVec 32 := 0#32
  let c1_i32_207 : BitVec 32 := 1#32
  let arg9 : BitVec 32 := Scf.iv c0_i32_205 c1_i32_207 k1_t38
  let v473 : BitVec 32 := Scalar.addi v199 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk58 (i : grid1.Coords) (k1_t38 : Fin k1_t38_loop.trips) (v582 : BitVec 32) : Prop :=
  ((k1_t45_loop i k1_t38 v582).OK) ∧
  ((k1_t46_loop i k1_t38 v582).OK)
theorem k1_t45_ok : ∀ (i : grid1.Coords) (k1_t38 : Fin k1_t38_loop.trips) (v582 : BitVec 32) (k1_hw58 : k1_chk58 i k1_t38 v582), (k1_t45_loop i k1_t38 v582).OK := fun i k1_t38 v582 k1_hw58 => k1_hw58.1
theorem k1_t46_ok : ∀ (i : grid1.Coords) (k1_t38 : Fin k1_t38_loop.trips) (v582 : BitVec 32) (k1_hw58 : k1_chk58 i k1_t38 v582), (k1_t46_loop i k1_t38 v582).OK := fun i k1_t38 v582 k1_hw58 => k1_hw58.2

def k1_off368 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off369 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off370 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off371 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off372 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off373 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off374 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off375 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk60 (arg12 : BitVec 32) : Prop :=
  (∀ a, (k1_off368 arg12) a + S1x16.size a ≤ S128x128.size a) ∧
  (∀ a, (k1_off369 arg12) a + S1x16.size a ≤ S128x128.size a) ∧
  (∀ a, (k1_off370 arg12) a + S1x16.size a ≤ S128x128.size a) ∧
  (∀ a, (k1_off371 arg12) a + S1x16.size a ≤ S128x128.size a) ∧
  (∀ a, (k1_off372 arg12) a + S1x16.size a ≤ S128x128.size a) ∧
  (∀ a, (k1_off373 arg12) a + S1x16.size a ≤ S128x128.size a) ∧
  (∀ a, (k1_off374 arg12) a + S1x16.size a ≤ S128x128.size a) ∧
  (∀ a, (k1_off375 arg12) a + S1x16.size a ≤ S128x128.size a)
theorem k1_off368_inb : ∀ (arg12 : BitVec 32) (k1_hw60 : k1_chk60 arg12), ∀ a, (k1_off368 arg12) a + S1x16.size a ≤ S128x128.size a := fun arg12 k1_hw60 => k1_hw60.1
theorem k1_off369_inb : ∀ (arg12 : BitVec 32) (k1_hw60 : k1_chk60 arg12), ∀ a, (k1_off369 arg12) a + S1x16.size a ≤ S128x128.size a := fun arg12 k1_hw60 => k1_hw60.2.1
theorem k1_off370_inb : ∀ (arg12 : BitVec 32) (k1_hw60 : k1_chk60 arg12), ∀ a, (k1_off370 arg12) a + S1x16.size a ≤ S128x128.size a := fun arg12 k1_hw60 => k1_hw60.2.2.1
theorem k1_off371_inb : ∀ (arg12 : BitVec 32) (k1_hw60 : k1_chk60 arg12), ∀ a, (k1_off371 arg12) a + S1x16.size a ≤ S128x128.size a := fun arg12 k1_hw60 => k1_hw60.2.2.2.1
theorem k1_off372_inb : ∀ (arg12 : BitVec 32) (k1_hw60 : k1_chk60 arg12), ∀ a, (k1_off372 arg12) a + S1x16.size a ≤ S128x128.size a := fun arg12 k1_hw60 => k1_hw60.2.2.2.2.1
theorem k1_off373_inb : ∀ (arg12 : BitVec 32) (k1_hw60 : k1_chk60 arg12), ∀ a, (k1_off373 arg12) a + S1x16.size a ≤ S128x128.size a := fun arg12 k1_hw60 => k1_hw60.2.2.2.2.2.1
theorem k1_off374_inb : ∀ (arg12 : BitVec 32) (k1_hw60 : k1_chk60 arg12), ∀ a, (k1_off374 arg12) a + S1x16.size a ≤ S128x128.size a := fun arg12 k1_hw60 => k1_hw60.2.2.2.2.2.2.1
theorem k1_off375_inb : ∀ (arg12 : BitVec 32) (k1_hw60 : k1_chk60 arg12), ∀ a, (k1_off375 arg12) a + S1x16.size a ≤ S128x128.size a := fun arg12 k1_hw60 => k1_hw60.2.2.2.2.2.2.2

@[reducible] def k1_t47_loop : Scf.Loop 32 :=
  let c0_i32_243 : BitVec 32 := 0#32
  let c128_i32_244 : BitVec 32 := 128#32
  let v236 : BitVec 32 := Scalar.addi c0_i32_243 c128_i32_244
  let c1_i32_245 : BitVec 32 := 1#32
  ⟨c0_i32_243, v236, c1_i32_245⟩
def k1_off376 (k1_t47 : Fin k1_t47_loop.trips) : Fin 3 → Nat :=
  let c1_i32_497 : BitVec 32 := 1#32
  let v475 : Index := Scalar.indexCast c1_i32_497
  let c0_i32_243 : BitVec 32 := 0#32
  let c1_i32_245 : BitVec 32 := 1#32
  let arg9 : BitVec 32 := Scf.iv c0_i32_243 c1_i32_245 k1_t47
  let v476 : Index := Scalar.indexCast arg9
  let c0 : Index := 0#32
  ![1, v476.toNat, 0]
def k1_off377 (k1_t47 : Fin k1_t47_loop.trips) : Fin 3 → Nat :=
  let c1_i32_498 : BitVec 32 := 1#32
  let v479 : Index := Scalar.indexCast c1_i32_498
  let c0_i32_243 : BitVec 32 := 0#32
  let c1_i32_245 : BitVec 32 := 1#32
  let arg9 : BitVec 32 := Scf.iv c0_i32_243 c1_i32_245 k1_t47
  let v480 : Index := Scalar.indexCast arg9
  let c16 : Index := 16#32
  ![1, v480.toNat, 16]
def k1_off378 (k1_t47 : Fin k1_t47_loop.trips) : Fin 3 → Nat :=
  let c1_i32_499 : BitVec 32 := 1#32
  let v483 : Index := Scalar.indexCast c1_i32_499
  let c0_i32_243 : BitVec 32 := 0#32
  let c1_i32_245 : BitVec 32 := 1#32
  let arg9 : BitVec 32 := Scf.iv c0_i32_243 c1_i32_245 k1_t47
  let v484 : Index := Scalar.indexCast arg9
  let c32 : Index := 32#32
  ![1, v484.toNat, 32]
def k1_off379 (k1_t47 : Fin k1_t47_loop.trips) : Fin 3 → Nat :=
  let c1_i32_500 : BitVec 32 := 1#32
  let v487 : Index := Scalar.indexCast c1_i32_500
  let c0_i32_243 : BitVec 32 := 0#32
  let c1_i32_245 : BitVec 32 := 1#32
  let arg9 : BitVec 32 := Scf.iv c0_i32_243 c1_i32_245 k1_t47
  let v488 : Index := Scalar.indexCast arg9
  let c48 : Index := 48#32
  ![1, v488.toNat, 48]
def k1_off380 (k1_t47 : Fin k1_t47_loop.trips) : Fin 3 → Nat :=
  let c1_i32_501 : BitVec 32 := 1#32
  let v491 : Index := Scalar.indexCast c1_i32_501
  let c0_i32_243 : BitVec 32 := 0#32
  let c1_i32_245 : BitVec 32 := 1#32
  let arg9 : BitVec 32 := Scf.iv c0_i32_243 c1_i32_245 k1_t47
  let v492 : Index := Scalar.indexCast arg9
  let c64 : Index := 64#32
  ![1, v492.toNat, 64]
def k1_off381 (k1_t47 : Fin k1_t47_loop.trips) : Fin 3 → Nat :=
  let c1_i32_502 : BitVec 32 := 1#32
  let v495 : Index := Scalar.indexCast c1_i32_502
  let c0_i32_243 : BitVec 32 := 0#32
  let c1_i32_245 : BitVec 32 := 1#32
  let arg9 : BitVec 32 := Scf.iv c0_i32_243 c1_i32_245 k1_t47
  let v496 : Index := Scalar.indexCast arg9
  let c80 : Index := 80#32
  ![1, v496.toNat, 80]
def k1_off382 (k1_t47 : Fin k1_t47_loop.trips) : Fin 3 → Nat :=
  let c1_i32_503 : BitVec 32 := 1#32
  let v499 : Index := Scalar.indexCast c1_i32_503
  let c0_i32_243 : BitVec 32 := 0#32
  let c1_i32_245 : BitVec 32 := 1#32
  let arg9 : BitVec 32 := Scf.iv c0_i32_243 c1_i32_245 k1_t47
  let v500 : Index := Scalar.indexCast arg9
  let c96 : Index := 96#32
  ![1, v500.toNat, 96]
def k1_off383 (k1_t47 : Fin k1_t47_loop.trips) : Fin 3 → Nat :=
  let c1_i32_504 : BitVec 32 := 1#32
  let v503 : Index := Scalar.indexCast c1_i32_504
  let c0_i32_243 : BitVec 32 := 0#32
  let c1_i32_245 : BitVec 32 := 1#32
  let arg9 : BitVec 32 := Scf.iv c0_i32_243 c1_i32_245 k1_t47
  let v504 : Index := Scalar.indexCast arg9
  let c112 : Index := 112#32
  ![1, v504.toNat, 112]
def k1_off384 (k1_t47 : Fin k1_t47_loop.trips) : Fin 3 → Nat :=
  let c1_i32_505 : BitVec 32 := 1#32
  let v507 : Index := Scalar.indexCast c1_i32_505
  let c0_i32_243 : BitVec 32 := 0#32
  let c1_i32_245 : BitVec 32 := 1#32
  let arg9 : BitVec 32 := Scf.iv c0_i32_243 c1_i32_245 k1_t47
  let v508 : Index := Scalar.indexCast arg9
  let c0_506 : Index := 0#32
  ![1, v508.toNat, 0]
@[reducible] def k1_t48_loop (i : grid1.Coords) (k1_t47 : Fin k1_t47_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off385 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off386 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off387 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off388 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off389 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off390 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off391 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off392 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk62 (arg12 : BitVec 32) : Prop :=
  (∀ a, (k1_off385 arg12) a + S1x16.size a ≤ S128x128.size a) ∧
  (∀ a, (k1_off386 arg12) a + S1x16.size a ≤ S128x128.size a) ∧
  (∀ a, (k1_off387 arg12) a + S1x16.size a ≤ S128x128.size a) ∧
  (∀ a, (k1_off388 arg12) a + S1x16.size a ≤ S128x128.size a) ∧
  (∀ a, (k1_off389 arg12) a + S1x16.size a ≤ S128x128.size a) ∧
  (∀ a, (k1_off390 arg12) a + S1x16.size a ≤ S128x128.size a) ∧
  (∀ a, (k1_off391 arg12) a + S1x16.size a ≤ S128x128.size a) ∧
  (∀ a, (k1_off392 arg12) a + S1x16.size a ≤ S128x128.size a)
theorem k1_off385_inb : ∀ (arg12 : BitVec 32) (k1_hw62 : k1_chk62 arg12), ∀ a, (k1_off385 arg12) a + S1x16.size a ≤ S128x128.size a := fun arg12 k1_hw62 => k1_hw62.1
theorem k1_off386_inb : ∀ (arg12 : BitVec 32) (k1_hw62 : k1_chk62 arg12), ∀ a, (k1_off386 arg12) a + S1x16.size a ≤ S128x128.size a := fun arg12 k1_hw62 => k1_hw62.2.1
theorem k1_off387_inb : ∀ (arg12 : BitVec 32) (k1_hw62 : k1_chk62 arg12), ∀ a, (k1_off387 arg12) a + S1x16.size a ≤ S128x128.size a := fun arg12 k1_hw62 => k1_hw62.2.2.1
theorem k1_off388_inb : ∀ (arg12 : BitVec 32) (k1_hw62 : k1_chk62 arg12), ∀ a, (k1_off388 arg12) a + S1x16.size a ≤ S128x128.size a := fun arg12 k1_hw62 => k1_hw62.2.2.2.1
theorem k1_off389_inb : ∀ (arg12 : BitVec 32) (k1_hw62 : k1_chk62 arg12), ∀ a, (k1_off389 arg12) a + S1x16.size a ≤ S128x128.size a := fun arg12 k1_hw62 => k1_hw62.2.2.2.2.1
theorem k1_off390_inb : ∀ (arg12 : BitVec 32) (k1_hw62 : k1_chk62 arg12), ∀ a, (k1_off390 arg12) a + S1x16.size a ≤ S128x128.size a := fun arg12 k1_hw62 => k1_hw62.2.2.2.2.2.1
theorem k1_off391_inb : ∀ (arg12 : BitVec 32) (k1_hw62 : k1_chk62 arg12), ∀ a, (k1_off391 arg12) a + S1x16.size a ≤ S128x128.size a := fun arg12 k1_hw62 => k1_hw62.2.2.2.2.2.2.1
theorem k1_off392_inb : ∀ (arg12 : BitVec 32) (k1_hw62 : k1_chk62 arg12), ∀ a, (k1_off392 arg12) a + S1x16.size a ≤ S128x128.size a := fun arg12 k1_hw62 => k1_hw62.2.2.2.2.2.2.2

@[reducible] def k1_t49_loop (i : grid1.Coords) (k1_t47 : Fin k1_t47_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk61 (i : grid1.Coords) (k1_t47 : Fin k1_t47_loop.trips) (v519 : BitVec 32) : Prop :=
  ((k1_t48_loop i k1_t47 v519).OK) ∧
  ((k1_t49_loop i k1_t47 v519).OK)
theorem k1_t48_ok : ∀ (i : grid1.Coords) (k1_t47 : Fin k1_t47_loop.trips) (v519 : BitVec 32) (k1_hw61 : k1_chk61 i k1_t47 v519), (k1_t48_loop i k1_t47 v519).OK := fun i k1_t47 v519 k1_hw61 => k1_hw61.1
theorem k1_t49_ok : ∀ (i : grid1.Coords) (k1_t47 : Fin k1_t47_loop.trips) (v519 : BitVec 32) (k1_hw61 : k1_chk61 i k1_t47 v519), (k1_t49_loop i k1_t47 v519).OK := fun i k1_t47 v519 k1_hw61 => k1_hw61.2

def k1_off393 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off394 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off395 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off396 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off397 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off398 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off399 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off400 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk63 (arg12 : BitVec 32) : Prop :=
  (∀ a, (k1_off393 arg12) a + S1x16.size a ≤ S128x128.size a) ∧
  (∀ a, (k1_off394 arg12) a + S1x16.size a ≤ S128x128.size a) ∧
  (∀ a, (k1_off395 arg12) a + S1x16.size a ≤ S128x128.size a) ∧
  (∀ a, (k1_off396 arg12) a + S1x16.size a ≤ S128x128.size a) ∧
  (∀ a, (k1_off397 arg12) a + S1x16.size a ≤ S128x128.size a) ∧
  (∀ a, (k1_off398 arg12) a + S1x16.size a ≤ S128x128.size a) ∧
  (∀ a, (k1_off399 arg12) a + S1x16.size a ≤ S128x128.size a) ∧
  (∀ a, (k1_off400 arg12) a + S1x16.size a ≤ S128x128.size a)
theorem k1_off393_inb : ∀ (arg12 : BitVec 32) (k1_hw63 : k1_chk63 arg12), ∀ a, (k1_off393 arg12) a + S1x16.size a ≤ S128x128.size a := fun arg12 k1_hw63 => k1_hw63.1
theorem k1_off394_inb : ∀ (arg12 : BitVec 32) (k1_hw63 : k1_chk63 arg12), ∀ a, (k1_off394 arg12) a + S1x16.size a ≤ S128x128.size a := fun arg12 k1_hw63 => k1_hw63.2.1
theorem k1_off395_inb : ∀ (arg12 : BitVec 32) (k1_hw63 : k1_chk63 arg12), ∀ a, (k1_off395 arg12) a + S1x16.size a ≤ S128x128.size a := fun arg12 k1_hw63 => k1_hw63.2.2.1
theorem k1_off396_inb : ∀ (arg12 : BitVec 32) (k1_hw63 : k1_chk63 arg12), ∀ a, (k1_off396 arg12) a + S1x16.size a ≤ S128x128.size a := fun arg12 k1_hw63 => k1_hw63.2.2.2.1
theorem k1_off397_inb : ∀ (arg12 : BitVec 32) (k1_hw63 : k1_chk63 arg12), ∀ a, (k1_off397 arg12) a + S1x16.size a ≤ S128x128.size a := fun arg12 k1_hw63 => k1_hw63.2.2.2.2.1
theorem k1_off398_inb : ∀ (arg12 : BitVec 32) (k1_hw63 : k1_chk63 arg12), ∀ a, (k1_off398 arg12) a + S1x16.size a ≤ S128x128.size a := fun arg12 k1_hw63 => k1_hw63.2.2.2.2.2.1
theorem k1_off399_inb : ∀ (arg12 : BitVec 32) (k1_hw63 : k1_chk63 arg12), ∀ a, (k1_off399 arg12) a + S1x16.size a ≤ S128x128.size a := fun arg12 k1_hw63 => k1_hw63.2.2.2.2.2.2.1
theorem k1_off400_inb : ∀ (arg12 : BitVec 32) (k1_hw63 : k1_chk63 arg12), ∀ a, (k1_off400 arg12) a + S1x16.size a ≤ S128x128.size a := fun arg12 k1_hw63 => k1_hw63.2.2.2.2.2.2.2

@[reducible] def k1_t50_loop (i : grid1.Coords) (k1_t47 : Fin k1_t47_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off401 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off402 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off403 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off404 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off405 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off406 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off407 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off408 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk65 (arg12 : BitVec 32) : Prop :=
  (∀ a, (k1_off401 arg12) a + S1x16.size a ≤ S128x128.size a) ∧
  (∀ a, (k1_off402 arg12) a + S1x16.size a ≤ S128x128.size a) ∧
  (∀ a, (k1_off403 arg12) a + S1x16.size a ≤ S128x128.size a) ∧
  (∀ a, (k1_off404 arg12) a + S1x16.size a ≤ S128x128.size a) ∧
  (∀ a, (k1_off405 arg12) a + S1x16.size a ≤ S128x128.size a) ∧
  (∀ a, (k1_off406 arg12) a + S1x16.size a ≤ S128x128.size a) ∧
  (∀ a, (k1_off407 arg12) a + S1x16.size a ≤ S128x128.size a) ∧
  (∀ a, (k1_off408 arg12) a + S1x16.size a ≤ S128x128.size a)
theorem k1_off401_inb : ∀ (arg12 : BitVec 32) (k1_hw65 : k1_chk65 arg12), ∀ a, (k1_off401 arg12) a + S1x16.size a ≤ S128x128.size a := fun arg12 k1_hw65 => k1_hw65.1
theorem k1_off402_inb : ∀ (arg12 : BitVec 32) (k1_hw65 : k1_chk65 arg12), ∀ a, (k1_off402 arg12) a + S1x16.size a ≤ S128x128.size a := fun arg12 k1_hw65 => k1_hw65.2.1
theorem k1_off403_inb : ∀ (arg12 : BitVec 32) (k1_hw65 : k1_chk65 arg12), ∀ a, (k1_off403 arg12) a + S1x16.size a ≤ S128x128.size a := fun arg12 k1_hw65 => k1_hw65.2.2.1
theorem k1_off404_inb : ∀ (arg12 : BitVec 32) (k1_hw65 : k1_chk65 arg12), ∀ a, (k1_off404 arg12) a + S1x16.size a ≤ S128x128.size a := fun arg12 k1_hw65 => k1_hw65.2.2.2.1
theorem k1_off405_inb : ∀ (arg12 : BitVec 32) (k1_hw65 : k1_chk65 arg12), ∀ a, (k1_off405 arg12) a + S1x16.size a ≤ S128x128.size a := fun arg12 k1_hw65 => k1_hw65.2.2.2.2.1
theorem k1_off406_inb : ∀ (arg12 : BitVec 32) (k1_hw65 : k1_chk65 arg12), ∀ a, (k1_off406 arg12) a + S1x16.size a ≤ S128x128.size a := fun arg12 k1_hw65 => k1_hw65.2.2.2.2.2.1
theorem k1_off407_inb : ∀ (arg12 : BitVec 32) (k1_hw65 : k1_chk65 arg12), ∀ a, (k1_off407 arg12) a + S1x16.size a ≤ S128x128.size a := fun arg12 k1_hw65 => k1_hw65.2.2.2.2.2.2.1
theorem k1_off408_inb : ∀ (arg12 : BitVec 32) (k1_hw65 : k1_chk65 arg12), ∀ a, (k1_off408 arg12) a + S1x16.size a ≤ S128x128.size a := fun arg12 k1_hw65 => k1_hw65.2.2.2.2.2.2.2

@[reducible] def k1_t51_loop (i : grid1.Coords) (k1_t47 : Fin k1_t47_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk64 (i : grid1.Coords) (k1_t47 : Fin k1_t47_loop.trips) (v540 : BitVec 32) : Prop :=
  ((k1_t50_loop i k1_t47 v540).OK) ∧
  ((k1_t51_loop i k1_t47 v540).OK)
theorem k1_t50_ok : ∀ (i : grid1.Coords) (k1_t47 : Fin k1_t47_loop.trips) (v540 : BitVec 32) (k1_hw64 : k1_chk64 i k1_t47 v540), (k1_t50_loop i k1_t47 v540).OK := fun i k1_t47 v540 k1_hw64 => k1_hw64.1
theorem k1_t51_ok : ∀ (i : grid1.Coords) (k1_t47 : Fin k1_t47_loop.trips) (v540 : BitVec 32) (k1_hw64 : k1_chk64 i k1_t47 v540), (k1_t51_loop i k1_t47 v540).OK := fun i k1_t47 v540 k1_hw64 => k1_hw64.2

def k1_off409 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off410 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off411 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off412 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off413 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off414 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off415 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off416 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk66 (arg12 : BitVec 32) : Prop :=
  (∀ a, (k1_off409 arg12) a + S1x16.size a ≤ S128x128.size a) ∧
  (∀ a, (k1_off410 arg12) a + S1x16.size a ≤ S128x128.size a) ∧
  (∀ a, (k1_off411 arg12) a + S1x16.size a ≤ S128x128.size a) ∧
  (∀ a, (k1_off412 arg12) a + S1x16.size a ≤ S128x128.size a) ∧
  (∀ a, (k1_off413 arg12) a + S1x16.size a ≤ S128x128.size a) ∧
  (∀ a, (k1_off414 arg12) a + S1x16.size a ≤ S128x128.size a) ∧
  (∀ a, (k1_off415 arg12) a + S1x16.size a ≤ S128x128.size a) ∧
  (∀ a, (k1_off416 arg12) a + S1x16.size a ≤ S128x128.size a)
theorem k1_off409_inb : ∀ (arg12 : BitVec 32) (k1_hw66 : k1_chk66 arg12), ∀ a, (k1_off409 arg12) a + S1x16.size a ≤ S128x128.size a := fun arg12 k1_hw66 => k1_hw66.1
theorem k1_off410_inb : ∀ (arg12 : BitVec 32) (k1_hw66 : k1_chk66 arg12), ∀ a, (k1_off410 arg12) a + S1x16.size a ≤ S128x128.size a := fun arg12 k1_hw66 => k1_hw66.2.1
theorem k1_off411_inb : ∀ (arg12 : BitVec 32) (k1_hw66 : k1_chk66 arg12), ∀ a, (k1_off411 arg12) a + S1x16.size a ≤ S128x128.size a := fun arg12 k1_hw66 => k1_hw66.2.2.1
theorem k1_off412_inb : ∀ (arg12 : BitVec 32) (k1_hw66 : k1_chk66 arg12), ∀ a, (k1_off412 arg12) a + S1x16.size a ≤ S128x128.size a := fun arg12 k1_hw66 => k1_hw66.2.2.2.1
theorem k1_off413_inb : ∀ (arg12 : BitVec 32) (k1_hw66 : k1_chk66 arg12), ∀ a, (k1_off413 arg12) a + S1x16.size a ≤ S128x128.size a := fun arg12 k1_hw66 => k1_hw66.2.2.2.2.1
theorem k1_off414_inb : ∀ (arg12 : BitVec 32) (k1_hw66 : k1_chk66 arg12), ∀ a, (k1_off414 arg12) a + S1x16.size a ≤ S128x128.size a := fun arg12 k1_hw66 => k1_hw66.2.2.2.2.2.1
theorem k1_off415_inb : ∀ (arg12 : BitVec 32) (k1_hw66 : k1_chk66 arg12), ∀ a, (k1_off415 arg12) a + S1x16.size a ≤ S128x128.size a := fun arg12 k1_hw66 => k1_hw66.2.2.2.2.2.2.1
theorem k1_off416_inb : ∀ (arg12 : BitVec 32) (k1_hw66 : k1_chk66 arg12), ∀ a, (k1_off416 arg12) a + S1x16.size a ≤ S128x128.size a := fun arg12 k1_hw66 => k1_hw66.2.2.2.2.2.2.2

@[reducible] def k1_t52_loop (i : grid1.Coords) (k1_t47 : Fin k1_t47_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off417 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off418 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off419 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off420 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off421 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off422 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off423 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off424 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk68 (arg12 : BitVec 32) : Prop :=
  (∀ a, (k1_off417 arg12) a + S1x16.size a ≤ S128x128.size a) ∧
  (∀ a, (k1_off418 arg12) a + S1x16.size a ≤ S128x128.size a) ∧
  (∀ a, (k1_off419 arg12) a + S1x16.size a ≤ S128x128.size a) ∧
  (∀ a, (k1_off420 arg12) a + S1x16.size a ≤ S128x128.size a) ∧
  (∀ a, (k1_off421 arg12) a + S1x16.size a ≤ S128x128.size a) ∧
  (∀ a, (k1_off422 arg12) a + S1x16.size a ≤ S128x128.size a) ∧
  (∀ a, (k1_off423 arg12) a + S1x16.size a ≤ S128x128.size a) ∧
  (∀ a, (k1_off424 arg12) a + S1x16.size a ≤ S128x128.size a)
theorem k1_off417_inb : ∀ (arg12 : BitVec 32) (k1_hw68 : k1_chk68 arg12), ∀ a, (k1_off417 arg12) a + S1x16.size a ≤ S128x128.size a := fun arg12 k1_hw68 => k1_hw68.1
theorem k1_off418_inb : ∀ (arg12 : BitVec 32) (k1_hw68 : k1_chk68 arg12), ∀ a, (k1_off418 arg12) a + S1x16.size a ≤ S128x128.size a := fun arg12 k1_hw68 => k1_hw68.2.1
theorem k1_off419_inb : ∀ (arg12 : BitVec 32) (k1_hw68 : k1_chk68 arg12), ∀ a, (k1_off419 arg12) a + S1x16.size a ≤ S128x128.size a := fun arg12 k1_hw68 => k1_hw68.2.2.1
theorem k1_off420_inb : ∀ (arg12 : BitVec 32) (k1_hw68 : k1_chk68 arg12), ∀ a, (k1_off420 arg12) a + S1x16.size a ≤ S128x128.size a := fun arg12 k1_hw68 => k1_hw68.2.2.2.1
theorem k1_off421_inb : ∀ (arg12 : BitVec 32) (k1_hw68 : k1_chk68 arg12), ∀ a, (k1_off421 arg12) a + S1x16.size a ≤ S128x128.size a := fun arg12 k1_hw68 => k1_hw68.2.2.2.2.1
theorem k1_off422_inb : ∀ (arg12 : BitVec 32) (k1_hw68 : k1_chk68 arg12), ∀ a, (k1_off422 arg12) a + S1x16.size a ≤ S128x128.size a := fun arg12 k1_hw68 => k1_hw68.2.2.2.2.2.1
theorem k1_off423_inb : ∀ (arg12 : BitVec 32) (k1_hw68 : k1_chk68 arg12), ∀ a, (k1_off423 arg12) a + S1x16.size a ≤ S128x128.size a := fun arg12 k1_hw68 => k1_hw68.2.2.2.2.2.2.1
theorem k1_off424_inb : ∀ (arg12 : BitVec 32) (k1_hw68 : k1_chk68 arg12), ∀ a, (k1_off424 arg12) a + S1x16.size a ≤ S128x128.size a := fun arg12 k1_hw68 => k1_hw68.2.2.2.2.2.2.2

@[reducible] def k1_t53_loop (i : grid1.Coords) (k1_t47 : Fin k1_t47_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk67 (i : grid1.Coords) (k1_t47 : Fin k1_t47_loop.trips) (v561 : BitVec 32) : Prop :=
  ((k1_t52_loop i k1_t47 v561).OK) ∧
  ((k1_t53_loop i k1_t47 v561).OK)
theorem k1_t52_ok : ∀ (i : grid1.Coords) (k1_t47 : Fin k1_t47_loop.trips) (v561 : BitVec 32) (k1_hw67 : k1_chk67 i k1_t47 v561), (k1_t52_loop i k1_t47 v561).OK := fun i k1_t47 v561 k1_hw67 => k1_hw67.1
theorem k1_t53_ok : ∀ (i : grid1.Coords) (k1_t47 : Fin k1_t47_loop.trips) (v561 : BitVec 32) (k1_hw67 : k1_chk67 i k1_t47 v561), (k1_t53_loop i k1_t47 v561).OK := fun i k1_t47 v561 k1_hw67 => k1_hw67.2

def k1_off425 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off426 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off427 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off428 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off429 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off430 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off431 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off432 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk69 (arg12 : BitVec 32) : Prop :=
  (∀ a, (k1_off425 arg12) a + S1x16.size a ≤ S128x128.size a) ∧
  (∀ a, (k1_off426 arg12) a + S1x16.size a ≤ S128x128.size a) ∧
  (∀ a, (k1_off427 arg12) a + S1x16.size a ≤ S128x128.size a) ∧
  (∀ a, (k1_off428 arg12) a + S1x16.size a ≤ S128x128.size a) ∧
  (∀ a, (k1_off429 arg12) a + S1x16.size a ≤ S128x128.size a) ∧
  (∀ a, (k1_off430 arg12) a + S1x16.size a ≤ S128x128.size a) ∧
  (∀ a, (k1_off431 arg12) a + S1x16.size a ≤ S128x128.size a) ∧
  (∀ a, (k1_off432 arg12) a + S1x16.size a ≤ S128x128.size a)
theorem k1_off425_inb : ∀ (arg12 : BitVec 32) (k1_hw69 : k1_chk69 arg12), ∀ a, (k1_off425 arg12) a + S1x16.size a ≤ S128x128.size a := fun arg12 k1_hw69 => k1_hw69.1
theorem k1_off426_inb : ∀ (arg12 : BitVec 32) (k1_hw69 : k1_chk69 arg12), ∀ a, (k1_off426 arg12) a + S1x16.size a ≤ S128x128.size a := fun arg12 k1_hw69 => k1_hw69.2.1
theorem k1_off427_inb : ∀ (arg12 : BitVec 32) (k1_hw69 : k1_chk69 arg12), ∀ a, (k1_off427 arg12) a + S1x16.size a ≤ S128x128.size a := fun arg12 k1_hw69 => k1_hw69.2.2.1
theorem k1_off428_inb : ∀ (arg12 : BitVec 32) (k1_hw69 : k1_chk69 arg12), ∀ a, (k1_off428 arg12) a + S1x16.size a ≤ S128x128.size a := fun arg12 k1_hw69 => k1_hw69.2.2.2.1
theorem k1_off429_inb : ∀ (arg12 : BitVec 32) (k1_hw69 : k1_chk69 arg12), ∀ a, (k1_off429 arg12) a + S1x16.size a ≤ S128x128.size a := fun arg12 k1_hw69 => k1_hw69.2.2.2.2.1
theorem k1_off430_inb : ∀ (arg12 : BitVec 32) (k1_hw69 : k1_chk69 arg12), ∀ a, (k1_off430 arg12) a + S1x16.size a ≤ S128x128.size a := fun arg12 k1_hw69 => k1_hw69.2.2.2.2.2.1
theorem k1_off431_inb : ∀ (arg12 : BitVec 32) (k1_hw69 : k1_chk69 arg12), ∀ a, (k1_off431 arg12) a + S1x16.size a ≤ S128x128.size a := fun arg12 k1_hw69 => k1_hw69.2.2.2.2.2.2.1
theorem k1_off432_inb : ∀ (arg12 : BitVec 32) (k1_hw69 : k1_chk69 arg12), ∀ a, (k1_off432 arg12) a + S1x16.size a ≤ S128x128.size a := fun arg12 k1_hw69 => k1_hw69.2.2.2.2.2.2.2

@[reducible] def k1_t54_loop (i : grid1.Coords) (k1_t47 : Fin k1_t47_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off433 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off434 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off435 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off436 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off437 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off438 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off439 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off440 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk71 (arg12 : BitVec 32) : Prop :=
  (∀ a, (k1_off433 arg12) a + S1x16.size a ≤ S128x128.size a) ∧
  (∀ a, (k1_off434 arg12) a + S1x16.size a ≤ S128x128.size a) ∧
  (∀ a, (k1_off435 arg12) a + S1x16.size a ≤ S128x128.size a) ∧
  (∀ a, (k1_off436 arg12) a + S1x16.size a ≤ S128x128.size a) ∧
  (∀ a, (k1_off437 arg12) a + S1x16.size a ≤ S128x128.size a) ∧
  (∀ a, (k1_off438 arg12) a + S1x16.size a ≤ S128x128.size a) ∧
  (∀ a, (k1_off439 arg12) a + S1x16.size a ≤ S128x128.size a) ∧
  (∀ a, (k1_off440 arg12) a + S1x16.size a ≤ S128x128.size a)
theorem k1_off433_inb : ∀ (arg12 : BitVec 32) (k1_hw71 : k1_chk71 arg12), ∀ a, (k1_off433 arg12) a + S1x16.size a ≤ S128x128.size a := fun arg12 k1_hw71 => k1_hw71.1
theorem k1_off434_inb : ∀ (arg12 : BitVec 32) (k1_hw71 : k1_chk71 arg12), ∀ a, (k1_off434 arg12) a + S1x16.size a ≤ S128x128.size a := fun arg12 k1_hw71 => k1_hw71.2.1
theorem k1_off435_inb : ∀ (arg12 : BitVec 32) (k1_hw71 : k1_chk71 arg12), ∀ a, (k1_off435 arg12) a + S1x16.size a ≤ S128x128.size a := fun arg12 k1_hw71 => k1_hw71.2.2.1
theorem k1_off436_inb : ∀ (arg12 : BitVec 32) (k1_hw71 : k1_chk71 arg12), ∀ a, (k1_off436 arg12) a + S1x16.size a ≤ S128x128.size a := fun arg12 k1_hw71 => k1_hw71.2.2.2.1
theorem k1_off437_inb : ∀ (arg12 : BitVec 32) (k1_hw71 : k1_chk71 arg12), ∀ a, (k1_off437 arg12) a + S1x16.size a ≤ S128x128.size a := fun arg12 k1_hw71 => k1_hw71.2.2.2.2.1
theorem k1_off438_inb : ∀ (arg12 : BitVec 32) (k1_hw71 : k1_chk71 arg12), ∀ a, (k1_off438 arg12) a + S1x16.size a ≤ S128x128.size a := fun arg12 k1_hw71 => k1_hw71.2.2.2.2.2.1
theorem k1_off439_inb : ∀ (arg12 : BitVec 32) (k1_hw71 : k1_chk71 arg12), ∀ a, (k1_off439 arg12) a + S1x16.size a ≤ S128x128.size a := fun arg12 k1_hw71 => k1_hw71.2.2.2.2.2.2.1
theorem k1_off440_inb : ∀ (arg12 : BitVec 32) (k1_hw71 : k1_chk71 arg12), ∀ a, (k1_off440 arg12) a + S1x16.size a ≤ S128x128.size a := fun arg12 k1_hw71 => k1_hw71.2.2.2.2.2.2.2

@[reducible] def k1_t55_loop (i : grid1.Coords) (k1_t47 : Fin k1_t47_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c640_i32_241 : BitVec 32 := 640#32
  let v235 : BitVec 32 := Scalar.addi v2 c640_i32_241
  let c0_i32_243 : BitVec 32 := 0#32
  let c1_i32_245 : BitVec 32 := 1#32
  let arg9 : BitVec 32 := Scf.iv c0_i32_243 c1_i32_245 k1_t47
  let v473 : BitVec 32 := Scalar.addi v235 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk70 (i : grid1.Coords) (k1_t47 : Fin k1_t47_loop.trips) (v582 : BitVec 32) : Prop :=
  ((k1_t54_loop i k1_t47 v582).OK) ∧
  ((k1_t55_loop i k1_t47 v582).OK)
theorem k1_t54_ok : ∀ (i : grid1.Coords) (k1_t47 : Fin k1_t47_loop.trips) (v582 : BitVec 32) (k1_hw70 : k1_chk70 i k1_t47 v582), (k1_t54_loop i k1_t47 v582).OK := fun i k1_t47 v582 k1_hw70 => k1_hw70.1
theorem k1_t55_ok : ∀ (i : grid1.Coords) (k1_t47 : Fin k1_t47_loop.trips) (v582 : BitVec 32) (k1_hw70 : k1_chk70 i k1_t47 v582), (k1_t55_loop i k1_t47 v582).OK := fun i k1_t47 v582 k1_hw70 => k1_hw70.2

def k1_off441 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off442 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off443 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off444 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off445 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off446 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off447 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off448 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk72 (arg12 : BitVec 32) : Prop :=
  (∀ a, (k1_off441 arg12) a + S1x16.size a ≤ S128x128.size a) ∧
  (∀ a, (k1_off442 arg12) a + S1x16.size a ≤ S128x128.size a) ∧
  (∀ a, (k1_off443 arg12) a + S1x16.size a ≤ S128x128.size a) ∧
  (∀ a, (k1_off444 arg12) a + S1x16.size a ≤ S128x128.size a) ∧
  (∀ a, (k1_off445 arg12) a + S1x16.size a ≤ S128x128.size a) ∧
  (∀ a, (k1_off446 arg12) a + S1x16.size a ≤ S128x128.size a) ∧
  (∀ a, (k1_off447 arg12) a + S1x16.size a ≤ S128x128.size a) ∧
  (∀ a, (k1_off448 arg12) a + S1x16.size a ≤ S128x128.size a)
theorem k1_off441_inb : ∀ (arg12 : BitVec 32) (k1_hw72 : k1_chk72 arg12), ∀ a, (k1_off441 arg12) a + S1x16.size a ≤ S128x128.size a := fun arg12 k1_hw72 => k1_hw72.1
theorem k1_off442_inb : ∀ (arg12 : BitVec 32) (k1_hw72 : k1_chk72 arg12), ∀ a, (k1_off442 arg12) a + S1x16.size a ≤ S128x128.size a := fun arg12 k1_hw72 => k1_hw72.2.1
theorem k1_off443_inb : ∀ (arg12 : BitVec 32) (k1_hw72 : k1_chk72 arg12), ∀ a, (k1_off443 arg12) a + S1x16.size a ≤ S128x128.size a := fun arg12 k1_hw72 => k1_hw72.2.2.1
theorem k1_off444_inb : ∀ (arg12 : BitVec 32) (k1_hw72 : k1_chk72 arg12), ∀ a, (k1_off444 arg12) a + S1x16.size a ≤ S128x128.size a := fun arg12 k1_hw72 => k1_hw72.2.2.2.1
theorem k1_off445_inb : ∀ (arg12 : BitVec 32) (k1_hw72 : k1_chk72 arg12), ∀ a, (k1_off445 arg12) a + S1x16.size a ≤ S128x128.size a := fun arg12 k1_hw72 => k1_hw72.2.2.2.2.1
theorem k1_off446_inb : ∀ (arg12 : BitVec 32) (k1_hw72 : k1_chk72 arg12), ∀ a, (k1_off446 arg12) a + S1x16.size a ≤ S128x128.size a := fun arg12 k1_hw72 => k1_hw72.2.2.2.2.2.1
theorem k1_off447_inb : ∀ (arg12 : BitVec 32) (k1_hw72 : k1_chk72 arg12), ∀ a, (k1_off447 arg12) a + S1x16.size a ≤ S128x128.size a := fun arg12 k1_hw72 => k1_hw72.2.2.2.2.2.2.1
theorem k1_off448_inb : ∀ (arg12 : BitVec 32) (k1_hw72 : k1_chk72 arg12), ∀ a, (k1_off448 arg12) a + S1x16.size a ≤ S128x128.size a := fun arg12 k1_hw72 => k1_hw72.2.2.2.2.2.2.2

@[reducible] def k1_t56_loop : Scf.Loop 32 :=
  let c0_i32_281 : BitVec 32 := 0#32
  let c128_i32_282 : BitVec 32 := 128#32
  let v272 : BitVec 32 := Scalar.addi c0_i32_281 c128_i32_282
  let c1_i32_283 : BitVec 32 := 1#32
  ⟨c0_i32_281, v272, c1_i32_283⟩
def k1_off449 (k1_t56 : Fin k1_t56_loop.trips) : Fin 3 → Nat :=
  let c0_i32_497 : BitVec 32 := 0#32
  let v475 : Index := Scalar.indexCast c0_i32_497
  let c0_i32_281 : BitVec 32 := 0#32
  let c1_i32_283 : BitVec 32 := 1#32
  let arg9 : BitVec 32 := Scf.iv c0_i32_281 c1_i32_283 k1_t56
  let v476 : Index := Scalar.indexCast arg9
  let c0 : Index := 0#32
  ![0, v476.toNat, 0]
def k1_off450 (k1_t56 : Fin k1_t56_loop.trips) : Fin 3 → Nat :=
  let c0_i32_498 : BitVec 32 := 0#32
  let v479 : Index := Scalar.indexCast c0_i32_498
  let c0_i32_281 : BitVec 32 := 0#32
  let c1_i32_283 : BitVec 32 := 1#32
  let arg9 : BitVec 32 := Scf.iv c0_i32_281 c1_i32_283 k1_t56
  let v480 : Index := Scalar.indexCast arg9
  let c16 : Index := 16#32
  ![0, v480.toNat, 16]
def k1_off451 (k1_t56 : Fin k1_t56_loop.trips) : Fin 3 → Nat :=
  let c0_i32_499 : BitVec 32 := 0#32
  let v483 : Index := Scalar.indexCast c0_i32_499
  let c0_i32_281 : BitVec 32 := 0#32
  let c1_i32_283 : BitVec 32 := 1#32
  let arg9 : BitVec 32 := Scf.iv c0_i32_281 c1_i32_283 k1_t56
  let v484 : Index := Scalar.indexCast arg9
  let c32 : Index := 32#32
  ![0, v484.toNat, 32]
def k1_off452 (k1_t56 : Fin k1_t56_loop.trips) : Fin 3 → Nat :=
  let c0_i32_500 : BitVec 32 := 0#32
  let v487 : Index := Scalar.indexCast c0_i32_500
  let c0_i32_281 : BitVec 32 := 0#32
  let c1_i32_283 : BitVec 32 := 1#32
  let arg9 : BitVec 32 := Scf.iv c0_i32_281 c1_i32_283 k1_t56
  let v488 : Index := Scalar.indexCast arg9
  let c48 : Index := 48#32
  ![0, v488.toNat, 48]
def k1_off453 (k1_t56 : Fin k1_t56_loop.trips) : Fin 3 → Nat :=
  let c0_i32_501 : BitVec 32 := 0#32
  let v491 : Index := Scalar.indexCast c0_i32_501
  let c0_i32_281 : BitVec 32 := 0#32
  let c1_i32_283 : BitVec 32 := 1#32
  let arg9 : BitVec 32 := Scf.iv c0_i32_281 c1_i32_283 k1_t56
  let v492 : Index := Scalar.indexCast arg9
  let c64 : Index := 64#32
  ![0, v492.toNat, 64]
def k1_off454 (k1_t56 : Fin k1_t56_loop.trips) : Fin 3 → Nat :=
  let c0_i32_502 : BitVec 32 := 0#32
  let v495 : Index := Scalar.indexCast c0_i32_502
  let c0_i32_281 : BitVec 32 := 0#32
  let c1_i32_283 : BitVec 32 := 1#32
  let arg9 : BitVec 32 := Scf.iv c0_i32_281 c1_i32_283 k1_t56
  let v496 : Index := Scalar.indexCast arg9
  let c80 : Index := 80#32
  ![0, v496.toNat, 80]
def k1_off455 (k1_t56 : Fin k1_t56_loop.trips) : Fin 3 → Nat :=
  let c0_i32_503 : BitVec 32 := 0#32
  let v499 : Index := Scalar.indexCast c0_i32_503
  let c0_i32_281 : BitVec 32 := 0#32
  let c1_i32_283 : BitVec 32 := 1#32
  let arg9 : BitVec 32 := Scf.iv c0_i32_281 c1_i32_283 k1_t56
  let v500 : Index := Scalar.indexCast arg9
  let c96 : Index := 96#32
  ![0, v500.toNat, 96]
def k1_off456 (k1_t56 : Fin k1_t56_loop.trips) : Fin 3 → Nat :=
  let c0_i32_504 : BitVec 32 := 0#32
  let v503 : Index := Scalar.indexCast c0_i32_504
  let c0_i32_281 : BitVec 32 := 0#32
  let c1_i32_283 : BitVec 32 := 1#32
  let arg9 : BitVec 32 := Scf.iv c0_i32_281 c1_i32_283 k1_t56
  let v504 : Index := Scalar.indexCast arg9
  let c112 : Index := 112#32
  ![0, v504.toNat, 112]
def k1_off457 (k1_t56 : Fin k1_t56_loop.trips) : Fin 3 → Nat :=
  let c0_i32_505 : BitVec 32 := 0#32
  let v507 : Index := Scalar.indexCast c0_i32_505
  let c0_i32_281 : BitVec 32 := 0#32
  let c1_i32_283 : BitVec 32 := 1#32
  let arg9 : BitVec 32 := Scf.iv c0_i32_281 c1_i32_283 k1_t56
  let v508 : Index := Scalar.indexCast arg9
  let c0_506 : Index := 0#32
  ![0, v508.toNat, 0]
@[reducible] def k1_t57_loop (i : grid1.Coords) (k1_t56 : Fin k1_t56_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off458 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off459 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off460 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off461 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off462 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off463 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off464 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off465 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk74 (arg12 : BitVec 32) : Prop :=
  (∀ a, (k1_off458 arg12) a + S1x16.size a ≤ S128x128.size a) ∧
  (∀ a, (k1_off459 arg12) a + S1x16.size a ≤ S128x128.size a) ∧
  (∀ a, (k1_off460 arg12) a + S1x16.size a ≤ S128x128.size a) ∧
  (∀ a, (k1_off461 arg12) a + S1x16.size a ≤ S128x128.size a) ∧
  (∀ a, (k1_off462 arg12) a + S1x16.size a ≤ S128x128.size a) ∧
  (∀ a, (k1_off463 arg12) a + S1x16.size a ≤ S128x128.size a) ∧
  (∀ a, (k1_off464 arg12) a + S1x16.size a ≤ S128x128.size a) ∧
  (∀ a, (k1_off465 arg12) a + S1x16.size a ≤ S128x128.size a)
theorem k1_off458_inb : ∀ (arg12 : BitVec 32) (k1_hw74 : k1_chk74 arg12), ∀ a, (k1_off458 arg12) a + S1x16.size a ≤ S128x128.size a := fun arg12 k1_hw74 => k1_hw74.1
theorem k1_off459_inb : ∀ (arg12 : BitVec 32) (k1_hw74 : k1_chk74 arg12), ∀ a, (k1_off459 arg12) a + S1x16.size a ≤ S128x128.size a := fun arg12 k1_hw74 => k1_hw74.2.1
theorem k1_off460_inb : ∀ (arg12 : BitVec 32) (k1_hw74 : k1_chk74 arg12), ∀ a, (k1_off460 arg12) a + S1x16.size a ≤ S128x128.size a := fun arg12 k1_hw74 => k1_hw74.2.2.1
theorem k1_off461_inb : ∀ (arg12 : BitVec 32) (k1_hw74 : k1_chk74 arg12), ∀ a, (k1_off461 arg12) a + S1x16.size a ≤ S128x128.size a := fun arg12 k1_hw74 => k1_hw74.2.2.2.1
theorem k1_off462_inb : ∀ (arg12 : BitVec 32) (k1_hw74 : k1_chk74 arg12), ∀ a, (k1_off462 arg12) a + S1x16.size a ≤ S128x128.size a := fun arg12 k1_hw74 => k1_hw74.2.2.2.2.1
theorem k1_off463_inb : ∀ (arg12 : BitVec 32) (k1_hw74 : k1_chk74 arg12), ∀ a, (k1_off463 arg12) a + S1x16.size a ≤ S128x128.size a := fun arg12 k1_hw74 => k1_hw74.2.2.2.2.2.1
theorem k1_off464_inb : ∀ (arg12 : BitVec 32) (k1_hw74 : k1_chk74 arg12), ∀ a, (k1_off464 arg12) a + S1x16.size a ≤ S128x128.size a := fun arg12 k1_hw74 => k1_hw74.2.2.2.2.2.2.1
theorem k1_off465_inb : ∀ (arg12 : BitVec 32) (k1_hw74 : k1_chk74 arg12), ∀ a, (k1_off465 arg12) a + S1x16.size a ≤ S128x128.size a := fun arg12 k1_hw74 => k1_hw74.2.2.2.2.2.2.2

@[reducible] def k1_t58_loop (i : grid1.Coords) (k1_t56 : Fin k1_t56_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk73 (i : grid1.Coords) (k1_t56 : Fin k1_t56_loop.trips) (v519 : BitVec 32) : Prop :=
  ((k1_t57_loop i k1_t56 v519).OK) ∧
  ((k1_t58_loop i k1_t56 v519).OK)
theorem k1_t57_ok : ∀ (i : grid1.Coords) (k1_t56 : Fin k1_t56_loop.trips) (v519 : BitVec 32) (k1_hw73 : k1_chk73 i k1_t56 v519), (k1_t57_loop i k1_t56 v519).OK := fun i k1_t56 v519 k1_hw73 => k1_hw73.1
theorem k1_t58_ok : ∀ (i : grid1.Coords) (k1_t56 : Fin k1_t56_loop.trips) (v519 : BitVec 32) (k1_hw73 : k1_chk73 i k1_t56 v519), (k1_t58_loop i k1_t56 v519).OK := fun i k1_t56 v519 k1_hw73 => k1_hw73.2

def k1_off466 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off467 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off468 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off469 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off470 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off471 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off472 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off473 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk75 (arg12 : BitVec 32) : Prop :=
  (∀ a, (k1_off466 arg12) a + S1x16.size a ≤ S128x128.size a) ∧
  (∀ a, (k1_off467 arg12) a + S1x16.size a ≤ S128x128.size a) ∧
  (∀ a, (k1_off468 arg12) a + S1x16.size a ≤ S128x128.size a) ∧
  (∀ a, (k1_off469 arg12) a + S1x16.size a ≤ S128x128.size a) ∧
  (∀ a, (k1_off470 arg12) a + S1x16.size a ≤ S128x128.size a) ∧
  (∀ a, (k1_off471 arg12) a + S1x16.size a ≤ S128x128.size a) ∧
  (∀ a, (k1_off472 arg12) a + S1x16.size a ≤ S128x128.size a) ∧
  (∀ a, (k1_off473 arg12) a + S1x16.size a ≤ S128x128.size a)
theorem k1_off466_inb : ∀ (arg12 : BitVec 32) (k1_hw75 : k1_chk75 arg12), ∀ a, (k1_off466 arg12) a + S1x16.size a ≤ S128x128.size a := fun arg12 k1_hw75 => k1_hw75.1
theorem k1_off467_inb : ∀ (arg12 : BitVec 32) (k1_hw75 : k1_chk75 arg12), ∀ a, (k1_off467 arg12) a + S1x16.size a ≤ S128x128.size a := fun arg12 k1_hw75 => k1_hw75.2.1
theorem k1_off468_inb : ∀ (arg12 : BitVec 32) (k1_hw75 : k1_chk75 arg12), ∀ a, (k1_off468 arg12) a + S1x16.size a ≤ S128x128.size a := fun arg12 k1_hw75 => k1_hw75.2.2.1
theorem k1_off469_inb : ∀ (arg12 : BitVec 32) (k1_hw75 : k1_chk75 arg12), ∀ a, (k1_off469 arg12) a + S1x16.size a ≤ S128x128.size a := fun arg12 k1_hw75 => k1_hw75.2.2.2.1
theorem k1_off470_inb : ∀ (arg12 : BitVec 32) (k1_hw75 : k1_chk75 arg12), ∀ a, (k1_off470 arg12) a + S1x16.size a ≤ S128x128.size a := fun arg12 k1_hw75 => k1_hw75.2.2.2.2.1
theorem k1_off471_inb : ∀ (arg12 : BitVec 32) (k1_hw75 : k1_chk75 arg12), ∀ a, (k1_off471 arg12) a + S1x16.size a ≤ S128x128.size a := fun arg12 k1_hw75 => k1_hw75.2.2.2.2.2.1
theorem k1_off472_inb : ∀ (arg12 : BitVec 32) (k1_hw75 : k1_chk75 arg12), ∀ a, (k1_off472 arg12) a + S1x16.size a ≤ S128x128.size a := fun arg12 k1_hw75 => k1_hw75.2.2.2.2.2.2.1
theorem k1_off473_inb : ∀ (arg12 : BitVec 32) (k1_hw75 : k1_chk75 arg12), ∀ a, (k1_off473 arg12) a + S1x16.size a ≤ S128x128.size a := fun arg12 k1_hw75 => k1_hw75.2.2.2.2.2.2.2

@[reducible] def k1_t59_loop (i : grid1.Coords) (k1_t56 : Fin k1_t56_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off474 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off475 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off476 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off477 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off478 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off479 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off480 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off481 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk77 (arg12 : BitVec 32) : Prop :=
  (∀ a, (k1_off474 arg12) a + S1x16.size a ≤ S128x128.size a) ∧
  (∀ a, (k1_off475 arg12) a + S1x16.size a ≤ S128x128.size a) ∧
  (∀ a, (k1_off476 arg12) a + S1x16.size a ≤ S128x128.size a) ∧
  (∀ a, (k1_off477 arg12) a + S1x16.size a ≤ S128x128.size a) ∧
  (∀ a, (k1_off478 arg12) a + S1x16.size a ≤ S128x128.size a) ∧
  (∀ a, (k1_off479 arg12) a + S1x16.size a ≤ S128x128.size a) ∧
  (∀ a, (k1_off480 arg12) a + S1x16.size a ≤ S128x128.size a) ∧
  (∀ a, (k1_off481 arg12) a + S1x16.size a ≤ S128x128.size a)
theorem k1_off474_inb : ∀ (arg12 : BitVec 32) (k1_hw77 : k1_chk77 arg12), ∀ a, (k1_off474 arg12) a + S1x16.size a ≤ S128x128.size a := fun arg12 k1_hw77 => k1_hw77.1
theorem k1_off475_inb : ∀ (arg12 : BitVec 32) (k1_hw77 : k1_chk77 arg12), ∀ a, (k1_off475 arg12) a + S1x16.size a ≤ S128x128.size a := fun arg12 k1_hw77 => k1_hw77.2.1
theorem k1_off476_inb : ∀ (arg12 : BitVec 32) (k1_hw77 : k1_chk77 arg12), ∀ a, (k1_off476 arg12) a + S1x16.size a ≤ S128x128.size a := fun arg12 k1_hw77 => k1_hw77.2.2.1
theorem k1_off477_inb : ∀ (arg12 : BitVec 32) (k1_hw77 : k1_chk77 arg12), ∀ a, (k1_off477 arg12) a + S1x16.size a ≤ S128x128.size a := fun arg12 k1_hw77 => k1_hw77.2.2.2.1
theorem k1_off478_inb : ∀ (arg12 : BitVec 32) (k1_hw77 : k1_chk77 arg12), ∀ a, (k1_off478 arg12) a + S1x16.size a ≤ S128x128.size a := fun arg12 k1_hw77 => k1_hw77.2.2.2.2.1
theorem k1_off479_inb : ∀ (arg12 : BitVec 32) (k1_hw77 : k1_chk77 arg12), ∀ a, (k1_off479 arg12) a + S1x16.size a ≤ S128x128.size a := fun arg12 k1_hw77 => k1_hw77.2.2.2.2.2.1
theorem k1_off480_inb : ∀ (arg12 : BitVec 32) (k1_hw77 : k1_chk77 arg12), ∀ a, (k1_off480 arg12) a + S1x16.size a ≤ S128x128.size a := fun arg12 k1_hw77 => k1_hw77.2.2.2.2.2.2.1
theorem k1_off481_inb : ∀ (arg12 : BitVec 32) (k1_hw77 : k1_chk77 arg12), ∀ a, (k1_off481 arg12) a + S1x16.size a ≤ S128x128.size a := fun arg12 k1_hw77 => k1_hw77.2.2.2.2.2.2.2

@[reducible] def k1_t60_loop (i : grid1.Coords) (k1_t56 : Fin k1_t56_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk76 (i : grid1.Coords) (k1_t56 : Fin k1_t56_loop.trips) (v540 : BitVec 32) : Prop :=
  ((k1_t59_loop i k1_t56 v540).OK) ∧
  ((k1_t60_loop i k1_t56 v540).OK)
theorem k1_t59_ok : ∀ (i : grid1.Coords) (k1_t56 : Fin k1_t56_loop.trips) (v540 : BitVec 32) (k1_hw76 : k1_chk76 i k1_t56 v540), (k1_t59_loop i k1_t56 v540).OK := fun i k1_t56 v540 k1_hw76 => k1_hw76.1
theorem k1_t60_ok : ∀ (i : grid1.Coords) (k1_t56 : Fin k1_t56_loop.trips) (v540 : BitVec 32) (k1_hw76 : k1_chk76 i k1_t56 v540), (k1_t60_loop i k1_t56 v540).OK := fun i k1_t56 v540 k1_hw76 => k1_hw76.2

def k1_off482 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off483 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off484 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off485 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off486 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off487 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off488 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off489 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk78 (arg12 : BitVec 32) : Prop :=
  (∀ a, (k1_off482 arg12) a + S1x16.size a ≤ S128x128.size a) ∧
  (∀ a, (k1_off483 arg12) a + S1x16.size a ≤ S128x128.size a) ∧
  (∀ a, (k1_off484 arg12) a + S1x16.size a ≤ S128x128.size a) ∧
  (∀ a, (k1_off485 arg12) a + S1x16.size a ≤ S128x128.size a) ∧
  (∀ a, (k1_off486 arg12) a + S1x16.size a ≤ S128x128.size a) ∧
  (∀ a, (k1_off487 arg12) a + S1x16.size a ≤ S128x128.size a) ∧
  (∀ a, (k1_off488 arg12) a + S1x16.size a ≤ S128x128.size a) ∧
  (∀ a, (k1_off489 arg12) a + S1x16.size a ≤ S128x128.size a)
theorem k1_off482_inb : ∀ (arg12 : BitVec 32) (k1_hw78 : k1_chk78 arg12), ∀ a, (k1_off482 arg12) a + S1x16.size a ≤ S128x128.size a := fun arg12 k1_hw78 => k1_hw78.1
theorem k1_off483_inb : ∀ (arg12 : BitVec 32) (k1_hw78 : k1_chk78 arg12), ∀ a, (k1_off483 arg12) a + S1x16.size a ≤ S128x128.size a := fun arg12 k1_hw78 => k1_hw78.2.1
theorem k1_off484_inb : ∀ (arg12 : BitVec 32) (k1_hw78 : k1_chk78 arg12), ∀ a, (k1_off484 arg12) a + S1x16.size a ≤ S128x128.size a := fun arg12 k1_hw78 => k1_hw78.2.2.1
theorem k1_off485_inb : ∀ (arg12 : BitVec 32) (k1_hw78 : k1_chk78 arg12), ∀ a, (k1_off485 arg12) a + S1x16.size a ≤ S128x128.size a := fun arg12 k1_hw78 => k1_hw78.2.2.2.1
theorem k1_off486_inb : ∀ (arg12 : BitVec 32) (k1_hw78 : k1_chk78 arg12), ∀ a, (k1_off486 arg12) a + S1x16.size a ≤ S128x128.size a := fun arg12 k1_hw78 => k1_hw78.2.2.2.2.1
theorem k1_off487_inb : ∀ (arg12 : BitVec 32) (k1_hw78 : k1_chk78 arg12), ∀ a, (k1_off487 arg12) a + S1x16.size a ≤ S128x128.size a := fun arg12 k1_hw78 => k1_hw78.2.2.2.2.2.1
theorem k1_off488_inb : ∀ (arg12 : BitVec 32) (k1_hw78 : k1_chk78 arg12), ∀ a, (k1_off488 arg12) a + S1x16.size a ≤ S128x128.size a := fun arg12 k1_hw78 => k1_hw78.2.2.2.2.2.2.1
theorem k1_off489_inb : ∀ (arg12 : BitVec 32) (k1_hw78 : k1_chk78 arg12), ∀ a, (k1_off489 arg12) a + S1x16.size a ≤ S128x128.size a := fun arg12 k1_hw78 => k1_hw78.2.2.2.2.2.2.2

@[reducible] def k1_t61_loop (i : grid1.Coords) (k1_t56 : Fin k1_t56_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off490 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off491 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off492 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off493 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off494 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off495 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off496 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off497 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk80 (arg12 : BitVec 32) : Prop :=
  (∀ a, (k1_off490 arg12) a + S1x16.size a ≤ S128x128.size a) ∧
  (∀ a, (k1_off491 arg12) a + S1x16.size a ≤ S128x128.size a) ∧
  (∀ a, (k1_off492 arg12) a + S1x16.size a ≤ S128x128.size a) ∧
  (∀ a, (k1_off493 arg12) a + S1x16.size a ≤ S128x128.size a) ∧
  (∀ a, (k1_off494 arg12) a + S1x16.size a ≤ S128x128.size a) ∧
  (∀ a, (k1_off495 arg12) a + S1x16.size a ≤ S128x128.size a) ∧
  (∀ a, (k1_off496 arg12) a + S1x16.size a ≤ S128x128.size a) ∧
  (∀ a, (k1_off497 arg12) a + S1x16.size a ≤ S128x128.size a)
theorem k1_off490_inb : ∀ (arg12 : BitVec 32) (k1_hw80 : k1_chk80 arg12), ∀ a, (k1_off490 arg12) a + S1x16.size a ≤ S128x128.size a := fun arg12 k1_hw80 => k1_hw80.1
theorem k1_off491_inb : ∀ (arg12 : BitVec 32) (k1_hw80 : k1_chk80 arg12), ∀ a, (k1_off491 arg12) a + S1x16.size a ≤ S128x128.size a := fun arg12 k1_hw80 => k1_hw80.2.1
theorem k1_off492_inb : ∀ (arg12 : BitVec 32) (k1_hw80 : k1_chk80 arg12), ∀ a, (k1_off492 arg12) a + S1x16.size a ≤ S128x128.size a := fun arg12 k1_hw80 => k1_hw80.2.2.1
theorem k1_off493_inb : ∀ (arg12 : BitVec 32) (k1_hw80 : k1_chk80 arg12), ∀ a, (k1_off493 arg12) a + S1x16.size a ≤ S128x128.size a := fun arg12 k1_hw80 => k1_hw80.2.2.2.1
theorem k1_off494_inb : ∀ (arg12 : BitVec 32) (k1_hw80 : k1_chk80 arg12), ∀ a, (k1_off494 arg12) a + S1x16.size a ≤ S128x128.size a := fun arg12 k1_hw80 => k1_hw80.2.2.2.2.1
theorem k1_off495_inb : ∀ (arg12 : BitVec 32) (k1_hw80 : k1_chk80 arg12), ∀ a, (k1_off495 arg12) a + S1x16.size a ≤ S128x128.size a := fun arg12 k1_hw80 => k1_hw80.2.2.2.2.2.1
theorem k1_off496_inb : ∀ (arg12 : BitVec 32) (k1_hw80 : k1_chk80 arg12), ∀ a, (k1_off496 arg12) a + S1x16.size a ≤ S128x128.size a := fun arg12 k1_hw80 => k1_hw80.2.2.2.2.2.2.1
theorem k1_off497_inb : ∀ (arg12 : BitVec 32) (k1_hw80 : k1_chk80 arg12), ∀ a, (k1_off497 arg12) a + S1x16.size a ≤ S128x128.size a := fun arg12 k1_hw80 => k1_hw80.2.2.2.2.2.2.2

@[reducible] def k1_t62_loop (i : grid1.Coords) (k1_t56 : Fin k1_t56_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk79 (i : grid1.Coords) (k1_t56 : Fin k1_t56_loop.trips) (v561 : BitVec 32) : Prop :=
  ((k1_t61_loop i k1_t56 v561).OK) ∧
  ((k1_t62_loop i k1_t56 v561).OK)
theorem k1_t61_ok : ∀ (i : grid1.Coords) (k1_t56 : Fin k1_t56_loop.trips) (v561 : BitVec 32) (k1_hw79 : k1_chk79 i k1_t56 v561), (k1_t61_loop i k1_t56 v561).OK := fun i k1_t56 v561 k1_hw79 => k1_hw79.1
theorem k1_t62_ok : ∀ (i : grid1.Coords) (k1_t56 : Fin k1_t56_loop.trips) (v561 : BitVec 32) (k1_hw79 : k1_chk79 i k1_t56 v561), (k1_t62_loop i k1_t56 v561).OK := fun i k1_t56 v561 k1_hw79 => k1_hw79.2

def k1_off498 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off499 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off500 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off501 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off502 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off503 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off504 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off505 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk81 (arg12 : BitVec 32) : Prop :=
  (∀ a, (k1_off498 arg12) a + S1x16.size a ≤ S128x128.size a) ∧
  (∀ a, (k1_off499 arg12) a + S1x16.size a ≤ S128x128.size a) ∧
  (∀ a, (k1_off500 arg12) a + S1x16.size a ≤ S128x128.size a) ∧
  (∀ a, (k1_off501 arg12) a + S1x16.size a ≤ S128x128.size a) ∧
  (∀ a, (k1_off502 arg12) a + S1x16.size a ≤ S128x128.size a) ∧
  (∀ a, (k1_off503 arg12) a + S1x16.size a ≤ S128x128.size a) ∧
  (∀ a, (k1_off504 arg12) a + S1x16.size a ≤ S128x128.size a) ∧
  (∀ a, (k1_off505 arg12) a + S1x16.size a ≤ S128x128.size a)
theorem k1_off498_inb : ∀ (arg12 : BitVec 32) (k1_hw81 : k1_chk81 arg12), ∀ a, (k1_off498 arg12) a + S1x16.size a ≤ S128x128.size a := fun arg12 k1_hw81 => k1_hw81.1
theorem k1_off499_inb : ∀ (arg12 : BitVec 32) (k1_hw81 : k1_chk81 arg12), ∀ a, (k1_off499 arg12) a + S1x16.size a ≤ S128x128.size a := fun arg12 k1_hw81 => k1_hw81.2.1
theorem k1_off500_inb : ∀ (arg12 : BitVec 32) (k1_hw81 : k1_chk81 arg12), ∀ a, (k1_off500 arg12) a + S1x16.size a ≤ S128x128.size a := fun arg12 k1_hw81 => k1_hw81.2.2.1
theorem k1_off501_inb : ∀ (arg12 : BitVec 32) (k1_hw81 : k1_chk81 arg12), ∀ a, (k1_off501 arg12) a + S1x16.size a ≤ S128x128.size a := fun arg12 k1_hw81 => k1_hw81.2.2.2.1
theorem k1_off502_inb : ∀ (arg12 : BitVec 32) (k1_hw81 : k1_chk81 arg12), ∀ a, (k1_off502 arg12) a + S1x16.size a ≤ S128x128.size a := fun arg12 k1_hw81 => k1_hw81.2.2.2.2.1
theorem k1_off503_inb : ∀ (arg12 : BitVec 32) (k1_hw81 : k1_chk81 arg12), ∀ a, (k1_off503 arg12) a + S1x16.size a ≤ S128x128.size a := fun arg12 k1_hw81 => k1_hw81.2.2.2.2.2.1
theorem k1_off504_inb : ∀ (arg12 : BitVec 32) (k1_hw81 : k1_chk81 arg12), ∀ a, (k1_off504 arg12) a + S1x16.size a ≤ S128x128.size a := fun arg12 k1_hw81 => k1_hw81.2.2.2.2.2.2.1
theorem k1_off505_inb : ∀ (arg12 : BitVec 32) (k1_hw81 : k1_chk81 arg12), ∀ a, (k1_off505 arg12) a + S1x16.size a ≤ S128x128.size a := fun arg12 k1_hw81 => k1_hw81.2.2.2.2.2.2.2

@[reducible] def k1_t63_loop (i : grid1.Coords) (k1_t56 : Fin k1_t56_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off506 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off507 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off508 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off509 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off510 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off511 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off512 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off513 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk83 (arg12 : BitVec 32) : Prop :=
  (∀ a, (k1_off506 arg12) a + S1x16.size a ≤ S128x128.size a) ∧
  (∀ a, (k1_off507 arg12) a + S1x16.size a ≤ S128x128.size a) ∧
  (∀ a, (k1_off508 arg12) a + S1x16.size a ≤ S128x128.size a) ∧
  (∀ a, (k1_off509 arg12) a + S1x16.size a ≤ S128x128.size a) ∧
  (∀ a, (k1_off510 arg12) a + S1x16.size a ≤ S128x128.size a) ∧
  (∀ a, (k1_off511 arg12) a + S1x16.size a ≤ S128x128.size a) ∧
  (∀ a, (k1_off512 arg12) a + S1x16.size a ≤ S128x128.size a) ∧
  (∀ a, (k1_off513 arg12) a + S1x16.size a ≤ S128x128.size a)
theorem k1_off506_inb : ∀ (arg12 : BitVec 32) (k1_hw83 : k1_chk83 arg12), ∀ a, (k1_off506 arg12) a + S1x16.size a ≤ S128x128.size a := fun arg12 k1_hw83 => k1_hw83.1
theorem k1_off507_inb : ∀ (arg12 : BitVec 32) (k1_hw83 : k1_chk83 arg12), ∀ a, (k1_off507 arg12) a + S1x16.size a ≤ S128x128.size a := fun arg12 k1_hw83 => k1_hw83.2.1
theorem k1_off508_inb : ∀ (arg12 : BitVec 32) (k1_hw83 : k1_chk83 arg12), ∀ a, (k1_off508 arg12) a + S1x16.size a ≤ S128x128.size a := fun arg12 k1_hw83 => k1_hw83.2.2.1
theorem k1_off509_inb : ∀ (arg12 : BitVec 32) (k1_hw83 : k1_chk83 arg12), ∀ a, (k1_off509 arg12) a + S1x16.size a ≤ S128x128.size a := fun arg12 k1_hw83 => k1_hw83.2.2.2.1
theorem k1_off510_inb : ∀ (arg12 : BitVec 32) (k1_hw83 : k1_chk83 arg12), ∀ a, (k1_off510 arg12) a + S1x16.size a ≤ S128x128.size a := fun arg12 k1_hw83 => k1_hw83.2.2.2.2.1
theorem k1_off511_inb : ∀ (arg12 : BitVec 32) (k1_hw83 : k1_chk83 arg12), ∀ a, (k1_off511 arg12) a + S1x16.size a ≤ S128x128.size a := fun arg12 k1_hw83 => k1_hw83.2.2.2.2.2.1
theorem k1_off512_inb : ∀ (arg12 : BitVec 32) (k1_hw83 : k1_chk83 arg12), ∀ a, (k1_off512 arg12) a + S1x16.size a ≤ S128x128.size a := fun arg12 k1_hw83 => k1_hw83.2.2.2.2.2.2.1
theorem k1_off513_inb : ∀ (arg12 : BitVec 32) (k1_hw83 : k1_chk83 arg12), ∀ a, (k1_off513 arg12) a + S1x16.size a ≤ S128x128.size a := fun arg12 k1_hw83 => k1_hw83.2.2.2.2.2.2.2

@[reducible] def k1_t64_loop (i : grid1.Coords) (k1_t56 : Fin k1_t56_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c768_i32_279 : BitVec 32 := 768#32
  let v271 : BitVec 32 := Scalar.addi v2 c768_i32_279
  let c0_i32_281 : BitVec 32 := 0#32
  let c1_i32_283 : BitVec 32 := 1#32
  let arg9 : BitVec 32 := Scf.iv c0_i32_281 c1_i32_283 k1_t56
  let v473 : BitVec 32 := Scalar.addi v271 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk82 (i : grid1.Coords) (k1_t56 : Fin k1_t56_loop.trips) (v582 : BitVec 32) : Prop :=
  ((k1_t63_loop i k1_t56 v582).OK) ∧
  ((k1_t64_loop i k1_t56 v582).OK)
theorem k1_t63_ok : ∀ (i : grid1.Coords) (k1_t56 : Fin k1_t56_loop.trips) (v582 : BitVec 32) (k1_hw82 : k1_chk82 i k1_t56 v582), (k1_t63_loop i k1_t56 v582).OK := fun i k1_t56 v582 k1_hw82 => k1_hw82.1
theorem k1_t64_ok : ∀ (i : grid1.Coords) (k1_t56 : Fin k1_t56_loop.trips) (v582 : BitVec 32) (k1_hw82 : k1_chk82 i k1_t56 v582), (k1_t64_loop i k1_t56 v582).OK := fun i k1_t56 v582 k1_hw82 => k1_hw82.2

def k1_off514 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off515 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off516 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off517 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off518 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off519 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off520 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off521 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk84 (arg12 : BitVec 32) : Prop :=
  (∀ a, (k1_off514 arg12) a + S1x16.size a ≤ S128x128.size a) ∧
  (∀ a, (k1_off515 arg12) a + S1x16.size a ≤ S128x128.size a) ∧
  (∀ a, (k1_off516 arg12) a + S1x16.size a ≤ S128x128.size a) ∧
  (∀ a, (k1_off517 arg12) a + S1x16.size a ≤ S128x128.size a) ∧
  (∀ a, (k1_off518 arg12) a + S1x16.size a ≤ S128x128.size a) ∧
  (∀ a, (k1_off519 arg12) a + S1x16.size a ≤ S128x128.size a) ∧
  (∀ a, (k1_off520 arg12) a + S1x16.size a ≤ S128x128.size a) ∧
  (∀ a, (k1_off521 arg12) a + S1x16.size a ≤ S128x128.size a)
theorem k1_off514_inb : ∀ (arg12 : BitVec 32) (k1_hw84 : k1_chk84 arg12), ∀ a, (k1_off514 arg12) a + S1x16.size a ≤ S128x128.size a := fun arg12 k1_hw84 => k1_hw84.1
theorem k1_off515_inb : ∀ (arg12 : BitVec 32) (k1_hw84 : k1_chk84 arg12), ∀ a, (k1_off515 arg12) a + S1x16.size a ≤ S128x128.size a := fun arg12 k1_hw84 => k1_hw84.2.1
theorem k1_off516_inb : ∀ (arg12 : BitVec 32) (k1_hw84 : k1_chk84 arg12), ∀ a, (k1_off516 arg12) a + S1x16.size a ≤ S128x128.size a := fun arg12 k1_hw84 => k1_hw84.2.2.1
theorem k1_off517_inb : ∀ (arg12 : BitVec 32) (k1_hw84 : k1_chk84 arg12), ∀ a, (k1_off517 arg12) a + S1x16.size a ≤ S128x128.size a := fun arg12 k1_hw84 => k1_hw84.2.2.2.1
theorem k1_off518_inb : ∀ (arg12 : BitVec 32) (k1_hw84 : k1_chk84 arg12), ∀ a, (k1_off518 arg12) a + S1x16.size a ≤ S128x128.size a := fun arg12 k1_hw84 => k1_hw84.2.2.2.2.1
theorem k1_off519_inb : ∀ (arg12 : BitVec 32) (k1_hw84 : k1_chk84 arg12), ∀ a, (k1_off519 arg12) a + S1x16.size a ≤ S128x128.size a := fun arg12 k1_hw84 => k1_hw84.2.2.2.2.2.1
theorem k1_off520_inb : ∀ (arg12 : BitVec 32) (k1_hw84 : k1_chk84 arg12), ∀ a, (k1_off520 arg12) a + S1x16.size a ≤ S128x128.size a := fun arg12 k1_hw84 => k1_hw84.2.2.2.2.2.2.1
theorem k1_off521_inb : ∀ (arg12 : BitVec 32) (k1_hw84 : k1_chk84 arg12), ∀ a, (k1_off521 arg12) a + S1x16.size a ≤ S128x128.size a := fun arg12 k1_hw84 => k1_hw84.2.2.2.2.2.2.2

@[reducible] def k1_t65_loop : Scf.Loop 32 :=
  let c0_i32_319 : BitVec 32 := 0#32
  let c128_i32_320 : BitVec 32 := 128#32
  let v308 : BitVec 32 := Scalar.addi c0_i32_319 c128_i32_320
  let c1_i32_321 : BitVec 32 := 1#32
  ⟨c0_i32_319, v308, c1_i32_321⟩
def k1_off522 (k1_t65 : Fin k1_t65_loop.trips) : Fin 3 → Nat :=
  let c1_i32_497 : BitVec 32 := 1#32
  let v475 : Index := Scalar.indexCast c1_i32_497
  let c0_i32_319 : BitVec 32 := 0#32
  let c1_i32_321 : BitVec 32 := 1#32
  let arg9 : BitVec 32 := Scf.iv c0_i32_319 c1_i32_321 k1_t65
  let v476 : Index := Scalar.indexCast arg9
  let c0 : Index := 0#32
  ![1, v476.toNat, 0]
def k1_off523 (k1_t65 : Fin k1_t65_loop.trips) : Fin 3 → Nat :=
  let c1_i32_498 : BitVec 32 := 1#32
  let v479 : Index := Scalar.indexCast c1_i32_498
  let c0_i32_319 : BitVec 32 := 0#32
  let c1_i32_321 : BitVec 32 := 1#32
  let arg9 : BitVec 32 := Scf.iv c0_i32_319 c1_i32_321 k1_t65
  let v480 : Index := Scalar.indexCast arg9
  let c16 : Index := 16#32
  ![1, v480.toNat, 16]
def k1_off524 (k1_t65 : Fin k1_t65_loop.trips) : Fin 3 → Nat :=
  let c1_i32_499 : BitVec 32 := 1#32
  let v483 : Index := Scalar.indexCast c1_i32_499
  let c0_i32_319 : BitVec 32 := 0#32
  let c1_i32_321 : BitVec 32 := 1#32
  let arg9 : BitVec 32 := Scf.iv c0_i32_319 c1_i32_321 k1_t65
  let v484 : Index := Scalar.indexCast arg9
  let c32 : Index := 32#32
  ![1, v484.toNat, 32]
def k1_off525 (k1_t65 : Fin k1_t65_loop.trips) : Fin 3 → Nat :=
  let c1_i32_500 : BitVec 32 := 1#32
  let v487 : Index := Scalar.indexCast c1_i32_500
  let c0_i32_319 : BitVec 32 := 0#32
  let c1_i32_321 : BitVec 32 := 1#32
  let arg9 : BitVec 32 := Scf.iv c0_i32_319 c1_i32_321 k1_t65
  let v488 : Index := Scalar.indexCast arg9
  let c48 : Index := 48#32
  ![1, v488.toNat, 48]
def k1_off526 (k1_t65 : Fin k1_t65_loop.trips) : Fin 3 → Nat :=
  let c1_i32_501 : BitVec 32 := 1#32
  let v491 : Index := Scalar.indexCast c1_i32_501
  let c0_i32_319 : BitVec 32 := 0#32
  let c1_i32_321 : BitVec 32 := 1#32
  let arg9 : BitVec 32 := Scf.iv c0_i32_319 c1_i32_321 k1_t65
  let v492 : Index := Scalar.indexCast arg9
  let c64 : Index := 64#32
  ![1, v492.toNat, 64]
def k1_off527 (k1_t65 : Fin k1_t65_loop.trips) : Fin 3 → Nat :=
  let c1_i32_502 : BitVec 32 := 1#32
  let v495 : Index := Scalar.indexCast c1_i32_502
  let c0_i32_319 : BitVec 32 := 0#32
  let c1_i32_321 : BitVec 32 := 1#32
  let arg9 : BitVec 32 := Scf.iv c0_i32_319 c1_i32_321 k1_t65
  let v496 : Index := Scalar.indexCast arg9
  let c80 : Index := 80#32
  ![1, v496.toNat, 80]
def k1_off528 (k1_t65 : Fin k1_t65_loop.trips) : Fin 3 → Nat :=
  let c1_i32_503 : BitVec 32 := 1#32
  let v499 : Index := Scalar.indexCast c1_i32_503
  let c0_i32_319 : BitVec 32 := 0#32
  let c1_i32_321 : BitVec 32 := 1#32
  let arg9 : BitVec 32 := Scf.iv c0_i32_319 c1_i32_321 k1_t65
  let v500 : Index := Scalar.indexCast arg9
  let c96 : Index := 96#32
  ![1, v500.toNat, 96]
def k1_off529 (k1_t65 : Fin k1_t65_loop.trips) : Fin 3 → Nat :=
  let c1_i32_504 : BitVec 32 := 1#32
  let v503 : Index := Scalar.indexCast c1_i32_504
  let c0_i32_319 : BitVec 32 := 0#32
  let c1_i32_321 : BitVec 32 := 1#32
  let arg9 : BitVec 32 := Scf.iv c0_i32_319 c1_i32_321 k1_t65
  let v504 : Index := Scalar.indexCast arg9
  let c112 : Index := 112#32
  ![1, v504.toNat, 112]
def k1_off530 (k1_t65 : Fin k1_t65_loop.trips) : Fin 3 → Nat :=
  let c1_i32_505 : BitVec 32 := 1#32
  let v507 : Index := Scalar.indexCast c1_i32_505
  let c0_i32_319 : BitVec 32 := 0#32
  let c1_i32_321 : BitVec 32 := 1#32
  let arg9 : BitVec 32 := Scf.iv c0_i32_319 c1_i32_321 k1_t65
  let v508 : Index := Scalar.indexCast arg9
  let c0_506 : Index := 0#32
  ![1, v508.toNat, 0]
@[reducible] def k1_t66_loop (i : grid1.Coords) (k1_t65 : Fin k1_t65_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off531 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off532 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off533 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off534 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off535 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off536 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off537 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off538 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk86 (arg12 : BitVec 32) : Prop :=
  (∀ a, (k1_off531 arg12) a + S1x16.size a ≤ S128x128.size a) ∧
  (∀ a, (k1_off532 arg12) a + S1x16.size a ≤ S128x128.size a) ∧
  (∀ a, (k1_off533 arg12) a + S1x16.size a ≤ S128x128.size a) ∧
  (∀ a, (k1_off534 arg12) a + S1x16.size a ≤ S128x128.size a) ∧
  (∀ a, (k1_off535 arg12) a + S1x16.size a ≤ S128x128.size a) ∧
  (∀ a, (k1_off536 arg12) a + S1x16.size a ≤ S128x128.size a) ∧
  (∀ a, (k1_off537 arg12) a + S1x16.size a ≤ S128x128.size a) ∧
  (∀ a, (k1_off538 arg12) a + S1x16.size a ≤ S128x128.size a)
theorem k1_off531_inb : ∀ (arg12 : BitVec 32) (k1_hw86 : k1_chk86 arg12), ∀ a, (k1_off531 arg12) a + S1x16.size a ≤ S128x128.size a := fun arg12 k1_hw86 => k1_hw86.1
theorem k1_off532_inb : ∀ (arg12 : BitVec 32) (k1_hw86 : k1_chk86 arg12), ∀ a, (k1_off532 arg12) a + S1x16.size a ≤ S128x128.size a := fun arg12 k1_hw86 => k1_hw86.2.1
theorem k1_off533_inb : ∀ (arg12 : BitVec 32) (k1_hw86 : k1_chk86 arg12), ∀ a, (k1_off533 arg12) a + S1x16.size a ≤ S128x128.size a := fun arg12 k1_hw86 => k1_hw86.2.2.1
theorem k1_off534_inb : ∀ (arg12 : BitVec 32) (k1_hw86 : k1_chk86 arg12), ∀ a, (k1_off534 arg12) a + S1x16.size a ≤ S128x128.size a := fun arg12 k1_hw86 => k1_hw86.2.2.2.1
theorem k1_off535_inb : ∀ (arg12 : BitVec 32) (k1_hw86 : k1_chk86 arg12), ∀ a, (k1_off535 arg12) a + S1x16.size a ≤ S128x128.size a := fun arg12 k1_hw86 => k1_hw86.2.2.2.2.1
theorem k1_off536_inb : ∀ (arg12 : BitVec 32) (k1_hw86 : k1_chk86 arg12), ∀ a, (k1_off536 arg12) a + S1x16.size a ≤ S128x128.size a := fun arg12 k1_hw86 => k1_hw86.2.2.2.2.2.1
theorem k1_off537_inb : ∀ (arg12 : BitVec 32) (k1_hw86 : k1_chk86 arg12), ∀ a, (k1_off537 arg12) a + S1x16.size a ≤ S128x128.size a := fun arg12 k1_hw86 => k1_hw86.2.2.2.2.2.2.1
theorem k1_off538_inb : ∀ (arg12 : BitVec 32) (k1_hw86 : k1_chk86 arg12), ∀ a, (k1_off538 arg12) a + S1x16.size a ≤ S128x128.size a := fun arg12 k1_hw86 => k1_hw86.2.2.2.2.2.2.2

@[reducible] def k1_t67_loop (i : grid1.Coords) (k1_t65 : Fin k1_t65_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk85 (i : grid1.Coords) (k1_t65 : Fin k1_t65_loop.trips) (v519 : BitVec 32) : Prop :=
  ((k1_t66_loop i k1_t65 v519).OK) ∧
  ((k1_t67_loop i k1_t65 v519).OK)
theorem k1_t66_ok : ∀ (i : grid1.Coords) (k1_t65 : Fin k1_t65_loop.trips) (v519 : BitVec 32) (k1_hw85 : k1_chk85 i k1_t65 v519), (k1_t66_loop i k1_t65 v519).OK := fun i k1_t65 v519 k1_hw85 => k1_hw85.1
theorem k1_t67_ok : ∀ (i : grid1.Coords) (k1_t65 : Fin k1_t65_loop.trips) (v519 : BitVec 32) (k1_hw85 : k1_chk85 i k1_t65 v519), (k1_t67_loop i k1_t65 v519).OK := fun i k1_t65 v519 k1_hw85 => k1_hw85.2

def k1_off539 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off540 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off541 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off542 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off543 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off544 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off545 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off546 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk87 (arg12 : BitVec 32) : Prop :=
  (∀ a, (k1_off539 arg12) a + S1x16.size a ≤ S128x128.size a) ∧
  (∀ a, (k1_off540 arg12) a + S1x16.size a ≤ S128x128.size a) ∧
  (∀ a, (k1_off541 arg12) a + S1x16.size a ≤ S128x128.size a) ∧
  (∀ a, (k1_off542 arg12) a + S1x16.size a ≤ S128x128.size a) ∧
  (∀ a, (k1_off543 arg12) a + S1x16.size a ≤ S128x128.size a) ∧
  (∀ a, (k1_off544 arg12) a + S1x16.size a ≤ S128x128.size a) ∧
  (∀ a, (k1_off545 arg12) a + S1x16.size a ≤ S128x128.size a) ∧
  (∀ a, (k1_off546 arg12) a + S1x16.size a ≤ S128x128.size a)
theorem k1_off539_inb : ∀ (arg12 : BitVec 32) (k1_hw87 : k1_chk87 arg12), ∀ a, (k1_off539 arg12) a + S1x16.size a ≤ S128x128.size a := fun arg12 k1_hw87 => k1_hw87.1
theorem k1_off540_inb : ∀ (arg12 : BitVec 32) (k1_hw87 : k1_chk87 arg12), ∀ a, (k1_off540 arg12) a + S1x16.size a ≤ S128x128.size a := fun arg12 k1_hw87 => k1_hw87.2.1
theorem k1_off541_inb : ∀ (arg12 : BitVec 32) (k1_hw87 : k1_chk87 arg12), ∀ a, (k1_off541 arg12) a + S1x16.size a ≤ S128x128.size a := fun arg12 k1_hw87 => k1_hw87.2.2.1
theorem k1_off542_inb : ∀ (arg12 : BitVec 32) (k1_hw87 : k1_chk87 arg12), ∀ a, (k1_off542 arg12) a + S1x16.size a ≤ S128x128.size a := fun arg12 k1_hw87 => k1_hw87.2.2.2.1
theorem k1_off543_inb : ∀ (arg12 : BitVec 32) (k1_hw87 : k1_chk87 arg12), ∀ a, (k1_off543 arg12) a + S1x16.size a ≤ S128x128.size a := fun arg12 k1_hw87 => k1_hw87.2.2.2.2.1
theorem k1_off544_inb : ∀ (arg12 : BitVec 32) (k1_hw87 : k1_chk87 arg12), ∀ a, (k1_off544 arg12) a + S1x16.size a ≤ S128x128.size a := fun arg12 k1_hw87 => k1_hw87.2.2.2.2.2.1
theorem k1_off545_inb : ∀ (arg12 : BitVec 32) (k1_hw87 : k1_chk87 arg12), ∀ a, (k1_off545 arg12) a + S1x16.size a ≤ S128x128.size a := fun arg12 k1_hw87 => k1_hw87.2.2.2.2.2.2.1
theorem k1_off546_inb : ∀ (arg12 : BitVec 32) (k1_hw87 : k1_chk87 arg12), ∀ a, (k1_off546 arg12) a + S1x16.size a ≤ S128x128.size a := fun arg12 k1_hw87 => k1_hw87.2.2.2.2.2.2.2

@[reducible] def k1_t68_loop (i : grid1.Coords) (k1_t65 : Fin k1_t65_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off547 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off548 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off549 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off550 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off551 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off552 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off553 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off554 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk89 (arg12 : BitVec 32) : Prop :=
  (∀ a, (k1_off547 arg12) a + S1x16.size a ≤ S128x128.size a) ∧
  (∀ a, (k1_off548 arg12) a + S1x16.size a ≤ S128x128.size a) ∧
  (∀ a, (k1_off549 arg12) a + S1x16.size a ≤ S128x128.size a) ∧
  (∀ a, (k1_off550 arg12) a + S1x16.size a ≤ S128x128.size a) ∧
  (∀ a, (k1_off551 arg12) a + S1x16.size a ≤ S128x128.size a) ∧
  (∀ a, (k1_off552 arg12) a + S1x16.size a ≤ S128x128.size a) ∧
  (∀ a, (k1_off553 arg12) a + S1x16.size a ≤ S128x128.size a) ∧
  (∀ a, (k1_off554 arg12) a + S1x16.size a ≤ S128x128.size a)
theorem k1_off547_inb : ∀ (arg12 : BitVec 32) (k1_hw89 : k1_chk89 arg12), ∀ a, (k1_off547 arg12) a + S1x16.size a ≤ S128x128.size a := fun arg12 k1_hw89 => k1_hw89.1
theorem k1_off548_inb : ∀ (arg12 : BitVec 32) (k1_hw89 : k1_chk89 arg12), ∀ a, (k1_off548 arg12) a + S1x16.size a ≤ S128x128.size a := fun arg12 k1_hw89 => k1_hw89.2.1
theorem k1_off549_inb : ∀ (arg12 : BitVec 32) (k1_hw89 : k1_chk89 arg12), ∀ a, (k1_off549 arg12) a + S1x16.size a ≤ S128x128.size a := fun arg12 k1_hw89 => k1_hw89.2.2.1
theorem k1_off550_inb : ∀ (arg12 : BitVec 32) (k1_hw89 : k1_chk89 arg12), ∀ a, (k1_off550 arg12) a + S1x16.size a ≤ S128x128.size a := fun arg12 k1_hw89 => k1_hw89.2.2.2.1
theorem k1_off551_inb : ∀ (arg12 : BitVec 32) (k1_hw89 : k1_chk89 arg12), ∀ a, (k1_off551 arg12) a + S1x16.size a ≤ S128x128.size a := fun arg12 k1_hw89 => k1_hw89.2.2.2.2.1
theorem k1_off552_inb : ∀ (arg12 : BitVec 32) (k1_hw89 : k1_chk89 arg12), ∀ a, (k1_off552 arg12) a + S1x16.size a ≤ S128x128.size a := fun arg12 k1_hw89 => k1_hw89.2.2.2.2.2.1
theorem k1_off553_inb : ∀ (arg12 : BitVec 32) (k1_hw89 : k1_chk89 arg12), ∀ a, (k1_off553 arg12) a + S1x16.size a ≤ S128x128.size a := fun arg12 k1_hw89 => k1_hw89.2.2.2.2.2.2.1
theorem k1_off554_inb : ∀ (arg12 : BitVec 32) (k1_hw89 : k1_chk89 arg12), ∀ a, (k1_off554 arg12) a + S1x16.size a ≤ S128x128.size a := fun arg12 k1_hw89 => k1_hw89.2.2.2.2.2.2.2

@[reducible] def k1_t69_loop (i : grid1.Coords) (k1_t65 : Fin k1_t65_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk88 (i : grid1.Coords) (k1_t65 : Fin k1_t65_loop.trips) (v540 : BitVec 32) : Prop :=
  ((k1_t68_loop i k1_t65 v540).OK) ∧
  ((k1_t69_loop i k1_t65 v540).OK)
theorem k1_t68_ok : ∀ (i : grid1.Coords) (k1_t65 : Fin k1_t65_loop.trips) (v540 : BitVec 32) (k1_hw88 : k1_chk88 i k1_t65 v540), (k1_t68_loop i k1_t65 v540).OK := fun i k1_t65 v540 k1_hw88 => k1_hw88.1
theorem k1_t69_ok : ∀ (i : grid1.Coords) (k1_t65 : Fin k1_t65_loop.trips) (v540 : BitVec 32) (k1_hw88 : k1_chk88 i k1_t65 v540), (k1_t69_loop i k1_t65 v540).OK := fun i k1_t65 v540 k1_hw88 => k1_hw88.2

def k1_off555 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off556 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off557 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off558 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off559 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off560 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off561 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off562 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk90 (arg12 : BitVec 32) : Prop :=
  (∀ a, (k1_off555 arg12) a + S1x16.size a ≤ S128x128.size a) ∧
  (∀ a, (k1_off556 arg12) a + S1x16.size a ≤ S128x128.size a) ∧
  (∀ a, (k1_off557 arg12) a + S1x16.size a ≤ S128x128.size a) ∧
  (∀ a, (k1_off558 arg12) a + S1x16.size a ≤ S128x128.size a) ∧
  (∀ a, (k1_off559 arg12) a + S1x16.size a ≤ S128x128.size a) ∧
  (∀ a, (k1_off560 arg12) a + S1x16.size a ≤ S128x128.size a) ∧
  (∀ a, (k1_off561 arg12) a + S1x16.size a ≤ S128x128.size a) ∧
  (∀ a, (k1_off562 arg12) a + S1x16.size a ≤ S128x128.size a)
theorem k1_off555_inb : ∀ (arg12 : BitVec 32) (k1_hw90 : k1_chk90 arg12), ∀ a, (k1_off555 arg12) a + S1x16.size a ≤ S128x128.size a := fun arg12 k1_hw90 => k1_hw90.1
theorem k1_off556_inb : ∀ (arg12 : BitVec 32) (k1_hw90 : k1_chk90 arg12), ∀ a, (k1_off556 arg12) a + S1x16.size a ≤ S128x128.size a := fun arg12 k1_hw90 => k1_hw90.2.1
theorem k1_off557_inb : ∀ (arg12 : BitVec 32) (k1_hw90 : k1_chk90 arg12), ∀ a, (k1_off557 arg12) a + S1x16.size a ≤ S128x128.size a := fun arg12 k1_hw90 => k1_hw90.2.2.1
theorem k1_off558_inb : ∀ (arg12 : BitVec 32) (k1_hw90 : k1_chk90 arg12), ∀ a, (k1_off558 arg12) a + S1x16.size a ≤ S128x128.size a := fun arg12 k1_hw90 => k1_hw90.2.2.2.1
theorem k1_off559_inb : ∀ (arg12 : BitVec 32) (k1_hw90 : k1_chk90 arg12), ∀ a, (k1_off559 arg12) a + S1x16.size a ≤ S128x128.size a := fun arg12 k1_hw90 => k1_hw90.2.2.2.2.1
theorem k1_off560_inb : ∀ (arg12 : BitVec 32) (k1_hw90 : k1_chk90 arg12), ∀ a, (k1_off560 arg12) a + S1x16.size a ≤ S128x128.size a := fun arg12 k1_hw90 => k1_hw90.2.2.2.2.2.1
theorem k1_off561_inb : ∀ (arg12 : BitVec 32) (k1_hw90 : k1_chk90 arg12), ∀ a, (k1_off561 arg12) a + S1x16.size a ≤ S128x128.size a := fun arg12 k1_hw90 => k1_hw90.2.2.2.2.2.2.1
theorem k1_off562_inb : ∀ (arg12 : BitVec 32) (k1_hw90 : k1_chk90 arg12), ∀ a, (k1_off562 arg12) a + S1x16.size a ≤ S128x128.size a := fun arg12 k1_hw90 => k1_hw90.2.2.2.2.2.2.2

@[reducible] def k1_t70_loop (i : grid1.Coords) (k1_t65 : Fin k1_t65_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off563 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off564 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off565 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off566 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off567 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off568 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off569 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off570 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk92 (arg12 : BitVec 32) : Prop :=
  (∀ a, (k1_off563 arg12) a + S1x16.size a ≤ S128x128.size a) ∧
  (∀ a, (k1_off564 arg12) a + S1x16.size a ≤ S128x128.size a) ∧
  (∀ a, (k1_off565 arg12) a + S1x16.size a ≤ S128x128.size a) ∧
  (∀ a, (k1_off566 arg12) a + S1x16.size a ≤ S128x128.size a) ∧
  (∀ a, (k1_off567 arg12) a + S1x16.size a ≤ S128x128.size a) ∧
  (∀ a, (k1_off568 arg12) a + S1x16.size a ≤ S128x128.size a) ∧
  (∀ a, (k1_off569 arg12) a + S1x16.size a ≤ S128x128.size a) ∧
  (∀ a, (k1_off570 arg12) a + S1x16.size a ≤ S128x128.size a)
theorem k1_off563_inb : ∀ (arg12 : BitVec 32) (k1_hw92 : k1_chk92 arg12), ∀ a, (k1_off563 arg12) a + S1x16.size a ≤ S128x128.size a := fun arg12 k1_hw92 => k1_hw92.1
theorem k1_off564_inb : ∀ (arg12 : BitVec 32) (k1_hw92 : k1_chk92 arg12), ∀ a, (k1_off564 arg12) a + S1x16.size a ≤ S128x128.size a := fun arg12 k1_hw92 => k1_hw92.2.1
theorem k1_off565_inb : ∀ (arg12 : BitVec 32) (k1_hw92 : k1_chk92 arg12), ∀ a, (k1_off565 arg12) a + S1x16.size a ≤ S128x128.size a := fun arg12 k1_hw92 => k1_hw92.2.2.1
theorem k1_off566_inb : ∀ (arg12 : BitVec 32) (k1_hw92 : k1_chk92 arg12), ∀ a, (k1_off566 arg12) a + S1x16.size a ≤ S128x128.size a := fun arg12 k1_hw92 => k1_hw92.2.2.2.1
theorem k1_off567_inb : ∀ (arg12 : BitVec 32) (k1_hw92 : k1_chk92 arg12), ∀ a, (k1_off567 arg12) a + S1x16.size a ≤ S128x128.size a := fun arg12 k1_hw92 => k1_hw92.2.2.2.2.1
theorem k1_off568_inb : ∀ (arg12 : BitVec 32) (k1_hw92 : k1_chk92 arg12), ∀ a, (k1_off568 arg12) a + S1x16.size a ≤ S128x128.size a := fun arg12 k1_hw92 => k1_hw92.2.2.2.2.2.1
theorem k1_off569_inb : ∀ (arg12 : BitVec 32) (k1_hw92 : k1_chk92 arg12), ∀ a, (k1_off569 arg12) a + S1x16.size a ≤ S128x128.size a := fun arg12 k1_hw92 => k1_hw92.2.2.2.2.2.2.1
theorem k1_off570_inb : ∀ (arg12 : BitVec 32) (k1_hw92 : k1_chk92 arg12), ∀ a, (k1_off570 arg12) a + S1x16.size a ≤ S128x128.size a := fun arg12 k1_hw92 => k1_hw92.2.2.2.2.2.2.2

@[reducible] def k1_t71_loop (i : grid1.Coords) (k1_t65 : Fin k1_t65_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk91 (i : grid1.Coords) (k1_t65 : Fin k1_t65_loop.trips) (v561 : BitVec 32) : Prop :=
  ((k1_t70_loop i k1_t65 v561).OK) ∧
  ((k1_t71_loop i k1_t65 v561).OK)
theorem k1_t70_ok : ∀ (i : grid1.Coords) (k1_t65 : Fin k1_t65_loop.trips) (v561 : BitVec 32) (k1_hw91 : k1_chk91 i k1_t65 v561), (k1_t70_loop i k1_t65 v561).OK := fun i k1_t65 v561 k1_hw91 => k1_hw91.1
theorem k1_t71_ok : ∀ (i : grid1.Coords) (k1_t65 : Fin k1_t65_loop.trips) (v561 : BitVec 32) (k1_hw91 : k1_chk91 i k1_t65 v561), (k1_t71_loop i k1_t65 v561).OK := fun i k1_t65 v561 k1_hw91 => k1_hw91.2

def k1_off571 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off572 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off573 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off574 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off575 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off576 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off577 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off578 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk93 (arg12 : BitVec 32) : Prop :=
  (∀ a, (k1_off571 arg12) a + S1x16.size a ≤ S128x128.size a) ∧
  (∀ a, (k1_off572 arg12) a + S1x16.size a ≤ S128x128.size a) ∧
  (∀ a, (k1_off573 arg12) a + S1x16.size a ≤ S128x128.size a) ∧
  (∀ a, (k1_off574 arg12) a + S1x16.size a ≤ S128x128.size a) ∧
  (∀ a, (k1_off575 arg12) a + S1x16.size a ≤ S128x128.size a) ∧
  (∀ a, (k1_off576 arg12) a + S1x16.size a ≤ S128x128.size a) ∧
  (∀ a, (k1_off577 arg12) a + S1x16.size a ≤ S128x128.size a) ∧
  (∀ a, (k1_off578 arg12) a + S1x16.size a ≤ S128x128.size a)
theorem k1_off571_inb : ∀ (arg12 : BitVec 32) (k1_hw93 : k1_chk93 arg12), ∀ a, (k1_off571 arg12) a + S1x16.size a ≤ S128x128.size a := fun arg12 k1_hw93 => k1_hw93.1
theorem k1_off572_inb : ∀ (arg12 : BitVec 32) (k1_hw93 : k1_chk93 arg12), ∀ a, (k1_off572 arg12) a + S1x16.size a ≤ S128x128.size a := fun arg12 k1_hw93 => k1_hw93.2.1
theorem k1_off573_inb : ∀ (arg12 : BitVec 32) (k1_hw93 : k1_chk93 arg12), ∀ a, (k1_off573 arg12) a + S1x16.size a ≤ S128x128.size a := fun arg12 k1_hw93 => k1_hw93.2.2.1
theorem k1_off574_inb : ∀ (arg12 : BitVec 32) (k1_hw93 : k1_chk93 arg12), ∀ a, (k1_off574 arg12) a + S1x16.size a ≤ S128x128.size a := fun arg12 k1_hw93 => k1_hw93.2.2.2.1
theorem k1_off575_inb : ∀ (arg12 : BitVec 32) (k1_hw93 : k1_chk93 arg12), ∀ a, (k1_off575 arg12) a + S1x16.size a ≤ S128x128.size a := fun arg12 k1_hw93 => k1_hw93.2.2.2.2.1
theorem k1_off576_inb : ∀ (arg12 : BitVec 32) (k1_hw93 : k1_chk93 arg12), ∀ a, (k1_off576 arg12) a + S1x16.size a ≤ S128x128.size a := fun arg12 k1_hw93 => k1_hw93.2.2.2.2.2.1
theorem k1_off577_inb : ∀ (arg12 : BitVec 32) (k1_hw93 : k1_chk93 arg12), ∀ a, (k1_off577 arg12) a + S1x16.size a ≤ S128x128.size a := fun arg12 k1_hw93 => k1_hw93.2.2.2.2.2.2.1
theorem k1_off578_inb : ∀ (arg12 : BitVec 32) (k1_hw93 : k1_chk93 arg12), ∀ a, (k1_off578 arg12) a + S1x16.size a ≤ S128x128.size a := fun arg12 k1_hw93 => k1_hw93.2.2.2.2.2.2.2

@[reducible] def k1_t72_loop (i : grid1.Coords) (k1_t65 : Fin k1_t65_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off579 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off580 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off581 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off582 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off583 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off584 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off585 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off586 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk95 (arg12 : BitVec 32) : Prop :=
  (∀ a, (k1_off579 arg12) a + S1x16.size a ≤ S128x128.size a) ∧
  (∀ a, (k1_off580 arg12) a + S1x16.size a ≤ S128x128.size a) ∧
  (∀ a, (k1_off581 arg12) a + S1x16.size a ≤ S128x128.size a) ∧
  (∀ a, (k1_off582 arg12) a + S1x16.size a ≤ S128x128.size a) ∧
  (∀ a, (k1_off583 arg12) a + S1x16.size a ≤ S128x128.size a) ∧
  (∀ a, (k1_off584 arg12) a + S1x16.size a ≤ S128x128.size a) ∧
  (∀ a, (k1_off585 arg12) a + S1x16.size a ≤ S128x128.size a) ∧
  (∀ a, (k1_off586 arg12) a + S1x16.size a ≤ S128x128.size a)
theorem k1_off579_inb : ∀ (arg12 : BitVec 32) (k1_hw95 : k1_chk95 arg12), ∀ a, (k1_off579 arg12) a + S1x16.size a ≤ S128x128.size a := fun arg12 k1_hw95 => k1_hw95.1
theorem k1_off580_inb : ∀ (arg12 : BitVec 32) (k1_hw95 : k1_chk95 arg12), ∀ a, (k1_off580 arg12) a + S1x16.size a ≤ S128x128.size a := fun arg12 k1_hw95 => k1_hw95.2.1
theorem k1_off581_inb : ∀ (arg12 : BitVec 32) (k1_hw95 : k1_chk95 arg12), ∀ a, (k1_off581 arg12) a + S1x16.size a ≤ S128x128.size a := fun arg12 k1_hw95 => k1_hw95.2.2.1
theorem k1_off582_inb : ∀ (arg12 : BitVec 32) (k1_hw95 : k1_chk95 arg12), ∀ a, (k1_off582 arg12) a + S1x16.size a ≤ S128x128.size a := fun arg12 k1_hw95 => k1_hw95.2.2.2.1
theorem k1_off583_inb : ∀ (arg12 : BitVec 32) (k1_hw95 : k1_chk95 arg12), ∀ a, (k1_off583 arg12) a + S1x16.size a ≤ S128x128.size a := fun arg12 k1_hw95 => k1_hw95.2.2.2.2.1
theorem k1_off584_inb : ∀ (arg12 : BitVec 32) (k1_hw95 : k1_chk95 arg12), ∀ a, (k1_off584 arg12) a + S1x16.size a ≤ S128x128.size a := fun arg12 k1_hw95 => k1_hw95.2.2.2.2.2.1
theorem k1_off585_inb : ∀ (arg12 : BitVec 32) (k1_hw95 : k1_chk95 arg12), ∀ a, (k1_off585 arg12) a + S1x16.size a ≤ S128x128.size a := fun arg12 k1_hw95 => k1_hw95.2.2.2.2.2.2.1
theorem k1_off586_inb : ∀ (arg12 : BitVec 32) (k1_hw95 : k1_chk95 arg12), ∀ a, (k1_off586 arg12) a + S1x16.size a ≤ S128x128.size a := fun arg12 k1_hw95 => k1_hw95.2.2.2.2.2.2.2

@[reducible] def k1_t73_loop (i : grid1.Coords) (k1_t65 : Fin k1_t65_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c896_i32_317 : BitVec 32 := 896#32
  let v307 : BitVec 32 := Scalar.addi v2 c896_i32_317
  let c0_i32_319 : BitVec 32 := 0#32
  let c1_i32_321 : BitVec 32 := 1#32
  let arg9 : BitVec 32 := Scf.iv c0_i32_319 c1_i32_321 k1_t65
  let v473 : BitVec 32 := Scalar.addi v307 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk94 (i : grid1.Coords) (k1_t65 : Fin k1_t65_loop.trips) (v582 : BitVec 32) : Prop :=
  ((k1_t72_loop i k1_t65 v582).OK) ∧
  ((k1_t73_loop i k1_t65 v582).OK)
theorem k1_t72_ok : ∀ (i : grid1.Coords) (k1_t65 : Fin k1_t65_loop.trips) (v582 : BitVec 32) (k1_hw94 : k1_chk94 i k1_t65 v582), (k1_t72_loop i k1_t65 v582).OK := fun i k1_t65 v582 k1_hw94 => k1_hw94.1
theorem k1_t73_ok : ∀ (i : grid1.Coords) (k1_t65 : Fin k1_t65_loop.trips) (v582 : BitVec 32) (k1_hw94 : k1_chk94 i k1_t65 v582), (k1_t73_loop i k1_t65 v582).OK := fun i k1_t65 v582 k1_hw94 => k1_hw94.2

def k1_off587 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off588 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off589 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off590 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off591 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off592 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off593 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off594 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk96 (arg12 : BitVec 32) : Prop :=
  (∀ a, (k1_off587 arg12) a + S1x16.size a ≤ S128x128.size a) ∧
  (∀ a, (k1_off588 arg12) a + S1x16.size a ≤ S128x128.size a) ∧
  (∀ a, (k1_off589 arg12) a + S1x16.size a ≤ S128x128.size a) ∧
  (∀ a, (k1_off590 arg12) a + S1x16.size a ≤ S128x128.size a) ∧
  (∀ a, (k1_off591 arg12) a + S1x16.size a ≤ S128x128.size a) ∧
  (∀ a, (k1_off592 arg12) a + S1x16.size a ≤ S128x128.size a) ∧
  (∀ a, (k1_off593 arg12) a + S1x16.size a ≤ S128x128.size a) ∧
  (∀ a, (k1_off594 arg12) a + S1x16.size a ≤ S128x128.size a)
theorem k1_off587_inb : ∀ (arg12 : BitVec 32) (k1_hw96 : k1_chk96 arg12), ∀ a, (k1_off587 arg12) a + S1x16.size a ≤ S128x128.size a := fun arg12 k1_hw96 => k1_hw96.1
theorem k1_off588_inb : ∀ (arg12 : BitVec 32) (k1_hw96 : k1_chk96 arg12), ∀ a, (k1_off588 arg12) a + S1x16.size a ≤ S128x128.size a := fun arg12 k1_hw96 => k1_hw96.2.1
theorem k1_off589_inb : ∀ (arg12 : BitVec 32) (k1_hw96 : k1_chk96 arg12), ∀ a, (k1_off589 arg12) a + S1x16.size a ≤ S128x128.size a := fun arg12 k1_hw96 => k1_hw96.2.2.1
theorem k1_off590_inb : ∀ (arg12 : BitVec 32) (k1_hw96 : k1_chk96 arg12), ∀ a, (k1_off590 arg12) a + S1x16.size a ≤ S128x128.size a := fun arg12 k1_hw96 => k1_hw96.2.2.2.1
theorem k1_off591_inb : ∀ (arg12 : BitVec 32) (k1_hw96 : k1_chk96 arg12), ∀ a, (k1_off591 arg12) a + S1x16.size a ≤ S128x128.size a := fun arg12 k1_hw96 => k1_hw96.2.2.2.2.1
theorem k1_off592_inb : ∀ (arg12 : BitVec 32) (k1_hw96 : k1_chk96 arg12), ∀ a, (k1_off592 arg12) a + S1x16.size a ≤ S128x128.size a := fun arg12 k1_hw96 => k1_hw96.2.2.2.2.2.1
theorem k1_off593_inb : ∀ (arg12 : BitVec 32) (k1_hw96 : k1_chk96 arg12), ∀ a, (k1_off593 arg12) a + S1x16.size a ≤ S128x128.size a := fun arg12 k1_hw96 => k1_hw96.2.2.2.2.2.2.1
theorem k1_off594_inb : ∀ (arg12 : BitVec 32) (k1_hw96 : k1_chk96 arg12), ∀ a, (k1_off594 arg12) a + S1x16.size a ≤ S128x128.size a := fun arg12 k1_hw96 => k1_hw96.2.2.2.2.2.2.2

@[reducible] def k1_t74_loop : Scf.Loop 32 :=
  let c0_i32_357 : BitVec 32 := 0#32
  let c128_i32_358 : BitVec 32 := 128#32
  let v344 : BitVec 32 := Scalar.addi c0_i32_357 c128_i32_358
  let c1_i32_359 : BitVec 32 := 1#32
  ⟨c0_i32_357, v344, c1_i32_359⟩
def k1_off595 (k1_t74 : Fin k1_t74_loop.trips) : Fin 3 → Nat :=
  let c0_i32_497 : BitVec 32 := 0#32
  let v475 : Index := Scalar.indexCast c0_i32_497
  let c0_i32_357 : BitVec 32 := 0#32
  let c1_i32_359 : BitVec 32 := 1#32
  let arg9 : BitVec 32 := Scf.iv c0_i32_357 c1_i32_359 k1_t74
  let v476 : Index := Scalar.indexCast arg9
  let c0 : Index := 0#32
  ![0, v476.toNat, 0]
def k1_off596 (k1_t74 : Fin k1_t74_loop.trips) : Fin 3 → Nat :=
  let c0_i32_498 : BitVec 32 := 0#32
  let v479 : Index := Scalar.indexCast c0_i32_498
  let c0_i32_357 : BitVec 32 := 0#32
  let c1_i32_359 : BitVec 32 := 1#32
  let arg9 : BitVec 32 := Scf.iv c0_i32_357 c1_i32_359 k1_t74
  let v480 : Index := Scalar.indexCast arg9
  let c16 : Index := 16#32
  ![0, v480.toNat, 16]
def k1_off597 (k1_t74 : Fin k1_t74_loop.trips) : Fin 3 → Nat :=
  let c0_i32_499 : BitVec 32 := 0#32
  let v483 : Index := Scalar.indexCast c0_i32_499
  let c0_i32_357 : BitVec 32 := 0#32
  let c1_i32_359 : BitVec 32 := 1#32
  let arg9 : BitVec 32 := Scf.iv c0_i32_357 c1_i32_359 k1_t74
  let v484 : Index := Scalar.indexCast arg9
  let c32 : Index := 32#32
  ![0, v484.toNat, 32]
def k1_off598 (k1_t74 : Fin k1_t74_loop.trips) : Fin 3 → Nat :=
  let c0_i32_500 : BitVec 32 := 0#32
  let v487 : Index := Scalar.indexCast c0_i32_500
  let c0_i32_357 : BitVec 32 := 0#32
  let c1_i32_359 : BitVec 32 := 1#32
  let arg9 : BitVec 32 := Scf.iv c0_i32_357 c1_i32_359 k1_t74
  let v488 : Index := Scalar.indexCast arg9
  let c48 : Index := 48#32
  ![0, v488.toNat, 48]
def k1_off599 (k1_t74 : Fin k1_t74_loop.trips) : Fin 3 → Nat :=
  let c0_i32_501 : BitVec 32 := 0#32
  let v491 : Index := Scalar.indexCast c0_i32_501
  let c0_i32_357 : BitVec 32 := 0#32
  let c1_i32_359 : BitVec 32 := 1#32
  let arg9 : BitVec 32 := Scf.iv c0_i32_357 c1_i32_359 k1_t74
  let v492 : Index := Scalar.indexCast arg9
  let c64 : Index := 64#32
  ![0, v492.toNat, 64]
def k1_off600 (k1_t74 : Fin k1_t74_loop.trips) : Fin 3 → Nat :=
  let c0_i32_502 : BitVec 32 := 0#32
  let v495 : Index := Scalar.indexCast c0_i32_502
  let c0_i32_357 : BitVec 32 := 0#32
  let c1_i32_359 : BitVec 32 := 1#32
  let arg9 : BitVec 32 := Scf.iv c0_i32_357 c1_i32_359 k1_t74
  let v496 : Index := Scalar.indexCast arg9
  let c80 : Index := 80#32
  ![0, v496.toNat, 80]
def k1_off601 (k1_t74 : Fin k1_t74_loop.trips) : Fin 3 → Nat :=
  let c0_i32_503 : BitVec 32 := 0#32
  let v499 : Index := Scalar.indexCast c0_i32_503
  let c0_i32_357 : BitVec 32 := 0#32
  let c1_i32_359 : BitVec 32 := 1#32
  let arg9 : BitVec 32 := Scf.iv c0_i32_357 c1_i32_359 k1_t74
  let v500 : Index := Scalar.indexCast arg9
  let c96 : Index := 96#32
  ![0, v500.toNat, 96]
def k1_off602 (k1_t74 : Fin k1_t74_loop.trips) : Fin 3 → Nat :=
  let c0_i32_504 : BitVec 32 := 0#32
  let v503 : Index := Scalar.indexCast c0_i32_504
  let c0_i32_357 : BitVec 32 := 0#32
  let c1_i32_359 : BitVec 32 := 1#32
  let arg9 : BitVec 32 := Scf.iv c0_i32_357 c1_i32_359 k1_t74
  let v504 : Index := Scalar.indexCast arg9
  let c112 : Index := 112#32
  ![0, v504.toNat, 112]
def k1_off603 (k1_t74 : Fin k1_t74_loop.trips) : Fin 3 → Nat :=
  let c0_i32_505 : BitVec 32 := 0#32
  let v507 : Index := Scalar.indexCast c0_i32_505
  let c0_i32_357 : BitVec 32 := 0#32
  let c1_i32_359 : BitVec 32 := 1#32
  let arg9 : BitVec 32 := Scf.iv c0_i32_357 c1_i32_359 k1_t74
  let v508 : Index := Scalar.indexCast arg9
  let c0_506 : Index := 0#32
  ![0, v508.toNat, 0]
@[reducible] def k1_t75_loop (i : grid1.Coords) (k1_t74 : Fin k1_t74_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off604 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off605 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off606 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off607 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off608 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off609 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off610 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off611 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk98 (arg12 : BitVec 32) : Prop :=
  (∀ a, (k1_off604 arg12) a + S1x16.size a ≤ S128x128.size a) ∧
  (∀ a, (k1_off605 arg12) a + S1x16.size a ≤ S128x128.size a) ∧
  (∀ a, (k1_off606 arg12) a + S1x16.size a ≤ S128x128.size a) ∧
  (∀ a, (k1_off607 arg12) a + S1x16.size a ≤ S128x128.size a) ∧
  (∀ a, (k1_off608 arg12) a + S1x16.size a ≤ S128x128.size a) ∧
  (∀ a, (k1_off609 arg12) a + S1x16.size a ≤ S128x128.size a) ∧
  (∀ a, (k1_off610 arg12) a + S1x16.size a ≤ S128x128.size a) ∧
  (∀ a, (k1_off611 arg12) a + S1x16.size a ≤ S128x128.size a)
theorem k1_off604_inb : ∀ (arg12 : BitVec 32) (k1_hw98 : k1_chk98 arg12), ∀ a, (k1_off604 arg12) a + S1x16.size a ≤ S128x128.size a := fun arg12 k1_hw98 => k1_hw98.1
theorem k1_off605_inb : ∀ (arg12 : BitVec 32) (k1_hw98 : k1_chk98 arg12), ∀ a, (k1_off605 arg12) a + S1x16.size a ≤ S128x128.size a := fun arg12 k1_hw98 => k1_hw98.2.1
theorem k1_off606_inb : ∀ (arg12 : BitVec 32) (k1_hw98 : k1_chk98 arg12), ∀ a, (k1_off606 arg12) a + S1x16.size a ≤ S128x128.size a := fun arg12 k1_hw98 => k1_hw98.2.2.1
theorem k1_off607_inb : ∀ (arg12 : BitVec 32) (k1_hw98 : k1_chk98 arg12), ∀ a, (k1_off607 arg12) a + S1x16.size a ≤ S128x128.size a := fun arg12 k1_hw98 => k1_hw98.2.2.2.1
theorem k1_off608_inb : ∀ (arg12 : BitVec 32) (k1_hw98 : k1_chk98 arg12), ∀ a, (k1_off608 arg12) a + S1x16.size a ≤ S128x128.size a := fun arg12 k1_hw98 => k1_hw98.2.2.2.2.1
theorem k1_off609_inb : ∀ (arg12 : BitVec 32) (k1_hw98 : k1_chk98 arg12), ∀ a, (k1_off609 arg12) a + S1x16.size a ≤ S128x128.size a := fun arg12 k1_hw98 => k1_hw98.2.2.2.2.2.1
theorem k1_off610_inb : ∀ (arg12 : BitVec 32) (k1_hw98 : k1_chk98 arg12), ∀ a, (k1_off610 arg12) a + S1x16.size a ≤ S128x128.size a := fun arg12 k1_hw98 => k1_hw98.2.2.2.2.2.2.1
theorem k1_off611_inb : ∀ (arg12 : BitVec 32) (k1_hw98 : k1_chk98 arg12), ∀ a, (k1_off611 arg12) a + S1x16.size a ≤ S128x128.size a := fun arg12 k1_hw98 => k1_hw98.2.2.2.2.2.2.2

@[reducible] def k1_t76_loop (i : grid1.Coords) (k1_t74 : Fin k1_t74_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk97 (i : grid1.Coords) (k1_t74 : Fin k1_t74_loop.trips) (v519 : BitVec 32) : Prop :=
  ((k1_t75_loop i k1_t74 v519).OK) ∧
  ((k1_t76_loop i k1_t74 v519).OK)
theorem k1_t75_ok : ∀ (i : grid1.Coords) (k1_t74 : Fin k1_t74_loop.trips) (v519 : BitVec 32) (k1_hw97 : k1_chk97 i k1_t74 v519), (k1_t75_loop i k1_t74 v519).OK := fun i k1_t74 v519 k1_hw97 => k1_hw97.1
theorem k1_t76_ok : ∀ (i : grid1.Coords) (k1_t74 : Fin k1_t74_loop.trips) (v519 : BitVec 32) (k1_hw97 : k1_chk97 i k1_t74 v519), (k1_t76_loop i k1_t74 v519).OK := fun i k1_t74 v519 k1_hw97 => k1_hw97.2

def k1_off612 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off613 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off614 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off615 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off616 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off617 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off618 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off619 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk99 (arg12 : BitVec 32) : Prop :=
  (∀ a, (k1_off612 arg12) a + S1x16.size a ≤ S128x128.size a) ∧
  (∀ a, (k1_off613 arg12) a + S1x16.size a ≤ S128x128.size a) ∧
  (∀ a, (k1_off614 arg12) a + S1x16.size a ≤ S128x128.size a) ∧
  (∀ a, (k1_off615 arg12) a + S1x16.size a ≤ S128x128.size a) ∧
  (∀ a, (k1_off616 arg12) a + S1x16.size a ≤ S128x128.size a) ∧
  (∀ a, (k1_off617 arg12) a + S1x16.size a ≤ S128x128.size a) ∧
  (∀ a, (k1_off618 arg12) a + S1x16.size a ≤ S128x128.size a) ∧
  (∀ a, (k1_off619 arg12) a + S1x16.size a ≤ S128x128.size a)
theorem k1_off612_inb : ∀ (arg12 : BitVec 32) (k1_hw99 : k1_chk99 arg12), ∀ a, (k1_off612 arg12) a + S1x16.size a ≤ S128x128.size a := fun arg12 k1_hw99 => k1_hw99.1
theorem k1_off613_inb : ∀ (arg12 : BitVec 32) (k1_hw99 : k1_chk99 arg12), ∀ a, (k1_off613 arg12) a + S1x16.size a ≤ S128x128.size a := fun arg12 k1_hw99 => k1_hw99.2.1
theorem k1_off614_inb : ∀ (arg12 : BitVec 32) (k1_hw99 : k1_chk99 arg12), ∀ a, (k1_off614 arg12) a + S1x16.size a ≤ S128x128.size a := fun arg12 k1_hw99 => k1_hw99.2.2.1
theorem k1_off615_inb : ∀ (arg12 : BitVec 32) (k1_hw99 : k1_chk99 arg12), ∀ a, (k1_off615 arg12) a + S1x16.size a ≤ S128x128.size a := fun arg12 k1_hw99 => k1_hw99.2.2.2.1
theorem k1_off616_inb : ∀ (arg12 : BitVec 32) (k1_hw99 : k1_chk99 arg12), ∀ a, (k1_off616 arg12) a + S1x16.size a ≤ S128x128.size a := fun arg12 k1_hw99 => k1_hw99.2.2.2.2.1
theorem k1_off617_inb : ∀ (arg12 : BitVec 32) (k1_hw99 : k1_chk99 arg12), ∀ a, (k1_off617 arg12) a + S1x16.size a ≤ S128x128.size a := fun arg12 k1_hw99 => k1_hw99.2.2.2.2.2.1
theorem k1_off618_inb : ∀ (arg12 : BitVec 32) (k1_hw99 : k1_chk99 arg12), ∀ a, (k1_off618 arg12) a + S1x16.size a ≤ S128x128.size a := fun arg12 k1_hw99 => k1_hw99.2.2.2.2.2.2.1
theorem k1_off619_inb : ∀ (arg12 : BitVec 32) (k1_hw99 : k1_chk99 arg12), ∀ a, (k1_off619 arg12) a + S1x16.size a ≤ S128x128.size a := fun arg12 k1_hw99 => k1_hw99.2.2.2.2.2.2.2

@[reducible] def k1_t77_loop (i : grid1.Coords) (k1_t74 : Fin k1_t74_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off620 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off621 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off622 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off623 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off624 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off625 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off626 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off627 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk101 (arg12 : BitVec 32) : Prop :=
  (∀ a, (k1_off620 arg12) a + S1x16.size a ≤ S128x128.size a) ∧
  (∀ a, (k1_off621 arg12) a + S1x16.size a ≤ S128x128.size a) ∧
  (∀ a, (k1_off622 arg12) a + S1x16.size a ≤ S128x128.size a) ∧
  (∀ a, (k1_off623 arg12) a + S1x16.size a ≤ S128x128.size a) ∧
  (∀ a, (k1_off624 arg12) a + S1x16.size a ≤ S128x128.size a) ∧
  (∀ a, (k1_off625 arg12) a + S1x16.size a ≤ S128x128.size a) ∧
  (∀ a, (k1_off626 arg12) a + S1x16.size a ≤ S128x128.size a) ∧
  (∀ a, (k1_off627 arg12) a + S1x16.size a ≤ S128x128.size a)
theorem k1_off620_inb : ∀ (arg12 : BitVec 32) (k1_hw101 : k1_chk101 arg12), ∀ a, (k1_off620 arg12) a + S1x16.size a ≤ S128x128.size a := fun arg12 k1_hw101 => k1_hw101.1
theorem k1_off621_inb : ∀ (arg12 : BitVec 32) (k1_hw101 : k1_chk101 arg12), ∀ a, (k1_off621 arg12) a + S1x16.size a ≤ S128x128.size a := fun arg12 k1_hw101 => k1_hw101.2.1
theorem k1_off622_inb : ∀ (arg12 : BitVec 32) (k1_hw101 : k1_chk101 arg12), ∀ a, (k1_off622 arg12) a + S1x16.size a ≤ S128x128.size a := fun arg12 k1_hw101 => k1_hw101.2.2.1
theorem k1_off623_inb : ∀ (arg12 : BitVec 32) (k1_hw101 : k1_chk101 arg12), ∀ a, (k1_off623 arg12) a + S1x16.size a ≤ S128x128.size a := fun arg12 k1_hw101 => k1_hw101.2.2.2.1
theorem k1_off624_inb : ∀ (arg12 : BitVec 32) (k1_hw101 : k1_chk101 arg12), ∀ a, (k1_off624 arg12) a + S1x16.size a ≤ S128x128.size a := fun arg12 k1_hw101 => k1_hw101.2.2.2.2.1
theorem k1_off625_inb : ∀ (arg12 : BitVec 32) (k1_hw101 : k1_chk101 arg12), ∀ a, (k1_off625 arg12) a + S1x16.size a ≤ S128x128.size a := fun arg12 k1_hw101 => k1_hw101.2.2.2.2.2.1
theorem k1_off626_inb : ∀ (arg12 : BitVec 32) (k1_hw101 : k1_chk101 arg12), ∀ a, (k1_off626 arg12) a + S1x16.size a ≤ S128x128.size a := fun arg12 k1_hw101 => k1_hw101.2.2.2.2.2.2.1
theorem k1_off627_inb : ∀ (arg12 : BitVec 32) (k1_hw101 : k1_chk101 arg12), ∀ a, (k1_off627 arg12) a + S1x16.size a ≤ S128x128.size a := fun arg12 k1_hw101 => k1_hw101.2.2.2.2.2.2.2

@[reducible] def k1_t78_loop (i : grid1.Coords) (k1_t74 : Fin k1_t74_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk100 (i : grid1.Coords) (k1_t74 : Fin k1_t74_loop.trips) (v540 : BitVec 32) : Prop :=
  ((k1_t77_loop i k1_t74 v540).OK) ∧
  ((k1_t78_loop i k1_t74 v540).OK)
theorem k1_t77_ok : ∀ (i : grid1.Coords) (k1_t74 : Fin k1_t74_loop.trips) (v540 : BitVec 32) (k1_hw100 : k1_chk100 i k1_t74 v540), (k1_t77_loop i k1_t74 v540).OK := fun i k1_t74 v540 k1_hw100 => k1_hw100.1
theorem k1_t78_ok : ∀ (i : grid1.Coords) (k1_t74 : Fin k1_t74_loop.trips) (v540 : BitVec 32) (k1_hw100 : k1_chk100 i k1_t74 v540), (k1_t78_loop i k1_t74 v540).OK := fun i k1_t74 v540 k1_hw100 => k1_hw100.2

def k1_off628 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off629 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off630 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off631 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off632 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off633 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off634 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off635 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk102 (arg12 : BitVec 32) : Prop :=
  (∀ a, (k1_off628 arg12) a + S1x16.size a ≤ S128x128.size a) ∧
  (∀ a, (k1_off629 arg12) a + S1x16.size a ≤ S128x128.size a) ∧
  (∀ a, (k1_off630 arg12) a + S1x16.size a ≤ S128x128.size a) ∧
  (∀ a, (k1_off631 arg12) a + S1x16.size a ≤ S128x128.size a) ∧
  (∀ a, (k1_off632 arg12) a + S1x16.size a ≤ S128x128.size a) ∧
  (∀ a, (k1_off633 arg12) a + S1x16.size a ≤ S128x128.size a) ∧
  (∀ a, (k1_off634 arg12) a + S1x16.size a ≤ S128x128.size a) ∧
  (∀ a, (k1_off635 arg12) a + S1x16.size a ≤ S128x128.size a)
theorem k1_off628_inb : ∀ (arg12 : BitVec 32) (k1_hw102 : k1_chk102 arg12), ∀ a, (k1_off628 arg12) a + S1x16.size a ≤ S128x128.size a := fun arg12 k1_hw102 => k1_hw102.1
theorem k1_off629_inb : ∀ (arg12 : BitVec 32) (k1_hw102 : k1_chk102 arg12), ∀ a, (k1_off629 arg12) a + S1x16.size a ≤ S128x128.size a := fun arg12 k1_hw102 => k1_hw102.2.1
theorem k1_off630_inb : ∀ (arg12 : BitVec 32) (k1_hw102 : k1_chk102 arg12), ∀ a, (k1_off630 arg12) a + S1x16.size a ≤ S128x128.size a := fun arg12 k1_hw102 => k1_hw102.2.2.1
theorem k1_off631_inb : ∀ (arg12 : BitVec 32) (k1_hw102 : k1_chk102 arg12), ∀ a, (k1_off631 arg12) a + S1x16.size a ≤ S128x128.size a := fun arg12 k1_hw102 => k1_hw102.2.2.2.1
theorem k1_off632_inb : ∀ (arg12 : BitVec 32) (k1_hw102 : k1_chk102 arg12), ∀ a, (k1_off632 arg12) a + S1x16.size a ≤ S128x128.size a := fun arg12 k1_hw102 => k1_hw102.2.2.2.2.1
theorem k1_off633_inb : ∀ (arg12 : BitVec 32) (k1_hw102 : k1_chk102 arg12), ∀ a, (k1_off633 arg12) a + S1x16.size a ≤ S128x128.size a := fun arg12 k1_hw102 => k1_hw102.2.2.2.2.2.1
theorem k1_off634_inb : ∀ (arg12 : BitVec 32) (k1_hw102 : k1_chk102 arg12), ∀ a, (k1_off634 arg12) a + S1x16.size a ≤ S128x128.size a := fun arg12 k1_hw102 => k1_hw102.2.2.2.2.2.2.1
theorem k1_off635_inb : ∀ (arg12 : BitVec 32) (k1_hw102 : k1_chk102 arg12), ∀ a, (k1_off635 arg12) a + S1x16.size a ≤ S128x128.size a := fun arg12 k1_hw102 => k1_hw102.2.2.2.2.2.2.2

@[reducible] def k1_t79_loop (i : grid1.Coords) (k1_t74 : Fin k1_t74_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off636 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off637 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off638 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off639 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off640 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off641 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off642 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off643 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk104 (arg12 : BitVec 32) : Prop :=
  (∀ a, (k1_off636 arg12) a + S1x16.size a ≤ S128x128.size a) ∧
  (∀ a, (k1_off637 arg12) a + S1x16.size a ≤ S128x128.size a) ∧
  (∀ a, (k1_off638 arg12) a + S1x16.size a ≤ S128x128.size a) ∧
  (∀ a, (k1_off639 arg12) a + S1x16.size a ≤ S128x128.size a) ∧
  (∀ a, (k1_off640 arg12) a + S1x16.size a ≤ S128x128.size a) ∧
  (∀ a, (k1_off641 arg12) a + S1x16.size a ≤ S128x128.size a) ∧
  (∀ a, (k1_off642 arg12) a + S1x16.size a ≤ S128x128.size a) ∧
  (∀ a, (k1_off643 arg12) a + S1x16.size a ≤ S128x128.size a)
theorem k1_off636_inb : ∀ (arg12 : BitVec 32) (k1_hw104 : k1_chk104 arg12), ∀ a, (k1_off636 arg12) a + S1x16.size a ≤ S128x128.size a := fun arg12 k1_hw104 => k1_hw104.1
theorem k1_off637_inb : ∀ (arg12 : BitVec 32) (k1_hw104 : k1_chk104 arg12), ∀ a, (k1_off637 arg12) a + S1x16.size a ≤ S128x128.size a := fun arg12 k1_hw104 => k1_hw104.2.1
theorem k1_off638_inb : ∀ (arg12 : BitVec 32) (k1_hw104 : k1_chk104 arg12), ∀ a, (k1_off638 arg12) a + S1x16.size a ≤ S128x128.size a := fun arg12 k1_hw104 => k1_hw104.2.2.1
theorem k1_off639_inb : ∀ (arg12 : BitVec 32) (k1_hw104 : k1_chk104 arg12), ∀ a, (k1_off639 arg12) a + S1x16.size a ≤ S128x128.size a := fun arg12 k1_hw104 => k1_hw104.2.2.2.1
theorem k1_off640_inb : ∀ (arg12 : BitVec 32) (k1_hw104 : k1_chk104 arg12), ∀ a, (k1_off640 arg12) a + S1x16.size a ≤ S128x128.size a := fun arg12 k1_hw104 => k1_hw104.2.2.2.2.1
theorem k1_off641_inb : ∀ (arg12 : BitVec 32) (k1_hw104 : k1_chk104 arg12), ∀ a, (k1_off641 arg12) a + S1x16.size a ≤ S128x128.size a := fun arg12 k1_hw104 => k1_hw104.2.2.2.2.2.1
theorem k1_off642_inb : ∀ (arg12 : BitVec 32) (k1_hw104 : k1_chk104 arg12), ∀ a, (k1_off642 arg12) a + S1x16.size a ≤ S128x128.size a := fun arg12 k1_hw104 => k1_hw104.2.2.2.2.2.2.1
theorem k1_off643_inb : ∀ (arg12 : BitVec 32) (k1_hw104 : k1_chk104 arg12), ∀ a, (k1_off643 arg12) a + S1x16.size a ≤ S128x128.size a := fun arg12 k1_hw104 => k1_hw104.2.2.2.2.2.2.2

@[reducible] def k1_t80_loop (i : grid1.Coords) (k1_t74 : Fin k1_t74_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk103 (i : grid1.Coords) (k1_t74 : Fin k1_t74_loop.trips) (v561 : BitVec 32) : Prop :=
  ((k1_t79_loop i k1_t74 v561).OK) ∧
  ((k1_t80_loop i k1_t74 v561).OK)
theorem k1_t79_ok : ∀ (i : grid1.Coords) (k1_t74 : Fin k1_t74_loop.trips) (v561 : BitVec 32) (k1_hw103 : k1_chk103 i k1_t74 v561), (k1_t79_loop i k1_t74 v561).OK := fun i k1_t74 v561 k1_hw103 => k1_hw103.1
theorem k1_t80_ok : ∀ (i : grid1.Coords) (k1_t74 : Fin k1_t74_loop.trips) (v561 : BitVec 32) (k1_hw103 : k1_chk103 i k1_t74 v561), (k1_t80_loop i k1_t74 v561).OK := fun i k1_t74 v561 k1_hw103 => k1_hw103.2

def k1_off644 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off645 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off646 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off647 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off648 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off649 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off650 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off651 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk105 (arg12 : BitVec 32) : Prop :=
  (∀ a, (k1_off644 arg12) a + S1x16.size a ≤ S128x128.size a) ∧
  (∀ a, (k1_off645 arg12) a + S1x16.size a ≤ S128x128.size a) ∧
  (∀ a, (k1_off646 arg12) a + S1x16.size a ≤ S128x128.size a) ∧
  (∀ a, (k1_off647 arg12) a + S1x16.size a ≤ S128x128.size a) ∧
  (∀ a, (k1_off648 arg12) a + S1x16.size a ≤ S128x128.size a) ∧
  (∀ a, (k1_off649 arg12) a + S1x16.size a ≤ S128x128.size a) ∧
  (∀ a, (k1_off650 arg12) a + S1x16.size a ≤ S128x128.size a) ∧
  (∀ a, (k1_off651 arg12) a + S1x16.size a ≤ S128x128.size a)
theorem k1_off644_inb : ∀ (arg12 : BitVec 32) (k1_hw105 : k1_chk105 arg12), ∀ a, (k1_off644 arg12) a + S1x16.size a ≤ S128x128.size a := fun arg12 k1_hw105 => k1_hw105.1
theorem k1_off645_inb : ∀ (arg12 : BitVec 32) (k1_hw105 : k1_chk105 arg12), ∀ a, (k1_off645 arg12) a + S1x16.size a ≤ S128x128.size a := fun arg12 k1_hw105 => k1_hw105.2.1
theorem k1_off646_inb : ∀ (arg12 : BitVec 32) (k1_hw105 : k1_chk105 arg12), ∀ a, (k1_off646 arg12) a + S1x16.size a ≤ S128x128.size a := fun arg12 k1_hw105 => k1_hw105.2.2.1
theorem k1_off647_inb : ∀ (arg12 : BitVec 32) (k1_hw105 : k1_chk105 arg12), ∀ a, (k1_off647 arg12) a + S1x16.size a ≤ S128x128.size a := fun arg12 k1_hw105 => k1_hw105.2.2.2.1
theorem k1_off648_inb : ∀ (arg12 : BitVec 32) (k1_hw105 : k1_chk105 arg12), ∀ a, (k1_off648 arg12) a + S1x16.size a ≤ S128x128.size a := fun arg12 k1_hw105 => k1_hw105.2.2.2.2.1
theorem k1_off649_inb : ∀ (arg12 : BitVec 32) (k1_hw105 : k1_chk105 arg12), ∀ a, (k1_off649 arg12) a + S1x16.size a ≤ S128x128.size a := fun arg12 k1_hw105 => k1_hw105.2.2.2.2.2.1
theorem k1_off650_inb : ∀ (arg12 : BitVec 32) (k1_hw105 : k1_chk105 arg12), ∀ a, (k1_off650 arg12) a + S1x16.size a ≤ S128x128.size a := fun arg12 k1_hw105 => k1_hw105.2.2.2.2.2.2.1
theorem k1_off651_inb : ∀ (arg12 : BitVec 32) (k1_hw105 : k1_chk105 arg12), ∀ a, (k1_off651 arg12) a + S1x16.size a ≤ S128x128.size a := fun arg12 k1_hw105 => k1_hw105.2.2.2.2.2.2.2

@[reducible] def k1_t81_loop (i : grid1.Coords) (k1_t74 : Fin k1_t74_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off652 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off653 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off654 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off655 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off656 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off657 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off658 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off659 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk107 (arg12 : BitVec 32) : Prop :=
  (∀ a, (k1_off652 arg12) a + S1x16.size a ≤ S128x128.size a) ∧
  (∀ a, (k1_off653 arg12) a + S1x16.size a ≤ S128x128.size a) ∧
  (∀ a, (k1_off654 arg12) a + S1x16.size a ≤ S128x128.size a) ∧
  (∀ a, (k1_off655 arg12) a + S1x16.size a ≤ S128x128.size a) ∧
  (∀ a, (k1_off656 arg12) a + S1x16.size a ≤ S128x128.size a) ∧
  (∀ a, (k1_off657 arg12) a + S1x16.size a ≤ S128x128.size a) ∧
  (∀ a, (k1_off658 arg12) a + S1x16.size a ≤ S128x128.size a) ∧
  (∀ a, (k1_off659 arg12) a + S1x16.size a ≤ S128x128.size a)
theorem k1_off652_inb : ∀ (arg12 : BitVec 32) (k1_hw107 : k1_chk107 arg12), ∀ a, (k1_off652 arg12) a + S1x16.size a ≤ S128x128.size a := fun arg12 k1_hw107 => k1_hw107.1
theorem k1_off653_inb : ∀ (arg12 : BitVec 32) (k1_hw107 : k1_chk107 arg12), ∀ a, (k1_off653 arg12) a + S1x16.size a ≤ S128x128.size a := fun arg12 k1_hw107 => k1_hw107.2.1
theorem k1_off654_inb : ∀ (arg12 : BitVec 32) (k1_hw107 : k1_chk107 arg12), ∀ a, (k1_off654 arg12) a + S1x16.size a ≤ S128x128.size a := fun arg12 k1_hw107 => k1_hw107.2.2.1
theorem k1_off655_inb : ∀ (arg12 : BitVec 32) (k1_hw107 : k1_chk107 arg12), ∀ a, (k1_off655 arg12) a + S1x16.size a ≤ S128x128.size a := fun arg12 k1_hw107 => k1_hw107.2.2.2.1
theorem k1_off656_inb : ∀ (arg12 : BitVec 32) (k1_hw107 : k1_chk107 arg12), ∀ a, (k1_off656 arg12) a + S1x16.size a ≤ S128x128.size a := fun arg12 k1_hw107 => k1_hw107.2.2.2.2.1
theorem k1_off657_inb : ∀ (arg12 : BitVec 32) (k1_hw107 : k1_chk107 arg12), ∀ a, (k1_off657 arg12) a + S1x16.size a ≤ S128x128.size a := fun arg12 k1_hw107 => k1_hw107.2.2.2.2.2.1
theorem k1_off658_inb : ∀ (arg12 : BitVec 32) (k1_hw107 : k1_chk107 arg12), ∀ a, (k1_off658 arg12) a + S1x16.size a ≤ S128x128.size a := fun arg12 k1_hw107 => k1_hw107.2.2.2.2.2.2.1
theorem k1_off659_inb : ∀ (arg12 : BitVec 32) (k1_hw107 : k1_chk107 arg12), ∀ a, (k1_off659 arg12) a + S1x16.size a ≤ S128x128.size a := fun arg12 k1_hw107 => k1_hw107.2.2.2.2.2.2.2

@[reducible] def k1_t82_loop (i : grid1.Coords) (k1_t74 : Fin k1_t74_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1024_i32_355 : BitVec 32 := 1024#32
  let v343 : BitVec 32 := Scalar.addi v2 c1024_i32_355
  let c0_i32_357 : BitVec 32 := 0#32
  let c1_i32_359 : BitVec 32 := 1#32
  let arg9 : BitVec 32 := Scf.iv c0_i32_357 c1_i32_359 k1_t74
  let v473 : BitVec 32 := Scalar.addi v343 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk106 (i : grid1.Coords) (k1_t74 : Fin k1_t74_loop.trips) (v582 : BitVec 32) : Prop :=
  ((k1_t81_loop i k1_t74 v582).OK) ∧
  ((k1_t82_loop i k1_t74 v582).OK)
theorem k1_t81_ok : ∀ (i : grid1.Coords) (k1_t74 : Fin k1_t74_loop.trips) (v582 : BitVec 32) (k1_hw106 : k1_chk106 i k1_t74 v582), (k1_t81_loop i k1_t74 v582).OK := fun i k1_t74 v582 k1_hw106 => k1_hw106.1
theorem k1_t82_ok : ∀ (i : grid1.Coords) (k1_t74 : Fin k1_t74_loop.trips) (v582 : BitVec 32) (k1_hw106 : k1_chk106 i k1_t74 v582), (k1_t82_loop i k1_t74 v582).OK := fun i k1_t74 v582 k1_hw106 => k1_hw106.2

def k1_off660 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off661 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off662 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off663 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off664 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off665 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off666 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off667 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk108 (arg12 : BitVec 32) : Prop :=
  (∀ a, (k1_off660 arg12) a + S1x16.size a ≤ S128x128.size a) ∧
  (∀ a, (k1_off661 arg12) a + S1x16.size a ≤ S128x128.size a) ∧
  (∀ a, (k1_off662 arg12) a + S1x16.size a ≤ S128x128.size a) ∧
  (∀ a, (k1_off663 arg12) a + S1x16.size a ≤ S128x128.size a) ∧
  (∀ a, (k1_off664 arg12) a + S1x16.size a ≤ S128x128.size a) ∧
  (∀ a, (k1_off665 arg12) a + S1x16.size a ≤ S128x128.size a) ∧
  (∀ a, (k1_off666 arg12) a + S1x16.size a ≤ S128x128.size a) ∧
  (∀ a, (k1_off667 arg12) a + S1x16.size a ≤ S128x128.size a)
theorem k1_off660_inb : ∀ (arg12 : BitVec 32) (k1_hw108 : k1_chk108 arg12), ∀ a, (k1_off660 arg12) a + S1x16.size a ≤ S128x128.size a := fun arg12 k1_hw108 => k1_hw108.1
theorem k1_off661_inb : ∀ (arg12 : BitVec 32) (k1_hw108 : k1_chk108 arg12), ∀ a, (k1_off661 arg12) a + S1x16.size a ≤ S128x128.size a := fun arg12 k1_hw108 => k1_hw108.2.1
theorem k1_off662_inb : ∀ (arg12 : BitVec 32) (k1_hw108 : k1_chk108 arg12), ∀ a, (k1_off662 arg12) a + S1x16.size a ≤ S128x128.size a := fun arg12 k1_hw108 => k1_hw108.2.2.1
theorem k1_off663_inb : ∀ (arg12 : BitVec 32) (k1_hw108 : k1_chk108 arg12), ∀ a, (k1_off663 arg12) a + S1x16.size a ≤ S128x128.size a := fun arg12 k1_hw108 => k1_hw108.2.2.2.1
theorem k1_off664_inb : ∀ (arg12 : BitVec 32) (k1_hw108 : k1_chk108 arg12), ∀ a, (k1_off664 arg12) a + S1x16.size a ≤ S128x128.size a := fun arg12 k1_hw108 => k1_hw108.2.2.2.2.1
theorem k1_off665_inb : ∀ (arg12 : BitVec 32) (k1_hw108 : k1_chk108 arg12), ∀ a, (k1_off665 arg12) a + S1x16.size a ≤ S128x128.size a := fun arg12 k1_hw108 => k1_hw108.2.2.2.2.2.1
theorem k1_off666_inb : ∀ (arg12 : BitVec 32) (k1_hw108 : k1_chk108 arg12), ∀ a, (k1_off666 arg12) a + S1x16.size a ≤ S128x128.size a := fun arg12 k1_hw108 => k1_hw108.2.2.2.2.2.2.1
theorem k1_off667_inb : ∀ (arg12 : BitVec 32) (k1_hw108 : k1_chk108 arg12), ∀ a, (k1_off667 arg12) a + S1x16.size a ≤ S128x128.size a := fun arg12 k1_hw108 => k1_hw108.2.2.2.2.2.2.2

@[reducible] def k1_t83_loop : Scf.Loop 32 :=
  let c0_i32_395 : BitVec 32 := 0#32
  let c128_i32_396 : BitVec 32 := 128#32
  let v380 : BitVec 32 := Scalar.addi c0_i32_395 c128_i32_396
  let c1_i32_397 : BitVec 32 := 1#32
  ⟨c0_i32_395, v380, c1_i32_397⟩
def k1_off668 (k1_t83 : Fin k1_t83_loop.trips) : Fin 3 → Nat :=
  let c1_i32_497 : BitVec 32 := 1#32
  let v475 : Index := Scalar.indexCast c1_i32_497
  let c0_i32_395 : BitVec 32 := 0#32
  let c1_i32_397 : BitVec 32 := 1#32
  let arg9 : BitVec 32 := Scf.iv c0_i32_395 c1_i32_397 k1_t83
  let v476 : Index := Scalar.indexCast arg9
  let c0 : Index := 0#32
  ![1, v476.toNat, 0]
def k1_off669 (k1_t83 : Fin k1_t83_loop.trips) : Fin 3 → Nat :=
  let c1_i32_498 : BitVec 32 := 1#32
  let v479 : Index := Scalar.indexCast c1_i32_498
  let c0_i32_395 : BitVec 32 := 0#32
  let c1_i32_397 : BitVec 32 := 1#32
  let arg9 : BitVec 32 := Scf.iv c0_i32_395 c1_i32_397 k1_t83
  let v480 : Index := Scalar.indexCast arg9
  let c16 : Index := 16#32
  ![1, v480.toNat, 16]
def k1_off670 (k1_t83 : Fin k1_t83_loop.trips) : Fin 3 → Nat :=
  let c1_i32_499 : BitVec 32 := 1#32
  let v483 : Index := Scalar.indexCast c1_i32_499
  let c0_i32_395 : BitVec 32 := 0#32
  let c1_i32_397 : BitVec 32 := 1#32
  let arg9 : BitVec 32 := Scf.iv c0_i32_395 c1_i32_397 k1_t83
  let v484 : Index := Scalar.indexCast arg9
  let c32 : Index := 32#32
  ![1, v484.toNat, 32]
def k1_off671 (k1_t83 : Fin k1_t83_loop.trips) : Fin 3 → Nat :=
  let c1_i32_500 : BitVec 32 := 1#32
  let v487 : Index := Scalar.indexCast c1_i32_500
  let c0_i32_395 : BitVec 32 := 0#32
  let c1_i32_397 : BitVec 32 := 1#32
  let arg9 : BitVec 32 := Scf.iv c0_i32_395 c1_i32_397 k1_t83
  let v488 : Index := Scalar.indexCast arg9
  let c48 : Index := 48#32
  ![1, v488.toNat, 48]
def k1_off672 (k1_t83 : Fin k1_t83_loop.trips) : Fin 3 → Nat :=
  let c1_i32_501 : BitVec 32 := 1#32
  let v491 : Index := Scalar.indexCast c1_i32_501
  let c0_i32_395 : BitVec 32 := 0#32
  let c1_i32_397 : BitVec 32 := 1#32
  let arg9 : BitVec 32 := Scf.iv c0_i32_395 c1_i32_397 k1_t83
  let v492 : Index := Scalar.indexCast arg9
  let c64 : Index := 64#32
  ![1, v492.toNat, 64]
def k1_off673 (k1_t83 : Fin k1_t83_loop.trips) : Fin 3 → Nat :=
  let c1_i32_502 : BitVec 32 := 1#32
  let v495 : Index := Scalar.indexCast c1_i32_502
  let c0_i32_395 : BitVec 32 := 0#32
  let c1_i32_397 : BitVec 32 := 1#32
  let arg9 : BitVec 32 := Scf.iv c0_i32_395 c1_i32_397 k1_t83
  let v496 : Index := Scalar.indexCast arg9
  let c80 : Index := 80#32
  ![1, v496.toNat, 80]
def k1_off674 (k1_t83 : Fin k1_t83_loop.trips) : Fin 3 → Nat :=
  let c1_i32_503 : BitVec 32 := 1#32
  let v499 : Index := Scalar.indexCast c1_i32_503
  let c0_i32_395 : BitVec 32 := 0#32
  let c1_i32_397 : BitVec 32 := 1#32
  let arg9 : BitVec 32 := Scf.iv c0_i32_395 c1_i32_397 k1_t83
  let v500 : Index := Scalar.indexCast arg9
  let c96 : Index := 96#32
  ![1, v500.toNat, 96]
def k1_off675 (k1_t83 : Fin k1_t83_loop.trips) : Fin 3 → Nat :=
  let c1_i32_504 : BitVec 32 := 1#32
  let v503 : Index := Scalar.indexCast c1_i32_504
  let c0_i32_395 : BitVec 32 := 0#32
  let c1_i32_397 : BitVec 32 := 1#32
  let arg9 : BitVec 32 := Scf.iv c0_i32_395 c1_i32_397 k1_t83
  let v504 : Index := Scalar.indexCast arg9
  let c112 : Index := 112#32
  ![1, v504.toNat, 112]
def k1_off676 (k1_t83 : Fin k1_t83_loop.trips) : Fin 3 → Nat :=
  let c1_i32_505 : BitVec 32 := 1#32
  let v507 : Index := Scalar.indexCast c1_i32_505
  let c0_i32_395 : BitVec 32 := 0#32
  let c1_i32_397 : BitVec 32 := 1#32
  let arg9 : BitVec 32 := Scf.iv c0_i32_395 c1_i32_397 k1_t83
  let v508 : Index := Scalar.indexCast arg9
  let c0_506 : Index := 0#32
  ![1, v508.toNat, 0]
@[reducible] def k1_t84_loop (i : grid1.Coords) (k1_t83 : Fin k1_t83_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off677 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off678 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off679 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off680 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off681 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off682 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off683 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off684 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk110 (arg12 : BitVec 32) : Prop :=
  (∀ a, (k1_off677 arg12) a + S1x16.size a ≤ S128x128.size a) ∧
  (∀ a, (k1_off678 arg12) a + S1x16.size a ≤ S128x128.size a) ∧
  (∀ a, (k1_off679 arg12) a + S1x16.size a ≤ S128x128.size a) ∧
  (∀ a, (k1_off680 arg12) a + S1x16.size a ≤ S128x128.size a) ∧
  (∀ a, (k1_off681 arg12) a + S1x16.size a ≤ S128x128.size a) ∧
  (∀ a, (k1_off682 arg12) a + S1x16.size a ≤ S128x128.size a) ∧
  (∀ a, (k1_off683 arg12) a + S1x16.size a ≤ S128x128.size a) ∧
  (∀ a, (k1_off684 arg12) a + S1x16.size a ≤ S128x128.size a)
theorem k1_off677_inb : ∀ (arg12 : BitVec 32) (k1_hw110 : k1_chk110 arg12), ∀ a, (k1_off677 arg12) a + S1x16.size a ≤ S128x128.size a := fun arg12 k1_hw110 => k1_hw110.1
theorem k1_off678_inb : ∀ (arg12 : BitVec 32) (k1_hw110 : k1_chk110 arg12), ∀ a, (k1_off678 arg12) a + S1x16.size a ≤ S128x128.size a := fun arg12 k1_hw110 => k1_hw110.2.1
theorem k1_off679_inb : ∀ (arg12 : BitVec 32) (k1_hw110 : k1_chk110 arg12), ∀ a, (k1_off679 arg12) a + S1x16.size a ≤ S128x128.size a := fun arg12 k1_hw110 => k1_hw110.2.2.1
theorem k1_off680_inb : ∀ (arg12 : BitVec 32) (k1_hw110 : k1_chk110 arg12), ∀ a, (k1_off680 arg12) a + S1x16.size a ≤ S128x128.size a := fun arg12 k1_hw110 => k1_hw110.2.2.2.1
theorem k1_off681_inb : ∀ (arg12 : BitVec 32) (k1_hw110 : k1_chk110 arg12), ∀ a, (k1_off681 arg12) a + S1x16.size a ≤ S128x128.size a := fun arg12 k1_hw110 => k1_hw110.2.2.2.2.1
theorem k1_off682_inb : ∀ (arg12 : BitVec 32) (k1_hw110 : k1_chk110 arg12), ∀ a, (k1_off682 arg12) a + S1x16.size a ≤ S128x128.size a := fun arg12 k1_hw110 => k1_hw110.2.2.2.2.2.1
theorem k1_off683_inb : ∀ (arg12 : BitVec 32) (k1_hw110 : k1_chk110 arg12), ∀ a, (k1_off683 arg12) a + S1x16.size a ≤ S128x128.size a := fun arg12 k1_hw110 => k1_hw110.2.2.2.2.2.2.1
theorem k1_off684_inb : ∀ (arg12 : BitVec 32) (k1_hw110 : k1_chk110 arg12), ∀ a, (k1_off684 arg12) a + S1x16.size a ≤ S128x128.size a := fun arg12 k1_hw110 => k1_hw110.2.2.2.2.2.2.2

@[reducible] def k1_t85_loop (i : grid1.Coords) (k1_t83 : Fin k1_t83_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk109 (i : grid1.Coords) (k1_t83 : Fin k1_t83_loop.trips) (v519 : BitVec 32) : Prop :=
  ((k1_t84_loop i k1_t83 v519).OK) ∧
  ((k1_t85_loop i k1_t83 v519).OK)
theorem k1_t84_ok : ∀ (i : grid1.Coords) (k1_t83 : Fin k1_t83_loop.trips) (v519 : BitVec 32) (k1_hw109 : k1_chk109 i k1_t83 v519), (k1_t84_loop i k1_t83 v519).OK := fun i k1_t83 v519 k1_hw109 => k1_hw109.1
theorem k1_t85_ok : ∀ (i : grid1.Coords) (k1_t83 : Fin k1_t83_loop.trips) (v519 : BitVec 32) (k1_hw109 : k1_chk109 i k1_t83 v519), (k1_t85_loop i k1_t83 v519).OK := fun i k1_t83 v519 k1_hw109 => k1_hw109.2

def k1_off685 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off686 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off687 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off688 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off689 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off690 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off691 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off692 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk111 (arg12 : BitVec 32) : Prop :=
  (∀ a, (k1_off685 arg12) a + S1x16.size a ≤ S128x128.size a) ∧
  (∀ a, (k1_off686 arg12) a + S1x16.size a ≤ S128x128.size a) ∧
  (∀ a, (k1_off687 arg12) a + S1x16.size a ≤ S128x128.size a) ∧
  (∀ a, (k1_off688 arg12) a + S1x16.size a ≤ S128x128.size a) ∧
  (∀ a, (k1_off689 arg12) a + S1x16.size a ≤ S128x128.size a) ∧
  (∀ a, (k1_off690 arg12) a + S1x16.size a ≤ S128x128.size a) ∧
  (∀ a, (k1_off691 arg12) a + S1x16.size a ≤ S128x128.size a) ∧
  (∀ a, (k1_off692 arg12) a + S1x16.size a ≤ S128x128.size a)
theorem k1_off685_inb : ∀ (arg12 : BitVec 32) (k1_hw111 : k1_chk111 arg12), ∀ a, (k1_off685 arg12) a + S1x16.size a ≤ S128x128.size a := fun arg12 k1_hw111 => k1_hw111.1
theorem k1_off686_inb : ∀ (arg12 : BitVec 32) (k1_hw111 : k1_chk111 arg12), ∀ a, (k1_off686 arg12) a + S1x16.size a ≤ S128x128.size a := fun arg12 k1_hw111 => k1_hw111.2.1
theorem k1_off687_inb : ∀ (arg12 : BitVec 32) (k1_hw111 : k1_chk111 arg12), ∀ a, (k1_off687 arg12) a + S1x16.size a ≤ S128x128.size a := fun arg12 k1_hw111 => k1_hw111.2.2.1
theorem k1_off688_inb : ∀ (arg12 : BitVec 32) (k1_hw111 : k1_chk111 arg12), ∀ a, (k1_off688 arg12) a + S1x16.size a ≤ S128x128.size a := fun arg12 k1_hw111 => k1_hw111.2.2.2.1
theorem k1_off689_inb : ∀ (arg12 : BitVec 32) (k1_hw111 : k1_chk111 arg12), ∀ a, (k1_off689 arg12) a + S1x16.size a ≤ S128x128.size a := fun arg12 k1_hw111 => k1_hw111.2.2.2.2.1
theorem k1_off690_inb : ∀ (arg12 : BitVec 32) (k1_hw111 : k1_chk111 arg12), ∀ a, (k1_off690 arg12) a + S1x16.size a ≤ S128x128.size a := fun arg12 k1_hw111 => k1_hw111.2.2.2.2.2.1
theorem k1_off691_inb : ∀ (arg12 : BitVec 32) (k1_hw111 : k1_chk111 arg12), ∀ a, (k1_off691 arg12) a + S1x16.size a ≤ S128x128.size a := fun arg12 k1_hw111 => k1_hw111.2.2.2.2.2.2.1
theorem k1_off692_inb : ∀ (arg12 : BitVec 32) (k1_hw111 : k1_chk111 arg12), ∀ a, (k1_off692 arg12) a + S1x16.size a ≤ S128x128.size a := fun arg12 k1_hw111 => k1_hw111.2.2.2.2.2.2.2

@[reducible] def k1_t86_loop (i : grid1.Coords) (k1_t83 : Fin k1_t83_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off693 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

variable {F : FTy → Type} [FloatOps F]

def k1_off694 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off695 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off696 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off697 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off698 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off699 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off700 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk113 (arg12 : BitVec 32) : Prop :=
  (∀ a, (k1_off693 arg12) a + S1x16.size a ≤ S128x128.size a) ∧
  (∀ a, (k1_off694 arg12) a + S1x16.size a ≤ S128x128.size a) ∧
  (∀ a, (k1_off695 arg12) a + S1x16.size a ≤ S128x128.size a) ∧
  (∀ a, (k1_off696 arg12) a + S1x16.size a ≤ S128x128.size a) ∧
  (∀ a, (k1_off697 arg12) a + S1x16.size a ≤ S128x128.size a) ∧
  (∀ a, (k1_off698 arg12) a + S1x16.size a ≤ S128x128.size a) ∧
  (∀ a, (k1_off699 arg12) a + S1x16.size a ≤ S128x128.size a) ∧
  (∀ a, (k1_off700 arg12) a + S1x16.size a ≤ S128x128.size a)
theorem k1_off693_inb : ∀ (arg12 : BitVec 32) (k1_hw113 : k1_chk113 arg12), ∀ a, (k1_off693 arg12) a + S1x16.size a ≤ S128x128.size a := fun arg12 k1_hw113 => k1_hw113.1
theorem k1_off694_inb : ∀ (arg12 : BitVec 32) (k1_hw113 : k1_chk113 arg12), ∀ a, (k1_off694 arg12) a + S1x16.size a ≤ S128x128.size a := fun arg12 k1_hw113 => k1_hw113.2.1
theorem k1_off695_inb : ∀ (arg12 : BitVec 32) (k1_hw113 : k1_chk113 arg12), ∀ a, (k1_off695 arg12) a + S1x16.size a ≤ S128x128.size a := fun arg12 k1_hw113 => k1_hw113.2.2.1
theorem k1_off696_inb : ∀ (arg12 : BitVec 32) (k1_hw113 : k1_chk113 arg12), ∀ a, (k1_off696 arg12) a + S1x16.size a ≤ S128x128.size a := fun arg12 k1_hw113 => k1_hw113.2.2.2.1
theorem k1_off697_inb : ∀ (arg12 : BitVec 32) (k1_hw113 : k1_chk113 arg12), ∀ a, (k1_off697 arg12) a + S1x16.size a ≤ S128x128.size a := fun arg12 k1_hw113 => k1_hw113.2.2.2.2.1
theorem k1_off698_inb : ∀ (arg12 : BitVec 32) (k1_hw113 : k1_chk113 arg12), ∀ a, (k1_off698 arg12) a + S1x16.size a ≤ S128x128.size a := fun arg12 k1_hw113 => k1_hw113.2.2.2.2.2.1
theorem k1_off699_inb : ∀ (arg12 : BitVec 32) (k1_hw113 : k1_chk113 arg12), ∀ a, (k1_off699 arg12) a + S1x16.size a ≤ S128x128.size a := fun arg12 k1_hw113 => k1_hw113.2.2.2.2.2.2.1
theorem k1_off700_inb : ∀ (arg12 : BitVec 32) (k1_hw113 : k1_chk113 arg12), ∀ a, (k1_off700 arg12) a + S1x16.size a ≤ S128x128.size a := fun arg12 k1_hw113 => k1_hw113.2.2.2.2.2.2.2

@[reducible] def k1_t87_loop (i : grid1.Coords) (k1_t83 : Fin k1_t83_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk112 (i : grid1.Coords) (k1_t83 : Fin k1_t83_loop.trips) (v540 : BitVec 32) : Prop :=
  ((k1_t86_loop i k1_t83 v540).OK) ∧
  ((k1_t87_loop i k1_t83 v540).OK)
theorem k1_t86_ok : ∀ (i : grid1.Coords) (k1_t83 : Fin k1_t83_loop.trips) (v540 : BitVec 32) (k1_hw112 : k1_chk112 i k1_t83 v540), (k1_t86_loop i k1_t83 v540).OK := fun i k1_t83 v540 k1_hw112 => k1_hw112.1
theorem k1_t87_ok : ∀ (i : grid1.Coords) (k1_t83 : Fin k1_t83_loop.trips) (v540 : BitVec 32) (k1_hw112 : k1_chk112 i k1_t83 v540), (k1_t87_loop i k1_t83 v540).OK := fun i k1_t83 v540 k1_hw112 => k1_hw112.2

def k1_off701 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off702 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off703 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off704 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off705 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off706 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off707 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off708 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk114 (arg12 : BitVec 32) : Prop :=
  (∀ a, (k1_off701 arg12) a + S1x16.size a ≤ S128x128.size a) ∧
  (∀ a, (k1_off702 arg12) a + S1x16.size a ≤ S128x128.size a) ∧
  (∀ a, (k1_off703 arg12) a + S1x16.size a ≤ S128x128.size a) ∧
  (∀ a, (k1_off704 arg12) a + S1x16.size a ≤ S128x128.size a) ∧
  (∀ a, (k1_off705 arg12) a + S1x16.size a ≤ S128x128.size a) ∧
  (∀ a, (k1_off706 arg12) a + S1x16.size a ≤ S128x128.size a) ∧
  (∀ a, (k1_off707 arg12) a + S1x16.size a ≤ S128x128.size a) ∧
  (∀ a, (k1_off708 arg12) a + S1x16.size a ≤ S128x128.size a)
theorem k1_off701_inb : ∀ (arg12 : BitVec 32) (k1_hw114 : k1_chk114 arg12), ∀ a, (k1_off701 arg12) a + S1x16.size a ≤ S128x128.size a := fun arg12 k1_hw114 => k1_hw114.1
theorem k1_off702_inb : ∀ (arg12 : BitVec 32) (k1_hw114 : k1_chk114 arg12), ∀ a, (k1_off702 arg12) a + S1x16.size a ≤ S128x128.size a := fun arg12 k1_hw114 => k1_hw114.2.1
theorem k1_off703_inb : ∀ (arg12 : BitVec 32) (k1_hw114 : k1_chk114 arg12), ∀ a, (k1_off703 arg12) a + S1x16.size a ≤ S128x128.size a := fun arg12 k1_hw114 => k1_hw114.2.2.1
theorem k1_off704_inb : ∀ (arg12 : BitVec 32) (k1_hw114 : k1_chk114 arg12), ∀ a, (k1_off704 arg12) a + S1x16.size a ≤ S128x128.size a := fun arg12 k1_hw114 => k1_hw114.2.2.2.1
theorem k1_off705_inb : ∀ (arg12 : BitVec 32) (k1_hw114 : k1_chk114 arg12), ∀ a, (k1_off705 arg12) a + S1x16.size a ≤ S128x128.size a := fun arg12 k1_hw114 => k1_hw114.2.2.2.2.1
theorem k1_off706_inb : ∀ (arg12 : BitVec 32) (k1_hw114 : k1_chk114 arg12), ∀ a, (k1_off706 arg12) a + S1x16.size a ≤ S128x128.size a := fun arg12 k1_hw114 => k1_hw114.2.2.2.2.2.1
theorem k1_off707_inb : ∀ (arg12 : BitVec 32) (k1_hw114 : k1_chk114 arg12), ∀ a, (k1_off707 arg12) a + S1x16.size a ≤ S128x128.size a := fun arg12 k1_hw114 => k1_hw114.2.2.2.2.2.2.1
theorem k1_off708_inb : ∀ (arg12 : BitVec 32) (k1_hw114 : k1_chk114 arg12), ∀ a, (k1_off708 arg12) a + S1x16.size a ≤ S128x128.size a := fun arg12 k1_hw114 => k1_hw114.2.2.2.2.2.2.2

@[reducible] def k1_t88_loop (i : grid1.Coords) (k1_t83 : Fin k1_t83_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off709 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off710 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off711 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off712 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off713 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off714 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off715 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off716 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk116 (arg12 : BitVec 32) : Prop :=
  (∀ a, (k1_off709 arg12) a + S1x16.size a ≤ S128x128.size a) ∧
  (∀ a, (k1_off710 arg12) a + S1x16.size a ≤ S128x128.size a) ∧
  (∀ a, (k1_off711 arg12) a + S1x16.size a ≤ S128x128.size a) ∧
  (∀ a, (k1_off712 arg12) a + S1x16.size a ≤ S128x128.size a) ∧
  (∀ a, (k1_off713 arg12) a + S1x16.size a ≤ S128x128.size a) ∧
  (∀ a, (k1_off714 arg12) a + S1x16.size a ≤ S128x128.size a) ∧
  (∀ a, (k1_off715 arg12) a + S1x16.size a ≤ S128x128.size a) ∧
  (∀ a, (k1_off716 arg12) a + S1x16.size a ≤ S128x128.size a)
theorem k1_off709_inb : ∀ (arg12 : BitVec 32) (k1_hw116 : k1_chk116 arg12), ∀ a, (k1_off709 arg12) a + S1x16.size a ≤ S128x128.size a := fun arg12 k1_hw116 => k1_hw116.1
theorem k1_off710_inb : ∀ (arg12 : BitVec 32) (k1_hw116 : k1_chk116 arg12), ∀ a, (k1_off710 arg12) a + S1x16.size a ≤ S128x128.size a := fun arg12 k1_hw116 => k1_hw116.2.1
theorem k1_off711_inb : ∀ (arg12 : BitVec 32) (k1_hw116 : k1_chk116 arg12), ∀ a, (k1_off711 arg12) a + S1x16.size a ≤ S128x128.size a := fun arg12 k1_hw116 => k1_hw116.2.2.1
theorem k1_off712_inb : ∀ (arg12 : BitVec 32) (k1_hw116 : k1_chk116 arg12), ∀ a, (k1_off712 arg12) a + S1x16.size a ≤ S128x128.size a := fun arg12 k1_hw116 => k1_hw116.2.2.2.1
theorem k1_off713_inb : ∀ (arg12 : BitVec 32) (k1_hw116 : k1_chk116 arg12), ∀ a, (k1_off713 arg12) a + S1x16.size a ≤ S128x128.size a := fun arg12 k1_hw116 => k1_hw116.2.2.2.2.1
theorem k1_off714_inb : ∀ (arg12 : BitVec 32) (k1_hw116 : k1_chk116 arg12), ∀ a, (k1_off714 arg12) a + S1x16.size a ≤ S128x128.size a := fun arg12 k1_hw116 => k1_hw116.2.2.2.2.2.1
theorem k1_off715_inb : ∀ (arg12 : BitVec 32) (k1_hw116 : k1_chk116 arg12), ∀ a, (k1_off715 arg12) a + S1x16.size a ≤ S128x128.size a := fun arg12 k1_hw116 => k1_hw116.2.2.2.2.2.2.1
theorem k1_off716_inb : ∀ (arg12 : BitVec 32) (k1_hw116 : k1_chk116 arg12), ∀ a, (k1_off716 arg12) a + S1x16.size a ≤ S128x128.size a := fun arg12 k1_hw116 => k1_hw116.2.2.2.2.2.2.2

@[reducible] def k1_t89_loop (i : grid1.Coords) (k1_t83 : Fin k1_t83_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk115 (i : grid1.Coords) (k1_t83 : Fin k1_t83_loop.trips) (v561 : BitVec 32) : Prop :=
  ((k1_t88_loop i k1_t83 v561).OK) ∧
  ((k1_t89_loop i k1_t83 v561).OK)
theorem k1_t88_ok : ∀ (i : grid1.Coords) (k1_t83 : Fin k1_t83_loop.trips) (v561 : BitVec 32) (k1_hw115 : k1_chk115 i k1_t83 v561), (k1_t88_loop i k1_t83 v561).OK := fun i k1_t83 v561 k1_hw115 => k1_hw115.1
theorem k1_t89_ok : ∀ (i : grid1.Coords) (k1_t83 : Fin k1_t83_loop.trips) (v561 : BitVec 32) (k1_hw115 : k1_chk115 i k1_t83 v561), (k1_t89_loop i k1_t83 v561).OK := fun i k1_t83 v561 k1_hw115 => k1_hw115.2

def k1_off717 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off718 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off719 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off720 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off721 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off722 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off723 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off724 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk117 (arg12 : BitVec 32) : Prop :=
  (∀ a, (k1_off717 arg12) a + S1x16.size a ≤ S128x128.size a) ∧
  (∀ a, (k1_off718 arg12) a + S1x16.size a ≤ S128x128.size a) ∧
  (∀ a, (k1_off719 arg12) a + S1x16.size a ≤ S128x128.size a) ∧
  (∀ a, (k1_off720 arg12) a + S1x16.size a ≤ S128x128.size a) ∧
  (∀ a, (k1_off721 arg12) a + S1x16.size a ≤ S128x128.size a) ∧
  (∀ a, (k1_off722 arg12) a + S1x16.size a ≤ S128x128.size a) ∧
  (∀ a, (k1_off723 arg12) a + S1x16.size a ≤ S128x128.size a) ∧
  (∀ a, (k1_off724 arg12) a + S1x16.size a ≤ S128x128.size a)
theorem k1_off717_inb : ∀ (arg12 : BitVec 32) (k1_hw117 : k1_chk117 arg12), ∀ a, (k1_off717 arg12) a + S1x16.size a ≤ S128x128.size a := fun arg12 k1_hw117 => k1_hw117.1
theorem k1_off718_inb : ∀ (arg12 : BitVec 32) (k1_hw117 : k1_chk117 arg12), ∀ a, (k1_off718 arg12) a + S1x16.size a ≤ S128x128.size a := fun arg12 k1_hw117 => k1_hw117.2.1
theorem k1_off719_inb : ∀ (arg12 : BitVec 32) (k1_hw117 : k1_chk117 arg12), ∀ a, (k1_off719 arg12) a + S1x16.size a ≤ S128x128.size a := fun arg12 k1_hw117 => k1_hw117.2.2.1
theorem k1_off720_inb : ∀ (arg12 : BitVec 32) (k1_hw117 : k1_chk117 arg12), ∀ a, (k1_off720 arg12) a + S1x16.size a ≤ S128x128.size a := fun arg12 k1_hw117 => k1_hw117.2.2.2.1
theorem k1_off721_inb : ∀ (arg12 : BitVec 32) (k1_hw117 : k1_chk117 arg12), ∀ a, (k1_off721 arg12) a + S1x16.size a ≤ S128x128.size a := fun arg12 k1_hw117 => k1_hw117.2.2.2.2.1
theorem k1_off722_inb : ∀ (arg12 : BitVec 32) (k1_hw117 : k1_chk117 arg12), ∀ a, (k1_off722 arg12) a + S1x16.size a ≤ S128x128.size a := fun arg12 k1_hw117 => k1_hw117.2.2.2.2.2.1
theorem k1_off723_inb : ∀ (arg12 : BitVec 32) (k1_hw117 : k1_chk117 arg12), ∀ a, (k1_off723 arg12) a + S1x16.size a ≤ S128x128.size a := fun arg12 k1_hw117 => k1_hw117.2.2.2.2.2.2.1
theorem k1_off724_inb : ∀ (arg12 : BitVec 32) (k1_hw117 : k1_chk117 arg12), ∀ a, (k1_off724 arg12) a + S1x16.size a ≤ S128x128.size a := fun arg12 k1_hw117 => k1_hw117.2.2.2.2.2.2.2

@[reducible] def k1_t90_loop (i : grid1.Coords) (k1_t83 : Fin k1_t83_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off725 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off726 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off727 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off728 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off729 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off730 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off731 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off732 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk119 (arg12 : BitVec 32) : Prop :=
  (∀ a, (k1_off725 arg12) a + S1x16.size a ≤ S128x128.size a) ∧
  (∀ a, (k1_off726 arg12) a + S1x16.size a ≤ S128x128.size a) ∧
  (∀ a, (k1_off727 arg12) a + S1x16.size a ≤ S128x128.size a) ∧
  (∀ a, (k1_off728 arg12) a + S1x16.size a ≤ S128x128.size a) ∧
  (∀ a, (k1_off729 arg12) a + S1x16.size a ≤ S128x128.size a) ∧
  (∀ a, (k1_off730 arg12) a + S1x16.size a ≤ S128x128.size a) ∧
  (∀ a, (k1_off731 arg12) a + S1x16.size a ≤ S128x128.size a) ∧
  (∀ a, (k1_off732 arg12) a + S1x16.size a ≤ S128x128.size a)
theorem k1_off725_inb : ∀ (arg12 : BitVec 32) (k1_hw119 : k1_chk119 arg12), ∀ a, (k1_off725 arg12) a + S1x16.size a ≤ S128x128.size a := fun arg12 k1_hw119 => k1_hw119.1
theorem k1_off726_inb : ∀ (arg12 : BitVec 32) (k1_hw119 : k1_chk119 arg12), ∀ a, (k1_off726 arg12) a + S1x16.size a ≤ S128x128.size a := fun arg12 k1_hw119 => k1_hw119.2.1
theorem k1_off727_inb : ∀ (arg12 : BitVec 32) (k1_hw119 : k1_chk119 arg12), ∀ a, (k1_off727 arg12) a + S1x16.size a ≤ S128x128.size a := fun arg12 k1_hw119 => k1_hw119.2.2.1
theorem k1_off728_inb : ∀ (arg12 : BitVec 32) (k1_hw119 : k1_chk119 arg12), ∀ a, (k1_off728 arg12) a + S1x16.size a ≤ S128x128.size a := fun arg12 k1_hw119 => k1_hw119.2.2.2.1
theorem k1_off729_inb : ∀ (arg12 : BitVec 32) (k1_hw119 : k1_chk119 arg12), ∀ a, (k1_off729 arg12) a + S1x16.size a ≤ S128x128.size a := fun arg12 k1_hw119 => k1_hw119.2.2.2.2.1
theorem k1_off730_inb : ∀ (arg12 : BitVec 32) (k1_hw119 : k1_chk119 arg12), ∀ a, (k1_off730 arg12) a + S1x16.size a ≤ S128x128.size a := fun arg12 k1_hw119 => k1_hw119.2.2.2.2.2.1
theorem k1_off731_inb : ∀ (arg12 : BitVec 32) (k1_hw119 : k1_chk119 arg12), ∀ a, (k1_off731 arg12) a + S1x16.size a ≤ S128x128.size a := fun arg12 k1_hw119 => k1_hw119.2.2.2.2.2.2.1
theorem k1_off732_inb : ∀ (arg12 : BitVec 32) (k1_hw119 : k1_chk119 arg12), ∀ a, (k1_off732 arg12) a + S1x16.size a ≤ S128x128.size a := fun arg12 k1_hw119 => k1_hw119.2.2.2.2.2.2.2

@[reducible] def k1_t91_loop (i : grid1.Coords) (k1_t83 : Fin k1_t83_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1152_i32_393 : BitVec 32 := 1152#32
  let v379 : BitVec 32 := Scalar.addi v2 c1152_i32_393
  let c0_i32_395 : BitVec 32 := 0#32
  let c1_i32_397 : BitVec 32 := 1#32
  let arg9 : BitVec 32 := Scf.iv c0_i32_395 c1_i32_397 k1_t83
  let v473 : BitVec 32 := Scalar.addi v379 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk118 (i : grid1.Coords) (k1_t83 : Fin k1_t83_loop.trips) (v582 : BitVec 32) : Prop :=
  ((k1_t90_loop i k1_t83 v582).OK) ∧
  ((k1_t91_loop i k1_t83 v582).OK)
theorem k1_t90_ok : ∀ (i : grid1.Coords) (k1_t83 : Fin k1_t83_loop.trips) (v582 : BitVec 32) (k1_hw118 : k1_chk118 i k1_t83 v582), (k1_t90_loop i k1_t83 v582).OK := fun i k1_t83 v582 k1_hw118 => k1_hw118.1
theorem k1_t91_ok : ∀ (i : grid1.Coords) (k1_t83 : Fin k1_t83_loop.trips) (v582 : BitVec 32) (k1_hw118 : k1_chk118 i k1_t83 v582), (k1_t91_loop i k1_t83 v582).OK := fun i k1_t83 v582 k1_hw118 => k1_hw118.2

def k1_off733 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off734 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off735 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off736 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off737 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off738 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off739 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off740 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk120 (arg12 : BitVec 32) : Prop :=
  (∀ a, (k1_off733 arg12) a + S1x16.size a ≤ S128x128.size a) ∧
  (∀ a, (k1_off734 arg12) a + S1x16.size a ≤ S128x128.size a) ∧
  (∀ a, (k1_off735 arg12) a + S1x16.size a ≤ S128x128.size a) ∧
  (∀ a, (k1_off736 arg12) a + S1x16.size a ≤ S128x128.size a) ∧
  (∀ a, (k1_off737 arg12) a + S1x16.size a ≤ S128x128.size a) ∧
  (∀ a, (k1_off738 arg12) a + S1x16.size a ≤ S128x128.size a) ∧
  (∀ a, (k1_off739 arg12) a + S1x16.size a ≤ S128x128.size a) ∧
  (∀ a, (k1_off740 arg12) a + S1x16.size a ≤ S128x128.size a)
theorem k1_off733_inb : ∀ (arg12 : BitVec 32) (k1_hw120 : k1_chk120 arg12), ∀ a, (k1_off733 arg12) a + S1x16.size a ≤ S128x128.size a := fun arg12 k1_hw120 => k1_hw120.1
theorem k1_off734_inb : ∀ (arg12 : BitVec 32) (k1_hw120 : k1_chk120 arg12), ∀ a, (k1_off734 arg12) a + S1x16.size a ≤ S128x128.size a := fun arg12 k1_hw120 => k1_hw120.2.1
theorem k1_off735_inb : ∀ (arg12 : BitVec 32) (k1_hw120 : k1_chk120 arg12), ∀ a, (k1_off735 arg12) a + S1x16.size a ≤ S128x128.size a := fun arg12 k1_hw120 => k1_hw120.2.2.1
theorem k1_off736_inb : ∀ (arg12 : BitVec 32) (k1_hw120 : k1_chk120 arg12), ∀ a, (k1_off736 arg12) a + S1x16.size a ≤ S128x128.size a := fun arg12 k1_hw120 => k1_hw120.2.2.2.1
theorem k1_off737_inb : ∀ (arg12 : BitVec 32) (k1_hw120 : k1_chk120 arg12), ∀ a, (k1_off737 arg12) a + S1x16.size a ≤ S128x128.size a := fun arg12 k1_hw120 => k1_hw120.2.2.2.2.1
theorem k1_off738_inb : ∀ (arg12 : BitVec 32) (k1_hw120 : k1_chk120 arg12), ∀ a, (k1_off738 arg12) a + S1x16.size a ≤ S128x128.size a := fun arg12 k1_hw120 => k1_hw120.2.2.2.2.2.1
theorem k1_off739_inb : ∀ (arg12 : BitVec 32) (k1_hw120 : k1_chk120 arg12), ∀ a, (k1_off739 arg12) a + S1x16.size a ≤ S128x128.size a := fun arg12 k1_hw120 => k1_hw120.2.2.2.2.2.2.1
theorem k1_off740_inb : ∀ (arg12 : BitVec 32) (k1_hw120 : k1_chk120 arg12), ∀ a, (k1_off740 arg12) a + S1x16.size a ≤ S128x128.size a := fun arg12 k1_hw120 => k1_hw120.2.2.2.2.2.2.2

@[reducible] def k1_t92_loop : Scf.Loop 32 :=
  let c0_i32_433 : BitVec 32 := 0#32
  let c128_i32_434 : BitVec 32 := 128#32
  let v416 : BitVec 32 := Scalar.addi c0_i32_433 c128_i32_434
  let c1_i32_435 : BitVec 32 := 1#32
  ⟨c0_i32_433, v416, c1_i32_435⟩
def k1_off741 (k1_t92 : Fin k1_t92_loop.trips) : Fin 3 → Nat :=
  let c0_i32_497 : BitVec 32 := 0#32
  let v475 : Index := Scalar.indexCast c0_i32_497
  let c0_i32_433 : BitVec 32 := 0#32
  let c1_i32_435 : BitVec 32 := 1#32
  let arg9 : BitVec 32 := Scf.iv c0_i32_433 c1_i32_435 k1_t92
  let v476 : Index := Scalar.indexCast arg9
  let c0 : Index := 0#32
  ![0, v476.toNat, 0]
def k1_off742 (k1_t92 : Fin k1_t92_loop.trips) : Fin 3 → Nat :=
  let c0_i32_498 : BitVec 32 := 0#32
  let v479 : Index := Scalar.indexCast c0_i32_498
  let c0_i32_433 : BitVec 32 := 0#32
  let c1_i32_435 : BitVec 32 := 1#32
  let arg9 : BitVec 32 := Scf.iv c0_i32_433 c1_i32_435 k1_t92
  let v480 : Index := Scalar.indexCast arg9
  let c16 : Index := 16#32
  ![0, v480.toNat, 16]
def k1_off743 (k1_t92 : Fin k1_t92_loop.trips) : Fin 3 → Nat :=
  let c0_i32_499 : BitVec 32 := 0#32
  let v483 : Index := Scalar.indexCast c0_i32_499
  let c0_i32_433 : BitVec 32 := 0#32
  let c1_i32_435 : BitVec 32 := 1#32
  let arg9 : BitVec 32 := Scf.iv c0_i32_433 c1_i32_435 k1_t92
  let v484 : Index := Scalar.indexCast arg9
  let c32 : Index := 32#32
  ![0, v484.toNat, 32]
def k1_off744 (k1_t92 : Fin k1_t92_loop.trips) : Fin 3 → Nat :=
  let c0_i32_500 : BitVec 32 := 0#32
  let v487 : Index := Scalar.indexCast c0_i32_500
  let c0_i32_433 : BitVec 32 := 0#32
  let c1_i32_435 : BitVec 32 := 1#32
  let arg9 : BitVec 32 := Scf.iv c0_i32_433 c1_i32_435 k1_t92
  let v488 : Index := Scalar.indexCast arg9
  let c48 : Index := 48#32
  ![0, v488.toNat, 48]
def k1_off745 (k1_t92 : Fin k1_t92_loop.trips) : Fin 3 → Nat :=
  let c0_i32_501 : BitVec 32 := 0#32
  let v491 : Index := Scalar.indexCast c0_i32_501
  let c0_i32_433 : BitVec 32 := 0#32
  let c1_i32_435 : BitVec 32 := 1#32
  let arg9 : BitVec 32 := Scf.iv c0_i32_433 c1_i32_435 k1_t92
  let v492 : Index := Scalar.indexCast arg9
  let c64 : Index := 64#32
  ![0, v492.toNat, 64]
def k1_off746 (k1_t92 : Fin k1_t92_loop.trips) : Fin 3 → Nat :=
  let c0_i32_502 : BitVec 32 := 0#32
  let v495 : Index := Scalar.indexCast c0_i32_502
  let c0_i32_433 : BitVec 32 := 0#32
  let c1_i32_435 : BitVec 32 := 1#32
  let arg9 : BitVec 32 := Scf.iv c0_i32_433 c1_i32_435 k1_t92
  let v496 : Index := Scalar.indexCast arg9
  let c80 : Index := 80#32
  ![0, v496.toNat, 80]
def k1_off747 (k1_t92 : Fin k1_t92_loop.trips) : Fin 3 → Nat :=
  let c0_i32_503 : BitVec 32 := 0#32
  let v499 : Index := Scalar.indexCast c0_i32_503
  let c0_i32_433 : BitVec 32 := 0#32
  let c1_i32_435 : BitVec 32 := 1#32
  let arg9 : BitVec 32 := Scf.iv c0_i32_433 c1_i32_435 k1_t92
  let v500 : Index := Scalar.indexCast arg9
  let c96 : Index := 96#32
  ![0, v500.toNat, 96]
def k1_off748 (k1_t92 : Fin k1_t92_loop.trips) : Fin 3 → Nat :=
  let c0_i32_504 : BitVec 32 := 0#32
  let v503 : Index := Scalar.indexCast c0_i32_504
  let c0_i32_433 : BitVec 32 := 0#32
  let c1_i32_435 : BitVec 32 := 1#32
  let arg9 : BitVec 32 := Scf.iv c0_i32_433 c1_i32_435 k1_t92
  let v504 : Index := Scalar.indexCast arg9
  let c112 : Index := 112#32
  ![0, v504.toNat, 112]
def k1_off749 (k1_t92 : Fin k1_t92_loop.trips) : Fin 3 → Nat :=
  let c0_i32_505 : BitVec 32 := 0#32
  let v507 : Index := Scalar.indexCast c0_i32_505
  let c0_i32_433 : BitVec 32 := 0#32
  let c1_i32_435 : BitVec 32 := 1#32
  let arg9 : BitVec 32 := Scf.iv c0_i32_433 c1_i32_435 k1_t92
  let v508 : Index := Scalar.indexCast arg9
  let c0_506 : Index := 0#32
  ![0, v508.toNat, 0]
@[reducible] def k1_t93_loop (i : grid1.Coords) (k1_t92 : Fin k1_t92_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off750 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off751 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off752 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off753 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off754 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off755 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off756 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off757 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk122 (arg12 : BitVec 32) : Prop :=
  (∀ a, (k1_off750 arg12) a + S1x16.size a ≤ S128x128.size a) ∧
  (∀ a, (k1_off751 arg12) a + S1x16.size a ≤ S128x128.size a) ∧
  (∀ a, (k1_off752 arg12) a + S1x16.size a ≤ S128x128.size a) ∧
  (∀ a, (k1_off753 arg12) a + S1x16.size a ≤ S128x128.size a) ∧
  (∀ a, (k1_off754 arg12) a + S1x16.size a ≤ S128x128.size a) ∧
  (∀ a, (k1_off755 arg12) a + S1x16.size a ≤ S128x128.size a) ∧
  (∀ a, (k1_off756 arg12) a + S1x16.size a ≤ S128x128.size a) ∧
  (∀ a, (k1_off757 arg12) a + S1x16.size a ≤ S128x128.size a)
theorem k1_off750_inb : ∀ (arg12 : BitVec 32) (k1_hw122 : k1_chk122 arg12), ∀ a, (k1_off750 arg12) a + S1x16.size a ≤ S128x128.size a := fun arg12 k1_hw122 => k1_hw122.1
theorem k1_off751_inb : ∀ (arg12 : BitVec 32) (k1_hw122 : k1_chk122 arg12), ∀ a, (k1_off751 arg12) a + S1x16.size a ≤ S128x128.size a := fun arg12 k1_hw122 => k1_hw122.2.1
theorem k1_off752_inb : ∀ (arg12 : BitVec 32) (k1_hw122 : k1_chk122 arg12), ∀ a, (k1_off752 arg12) a + S1x16.size a ≤ S128x128.size a := fun arg12 k1_hw122 => k1_hw122.2.2.1
theorem k1_off753_inb : ∀ (arg12 : BitVec 32) (k1_hw122 : k1_chk122 arg12), ∀ a, (k1_off753 arg12) a + S1x16.size a ≤ S128x128.size a := fun arg12 k1_hw122 => k1_hw122.2.2.2.1
theorem k1_off754_inb : ∀ (arg12 : BitVec 32) (k1_hw122 : k1_chk122 arg12), ∀ a, (k1_off754 arg12) a + S1x16.size a ≤ S128x128.size a := fun arg12 k1_hw122 => k1_hw122.2.2.2.2.1
theorem k1_off755_inb : ∀ (arg12 : BitVec 32) (k1_hw122 : k1_chk122 arg12), ∀ a, (k1_off755 arg12) a + S1x16.size a ≤ S128x128.size a := fun arg12 k1_hw122 => k1_hw122.2.2.2.2.2.1
theorem k1_off756_inb : ∀ (arg12 : BitVec 32) (k1_hw122 : k1_chk122 arg12), ∀ a, (k1_off756 arg12) a + S1x16.size a ≤ S128x128.size a := fun arg12 k1_hw122 => k1_hw122.2.2.2.2.2.2.1
theorem k1_off757_inb : ∀ (arg12 : BitVec 32) (k1_hw122 : k1_chk122 arg12), ∀ a, (k1_off757 arg12) a + S1x16.size a ≤ S128x128.size a := fun arg12 k1_hw122 => k1_hw122.2.2.2.2.2.2.2

@[reducible] def k1_t94_loop (i : grid1.Coords) (k1_t92 : Fin k1_t92_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk121 (i : grid1.Coords) (k1_t92 : Fin k1_t92_loop.trips) (v519 : BitVec 32) : Prop :=
  ((k1_t93_loop i k1_t92 v519).OK) ∧
  ((k1_t94_loop i k1_t92 v519).OK)
theorem k1_t93_ok : ∀ (i : grid1.Coords) (k1_t92 : Fin k1_t92_loop.trips) (v519 : BitVec 32) (k1_hw121 : k1_chk121 i k1_t92 v519), (k1_t93_loop i k1_t92 v519).OK := fun i k1_t92 v519 k1_hw121 => k1_hw121.1
theorem k1_t94_ok : ∀ (i : grid1.Coords) (k1_t92 : Fin k1_t92_loop.trips) (v519 : BitVec 32) (k1_hw121 : k1_chk121 i k1_t92 v519), (k1_t94_loop i k1_t92 v519).OK := fun i k1_t92 v519 k1_hw121 => k1_hw121.2

def k1_off758 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off759 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off760 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off761 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off762 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off763 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off764 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off765 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk123 (arg12 : BitVec 32) : Prop :=
  (∀ a, (k1_off758 arg12) a + S1x16.size a ≤ S128x128.size a) ∧
  (∀ a, (k1_off759 arg12) a + S1x16.size a ≤ S128x128.size a) ∧
  (∀ a, (k1_off760 arg12) a + S1x16.size a ≤ S128x128.size a) ∧
  (∀ a, (k1_off761 arg12) a + S1x16.size a ≤ S128x128.size a) ∧
  (∀ a, (k1_off762 arg12) a + S1x16.size a ≤ S128x128.size a) ∧
  (∀ a, (k1_off763 arg12) a + S1x16.size a ≤ S128x128.size a) ∧
  (∀ a, (k1_off764 arg12) a + S1x16.size a ≤ S128x128.size a) ∧
  (∀ a, (k1_off765 arg12) a + S1x16.size a ≤ S128x128.size a)
theorem k1_off758_inb : ∀ (arg12 : BitVec 32) (k1_hw123 : k1_chk123 arg12), ∀ a, (k1_off758 arg12) a + S1x16.size a ≤ S128x128.size a := fun arg12 k1_hw123 => k1_hw123.1
theorem k1_off759_inb : ∀ (arg12 : BitVec 32) (k1_hw123 : k1_chk123 arg12), ∀ a, (k1_off759 arg12) a + S1x16.size a ≤ S128x128.size a := fun arg12 k1_hw123 => k1_hw123.2.1
theorem k1_off760_inb : ∀ (arg12 : BitVec 32) (k1_hw123 : k1_chk123 arg12), ∀ a, (k1_off760 arg12) a + S1x16.size a ≤ S128x128.size a := fun arg12 k1_hw123 => k1_hw123.2.2.1
theorem k1_off761_inb : ∀ (arg12 : BitVec 32) (k1_hw123 : k1_chk123 arg12), ∀ a, (k1_off761 arg12) a + S1x16.size a ≤ S128x128.size a := fun arg12 k1_hw123 => k1_hw123.2.2.2.1
theorem k1_off762_inb : ∀ (arg12 : BitVec 32) (k1_hw123 : k1_chk123 arg12), ∀ a, (k1_off762 arg12) a + S1x16.size a ≤ S128x128.size a := fun arg12 k1_hw123 => k1_hw123.2.2.2.2.1
theorem k1_off763_inb : ∀ (arg12 : BitVec 32) (k1_hw123 : k1_chk123 arg12), ∀ a, (k1_off763 arg12) a + S1x16.size a ≤ S128x128.size a := fun arg12 k1_hw123 => k1_hw123.2.2.2.2.2.1
theorem k1_off764_inb : ∀ (arg12 : BitVec 32) (k1_hw123 : k1_chk123 arg12), ∀ a, (k1_off764 arg12) a + S1x16.size a ≤ S128x128.size a := fun arg12 k1_hw123 => k1_hw123.2.2.2.2.2.2.1
theorem k1_off765_inb : ∀ (arg12 : BitVec 32) (k1_hw123 : k1_chk123 arg12), ∀ a, (k1_off765 arg12) a + S1x16.size a ≤ S128x128.size a := fun arg12 k1_hw123 => k1_hw123.2.2.2.2.2.2.2

@[reducible] def k1_t95_loop (i : grid1.Coords) (k1_t92 : Fin k1_t92_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off766 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off767 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off768 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off769 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off770 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off771 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off772 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off773 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk125 (arg12 : BitVec 32) : Prop :=
  (∀ a, (k1_off766 arg12) a + S1x16.size a ≤ S128x128.size a) ∧
  (∀ a, (k1_off767 arg12) a + S1x16.size a ≤ S128x128.size a) ∧
  (∀ a, (k1_off768 arg12) a + S1x16.size a ≤ S128x128.size a) ∧
  (∀ a, (k1_off769 arg12) a + S1x16.size a ≤ S128x128.size a) ∧
  (∀ a, (k1_off770 arg12) a + S1x16.size a ≤ S128x128.size a) ∧
  (∀ a, (k1_off771 arg12) a + S1x16.size a ≤ S128x128.size a) ∧
  (∀ a, (k1_off772 arg12) a + S1x16.size a ≤ S128x128.size a) ∧
  (∀ a, (k1_off773 arg12) a + S1x16.size a ≤ S128x128.size a)
theorem k1_off766_inb : ∀ (arg12 : BitVec 32) (k1_hw125 : k1_chk125 arg12), ∀ a, (k1_off766 arg12) a + S1x16.size a ≤ S128x128.size a := fun arg12 k1_hw125 => k1_hw125.1
theorem k1_off767_inb : ∀ (arg12 : BitVec 32) (k1_hw125 : k1_chk125 arg12), ∀ a, (k1_off767 arg12) a + S1x16.size a ≤ S128x128.size a := fun arg12 k1_hw125 => k1_hw125.2.1
theorem k1_off768_inb : ∀ (arg12 : BitVec 32) (k1_hw125 : k1_chk125 arg12), ∀ a, (k1_off768 arg12) a + S1x16.size a ≤ S128x128.size a := fun arg12 k1_hw125 => k1_hw125.2.2.1
theorem k1_off769_inb : ∀ (arg12 : BitVec 32) (k1_hw125 : k1_chk125 arg12), ∀ a, (k1_off769 arg12) a + S1x16.size a ≤ S128x128.size a := fun arg12 k1_hw125 => k1_hw125.2.2.2.1
theorem k1_off770_inb : ∀ (arg12 : BitVec 32) (k1_hw125 : k1_chk125 arg12), ∀ a, (k1_off770 arg12) a + S1x16.size a ≤ S128x128.size a := fun arg12 k1_hw125 => k1_hw125.2.2.2.2.1
theorem k1_off771_inb : ∀ (arg12 : BitVec 32) (k1_hw125 : k1_chk125 arg12), ∀ a, (k1_off771 arg12) a + S1x16.size a ≤ S128x128.size a := fun arg12 k1_hw125 => k1_hw125.2.2.2.2.2.1
theorem k1_off772_inb : ∀ (arg12 : BitVec 32) (k1_hw125 : k1_chk125 arg12), ∀ a, (k1_off772 arg12) a + S1x16.size a ≤ S128x128.size a := fun arg12 k1_hw125 => k1_hw125.2.2.2.2.2.2.1
theorem k1_off773_inb : ∀ (arg12 : BitVec 32) (k1_hw125 : k1_chk125 arg12), ∀ a, (k1_off773 arg12) a + S1x16.size a ≤ S128x128.size a := fun arg12 k1_hw125 => k1_hw125.2.2.2.2.2.2.2

@[reducible] def k1_t96_loop (i : grid1.Coords) (k1_t92 : Fin k1_t92_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk124 (i : grid1.Coords) (k1_t92 : Fin k1_t92_loop.trips) (v540 : BitVec 32) : Prop :=
  ((k1_t95_loop i k1_t92 v540).OK) ∧
  ((k1_t96_loop i k1_t92 v540).OK)
theorem k1_t95_ok : ∀ (i : grid1.Coords) (k1_t92 : Fin k1_t92_loop.trips) (v540 : BitVec 32) (k1_hw124 : k1_chk124 i k1_t92 v540), (k1_t95_loop i k1_t92 v540).OK := fun i k1_t92 v540 k1_hw124 => k1_hw124.1
theorem k1_t96_ok : ∀ (i : grid1.Coords) (k1_t92 : Fin k1_t92_loop.trips) (v540 : BitVec 32) (k1_hw124 : k1_chk124 i k1_t92 v540), (k1_t96_loop i k1_t92 v540).OK := fun i k1_t92 v540 k1_hw124 => k1_hw124.2

def k1_off774 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off775 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off776 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off777 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off778 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off779 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off780 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off781 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk126 (arg12 : BitVec 32) : Prop :=
  (∀ a, (k1_off774 arg12) a + S1x16.size a ≤ S128x128.size a) ∧
  (∀ a, (k1_off775 arg12) a + S1x16.size a ≤ S128x128.size a) ∧
  (∀ a, (k1_off776 arg12) a + S1x16.size a ≤ S128x128.size a) ∧
  (∀ a, (k1_off777 arg12) a + S1x16.size a ≤ S128x128.size a) ∧
  (∀ a, (k1_off778 arg12) a + S1x16.size a ≤ S128x128.size a) ∧
  (∀ a, (k1_off779 arg12) a + S1x16.size a ≤ S128x128.size a) ∧
  (∀ a, (k1_off780 arg12) a + S1x16.size a ≤ S128x128.size a) ∧
  (∀ a, (k1_off781 arg12) a + S1x16.size a ≤ S128x128.size a)
theorem k1_off774_inb : ∀ (arg12 : BitVec 32) (k1_hw126 : k1_chk126 arg12), ∀ a, (k1_off774 arg12) a + S1x16.size a ≤ S128x128.size a := fun arg12 k1_hw126 => k1_hw126.1
theorem k1_off775_inb : ∀ (arg12 : BitVec 32) (k1_hw126 : k1_chk126 arg12), ∀ a, (k1_off775 arg12) a + S1x16.size a ≤ S128x128.size a := fun arg12 k1_hw126 => k1_hw126.2.1
theorem k1_off776_inb : ∀ (arg12 : BitVec 32) (k1_hw126 : k1_chk126 arg12), ∀ a, (k1_off776 arg12) a + S1x16.size a ≤ S128x128.size a := fun arg12 k1_hw126 => k1_hw126.2.2.1
theorem k1_off777_inb : ∀ (arg12 : BitVec 32) (k1_hw126 : k1_chk126 arg12), ∀ a, (k1_off777 arg12) a + S1x16.size a ≤ S128x128.size a := fun arg12 k1_hw126 => k1_hw126.2.2.2.1
theorem k1_off778_inb : ∀ (arg12 : BitVec 32) (k1_hw126 : k1_chk126 arg12), ∀ a, (k1_off778 arg12) a + S1x16.size a ≤ S128x128.size a := fun arg12 k1_hw126 => k1_hw126.2.2.2.2.1
theorem k1_off779_inb : ∀ (arg12 : BitVec 32) (k1_hw126 : k1_chk126 arg12), ∀ a, (k1_off779 arg12) a + S1x16.size a ≤ S128x128.size a := fun arg12 k1_hw126 => k1_hw126.2.2.2.2.2.1
theorem k1_off780_inb : ∀ (arg12 : BitVec 32) (k1_hw126 : k1_chk126 arg12), ∀ a, (k1_off780 arg12) a + S1x16.size a ≤ S128x128.size a := fun arg12 k1_hw126 => k1_hw126.2.2.2.2.2.2.1
theorem k1_off781_inb : ∀ (arg12 : BitVec 32) (k1_hw126 : k1_chk126 arg12), ∀ a, (k1_off781 arg12) a + S1x16.size a ≤ S128x128.size a := fun arg12 k1_hw126 => k1_hw126.2.2.2.2.2.2.2

@[reducible] def k1_t97_loop (i : grid1.Coords) (k1_t92 : Fin k1_t92_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off782 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off783 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off784 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off785 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off786 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off787 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off788 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off789 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk128 (arg12 : BitVec 32) : Prop :=
  (∀ a, (k1_off782 arg12) a + S1x16.size a ≤ S128x128.size a) ∧
  (∀ a, (k1_off783 arg12) a + S1x16.size a ≤ S128x128.size a) ∧
  (∀ a, (k1_off784 arg12) a + S1x16.size a ≤ S128x128.size a) ∧
  (∀ a, (k1_off785 arg12) a + S1x16.size a ≤ S128x128.size a) ∧
  (∀ a, (k1_off786 arg12) a + S1x16.size a ≤ S128x128.size a) ∧
  (∀ a, (k1_off787 arg12) a + S1x16.size a ≤ S128x128.size a) ∧
  (∀ a, (k1_off788 arg12) a + S1x16.size a ≤ S128x128.size a) ∧
  (∀ a, (k1_off789 arg12) a + S1x16.size a ≤ S128x128.size a)
theorem k1_off782_inb : ∀ (arg12 : BitVec 32) (k1_hw128 : k1_chk128 arg12), ∀ a, (k1_off782 arg12) a + S1x16.size a ≤ S128x128.size a := fun arg12 k1_hw128 => k1_hw128.1
theorem k1_off783_inb : ∀ (arg12 : BitVec 32) (k1_hw128 : k1_chk128 arg12), ∀ a, (k1_off783 arg12) a + S1x16.size a ≤ S128x128.size a := fun arg12 k1_hw128 => k1_hw128.2.1
theorem k1_off784_inb : ∀ (arg12 : BitVec 32) (k1_hw128 : k1_chk128 arg12), ∀ a, (k1_off784 arg12) a + S1x16.size a ≤ S128x128.size a := fun arg12 k1_hw128 => k1_hw128.2.2.1
theorem k1_off785_inb : ∀ (arg12 : BitVec 32) (k1_hw128 : k1_chk128 arg12), ∀ a, (k1_off785 arg12) a + S1x16.size a ≤ S128x128.size a := fun arg12 k1_hw128 => k1_hw128.2.2.2.1
theorem k1_off786_inb : ∀ (arg12 : BitVec 32) (k1_hw128 : k1_chk128 arg12), ∀ a, (k1_off786 arg12) a + S1x16.size a ≤ S128x128.size a := fun arg12 k1_hw128 => k1_hw128.2.2.2.2.1
theorem k1_off787_inb : ∀ (arg12 : BitVec 32) (k1_hw128 : k1_chk128 arg12), ∀ a, (k1_off787 arg12) a + S1x16.size a ≤ S128x128.size a := fun arg12 k1_hw128 => k1_hw128.2.2.2.2.2.1
theorem k1_off788_inb : ∀ (arg12 : BitVec 32) (k1_hw128 : k1_chk128 arg12), ∀ a, (k1_off788 arg12) a + S1x16.size a ≤ S128x128.size a := fun arg12 k1_hw128 => k1_hw128.2.2.2.2.2.2.1
theorem k1_off789_inb : ∀ (arg12 : BitVec 32) (k1_hw128 : k1_chk128 arg12), ∀ a, (k1_off789 arg12) a + S1x16.size a ≤ S128x128.size a := fun arg12 k1_hw128 => k1_hw128.2.2.2.2.2.2.2

@[reducible] def k1_t98_loop (i : grid1.Coords) (k1_t92 : Fin k1_t92_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk127 (i : grid1.Coords) (k1_t92 : Fin k1_t92_loop.trips) (v561 : BitVec 32) : Prop :=
  ((k1_t97_loop i k1_t92 v561).OK) ∧
  ((k1_t98_loop i k1_t92 v561).OK)
theorem k1_t97_ok : ∀ (i : grid1.Coords) (k1_t92 : Fin k1_t92_loop.trips) (v561 : BitVec 32) (k1_hw127 : k1_chk127 i k1_t92 v561), (k1_t97_loop i k1_t92 v561).OK := fun i k1_t92 v561 k1_hw127 => k1_hw127.1
theorem k1_t98_ok : ∀ (i : grid1.Coords) (k1_t92 : Fin k1_t92_loop.trips) (v561 : BitVec 32) (k1_hw127 : k1_chk127 i k1_t92 v561), (k1_t98_loop i k1_t92 v561).OK := fun i k1_t92 v561 k1_hw127 => k1_hw127.2

def k1_off790 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off791 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off792 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off793 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off794 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off795 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off796 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off797 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk129 (arg12 : BitVec 32) : Prop :=
  (∀ a, (k1_off790 arg12) a + S1x16.size a ≤ S128x128.size a) ∧
  (∀ a, (k1_off791 arg12) a + S1x16.size a ≤ S128x128.size a) ∧
  (∀ a, (k1_off792 arg12) a + S1x16.size a ≤ S128x128.size a) ∧
  (∀ a, (k1_off793 arg12) a + S1x16.size a ≤ S128x128.size a) ∧
  (∀ a, (k1_off794 arg12) a + S1x16.size a ≤ S128x128.size a) ∧
  (∀ a, (k1_off795 arg12) a + S1x16.size a ≤ S128x128.size a) ∧
  (∀ a, (k1_off796 arg12) a + S1x16.size a ≤ S128x128.size a) ∧
  (∀ a, (k1_off797 arg12) a + S1x16.size a ≤ S128x128.size a)
theorem k1_off790_inb : ∀ (arg12 : BitVec 32) (k1_hw129 : k1_chk129 arg12), ∀ a, (k1_off790 arg12) a + S1x16.size a ≤ S128x128.size a := fun arg12 k1_hw129 => k1_hw129.1
theorem k1_off791_inb : ∀ (arg12 : BitVec 32) (k1_hw129 : k1_chk129 arg12), ∀ a, (k1_off791 arg12) a + S1x16.size a ≤ S128x128.size a := fun arg12 k1_hw129 => k1_hw129.2.1
theorem k1_off792_inb : ∀ (arg12 : BitVec 32) (k1_hw129 : k1_chk129 arg12), ∀ a, (k1_off792 arg12) a + S1x16.size a ≤ S128x128.size a := fun arg12 k1_hw129 => k1_hw129.2.2.1
theorem k1_off793_inb : ∀ (arg12 : BitVec 32) (k1_hw129 : k1_chk129 arg12), ∀ a, (k1_off793 arg12) a + S1x16.size a ≤ S128x128.size a := fun arg12 k1_hw129 => k1_hw129.2.2.2.1
theorem k1_off794_inb : ∀ (arg12 : BitVec 32) (k1_hw129 : k1_chk129 arg12), ∀ a, (k1_off794 arg12) a + S1x16.size a ≤ S128x128.size a := fun arg12 k1_hw129 => k1_hw129.2.2.2.2.1
theorem k1_off795_inb : ∀ (arg12 : BitVec 32) (k1_hw129 : k1_chk129 arg12), ∀ a, (k1_off795 arg12) a + S1x16.size a ≤ S128x128.size a := fun arg12 k1_hw129 => k1_hw129.2.2.2.2.2.1
theorem k1_off796_inb : ∀ (arg12 : BitVec 32) (k1_hw129 : k1_chk129 arg12), ∀ a, (k1_off796 arg12) a + S1x16.size a ≤ S128x128.size a := fun arg12 k1_hw129 => k1_hw129.2.2.2.2.2.2.1
theorem k1_off797_inb : ∀ (arg12 : BitVec 32) (k1_hw129 : k1_chk129 arg12), ∀ a, (k1_off797 arg12) a + S1x16.size a ≤ S128x128.size a := fun arg12 k1_hw129 => k1_hw129.2.2.2.2.2.2.2

@[reducible] def k1_t99_loop (i : grid1.Coords) (k1_t92 : Fin k1_t92_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off798 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off799 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off800 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off801 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off802 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off803 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off804 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off805 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk131 (arg12 : BitVec 32) : Prop :=
  (∀ a, (k1_off798 arg12) a + S1x16.size a ≤ S128x128.size a) ∧
  (∀ a, (k1_off799 arg12) a + S1x16.size a ≤ S128x128.size a) ∧
  (∀ a, (k1_off800 arg12) a + S1x16.size a ≤ S128x128.size a) ∧
  (∀ a, (k1_off801 arg12) a + S1x16.size a ≤ S128x128.size a) ∧
  (∀ a, (k1_off802 arg12) a + S1x16.size a ≤ S128x128.size a) ∧
  (∀ a, (k1_off803 arg12) a + S1x16.size a ≤ S128x128.size a) ∧
  (∀ a, (k1_off804 arg12) a + S1x16.size a ≤ S128x128.size a) ∧
  (∀ a, (k1_off805 arg12) a + S1x16.size a ≤ S128x128.size a)
theorem k1_off798_inb : ∀ (arg12 : BitVec 32) (k1_hw131 : k1_chk131 arg12), ∀ a, (k1_off798 arg12) a + S1x16.size a ≤ S128x128.size a := fun arg12 k1_hw131 => k1_hw131.1
theorem k1_off799_inb : ∀ (arg12 : BitVec 32) (k1_hw131 : k1_chk131 arg12), ∀ a, (k1_off799 arg12) a + S1x16.size a ≤ S128x128.size a := fun arg12 k1_hw131 => k1_hw131.2.1
theorem k1_off800_inb : ∀ (arg12 : BitVec 32) (k1_hw131 : k1_chk131 arg12), ∀ a, (k1_off800 arg12) a + S1x16.size a ≤ S128x128.size a := fun arg12 k1_hw131 => k1_hw131.2.2.1
theorem k1_off801_inb : ∀ (arg12 : BitVec 32) (k1_hw131 : k1_chk131 arg12), ∀ a, (k1_off801 arg12) a + S1x16.size a ≤ S128x128.size a := fun arg12 k1_hw131 => k1_hw131.2.2.2.1
theorem k1_off802_inb : ∀ (arg12 : BitVec 32) (k1_hw131 : k1_chk131 arg12), ∀ a, (k1_off802 arg12) a + S1x16.size a ≤ S128x128.size a := fun arg12 k1_hw131 => k1_hw131.2.2.2.2.1
theorem k1_off803_inb : ∀ (arg12 : BitVec 32) (k1_hw131 : k1_chk131 arg12), ∀ a, (k1_off803 arg12) a + S1x16.size a ≤ S128x128.size a := fun arg12 k1_hw131 => k1_hw131.2.2.2.2.2.1
theorem k1_off804_inb : ∀ (arg12 : BitVec 32) (k1_hw131 : k1_chk131 arg12), ∀ a, (k1_off804 arg12) a + S1x16.size a ≤ S128x128.size a := fun arg12 k1_hw131 => k1_hw131.2.2.2.2.2.2.1
theorem k1_off805_inb : ∀ (arg12 : BitVec 32) (k1_hw131 : k1_chk131 arg12), ∀ a, (k1_off805 arg12) a + S1x16.size a ≤ S128x128.size a := fun arg12 k1_hw131 => k1_hw131.2.2.2.2.2.2.2

@[reducible] def k1_t100_loop (i : grid1.Coords) (k1_t92 : Fin k1_t92_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1280_i32_431 : BitVec 32 := 1280#32
  let v415 : BitVec 32 := Scalar.addi v2 c1280_i32_431
  let c0_i32_433 : BitVec 32 := 0#32
  let c1_i32_435 : BitVec 32 := 1#32
  let arg9 : BitVec 32 := Scf.iv c0_i32_433 c1_i32_435 k1_t92
  let v473 : BitVec 32 := Scalar.addi v415 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk130 (i : grid1.Coords) (k1_t92 : Fin k1_t92_loop.trips) (v582 : BitVec 32) : Prop :=
  ((k1_t99_loop i k1_t92 v582).OK) ∧
  ((k1_t100_loop i k1_t92 v582).OK)
theorem k1_t99_ok : ∀ (i : grid1.Coords) (k1_t92 : Fin k1_t92_loop.trips) (v582 : BitVec 32) (k1_hw130 : k1_chk130 i k1_t92 v582), (k1_t99_loop i k1_t92 v582).OK := fun i k1_t92 v582 k1_hw130 => k1_hw130.1
theorem k1_t100_ok : ∀ (i : grid1.Coords) (k1_t92 : Fin k1_t92_loop.trips) (v582 : BitVec 32) (k1_hw130 : k1_chk130 i k1_t92 v582), (k1_t100_loop i k1_t92 v582).OK := fun i k1_t92 v582 k1_hw130 => k1_hw130.2

def k1_off806 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off807 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off808 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off809 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off810 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off811 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off812 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off813 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk132 (arg12 : BitVec 32) : Prop :=
  (∀ a, (k1_off806 arg12) a + S1x16.size a ≤ S128x128.size a) ∧
  (∀ a, (k1_off807 arg12) a + S1x16.size a ≤ S128x128.size a) ∧
  (∀ a, (k1_off808 arg12) a + S1x16.size a ≤ S128x128.size a) ∧
  (∀ a, (k1_off809 arg12) a + S1x16.size a ≤ S128x128.size a) ∧
  (∀ a, (k1_off810 arg12) a + S1x16.size a ≤ S128x128.size a) ∧
  (∀ a, (k1_off811 arg12) a + S1x16.size a ≤ S128x128.size a) ∧
  (∀ a, (k1_off812 arg12) a + S1x16.size a ≤ S128x128.size a) ∧
  (∀ a, (k1_off813 arg12) a + S1x16.size a ≤ S128x128.size a)
theorem k1_off806_inb : ∀ (arg12 : BitVec 32) (k1_hw132 : k1_chk132 arg12), ∀ a, (k1_off806 arg12) a + S1x16.size a ≤ S128x128.size a := fun arg12 k1_hw132 => k1_hw132.1
theorem k1_off807_inb : ∀ (arg12 : BitVec 32) (k1_hw132 : k1_chk132 arg12), ∀ a, (k1_off807 arg12) a + S1x16.size a ≤ S128x128.size a := fun arg12 k1_hw132 => k1_hw132.2.1
theorem k1_off808_inb : ∀ (arg12 : BitVec 32) (k1_hw132 : k1_chk132 arg12), ∀ a, (k1_off808 arg12) a + S1x16.size a ≤ S128x128.size a := fun arg12 k1_hw132 => k1_hw132.2.2.1
theorem k1_off809_inb : ∀ (arg12 : BitVec 32) (k1_hw132 : k1_chk132 arg12), ∀ a, (k1_off809 arg12) a + S1x16.size a ≤ S128x128.size a := fun arg12 k1_hw132 => k1_hw132.2.2.2.1
theorem k1_off810_inb : ∀ (arg12 : BitVec 32) (k1_hw132 : k1_chk132 arg12), ∀ a, (k1_off810 arg12) a + S1x16.size a ≤ S128x128.size a := fun arg12 k1_hw132 => k1_hw132.2.2.2.2.1
theorem k1_off811_inb : ∀ (arg12 : BitVec 32) (k1_hw132 : k1_chk132 arg12), ∀ a, (k1_off811 arg12) a + S1x16.size a ≤ S128x128.size a := fun arg12 k1_hw132 => k1_hw132.2.2.2.2.2.1
theorem k1_off812_inb : ∀ (arg12 : BitVec 32) (k1_hw132 : k1_chk132 arg12), ∀ a, (k1_off812 arg12) a + S1x16.size a ≤ S128x128.size a := fun arg12 k1_hw132 => k1_hw132.2.2.2.2.2.2.1
theorem k1_off813_inb : ∀ (arg12 : BitVec 32) (k1_hw132 : k1_chk132 arg12), ∀ a, (k1_off813 arg12) a + S1x16.size a ≤ S128x128.size a := fun arg12 k1_hw132 => k1_hw132.2.2.2.2.2.2.2

@[reducible] def k1_t101_loop : Scf.Loop 32 :=
  let c0_i32_471 : BitVec 32 := 0#32
  let c128_i32_472 : BitVec 32 := 128#32
  let v452 : BitVec 32 := Scalar.addi c0_i32_471 c128_i32_472
  let c1_i32_473 : BitVec 32 := 1#32
  ⟨c0_i32_471, v452, c1_i32_473⟩
def k1_off814 (k1_t101 : Fin k1_t101_loop.trips) : Fin 3 → Nat :=
  let c1_i32_497 : BitVec 32 := 1#32
  let v475 : Index := Scalar.indexCast c1_i32_497
  let c0_i32_471 : BitVec 32 := 0#32
  let c1_i32_473 : BitVec 32 := 1#32
  let arg9 : BitVec 32 := Scf.iv c0_i32_471 c1_i32_473 k1_t101
  let v476 : Index := Scalar.indexCast arg9
  let c0 : Index := 0#32
  ![1, v476.toNat, 0]
def k1_off815 (k1_t101 : Fin k1_t101_loop.trips) : Fin 3 → Nat :=
  let c1_i32_498 : BitVec 32 := 1#32
  let v479 : Index := Scalar.indexCast c1_i32_498
  let c0_i32_471 : BitVec 32 := 0#32
  let c1_i32_473 : BitVec 32 := 1#32
  let arg9 : BitVec 32 := Scf.iv c0_i32_471 c1_i32_473 k1_t101
  let v480 : Index := Scalar.indexCast arg9
  let c16 : Index := 16#32
  ![1, v480.toNat, 16]
def k1_off816 (k1_t101 : Fin k1_t101_loop.trips) : Fin 3 → Nat :=
  let c1_i32_499 : BitVec 32 := 1#32
  let v483 : Index := Scalar.indexCast c1_i32_499
  let c0_i32_471 : BitVec 32 := 0#32
  let c1_i32_473 : BitVec 32 := 1#32
  let arg9 : BitVec 32 := Scf.iv c0_i32_471 c1_i32_473 k1_t101
  let v484 : Index := Scalar.indexCast arg9
  let c32 : Index := 32#32
  ![1, v484.toNat, 32]
def k1_off817 (k1_t101 : Fin k1_t101_loop.trips) : Fin 3 → Nat :=
  let c1_i32_500 : BitVec 32 := 1#32
  let v487 : Index := Scalar.indexCast c1_i32_500
  let c0_i32_471 : BitVec 32 := 0#32
  let c1_i32_473 : BitVec 32 := 1#32
  let arg9 : BitVec 32 := Scf.iv c0_i32_471 c1_i32_473 k1_t101
  let v488 : Index := Scalar.indexCast arg9
  let c48 : Index := 48#32
  ![1, v488.toNat, 48]
def k1_off818 (k1_t101 : Fin k1_t101_loop.trips) : Fin 3 → Nat :=
  let c1_i32_501 : BitVec 32 := 1#32
  let v491 : Index := Scalar.indexCast c1_i32_501
  let c0_i32_471 : BitVec 32 := 0#32
  let c1_i32_473 : BitVec 32 := 1#32
  let arg9 : BitVec 32 := Scf.iv c0_i32_471 c1_i32_473 k1_t101
  let v492 : Index := Scalar.indexCast arg9
  let c64 : Index := 64#32
  ![1, v492.toNat, 64]
def k1_off819 (k1_t101 : Fin k1_t101_loop.trips) : Fin 3 → Nat :=
  let c1_i32_502 : BitVec 32 := 1#32
  let v495 : Index := Scalar.indexCast c1_i32_502
  let c0_i32_471 : BitVec 32 := 0#32
  let c1_i32_473 : BitVec 32 := 1#32
  let arg9 : BitVec 32 := Scf.iv c0_i32_471 c1_i32_473 k1_t101
  let v496 : Index := Scalar.indexCast arg9
  let c80 : Index := 80#32
  ![1, v496.toNat, 80]
def k1_off820 (k1_t101 : Fin k1_t101_loop.trips) : Fin 3 → Nat :=
  let c1_i32_503 : BitVec 32 := 1#32
  let v499 : Index := Scalar.indexCast c1_i32_503
  let c0_i32_471 : BitVec 32 := 0#32
  let c1_i32_473 : BitVec 32 := 1#32
  let arg9 : BitVec 32 := Scf.iv c0_i32_471 c1_i32_473 k1_t101
  let v500 : Index := Scalar.indexCast arg9
  let c96 : Index := 96#32
  ![1, v500.toNat, 96]
def k1_off821 (k1_t101 : Fin k1_t101_loop.trips) : Fin 3 → Nat :=
  let c1_i32_504 : BitVec 32 := 1#32
  let v503 : Index := Scalar.indexCast c1_i32_504
  let c0_i32_471 : BitVec 32 := 0#32
  let c1_i32_473 : BitVec 32 := 1#32
  let arg9 : BitVec 32 := Scf.iv c0_i32_471 c1_i32_473 k1_t101
  let v504 : Index := Scalar.indexCast arg9
  let c112 : Index := 112#32
  ![1, v504.toNat, 112]
def k1_off822 (k1_t101 : Fin k1_t101_loop.trips) : Fin 3 → Nat :=
  let c1_i32_505 : BitVec 32 := 1#32
  let v507 : Index := Scalar.indexCast c1_i32_505
  let c0_i32_471 : BitVec 32 := 0#32
  let c1_i32_473 : BitVec 32 := 1#32
  let arg9 : BitVec 32 := Scf.iv c0_i32_471 c1_i32_473 k1_t101
  let v508 : Index := Scalar.indexCast arg9
  let c0_506 : Index := 0#32
  ![1, v508.toNat, 0]
@[reducible] def k1_t102_loop (i : grid1.Coords) (k1_t101 : Fin k1_t101_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off823 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off824 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off825 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off826 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off827 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off828 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off829 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off830 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk134 (arg12 : BitVec 32) : Prop :=
  (∀ a, (k1_off823 arg12) a + S1x16.size a ≤ S128x128.size a) ∧
  (∀ a, (k1_off824 arg12) a + S1x16.size a ≤ S128x128.size a) ∧
  (∀ a, (k1_off825 arg12) a + S1x16.size a ≤ S128x128.size a) ∧
  (∀ a, (k1_off826 arg12) a + S1x16.size a ≤ S128x128.size a) ∧
  (∀ a, (k1_off827 arg12) a + S1x16.size a ≤ S128x128.size a) ∧
  (∀ a, (k1_off828 arg12) a + S1x16.size a ≤ S128x128.size a) ∧
  (∀ a, (k1_off829 arg12) a + S1x16.size a ≤ S128x128.size a) ∧
  (∀ a, (k1_off830 arg12) a + S1x16.size a ≤ S128x128.size a)
theorem k1_off823_inb : ∀ (arg12 : BitVec 32) (k1_hw134 : k1_chk134 arg12), ∀ a, (k1_off823 arg12) a + S1x16.size a ≤ S128x128.size a := fun arg12 k1_hw134 => k1_hw134.1
theorem k1_off824_inb : ∀ (arg12 : BitVec 32) (k1_hw134 : k1_chk134 arg12), ∀ a, (k1_off824 arg12) a + S1x16.size a ≤ S128x128.size a := fun arg12 k1_hw134 => k1_hw134.2.1
theorem k1_off825_inb : ∀ (arg12 : BitVec 32) (k1_hw134 : k1_chk134 arg12), ∀ a, (k1_off825 arg12) a + S1x16.size a ≤ S128x128.size a := fun arg12 k1_hw134 => k1_hw134.2.2.1
theorem k1_off826_inb : ∀ (arg12 : BitVec 32) (k1_hw134 : k1_chk134 arg12), ∀ a, (k1_off826 arg12) a + S1x16.size a ≤ S128x128.size a := fun arg12 k1_hw134 => k1_hw134.2.2.2.1
theorem k1_off827_inb : ∀ (arg12 : BitVec 32) (k1_hw134 : k1_chk134 arg12), ∀ a, (k1_off827 arg12) a + S1x16.size a ≤ S128x128.size a := fun arg12 k1_hw134 => k1_hw134.2.2.2.2.1
theorem k1_off828_inb : ∀ (arg12 : BitVec 32) (k1_hw134 : k1_chk134 arg12), ∀ a, (k1_off828 arg12) a + S1x16.size a ≤ S128x128.size a := fun arg12 k1_hw134 => k1_hw134.2.2.2.2.2.1
theorem k1_off829_inb : ∀ (arg12 : BitVec 32) (k1_hw134 : k1_chk134 arg12), ∀ a, (k1_off829 arg12) a + S1x16.size a ≤ S128x128.size a := fun arg12 k1_hw134 => k1_hw134.2.2.2.2.2.2.1
theorem k1_off830_inb : ∀ (arg12 : BitVec 32) (k1_hw134 : k1_chk134 arg12), ∀ a, (k1_off830 arg12) a + S1x16.size a ≤ S128x128.size a := fun arg12 k1_hw134 => k1_hw134.2.2.2.2.2.2.2

@[reducible] def k1_t103_loop (i : grid1.Coords) (k1_t101 : Fin k1_t101_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk133 (i : grid1.Coords) (k1_t101 : Fin k1_t101_loop.trips) (v519 : BitVec 32) : Prop :=
  ((k1_t102_loop i k1_t101 v519).OK) ∧
  ((k1_t103_loop i k1_t101 v519).OK)
theorem k1_t102_ok : ∀ (i : grid1.Coords) (k1_t101 : Fin k1_t101_loop.trips) (v519 : BitVec 32) (k1_hw133 : k1_chk133 i k1_t101 v519), (k1_t102_loop i k1_t101 v519).OK := fun i k1_t101 v519 k1_hw133 => k1_hw133.1
theorem k1_t103_ok : ∀ (i : grid1.Coords) (k1_t101 : Fin k1_t101_loop.trips) (v519 : BitVec 32) (k1_hw133 : k1_chk133 i k1_t101 v519), (k1_t103_loop i k1_t101 v519).OK := fun i k1_t101 v519 k1_hw133 => k1_hw133.2

def k1_off831 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off832 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off833 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off834 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off835 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off836 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off837 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off838 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk135 (arg12 : BitVec 32) : Prop :=
  (∀ a, (k1_off831 arg12) a + S1x16.size a ≤ S128x128.size a) ∧
  (∀ a, (k1_off832 arg12) a + S1x16.size a ≤ S128x128.size a) ∧
  (∀ a, (k1_off833 arg12) a + S1x16.size a ≤ S128x128.size a) ∧
  (∀ a, (k1_off834 arg12) a + S1x16.size a ≤ S128x128.size a) ∧
  (∀ a, (k1_off835 arg12) a + S1x16.size a ≤ S128x128.size a) ∧
  (∀ a, (k1_off836 arg12) a + S1x16.size a ≤ S128x128.size a) ∧
  (∀ a, (k1_off837 arg12) a + S1x16.size a ≤ S128x128.size a) ∧
  (∀ a, (k1_off838 arg12) a + S1x16.size a ≤ S128x128.size a)
theorem k1_off831_inb : ∀ (arg12 : BitVec 32) (k1_hw135 : k1_chk135 arg12), ∀ a, (k1_off831 arg12) a + S1x16.size a ≤ S128x128.size a := fun arg12 k1_hw135 => k1_hw135.1
theorem k1_off832_inb : ∀ (arg12 : BitVec 32) (k1_hw135 : k1_chk135 arg12), ∀ a, (k1_off832 arg12) a + S1x16.size a ≤ S128x128.size a := fun arg12 k1_hw135 => k1_hw135.2.1
theorem k1_off833_inb : ∀ (arg12 : BitVec 32) (k1_hw135 : k1_chk135 arg12), ∀ a, (k1_off833 arg12) a + S1x16.size a ≤ S128x128.size a := fun arg12 k1_hw135 => k1_hw135.2.2.1
theorem k1_off834_inb : ∀ (arg12 : BitVec 32) (k1_hw135 : k1_chk135 arg12), ∀ a, (k1_off834 arg12) a + S1x16.size a ≤ S128x128.size a := fun arg12 k1_hw135 => k1_hw135.2.2.2.1
theorem k1_off835_inb : ∀ (arg12 : BitVec 32) (k1_hw135 : k1_chk135 arg12), ∀ a, (k1_off835 arg12) a + S1x16.size a ≤ S128x128.size a := fun arg12 k1_hw135 => k1_hw135.2.2.2.2.1
theorem k1_off836_inb : ∀ (arg12 : BitVec 32) (k1_hw135 : k1_chk135 arg12), ∀ a, (k1_off836 arg12) a + S1x16.size a ≤ S128x128.size a := fun arg12 k1_hw135 => k1_hw135.2.2.2.2.2.1
theorem k1_off837_inb : ∀ (arg12 : BitVec 32) (k1_hw135 : k1_chk135 arg12), ∀ a, (k1_off837 arg12) a + S1x16.size a ≤ S128x128.size a := fun arg12 k1_hw135 => k1_hw135.2.2.2.2.2.2.1
theorem k1_off838_inb : ∀ (arg12 : BitVec 32) (k1_hw135 : k1_chk135 arg12), ∀ a, (k1_off838 arg12) a + S1x16.size a ≤ S128x128.size a := fun arg12 k1_hw135 => k1_hw135.2.2.2.2.2.2.2

@[reducible] def k1_t104_loop (i : grid1.Coords) (k1_t101 : Fin k1_t101_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off839 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off840 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off841 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off842 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off843 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off844 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off845 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off846 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk137 (arg12 : BitVec 32) : Prop :=
  (∀ a, (k1_off839 arg12) a + S1x16.size a ≤ S128x128.size a) ∧
  (∀ a, (k1_off840 arg12) a + S1x16.size a ≤ S128x128.size a) ∧
  (∀ a, (k1_off841 arg12) a + S1x16.size a ≤ S128x128.size a) ∧
  (∀ a, (k1_off842 arg12) a + S1x16.size a ≤ S128x128.size a) ∧
  (∀ a, (k1_off843 arg12) a + S1x16.size a ≤ S128x128.size a) ∧
  (∀ a, (k1_off844 arg12) a + S1x16.size a ≤ S128x128.size a) ∧
  (∀ a, (k1_off845 arg12) a + S1x16.size a ≤ S128x128.size a) ∧
  (∀ a, (k1_off846 arg12) a + S1x16.size a ≤ S128x128.size a)
theorem k1_off839_inb : ∀ (arg12 : BitVec 32) (k1_hw137 : k1_chk137 arg12), ∀ a, (k1_off839 arg12) a + S1x16.size a ≤ S128x128.size a := fun arg12 k1_hw137 => k1_hw137.1
theorem k1_off840_inb : ∀ (arg12 : BitVec 32) (k1_hw137 : k1_chk137 arg12), ∀ a, (k1_off840 arg12) a + S1x16.size a ≤ S128x128.size a := fun arg12 k1_hw137 => k1_hw137.2.1
theorem k1_off841_inb : ∀ (arg12 : BitVec 32) (k1_hw137 : k1_chk137 arg12), ∀ a, (k1_off841 arg12) a + S1x16.size a ≤ S128x128.size a := fun arg12 k1_hw137 => k1_hw137.2.2.1
theorem k1_off842_inb : ∀ (arg12 : BitVec 32) (k1_hw137 : k1_chk137 arg12), ∀ a, (k1_off842 arg12) a + S1x16.size a ≤ S128x128.size a := fun arg12 k1_hw137 => k1_hw137.2.2.2.1
theorem k1_off843_inb : ∀ (arg12 : BitVec 32) (k1_hw137 : k1_chk137 arg12), ∀ a, (k1_off843 arg12) a + S1x16.size a ≤ S128x128.size a := fun arg12 k1_hw137 => k1_hw137.2.2.2.2.1
theorem k1_off844_inb : ∀ (arg12 : BitVec 32) (k1_hw137 : k1_chk137 arg12), ∀ a, (k1_off844 arg12) a + S1x16.size a ≤ S128x128.size a := fun arg12 k1_hw137 => k1_hw137.2.2.2.2.2.1
theorem k1_off845_inb : ∀ (arg12 : BitVec 32) (k1_hw137 : k1_chk137 arg12), ∀ a, (k1_off845 arg12) a + S1x16.size a ≤ S128x128.size a := fun arg12 k1_hw137 => k1_hw137.2.2.2.2.2.2.1
theorem k1_off846_inb : ∀ (arg12 : BitVec 32) (k1_hw137 : k1_chk137 arg12), ∀ a, (k1_off846 arg12) a + S1x16.size a ≤ S128x128.size a := fun arg12 k1_hw137 => k1_hw137.2.2.2.2.2.2.2

@[reducible] def k1_t105_loop (i : grid1.Coords) (k1_t101 : Fin k1_t101_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk136 (i : grid1.Coords) (k1_t101 : Fin k1_t101_loop.trips) (v540 : BitVec 32) : Prop :=
  ((k1_t104_loop i k1_t101 v540).OK) ∧
  ((k1_t105_loop i k1_t101 v540).OK)
theorem k1_t104_ok : ∀ (i : grid1.Coords) (k1_t101 : Fin k1_t101_loop.trips) (v540 : BitVec 32) (k1_hw136 : k1_chk136 i k1_t101 v540), (k1_t104_loop i k1_t101 v540).OK := fun i k1_t101 v540 k1_hw136 => k1_hw136.1
theorem k1_t105_ok : ∀ (i : grid1.Coords) (k1_t101 : Fin k1_t101_loop.trips) (v540 : BitVec 32) (k1_hw136 : k1_chk136 i k1_t101 v540), (k1_t105_loop i k1_t101 v540).OK := fun i k1_t101 v540 k1_hw136 => k1_hw136.2

def k1_off847 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off848 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off849 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off850 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off851 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off852 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off853 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off854 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk138 (arg12 : BitVec 32) : Prop :=
  (∀ a, (k1_off847 arg12) a + S1x16.size a ≤ S128x128.size a) ∧
  (∀ a, (k1_off848 arg12) a + S1x16.size a ≤ S128x128.size a) ∧
  (∀ a, (k1_off849 arg12) a + S1x16.size a ≤ S128x128.size a) ∧
  (∀ a, (k1_off850 arg12) a + S1x16.size a ≤ S128x128.size a) ∧
  (∀ a, (k1_off851 arg12) a + S1x16.size a ≤ S128x128.size a) ∧
  (∀ a, (k1_off852 arg12) a + S1x16.size a ≤ S128x128.size a) ∧
  (∀ a, (k1_off853 arg12) a + S1x16.size a ≤ S128x128.size a) ∧
  (∀ a, (k1_off854 arg12) a + S1x16.size a ≤ S128x128.size a)
theorem k1_off847_inb : ∀ (arg12 : BitVec 32) (k1_hw138 : k1_chk138 arg12), ∀ a, (k1_off847 arg12) a + S1x16.size a ≤ S128x128.size a := fun arg12 k1_hw138 => k1_hw138.1
theorem k1_off848_inb : ∀ (arg12 : BitVec 32) (k1_hw138 : k1_chk138 arg12), ∀ a, (k1_off848 arg12) a + S1x16.size a ≤ S128x128.size a := fun arg12 k1_hw138 => k1_hw138.2.1
theorem k1_off849_inb : ∀ (arg12 : BitVec 32) (k1_hw138 : k1_chk138 arg12), ∀ a, (k1_off849 arg12) a + S1x16.size a ≤ S128x128.size a := fun arg12 k1_hw138 => k1_hw138.2.2.1
theorem k1_off850_inb : ∀ (arg12 : BitVec 32) (k1_hw138 : k1_chk138 arg12), ∀ a, (k1_off850 arg12) a + S1x16.size a ≤ S128x128.size a := fun arg12 k1_hw138 => k1_hw138.2.2.2.1
theorem k1_off851_inb : ∀ (arg12 : BitVec 32) (k1_hw138 : k1_chk138 arg12), ∀ a, (k1_off851 arg12) a + S1x16.size a ≤ S128x128.size a := fun arg12 k1_hw138 => k1_hw138.2.2.2.2.1
theorem k1_off852_inb : ∀ (arg12 : BitVec 32) (k1_hw138 : k1_chk138 arg12), ∀ a, (k1_off852 arg12) a + S1x16.size a ≤ S128x128.size a := fun arg12 k1_hw138 => k1_hw138.2.2.2.2.2.1
theorem k1_off853_inb : ∀ (arg12 : BitVec 32) (k1_hw138 : k1_chk138 arg12), ∀ a, (k1_off853 arg12) a + S1x16.size a ≤ S128x128.size a := fun arg12 k1_hw138 => k1_hw138.2.2.2.2.2.2.1
theorem k1_off854_inb : ∀ (arg12 : BitVec 32) (k1_hw138 : k1_chk138 arg12), ∀ a, (k1_off854 arg12) a + S1x16.size a ≤ S128x128.size a := fun arg12 k1_hw138 => k1_hw138.2.2.2.2.2.2.2

@[reducible] def k1_t106_loop (i : grid1.Coords) (k1_t101 : Fin k1_t101_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off855 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off856 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off857 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off858 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off859 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off860 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off861 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off862 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk140 (arg12 : BitVec 32) : Prop :=
  (∀ a, (k1_off855 arg12) a + S1x16.size a ≤ S128x128.size a) ∧
  (∀ a, (k1_off856 arg12) a + S1x16.size a ≤ S128x128.size a) ∧
  (∀ a, (k1_off857 arg12) a + S1x16.size a ≤ S128x128.size a) ∧
  (∀ a, (k1_off858 arg12) a + S1x16.size a ≤ S128x128.size a) ∧
  (∀ a, (k1_off859 arg12) a + S1x16.size a ≤ S128x128.size a) ∧
  (∀ a, (k1_off860 arg12) a + S1x16.size a ≤ S128x128.size a) ∧
  (∀ a, (k1_off861 arg12) a + S1x16.size a ≤ S128x128.size a) ∧
  (∀ a, (k1_off862 arg12) a + S1x16.size a ≤ S128x128.size a)
theorem k1_off855_inb : ∀ (arg12 : BitVec 32) (k1_hw140 : k1_chk140 arg12), ∀ a, (k1_off855 arg12) a + S1x16.size a ≤ S128x128.size a := fun arg12 k1_hw140 => k1_hw140.1
theorem k1_off856_inb : ∀ (arg12 : BitVec 32) (k1_hw140 : k1_chk140 arg12), ∀ a, (k1_off856 arg12) a + S1x16.size a ≤ S128x128.size a := fun arg12 k1_hw140 => k1_hw140.2.1
theorem k1_off857_inb : ∀ (arg12 : BitVec 32) (k1_hw140 : k1_chk140 arg12), ∀ a, (k1_off857 arg12) a + S1x16.size a ≤ S128x128.size a := fun arg12 k1_hw140 => k1_hw140.2.2.1
theorem k1_off858_inb : ∀ (arg12 : BitVec 32) (k1_hw140 : k1_chk140 arg12), ∀ a, (k1_off858 arg12) a + S1x16.size a ≤ S128x128.size a := fun arg12 k1_hw140 => k1_hw140.2.2.2.1
theorem k1_off859_inb : ∀ (arg12 : BitVec 32) (k1_hw140 : k1_chk140 arg12), ∀ a, (k1_off859 arg12) a + S1x16.size a ≤ S128x128.size a := fun arg12 k1_hw140 => k1_hw140.2.2.2.2.1
theorem k1_off860_inb : ∀ (arg12 : BitVec 32) (k1_hw140 : k1_chk140 arg12), ∀ a, (k1_off860 arg12) a + S1x16.size a ≤ S128x128.size a := fun arg12 k1_hw140 => k1_hw140.2.2.2.2.2.1
theorem k1_off861_inb : ∀ (arg12 : BitVec 32) (k1_hw140 : k1_chk140 arg12), ∀ a, (k1_off861 arg12) a + S1x16.size a ≤ S128x128.size a := fun arg12 k1_hw140 => k1_hw140.2.2.2.2.2.2.1
theorem k1_off862_inb : ∀ (arg12 : BitVec 32) (k1_hw140 : k1_chk140 arg12), ∀ a, (k1_off862 arg12) a + S1x16.size a ≤ S128x128.size a := fun arg12 k1_hw140 => k1_hw140.2.2.2.2.2.2.2

@[reducible] def k1_t107_loop (i : grid1.Coords) (k1_t101 : Fin k1_t101_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk139 (i : grid1.Coords) (k1_t101 : Fin k1_t101_loop.trips) (v561 : BitVec 32) : Prop :=
  ((k1_t106_loop i k1_t101 v561).OK) ∧
  ((k1_t107_loop i k1_t101 v561).OK)
theorem k1_t106_ok : ∀ (i : grid1.Coords) (k1_t101 : Fin k1_t101_loop.trips) (v561 : BitVec 32) (k1_hw139 : k1_chk139 i k1_t101 v561), (k1_t106_loop i k1_t101 v561).OK := fun i k1_t101 v561 k1_hw139 => k1_hw139.1
theorem k1_t107_ok : ∀ (i : grid1.Coords) (k1_t101 : Fin k1_t101_loop.trips) (v561 : BitVec 32) (k1_hw139 : k1_chk139 i k1_t101 v561), (k1_t107_loop i k1_t101 v561).OK := fun i k1_t101 v561 k1_hw139 => k1_hw139.2

def k1_off863 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off864 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off865 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off866 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off867 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off868 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off869 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off870 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk141 (arg12 : BitVec 32) : Prop :=
  (∀ a, (k1_off863 arg12) a + S1x16.size a ≤ S128x128.size a) ∧
  (∀ a, (k1_off864 arg12) a + S1x16.size a ≤ S128x128.size a) ∧
  (∀ a, (k1_off865 arg12) a + S1x16.size a ≤ S128x128.size a) ∧
  (∀ a, (k1_off866 arg12) a + S1x16.size a ≤ S128x128.size a) ∧
  (∀ a, (k1_off867 arg12) a + S1x16.size a ≤ S128x128.size a) ∧
  (∀ a, (k1_off868 arg12) a + S1x16.size a ≤ S128x128.size a) ∧
  (∀ a, (k1_off869 arg12) a + S1x16.size a ≤ S128x128.size a) ∧
  (∀ a, (k1_off870 arg12) a + S1x16.size a ≤ S128x128.size a)
theorem k1_off863_inb : ∀ (arg12 : BitVec 32) (k1_hw141 : k1_chk141 arg12), ∀ a, (k1_off863 arg12) a + S1x16.size a ≤ S128x128.size a := fun arg12 k1_hw141 => k1_hw141.1
theorem k1_off864_inb : ∀ (arg12 : BitVec 32) (k1_hw141 : k1_chk141 arg12), ∀ a, (k1_off864 arg12) a + S1x16.size a ≤ S128x128.size a := fun arg12 k1_hw141 => k1_hw141.2.1
theorem k1_off865_inb : ∀ (arg12 : BitVec 32) (k1_hw141 : k1_chk141 arg12), ∀ a, (k1_off865 arg12) a + S1x16.size a ≤ S128x128.size a := fun arg12 k1_hw141 => k1_hw141.2.2.1
theorem k1_off866_inb : ∀ (arg12 : BitVec 32) (k1_hw141 : k1_chk141 arg12), ∀ a, (k1_off866 arg12) a + S1x16.size a ≤ S128x128.size a := fun arg12 k1_hw141 => k1_hw141.2.2.2.1
theorem k1_off867_inb : ∀ (arg12 : BitVec 32) (k1_hw141 : k1_chk141 arg12), ∀ a, (k1_off867 arg12) a + S1x16.size a ≤ S128x128.size a := fun arg12 k1_hw141 => k1_hw141.2.2.2.2.1
theorem k1_off868_inb : ∀ (arg12 : BitVec 32) (k1_hw141 : k1_chk141 arg12), ∀ a, (k1_off868 arg12) a + S1x16.size a ≤ S128x128.size a := fun arg12 k1_hw141 => k1_hw141.2.2.2.2.2.1
theorem k1_off869_inb : ∀ (arg12 : BitVec 32) (k1_hw141 : k1_chk141 arg12), ∀ a, (k1_off869 arg12) a + S1x16.size a ≤ S128x128.size a := fun arg12 k1_hw141 => k1_hw141.2.2.2.2.2.2.1
theorem k1_off870_inb : ∀ (arg12 : BitVec 32) (k1_hw141 : k1_chk141 arg12), ∀ a, (k1_off870 arg12) a + S1x16.size a ≤ S128x128.size a := fun arg12 k1_hw141 => k1_hw141.2.2.2.2.2.2.2

@[reducible] def k1_t108_loop (i : grid1.Coords) (k1_t101 : Fin k1_t101_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off871 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off872 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off873 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off874 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off875 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off876 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off877 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off878 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk143 (arg12 : BitVec 32) : Prop :=
  (∀ a, (k1_off871 arg12) a + S1x16.size a ≤ S128x128.size a) ∧
  (∀ a, (k1_off872 arg12) a + S1x16.size a ≤ S128x128.size a) ∧
  (∀ a, (k1_off873 arg12) a + S1x16.size a ≤ S128x128.size a) ∧
  (∀ a, (k1_off874 arg12) a + S1x16.size a ≤ S128x128.size a) ∧
  (∀ a, (k1_off875 arg12) a + S1x16.size a ≤ S128x128.size a) ∧
  (∀ a, (k1_off876 arg12) a + S1x16.size a ≤ S128x128.size a) ∧
  (∀ a, (k1_off877 arg12) a + S1x16.size a ≤ S128x128.size a) ∧
  (∀ a, (k1_off878 arg12) a + S1x16.size a ≤ S128x128.size a)
theorem k1_off871_inb : ∀ (arg12 : BitVec 32) (k1_hw143 : k1_chk143 arg12), ∀ a, (k1_off871 arg12) a + S1x16.size a ≤ S128x128.size a := fun arg12 k1_hw143 => k1_hw143.1
theorem k1_off872_inb : ∀ (arg12 : BitVec 32) (k1_hw143 : k1_chk143 arg12), ∀ a, (k1_off872 arg12) a + S1x16.size a ≤ S128x128.size a := fun arg12 k1_hw143 => k1_hw143.2.1
theorem k1_off873_inb : ∀ (arg12 : BitVec 32) (k1_hw143 : k1_chk143 arg12), ∀ a, (k1_off873 arg12) a + S1x16.size a ≤ S128x128.size a := fun arg12 k1_hw143 => k1_hw143.2.2.1
theorem k1_off874_inb : ∀ (arg12 : BitVec 32) (k1_hw143 : k1_chk143 arg12), ∀ a, (k1_off874 arg12) a + S1x16.size a ≤ S128x128.size a := fun arg12 k1_hw143 => k1_hw143.2.2.2.1
theorem k1_off875_inb : ∀ (arg12 : BitVec 32) (k1_hw143 : k1_chk143 arg12), ∀ a, (k1_off875 arg12) a + S1x16.size a ≤ S128x128.size a := fun arg12 k1_hw143 => k1_hw143.2.2.2.2.1
theorem k1_off876_inb : ∀ (arg12 : BitVec 32) (k1_hw143 : k1_chk143 arg12), ∀ a, (k1_off876 arg12) a + S1x16.size a ≤ S128x128.size a := fun arg12 k1_hw143 => k1_hw143.2.2.2.2.2.1
theorem k1_off877_inb : ∀ (arg12 : BitVec 32) (k1_hw143 : k1_chk143 arg12), ∀ a, (k1_off877 arg12) a + S1x16.size a ≤ S128x128.size a := fun arg12 k1_hw143 => k1_hw143.2.2.2.2.2.2.1
theorem k1_off878_inb : ∀ (arg12 : BitVec 32) (k1_hw143 : k1_chk143 arg12), ∀ a, (k1_off878 arg12) a + S1x16.size a ≤ S128x128.size a := fun arg12 k1_hw143 => k1_hw143.2.2.2.2.2.2.2

@[reducible] def k1_t109_loop (i : grid1.Coords) (k1_t101 : Fin k1_t101_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1408_i32_469 : BitVec 32 := 1408#32
  let v451 : BitVec 32 := Scalar.addi v2 c1408_i32_469
  let c0_i32_471 : BitVec 32 := 0#32
  let c1_i32_473 : BitVec 32 := 1#32
  let arg9 : BitVec 32 := Scf.iv c0_i32_471 c1_i32_473 k1_t101
  let v473 : BitVec 32 := Scalar.addi v451 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk142 (i : grid1.Coords) (k1_t101 : Fin k1_t101_loop.trips) (v582 : BitVec 32) : Prop :=
  ((k1_t108_loop i k1_t101 v582).OK) ∧
  ((k1_t109_loop i k1_t101 v582).OK)
theorem k1_t108_ok : ∀ (i : grid1.Coords) (k1_t101 : Fin k1_t101_loop.trips) (v582 : BitVec 32) (k1_hw142 : k1_chk142 i k1_t101 v582), (k1_t108_loop i k1_t101 v582).OK := fun i k1_t101 v582 k1_hw142 => k1_hw142.1
theorem k1_t109_ok : ∀ (i : grid1.Coords) (k1_t101 : Fin k1_t101_loop.trips) (v582 : BitVec 32) (k1_hw142 : k1_chk142 i k1_t101 v582), (k1_t109_loop i k1_t101 v582).OK := fun i k1_t101 v582 k1_hw142 => k1_hw142.2

def k1_off879 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off880 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off881 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off882 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off883 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off884 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off885 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off886 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk144 (arg12 : BitVec 32) : Prop :=
  (∀ a, (k1_off879 arg12) a + S1x16.size a ≤ S128x128.size a) ∧
  (∀ a, (k1_off880 arg12) a + S1x16.size a ≤ S128x128.size a) ∧
  (∀ a, (k1_off881 arg12) a + S1x16.size a ≤ S128x128.size a) ∧
  (∀ a, (k1_off882 arg12) a + S1x16.size a ≤ S128x128.size a) ∧
  (∀ a, (k1_off883 arg12) a + S1x16.size a ≤ S128x128.size a) ∧
  (∀ a, (k1_off884 arg12) a + S1x16.size a ≤ S128x128.size a) ∧
  (∀ a, (k1_off885 arg12) a + S1x16.size a ≤ S128x128.size a) ∧
  (∀ a, (k1_off886 arg12) a + S1x16.size a ≤ S128x128.size a)
theorem k1_off879_inb : ∀ (arg12 : BitVec 32) (k1_hw144 : k1_chk144 arg12), ∀ a, (k1_off879 arg12) a + S1x16.size a ≤ S128x128.size a := fun arg12 k1_hw144 => k1_hw144.1
theorem k1_off880_inb : ∀ (arg12 : BitVec 32) (k1_hw144 : k1_chk144 arg12), ∀ a, (k1_off880 arg12) a + S1x16.size a ≤ S128x128.size a := fun arg12 k1_hw144 => k1_hw144.2.1
theorem k1_off881_inb : ∀ (arg12 : BitVec 32) (k1_hw144 : k1_chk144 arg12), ∀ a, (k1_off881 arg12) a + S1x16.size a ≤ S128x128.size a := fun arg12 k1_hw144 => k1_hw144.2.2.1
theorem k1_off882_inb : ∀ (arg12 : BitVec 32) (k1_hw144 : k1_chk144 arg12), ∀ a, (k1_off882 arg12) a + S1x16.size a ≤ S128x128.size a := fun arg12 k1_hw144 => k1_hw144.2.2.2.1
theorem k1_off883_inb : ∀ (arg12 : BitVec 32) (k1_hw144 : k1_chk144 arg12), ∀ a, (k1_off883 arg12) a + S1x16.size a ≤ S128x128.size a := fun arg12 k1_hw144 => k1_hw144.2.2.2.2.1
theorem k1_off884_inb : ∀ (arg12 : BitVec 32) (k1_hw144 : k1_chk144 arg12), ∀ a, (k1_off884 arg12) a + S1x16.size a ≤ S128x128.size a := fun arg12 k1_hw144 => k1_hw144.2.2.2.2.2.1
theorem k1_off885_inb : ∀ (arg12 : BitVec 32) (k1_hw144 : k1_chk144 arg12), ∀ a, (k1_off885 arg12) a + S1x16.size a ≤ S128x128.size a := fun arg12 k1_hw144 => k1_hw144.2.2.2.2.2.2.1
theorem k1_off886_inb : ∀ (arg12 : BitVec 32) (k1_hw144 : k1_chk144 arg12), ∀ a, (k1_off886 arg12) a + S1x16.size a ≤ S128x128.size a := fun arg12 k1_hw144 => k1_hw144.2.2.2.2.2.2.2

@[reducible] def k1_t110_loop : Scf.Loop 32 :=
  let c0_i32_493 : BitVec 32 := 0#32
  let c128_i32_494 : BitVec 32 := 128#32
  let v471 : BitVec 32 := Scalar.addi c0_i32_493 c128_i32_494
  let c1_i32_495 : BitVec 32 := 1#32
  ⟨c0_i32_493, v471, c1_i32_495⟩
def k1_off887 (k1_t110 : Fin k1_t110_loop.trips) : Fin 3 → Nat :=
  let c0_i32_497 : BitVec 32 := 0#32
  let v475 : Index := Scalar.indexCast c0_i32_497
  let c0_i32_493 : BitVec 32 := 0#32
  let c1_i32_495 : BitVec 32 := 1#32
  let arg9 : BitVec 32 := Scf.iv c0_i32_493 c1_i32_495 k1_t110
  let v476 : Index := Scalar.indexCast arg9
  let c0 : Index := 0#32
  ![0, v476.toNat, 0]
def k1_off888 (k1_t110 : Fin k1_t110_loop.trips) : Fin 3 → Nat :=
  let c0_i32_498 : BitVec 32 := 0#32
  let v479 : Index := Scalar.indexCast c0_i32_498
  let c0_i32_493 : BitVec 32 := 0#32
  let c1_i32_495 : BitVec 32 := 1#32
  let arg9 : BitVec 32 := Scf.iv c0_i32_493 c1_i32_495 k1_t110
  let v480 : Index := Scalar.indexCast arg9
  let c16 : Index := 16#32
  ![0, v480.toNat, 16]
def k1_off889 (k1_t110 : Fin k1_t110_loop.trips) : Fin 3 → Nat :=
  let c0_i32_499 : BitVec 32 := 0#32
  let v483 : Index := Scalar.indexCast c0_i32_499
  let c0_i32_493 : BitVec 32 := 0#32
  let c1_i32_495 : BitVec 32 := 1#32
  let arg9 : BitVec 32 := Scf.iv c0_i32_493 c1_i32_495 k1_t110
  let v484 : Index := Scalar.indexCast arg9
  let c32 : Index := 32#32
  ![0, v484.toNat, 32]
def k1_off890 (k1_t110 : Fin k1_t110_loop.trips) : Fin 3 → Nat :=
  let c0_i32_500 : BitVec 32 := 0#32
  let v487 : Index := Scalar.indexCast c0_i32_500
  let c0_i32_493 : BitVec 32 := 0#32
  let c1_i32_495 : BitVec 32 := 1#32
  let arg9 : BitVec 32 := Scf.iv c0_i32_493 c1_i32_495 k1_t110
  let v488 : Index := Scalar.indexCast arg9
  let c48 : Index := 48#32
  ![0, v488.toNat, 48]
def k1_off891 (k1_t110 : Fin k1_t110_loop.trips) : Fin 3 → Nat :=
  let c0_i32_501 : BitVec 32 := 0#32
  let v491 : Index := Scalar.indexCast c0_i32_501
  let c0_i32_493 : BitVec 32 := 0#32
  let c1_i32_495 : BitVec 32 := 1#32
  let arg9 : BitVec 32 := Scf.iv c0_i32_493 c1_i32_495 k1_t110
  let v492 : Index := Scalar.indexCast arg9
  let c64 : Index := 64#32
  ![0, v492.toNat, 64]
def k1_off892 (k1_t110 : Fin k1_t110_loop.trips) : Fin 3 → Nat :=
  let c0_i32_502 : BitVec 32 := 0#32
  let v495 : Index := Scalar.indexCast c0_i32_502
  let c0_i32_493 : BitVec 32 := 0#32
  let c1_i32_495 : BitVec 32 := 1#32
  let arg9 : BitVec 32 := Scf.iv c0_i32_493 c1_i32_495 k1_t110
  let v496 : Index := Scalar.indexCast arg9
  let c80 : Index := 80#32
  ![0, v496.toNat, 80]
def k1_off893 (k1_t110 : Fin k1_t110_loop.trips) : Fin 3 → Nat :=
  let c0_i32_503 : BitVec 32 := 0#32
  let v499 : Index := Scalar.indexCast c0_i32_503
  let c0_i32_493 : BitVec 32 := 0#32
  let c1_i32_495 : BitVec 32 := 1#32
  let arg9 : BitVec 32 := Scf.iv c0_i32_493 c1_i32_495 k1_t110
  let v500 : Index := Scalar.indexCast arg9
  let c96 : Index := 96#32
  ![0, v500.toNat, 96]
def k1_off894 (k1_t110 : Fin k1_t110_loop.trips) : Fin 3 → Nat :=
  let c0_i32_504 : BitVec 32 := 0#32
  let v503 : Index := Scalar.indexCast c0_i32_504
  let c0_i32_493 : BitVec 32 := 0#32
  let c1_i32_495 : BitVec 32 := 1#32
  let arg9 : BitVec 32 := Scf.iv c0_i32_493 c1_i32_495 k1_t110
  let v504 : Index := Scalar.indexCast arg9
  let c112 : Index := 112#32
  ![0, v504.toNat, 112]
def k1_off895 (k1_t110 : Fin k1_t110_loop.trips) : Fin 3 → Nat :=
  let c0_i32_505 : BitVec 32 := 0#32
  let v507 : Index := Scalar.indexCast c0_i32_505
  let c0_i32_493 : BitVec 32 := 0#32
  let c1_i32_495 : BitVec 32 := 1#32
  let arg9 : BitVec 32 := Scf.iv c0_i32_493 c1_i32_495 k1_t110
  let v508 : Index := Scalar.indexCast arg9
  let c0_506 : Index := 0#32
  ![0, v508.toNat, 0]
@[reducible] def k1_t111_loop (i : grid1.Coords) (k1_t110 : Fin k1_t110_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let c1_i32_517 : BitVec 32 := 1#32
  ⟨c0_i32_515, v529, c1_i32_517⟩

def k1_off896 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off897 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off898 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off899 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off900 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off901 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off902 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off903 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk146 (arg12 : BitVec 32) : Prop :=
  (∀ a, (k1_off896 arg12) a + S1x16.size a ≤ S128x128.size a) ∧
  (∀ a, (k1_off897 arg12) a + S1x16.size a ≤ S128x128.size a) ∧
  (∀ a, (k1_off898 arg12) a + S1x16.size a ≤ S128x128.size a) ∧
  (∀ a, (k1_off899 arg12) a + S1x16.size a ≤ S128x128.size a) ∧
  (∀ a, (k1_off900 arg12) a + S1x16.size a ≤ S128x128.size a) ∧
  (∀ a, (k1_off901 arg12) a + S1x16.size a ≤ S128x128.size a) ∧
  (∀ a, (k1_off902 arg12) a + S1x16.size a ≤ S128x128.size a) ∧
  (∀ a, (k1_off903 arg12) a + S1x16.size a ≤ S128x128.size a)
theorem k1_off896_inb : ∀ (arg12 : BitVec 32) (k1_hw146 : k1_chk146 arg12), ∀ a, (k1_off896 arg12) a + S1x16.size a ≤ S128x128.size a := fun arg12 k1_hw146 => k1_hw146.1
theorem k1_off897_inb : ∀ (arg12 : BitVec 32) (k1_hw146 : k1_chk146 arg12), ∀ a, (k1_off897 arg12) a + S1x16.size a ≤ S128x128.size a := fun arg12 k1_hw146 => k1_hw146.2.1
theorem k1_off898_inb : ∀ (arg12 : BitVec 32) (k1_hw146 : k1_chk146 arg12), ∀ a, (k1_off898 arg12) a + S1x16.size a ≤ S128x128.size a := fun arg12 k1_hw146 => k1_hw146.2.2.1
theorem k1_off899_inb : ∀ (arg12 : BitVec 32) (k1_hw146 : k1_chk146 arg12), ∀ a, (k1_off899 arg12) a + S1x16.size a ≤ S128x128.size a := fun arg12 k1_hw146 => k1_hw146.2.2.2.1
theorem k1_off900_inb : ∀ (arg12 : BitVec 32) (k1_hw146 : k1_chk146 arg12), ∀ a, (k1_off900 arg12) a + S1x16.size a ≤ S128x128.size a := fun arg12 k1_hw146 => k1_hw146.2.2.2.2.1
theorem k1_off901_inb : ∀ (arg12 : BitVec 32) (k1_hw146 : k1_chk146 arg12), ∀ a, (k1_off901 arg12) a + S1x16.size a ≤ S128x128.size a := fun arg12 k1_hw146 => k1_hw146.2.2.2.2.2.1
theorem k1_off902_inb : ∀ (arg12 : BitVec 32) (k1_hw146 : k1_chk146 arg12), ∀ a, (k1_off902 arg12) a + S1x16.size a ≤ S128x128.size a := fun arg12 k1_hw146 => k1_hw146.2.2.2.2.2.2.1
theorem k1_off903_inb : ∀ (arg12 : BitVec 32) (k1_hw146 : k1_chk146 arg12), ∀ a, (k1_off903 arg12) a + S1x16.size a ≤ S128x128.size a := fun arg12 k1_hw146 => k1_hw146.2.2.2.2.2.2.2

@[reducible] def k1_t112_loop (i : grid1.Coords) (k1_t110 : Fin k1_t110_loop.trips) (v519 : BitVec 32) : Scf.Loop 32 :=
  let c0_i32_515 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_508 : BitVec 32 := 0#32
  let v520 : BitVec 32 := Scalar.select v474 v519 c0_i32_508
  let c0_i32_509 : BitVec 32 := 0#32
  let v521 : BitVec 32 := Scalar.subi v520 c0_i32_509
  let c1_i32_510 : BitVec 32 := 1#32
  let c1_i32_511 : BitVec 32 := 1#32
  let v522 : BitVec 32 := Scalar.subi c1_i32_510 c1_i32_511
  let v523 : BitVec 32 := Scalar.addi v521 v522
  let c1_i32_512 : BitVec 32 := 1#32
  let v524 : BitVec 32 := Scalar.divsi v523 c1_i32_512
  let v525 : BitVec 32 := Scalar.subi v524 c0_i32_515
  let c1_i32_516 : BitVec 32 := 1#32
  let v527 : BitVec 32 := Scalar.divsi v525 c1_i32_516
  let v528 : BitVec 32 := Scalar.muli v527 c1_i32_516
  let v529 : BitVec 32 := Scalar.addi c0_i32_515 v528
  let v526 : BitVec 32 := Scalar.addi c0_i32_515 v525
  let c1_i32_518 : BitVec 32 := 1#32
  ⟨v529, v526, c1_i32_518⟩

def k1_chk145 (i : grid1.Coords) (k1_t110 : Fin k1_t110_loop.trips) (v519 : BitVec 32) : Prop :=
  ((k1_t111_loop i k1_t110 v519).OK) ∧
  ((k1_t112_loop i k1_t110 v519).OK)
theorem k1_t111_ok : ∀ (i : grid1.Coords) (k1_t110 : Fin k1_t110_loop.trips) (v519 : BitVec 32) (k1_hw145 : k1_chk145 i k1_t110 v519), (k1_t111_loop i k1_t110 v519).OK := fun i k1_t110 v519 k1_hw145 => k1_hw145.1
theorem k1_t112_ok : ∀ (i : grid1.Coords) (k1_t110 : Fin k1_t110_loop.trips) (v519 : BitVec 32) (k1_hw145 : k1_chk145 i k1_t110 v519), (k1_t112_loop i k1_t110 v519).OK := fun i k1_t110 v519 k1_hw145 => k1_hw145.2

def k1_off904 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v619 : Index := Scalar.indexCast v618
  let c0_574 : Index := 0#32
  ![v619.toNat, 0]

def k1_off905 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v627 : Index := Scalar.indexCast v618
  let c16_576 : Index := 16#32
  ![v627.toNat, 16]
def k1_off906 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v635 : Index := Scalar.indexCast v618
  let c32_578 : Index := 32#32
  ![v635.toNat, 32]
def k1_off907 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v643 : Index := Scalar.indexCast v618
  let c48_580 : Index := 48#32
  ![v643.toNat, 48]
def k1_off908 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v651 : Index := Scalar.indexCast v618
  let c64_582 : Index := 64#32
  ![v651.toNat, 64]
def k1_off909 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v659 : Index := Scalar.indexCast v618
  let c80_584 : Index := 80#32
  ![v659.toNat, 80]
def k1_off910 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v667 : Index := Scalar.indexCast v618
  let c96_586 : Index := 96#32
  ![v667.toNat, 96]
def k1_off911 (arg12 : BitVec 32) : Fin 2 → Nat :=
  let c0_i32_573 : BitVec 32 := 0#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c0_i32_573 v617
  let v675 : Index := Scalar.indexCast v618
  let c112_588 : Index := 112#32
  ![v675.toNat, 112]

def k1_chk147 (arg12 : BitVec 32) : Prop :=
  (∀ a, (k1_off904 arg12) a + S1x16.size a ≤ S128x128.size a) ∧
  (∀ a, (k1_off905 arg12) a + S1x16.size a ≤ S128x128.size a) ∧
  (∀ a, (k1_off906 arg12) a + S1x16.size a ≤ S128x128.size a) ∧
  (∀ a, (k1_off907 arg12) a + S1x16.size a ≤ S128x128.size a) ∧
  (∀ a, (k1_off908 arg12) a + S1x16.size a ≤ S128x128.size a) ∧
  (∀ a, (k1_off909 arg12) a + S1x16.size a ≤ S128x128.size a) ∧
  (∀ a, (k1_off910 arg12) a + S1x16.size a ≤ S128x128.size a) ∧
  (∀ a, (k1_off911 arg12) a + S1x16.size a ≤ S128x128.size a)
theorem k1_off904_inb : ∀ (arg12 : BitVec 32) (k1_hw147 : k1_chk147 arg12), ∀ a, (k1_off904 arg12) a + S1x16.size a ≤ S128x128.size a := fun arg12 k1_hw147 => k1_hw147.1
theorem k1_off905_inb : ∀ (arg12 : BitVec 32) (k1_hw147 : k1_chk147 arg12), ∀ a, (k1_off905 arg12) a + S1x16.size a ≤ S128x128.size a := fun arg12 k1_hw147 => k1_hw147.2.1
theorem k1_off906_inb : ∀ (arg12 : BitVec 32) (k1_hw147 : k1_chk147 arg12), ∀ a, (k1_off906 arg12) a + S1x16.size a ≤ S128x128.size a := fun arg12 k1_hw147 => k1_hw147.2.2.1
theorem k1_off907_inb : ∀ (arg12 : BitVec 32) (k1_hw147 : k1_chk147 arg12), ∀ a, (k1_off907 arg12) a + S1x16.size a ≤ S128x128.size a := fun arg12 k1_hw147 => k1_hw147.2.2.2.1
theorem k1_off908_inb : ∀ (arg12 : BitVec 32) (k1_hw147 : k1_chk147 arg12), ∀ a, (k1_off908 arg12) a + S1x16.size a ≤ S128x128.size a := fun arg12 k1_hw147 => k1_hw147.2.2.2.2.1
theorem k1_off909_inb : ∀ (arg12 : BitVec 32) (k1_hw147 : k1_chk147 arg12), ∀ a, (k1_off909 arg12) a + S1x16.size a ≤ S128x128.size a := fun arg12 k1_hw147 => k1_hw147.2.2.2.2.2.1
theorem k1_off910_inb : ∀ (arg12 : BitVec 32) (k1_hw147 : k1_chk147 arg12), ∀ a, (k1_off910 arg12) a + S1x16.size a ≤ S128x128.size a := fun arg12 k1_hw147 => k1_hw147.2.2.2.2.2.2.1
theorem k1_off911_inb : ∀ (arg12 : BitVec 32) (k1_hw147 : k1_chk147 arg12), ∀ a, (k1_off911 arg12) a + S1x16.size a ≤ S128x128.size a := fun arg12 k1_hw147 => k1_hw147.2.2.2.2.2.2.2

@[reducible] def k1_t113_loop (i : grid1.Coords) (k1_t110 : Fin k1_t110_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let c1_i32_530 : BitVec 32 := 1#32
  ⟨c0_i32_528, v550, c1_i32_530⟩

def k1_off912 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off913 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off914 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off915 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off916 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off917 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off918 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off919 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk149 (arg12 : BitVec 32) : Prop :=
  (∀ a, (k1_off912 arg12) a + S1x16.size a ≤ S128x128.size a) ∧
  (∀ a, (k1_off913 arg12) a + S1x16.size a ≤ S128x128.size a) ∧
  (∀ a, (k1_off914 arg12) a + S1x16.size a ≤ S128x128.size a) ∧
  (∀ a, (k1_off915 arg12) a + S1x16.size a ≤ S128x128.size a) ∧
  (∀ a, (k1_off916 arg12) a + S1x16.size a ≤ S128x128.size a) ∧
  (∀ a, (k1_off917 arg12) a + S1x16.size a ≤ S128x128.size a) ∧
  (∀ a, (k1_off918 arg12) a + S1x16.size a ≤ S128x128.size a) ∧
  (∀ a, (k1_off919 arg12) a + S1x16.size a ≤ S128x128.size a)
theorem k1_off912_inb : ∀ (arg12 : BitVec 32) (k1_hw149 : k1_chk149 arg12), ∀ a, (k1_off912 arg12) a + S1x16.size a ≤ S128x128.size a := fun arg12 k1_hw149 => k1_hw149.1
theorem k1_off913_inb : ∀ (arg12 : BitVec 32) (k1_hw149 : k1_chk149 arg12), ∀ a, (k1_off913 arg12) a + S1x16.size a ≤ S128x128.size a := fun arg12 k1_hw149 => k1_hw149.2.1
theorem k1_off914_inb : ∀ (arg12 : BitVec 32) (k1_hw149 : k1_chk149 arg12), ∀ a, (k1_off914 arg12) a + S1x16.size a ≤ S128x128.size a := fun arg12 k1_hw149 => k1_hw149.2.2.1
theorem k1_off915_inb : ∀ (arg12 : BitVec 32) (k1_hw149 : k1_chk149 arg12), ∀ a, (k1_off915 arg12) a + S1x16.size a ≤ S128x128.size a := fun arg12 k1_hw149 => k1_hw149.2.2.2.1
theorem k1_off916_inb : ∀ (arg12 : BitVec 32) (k1_hw149 : k1_chk149 arg12), ∀ a, (k1_off916 arg12) a + S1x16.size a ≤ S128x128.size a := fun arg12 k1_hw149 => k1_hw149.2.2.2.2.1
theorem k1_off917_inb : ∀ (arg12 : BitVec 32) (k1_hw149 : k1_chk149 arg12), ∀ a, (k1_off917 arg12) a + S1x16.size a ≤ S128x128.size a := fun arg12 k1_hw149 => k1_hw149.2.2.2.2.2.1
theorem k1_off918_inb : ∀ (arg12 : BitVec 32) (k1_hw149 : k1_chk149 arg12), ∀ a, (k1_off918 arg12) a + S1x16.size a ≤ S128x128.size a := fun arg12 k1_hw149 => k1_hw149.2.2.2.2.2.2.1
theorem k1_off919_inb : ∀ (arg12 : BitVec 32) (k1_hw149 : k1_chk149 arg12), ∀ a, (k1_off919 arg12) a + S1x16.size a ≤ S128x128.size a := fun arg12 k1_hw149 => k1_hw149.2.2.2.2.2.2.2

@[reducible] def k1_t114_loop (i : grid1.Coords) (k1_t110 : Fin k1_t110_loop.trips) (v540 : BitVec 32) : Scf.Loop 32 :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_521 : BitVec 32 := 0#32
  let v541 : BitVec 32 := Scalar.select v474 v540 c0_i32_521
  let c0_i32_522 : BitVec 32 := 0#32
  let v542 : BitVec 32 := Scalar.subi v541 c0_i32_522
  let c1_i32_523 : BitVec 32 := 1#32
  let c1_i32_524 : BitVec 32 := 1#32
  let v543 : BitVec 32 := Scalar.subi c1_i32_523 c1_i32_524
  let v544 : BitVec 32 := Scalar.addi v542 v543
  let c1_i32_525 : BitVec 32 := 1#32
  let v545 : BitVec 32 := Scalar.divsi v544 c1_i32_525
  let v546 : BitVec 32 := Scalar.subi v545 c0_i32_528
  let c1_i32_529 : BitVec 32 := 1#32
  let v548 : BitVec 32 := Scalar.divsi v546 c1_i32_529
  let v549 : BitVec 32 := Scalar.muli v548 c1_i32_529
  let v550 : BitVec 32 := Scalar.addi c0_i32_528 v549
  let v547 : BitVec 32 := Scalar.addi c0_i32_528 v546
  let c1_i32_531 : BitVec 32 := 1#32
  ⟨v550, v547, c1_i32_531⟩

def k1_chk148 (i : grid1.Coords) (k1_t110 : Fin k1_t110_loop.trips) (v540 : BitVec 32) : Prop :=
  ((k1_t113_loop i k1_t110 v540).OK) ∧
  ((k1_t114_loop i k1_t110 v540).OK)
theorem k1_t113_ok : ∀ (i : grid1.Coords) (k1_t110 : Fin k1_t110_loop.trips) (v540 : BitVec 32) (k1_hw148 : k1_chk148 i k1_t110 v540), (k1_t113_loop i k1_t110 v540).OK := fun i k1_t110 v540 k1_hw148 => k1_hw148.1
theorem k1_t114_ok : ∀ (i : grid1.Coords) (k1_t110 : Fin k1_t110_loop.trips) (v540 : BitVec 32) (k1_hw148 : k1_chk148 i k1_t110 v540), (k1_t114_loop i k1_t110 v540).OK := fun i k1_t110 v540 k1_hw148 => k1_hw148.2

def k1_off920 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v619 : Index := Scalar.indexCast v618
  let c0_573 : Index := 0#32
  ![v619.toNat, 0]

def k1_off921 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v627 : Index := Scalar.indexCast v618
  let c16_575 : Index := 16#32
  ![v627.toNat, 16]
def k1_off922 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v635 : Index := Scalar.indexCast v618
  let c32_577 : Index := 32#32
  ![v635.toNat, 32]
def k1_off923 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v643 : Index := Scalar.indexCast v618
  let c48_579 : Index := 48#32
  ![v643.toNat, 48]
def k1_off924 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v651 : Index := Scalar.indexCast v618
  let c64_581 : Index := 64#32
  ![v651.toNat, 64]
def k1_off925 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v659 : Index := Scalar.indexCast v618
  let c80_583 : Index := 80#32
  ![v659.toNat, 80]
def k1_off926 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v667 : Index := Scalar.indexCast v618
  let c96_585 : Index := 96#32
  ![v667.toNat, 96]
def k1_off927 (arg12 : BitVec 32) : Fin 2 → Nat :=
  let c32_i32 : BitVec 32 := 32#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c32_i32 v617
  let v675 : Index := Scalar.indexCast v618
  let c112_587 : Index := 112#32
  ![v675.toNat, 112]

def k1_chk150 (arg12 : BitVec 32) : Prop :=
  (∀ a, (k1_off920 arg12) a + S1x16.size a ≤ S128x128.size a) ∧
  (∀ a, (k1_off921 arg12) a + S1x16.size a ≤ S128x128.size a) ∧
  (∀ a, (k1_off922 arg12) a + S1x16.size a ≤ S128x128.size a) ∧
  (∀ a, (k1_off923 arg12) a + S1x16.size a ≤ S128x128.size a) ∧
  (∀ a, (k1_off924 arg12) a + S1x16.size a ≤ S128x128.size a) ∧
  (∀ a, (k1_off925 arg12) a + S1x16.size a ≤ S128x128.size a) ∧
  (∀ a, (k1_off926 arg12) a + S1x16.size a ≤ S128x128.size a) ∧
  (∀ a, (k1_off927 arg12) a + S1x16.size a ≤ S128x128.size a)
theorem k1_off920_inb : ∀ (arg12 : BitVec 32) (k1_hw150 : k1_chk150 arg12), ∀ a, (k1_off920 arg12) a + S1x16.size a ≤ S128x128.size a := fun arg12 k1_hw150 => k1_hw150.1
theorem k1_off921_inb : ∀ (arg12 : BitVec 32) (k1_hw150 : k1_chk150 arg12), ∀ a, (k1_off921 arg12) a + S1x16.size a ≤ S128x128.size a := fun arg12 k1_hw150 => k1_hw150.2.1
theorem k1_off922_inb : ∀ (arg12 : BitVec 32) (k1_hw150 : k1_chk150 arg12), ∀ a, (k1_off922 arg12) a + S1x16.size a ≤ S128x128.size a := fun arg12 k1_hw150 => k1_hw150.2.2.1
theorem k1_off923_inb : ∀ (arg12 : BitVec 32) (k1_hw150 : k1_chk150 arg12), ∀ a, (k1_off923 arg12) a + S1x16.size a ≤ S128x128.size a := fun arg12 k1_hw150 => k1_hw150.2.2.2.1
theorem k1_off924_inb : ∀ (arg12 : BitVec 32) (k1_hw150 : k1_chk150 arg12), ∀ a, (k1_off924 arg12) a + S1x16.size a ≤ S128x128.size a := fun arg12 k1_hw150 => k1_hw150.2.2.2.2.1
theorem k1_off925_inb : ∀ (arg12 : BitVec 32) (k1_hw150 : k1_chk150 arg12), ∀ a, (k1_off925 arg12) a + S1x16.size a ≤ S128x128.size a := fun arg12 k1_hw150 => k1_hw150.2.2.2.2.2.1
theorem k1_off926_inb : ∀ (arg12 : BitVec 32) (k1_hw150 : k1_chk150 arg12), ∀ a, (k1_off926 arg12) a + S1x16.size a ≤ S128x128.size a := fun arg12 k1_hw150 => k1_hw150.2.2.2.2.2.2.1
theorem k1_off927_inb : ∀ (arg12 : BitVec 32) (k1_hw150 : k1_chk150 arg12), ∀ a, (k1_off927 arg12) a + S1x16.size a ≤ S128x128.size a := fun arg12 k1_hw150 => k1_hw150.2.2.2.2.2.2.2

@[reducible] def k1_t115_loop (i : grid1.Coords) (k1_t110 : Fin k1_t110_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let c1_i32_543 : BitVec 32 := 1#32
  ⟨c0_i32_541, v571, c1_i32_543⟩

def k1_off928 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off929 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off930 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off931 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off932 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off933 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off934 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off935 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk152 (arg12 : BitVec 32) : Prop :=
  (∀ a, (k1_off928 arg12) a + S1x16.size a ≤ S128x128.size a) ∧
  (∀ a, (k1_off929 arg12) a + S1x16.size a ≤ S128x128.size a) ∧
  (∀ a, (k1_off930 arg12) a + S1x16.size a ≤ S128x128.size a) ∧
  (∀ a, (k1_off931 arg12) a + S1x16.size a ≤ S128x128.size a) ∧
  (∀ a, (k1_off932 arg12) a + S1x16.size a ≤ S128x128.size a) ∧
  (∀ a, (k1_off933 arg12) a + S1x16.size a ≤ S128x128.size a) ∧
  (∀ a, (k1_off934 arg12) a + S1x16.size a ≤ S128x128.size a) ∧
  (∀ a, (k1_off935 arg12) a + S1x16.size a ≤ S128x128.size a)
theorem k1_off928_inb : ∀ (arg12 : BitVec 32) (k1_hw152 : k1_chk152 arg12), ∀ a, (k1_off928 arg12) a + S1x16.size a ≤ S128x128.size a := fun arg12 k1_hw152 => k1_hw152.1
theorem k1_off929_inb : ∀ (arg12 : BitVec 32) (k1_hw152 : k1_chk152 arg12), ∀ a, (k1_off929 arg12) a + S1x16.size a ≤ S128x128.size a := fun arg12 k1_hw152 => k1_hw152.2.1
theorem k1_off930_inb : ∀ (arg12 : BitVec 32) (k1_hw152 : k1_chk152 arg12), ∀ a, (k1_off930 arg12) a + S1x16.size a ≤ S128x128.size a := fun arg12 k1_hw152 => k1_hw152.2.2.1
theorem k1_off931_inb : ∀ (arg12 : BitVec 32) (k1_hw152 : k1_chk152 arg12), ∀ a, (k1_off931 arg12) a + S1x16.size a ≤ S128x128.size a := fun arg12 k1_hw152 => k1_hw152.2.2.2.1
theorem k1_off932_inb : ∀ (arg12 : BitVec 32) (k1_hw152 : k1_chk152 arg12), ∀ a, (k1_off932 arg12) a + S1x16.size a ≤ S128x128.size a := fun arg12 k1_hw152 => k1_hw152.2.2.2.2.1
theorem k1_off933_inb : ∀ (arg12 : BitVec 32) (k1_hw152 : k1_chk152 arg12), ∀ a, (k1_off933 arg12) a + S1x16.size a ≤ S128x128.size a := fun arg12 k1_hw152 => k1_hw152.2.2.2.2.2.1
theorem k1_off934_inb : ∀ (arg12 : BitVec 32) (k1_hw152 : k1_chk152 arg12), ∀ a, (k1_off934 arg12) a + S1x16.size a ≤ S128x128.size a := fun arg12 k1_hw152 => k1_hw152.2.2.2.2.2.2.1
theorem k1_off935_inb : ∀ (arg12 : BitVec 32) (k1_hw152 : k1_chk152 arg12), ∀ a, (k1_off935 arg12) a + S1x16.size a ≤ S128x128.size a := fun arg12 k1_hw152 => k1_hw152.2.2.2.2.2.2.2

@[reducible] def k1_t116_loop (i : grid1.Coords) (k1_t110 : Fin k1_t110_loop.trips) (v561 : BitVec 32) : Scf.Loop 32 :=
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_534 : BitVec 32 := 0#32
  let v562 : BitVec 32 := Scalar.select v474 v561 c0_i32_534
  let c0_i32_535 : BitVec 32 := 0#32
  let v563 : BitVec 32 := Scalar.subi v562 c0_i32_535
  let c1_i32_536 : BitVec 32 := 1#32
  let c1_i32_537 : BitVec 32 := 1#32
  let v564 : BitVec 32 := Scalar.subi c1_i32_536 c1_i32_537
  let v565 : BitVec 32 := Scalar.addi v563 v564
  let c1_i32_538 : BitVec 32 := 1#32
  let v566 : BitVec 32 := Scalar.divsi v565 c1_i32_538
  let v567 : BitVec 32 := Scalar.subi v566 c0_i32_541
  let c1_i32_542 : BitVec 32 := 1#32
  let v569 : BitVec 32 := Scalar.divsi v567 c1_i32_542
  let v570 : BitVec 32 := Scalar.muli v569 c1_i32_542
  let v571 : BitVec 32 := Scalar.addi c0_i32_541 v570
  let v568 : BitVec 32 := Scalar.addi c0_i32_541 v567
  let c1_i32_544 : BitVec 32 := 1#32
  ⟨v571, v568, c1_i32_544⟩

def k1_chk151 (i : grid1.Coords) (k1_t110 : Fin k1_t110_loop.trips) (v561 : BitVec 32) : Prop :=
  ((k1_t115_loop i k1_t110 v561).OK) ∧
  ((k1_t116_loop i k1_t110 v561).OK)
theorem k1_t115_ok : ∀ (i : grid1.Coords) (k1_t110 : Fin k1_t110_loop.trips) (v561 : BitVec 32) (k1_hw151 : k1_chk151 i k1_t110 v561), (k1_t115_loop i k1_t110 v561).OK := fun i k1_t110 v561 k1_hw151 => k1_hw151.1
theorem k1_t116_ok : ∀ (i : grid1.Coords) (k1_t110 : Fin k1_t110_loop.trips) (v561 : BitVec 32) (k1_hw151 : k1_chk151 i k1_t110 v561), (k1_t116_loop i k1_t110 v561).OK := fun i k1_t110 v561 k1_hw151 => k1_hw151.2

def k1_off936 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v619 : Index := Scalar.indexCast v618
  let c0_573 : Index := 0#32
  ![v619.toNat, 0]

def k1_off937 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v627 : Index := Scalar.indexCast v618
  let c16_575 : Index := 16#32
  ![v627.toNat, 16]
def k1_off938 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v635 : Index := Scalar.indexCast v618
  let c32_577 : Index := 32#32
  ![v635.toNat, 32]
def k1_off939 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v643 : Index := Scalar.indexCast v618
  let c48_579 : Index := 48#32
  ![v643.toNat, 48]
def k1_off940 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v651 : Index := Scalar.indexCast v618
  let c64_581 : Index := 64#32
  ![v651.toNat, 64]
def k1_off941 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v659 : Index := Scalar.indexCast v618
  let c80_583 : Index := 80#32
  ![v659.toNat, 80]
def k1_off942 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v667 : Index := Scalar.indexCast v618
  let c96_585 : Index := 96#32
  ![v667.toNat, 96]
def k1_off943 (arg12 : BitVec 32) : Fin 2 → Nat :=
  let c64_i32 : BitVec 32 := 64#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c64_i32 v617
  let v675 : Index := Scalar.indexCast v618
  let c112_587 : Index := 112#32
  ![v675.toNat, 112]

def k1_chk153 (arg12 : BitVec 32) : Prop :=
  (∀ a, (k1_off936 arg12) a + S1x16.size a ≤ S128x128.size a) ∧
  (∀ a, (k1_off937 arg12) a + S1x16.size a ≤ S128x128.size a) ∧
  (∀ a, (k1_off938 arg12) a + S1x16.size a ≤ S128x128.size a) ∧
  (∀ a, (k1_off939 arg12) a + S1x16.size a ≤ S128x128.size a) ∧
  (∀ a, (k1_off940 arg12) a + S1x16.size a ≤ S128x128.size a) ∧
  (∀ a, (k1_off941 arg12) a + S1x16.size a ≤ S128x128.size a) ∧
  (∀ a, (k1_off942 arg12) a + S1x16.size a ≤ S128x128.size a) ∧
  (∀ a, (k1_off943 arg12) a + S1x16.size a ≤ S128x128.size a)
theorem k1_off936_inb : ∀ (arg12 : BitVec 32) (k1_hw153 : k1_chk153 arg12), ∀ a, (k1_off936 arg12) a + S1x16.size a ≤ S128x128.size a := fun arg12 k1_hw153 => k1_hw153.1
theorem k1_off937_inb : ∀ (arg12 : BitVec 32) (k1_hw153 : k1_chk153 arg12), ∀ a, (k1_off937 arg12) a + S1x16.size a ≤ S128x128.size a := fun arg12 k1_hw153 => k1_hw153.2.1
theorem k1_off938_inb : ∀ (arg12 : BitVec 32) (k1_hw153 : k1_chk153 arg12), ∀ a, (k1_off938 arg12) a + S1x16.size a ≤ S128x128.size a := fun arg12 k1_hw153 => k1_hw153.2.2.1
theorem k1_off939_inb : ∀ (arg12 : BitVec 32) (k1_hw153 : k1_chk153 arg12), ∀ a, (k1_off939 arg12) a + S1x16.size a ≤ S128x128.size a := fun arg12 k1_hw153 => k1_hw153.2.2.2.1
theorem k1_off940_inb : ∀ (arg12 : BitVec 32) (k1_hw153 : k1_chk153 arg12), ∀ a, (k1_off940 arg12) a + S1x16.size a ≤ S128x128.size a := fun arg12 k1_hw153 => k1_hw153.2.2.2.2.1
theorem k1_off941_inb : ∀ (arg12 : BitVec 32) (k1_hw153 : k1_chk153 arg12), ∀ a, (k1_off941 arg12) a + S1x16.size a ≤ S128x128.size a := fun arg12 k1_hw153 => k1_hw153.2.2.2.2.2.1
theorem k1_off942_inb : ∀ (arg12 : BitVec 32) (k1_hw153 : k1_chk153 arg12), ∀ a, (k1_off942 arg12) a + S1x16.size a ≤ S128x128.size a := fun arg12 k1_hw153 => k1_hw153.2.2.2.2.2.2.1
theorem k1_off943_inb : ∀ (arg12 : BitVec 32) (k1_hw153 : k1_chk153 arg12), ∀ a, (k1_off943 arg12) a + S1x16.size a ≤ S128x128.size a := fun arg12 k1_hw153 => k1_hw153.2.2.2.2.2.2.2

@[reducible] def k1_t117_loop (i : grid1.Coords) (k1_t110 : Fin k1_t110_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let c1_i32_556 : BitVec 32 := 1#32
  ⟨c0_i32_554, v592, c1_i32_556⟩

def k1_off944 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off945 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off946 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off947 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off948 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off949 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off950 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off951 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk155 (arg12 : BitVec 32) : Prop :=
  (∀ a, (k1_off944 arg12) a + S1x16.size a ≤ S128x128.size a) ∧
  (∀ a, (k1_off945 arg12) a + S1x16.size a ≤ S128x128.size a) ∧
  (∀ a, (k1_off946 arg12) a + S1x16.size a ≤ S128x128.size a) ∧
  (∀ a, (k1_off947 arg12) a + S1x16.size a ≤ S128x128.size a) ∧
  (∀ a, (k1_off948 arg12) a + S1x16.size a ≤ S128x128.size a) ∧
  (∀ a, (k1_off949 arg12) a + S1x16.size a ≤ S128x128.size a) ∧
  (∀ a, (k1_off950 arg12) a + S1x16.size a ≤ S128x128.size a) ∧
  (∀ a, (k1_off951 arg12) a + S1x16.size a ≤ S128x128.size a)
theorem k1_off944_inb : ∀ (arg12 : BitVec 32) (k1_hw155 : k1_chk155 arg12), ∀ a, (k1_off944 arg12) a + S1x16.size a ≤ S128x128.size a := fun arg12 k1_hw155 => k1_hw155.1
theorem k1_off945_inb : ∀ (arg12 : BitVec 32) (k1_hw155 : k1_chk155 arg12), ∀ a, (k1_off945 arg12) a + S1x16.size a ≤ S128x128.size a := fun arg12 k1_hw155 => k1_hw155.2.1
theorem k1_off946_inb : ∀ (arg12 : BitVec 32) (k1_hw155 : k1_chk155 arg12), ∀ a, (k1_off946 arg12) a + S1x16.size a ≤ S128x128.size a := fun arg12 k1_hw155 => k1_hw155.2.2.1
theorem k1_off947_inb : ∀ (arg12 : BitVec 32) (k1_hw155 : k1_chk155 arg12), ∀ a, (k1_off947 arg12) a + S1x16.size a ≤ S128x128.size a := fun arg12 k1_hw155 => k1_hw155.2.2.2.1
theorem k1_off948_inb : ∀ (arg12 : BitVec 32) (k1_hw155 : k1_chk155 arg12), ∀ a, (k1_off948 arg12) a + S1x16.size a ≤ S128x128.size a := fun arg12 k1_hw155 => k1_hw155.2.2.2.2.1
theorem k1_off949_inb : ∀ (arg12 : BitVec 32) (k1_hw155 : k1_chk155 arg12), ∀ a, (k1_off949 arg12) a + S1x16.size a ≤ S128x128.size a := fun arg12 k1_hw155 => k1_hw155.2.2.2.2.2.1
theorem k1_off950_inb : ∀ (arg12 : BitVec 32) (k1_hw155 : k1_chk155 arg12), ∀ a, (k1_off950 arg12) a + S1x16.size a ≤ S128x128.size a := fun arg12 k1_hw155 => k1_hw155.2.2.2.2.2.2.1
theorem k1_off951_inb : ∀ (arg12 : BitVec 32) (k1_hw155 : k1_chk155 arg12), ∀ a, (k1_off951 arg12) a + S1x16.size a ≤ S128x128.size a := fun arg12 k1_hw155 => k1_hw155.2.2.2.2.2.2.2

@[reducible] def k1_t118_loop (i : grid1.Coords) (k1_t110 : Fin k1_t110_loop.trips) (v582 : BitVec 32) : Scf.Loop 32 :=
  let c0_i32_554 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1664_i32 : BitVec 32 := 1664#32
  let v2 : BitVec 32 := Scalar.muli v1 c1664_i32
  let c1536_i32_491 : BitVec 32 := 1536#32
  let v470 : BitVec 32 := Scalar.addi v2 c1536_i32_491
  let c0_i32_493 : BitVec 32 := 0#32
  let c1_i32_495 : BitVec 32 := 1#32
  let arg9 : BitVec 32 := Scf.iv c0_i32_493 c1_i32_495 k1_t110
  let v473 : BitVec 32 := Scalar.addi v470 arg9
  let c50000_i32 : BitVec 32 := 50000#32
  let v474 : BitVec 1 := Scalar.cmpi .slt v473 c50000_i32
  let c0_i32_547 : BitVec 32 := 0#32
  let v583 : BitVec 32 := Scalar.select v474 v582 c0_i32_547
  let c0_i32_548 : BitVec 32 := 0#32
  let v584 : BitVec 32 := Scalar.subi v583 c0_i32_548
  let c1_i32_549 : BitVec 32 := 1#32
  let c1_i32_550 : BitVec 32 := 1#32
  let v585 : BitVec 32 := Scalar.subi c1_i32_549 c1_i32_550
  let v586 : BitVec 32 := Scalar.addi v584 v585
  let c1_i32_551 : BitVec 32 := 1#32
  let v587 : BitVec 32 := Scalar.divsi v586 c1_i32_551
  let v588 : BitVec 32 := Scalar.subi v587 c0_i32_554
  let c1_i32_555 : BitVec 32 := 1#32
  let v590 : BitVec 32 := Scalar.divsi v588 c1_i32_555
  let v591 : BitVec 32 := Scalar.muli v590 c1_i32_555
  let v592 : BitVec 32 := Scalar.addi c0_i32_554 v591
  let v589 : BitVec 32 := Scalar.addi c0_i32_554 v588
  let c1_i32_557 : BitVec 32 := 1#32
  ⟨v592, v589, c1_i32_557⟩

def k1_chk154 (i : grid1.Coords) (k1_t110 : Fin k1_t110_loop.trips) (v582 : BitVec 32) : Prop :=
  ((k1_t117_loop i k1_t110 v582).OK) ∧
  ((k1_t118_loop i k1_t110 v582).OK)
theorem k1_t117_ok : ∀ (i : grid1.Coords) (k1_t110 : Fin k1_t110_loop.trips) (v582 : BitVec 32) (k1_hw154 : k1_chk154 i k1_t110 v582), (k1_t117_loop i k1_t110 v582).OK := fun i k1_t110 v582 k1_hw154 => k1_hw154.1
theorem k1_t118_ok : ∀ (i : grid1.Coords) (k1_t110 : Fin k1_t110_loop.trips) (v582 : BitVec 32) (k1_hw154 : k1_chk154 i k1_t110 v582), (k1_t118_loop i k1_t110 v582).OK := fun i k1_t110 v582 k1_hw154 => k1_hw154.2

def k1_off952 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v619 : Index := Scalar.indexCast v618
  let c0_573 : Index := 0#32
  ![v619.toNat, 0]

def k1_off953 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v627 : Index := Scalar.indexCast v618
  let c16_575 : Index := 16#32
  ![v627.toNat, 16]
def k1_off954 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v635 : Index := Scalar.indexCast v618
  let c32_577 : Index := 32#32
  ![v635.toNat, 32]
def k1_off955 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v643 : Index := Scalar.indexCast v618
  let c48_579 : Index := 48#32
  ![v643.toNat, 48]
def k1_off956 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v651 : Index := Scalar.indexCast v618
  let c64_581 : Index := 64#32
  ![v651.toNat, 64]
def k1_off957 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v659 : Index := Scalar.indexCast v618
  let c80_583 : Index := 80#32
  ![v659.toNat, 80]
def k1_off958 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v667 : Index := Scalar.indexCast v618
  let c96_585 : Index := 96#32
  ![v667.toNat, 96]
def k1_off959 (arg12 : BitVec 32) : Fin 2 → Nat :=
  let c96_i32 : BitVec 32 := 96#32
  let c0_i32_559 : BitVec 32 := 0#32
  let v597 : BitVec 32 := Scalar.subi c0_i32_559 arg12
  let v598 : BitVec 32 := Scalar.andi arg12 v597
  let c_m65536_i32 : BitVec 32 := 4294901760#32
  let v599 : BitVec 32 := Scalar.andi v598 c_m65536_i32
  let c0_i32_560 : BitVec 32 := 0#32
  let v600 : BitVec 1 := Scalar.cmpi .ne v599 c0_i32_560
  let c16_i32_561 : BitVec 32 := 16#32
  let c0_i32_562 : BitVec 32 := 0#32
  let v601 : BitVec 32 := Scalar.select v600 c16_i32_561 c0_i32_562
  let c_m16711936_i32 : BitVec 32 := 4278255360#32
  let v602 : BitVec 32 := Scalar.andi v598 c_m16711936_i32
  let c0_i32_563 : BitVec 32 := 0#32
  let v603 : BitVec 1 := Scalar.cmpi .ne v602 c0_i32_563
  let c8_i32 : BitVec 32 := 8#32
  let c0_i32_564 : BitVec 32 := 0#32
  let v604 : BitVec 32 := Scalar.select v603 c8_i32 c0_i32_564
  let v605 : BitVec 32 := Scalar.ori v601 v604
  let c_m252645136_i32 : BitVec 32 := 4042322160#32
  let v606 : BitVec 32 := Scalar.andi v598 c_m252645136_i32
  let c0_i32_565 : BitVec 32 := 0#32
  let v607 : BitVec 1 := Scalar.cmpi .ne v606 c0_i32_565
  let c4_i32 : BitVec 32 := 4#32
  let c0_i32_566 : BitVec 32 := 0#32
  let v608 : BitVec 32 := Scalar.select v607 c4_i32 c0_i32_566
  let v609 : BitVec 32 := Scalar.ori v605 v608
  let c_m858993460_i32 : BitVec 32 := 3435973836#32
  let v610 : BitVec 32 := Scalar.andi v598 c_m858993460_i32
  let c0_i32_567 : BitVec 32 := 0#32
  let v611 : BitVec 1 := Scalar.cmpi .ne v610 c0_i32_567
  let c2_i32_568 : BitVec 32 := 2#32
  let c0_i32_569 : BitVec 32 := 0#32
  let v612 : BitVec 32 := Scalar.select v611 c2_i32_568 c0_i32_569
  let v613 : BitVec 32 := Scalar.ori v609 v612
  let c_m1431655766_i32 : BitVec 32 := 2863311530#32
  let v614 : BitVec 32 := Scalar.andi v598 c_m1431655766_i32
  let c0_i32_570 : BitVec 32 := 0#32
  let v615 : BitVec 1 := Scalar.cmpi .ne v614 c0_i32_570
  let c1_i32_571 : BitVec 32 := 1#32
  let c0_i32_572 : BitVec 32 := 0#32
  let v616 : BitVec 32 := Scalar.select v615 c1_i32_571 c0_i32_572
  let v617 : BitVec 32 := Scalar.ori v613 v616
  let v618 : BitVec 32 := Scalar.addi c96_i32 v617
  let v675 : Index := Scalar.indexCast v618
  let c112_587 : Index := 112#32
  ![v675.toNat, 112]

def k1_chk156 (arg12 : BitVec 32) : Prop :=
  (∀ a, (k1_off952 arg12) a + S1x16.size a ≤ S128x128.size a) ∧
  (∀ a, (k1_off953 arg12) a + S1x16.size a ≤ S128x128.size a) ∧
  (∀ a, (k1_off954 arg12) a + S1x16.size a ≤ S128x128.size a) ∧
  (∀ a, (k1_off955 arg12) a + S1x16.size a ≤ S128x128.size a) ∧
  (∀ a, (k1_off956 arg12) a + S1x16.size a ≤ S128x128.size a) ∧
  (∀ a, (k1_off957 arg12) a + S1x16.size a ≤ S128x128.size a) ∧
  (∀ a, (k1_off958 arg12) a + S1x16.size a ≤ S128x128.size a) ∧
  (∀ a, (k1_off959 arg12) a + S1x16.size a ≤ S128x128.size a)
theorem k1_off952_inb : ∀ (arg12 : BitVec 32) (k1_hw156 : k1_chk156 arg12), ∀ a, (k1_off952 arg12) a + S1x16.size a ≤ S128x128.size a := fun arg12 k1_hw156 => k1_hw156.1
theorem k1_off953_inb : ∀ (arg12 : BitVec 32) (k1_hw156 : k1_chk156 arg12), ∀ a, (k1_off953 arg12) a + S1x16.size a ≤ S128x128.size a := fun arg12 k1_hw156 => k1_hw156.2.1
theorem k1_off954_inb : ∀ (arg12 : BitVec 32) (k1_hw156 : k1_chk156 arg12), ∀ a, (k1_off954 arg12) a + S1x16.size a ≤ S128x128.size a := fun arg12 k1_hw156 => k1_hw156.2.2.1
theorem k1_off955_inb : ∀ (arg12 : BitVec 32) (k1_hw156 : k1_chk156 arg12), ∀ a, (k1_off955 arg12) a + S1x16.size a ≤ S128x128.size a := fun arg12 k1_hw156 => k1_hw156.2.2.2.1
theorem k1_off956_inb : ∀ (arg12 : BitVec 32) (k1_hw156 : k1_chk156 arg12), ∀ a, (k1_off956 arg12) a + S1x16.size a ≤ S128x128.size a := fun arg12 k1_hw156 => k1_hw156.2.2.2.2.1
theorem k1_off957_inb : ∀ (arg12 : BitVec 32) (k1_hw156 : k1_chk156 arg12), ∀ a, (k1_off957 arg12) a + S1x16.size a ≤ S128x128.size a := fun arg12 k1_hw156 => k1_hw156.2.2.2.2.2.1
theorem k1_off958_inb : ∀ (arg12 : BitVec 32) (k1_hw156 : k1_chk156 arg12), ∀ a, (k1_off958 arg12) a + S1x16.size a ≤ S128x128.size a := fun arg12 k1_hw156 => k1_hw156.2.2.2.2.2.2.1
theorem k1_off959_inb : ∀ (arg12 : BitVec 32) (k1_hw156 : k1_chk156 arg12), ∀ a, (k1_off959 arg12) a + S1x16.size a ≤ S128x128.size a := fun arg12 k1_hw156 => k1_hw156.2.2.2.2.2.2.2

def k1_off960 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_497_r0 : BitVec 32 := 0#32
  let c0_i32_498_r0 : BitVec 32 := 0#32
  ![v1.toNat, 0, 0]
abbrev grid2 : Pipeline.Grid := .none

abbrev stage2_0 : Fin 1 → Memref sig .tc .vmem S32x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x128 : Shape := ⟨2, ![50000, 128]⟩
abbrev S50000x3 : Shape := ⟨2, ![50000, 3]⟩
abbrev S3 : Shape := ⟨1, ![3]⟩
abbrev S64x3 : Shape := ⟨2, ![64, 3]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x3 : Shape := ⟨2, ![1, 3]⟩
abbrev S50000x256 : Shape := ⟨2, ![50000, 256]⟩
abbrev S1x128 : Shape := ⟨2, ![1, 128]⟩
abbrev S_ : Shape := ⟨0, ![]⟩
abbrev S50000x1 : Shape := ⟨2, ![50000, 1]⟩
abbrev S1x1 : Shape := ⟨2, ![1, 1]⟩
abbrev S50000 : Shape := ⟨1, ![50000]⟩
abbrev S1x50000 : Shape := ⟨2, ![1, 50000]⟩
abbrev S64x1 : Shape := ⟨2, ![64, 1]⟩
abbrev S64 : Shape := ⟨1, ![64]⟩
abbrev S64x50000 : Shape := ⟨2, ![64, 50000]⟩
abbrev S1x50000x3 : Shape := ⟨3, ![1, 50000, 3]⟩
abbrev S64x1x3 : Shape := ⟨3, ![64, 1, 3]⟩
abbrev S64x50000x3 : Shape := ⟨3, ![64, 50000, 3]⟩
abbrev S64x50000x1 : Shape := ⟨3, ![64, 50000, 1]⟩
abbrev S1x50000x128 : Shape := ⟨3, ![1, 50000, 128]⟩
abbrev S64x50000x128 : Shape := ⟨3, ![64, 50000, 128]⟩
abbrev S64x128 : Shape := ⟨2, ![64, 128]⟩
abbrev S3200000 : Shape := ⟨1, ![3200000]⟩
abbrev S8192 : Shape := ⟨1, ![8192]⟩
abbrev S3216384 : Shape := ⟨1, ![3216384]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S50000x128, .f32⟩
  | 2 => ⟨S50000x3, .f32⟩
  | 3 => ⟨S3, .f32⟩
  | 4 => ⟨S64x3, .f32⟩
  | 5 => ⟨S64x3, .f32⟩
  | 6 => ⟨S64x3, .f32⟩
  | 7 => ⟨S64x3, .f32⟩
  | 8 => ⟨S256x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x3, .f32⟩
  | 15 => ⟨S50000x3, .f32⟩
  | 16 => ⟨S50000x3, .f32⟩
  | 17 => ⟨S50000x256, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x1, .f32⟩
  | 33 => ⟨S1x1, .f32⟩
  | 34 => ⟨S50000x1, .f32⟩
  | 35 => ⟨S50000x1, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000, .f32⟩
  | 47 => ⟨S1x50000, .f32⟩
  | 48 => ⟨S64x1, .f32⟩
  | 49 => ⟨S64, .f32⟩
  | 50 => ⟨S64x1, .f32⟩
  | 51 => ⟨S64x50000, .f32⟩
  | 52 => ⟨S64x50000, .f32⟩
  | 53 => ⟨S64x50000, .i1⟩
  | 54 => ⟨S50000x1, .f32⟩
  | 55 => ⟨S50000, .f32⟩
  | 56 => ⟨S1x50000, .f32⟩
  | 57 => ⟨S64x1, .f32⟩
  | 58 => ⟨S64, .f32⟩
  | 59 => ⟨S64x1, .f32⟩
  | 60 => ⟨S64x50000, .f32⟩
  | 61 => ⟨S64x50000, .f32⟩
  | 62 => ⟨S64x50000, .i1⟩
  | 63 => ⟨S64x50000, .i1⟩
  | 64 => ⟨S50000x1, .f32⟩
  | 65 => ⟨S50000, .f32⟩
  | 66 => ⟨S1x50000, .f32⟩
  | 67 => ⟨S64x1, .f32⟩
  | 68 => ⟨S64, .f32⟩
  | 69 => ⟨S64x1, .f32⟩
  | 70 => ⟨S64x50000, .f32⟩
  | 71 => ⟨S64x50000, .f32⟩
  | 72 => ⟨S64x50000, .i1⟩
  | 73 => ⟨S64x50000, .i1⟩
  | 74 => ⟨S50000x1, .f32⟩
  | 75 => ⟨S50000, .f32⟩
  | 76 => ⟨S1x50000, .f32⟩
  | 77 => ⟨S64x1, .f32⟩
  | 78 => ⟨S64, .f32⟩
  | 79 => ⟨S64x1, .f32⟩
  | 80 => ⟨S64x50000, .f32⟩
  | 81 => ⟨S64x50000, .f32⟩
  | 82 => ⟨S64x50000, .i1⟩
  | 83 => ⟨S64x50000, .i1⟩
  | 84 => ⟨S1x50000x3, .f32⟩
  | 85 => ⟨S64x1x3, .f32⟩
  | 86 => ⟨S64x50000x3, .f32⟩
  | 87 => ⟨S64x50000x3, .f32⟩
  | 88 => ⟨S64x50000x3, .f32⟩
  | 89 => ⟨S64x50000, .f32⟩
  | 90 => ⟨S64x50000, .f32⟩
  | 91 => ⟨S_, .f32⟩
  | 92 => ⟨S64x50000, .f32⟩
  | 93 => ⟨S64x50000, .i1⟩
  | 94 => ⟨S64x50000, .i1⟩
  | 95 => ⟨S1x50000, .f32⟩
  | 96 => ⟨S_, .f32⟩
  | 97 => ⟨S_, .f32⟩
  | 98 => ⟨S64x50000, .f32⟩
  | 99 => ⟨S64x50000, .f32⟩
  | 100 => ⟨S64x50000, .f32⟩
  | 101 => ⟨S1x50000, .f32⟩
  | 102 => ⟨S_, .f32⟩
  | 103 => ⟨S1x50000, .f32⟩
  | 104 => ⟨S1x50000, .i1⟩
  | 105 => ⟨S64x50000, .i1⟩
  | 106 => ⟨S64x50000, .i1⟩
  | 107 => ⟨S1x50000, .f32⟩
  | 108 => ⟨S_, .f32⟩
  | 109 => ⟨S1x50000, .f32⟩
  | 110 => ⟨S1x50000, .i1⟩
  | 111 => ⟨S64x50000, .i1⟩
  | 112 => ⟨S64x50000, .i1⟩
  | 113 => ⟨S64x50000x1, .i1⟩
  | 114 => ⟨S1x50000x128, .f32⟩
  | 115 => ⟨S_, .f32⟩
  | 116 => ⟨S64x50000x128, .i1⟩
  | 117 => ⟨S64x50000x128, .f32⟩
  | 118 => ⟨S64x50000x128, .f32⟩
  | 119 => ⟨S64x50000x128, .f32⟩
  | 120 => ⟨S_, .f32⟩
  | 121 => ⟨S64x128, .f32⟩
  | 122 => ⟨S_, .i1⟩
  | 123 => ⟨S64, .i1⟩
  | 124 => ⟨S64x1, .i1⟩
  | 125 => ⟨S_, .f32⟩
  | 126 => ⟨S64x128, .f32⟩
  | 127 => ⟨S64x128, .i1⟩
  | _ => ⟨S50000x128, .f32⟩

abbrev hbmTy0_1 (i : Nat) : BufTy := match i % 128 with
  | 0 => ⟨S64x128, .f32⟩
  | 1 => ⟨S64x50000x1, .i1⟩
  | 2 => ⟨S1x50000x128, .f32⟩
  | 3 => ⟨S_, .f32⟩
  | 4 => ⟨S64x50000x128, .i1⟩
  | 5 => ⟨S64x50000x128, .f32⟩
  | 6 => ⟨S64x50000x128, .f32⟩
  | 7 => ⟨S64x50000x128, .f32⟩
  | 8 => ⟨S_, .f32⟩
  | 9 => ⟨S64x128, .f32⟩
  | 10 => ⟨S_, .i1⟩
  | 11 => ⟨S64, .i1⟩
  | 12 => ⟨S64x1, .i1⟩
  | 13 => ⟨S_, .f32⟩
  | 14 => ⟨S64x128, .f32⟩
  | 15 => ⟨S64x128, .i1⟩
  | 16 => ⟨S64x128, .f32⟩
  | 17 => ⟨S3200000, .f32⟩
  | 18 => ⟨S8192, .f32⟩
  | 19 => ⟨S8192, .f32⟩
  | 20 => ⟨S3216384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_3 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_4 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v77 : Ref sig .tc := ⟨.hbm, 100, rfl⟩
abbrev main_v78 : Ref sig .tc := ⟨.hbm, 101, rfl⟩
abbrev main_cst_5 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_6 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_7 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v90 : Ref sig .tc := ⟨.hbm, 119, rfl⟩
abbrev main_cst_8 : Ref sig .tc := ⟨.hbm, 120, rfl⟩
abbrev main_v91 : Ref sig .tc := ⟨.hbm, 121, rfl⟩
abbrev main_c : Ref sig .tc := ⟨.hbm, 122, rfl⟩
abbrev main_v92 : Ref sig .tc := ⟨.hbm, 123, rfl⟩
abbrev main_v93 : Ref sig .tc := ⟨.hbm, 124, rfl⟩
abbrev main_cst_9 : Ref sig .tc := ⟨.hbm, 125, rfl⟩
abbrev main_v94 : Ref sig .tc := ⟨.hbm, 126, rfl⟩
abbrev main_call2_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_10 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v98 : Ref sig .tc := ⟨.hbm, 135, rfl⟩
abbrev main_cst_11 : Ref sig .tc := ⟨.hbm, 136, rfl⟩
abbrev main_v99 : Ref sig .tc := ⟨.hbm, 137, rfl⟩
abbrev main_c_12 : Ref sig .tc := ⟨.hbm, 138, rfl⟩
abbrev main_v100 : Ref sig .tc := ⟨.hbm, 139, rfl⟩
abbrev main_v101 : Ref sig .tc := ⟨.hbm, 140, rfl⟩
abbrev main_cst_13 : Ref sig .tc := ⟨.hbm, 141, rfl⟩
abbrev main_v102 : Ref sig .tc := ⟨.hbm, 142, rfl⟩
abbrev main_call4_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩

abbrev nD : Nat := 1
abbrev τ : Topo := Topo.v7x

variable {F : FTy → Type} [FloatOps F]
-- ==== Proof.Base.lean ====
/- The program as the launch theorem sees it, the resource algebra, and the memrefs a vector-subcore task is handed. -/
module

public import proofs.«01_k».proof.KernelIdeal
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.VecWindow
public import Idealize.ShloMosaic.Lib.Writes
public import Idealize.ShloMosaic.Lib.WritesUnit
public import Idealize.ShloMosaic.Lib.Transfers
public import Idealize.ShloMosaic.Lib.Pipeline.Kit
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the staging pipelines' rounds, and the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The kernel's memrefs, as the body table passes them: the rows, the words, the result, and a task's three scratches. -/
abbrev A2 : Memref sig .scVector .hbm S54000x128 .f32 := Memref.whole main_v72_1_scv
abbrev A3 : Memref sig .scVector .hbm S54000x16 .i32 := Memref.whole main_v72_2_scv
abbrev A4 : Memref sig .scVector .hbm S32x128x128 .f32 := Memref.whole main_v73_scv
abbrev A5 : Memref sig .scVector .vmem S2x128x128 .f32 := Memref.whole cc1_scratch0
abbrev A6 : Memref sig .scVector .vmem S2x128x16 .i32 := Memref.whole cc1_scratch1
abbrev A7 : Memref sig .scVector .vmem S128x128 .f32 := Memref.whole cc1_scratch2

/-- The thread of a tile. -/
abbrev thr (d : Dev nD) (i : grid1.Coords) : Thread nD τ := (d, .scVector ((i 0).castLE hcore1) ((i 1).castLE hsub1))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof
-- ==== Proof.Walk.lean ====
/- One step of a point's walk over the set bits of a word: the lowest set bit names a row of the accumulator, and that row takes the
   larger of itself and the point's row. -/
module

public import proofs.«01_k».proof.Proof.Base

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The index of the lowest set bit, as the kernel computes it -/

def lowBit (w : BitVec 32) : BitVec 32 := Scalar.andi w (Scalar.subi 0#32 w)

def maskSel (l msk v : BitVec 32) : BitVec 32 := Scalar.select (Scalar.cmpi .ne (Scalar.andi l msk) 0#32) v 0#32

def bitOf (w : BitVec 32) : BitVec 32 :=
  Scalar.ori (Scalar.ori (Scalar.ori (Scalar.ori (maskSel (lowBit w) 4294901760#32 16#32) (maskSel (lowBit w) 4278255360#32 8#32))
    (maskSel (lowBit w) 4042322160#32 4#32)) (maskSel (lowBit w) 3435973836#32 2#32)) (maskSel (lowBit w) 2863311530#32 1#32)

def walkOff (g : BitVec 32) (w : BitVec 32) (col : ℕ) : Fin 2 → ℕ := ![(Scalar.indexCast (Scalar.addi g (bitOf w))).toNat, col]

def walkChk (g w : BitVec 32) : Prop :=
  (∀ a, walkOff g w 0 a + S1x16.size a ≤ S128x128.size a) ∧ (∀ a, walkOff g w 16 a + S1x16.size a ≤ S128x128.size a) ∧
  (∀ a, walkOff g w 32 a + S1x16.size a ≤ S128x128.size a) ∧ (∀ a, walkOff g w 48 a + S1x16.size a ≤ S128x128.size a) ∧
  (∀ a, walkOff g w 64 a + S1x16.size a ≤ S128x128.size a) ∧ (∀ a, walkOff g w 80 a + S1x16.size a ≤ S128x128.size a) ∧
  (∀ a, walkOff g w 96 a + S1x16.size a ≤ S128x128.size a) ∧ (∀ a, walkOff g w 112 a + S1x16.size a ≤ S128x128.size a)

instance walkChk.dec (g w : BitVec 32) : Decidable (walkChk g w) := decidable_of_iff' _ (Iff.of_eq (walkChk.eq_1 g w))

variable (i : grid1.Coords)

abbrev TProg (α : Type) : Type 1 := Prog (TpuEff nD τ sig (Elt F) Λ₀ (.scVector ((i 0).castLE hcore1) ((i 1).castLE hsub1))) α

/-- Sixteen lanes of a row of the accumulator, raised to `v`. -/
def raise (off : Fin 2 → ℕ) (inb : ∀ a, off a + S1x16.size a ≤ S128x128.size a) (v : FVec F S16 .f32) : TProg (F := F) i PUnit := do
  let x : Vec F S1x16 .f32 ← Prog.lift (.load A7 (Rect.unit (s := S128x128) off S1x16.size inb).toLoadRect (View.loadsAt_vmem h_S1x16))
  let _ : Vec F S1x16 .f32 ← Prog.lift (.load A7 (Rect.unit (s := S128x128) off S1x16.size inb).toLoadRect (View.loadsAt_vmem h_S1x16))
  Prog.lift (.store A7 (Rect.unit (s := S128x128) off S1x16.size inb)
    (shapeCast S1x16 (maximumf (shapeCast S16 x shapeCasts_S1x16_S16) v) shapeCasts_S16_S1x16) Finset.univ (View.stores_vmem_bits_univ h_S1x16 rfl) (.inl rfl))

/-- One trip of the walk. -/
def walkBody (g : BitVec 32) (r0 r1 r2 r3 r4 r5 r6 r7 : FVec F S16 .f32) (w : BitVec 32) : TProg (F := F) i (BitVec 32) := do
  let h : PLift (walkChk g w) ← Prog.lift (TpuEff.assume (walkChk g w) (walkChk.dec g w))
  raise i (walkOff g w 0) h.down.1 r0
  raise i (walkOff g w 16) h.down.2.1 r1
  raise i (walkOff g w 32) h.down.2.2.1 r2
  raise i (walkOff g w 48) h.down.2.2.2.1 r3
  raise i (walkOff g w 64) h.down.2.2.2.2.1 r4
  raise i (walkOff g w 80) h.down.2.2.2.2.2.1 r5
  raise i (walkOff g w 96) h.down.2.2.2.2.2.2.1 r6
  raise i (walkOff g w 112) h.down.2.2.2.2.2.2.2 r7
  pure (Scalar.andi w (Scalar.subi w 1#32))

end Cert.Proof
-- ==== Proof.Point.lean ====
/- A point's part of the task: its row and its words loaded, and for each of the four groups of thirty-two planes a walk over the set bits. -/
module

public import proofs.«01_k».proof.Proof.Walk

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The loops over a word's bits: as many trips as the count says, and a remainder of none -/

abbrev cntTrips (ok : BitVec 1) (v : BitVec 32) : BitVec 32 :=
  Scalar.subi (Scalar.divsi (Scalar.addi (Scalar.subi (Scalar.select ok v 0#32) 0#32) (Scalar.subi 1#32 1#32)) 1#32) 0#32
abbrev cntMid (ok : BitVec 1) (v : BitVec 32) : BitVec 32 := Scalar.addi 0#32 (Scalar.muli (Scalar.divsi (cntTrips ok v) 1#32) 1#32)
abbrev walkLoop (ok : BitVec 1) (v : BitVec 32) : Scf.Loop 32 := ⟨0#32, cntMid ok v, 1#32⟩
abbrev restLoop (ok : BitVec 1) (v : BitVec 32) : Scf.Loop 32 := ⟨cntMid ok v, Scalar.addi 0#32 (cntTrips ok v), 1#32⟩

def cntOK (ok : BitVec 1) (v : BitVec 32) : Prop := (walkLoop ok v).OK ∧ (restLoop ok v).OK

instance cntOK.dec (ok : BitVec 1) (v : BitVec 32) : Decidable (cntOK ok v) := decidable_of_iff' _ (Iff.of_eq (cntOK.eq_1 ok v))

/-! ## A point -/

variable (i : grid1.Coords)

/-- The first point of the tile. -/
abbrev tileBase : BitVec 32 := Scalar.muli (Scalar.addi (Scalar.muli (BitVec.ofNat 32 (i 1).val) 2#32) (BitVec.ofNat 32 (i 0).val)) 1664#32

abbrev ptLoop : Scf.Loop 32 := ⟨0#32, Scalar.addi 0#32 128#32, 1#32⟩

/-- Whether point `t` of the chunk at `cs` is a point of the problem. -/
abbrev ptOK (cs : BitVec 32) (t : Fin ptLoop.trips) : BitVec 1 :=
  Scalar.cmpi .slt (Scalar.addi (Scalar.addi (tileBase i) cs) (Scf.iv 0#32 1#32 t)) 50000#32

def bufOff (b : ℕ) (t : Fin ptLoop.trips) (col : ℕ) : Fin 3 → ℕ := ![b, (Scalar.indexCast (Scf.iv 0#32 1#32 t)).toNat, col]

abbrev wordAt (k : ℕ) (v : IVec S16 32) (h : S16.Slices ![k] S1) : BitVec 32 := extractAt ![0] (extractStridedSlice S1 ![k] v h) inpos_S1_p0

abbrev joined (ok : BitVec 1) (lo hi : BitVec 32) : BitVec 32 := Scalar.select ok (Scalar.ori lo (Scalar.shli hi 16#32)) 0#32

theorem ptLoop_trips : ptLoop.trips = 128 := by decide

theorem bufOff_row (t : Fin ptLoop.trips) : (Scalar.indexCast (Scf.iv 0#32 1#32 t)).toNat = t.val := by
  have h : t.val < 128 := t.isLt.trans_eq ptLoop_trips
  show (0#32 + BitVec.ofNat 32 t.val * 1#32).toNat = t.val
  simp [Nat.mod_eq_of_lt (show t.val < 4294967296 by omega)]

theorem bufOff5_inb {b : ℕ} (hb : b < 2) (t : Fin ptLoop.trips) {col : ℕ} (hc : col + 16 ≤ 128) :
    ∀ a, bufOff b t col a + S1x1x16.size a ≤ S2x128x128.size a := by
  have h : t.val < 128 := t.isLt.trans_eq ptLoop_trips
  unfold bufOff; rw [bufOff_row]
  intro a; fin_cases a
  · show b + 1 ≤ 2; omega
  · show t.val + 1 ≤ 128; omega
  · exact hc

theorem bufOff6_inb {b : ℕ} (hb : b < 2) (t : Fin ptLoop.trips) :
    ∀ a, bufOff b t 0 a + S1x1x16.size a ≤ S2x128x16.size a := by
  have h : t.val < 128 := t.isLt.trans_eq ptLoop_trips
  unfold bufOff; rw [bufOff_row]
  intro a; fin_cases a
  · show b + 1 ≤ 2; omega
  · show t.val + 1 ≤ 128; omega
  · exact le_rfl

/-- Sixteen lanes of a point's row. -/
def lanes (b : ℕ) (hb : b < 2) (t : Fin ptLoop.trips) (col : ℕ) (hc : col + 16 ≤ 128) : TProg (F := F) i (FVec F S16 .f32) := do
  let x : Vec F S1x1x16 .f32 ← Prog.lift (.load A5 (Rect.unit (s := S2x128x128) (bufOff b t col) S1x1x16.size (bufOff5_inb hb t hc)).toLoadRect (View.loadsAt_vmem h_S1x1x16))
  pure (shapeCast S16 x shapeCasts_S1x1x16_S16)

section Parts
variable (cs : BitVec 32) (t : Fin ptLoop.trips) (r0 r1 r2 r3 r4 r5 r6 r7 : FVec F S16 .f32) (ws : IVec S16 32)

/-- The walk over the first thirty-two planes, and what the second needs. -/
def pointB (lo : BitVec 32) : TProg (F := F) i (Σ' (_ : BitVec 32) (n1 : BitVec 32) (_ : cntOK (ptOK i cs t) n1) (_ : BitVec 32) (_ : BitVec 32) (_ : BitVec 32), BitVec 32) := do
  let h0 : PLift (cntOK (ptOK i cs t) (wordAt 8 ws slices_S16_o8_S1)) ← Prog.lift (TpuEff.assume _ (cntOK.dec (ptOK i cs t) (wordAt 8 ws slices_S16_o8_S1)))
  let a ← Scf.Loop.for (walkLoop (ptOK i cs t) (wordAt 8 ws slices_S16_o8_S1)) h0.down.1 (joined (ptOK i cs t) lo (wordAt 1 ws slices_S16_o1_S1))
    fun _ w => walkBody i 0#32 r0 r1 r2 r3 r4 r5 r6 r7 w
  let _ ← Scf.Loop.for (restLoop (ptOK i cs t) (wordAt 8 ws slices_S16_o8_S1)) h0.down.2 a fun _ w => walkBody i 0#32 r0 r1 r2 r3 r4 r5 r6 r7 w
  let h1 : PLift (cntOK (ptOK i cs t) (wordAt 9 ws slices_S16_o9_S1)) ← Prog.lift (TpuEff.assume _ (cntOK.dec (ptOK i cs t) (wordAt 9 ws slices_S16_o9_S1)))
  pure ⟨joined (ptOK i cs t) (wordAt 2 ws slices_S16_o2_S1) (wordAt 3 ws slices_S16_o3_S1), wordAt 9 ws slices_S16_o9_S1, h1.down, 1#32, 0#32, 0#32,
    cntTrips (ptOK i cs t) (wordAt 9 ws slices_S16_o9_S1)⟩

/-- The walks over the second and third, and what the last needs. -/
def pointC (w1 n1 : BitVec 32) (h1 : cntOK (ptOK i cs t) n1) : TProg (F := F) i (Σ' (_ : BitVec 32) (n3 : BitVec 32) (_ : cntOK (ptOK i cs t) n3) (_ : BitVec 32), BitVec 32) := do
  let a ← Scf.Loop.for (walkLoop (ptOK i cs t) n1) h1.1 w1 fun _ w => walkBody i 32#32 r0 r1 r2 r3 r4 r5 r6 r7 w
  let _ ← Scf.Loop.for (restLoop (ptOK i cs t) n1) h1.2 a fun _ w => walkBody i 32#32 r0 r1 r2 r3 r4 r5 r6 r7 w
  let h2 : PLift (cntOK (ptOK i cs t) (wordAt 10 ws slices_S16_o10_S1)) ← Prog.lift (TpuEff.assume _ (cntOK.dec (ptOK i cs t) (wordAt 10 ws slices_S16_o10_S1)))
  let a ← Scf.Loop.for (walkLoop (ptOK i cs t) (wordAt 10 ws slices_S16_o10_S1)) h2.down.1 (joined (ptOK i cs t) (wordAt 4 ws slices_S16_o4_S1) (wordAt 5 ws slices_S16_o5_S1))
    fun _ w => walkBody i 64#32 r0 r1 r2 r3 r4 r5 r6 r7 w
  let _ ← Scf.Loop.for (restLoop (ptOK i cs t) (wordAt 10 ws slices_S16_o10_S1)) h2.down.2 a fun _ w => walkBody i 64#32 r0 r1 r2 r3 r4 r5 r6 r7 w
  let h3 : PLift (cntOK (ptOK i cs t) (wordAt 11 ws slices_S16_o11_S1)) ← Prog.lift (TpuEff.assume _ (cntOK.dec (ptOK i cs t) (wordAt 11 ws slices_S16_o11_S1)))
  pure ⟨joined (ptOK i cs t) (wordAt 6 ws slices_S16_o6_S1) (wordAt 7 ws slices_S16_o7_S1), wordAt 11 ws slices_S16_o11_S1, h3.down,
    Scalar.subi (Scalar.select (ptOK i cs t) (wordAt 11 ws slices_S16_o11_S1) 0#32) 0#32, 1#32⟩

/-- The walk over the last. -/
def pointD (w3 n3 : BitVec 32) (h3 : cntOK (ptOK i cs t) n3) : TProg (F := F) i (BitVec 32) := do
  let a ← Scf.Loop.for (walkLoop (ptOK i cs t) n3) h3.1 w3 fun _ w => walkBody i 96#32 r0 r1 r2 r3 r4 r5 r6 r7 w
  let _ ← Scf.Loop.for (restLoop (ptOK i cs t) n3) h3.2 a fun _ w => walkBody i 96#32 r0 r1 r2 r3 r4 r5 r6 r7 w
  pure 0#32

end Parts

def pointBody (b : ℕ) (hb : b < 2) (cs : BitVec 32) (t : Fin ptLoop.trips) (_ : BitVec 32) : TProg (F := F) i (BitVec 32) := do
  let r0 : FVec F S16 .f32 ← lanes i b hb t 0 (by decide)
  let r1 : FVec F S16 .f32 ← lanes i b hb t 16 (by decide)
  let r2 : FVec F S16 .f32 ← lanes i b hb t 32 (by decide)
  let r3 : FVec F S16 .f32 ← lanes i b hb t 48 (by decide)
  let r4 : FVec F S16 .f32 ← lanes i b hb t 64 (by decide)
  let r5 : FVec F S16 .f32 ← lanes i b hb t 80 (by decide)
  let r6 : FVec F S16 .f32 ← lanes i b hb t 96 (by decide)
  let r7 : FVec F S16 .f32 ← lanes i b hb t 112 (by decide)
  let x : Vec F S1x1x16 .i32 ← Prog.lift (.load A6 (Rect.unit (s := S2x128x16) (bufOff b t 0) S1x1x16.size (bufOff6_inb hb t)).toLoadRect (View.loadsAt_vmem h_S1x1x16))
  let B ← pointB i cs t r0 r1 r2 r3 r4 r5 r6 r7 (shapeCast S16 x shapeCasts_S1x1x16_S16) (wordAt 0 (shapeCast S16 x shapeCasts_S1x1x16_S16) slices_S16_o0_S1)
  let C ← pointC i cs t r0 r1 r2 r3 r4 r5 r6 r7 (shapeCast S16 x shapeCasts_S1x1x16_S16) B.1 B.2.1 B.2.2.1
  pointD i cs t r0 r1 r2 r3 r4 r5 r6 r7 C.1 C.2.1 C.2.2.1

theorem ptLoop_ok : ptLoop.OK := by decide

end Cert.Proof
-- ==== Proof.Raise.lean ====
/- What a step of the walk does to the accumulator: one row, raised to the point's row. -/
module

public import proofs.«01_k».proof.Proof.Point
public import Idealize.ShloMosaic.Lib.Pipeline.Value

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The accumulator's contents. -/
abbrev Acc (F : FTy → Type) : Type := S128x128.Idx → F .f32

abbrev ix16 (n : ℕ) (h : n < 16) : S16.Idx := fun a => match a with | 0 => ⟨n, h⟩

theorem lane_lt {n col : ℕ} (h : col ≤ n ∧ n < col + 16) : n - col < 16 := by omega

/-- Lanes `[col, col + 16)` of row `r` raised to `v`. -/
def raiseAt (a : Acc F) (r col : ℕ) (v : FVec F S16 .f32) : Acc F := fun y =>
  if h : (y 0).val = r ∧ col ≤ (y 1).val ∧ (y 1).val < col + 16 then FloatOps.maximumf (a y) (v (ix16 ((y 1).val - col) (lane_lt h.2))) else a y

/-- Row `r` raised to `row`. -/
def upd (row : Fin 128 → F .f32) (r : ℕ) (a : Acc F) : Acc F := fun y =>
  if (y 0).val = r then FloatOps.maximumf (a y) (row (y 1)) else a y

/-- Sixteen lanes of a row of 128. -/
def lanesOf (row : Fin 128 → F .f32) (col : ℕ) (hc : col + 16 ≤ 128) : FVec F S16 .f32 := fun x => row ⟨col + (x 0).val, Nat.lt_of_lt_of_le (Nat.add_lt_add_left (x 0).isLt col) hc⟩

/-- The lanes below `c` of row `r` raised to `row`. -/
def updTo (row : Fin 128 → F .f32) (r c : ℕ) (a : Acc F) : Acc F := fun y =>
  if (y 0).val = r ∧ (y 1).val < c then FloatOps.maximumf (a y) (row (y 1)) else a y

theorem updTo_succ (row : Fin 128 → F .f32) (r c : ℕ) (hc : c + 16 ≤ 128) (a : Acc F) :
    raiseAt (updTo row r c a) r c (lanesOf row c hc) = updTo row r (c + 16) a := by
  funext y
  unfold raiseAt
  by_cases h : (y 0).val = r ∧ c ≤ (y 1).val ∧ (y 1).val < c + 16
  · have h0 : updTo row r c a y = a y := if_neg (by omega)
    have h1 : updTo row r (c + 16) a y = FloatOps.maximumf (a y) (row (y 1)) := if_pos (by omega)
    rw [dif_pos h, h0, h1]
    exact congrArg (fun z => FloatOps.maximumf (a y) (row z)) (Fin.ext (by show c + ((y 1).val - c) = (y 1).val; omega))
  · rw [dif_neg h]
    unfold updTo
    by_cases h' : (y 0).val = r ∧ (y 1).val < c
    · rw [if_pos h', if_pos (by omega)]
    · rw [if_neg h', if_neg (by omega)]

theorem updTo_zero (row : Fin 128 → F .f32) (r : ℕ) (a : Acc F) : updTo row r 0 a = a := funext fun y => if_neg (by omega)
theorem updTo_all (row : Fin 128 → F .f32) (r : ℕ) (a : Acc F) : updTo row r 128 a = upd row r a := funext fun y => by
  have hy : (y 1).val < 128 := (y 1).isLt
  unfold updTo upd
  by_cases h : (y 0).val = r
  · rw [if_pos ⟨h, hy⟩, if_pos h]
  · rw [if_neg (fun h' => h h'.1), if_neg h]

theorem upd_eq (row : Fin 128 → F .f32) (r : ℕ) (a : Acc F) :
    raiseAt (raiseAt (raiseAt (raiseAt (raiseAt (raiseAt (raiseAt (raiseAt a r 0 (lanesOf row 0 (by decide))) r 16 (lanesOf row 16 (by decide)))
      r 32 (lanesOf row 32 (by decide))) r 48 (lanesOf row 48 (by decide))) r 64 (lanesOf row 64 (by decide))) r 80 (lanesOf row 80 (by decide)))
      r 96 (lanesOf row 96 (by decide))) r 112 (lanesOf row 112 (by decide)) = upd row r a := by
  conv_lhs => rw [← updTo_zero row r a]
  rw [updTo_succ, updTo_succ, updTo_succ, updTo_succ, updTo_succ, updTo_succ, updTo_succ, updTo_succ, updTo_all]

variable (d : Dev nD) (i : grid1.Coords)

/-- The accumulator held at `a`. -/
abbrev accPts (a : Acc F) : sProp 𝕄 := (A7.view.loc (thr d i) ↦[A7.view.set]{fullShare} (a : Buf (Elt F) (A7.view.loc (thr d i))))

abbrev wpT {α : Type} (p : TProg (F := F) i α) (Q : α → sProp 𝕄) : sProp 𝕄 := wp frame (wpE defs₀ 𝒱₀ (thr d i) none) Set.univ p Q

theorem raise_put (a : Acc F) (r col : ℕ) (inb : ∀ x, (![r, col] : Fin 2 → ℕ) x + S1x16.size x ≤ S128x128.size x) (v : FVec F S16 .f32) :
    VecWindow.put a ![r, col] S1x16.size (shapeCast S1x16 (maximumf (shapeCast S16 (VecWindow.window a ![r, col] S1x16.size inb) shapeCasts_S1x16_S16) v) shapeCasts_S16_S1x16)
      = raiseAt a r col v := by
  funext y
  unfold VecWindow.put raiseAt
  by_cases h : (y 0).val = r ∧ col ≤ (y 1).val ∧ (y 1).val < col + 16
  · have h' : ∀ x : Fin 2, (![r, col] : Fin 2 → ℕ) x ≤ (y x).val ∧ (y x).val < (![r, col] : Fin 2 → ℕ) x + S1x16.size x :=
      Fin.forall_fin_two.mpr ⟨⟨h.1.ge, Nat.lt_succ_of_le h.1.le⟩, h.2⟩
    rw [dif_pos h, dif_pos h']
    refine (Idealize.ShloMosaic.shapeCast_addUnit_apply ![16] _ shapeCasts_S16_S1x16 _).trans ?_
    have e1 : shapeCast S16 (VecWindow.window a ![r, col] S1x16.size inb) shapeCasts_S1x16_S16 (ix16 ((y 1).val - col) (lane_lt h.2)) = a y := by
      refine (Idealize.ShloMosaic.shapeCast_dropUnit_apply ![16] _ shapeCasts_S1x16_S16 _).trans ?_
      refine congrArg a (funext fun x => Fin.ext ?_)
      revert x
      refine Fin.forall_fin_two.mpr ⟨?_, ?_⟩
      · show r + 1 * 0 = (y 0).val
        rw [h.1]; rfl
      · show col + 1 * ((y 1).val - col) = (y 1).val
        rw [Nat.one_mul]; exact Nat.add_sub_cancel' h.2.1
    have e2 : (fun b : Fin 1 => (Rect.unitLocal (s := S128x128) (off := ![r, col]) (size := S1x16.size) y h') b.succ) = ix16 ((y 1).val - col) (lane_lt h.2) := by
      funext b; match b with | 0 => rfl
    exact (congrArg _ e2).trans (congrArg (fun z => FloatOps.maximumf z (v (ix16 ((y 1).val - col) (lane_lt h.2)))) e1)
  · have h' : ¬ ∀ x : Fin 2, (![r, col] : Fin 2 → ℕ) x ≤ (y x).val ∧ (y x).val < (![r, col] : Fin 2 → ℕ) x + S1x16.size x :=
      fun hh => h ⟨Nat.le_antisymm (Nat.le_of_lt_succ (hh 0).2) (hh 0).1, hh 1⟩
    rw [dif_neg h, dif_neg h']

theorem wp_raise {off : Fin 2 → ℕ} {inb : ∀ x, off x + S1x16.size x ≤ S128x128.size x} {v : FVec F S16 .f32} (a : Acc F) {r col : ℕ} (h : off = ![r, col])
    {α : Type} (k : PUnit → TProg (F := F) i α) (Q : α → sProp 𝕄) :
    accPts d i a ⊢ iprop((accPts d i (raiseAt a r col v) -∗ wpT d i (k ⟨⟩) Q) -∗ wpT d i (raise i off inb v >>= k) Q) := by
  subst h
  show _ ⊢ iprop(_ -∗ wp frame (wpE defs₀ 𝒱₀ (thr d i) none) Set.univ (.op (.load A7 _ _) fun x => .op (.load A7 _ _) fun _ => .op (.store A7 _ _ _ _ _) k) Q)
  iintro H Hk
  sl_step
  sl_step
  sl_step
  iapply Hk
  iapply (Entails.of_eq ?_) $$ H
  refine congrArg (fun f => (A7.view.loc (thr d i) ↦[A7.view.set]{fullShare} f : sProp 𝕄)) ?_
  exact (View.read_writes_cons_put (Val := Elt F) A7.view (a : Buf (Elt F) (A7.view.loc (thr d i))) inb _ [] rfl).trans (raise_put a r col inb v)

/-! ## A trip of the walk -/

theorem maskSel_or (l m v : BitVec 32) : maskSel l m v = v ∨ maskSel l m v = 0#32 := by
  unfold maskSel Scalar.select
  split
  · exact .inl rfl
  · exact .inr rfl

/-- The index of a bit is below thirty-two, whatever the word. -/
theorem bitOf_lt (w : BitVec 32) : (bitOf w).toNat < 32 := by
  unfold bitOf
  rcases maskSel_or (lowBit w) 4294901760#32 16#32 with h1 | h1 <;> rcases maskSel_or (lowBit w) 4278255360#32 8#32 with h2 | h2 <;>
    rcases maskSel_or (lowBit w) 4042322160#32 4#32 with h3 | h3 <;> rcases maskSel_or (lowBit w) 3435973836#32 2#32 with h4 | h4 <;>
    rcases maskSel_or (lowBit w) 2863311530#32 1#32 with h5 | h5 <;> rw [h1, h2, h3, h4, h5] <;> decide

/-- The row a word's lowest set bit names, in the group whose first row is `g`. -/
def walkRow (g w : BitVec 32) : ℕ := (Scalar.indexCast (Scalar.addi g (bitOf w))).toNat

theorem walkRow_eq {g : BitVec 32} (hg : g.toNat ≤ 96) (w : BitVec 32) : walkRow g w = g.toNat + (bitOf w).toNat := by
  have := bitOf_lt w
  show (g + bitOf w).toNat = _
  rw [BitVec.toNat_add, Nat.mod_eq_of_lt (by omega)]

theorem walkRow_lt {g : BitVec 32} (hg : g.toNat ≤ 96) (w : BitVec 32) : walkRow g w < 128 := by
  rw [walkRow_eq hg]; have := bitOf_lt w; omega

theorem walkOff_inb {g : BitVec 32} (hg : g.toNat ≤ 96) (w : BitVec 32) {col : ℕ} (hc : col + 16 ≤ 128) : ∀ x, walkOff g w col x + S1x16.size x ≤ S128x128.size x :=
  Fin.forall_fin_two.mpr ⟨walkRow_lt hg w, hc⟩

theorem walkChk_of {g : BitVec 32} (hg : g.toNat ≤ 96) (w : BitVec 32) : walkChk g w :=
  ⟨walkOff_inb hg w (by decide), walkOff_inb hg w (by decide), walkOff_inb hg w (by decide), walkOff_inb hg w (by decide),
    walkOff_inb hg w (by decide), walkOff_inb hg w (by decide), walkOff_inb hg w (by decide), walkOff_inb hg w (by decide)⟩

theorem wp_walkBody {g : BitVec 32} (hg : g.toNat ≤ 96) (w : BitVec 32) (row : Fin 128 → F .f32) (a : Acc F) :
    accPts d i a ⊢ wpT d i (walkBody i g (lanesOf row 0 (by decide)) (lanesOf row 16 (by decide)) (lanesOf row 32 (by decide)) (lanesOf row 48 (by decide))
        (lanesOf row 64 (by decide)) (lanesOf row 80 (by decide)) (lanesOf row 96 (by decide)) (lanesOf row 112 (by decide)) w)
      fun w' => iprop(⌜w' = Scalar.andi w (Scalar.subi w 1#32)⌝ ∗ accPts d i (upd row (walkRow g w) a)) := by
  show _ ⊢ wp frame (wpE defs₀ 𝒱₀ (thr d i) none) Set.univ (.op (.assume (walkChk g w) (walkChk.dec g w)) _) _
  iintro H
  iapply (wp_assume 𝒱₀ (thr d i) none Set.univ (walkChk_of hg w))
  iapply (wp_raise d i a rfl) $$ H; iintro H
  iapply (wp_raise d i _ rfl) $$ H; iintro H
  iapply (wp_raise d i _ rfl) $$ H; iintro H
  iapply (wp_raise d i _ rfl) $$ H; iintro H
  iapply (wp_raise d i _ rfl) $$ H; iintro H
  iapply (wp_raise d i _ rfl) $$ H; iintro H
  iapply (wp_raise d i _ rfl) $$ H; iintro H
  iapply (wp_raise d i _ rfl) $$ H; iintro H
  iapply (le_wp_ret frame (wpE defs₀ 𝒱₀ (thr d i) none) Set.univ _ _)
  isplitr
  · ipureintro; rfl
  have e := upd_eq row (walkRow g w) a
  unfold walkRow at e
  unfold walkRow
  iapply (Entails.of_eq (congrArg (accPts d i) e)) $$ H
end Cert.Proof
-- ==== Proof.Half.lean ====
/- The two halves of a task's row and word buffers, and a point's row and words read out of one of them. -/
module

public import proofs.«01_k».proof.Proof.Raise

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem half5_inb {b : ℕ} (hb : b < 2) : ∀ a, (![b, 0, 0] : Fin 3 → ℕ) a + S1x128x128.size a ≤ S2x128x128.size a := by
  intro a; fin_cases a
  · exact hb
  · exact le_rfl
  · exact le_rfl
theorem half6_inb {b : ℕ} (hb : b < 2) : ∀ a, (![b, 0, 0] : Fin 3 → ℕ) a + S1x128x16.size a ≤ S2x128x16.size a := by
  intro a; fin_cases a
  · exact hb
  · exact le_rfl
  · exact le_rfl

/-- Half `b` of the row buffer, and of the word buffer. -/
abbrev half5 (b : ℕ) (hb : b < 2) : Memref sig .scVector .vmem S128x128 .f32 :=
  (A5.slice (Rect.unit (s := S2x128x128) ![b, 0, 0] S1x128x128.size (half5_inb hb)) (fun _ => rfl)).squeeze S128x128 squeezes_S1x128x128_S128x128
abbrev half6 (b : ℕ) (hb : b < 2) : Memref sig .scVector .vmem S128x16 .i32 :=
  (A6.slice (Rect.unit (s := S2x128x16) ![b, 0, 0] S1x128x16.size (half6_inb hb)) (fun _ => rfl)).squeeze S128x16 squeezes_S1x128x16_S128x16

abbrev ix5 (b : ℕ) (hb : b < 2) (r c : Fin 128) : S2x128x128.Idx := fun a => match a with | 0 => ⟨b, hb⟩ | 1 => r | 2 => c
abbrev ix6 (b : ℕ) (hb : b < 2) (r : Fin 128) (c : Fin 16) : S2x128x16.Idx := fun a => match a with | 0 => ⟨b, hb⟩ | 1 => r | 2 => c

theorem half5_emb {b : ℕ} (hb : b < 2) (y : S128x128.Idx) : (half5 b hb).view.emb y = ix5 b hb (y 0) (y 1) := by
  show (Rect.unit (s := S2x128x128) ![b, 0, 0] S1x128x128.size (half5_inb hb)).emb (Shape.reshapeEquiv squeezes_S1x128x128_S128x128.numel_eq y) = _
  have e : Shape.reshapeEquiv squeezes_S1x128x128_S128x128.numel_eq y = (Fin.cons ⟨0, Nat.one_pos⟩ y : S1x128x128.Idx) :=
    Shape.reshapeEquiv_cons_one (d := ![128, 128]) squeezes_S1x128x128_S128x128.numel_eq y
  rw [e]
  refine funext fun a => Fin.ext ?_
  match a with
  | 0 => rfl
  | 1 => show 0 + 1 * (y 0).val = (y 0).val; rw [Nat.one_mul, Nat.zero_add]
  | 2 => show 0 + 1 * (y 1).val = (y 1).val; rw [Nat.one_mul, Nat.zero_add]

theorem half6_emb {b : ℕ} (hb : b < 2) (y : S128x16.Idx) : (half6 b hb).view.emb y = ix6 b hb (y 0) (y 1) := by
  show (Rect.unit (s := S2x128x16) ![b, 0, 0] S1x128x16.size (half6_inb hb)).emb (Shape.reshapeEquiv squeezes_S1x128x16_S128x16.numel_eq y) = _
  have e : Shape.reshapeEquiv squeezes_S1x128x16_S128x16.numel_eq y = (Fin.cons ⟨0, Nat.one_pos⟩ y : S1x128x16.Idx) :=
    Shape.reshapeEquiv_cons_one (d := ![128, 16]) squeezes_S1x128x16_S128x16.numel_eq y
  rw [e]
  refine funext fun a => Fin.ext ?_
  match a with
  | 0 => rfl
  | 1 => show 0 + 1 * (y 0).val = (y 0).val; rw [Nat.one_mul, Nat.zero_add]
  | 2 => show 0 + 1 * (y 1).val = (y 1).val; rw [Nat.one_mul, Nat.zero_add]

/-- A trip's number as a row. -/
abbrev ptRow (t : Fin ptLoop.trips) : Fin 128 := ⟨t.val, t.isLt.trans_eq ptLoop_trips⟩

theorem load5_emb {b : ℕ} (hb : b < 2) (t : Fin ptLoop.trips) {col : ℕ} (hc : col + 16 ≤ 128) (x : S1x1x16.Idx) :
    (Rect.unit (s := S2x128x128) (bufOff b t col) S1x1x16.size (bufOff5_inb hb t hc)).emb x
      = ix5 b hb (ptRow t) ⟨col + (x 2).val, Nat.lt_of_lt_of_le (Nat.add_lt_add_left (x 2).isLt col) hc⟩ := by
  have h0 : (x 0).val = 0 := Nat.lt_one_iff.mp (x 0).isLt
  have h1 : (x 1).val = 0 := Nat.lt_one_iff.mp (x 1).isLt
  refine funext fun a => Fin.ext ?_
  match a with
  | 0 => show b + 1 * (x 0).val = b; rw [h0]; rfl
  | 1 => show (Scalar.indexCast (Scf.iv 0#32 1#32 t)).toNat + 1 * (x 1).val = t.val; rw [h1, bufOff_row]; rfl
  | 2 => show col + 1 * (x 2).val = col + (x 2).val; rw [Nat.one_mul]

theorem load6_emb {b : ℕ} (hb : b < 2) (t : Fin ptLoop.trips) (x : S1x1x16.Idx) :
    (Rect.unit (s := S2x128x16) (bufOff b t 0) S1x1x16.size (bufOff6_inb hb t)).emb x = ix6 b hb (ptRow t) (x 2) := by
  have h0 : (x 0).val = 0 := Nat.lt_one_iff.mp (x 0).isLt
  have h1 : (x 1).val = 0 := Nat.lt_one_iff.mp (x 1).isLt
  refine funext fun a => Fin.ext ?_
  match a with
  | 0 => show b + 1 * (x 0).val = b; rw [h0]; rfl
  | 1 => show (Scalar.indexCast (Scf.iv 0#32 1#32 t)).toNat + 1 * (x 1).val = t.val; rw [h1, bufOff_row]; rfl
  | 2 => show 0 + 1 * (x 2).val = (x 2).val; rw [Nat.one_mul, Nat.zero_add]

theorem load5_sub {b : ℕ} (hb : b < 2) (t : Fin ptLoop.trips) {col : ℕ} (hc : col + 16 ≤ 128) :
    A5.view.setOn (Rect.unit (s := S2x128x128) (bufOff b t col) S1x1x16.size (bufOff5_inb hb t hc)).toLoadRect.set ⊆ (half5 b hb).view.set := by
  rw [show A5.view.setOn (Rect.unit (s := S2x128x128) (bufOff b t col) S1x1x16.size (bufOff5_inb hb t hc)).toLoadRect.set
    = (A5.view.slice (Rect.unit (s := S2x128x128) (bufOff b t col) S1x1x16.size (bufOff5_inb hb t hc))).set from (View.set_slice ..).symm]
  intro y hy
  obtain ⟨x, -, rfl⟩ := Finset.mem_map.mp hy
  have e := half5_emb hb (fun a => match a with | 0 => ptRow t | 1 => ⟨col + (x 2).val, Nat.lt_of_lt_of_le (Nat.add_lt_add_left (x 2).isLt col) hc⟩)
  exact (load5_emb hb t hc x).trans e.symm ▸ View.emb_mem_set (half5 b hb).view _

theorem load6_sub {b : ℕ} (hb : b < 2) (t : Fin ptLoop.trips) :
    A6.view.setOn (Rect.unit (s := S2x128x16) (bufOff b t 0) S1x1x16.size (bufOff6_inb hb t)).toLoadRect.set ⊆ (half6 b hb).view.set := by
  rw [show A6.view.setOn (Rect.unit (s := S2x128x16) (bufOff b t 0) S1x1x16.size (bufOff6_inb hb t)).toLoadRect.set
    = (A6.view.slice (Rect.unit (s := S2x128x16) (bufOff b t 0) S1x1x16.size (bufOff6_inb hb t))).set from (View.set_slice ..).symm]
  intro y hy
  obtain ⟨x, -, rfl⟩ := Finset.mem_map.mp hy
  have e := half6_emb hb (fun a => match a with | 0 => ptRow t | 1 => x 2)
  exact (load6_emb hb t x).trans e.symm ▸ View.emb_mem_set (half6 b hb).view _

/-- A three-axis vector with two leading unit axes, cast to sixteen lanes. -/
theorem cast16 {α : Type} (v : S1x1x16.Idx → α) (x : S16.Idx) :
    shapeCast S16 v shapeCasts_S1x1x16_S16 x = v (fun a => match a with | 0 => ⟨0, Nat.one_pos⟩ | 1 => ⟨0, Nat.one_pos⟩ | 2 => x 0) := by
  refine shapeCast_apply v _ x _ ?_
  refine (Shape.rowMajor_val_three (d := ![1, 1, 16]) _).trans ((?_ : _ = (x 0).val).trans (Shape.rowMajor_val_one (d := ![16]) x).symm)
  exact Nat.zero_add _

variable (d : Dev nD) (i : grid1.Coords)

/-- Half `b` of a buffer, held at contents `f`. -/
abbrev pts5 (b : ℕ) (hb : b < 2) (f : S2x128x128.Idx → F .f32) : sProp 𝕄 :=
  (A5.view.loc (thr d i) ↦[(half5 b hb).view.set]{fullShare} (f : Buf (Elt F) (A5.view.loc (thr d i))))
abbrev pts6 (b : ℕ) (hb : b < 2) (f : S2x128x16.Idx → BitVec 32) : sProp 𝕄 :=
  (A6.view.loc (thr d i) ↦[(half6 b hb).view.set]{fullShare} (f : Buf (Elt F) (A6.view.loc (thr d i))))

/-- A point's row, and its words, out of half `b`. -/
def rowOf (b : ℕ) (hb : b < 2) (f : S2x128x128.Idx → F .f32) (t : Fin ptLoop.trips) : Fin 128 → F .f32 := fun c => f (ix5 b hb (ptRow t) c)
def wordsOf (b : ℕ) (hb : b < 2) (f : S2x128x16.Idx → BitVec 32) (t : Fin ptLoop.trips) : IVec S16 32 := fun x => f (ix6 b hb (ptRow t) (x 0))

theorem lanes_eq (b : ℕ) (hb : b < 2) (f : S2x128x128.Idx → F .f32) (t : Fin ptLoop.trips) {col : ℕ} (hc : col + 16 ≤ 128) :
    (shapeCast S16 (A5.view.readAt (Elt F) (Rect.unit (s := S2x128x128) (bufOff b t col) S1x1x16.size (bufOff5_inb hb t hc)).toLoadRect (f : Buf (Elt F) (A5.view.loc (thr d i))))
      shapeCasts_S1x1x16_S16 : FVec F S16 .f32) = lanesOf (rowOf b hb f t) col hc :=
  funext fun x => (cast16 _ x).trans (congrArg f (load5_emb hb t hc _))

theorem words_eq (b : ℕ) (hb : b < 2) (f : S2x128x16.Idx → BitVec 32) (t : Fin ptLoop.trips) :
    (shapeCast S16 (A6.view.readAt (Elt F) (Rect.unit (s := S2x128x16) (bufOff b t 0) S1x1x16.size (bufOff6_inb hb t)).toLoadRect (f : Buf (Elt F) (A6.view.loc (thr d i))))
      shapeCasts_S1x1x16_S16 : IVec S16 32) = wordsOf b hb f t :=
  funext fun x => (cast16 _ x).trans (congrArg f (load6_emb hb t _))

theorem wp_lanes (b : ℕ) (hb : b < 2) (f : S2x128x128.Idx → F .f32) (t : Fin ptLoop.trips) (col : ℕ) (hc : col + 16 ≤ 128)
    {α : Type} (k : FVec F S16 .f32 → TProg (F := F) i α) (Q : α → sProp 𝕄) :
    pts5 d i b hb f ⊢ iprop((pts5 d i b hb f -∗ wpT d i (k (lanesOf (rowOf b hb f t) col hc)) Q) -∗ wpT d i (lanes i b hb t col hc >>= k) Q) := by
  rw [← lanes_eq b hb f t hc]
  iintro H HK
  iapply (wp_load 𝒱₀ (thr d i) none Set.univ (m := A5) (load5_sub hb t hc)) $$ H
  iexact HK

end Cert.Proof
-- ==== Proof.PointExec.lean ====
/- What a point does to the accumulator: for each of the four groups of planes, the rows its words' bits name are raised to the point's row. -/
module

public import proofs.«01_k».proof.Proof.Half

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The loops' trips -/

theorem divsi_one (x : BitVec 32) : Scalar.divsi x 1#32 = x := by
  show (if _ then _ else _) = _
  rw [if_neg (by unfold IntOp.SDivCorner; rintro (h | ⟨-, h⟩) <;> exact absurd h (by decide))]
  exact BitVec.sdiv_one

theorem cntTrips_eq (ok : BitVec 1) (v : BitVec 32) : cntTrips ok v = Scalar.select ok v 0#32 := by
  unfold cntTrips
  rw [divsi_one]
  show ((Scalar.select ok v 0#32 - 0#32) + (1#32 - 1#32)) - 0#32 = _
  simp

theorem cntMid_eq (ok : BitVec 1) (v : BitVec 32) : cntMid ok v = Scalar.select ok v 0#32 := by
  unfold cntMid
  rw [divsi_one, cntTrips_eq]
  show 0#32 + (Scalar.select ok v 0#32) * 1#32 = _
  simp

theorem trips_zero (n : BitVec 32) : Scf.trips 0#32 n 1#32 = n.toInt.toNat := by
  unfold Scf.trips
  simp

theorem ok_zero (n : BitVec 32) : Scf.OK 0#32 n 1#32 := by
  refine ⟨by decide, ?_⟩
  rw [trips_zero]
  have h := BitVec.toInt_lt (x := n)
  simp at h ⊢
  omega

theorem trips_self (n : BitVec 32) : Scf.trips n n 1#32 = 0 := by
  unfold Scf.trips
  simp

theorem ok_self (n : BitVec 32) : Scf.OK n n 1#32 := by
  refine ⟨by decide, ?_⟩
  rw [trips_self]
  have h := BitVec.toInt_lt (x := n)
  simp at h ⊢
  omega

theorem walkLoop_trips (ok : BitVec 1) (v : BitVec 32) : (walkLoop ok v).trips = (Scalar.select ok v 0#32).toInt.toNat := by
  show Scf.trips 0#32 (cntMid ok v) 1#32 = _
  rw [cntMid_eq, trips_zero]

theorem restLoop_trips (ok : BitVec 1) (v : BitVec 32) : (restLoop ok v).trips = 0 := by
  show Scf.trips (cntMid ok v) (0#32 + cntTrips ok v) 1#32 = _
  rw [cntMid_eq, cntTrips_eq, BitVec.zero_add, trips_self]

theorem cntOK_all (ok : BitVec 1) (v : BitVec 32) : cntOK ok v := by
  refine ⟨?_, ?_⟩
  · exact ok_zero _
  · show Scf.OK (cntMid ok v) (0#32 + cntTrips ok v) 1#32
    rw [cntMid_eq, cntTrips_eq, BitVec.zero_add]
    exact ok_self _

/-! ## The walk -/

/-- A word after `n` of its lowest set bits are cleared. -/
def wordN (w : BitVec 32) : ℕ → BitVec 32
  | 0 => w
  | n + 1 => Scalar.andi (wordN w n) (Scalar.subi (wordN w n) 1#32)

/-- The accumulator after `n` trips of a walk. -/
def walkAcc (g : BitVec 32) (row : Fin 128 → F .f32) (w : BitVec 32) (a : Acc F) : ℕ → Acc F
  | 0 => a
  | n + 1 => upd row (walkRow g (wordN w n)) (walkAcc g row w a n)

variable (d : Dev nD) (i : grid1.Coords)

/-- A row in the eight vectors the kernel holds it in. -/
abbrev walkOf (g : BitVec 32) (row : Fin 128 → F .f32) (w : BitVec 32) : TProg (F := F) i (BitVec 32) :=
  walkBody i g (lanesOf row 0 (by decide)) (lanesOf row 16 (by decide)) (lanesOf row 32 (by decide)) (lanesOf row 48 (by decide))
    (lanesOf row 64 (by decide)) (lanesOf row 80 (by decide)) (lanesOf row 96 (by decide)) (lanesOf row 112 (by decide)) w

theorem wp_walk {g : BitVec 32} (hg : g.toNat ≤ 96) (ok : BitVec 1) (v : BitVec 32) (h : (walkLoop ok v).OK) (w : BitVec 32) (row : Fin 128 → F .f32) (a : Acc F)
    {α : Type} {kk : BitVec 32 → TProg (F := F) i α} {Q : α → sProp 𝕄} :
    accPts d i a ⊢ iprop((∀ w', accPts d i (walkAcc g row w a (walkLoop ok v).trips) -∗ wpT d i (kk w') Q)
      -∗ wpT d i (Scf.Loop.for (walkLoop ok v) h w (fun _ w => walkOf i g row w) >>= kk) Q) := by
  iintro H HK
  iapply (Scf.wp_for_bind frame (wpE defs₀ 𝒱₀ (thr d i) none) Set.univ (walkLoop ok v).lb (walkLoop ok v).ub (walkLoop ok v).st h w
    (fun _ w => walkOf i g row w) (fun n w' => iprop(⌜w' = wordN w n⌝ ∗ accPts d i (walkAcc g row w a n))) ?hb) $$ [H]
  case hb =>
    intro n w'
    iintro ⟨%e, H⟩
    subst e
    iapply (wp_walkBody d i hg (wordN w n.val) row _) $$ H
  · isplitr
    · ipureintro; rfl
    iexact H
  iintro %w' ⟨-, H⟩
  iapply HK
  iexact H

theorem wp_rest (ok : BitVec 1) (v : BitVec 32) (h : (restLoop ok v).OK) (w : BitVec 32) (body) (a : Acc F)
    {α : Type} {kk : BitVec 32 → TProg (F := F) i α} {Q : α → sProp 𝕄} :
    accPts d i a ⊢ iprop((∀ w', accPts d i a -∗ wpT d i (kk w') Q) -∗ wpT d i (Scf.Loop.for (restLoop ok v) h w body >>= kk) Q) := by
  iintro H HK
  iapply (Scf.wp_for_bind frame (wpE defs₀ 𝒱₀ (thr d i) none) Set.univ (restLoop ok v).lb (restLoop ok v).ub (restLoop ok v).st h w
    body (fun _ _ => accPts d i a) ?hb) $$ H
  case hb => intro n; exact absurd n.isLt (fun h => Nat.not_lt_zero _ (restLoop_trips ok v ▸ h : n.val < 0))
  iexact HK

/-! ## A point -/

/-- One group of planes: its two half words joined, its count, its first row. -/
def groupAcc (ok : BitVec 1) (g lo hi c : BitVec 32) (row : Fin 128 → F .f32) (a : Acc F) : Acc F :=
  walkAcc g row (joined ok lo hi) a (walkLoop ok c).trips

def pointAcc (ok : BitVec 1) (ws : IVec S16 32) (row : Fin 128 → F .f32) (a : Acc F) : Acc F :=
  groupAcc ok 96#32 (wordAt 6 ws slices_S16_o6_S1) (wordAt 7 ws slices_S16_o7_S1) (wordAt 11 ws slices_S16_o11_S1) row
    (groupAcc ok 64#32 (wordAt 4 ws slices_S16_o4_S1) (wordAt 5 ws slices_S16_o5_S1) (wordAt 10 ws slices_S16_o10_S1) row
      (groupAcc ok 32#32 (wordAt 2 ws slices_S16_o2_S1) (wordAt 3 ws slices_S16_o3_S1) (wordAt 9 ws slices_S16_o9_S1) row
        (groupAcc ok 0#32 (wordAt 0 ws slices_S16_o0_S1) (wordAt 1 ws slices_S16_o1_S1) (wordAt 8 ws slices_S16_o8_S1) row a)))

/-- What is left of a point once its row and its words are read. -/
def pointTail (cs : BitVec 32) (t : Fin ptLoop.trips) (row : Fin 128 → F .f32) (ws : IVec S16 32) : TProg (F := F) i (BitVec 32) := do
  let B ← pointB i cs t (lanesOf row 0 (by decide)) (lanesOf row 16 (by decide)) (lanesOf row 32 (by decide)) (lanesOf row 48 (by decide))
    (lanesOf row 64 (by decide)) (lanesOf row 80 (by decide)) (lanesOf row 96 (by decide)) (lanesOf row 112 (by decide)) ws (wordAt 0 ws slices_S16_o0_S1)
  let C ← pointC i cs t (lanesOf row 0 (by decide)) (lanesOf row 16 (by decide)) (lanesOf row 32 (by decide)) (lanesOf row 48 (by decide))
    (lanesOf row 64 (by decide)) (lanesOf row 80 (by decide)) (lanesOf row 96 (by decide)) (lanesOf row 112 (by decide)) ws B.1 B.2.1 B.2.2.1
  pointD i cs t (lanesOf row 0 (by decide)) (lanesOf row 16 (by decide)) (lanesOf row 32 (by decide)) (lanesOf row 48 (by decide))
    (lanesOf row 64 (by decide)) (lanesOf row 80 (by decide)) (lanesOf row 96 (by decide)) (lanesOf row 112 (by decide)) C.1 C.2.1 C.2.2.1

theorem wp_pointTail (cs : BitVec 32) (t : Fin ptLoop.trips) (row : Fin 128 → F .f32) (ws : IVec S16 32) (a : Acc F) :
    accPts d i a ⊢ wpT d i (pointTail i cs t row ws) fun _ => accPts d i (pointAcc (ptOK i cs t) ws row a) := by
  unfold pointTail wpT
  rw [wp_bind]
  iintro H
  unfold pointB
  iapply (wp_assume 𝒱₀ (thr d i) none Set.univ (cntOK_all _ _))
  iapply (wp_walk d i (g := 0#32) (by decide) (ptOK i cs t) (wordAt 8 ws slices_S16_o8_S1) _ _ row _) $$ H; iintro %w0 H
  iapply (wp_rest d i (ptOK i cs t) (wordAt 8 ws slices_S16_o8_S1) _ _ _ _) $$ H; iintro %w0' H
  iapply (wp_assume 𝒱₀ (thr d i) none Set.univ (cntOK_all _ _))
  iapply (le_wp_ret frame (wpE defs₀ 𝒱₀ (thr d i) none) Set.univ _ _)
  rw [wp_bind]
  unfold pointC
  iapply (wp_walk d i (g := 32#32) (by decide) (ptOK i cs t) (wordAt 9 ws slices_S16_o9_S1) _ _ row _) $$ H; iintro %w1 H
  iapply (wp_rest d i (ptOK i cs t) (wordAt 9 ws slices_S16_o9_S1) _ _ _ _) $$ H; iintro %w1' H
  iapply (wp_assume 𝒱₀ (thr d i) none Set.univ (cntOK_all _ _))
  iapply (wp_walk d i (g := 64#32) (by decide) (ptOK i cs t) (wordAt 10 ws slices_S16_o10_S1) _ _ row _) $$ H; iintro %w2 H
  iapply (wp_rest d i (ptOK i cs t) (wordAt 10 ws slices_S16_o10_S1) _ _ _ _) $$ H; iintro %w2' H
  iapply (wp_assume 𝒱₀ (thr d i) none Set.univ (cntOK_all _ _))
  iapply (le_wp_ret frame (wpE defs₀ 𝒱₀ (thr d i) none) Set.univ _ _)
  unfold pointD
  iapply (wp_walk d i (g := 96#32) (by decide) (ptOK i cs t) (wordAt 11 ws slices_S16_o11_S1) _ _ row _) $$ H; iintro %w3 H
  iapply (wp_rest d i (ptOK i cs t) (wordAt 11 ws slices_S16_o11_S1) _ _ _ _) $$ H; iintro %w3' H
  iapply (le_wp_ret frame (wpE defs₀ 𝒱₀ (thr d i) none) Set.univ _ _)
  iexact H

theorem wp_words (b : ℕ) (hb : b < 2) (f : S2x128x16.Idx → BitVec 32) (t : Fin ptLoop.trips)
    {α : Type} (k : IVec S16 32 → TProg (F := F) i α) (Q : α → sProp 𝕄) :
    pts6 d i b hb f ⊢ iprop((pts6 d i b hb f -∗ wpT d i (k (wordsOf b hb f t)) Q)
      -∗ wpT d i (Prog.lift (.load A6 (Rect.unit (s := S2x128x16) (bufOff b t 0) S1x1x16.size (bufOff6_inb hb t)).toLoadRect (View.loadsAt_vmem h_S1x1x16))
        >>= fun x => k (shapeCast S16 x shapeCasts_S1x1x16_S16)) Q) := by
  rw [← words_eq (F := F) b hb f t]
  iintro H HK
  iapply (wp_load 𝒱₀ (thr d i) none Set.univ (m := A6) (load6_sub hb t)) $$ H
  iexact HK

theorem wp_pointBody (b : ℕ) (hb : b < 2) (cs : BitVec 32) (t : Fin ptLoop.trips) (x : BitVec 32) (f5 : S2x128x128.Idx → F .f32) (f6 : S2x128x16.Idx → BitVec 32) (a : Acc F) :
    iprop(pts5 d i b hb f5 ∗ pts6 d i b hb f6 ∗ accPts d i a)
      ⊢ wpT d i (pointBody i b hb cs t x) fun _ => iprop(pts5 d i b hb f5 ∗ pts6 d i b hb f6 ∗ accPts d i (pointAcc (ptOK i cs t) (wordsOf b hb f6 t) (rowOf b hb f5 t) a)) := by
  unfold pointBody
  iintro ⟨H5, H6, H⟩
  iapply (wp_lanes d i b hb f5 t 0 _) $$ H5; iintro H5
  iapply (wp_lanes d i b hb f5 t 16 _) $$ H5; iintro H5
  iapply (wp_lanes d i b hb f5 t 32 _) $$ H5; iintro H5
  iapply (wp_lanes d i b hb f5 t 48 _) $$ H5; iintro H5
  iapply (wp_lanes d i b hb f5 t 64 _) $$ H5; iintro H5
  iapply (wp_lanes d i b hb f5 t 80 _) $$ H5; iintro H5
  iapply (wp_lanes d i b hb f5 t 96 _) $$ H5; iintro H5
  iapply (wp_lanes d i b hb f5 t 112 _) $$ H5; iintro H5
  iapply (wp_words d i b hb f6 t (pointTail i cs t (rowOf b hb f5 t))) $$ H6; iintro H6
  iapply (wp_mono frame (wpE defs₀ 𝒱₀ (thr d i) none) Set.univ fun _ => sep_assoc.1)
  iapply (wp_frame_l frame (wpE defs₀ 𝒱₀ (thr d i) none) Set.univ)
  isplitl [H5 H6]; · iframe
  iapply (wp_pointTail d i cs t) $$ H

/-! ## A chunk -/

/-- The accumulator after `n` points of a chunk. -/
def chunkAcc (cs : BitVec 32) (b : ℕ) (hb : b < 2) (f5 : S2x128x128.Idx → F .f32) (f6 : S2x128x16.Idx → BitVec 32) (a : Acc F) : ℕ → Acc F
  | 0 => a
  | n + 1 => if h : n < ptLoop.trips then
      pointAcc (ptOK i cs ⟨n, h⟩) (wordsOf b hb f6 ⟨n, h⟩) (rowOf b hb f5 ⟨n, h⟩) (chunkAcc cs b hb f5 f6 a n) else a

theorem wp_chunk (b : ℕ) (hb : b < 2) (cs : BitVec 32) (x : BitVec 32) (f5 : S2x128x128.Idx → F .f32) (f6 : S2x128x16.Idx → BitVec 32) (a : Acc F) {R : BitVec 32 → sProp 𝕄} :
    iprop(pts5 d i b hb f5 ∗ pts6 d i b hb f6 ∗ accPts d i a)
      ⊢ iprop((∀ w', (pts5 d i b hb f5 ∗ pts6 d i b hb f6 ∗ accPts d i (chunkAcc i cs b hb f5 f6 a 128)) -∗ R w')
        -∗ wpT d i (Scf.Loop.for ptLoop ptLoop_ok x (pointBody i b hb cs)) R) := by
  iintro H HK
  iapply (Scf.wp_for frame (wpE defs₀ 𝒱₀ (thr d i) none) Set.univ ptLoop.lb ptLoop.ub ptLoop.st ptLoop_ok x
    (pointBody i b hb cs) (fun n _ => iprop(pts5 d i b hb f5 ∗ pts6 d i b hb f6 ∗ accPts d i (chunkAcc i cs b hb f5 f6 a n))) ?hb)
  case hb =>
    intro n w
    rw [show chunkAcc i cs b hb f5 f6 a (n.val + 1) = pointAcc (ptOK i cs n) (wordsOf b hb f6 n) (rowOf b hb f5 n) (chunkAcc i cs b hb f5 f6 a n.val) from dif_pos n.isLt]
    exact wp_pointBody d i b hb cs n w f5 f6 _
  isplitl [H]; · iexact H
  iintro %w' H
  iapply HK
  rw [show Scf.trips ptLoop.lb ptLoop.ub ptLoop.st = 128 from ptLoop_trips]
  iexact H

end Cert.Proof
-- ==== Proof.Copy.lean ====
/- The clearing of the accumulator, and a task's copies: issuing one out of a table held by a read share, and waiting for it. -/
module

public import proofs.«01_k».proof.Proof.PointExec

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Clearing the accumulator -/

/-- The float word zero. -/
abbrev fzero : F .f32 := Scalar.ofBits .f32 0x00000000#32

/-- `a` with the rows before `r`, and the columns before `c` of row `r`, at zero. -/
def zeroTo (r c : ℕ) (a : Acc F) : Acc F := fun y => if (y 0).val < r ∨ ((y 0).val = r ∧ (y 1).val < c) then fzero else a y

theorem zeroTo_start (a : Acc F) : zeroTo 0 0 a = a := funext fun y => if_neg (by omega)
theorem zeroTo_row (r : ℕ) (a : Acc F) : zeroTo r 128 a = zeroTo (r + 1) 0 a := funext fun y => by
  have hy : (y 1).val < 128 := (y 1).isLt
  unfold zeroTo
  exact if_congr (by omega) rfl rfl
theorem zeroTo_all (a : Acc F) : zeroTo 128 0 a = fun _ => fzero := funext fun y => by
  have hy : (y 0).val < 128 := (y 0).isLt
  exact if_pos (.inl hy)

abbrev zOff (t : Fin ptLoop.trips) (col : ℕ) : Fin 2 → ℕ := ![(Scalar.indexCast (Scf.iv 0#32 1#32 t)).toNat, col]

theorem zOff_eq (t : Fin ptLoop.trips) (col : ℕ) : zOff t col = ![t.val, col] := by
  unfold zOff; rw [bufOff_row]

theorem zOff_inb (t : Fin ptLoop.trips) {col : ℕ} (hc : col + 16 ≤ 128) : ∀ x, zOff t col x + S1x16.size x ≤ S128x128.size x := by
  rw [zOff_eq]
  have ht : t.val + 1 ≤ 128 := t.isLt.trans_eq ptLoop_trips
  exact Fin.forall_fin_two.mpr ⟨ht, hc⟩

section
variable (i : grid1.Coords)

def zput (off : Fin 2 → ℕ) (inb : ∀ x, off x + S1x16.size x ≤ S128x128.size x) : TProg (F := F) i PUnit := do
  let _ : Vec F S1x16 .f32 ← Prog.lift (.load A7 (Rect.unit (s := S128x128) off S1x16.size inb).toLoadRect (View.loadsAt_vmem h_S1x16))
  Prog.lift (.store A7 (Rect.unit (s := S128x128) off S1x16.size inb) (shapeCast S1x16 (broadcast S16 (fzero : F .f32)) shapeCasts_S16_S1x16) Finset.univ (View.stores_vmem_bits_univ h_S1x16 rfl) (.inl rfl))

/-- Clearing one row. -/
def zeroBody (t : Fin ptLoop.trips) (_ : BitVec 32) : TProg (F := F) i (BitVec 32) := do
  zput i (zOff t 0) (zOff_inb t (show 0 + 16 ≤ 128 by decide))
  zput i (zOff t 16) (zOff_inb t (show 16 + 16 ≤ 128 by decide))
  zput i (zOff t 32) (zOff_inb t (show 32 + 16 ≤ 128 by decide))
  zput i (zOff t 48) (zOff_inb t (show 48 + 16 ≤ 128 by decide))
  zput i (zOff t 64) (zOff_inb t (show 64 + 16 ≤ 128 by decide))
  zput i (zOff t 80) (zOff_inb t (show 80 + 16 ≤ 128 by decide))
  zput i (zOff t 96) (zOff_inb t (show 96 + 16 ≤ 128 by decide))
  zput i (zOff t 112) (zOff_inb t (show 112 + 16 ≤ 128 by decide))
  pure 0#32
end

variable (d : Dev nD) (i : grid1.Coords)

theorem zero_put (a : Acc F) (r col : ℕ) :
    VecWindow.put (zeroTo r col a) ![r, col] S1x16.size (shapeCast S1x16 (broadcast S16 (fzero : F .f32)) shapeCasts_S16_S1x16) = zeroTo r (col + 16) a := by
  funext y
  unfold VecWindow.put
  by_cases h : (y 0).val = r ∧ col ≤ (y 1).val ∧ (y 1).val < col + 16
  · have h' : ∀ x : Fin 2, (![r, col] : Fin 2 → ℕ) x ≤ (y x).val ∧ (y x).val < (![r, col] : Fin 2 → ℕ) x + S1x16.size x :=
      Fin.forall_fin_two.mpr ⟨⟨h.1.ge, Nat.lt_succ_of_le h.1.le⟩, h.2⟩
    rw [dif_pos h']
    exact (if_pos (.inr ⟨h.1, h.2.2⟩)).symm
  · have h' : ¬ ∀ x : Fin 2, (![r, col] : Fin 2 → ℕ) x ≤ (y x).val ∧ (y x).val < (![r, col] : Fin 2 → ℕ) x + S1x16.size x :=
      fun hh => h ⟨Nat.le_antisymm (Nat.le_of_lt_succ (hh 0).2) (hh 0).1, hh 1⟩
    rw [dif_neg h']
    unfold zeroTo
    exact if_congr (by omega) rfl rfl

theorem wp_zput (a : Acc F) (t : Fin ptLoop.trips) (col : ℕ) (hc : col + 16 ≤ 128) {α : Type} (k : PUnit → TProg (F := F) i α) (Q : α → sProp 𝕄) :
    accPts d i (zeroTo t.val col a) ⊢ iprop((accPts d i (zeroTo t.val (col + 16) a) -∗ wpT d i (k ⟨⟩) Q) -∗ wpT d i (zput i (zOff t col) (zOff_inb t hc) >>= k) Q) := by
  have e := zOff_eq t col
  generalize_proofs inb
  revert inb
  rw [e]
  intro inb
  show _ ⊢ iprop(_ -∗ wp frame (wpE defs₀ 𝒱₀ (thr d i) none) Set.univ (.op (.load A7 _ _) fun _ => .op (.store A7 _ _ _ _ _) k) Q)
  iintro H Hk
  sl_step
  sl_step
  iapply Hk
  iapply (Entails.of_eq ?_) $$ H
  refine congrArg (fun f => (A7.view.loc (thr d i) ↦[A7.view.set]{fullShare} f : sProp 𝕄)) ?_
  exact (View.read_writes_cons_put (Val := Elt F) A7.view (zeroTo t.val col a : Buf (Elt F) (A7.view.loc (thr d i))) inb _ [] rfl).trans (zero_put a t.val col)

theorem wp_zeroBody (a : Acc F) (t : Fin ptLoop.trips) (x : BitVec 32) :
    accPts d i (zeroTo t.val 0 a) ⊢ wpT d i (zeroBody i t x) fun _ => accPts d i (zeroTo (t.val + 1) 0 a) := by
  unfold zeroBody
  iintro H
  iapply (wp_zput d i a t 0 (show 0 + 16 ≤ 128 by decide)) $$ H; iintro H
  iapply (wp_zput d i a t 16 (show 16 + 16 ≤ 128 by decide)) $$ H; iintro H
  iapply (wp_zput d i a t 32 (show 32 + 16 ≤ 128 by decide)) $$ H; iintro H
  iapply (wp_zput d i a t 48 (show 48 + 16 ≤ 128 by decide)) $$ H; iintro H
  iapply (wp_zput d i a t 64 (show 64 + 16 ≤ 128 by decide)) $$ H; iintro H
  iapply (wp_zput d i a t 80 (show 80 + 16 ≤ 128 by decide)) $$ H; iintro H
  iapply (wp_zput d i a t 96 (show 96 + 16 ≤ 128 by decide)) $$ H; iintro H
  iapply (wp_zput d i a t 112 (show 112 + 16 ≤ 128 by decide)) $$ H; iintro H
  rw [← zeroTo_row]
  iapply (le_wp_ret frame (wpE defs₀ 𝒱₀ (thr d i) none) Set.univ _ _)
  iexact H

/-- The clearing loop. -/
theorem wp_zero (a : Acc F) (x : BitVec 32) {R : BitVec 32 → sProp 𝕄} :
    accPts d i a ⊢ iprop((∀ w, accPts d i (fun _ => fzero) -∗ R w) -∗ wpT d i (Scf.Loop.for ptLoop ptLoop_ok x (zeroBody i)) R) := by
  iintro H HK
  iapply (Scf.wp_for frame (wpE defs₀ 𝒱₀ (thr d i) none) Set.univ ptLoop.lb ptLoop.ub ptLoop.st ptLoop_ok x
    (zeroBody i) (fun n _ => accPts d i (zeroTo n 0 a)) ?hb)
  case hb => intro n w; exact wp_zeroBody d i a n w
  isplitl [H]
  · rw [zeroTo_start]; iexact H
  iintro %w H
  iapply HK
  rw [show Scf.trips ptLoop.lb ptLoop.ub ptLoop.st = 128 from ptLoop_trips, zeroTo_all]
  iexact H

/-! ## Copies -/

section Copy

variable {sp : Space} {s : Shape} {e : EltTy} (src : Memref sig .scVector sp s e) {sp' : Space} (dst : Memref sig .scVector sp' s e) (sem : DmaSem sig)

/-- What a task owes, its waits recorded beyond `W` all at the index no other thread uses. -/
def owesB (O : CellTallies nD τ sig (HIx 1)) (W : Waits sig (HIx 1)) : sProp 𝕄 :=
  iprop(∃ W', ⌜∀ p ∈ W', p ∈ W ∨ p.2 = none⌝ ∗ owes (thr d i) O W')

/-- A copy in flight out of a table held on `S`: its wait brings the destination at `g` and the source's part of the table; the rest of the table beside it. -/
def fly (S : Finset (Idx (src.view.loc (thr d i)))) (q : PosShare TreeShare) (fs : Buf (Elt F) (src.view.loc (thr d i))) (g : Buf (Elt F) (dst.view.loc (thr d i))) : sProp 𝕄 :=
  iprop(Transfers.Flight countersEmb (thr d i) (.dma sem) (none : HIx 1) (dst.view.amount (.dma sem))
      iprop((dst.view.loc (thr d i) ↦[dst.view.set]{fullShare} g) ∗ (src.view.loc (thr d i) ↦[src.view.set]{q} fs))
    ∗ (src.view.loc (thr d i) ↦[S \ src.view.set]{q} fs))

theorem write_congr (f g : Buf (Elt F) (dst.view.loc (thr d i))) (w : s.Idx → Elt F e) (hg : dst.view.read (Elt F) g = w) :
    (dst.view.loc (thr d i) ↦[dst.view.set]{fullShare} (dst.view.write (Elt F) f w Finset.univ) : sProp 𝕄) = (dst.view.loc (thr d i) ↦[dst.view.set]{fullShare} g) := by
  refine pointsTo_congr fun y hy => ?_
  obtain ⟨x, -, rfl⟩ := Finset.mem_map.mp hy
  have h := congrFun ((View.read_write_univ (v := dst.view) (Val := Elt F) f w).trans hg.symm) x
  rw [View.read_apply, View.read_apply] at h
  exact (cast_inj _).mp h

theorem wp_enq {S : Finset (Idx (src.view.loc (thr d i)))} {q : PosShare TreeShare} {fs : Buf (Elt F) (src.view.loc (thr d i))} {g : Buf (Elt F) (dst.view.loc (thr d i))}
    (hS : src.view.set ⊆ S) (hn : 0 < s.numel) (hg : dst.view.read (Elt F) g = src.view.read (Elt F) fs)
    {h1 : src.view.WordExact} {h2 : dst.view.WordExact} {h3 : DmaTarget.Typed (nD := nD) (p := (thr d i).2) sp (.dma sem) (.here dst)} {R : PUnit → sProp 𝕄} :
    iprop((src.view.loc (thr d i) ↦[S]{q} fs) ∗ (∃ f, dst.view.loc (thr d i) ↦[dst.view.set]{fullShare} f) ∗ semVal (thr d i, .dma sem) 0)
      ⊢ iprop((fly d i src dst sem S q fs g -∗ R ⟨⟩) -∗ wpT d i (Prog.lift (.enqueueDma src (.here dst) (.dma sem) h1 h2 h3)) R) := by
  iintro ⟨Hs, ⟨%f, Hd⟩, Hv⟩ Hk
  ihave Hs' := (pointsTo_split_subset hS).1 $$ Hs
  icases Hs' with ⟨Hs, Hr⟩
  iapply (Transfers.wp_dmaLocal countersEmb 𝒱₀ (thr d i) none (none : HIx 1) _ rfl (View.amount_pos _ _ hn) (Finset.Subset.refl _)) $$ [Hs Hd Hv]
  · isplitl [Hs]; · iexact Hs
    isplitl [Hd]; · iexact Hd
    iexact Hv
  iintro Hf
  iapply (le_wp_ret frame (wpE defs₀ 𝒱₀ (thr d i) none) Set.univ _ _)
  iapply Hk
  unfold fly
  isplitl [Hf]
  · iapply (Transfers.Flight_mono countersEmb (thr d i) (sep_mono_left (Entails.of_eq (write_congr d i dst _ g _ hg)))) $$ Hf
  · iexact Hr

theorem wp_wait {S : Finset (Idx (src.view.loc (thr d i)))} {q : PosShare TreeShare} {fs : Buf (Elt F) (src.view.loc (thr d i))} {g : Buf (Elt F) (dst.view.loc (thr d i))}
    (hS : src.view.set ⊆ S) {O : CellTallies nD τ sig (HIx 1)} {W : Waits sig (HIx 1)}
    {h1 : src.view.WordExact} {h2 : dst.view.WordExact} {R : PUnit → sProp 𝕄} :
    iprop(fly d i src dst sem S q fs g ∗ Transfers.MayWaits (thr d i) (none : HIx 1) O ∗ owesB d i O W)
      ⊢ iprop((((src.view.loc (thr d i) ↦[S]{q} fs) ∗ (dst.view.loc (thr d i) ↦[dst.view.set]{fullShare} g) ∗ semVal (thr d i, .dma sem) 0 ∗ owesB d i O W) -∗ R ⟨⟩)
        -∗ wpT d i (Prog.lift (.waitDma2 sem src dst h1 h2)) R) := by
  unfold fly owesB
  iintro ⟨⟨Hf, Hr⟩, Hmw, %W', %hW', HO⟩ Hk
  ihave Hm := (Transfers.MayWaits.elim (.dma sem)) $$ Hmw
  iapply (Transfers.wp_waitLocalO countersEmb 𝒱₀ (thr d i) none (none : HIx 1) rfl) $$ [Hf HO Hm]
  · isplitl [Hf]; · iexact Hf
    isplitl [HO]; · iexact HO
    iexact Hm
  iintro ⟨⟨Hd, Hs⟩, Hv, HO⟩
  iapply (le_wp_ret frame (wpE defs₀ 𝒱₀ (thr d i) none) Set.univ _ _)
  iapply Hk
  isplitl [Hs Hr]
  · iapply (pointsTo_split_subset hS).2
    isplitl [Hs]; · iexact Hs
    iexact Hr
  isplitl [Hd]; · iexact Hd
  isplitl [Hv]; · iexact Hv
  iexists (insert (SemLoc.dma sem, (none : HIx 1)) W')
  isplitr
  · ipureintro
    intro p hp
    rcases Finset.mem_insert.mp hp with hp | hp
    · exact .inr (congrArg Prod.snd hp)
    · exact hW' p hp
  · iexact HO

end Copy

end Cert.Proof
-- ==== Proof.TileProg.lean ====
/- The task's body as a sequence: the clearing, then thirteen chunks whose copies are issued one ahead, then the copy of the accumulator out. -/
module

public import proofs.«01_k».proof.Proof.Copy

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section
variable (i : grid1.Coords)

/-- Chunk `k`'s rows, and its words. -/
abbrev src5 (k : Fin 13) : Memref sig .scVector .hbm S128x128 .f32 :=
  A2.slice (Rect.unit (s := S54000x128) (k1_off9 i (BitVec.ofNat 32 (128 * k.val))) S128x128.size (k1_off9_inb i k)) (fun _ => rfl)
abbrev src6 (k : Fin 13) : Memref sig .scVector .hbm S128x16 .i32 :=
  A3.slice (Rect.unit (s := S54000x16) (k1_off10 i (BitVec.ofNat 32 (128 * k.val))) S128x16.size (k1_off10_inb i k)) (fun _ => rfl)

theorem semAt_inb {n : ℕ} (hn : n < 4) : ∀ a, (![n] : Fin 1 → ℕ) a + S1.size a ≤ S4.size a := by
  intro a; fin_cases a; exact hn

/-- The copies' semaphores. -/
abbrev semAt (n : ℕ) (hn : n < 4) : DmaSem sig :=
  ((cc1_scratch3.slice (Rect.unit (s := S4) ![n] S1.size (semAt_inb hn))).squeeze S_ squeezes_S1_S_).sem

theorem sem5_lt {b : ℕ} (hb : b < 2) : 2 * b < 4 := by omega
theorem sem6_lt {b : ℕ} (hb : b < 2) : 2 * b + 1 < 4 := by omega
abbrev sem5 (b : ℕ) (hb : b < 2) : DmaSem sig := semAt (2 * b) (sem5_lt hb)
abbrev sem6 (b : ℕ) (hb : b < 2) : DmaSem sig := semAt (2 * b + 1) (sem6_lt hb)

def enq5 (k : Fin 13) (b : ℕ) (hb : b < 2) : TProg (F := F) i PUnit :=
  Prog.lift (.enqueueDma (src5 i k) (.here (half5 b hb)) (.dma (sem5 b hb)) (View.wordExact_bits rfl) ((View.wordExact_bits rfl).reshape _ _) ⟨Or.inl rfl, trivial⟩)
def enq6 (k : Fin 13) (b : ℕ) (hb : b < 2) : TProg (F := F) i PUnit :=
  Prog.lift (.enqueueDma (src6 i k) (.here (half6 b hb)) (.dma (sem6 b hb)) (View.wordExact_bits rfl) ((View.wordExact_bits rfl).reshape _ _) ⟨Or.inl rfl, trivial⟩)
def wait5 (k : Fin 13) (b : ℕ) (hb : b < 2) : TProg (F := F) i PUnit :=
  Prog.lift (.waitDma2 (sem5 b hb) (src5 i k) (half5 b hb) (View.wordExact_bits rfl) ((View.wordExact_bits rfl).reshape _ _))
def wait6 (k : Fin 13) (b : ℕ) (hb : b < 2) : TProg (F := F) i PUnit :=
  Prog.lift (.waitDma2 (sem6 b hb) (src6 i k) (half6 b hb) (View.wordExact_bits rfl) ((View.wordExact_bits rfl).reshape _ _))

theorem par_lt (k : Fin 13) : k.val % 2 < 2 := Nat.mod_lt _ Nat.two_pos

/-- Chunk `k`'s loop. -/
def chunkLoop (k : Fin 13) (b : ℕ) (hb : b < 2) : TProg (F := F) i (BitVec 32) :=
  Scf.Loop.for ptLoop ptLoop_ok 0#32 (pointBody i b hb (BitVec.ofNat 32 (128 * k.val)))

abbrev b0 : 0 < 2 := by decide
abbrev b1 : 1 < 2 := by decide

/-- Where the task's result lies, and the copy of the accumulator there. -/
abbrev dst4 : Memref sig .scVector .hbm S128x128 .f32 :=
  (A4.slice (Rect.unit (s := S32x128x128) (k1_off960 i) S1x128x128.size (k1_off960_inb i)) (fun _ => rfl)).squeeze S128x128 squeezes_S1x128x128_S128x128
def enqOut : TProg (F := F) i PUnit :=
  Prog.lift (.enqueueDma A7 (.here (dst4 i)) (.dma cc1_scoped0.sem) (Memref.isWhole_whole cc1_scratch2).wordExact ((View.wordExact_bits rfl).reshape _ _) ⟨Or.inl rfl, trivial⟩)
def waitOut : TProg (F := F) i PUnit :=
  Prog.lift (.waitDma2 cc1_scoped0.sem A7 (dst4 i) (Memref.isWhole_whole cc1_scratch2).wordExact ((View.wordExact_bits rfl).reshape _ _))

end

section Parts
variable (i : grid1.Coords)

/-! The windows the body is cut into, each as its own steps. -/

set_option maxHeartbeats 2000000 in
theorem part249_eq : k1_part249 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 = (do
    let _ ← Scf.Loop.for ptLoop ptLoop_ok 0#32 (zeroBody i)
    enq5 i 0 0 b0
    enq6 i 0 0 b0
    pure (tileBase i)) := rfl

set_option maxHeartbeats 2000000 in
theorem part250_eq : k1_part250 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait5 i 0 0 b0
    wait6 i 0 0 b0
    enq5 i 1 1 b1
    enq6 i 1 1 b1
    pure ⟨⟩) := rfl

set_option maxHeartbeats 2000000 in
theorem part251_eq : k1_part251 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    let _ ← chunkLoop i 0 0 b0
    wait5 i 1 1 b1
    wait6 i 1 1 b1
    pure ⟨⟩) := rfl

set_option maxHeartbeats 2000000 in
theorem part252_eq : k1_part252 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq5 i 2 0 b0
    enq6 i 2 0 b0
    let _ ← chunkLoop i 1 1 b1
    wait5 i 2 0 b0
    pure ⟨⟩) := rfl

set_option maxHeartbeats 2000000 in
theorem part253_eq : k1_part253 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait6 i 2 0 b0
    enq5 i 3 1 b1
    enq6 i 3 1 b1
    let _ ← chunkLoop i 2 0 b0
    pure ⟨⟩) := rfl

set_option maxHeartbeats 2000000 in
theorem part254_eq : k1_part254 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait5 i 3 1 b1
    wait6 i 3 1 b1
    enq5 i 4 0 b0
    enq6 i 4 0 b0
    pure ⟨Scalar.addi (tileBase i) 384#32, 0#32⟩) := rfl

set_option maxHeartbeats 2000000 in
theorem part255_eq : k1_part255 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) (Scalar.addi (tileBase i) 384#32) 0#32 = (do
    let _ ← chunkLoop i 3 1 b1
    wait5 i 4 0 b0
    wait6 i 4 0 b0
    enq5 i 5 1 b1
    pure ⟨⟩) := rfl

set_option maxHeartbeats 2000000 in
theorem part256_eq : k1_part256 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq6 i 5 1 b1
    let _ ← chunkLoop i 4 0 b0
    wait5 i 5 1 b1
    wait6 i 5 1 b1
    pure 768#32) := rfl

set_option maxHeartbeats 2000000 in
theorem part257_eq : k1_part257 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) 768#32 = (do
    enq5 i 6 0 b0
    enq6 i 6 0 b0
    let _ ← chunkLoop i 5 1 b1
    pure ⟨⟩) := rfl

set_option maxHeartbeats 2000000 in
theorem part258_eq : k1_part258 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait5 i 6 0 b0
    wait6 i 6 0 b0
    enq5 i 7 1 b1
    enq6 i 7 1 b1
    pure ⟨Scalar.addi (tileBase i) 768#32, 0#32, 0#32⟩) := rfl

set_option maxHeartbeats 2000000 in
theorem part259_eq : k1_part259 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) (Scalar.addi (tileBase i) 768#32) 0#32 0#32 = (do
    let _ ← chunkLoop i 6 0 b0
    wait5 i 7 1 b1
    wait6 i 7 1 b1
    enq5 i 8 0 b0
    pure ⟨⟩) := rfl

set_option maxHeartbeats 2000000 in
theorem part260_eq : k1_part260 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq6 i 8 0 b0
    let _ ← chunkLoop i 7 1 b1
    wait5 i 8 0 b0
    wait6 i 8 0 b0
    pure ⟨⟩) := rfl

set_option maxHeartbeats 2000000 in
theorem part261_eq : k1_part261 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq5 i 9 1 b1
    enq6 i 9 1 b1
    let _ ← chunkLoop i 8 0 b0
    wait5 i 9 1 b1
    pure ⟨⟩) := rfl

set_option maxHeartbeats 2000000 in
theorem part262_eq : k1_part262 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait6 i 9 1 b1
    enq5 i 10 0 b0
    enq6 i 10 0 b0
    let _ ← chunkLoop i 9 1 b1
    pure ⟨⟩) := rfl

set_option maxHeartbeats 2000000 in
theorem part263_eq : k1_part263 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    wait5 i 10 0 b0
    wait6 i 10 0 b0
    enq5 i 11 1 b1
    pure ⟨⟩) := rfl

set_option maxHeartbeats 2000000 in
theorem part264_eq : k1_part264 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq6 i 11 1 b1
    let _ ← chunkLoop i 10 0 b0
    wait5 i 11 1 b1
    wait6 i 11 1 b1
    pure ⟨⟩) := rfl

set_option maxHeartbeats 2000000 in
theorem part265_eq : k1_part265 (F := F) i A2 (Memref.isWhole_whole _) A3 (Memref.isWhole_whole _) A4 (Memref.isWhole_whole _) A5 (Memref.isWhole_whole _) A6 (Memref.isWhole_whole _) A7 (Memref.isWhole_whole _) cc1_scratch3 cc1_scoped0 (tileBase i) = (do
    enq5 i 12 0 b0
    enq6 i 12 0 b0
    let _ ← chunkLoop i 11 1 b1
    wait5 i 12 0 b0
    pure ⟨⟩) := rfl

end Parts

end Cert.Proof
-- ==== Proof.Tile.lean ====
/- A task's run: from its shares of the two tables, its buffers and its own block of the result, to the block at the maximum it computes. -/
module

public import proofs.«01_k».proof.Proof.TileProg

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid1.Coords)

abbrev ixRow (r c : Fin 128) : S128x128.Idx := fun a => match a with | 0 => r | 1 => c
abbrev ixWord (r : Fin 128) (c : Fin 16) : S128x16.Idx := fun a => match a with | 0 => r | 1 => c

/-- Chunk `k` of a table, as a half's contents. -/
def ch5 (fh : S54000x128.Idx → F .f32) (k : Fin 13) : S2x128x128.Idx → F .f32 := fun y => fh ((src5 i k).view.emb (ixRow (y 1) (y 2)))
def ch6 (fw : S54000x16.Idx → BitVec 32) (k : Fin 13) : S2x128x16.Idx → BitVec 32 := fun y => fw ((src6 i k).view.emb (ixWord (y 1) (y 2)))

theorem ixRow_eta (y : S128x128.Idx) : ixRow (y 0) (y 1) = y := funext (Fin.forall_fin_two.mpr ⟨rfl, rfl⟩)
theorem ixWord_eta (y : S128x16.Idx) : ixWord (y 0) (y 1) = y := funext (Fin.forall_fin_two.mpr ⟨rfl, rfl⟩)

theorem ch5_read (fh : S54000x128.Idx → F .f32) (k : Fin 13) (b : ℕ) (hb : b < 2) :
    (half5 b hb).view.read (Elt F) (ch5 i fh k : Buf (Elt F) ((half5 b hb).view.loc (thr d i))) = (src5 i k).view.read (Elt F) (fh : Buf (Elt F) ((src5 i k).view.loc (thr d i))) := by
  funext y
  show ch5 i fh k ((half5 b hb).view.emb y) = fh ((src5 i k).view.emb y)
  rw [half5_emb]
  exact congrArg (fun z => fh ((src5 i k).view.emb z)) (ixRow_eta y)

theorem ch6_read (fw : S54000x16.Idx → BitVec 32) (k : Fin 13) (b : ℕ) (hb : b < 2) :
    (half6 b hb).view.read (Elt F) (ch6 i fw k : Buf (Elt F) ((half6 b hb).view.loc (thr d i))) = (src6 i k).view.read (Elt F) (fw : Buf (Elt F) ((src6 i k).view.loc (thr d i))) := by
  funext y
  show ch6 i fw k ((half6 b hb).view.emb y) = fw ((src6 i k).view.emb y)
  rw [half6_emb]
  exact congrArg (fun z => fw ((src6 i k).view.emb z)) (ixWord_eta y)

/-- The accumulator after `n` points of chunk `k`. -/
def chunkVal (fh : S54000x128.Idx → F .f32) (fw : S54000x16.Idx → BitVec 32) (k : Fin 13) (a : Acc F) : ℕ → Acc F
  | 0 => a
  | n + 1 => if h : n < ptLoop.trips then
      pointAcc (ptOK i (BitVec.ofNat 32 (128 * k.val)) ⟨n, h⟩) (fun x => fw ((src6 i k).view.emb (ixWord (ptRow ⟨n, h⟩) (x 0))))
        (fun c => fh ((src5 i k).view.emb (ixRow (ptRow ⟨n, h⟩) c))) (chunkVal fh fw k a n) else a

theorem chunkAcc_eq (fh : S54000x128.Idx → F .f32) (fw : S54000x16.Idx → BitVec 32) (k : Fin 13) (a : Acc F) (b : ℕ) (hb : b < 2) (n : ℕ) :
    chunkAcc i (BitVec.ofNat 32 (128 * k.val)) b hb (ch5 i fh k) (ch6 i fw k) a n = chunkVal i fh fw k a n := by
  induction n with
  | zero => rfl
  | succ n ih =>
    unfold chunkAcc chunkVal
    by_cases h : n < ptLoop.trips
    · rw [dif_pos h, dif_pos h, ih]; rfl
    · rw [dif_neg h, dif_neg h]

/-- The accumulator after `k` chunks. -/
def tileAcc (fh : S54000x128.Idx → F .f32) (fw : S54000x16.Idx → BitVec 32) : ℕ → Acc F
  | 0 => fun _ => fzero
  | k + 1 => if h : k < 13 then chunkVal i fh fw ⟨k, h⟩ (tileAcc fh fw k) 128 else tileAcc fh fw k

section Run

variable (q : PosShare TreeShare) (fh : S54000x128.Idx → F .f32) (fw : S54000x16.Idx → BitVec 32)

/-- A table held by a read share. -/
abbrev tab5 : sProp 𝕄 := (A2.view.loc (thr d i) ↦[Finset.univ]{q} (fh : Buf (Elt F) (A2.view.loc (thr d i))))
abbrev tab6 : sProp 𝕄 := (A3.view.loc (thr d i) ↦[Finset.univ]{q} (fw : Buf (Elt F) (A3.view.loc (thr d i))))

abbrev fly5 (k : Fin 13) (b : ℕ) (hb : b < 2) : sProp 𝕄 := fly d i (src5 i k) (half5 b hb) (sem5 b hb) Finset.univ q (fh : Buf (Elt F) (A2.view.loc (thr d i))) (ch5 i fh k : Buf (Elt F) (A5.view.loc (thr d i)))
abbrev fly6 (k : Fin 13) (b : ℕ) (hb : b < 2) : sProp 𝕄 := fly d i (src6 i k) (half6 b hb) (sem6 b hb) Finset.univ q (fw : Buf (Elt F) (A3.view.loc (thr d i))) (ch6 i fw k : Buf (Elt F) (A6.view.loc (thr d i)))

/-- A half at rest, its counter at zero. -/
def idle5 (b : ℕ) (hb : b < 2) : sProp 𝕄 := iprop((∃ f, (half5 b hb).view.loc (thr d i) ↦[(half5 b hb).view.set]{fullShare} f) ∗ semVal (thr d i, .dma (sem5 b hb)) 0)
def idle6 (b : ℕ) (hb : b < 2) : sProp 𝕄 := iprop((∃ f, (half6 b hb).view.loc (thr d i) ↦[(half6 b hb).view.set]{fullShare} f) ∗ semVal (thr d i, .dma (sem6 b hb)) 0)

theorem wp_enq5 (k : Fin 13) (b : ℕ) (hb : b < 2) {R : PUnit → sProp 𝕄} :
    iprop(tab5 d i q fh ∗ idle5 d i b hb) ⊢ iprop((fly5 d i q fh k b hb -∗ R ⟨⟩) -∗ wpT d i (enq5 i k b hb) R) :=
  wp_enq d i (src5 i k) (half5 b hb) (sem5 b hb) (Finset.subset_univ _) (show 0 < S128x128.numel by decide) (ch5_read i fh k b hb)
theorem wp_enq6 (k : Fin 13) (b : ℕ) (hb : b < 2) {R : PUnit → sProp 𝕄} :
    iprop(tab6 d i q fw ∗ idle6 d i b hb) ⊢ iprop((fly6 d i q fw k b hb -∗ R ⟨⟩) -∗ wpT d i (enq6 i k b hb) R) :=
  wp_enq d i (src6 i k) (half6 b hb) (sem6 b hb) (Finset.subset_univ _) (show 0 < S128x16.numel by decide) (ch6_read i fw k b hb)

variable (O : CellTallies nD τ sig (HIx 1)) (W : Waits sig (HIx 1))

theorem wp_wait5 (k : Fin 13) (b : ℕ) (hb : b < 2) {R : PUnit → sProp 𝕄} :
    iprop(fly5 d i q fh k b hb ∗ Transfers.MayWaits (thr d i) (none : HIx 1) O ∗ owesB d i O W)
      ⊢ iprop(((tab5 d i q fh ∗ pts5 d i b hb (ch5 i fh k) ∗ semVal (thr d i, .dma (sem5 b hb)) 0 ∗ owesB d i O W) -∗ R ⟨⟩) -∗ wpT d i (wait5 i k b hb) R) :=
  wp_wait d i (src5 i k) (half5 b hb) (sem5 b hb) (Finset.subset_univ _)
theorem wp_wait6 (k : Fin 13) (b : ℕ) (hb : b < 2) {R : PUnit → sProp 𝕄} :
    iprop(fly6 d i q fw k b hb ∗ Transfers.MayWaits (thr d i) (none : HIx 1) O ∗ owesB d i O W)
      ⊢ iprop(((tab6 d i q fw ∗ pts6 d i b hb (ch6 i fw k) ∗ semVal (thr d i, .dma (sem6 b hb)) 0 ∗ owesB d i O W) -∗ R ⟨⟩) -∗ wpT d i (wait6 i k b hb) R) :=
  wp_wait d i (src6 i k) (half6 b hb) (sem6 b hb) (Finset.subset_univ _)

theorem wp_chunkLoop (k : Fin 13) (b : ℕ) (hb : b < 2) (a : Acc F) {R : BitVec 32 → sProp 𝕄} :
    iprop(pts5 d i b hb (ch5 i fh k) ∗ pts6 d i b hb (ch6 i fw k) ∗ accPts d i a)
      ⊢ iprop((∀ w, (pts5 d i b hb (ch5 i fh k) ∗ pts6 d i b hb (ch6 i fw k) ∗ accPts d i (chunkVal i fh fw k a 128)) -∗ R w) -∗ wpT d i (chunkLoop i k b hb) R) := by
  rw [← chunkAcc_eq i fh fw k a b hb 128]
  iintro H HK
  iapply (wp_chunk d i b hb (BitVec.ofNat 32 (128 * k.val)) 0#32 (ch5 i fh k) (ch6 i fw k) a) $$ H
  iexact HK

/-- Chunk `k`'s copies in flight, the other halves at rest, the accumulator at `a`. -/
def St (k : Fin 13) (b : ℕ) (hb : b < 2) (b' : ℕ) (hb' : b' < 2) (a : Acc F) : sProp 𝕄 :=
  iprop(fly5 d i q fh k b hb ∗ fly6 d i q fw k b hb ∗ idle5 d i b' hb' ∗ idle6 d i b' hb' ∗ accPts d i a
    ∗ Transfers.MayWaits (thr d i) (none : HIx 1) O ∗ owesB d i O W)

/-- A round: chunk `k` arrives, the next one's copies are issued, and the chunk is reduced. -/
theorem wp_round (k k' : Fin 13) (b : ℕ) (hb : b < 2) (b' : ℕ) (hb' : b' < 2) (a : Acc F) {R : sProp 𝕄} :
    St d i q fh fw O W k b hb b' hb' a
      ⊢ iprop((St d i q fh fw O W k' b' hb' b hb (chunkVal i fh fw k a 128) -∗ R)
        -∗ wpT d i (wait5 i k b hb) fun _ => wpT d i (wait6 i k b hb) fun _ => wpT d i (enq5 i k' b' hb') fun _ => wpT d i (enq6 i k' b' hb') fun _ =>
          wpT d i (chunkLoop i k b hb) fun _ => R) := by
  unfold St
  iintro ⟨H5, H6, Hi5, Hi6, Ha, #Hmw, HO⟩ HK
  iapply (wp_wait5 d i q fh O W k b hb) $$ [H5 HO]
  · isplitl [H5]; · iexact H5
    isplitr; · iexact Hmw
    iexact HO
  iintro ⟨Ht5, Hp5, Hs5, HO⟩
  iapply (wp_wait6 d i q fw O W k b hb) $$ [H6 HO]
  · isplitl [H6]; · iexact H6
    isplitr; · iexact Hmw
    iexact HO
  iintro ⟨Ht6, Hp6, Hs6, HO⟩
  iapply (wp_enq5 d i q fh k' b' hb') $$ [Ht5 Hi5]
  · isplitl [Ht5]; · iexact Ht5
    iexact Hi5
  iintro H5
  iapply (wp_enq6 d i q fw k' b' hb') $$ [Ht6 Hi6]
  · isplitl [Ht6]; · iexact Ht6
    iexact Hi6
  iintro H6
  iapply (wp_chunkLoop d i fh fw k b hb a) $$ [Hp5 Hp6 Ha]
  · isplitl [Hp5]; · iexact Hp5
    isplitl [Hp6]; · iexact Hp6
    iexact Ha
  iintro %w ⟨Hp5, Hp6, Ha⟩
  iapply HK
  isplitl [H5]; · iexact H5
  isplitl [H6]; · iexact H6
  isplitl [Hp5 Hs5]
  · unfold idle5; isplitl [Hp5]; · iexists _; iexact Hp5
    iexact Hs5
  isplitl [Hp6 Hs6]
  · unfold idle6; isplitl [Hp6]; · iexists _; iexact Hp6
    iexact Hs6
  isplitl [Ha]; · iexact Ha
  isplitr; · iexact Hmw
  iexact HO

/-! ## The result's block -/

def tileOf (w : Fin 32) : grid1.Coords := fun a => match a with
  | 0 => ⟨w.val % 2, Nat.mod_lt _ Nat.two_pos⟩
  | 1 => ⟨w.val / 2, Nat.div_lt_of_lt_mul w.isLt⟩

/-- The result whole: block `w` is tile `w`'s accumulator. -/
def outOf : S32x128x128.Idx → F .f32 := fun y => tileAcc (tileOf (y 0)) fh fw 13 (ixRow (y 1) (y 2))

end Run

end Cert.Proof
-- ==== Proof.TileRun.lean ====
/- A task's run, whole: the body as the call runs it. -/
module

public import proofs.«01_k».proof.Proof.Tile

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid1.Coords)

/-! ## A buffer and its halves -/

theorem half5_mem {b : ℕ} (hb : b < 2) (y : S2x128x128.Idx) : y ∈ (half5 b hb).view.set ↔ (y 0).val = b := by
  constructor
  · intro h
    obtain ⟨x, -, rfl⟩ := Finset.mem_map.mp h
    exact congrArg (fun z : S2x128x128.Idx => (z 0).val) (half5_emb hb x)
  · intro h
    have e : (half5 b hb).view.emb (ixRow (y 1) (y 2)) = y := by
      rw [half5_emb]
      refine funext fun a => ?_
      match a with
      | 0 => exact Fin.ext h.symm
      | 1 => rfl
      | 2 => rfl
    exact e ▸ View.emb_mem_set (half5 b hb).view _

theorem half6_mem {b : ℕ} (hb : b < 2) (y : S2x128x16.Idx) : y ∈ (half6 b hb).view.set ↔ (y 0).val = b := by
  constructor
  · intro h
    obtain ⟨x, -, rfl⟩ := Finset.mem_map.mp h
    exact congrArg (fun z : S2x128x16.Idx => (z 0).val) (half6_emb hb x)
  · intro h
    have e : (half6 b hb).view.emb (ixWord (y 1) (y 2)) = y := by
      rw [half6_emb]
      refine funext fun a => ?_
      match a with
      | 0 => exact Fin.ext h.symm
      | 1 => rfl
      | 2 => rfl
    exact e ▸ View.emb_mem_set (half6 b hb).view _

theorem half5_rest : (Finset.univ : Finset S2x128x128.Idx) \ (half5 0 b0).view.set = (half5 1 b1).view.set := by
  ext y
  have hy : (y 0).val < 2 := (y 0).isLt
  rw [Finset.mem_sdiff, half5_mem, half5_mem]
  exact ⟨fun h => by have := h.2; omega, fun h => ⟨Finset.mem_univ _, by omega⟩⟩
theorem half6_rest : (Finset.univ : Finset S2x128x16.Idx) \ (half6 0 b0).view.set = (half6 1 b1).view.set := by
  ext y
  have hy : (y 0).val < 2 := (y 0).isLt
  rw [Finset.mem_sdiff, half6_mem, half6_mem]
  exact ⟨fun h => by have := h.2; omega, fun h => ⟨Finset.mem_univ _, by omega⟩⟩

/-- A buffer held whole at contents not chosen. -/
abbrev anyBuf {s : Shape} {e : EltTy} {sp : Space} (m : Memref sig .scVector sp s e) : sProp 𝕄 := iprop(∃ f, m.view.loc (thr d i) ↦[Finset.univ]{fullShare} f)
abbrev anyPart {s : Shape} {e : EltTy} {sp : Space} (m : Memref sig .scVector sp s e) : sProp 𝕄 := iprop(∃ f, m.view.loc (thr d i) ↦[m.view.set]{fullShare} f)

theorem halves5_split : (anyBuf d i A5 : sProp 𝕄) ⊢ iprop(anyPart d i (half5 0 b0) ∗ anyPart d i (half5 1 b1)) := by
  iintro ⟨%f, H⟩
  ihave H' := (pointsTo_split_subset (Finset.subset_univ (half5 0 b0).view.set)).1 $$ H
  icases H' with ⟨H0, H1⟩
  isplitl [H0]; · iexists _; iexact H0
  iexists f
  iapply (Entails.of_eq (congrArg (fun S => (A5.view.loc (thr d i) ↦[S]{fullShare} f : sProp 𝕄)) half5_rest)) $$ H1
theorem halves6_split : (anyBuf d i A6 : sProp 𝕄) ⊢ iprop(anyPart d i (half6 0 b0) ∗ anyPart d i (half6 1 b1)) := by
  iintro ⟨%f, H⟩
  ihave H' := (pointsTo_split_subset (Finset.subset_univ (half6 0 b0).view.set)).1 $$ H
  icases H' with ⟨H0, H1⟩
  isplitl [H0]; · iexists _; iexact H0
  iexists f
  iapply (Entails.of_eq (congrArg (fun S => (A6.view.loc (thr d i) ↦[S]{fullShare} f : sProp 𝕄)) half6_rest)) $$ H1
theorem halves5_join : iprop(anyPart d i (half5 0 b0) ∗ anyPart d i (half5 1 b1)) ⊢ (anyBuf d i A5 : sProp 𝕄) := by
  iintro ⟨⟨%f, H0⟩, %g, H1⟩
  iexists _
  iapply (pointsTo_join_subset (f := g) (g := f) (Finset.subset_univ (half5 0 b0).view.set))
  isplitl [H0]; · iexact H0
  iapply (Entails.of_eq (congrArg (fun S => (A5.view.loc (thr d i) ↦[S]{fullShare} g : sProp 𝕄)) half5_rest.symm)) $$ H1
theorem halves6_join : iprop(anyPart d i (half6 0 b0) ∗ anyPart d i (half6 1 b1)) ⊢ (anyBuf d i A6 : sProp 𝕄) := by
  iintro ⟨⟨%f, H0⟩, %g, H1⟩
  iexists _
  iapply (pointsTo_join_subset (f := g) (g := f) (Finset.subset_univ (half6 0 b0).view.set))
  isplitl [H0]; · iexact H0
  iapply (Entails.of_eq (congrArg (fun S => (A6.view.loc (thr d i) ↦[S]{fullShare} g : sProp 𝕄)) half6_rest.symm)) $$ H1

/-! ## The result's block -/

theorem dst4_emb (y : S128x128.Idx) (a : Fin 3) : ((dst4 i).view.emb y a).val = match a with | 0 => 2 * (i 1).val + (i 0).val | 1 => (y 0).val | 2 => (y 1).val := by
  have e : (dst4 i).view.emb y = (Rect.unit (s := S32x128x128) (k1_off960 i) S1x128x128.size (k1_off960_inb i)).emb (Fin.cons ⟨0, Nat.one_pos⟩ y : S1x128x128.Idx) := by
    show (Rect.unit (s := S32x128x128) (k1_off960 i) S1x128x128.size (k1_off960_inb i)).emb (Shape.reshapeEquiv squeezes_S1x128x128_S128x128.numel_eq y) = _
    exact congrArg _ (Shape.reshapeEquiv_cons_one (d := ![128, 128]) squeezes_S1x128x128_S128x128.numel_eq y)
  rw [e]
  show k1_off960 i a + 1 * ((Fin.cons ⟨0, Nat.one_pos⟩ y : S1x128x128.Idx) a).val = _
  rw [k1_off960_eq]
  match a with
  | 0 => rfl
  | 1 => show 0 + 1 * (y 0).val = (y 0).val; rw [Nat.one_mul, Nat.zero_add]
  | 2 => show 0 + 1 * (y 1).val = (y 1).val; rw [Nat.one_mul, Nat.zero_add]

theorem dst4_tile (y : S128x128.Idx) : tileOf ((dst4 i).view.emb y 0) = i := by
  have h : ((dst4 i).view.emb y 0).val = 2 * (i 1).val + (i 0).val := dst4_emb i y 0
  have h0 : (i 0).val < 2 := (i 0).isLt
  refine funext (Fin.forall_fin_two.mpr ⟨Fin.ext ?_, Fin.ext ?_⟩)
  · show ((dst4 i).view.emb y 0).val % 2 = (i 0).val
    rw [h]; omega
  · show ((dst4 i).view.emb y 0).val / 2 = (i 1).val
    rw [h]; omega

variable (q : PosShare TreeShare) (fh : S54000x128.Idx → F .f32) (fw : S54000x16.Idx → BitVec 32)

theorem tileAcc_succ (k k' : Fin 13) (h : k'.val = k.val + 1) : tileAcc i fh fw k'.val = chunkVal i fh fw k (tileAcc i fh fw k.val) 128 := by
  rw [h, tileAcc, dif_pos k.isLt]

theorem tileAcc_last : tileAcc i fh fw 13 = chunkVal i fh fw 12 (tileAcc i fh fw (12 : Fin 13).val) 128 := by
  rw [tileAcc, dif_pos (show 12 < 13 by decide)]; rfl

theorem read_out (f : S32x128x128.Idx → F .f32) (g : Acc F) (h : ∀ y, f ((dst4 i).view.emb y) = g y) :
    (dst4 i).view.read (Elt F) (f : Buf (Elt F) ((dst4 i).view.loc (thr d i))) = A7.view.read (Elt F) (g : Buf (Elt F) (A7.view.loc (thr d i))) :=
  funext h

theorem dst4_row (y : S128x128.Idx) : ixRow ((dst4 i).view.emb y 1) ((dst4 i).view.emb y 2) = y :=
  funext (Fin.forall_fin_two.mpr ⟨Fin.ext (dst4_emb i y 1), Fin.ext (dst4_emb i y 2)⟩)

theorem outOf_read : (dst4 i).view.read (Elt F) (outOf fh fw : Buf (Elt F) ((dst4 i).view.loc (thr d i))) = A7.view.read (Elt F) (tileAcc i fh fw 13 : Buf (Elt F) (A7.view.loc (thr d i))) := by
  refine read_out i _ _ fun y => ?_
  rw [outOf, dst4_tile]
  exact congrArg (tileAcc i fh fw 13) (dst4_row i y)

/-- The task's block of the result at `f`. -/
abbrev blk (f : S32x128x128.Idx → F .f32) : sProp 𝕄 := (A4.view.loc (thr d i) ↦[(dst4 i).view.set]{fullShare} (f : Buf (Elt F) (A4.view.loc (thr d i))))

abbrev cSem (n : ℕ) (hn : n < 4) : sProp 𝕄 := semVal (thr d i, .dma (semAt n hn)) 0
abbrev oSem : sProp 𝕄 := semVal (thr d i, .dma cc1_scoped0.sem) 0

/-- A round, on the accumulator of the chunks so far. -/
theorem wp_step (O : CellTallies nD τ sig (HIx 1)) (W : Waits sig (HIx 1)) (k k' : Fin 13) (h : k'.val = k.val + 1) (b : ℕ) (hb : b < 2) (b' : ℕ) (hb' : b' < 2) {R : sProp 𝕄} :
    St d i q fh fw O W k b hb b' hb' (tileAcc i fh fw k.val)
      ⊢ iprop((St d i q fh fw O W k' b' hb' b hb (tileAcc i fh fw k'.val) -∗ R)
        -∗ wpT d i (wait5 i k b hb) fun _ => wpT d i (wait6 i k b hb) fun _ => wpT d i (enq5 i k' b' hb') fun _ => wpT d i (enq6 i k' b' hb') fun _ =>
          wpT d i (chunkLoop i k b hb) fun _ => R) := by
  rw [tileAcc_succ i fh fw k k' h]
  exact wp_round d i q fh fw O W k k' b hb b' hb' _

/-- The body on a task's resources. -/
theorem wp_tile (O : CellTallies nD τ sig (HIx 1)) (W : Waits sig (HIx 1)) :
    iprop(tab5 d i q fh ∗ tab6 d i q fw ∗ (∃ f, blk d i f) ∗ anyBuf d i A5 ∗ anyBuf d i A6 ∗ anyPart d i A7
        ∗ cSem d i 0 (by decide) ∗ cSem d i 1 (by decide) ∗ cSem d i 2 (by decide) ∗ cSem d i 3 (by decide) ∗ oSem d i
        ∗ Transfers.MayWaits (thr d i) (none : HIx 1) O ∗ owesB d i O W)
      ⊢ wpT d i (cc1_sc_seg_max (F := F) i A2 (Memref.isWhole_whole _) A3 (Memref.isWhole_whole _) A4 (Memref.isWhole_whole _) A5 (Memref.isWhole_whole _)
          A6 (Memref.isWhole_whole _) A7 (Memref.isWhole_whole _) cc1_scratch3 cc1_scoped0) fun _ =>
        iprop(tab5 d i q fh ∗ tab6 d i q fw ∗ blk d i (outOf fh fw) ∗ anyBuf d i A5 ∗ anyBuf d i A6 ∗ anyPart d i A7
          ∗ cSem d i 0 (by decide) ∗ cSem d i 1 (by decide) ∗ cSem d i 2 (by decide) ∗ cSem d i 3 (by decide) ∗ oSem d i ∗ owesB d i O W) := by
  unfold cc1_sc_seg_max
  simp only [part249_eq, part250_eq, part251_eq, part252_eq, part253_eq, part254_eq, part255_eq, part256_eq, part257_eq, part258_eq, part259_eq, part260_eq,
    part261_eq, part262_eq, part263_eq, part264_eq, part265_eq, bind_assoc, pure_bind, wp_bind, wp_pure]
  iintro ⟨H5, H6, Ho, Hb5, Hb6, ⟨%fa, Ha⟩, Hs0, Hs1, Hs2, Hs3, Hso, #Hmw, HO⟩
  ihave Hb5 := (halves5_split d i) $$ Hb5
  icases Hb5 with ⟨Hp5, Hq5⟩
  ihave Hb6 := (halves6_split d i) $$ Hb6
  icases Hb6 with ⟨Hp6, Hq6⟩
  iapply (wp_zero d i fa 0#32) $$ Ha
  iintro %w Ha
  iapply (wp_enq5 d i q fh 0 0 b0) $$ [H5 Hp5 Hs0]
  · unfold idle5; isplitl [H5]; · iexact H5
    isplitl [Hp5]; · iexact Hp5
    iexact Hs0
  iintro H5
  iapply (wp_enq6 d i q fw 0 0 b0) $$ [H6 Hp6 Hs1]
  · unfold idle6; isplitl [H6]; · iexact H6
    isplitl [Hp6]; · iexact Hp6
    iexact Hs1
  iintro H6
  iapply (wp_step d i q fh fw O W 0 1 rfl 0 b0 1 b1) $$ [H5 H6 Hq5 Hq6 Hs2 Hs3 Ha HO]
  · unfold St idle5 idle6
    isplitl [H5]; · iexact H5
    isplitl [H6]; · iexact H6
    isplitl [Hq5 Hs2]; · isplitl [Hq5]; · iexact Hq5
                         iexact Hs2
    isplitl [Hq6 Hs3]; · isplitl [Hq6]; · iexact Hq6
                         iexact Hs3
    isplitl [Ha]; · iexact Ha
    isplitr; · iexact Hmw
    iexact HO
  iintro HS
  iapply (wp_step d i q fh fw O W 1 2 rfl 1 b1 0 b0) $$ HS; iintro HS
  iapply (wp_step d i q fh fw O W 2 3 rfl 0 b0 1 b1) $$ HS; iintro HS
  iapply (wp_step d i q fh fw O W 3 4 rfl 1 b1 0 b0) $$ HS; iintro HS
  iapply (wp_step d i q fh fw O W 4 5 rfl 0 b0 1 b1) $$ HS; iintro HS
  iapply (wp_step d i q fh fw O W 5 6 rfl 1 b1 0 b0) $$ HS; iintro HS
  iapply (wp_step d i q fh fw O W 6 7 rfl 0 b0 1 b1) $$ HS; iintro HS
  iapply (wp_step d i q fh fw O W 7 8 rfl 1 b1 0 b0) $$ HS; iintro HS
  iapply (wp_step d i q fh fw O W 8 9 rfl 0 b0 1 b1) $$ HS; iintro HS
  iapply (wp_step d i q fh fw O W 9 10 rfl 1 b1 0 b0) $$ HS; iintro HS
  iapply (wp_step d i q fh fw O W 10 11 rfl 0 b0 1 b1) $$ HS; iintro HS
  iapply (wp_step d i q fh fw O W 11 12 rfl 1 b1 0 b0) $$ HS; iintro HS
  unfold St idle5 idle6
  icases HS with ⟨H5, H6, ⟨Hq5, Hs2⟩, ⟨Hq6, Hs3⟩, Ha, -, HO⟩
  iapply (wp_wait5 d i q fh O W 12 0 b0) $$ [H5 HO]
  · isplitl [H5]; · iexact H5
    isplitr; · iexact Hmw
    iexact HO
  iintro ⟨Ht5, Hp5, Hs0, HO⟩
  iapply (wp_wait6 d i q fw O W 12 0 b0) $$ [H6 HO]
  · isplitl [H6]; · iexact H6
    isplitr; · iexact Hmw
    iexact HO
  iintro ⟨Ht6, Hp6, Hs1, HO⟩
  iapply (wp_chunkLoop d i fh fw 12 0 b0) $$ [Hp5 Hp6 Ha]
  · isplitl [Hp5]; · iexact Hp5
    isplitl [Hp6]; · iexact Hp6
    iexact Ha
  iintro %w' ⟨Hp5, Hp6, Ha⟩
  ihave Ha := (Entails.of_eq (congrArg (accPts d i) (tileAcc_last i fh fw).symm)) $$ Ha
  iapply (wp_enq d i A7 (dst4 i) cc1_scoped0.sem (Finset.Subset.refl _) (show 0 < S128x128.numel by decide) (outOf_read i fh fw)) $$ [Ha Ho Hso]
  · isplitl [Ha]; · iexact Ha
    isplitl [Ho]; · iexact Ho
    iexact Hso
  iintro Hf
  iapply (wp_wait d i A7 (dst4 i) cc1_scoped0.sem (Finset.Subset.refl _)) $$ [Hf HO]
  · isplitl [Hf]; · iexact Hf
    isplitr; · iexact Hmw
    iexact HO
  iintro ⟨Ha, Ho, Hso, HO⟩
  imodintro
  isplitl [Ht5]; · iexact Ht5
  isplitl [Ht6]; · iexact Ht6
  isplitl [Ho]; · iexact Ho
  isplitl [Hp5 Hq5]
  · iapply (halves5_join d i)
    isplitl [Hp5]; · iexists _; iexact Hp5
    iexact Hq5
  isplitl [Hp6 Hq6]
  · iapply (halves6_join d i)
    isplitl [Hp6]; · iexists _; iexact Hp6
    iexact Hq6
  isplitl [Ha]; · iexists _; iexact Ha
  isplitl [Hs0]; · iexact Hs0
  isplitl [Hs1]; · iexact Hs1
  isplitl [Hs2]; · iexact Hs2
  isplitl [Hs3]; · iexact Hs3
  isplitl [Hso]; · iexact Hso
  iexact HO

end Cert.Proof
-- ==== Proof.Task.lean ====
/- A task of the SparseCore call as the launch sees it: what it is handed, what it hands back, and its run. -/
module

public import proofs.«01_k».proof.Proof.TileRun

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.SparseCore (S V T)
open Idealize.ShloMosaic.SparseCore.Cfg (Pay ownBufs ownSems0 ownCells ownRefs mem_ownCells mem_ownRefs)

/-! ## What the handshakes carry -/

/-- The share of a table a tile reads by: a SparseCore's, dealt to its tiles. -/
def tileShare (i : grid1.Coords) : PosShare TreeShare :=
  Transfers.dealOf (Transfers.dealOf fullShare (Finset.univ : Finset (Fin 2)) (i 0)) (Finset.univ : Finset (Fin 16)) (i 1)

variable (fh : Dev nD → S54000x128.Idx → F .f32) (fw : Dev nD → S54000x16.Idx → BitVec 32) (fo : Dev nD → S32x128x128.Idx → F .f32)

/-- What a task is handed: its shares of the two tables and its block of the result. -/
def taskIn (d : Dev nD) (i : grid1.Coords) : sProp 𝕄 :=
  iprop(tab5 d i (tileShare i) (fh d) ∗ tab6 d i (tileShare i) (fw d) ∗ blk d i (fo d))
/-- What it hands back: the same, its block of the result the maxima of its points. -/
def taskOut (d : Dev nD) (i : grid1.Coords) : sProp 𝕄 :=
  iprop(tab5 d i (tileShare i) (fh d) ∗ tab6 d i (tileShare i) (fw d) ∗ blk d i (outOf (fh d) (fw d)))

def coordsV (c : Fin (grid1.bound 0)) (s : Fin (grid1.bound 1)) : grid1.Coords :=
  fun | 0 => c | 1 => s | ⟨_ + 2, h⟩ => absurd h (Nat.not_lt.2 (Nat.le_add_left _ _))

theorem nSub_eq (q : Fin 1) : (K (F := F)).nSub q = 16 := match q with | 0 => rfl
theorem nCore_eq (q : Fin 1) : (K (F := F)).nCore q = 2 := match q with | 0 => rfl

abbrev tcoord (q : Fin 1) (c : Fin ((K (F := F)).nCore q)) (j : Fin ((K (F := F)).nSub q)) : grid1.Coords :=
  coordsV (Fin.cast (nCore_eq q) c) (Fin.cast (nSub_eq q) j)

def P : (K (F := F)).Pay (nD := nD) (Val := Elt F) (Name := ℕ) (U := UU) where
  st := fun q d c => bigSep Finset.univ fun j => taskIn fh fw fo d (tcoord q c j)
  dn := fun q d c => bigSep Finset.univ fun j => taskOut fh fw d (tcoord q c j)
  go := fun q d c j => taskIn fh fw fo d (tcoord q c j)
  td := fun q d c j => taskOut fh fw d (tcoord q c j)
  x := fun _ _ => iprop(emp)

instance taskIn_storable (d : Dev nD) (i : grid1.Coords) : BI.Storable (upEmb : UEmb _ 𝕄) (taskIn fh fw fo d i) := by unfold taskIn; infer_instance
instance taskOut_storable (d : Dev nD) (i : grid1.Coords) : BI.Storable (upEmb : UEmb _ 𝕄) (taskOut fh fw d i) := by unfold taskOut; infer_instance

instance P_storable : (P (F := F) fh fw fo).IsStorable where
  st q d c := (inferInstance : BI.Storable (upEmb : UEmb _ 𝕄) (bigSep Finset.univ fun j => taskIn fh fw fo d (tcoord q c j)))
  dn q d c := (inferInstance : BI.Storable (upEmb : UEmb _ 𝕄) (bigSep Finset.univ fun j => taskOut fh fw d (tcoord q c j)))
  go q d c j := (inferInstance : BI.Storable (upEmb : UEmb _ 𝕄) (taskIn fh fw fo d (tcoord q c j)))
  td q d c j := (inferInstance : BI.Storable (upEmb : UEmb _ 𝕄) (taskOut fh fw d (tcoord q c j)))

theorem keep_split {A B C : sProp 𝕄} (h : A ⊢ B) : A ⊢ |={Set.univ}=> iprop(B ∗ (C -∗ C)) := by
  iintro H; imodintro
  isplitl [H]; · iapply h; iexact H
  iintro H; iexact H

theorem vecSplit : (K (F := F)).VecSplit' (P fh fw fo) 0 := fun _ _ => keep_split .rfl

/-! ## A subcore's own semaphores and buffers -/

section Own
variable (d : Dev nD) (i : grid1.Coords)

abbrev cellAt (n : ℕ) (hn : n < 4) : GSem nD τ sig := (thr d i, .dma (semAt n hn))
abbrev cellOut : GSem nD τ sig := (thr d i, .dma cc1_scoped0.sem)

theorem l0 : 0 < 4 := by decide
theorem l1 : 1 < 4 := by decide
theorem l2 : 2 < 4 := by decide
theorem l3 : 3 < 4 := by decide

theorem mem_cell (s : DmaSem sig) (hs : (SemLoc.dma s : SemLoc sig).isScoped .scVector = true) : ((thr d i, .dma s) : GSem nD τ sig) ∈ ownCells (thr d i) :=
  mem_ownCells.mpr ⟨rfl, hs⟩
theorem cell_ne {s s' : DmaSem sig} (h : s ≠ s') : ((thr d i, .dma s) : GSem nD τ sig) ≠ (thr d i, .dma s') := fun e => h (SemLoc.dma.inj (Prod.mk.inj e).2)

theorem ownSems0_V :
    (ownSems0 (thr d i) : sProp 𝕄)
      = iprop(cSem d i 0 (by decide) ∗ cSem d i 1 (by decide) ∗ cSem d i 2 (by decide) ∗ cSem d i 3 (by decide) ∗ oSem d i
          ∗ bigSep ((((((ownCells (thr d i)).erase (cellAt d i 0 (by decide))).erase (cellAt d i 1 (by decide))).erase (cellAt d i 2 (by decide))).erase
              (cellAt d i 3 (by decide))).erase (cellOut d i)) fun g => semVal g 0) := by
  unfold SparseCore.Cfg.ownSems0
  rw [SparseCore.bigSep_erase' (mem_cell d i (semAt 0 l0) (by decide)),
    SparseCore.bigSep_erase' (Finset.mem_erase.mpr ⟨cell_ne d i (by decide), mem_cell d i (semAt 1 l1) (by decide)⟩),
    SparseCore.bigSep_erase' (Finset.mem_erase.mpr ⟨cell_ne d i (by decide), Finset.mem_erase.mpr ⟨cell_ne d i (by decide), mem_cell d i (semAt 2 l2) (by decide)⟩⟩),
    SparseCore.bigSep_erase' (Finset.mem_erase.mpr ⟨cell_ne d i (by decide), Finset.mem_erase.mpr ⟨cell_ne d i (by decide),
      Finset.mem_erase.mpr ⟨cell_ne d i (by decide), mem_cell d i (semAt 3 l3) (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), mem_cell d i cc1_scoped0.sem (by decide)⟩⟩⟩⟩)]

abbrev pV (i : grid1.Coords) : Proc τ := .scVector ((i 0).castLE hcore1) ((i 1).castLE hsub1)

theorem buf_ne {b b' : Ref sig .scVector} (h : b ≠ b') : (pV i).devRef b ≠ (pV i).devRef b' := fun e => h (Proc.devRef_injective _ e)

theorem ownBufs_V :
    (ownBufs (thr d i) : sProp 𝕄)
      = iprop((∃ f, (thr d i).loc cc1_scratch0 ↦{fullShare} f) ∗ (∃ f, (thr d i).loc cc1_scratch1 ↦{fullShare} f) ∗ (∃ f, (thr d i).loc cc1_scratch2 ↦{fullShare} f)
          ∗ bigSep ((((ownRefs (τ := τ) (pV i)).erase ((pV i).devRef cc1_scratch0)).erase ((pV i).devRef cc1_scratch1)).erase ((pV i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := pV i) (b := (pV i).devRef cc1_scratch0) rfl)).trans ?_
  rw [SparseCore.bigSep_erase' (Finset.mem_erase.mpr ⟨buf_ne i (by decide), SparseCore.Cfg.mem_ownRefs_of_owner (p := pV i) (b := (pV i).devRef cc1_scratch1) rfl⟩),
    SparseCore.bigSep_erase' (Finset.mem_erase.mpr ⟨buf_ne i (by decide), Finset.mem_erase.mpr ⟨buf_ne i (by decide),
      SparseCore.Cfg.mem_ownRefs_of_owner (p := pV i) (b := (pV i).devRef cc1_scratch2) rfl⟩⟩)]

theorem pts_whole7 (f : Buf (Elt F) ((thr d i).loc cc1_scratch2)) :
    (A7.view.loc (thr d i) ↦[A7.view.set]{fullShare} f : sProp 𝕄) = (thr d i).loc cc1_scratch2 ↦{fullShare} f := by
  simp only [Memref.view_whole, View.set_whole]

theorem tile_body (O : CellTallies nD τ sig (HIx 1)) (W : Waits sig (HIx 1)) (hO : ∀ g, O g none = 0) :
    iprop(levAts (K (F := F)).L (K (F := F)).lev ∗ emp ∗ taskIn fh fw fo d i ∗ scopedBufs (thr d i) ∗ scopedSems0 (thr d i) ∗ owes (thr d i) O W)
      ⊢ wp frame (wpE (defs₀ (F := F)) 𝒱₀ (thr d i) none) Set.univ
          (cc1_sc_seg_max (F := F) i A2 (Memref.isWhole_whole _) A3 (Memref.isWhole_whole _) A4 (Memref.isWhole_whole _) A5 (Memref.isWhole_whole _)
            A6 (Memref.isWhole_whole _) A7 (Memref.isWhole_whole _) cc1_scratch3 cc1_scoped0)
          fun _ => iprop(taskOut fh fw d i ∗ scopedBufs (thr d i) ∗ scopedSems0 (thr d i) ∗ ∃ W', ⌜∀ p ∈ W', p ∈ W ∨ p.2 = none⌝ ∗ owes (thr d i) O W') := by
  rw [(K (F := F)).scopedBufs_V facts d ((i 0).castLE hcore1) ((i 1).castLE hsub1),
    SparseCore.Cfg.scopedSems0_V (Val := Elt F) d ((i 0).castLE hcore1) ((i 1).castLE hsub1), ownSems0_V, ownBufs_V]
  unfold taskIn taskOut
  iintro ⟨#Hlv, -, ⟨H5, H6, Ho⟩, ⟨Hb5, Hb6, ⟨%f7, Hb7⟩, Hbufs⟩, ⟨Hs0, Hs1, Hs2, Hs3, Hso, Hsems⟩, HO⟩
  ihave Hmw := ((K (F := F)).mayWaits_none (thr := thr d i) hO) $$ Hlv
  ihave Hb7 := (Entails.of_eq (pts_whole7 d i f7).symm) $$ Hb7
  ihave Hw := (wp_tile d i (tileShare i) (fh d) (fw d) O W) $$ [H5 H6 Ho Hb5 Hb6 Hb7 Hs0 Hs1 Hs2 Hs3 Hso HO Hmw]
  · isplitl [H5]; · iexact H5
    isplitl [H6]; · iexact H6
    isplitl [Ho]; · iexists _; iexact Ho
    isplitl [Hb5]; · iexact Hb5
    isplitl [Hb6]; · iexact Hb6
    isplitl [Hb7]; · iexists _; iexact Hb7
    isplitl [Hs0]; · iexact Hs0
    isplitl [Hs1]; · iexact Hs1
    isplitl [Hs2]; · iexact Hs2
    isplitl [Hs3]; · iexact Hs3
    isplitl [Hso]; · iexact Hso
    isplitl [Hmw]; · iexact Hmw
    unfold owesB
    iexists W; isplitr
    · ipureintro; exact fun p hp => Or.inl hp
    · iexact HO
  iapply (wp_wand_r frame _ Set.univ)
  isplitl [Hw]; · iexact Hw
  iintro %_ ⟨H5, H6, Ho, Hb5, Hb6, ⟨%g7, Hb7⟩, Hs0, Hs1, Hs2, Hs3, Hso, HO⟩
  unfold owesB
  ihave Hb7 := (Entails.of_eq (pts_whole7 d i g7)) $$ Hb7
  isplitl [H5 H6 Ho]
  · isplitl [H5]; · iexact H5
    isplitl [H6]; · iexact H6
    iexact Ho
  isplitl [Hb5 Hb6 Hb7 Hbufs]
  · isplitl [Hb5]; · iexact Hb5
    isplitl [Hb6]; · iexact Hb6
    isplitl [Hb7]; · iexists _; iexact Hb7
    iexact Hbufs
  isplitl [Hs0 Hs1 Hs2 Hs3 Hso Hsems]
  · isplitl [Hs0]; · iexact Hs0
    isplitl [Hs1]; · iexact Hs1
    isplitl [Hs2]; · iexact Hs2
    isplitl [Hs3]; · iexact Hs3
    isplitl [Hso]; · iexact Hso
    iexact Hsems
  iexact HO

end Own

theorem defs₀_vector (c : Fin τ.nSC) (s : Fin τ.nSub) :
    defs₀ (F := F) (.scVector c s) 1 () = SparseCore.onTile hcore1 hsub1 (fun c s => cc1_sc_seg_max (F := F) (coordsV c s) A2 (Memref.isWhole_whole _) A3 (Memref.isWhole_whole _)
      A4 (Memref.isWhole_whole _) A5 (Memref.isWhole_whole _) A6 (Memref.isWhole_whole _) A7 (Memref.isWhole_whole _) cc1_scratch3 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (exists_mono fun _ => sep_mono_left (BI.pure_mono fun h p hp => (h p hp).imp_right Or.inl))))

theorem tileObl : (K (F := F)).TileObl (D (F := F)) 𝒱 (P fh fw fo) v₀ 0 := by
  intro d c i O W hO _ _
  simp only [show (P fh fw fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body fh fw fo d (coordsV ⟨_, hc.1⟩ ⟨_, hc.2⟩) O W hO).trans (wp_mono frame _ _ fun _ => obl_post)

end Cert.Proof
-- ==== Proof.Region.lean ====
/- A TensorCore call of the program as a step of the host's run: entered with every buffer of the host held at a
   valuation and left with them at the call's exit contents, the TensorCore's duties to the SparseCores carried across. -/
module

public import proofs.«01_k».proof.Proof.Task
public import proofs.«01_k».proof.Proof.Gen.KernelIdeal.Launch
public import proofs.«01_k».proof.Proof.Gen.KernelIdeal.Points
public import Idealize.ShloMosaic.Lib.Pipeline.RegionArraysS

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The TensorCore's unscoped references: what the host holds at a valuation. -/
abbrev ucRefs : Finset (DevRef τ sig) := Pipeline.ucRefs τ sig

abbrev adm : (p : Fin 2) → (pcfgs (F := F) p).Adm := fun q => (cfgs q).toPCfg_adm

/-- The pairs a TensorCore's waits may have recorded before call `n` of the SparseCores. -/
def seen (c : Dev nD) (n : ℕ) : Set (SemLoc sig × HIx 1) := {p | (K (F := F)).lev (T c, p.1) p.2 ≤ 8 * SparseCore.Cfg.Blocks.fst (Q := 1) (N := 1) n}

/-- What the TensorCore owes the SparseCores before call `n`, its recorded waits below that call's. -/
def dues (c : Dev nD) (n : ℕ) : sProp 𝕄 :=
  iprop(∃ W, ⌜(K (F := F)).WBelow (T c) W (8 * SparseCore.Cfg.Blocks.fst (Q := 1) (N := 1) n)⌝ ∗ owes (T c) ((K (F := F)).Otc c n) W)

variable (pdats : (p : Fin 2) → (c : Dev nD) → Dat τ (Elt F) (HIx 1) ℕ UU ℕ (pin (pcfgs (F := F)) adm p) c)
  (n : ℕ) (p : Fin 2)

theorem cut : ∀ (c : Dev nD), (∀ t, (pdats p c).owed t = (K (F := F)).Otc c n) →
    (levAts (K (F := F)).L (K (F := F)).lev : sProp 𝕄) ⊢ Pipeline.cellsWaits (pin (pcfgs (F := F)) adm) pdats none p c := fun c h =>
  Pipeline.cellsWaits_of_cut (pin (pcfgs (F := F)) adm) pdats none p c 0 ((K (F := F)).Otc c n) h
    (fun w s => Finset.mem_univ _) (fun w s => le_rfl)
    (fun g i hg => ⟨Finset.mem_univ _, by have := SparseCore.Cfg.lev_of_Otc_pos hg; omega⟩)

set_option backward.isDefEq.respectTransparency.types false in
/-- The call `p`, entered with the host's buffers at `W c` and left with them at what the call makes of them. -/
def seg (kit : Pipeline.LaunchFacts (nD := nD) (τ := τ) cfgs p)
    (hbody : ∀ c, Pipeline.BodyObligation (pdats p c) (defs₀ (F := F)) 𝒱₀ none Set.univ)
    (howed : ∀ c t, (pdats p c).owed t = (K (F := F)).Otc c n) (hrec : ∀ c t, (pdats p c).recorded t = seen (F := F) c n)
    (hshare : ∀ c w, (pdats p c).share w = fullShare)
    (hΦ : ∀ c t, (pdats p c).Φ t = Pipeline.scopedRest (pin (pcfgs (F := F)) adm p).spec c)
    (W : Dev nD → Valuation τ sig (Elt F))
    (hW : ∀ c w, (pdats p c).arrAt w 0 = W c (Proc.devRef .tc (arrRef (pin (pcfgs (F := F)) adm p).spec w))) :
    Pipeline.RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := cut pdats n p c (howed c)
  pre c := iprop(StableHlo.held (T c) ucRefs (W c) ∗ dues (F := F) c n)
  post c := iprop(StableHlo.held (T c) ucRefs (afterRegion (pdats p c) (W c)) ∗ dues (F := F) c n)
  X _ := BI.emp
  Y _ := BI.emp
  Z c := StableHlo.held (T c) (ucRefs \ arrRefs (pcfgs (F := F) p).spec) (W c)
  hentry c := by
    have hS : arrRefs (pcfgs (F := F) p).spec ⊆ ucRefs := Pipeline.arrRefs_sub_ucRefs _ kit.win.arr_unscoped
    rw [Pipeline.ownSems0_none, Pipeline.prefHeld_of_none _ rfl, StableHlo.held_sub_split (T c) hS (W c),
      Pipeline.arrays_held (pcfgs (F := F)) adm pdats p kit.toP c (hshare c) ((pdats p c).arrAt · 0) (W c) (hW c)]
    unfold dues
    iintro ⟨⟨⟨Ha, Hu⟩, ⟨%Wd, %hWd, HO⟩⟩, -, -⟩
    imodintro
    isplitl [Ha]; · iexact Ha
    isplitr; · iempintro
    isplitl [HO]
    · unfold Pipeline.Dat.owesAt Pipeline.owesWithin Dat.bound
      rw [howed c 0, hrec c 0]
      iexists Wd; isplitr; · ipureintro; exact fun q hq => Or.inl (hWd q hq)
      iexact HO
    isplitr; · iempintro
    iexact Hu
  hin c := by
    refine BIBase.Entails.trans ?_ (Entails.of_eq (hΦ c 0).symm)
    iintro ⟨-, -, Hr⟩; iexact Hr
  hout c := by
    rw [Pipeline.ownSems0_none, hΦ c (Fin.last _)]
    iintro Hr
    isplitr; · iempintro
    isplitr; · iempintro
    iexact Hr
  hexit c := by
    have hS : arrRefs (pcfgs (F := F) p).spec ⊆ ucRefs := Pipeline.arrRefs_sub_ucRefs _ kit.win.arr_unscoped
    have hW' : ∀ w, (pdats p c).arrAt w (pin (pcfgs (F := F)) adm p).N
        = afterRegion (pdats p c) (W c) (Proc.devRef .tc (arrRef (pin (pcfgs (F := F)) adm p).spec w)) :=
      fun w => (Pipeline.afterRegion_arr (pdats p c) (W c) kit.win.arr_inj w).symm
    rw [StableHlo.held_sub_split (T c) hS (afterRegion (pdats p c) (W c)),
      StableHlo.held_congr (T c) (S := ucRefs \ arrRefs (pcfgs (F := F) p).spec) (V := afterRegion (pdats p c) (W c)) (V' := W c)
        (Pipeline.afterRegion_off (pdats p c) (W c) ucRefs),
      Pipeline.arrays_held (pcfgs (F := F)) adm pdats p kit.toP c (hshare c) ((pdats p c).arrAt · (pin (pcfgs (F := F)) adm p).N)
        (afterRegion (pdats p c) (W c)) hW']
    iintro ⟨Ha, HO, -, Hu⟩
    imodintro
    isplitl [Ha Hu]
    · isplitl [Ha]; · iexact Ha
      iexact Hu
    unfold Pipeline.Dat.owesAt Pipeline.owesWithin Dat.bound dues
    rw [howed c (Fin.last _), hrec c (Fin.last _)]
    icases HO with ⟨%Wd, %hWd, HO⟩; iexists Wd; isplitr
    · ipureintro
      intro q hq
      rcases hWd hq with h | ⟨w, s, rfl⟩
      · exact h
      · exact Nat.zero_le _
    iexact HO

end Cert.Proof
-- ==== Proof.Merge.lean ====
/- The merge of the tasks' blocks: its run on whole buffers, and what it leaves. -/
module

public import proofs.«01_k».proof.Proof.Region

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Tactic

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

def mergeRun (c : Dev nD) (M0 : Memref sig .tc .vmem S32x128x128 .f32) (h0 : M0.IsWhole) (M1 : Memref sig .tc .vmem S64x128 .f32) (h1 : M1.IsWhole)
    (M2 : Memref sig .tc .vmem S64x128 .f32) (h2 : M2.IsWhole) (f0 : Bf (F := F) c M0) :
    (W1 : Bf (F := F) c M1) × { W2 : Bf (F := F) c M2 // ∀ (f1 : Bf (F := F) c M1) (f2 : Bf (F := F) c M2) (E : Set ℕ) (Q : PUnit → sProp 𝕄),
        iprop(pt c M0 f0 ∗ pt c M1 f1 ∗ pt c M2 f2 ∗ (iprop(pt c M0 f0 ∗ pt c M1 W1 ∗ pt c M2 W2) -∗ Q ⟨⟩))
          ⊢ wp frame (wpE (defs₀ (F := F)) 𝒱₀ (c : Thread nD τ) none) E (cc2__merge_kernel M0 h0 M1 h1 M2 h2) Q } := by
  refine ⟨?_, ?_, fun f1 f2 E Q => ?run⟩
  case run =>
    iintro ⟨H0, H1, H2, Hk⟩
    sl_exec!
    sl_step
    iapply Hk
    isplitl [H0]; · iexact H0
    isplitl [H1]; · iexact H1
    iexact H2

end Cert.Proof
-- ==== Proof.Rows.lean ====
/- The TensorCore call that makes the rows, the words and the plane logits: its run on whole buffers. -/
module

public import proofs.«01_k».proof.Proof.Merge

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Tactic

def tcRun (c : Dev nD) (i : grid0.Coords) (M0 : Memref sig .tc .vmem S2000x128 .f32) (h0 : M0.IsWhole) (M1 : Memref sig .tc .vmem S2000x128 .f32) (h1 : M1.IsWhole) (M2 : Memref sig .tc .vmem S2000x8 .f32) (h2 : M2.IsWhole) (M3 : Memref sig .tc .vmem S16x64 .f32) (h3 : M3.IsWhole) (M4 : Memref sig .tc .vmem S256x128 .f32) (h4 : M4.IsWhole) (M5 : Memref sig .tc .vmem S128x128 .f32) (h5 : M5.IsWhole) (M6 : Memref sig .tc .vmem S128x1 .f32) (h6 : M6.IsWhole) (M7 : Memref sig .tc .vmem S1x128 .f32) (h7 : M7.IsWhole) (M8 : Memref sig .tc .vmem S1x128 .f32) (h8 : M8.IsWhole) (M9 : Memref sig .tc .vmem S1x1 .f32) (h9 : M9.IsWhole) (M10 : Memref sig .tc .vmem S128x16 .f32) (h10 : M10.IsWhole) (M11 : Memref sig .tc .vmem S2000x64 .f32) (h11 : M11.IsWhole) (M12 : Memref sig .tc .vmem S2000x128 .f32) (h12 : M12.IsWhole) (M13 : Memref sig .tc .vmem S2000x16 .i32) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    (W0 : Bf (F := F) c M11) × (W1 : Bf (F := F) c M12) × { W2 : Bf (F := F) c M13 // ∀ (f11 : Bf (F := F) c M11) (f12 : Bf (F := F) c M12) (f13 : Bf (F := F) c M13) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 W0 ∗ pt c M12 W1 ∗ pt c M13 W2) -∗ Q ⟨⟩))
          ⊢ wp frame (wpE (defs₀ (F := F)) 𝒱₀ (c : Thread nD τ) none) E (cc0__tc_kernel i M0 h0 M1 h1 M2 h2 M3 h3 M4 h4 M5 h5 M6 h6 M7 h7 M8 h8 M9 h9 M10 h10 M11 h11 M12 h12 M13 h13) Q } := by
  refine ⟨?_, ?_, ?_, fun f11 f12 f13 E Q => ?run⟩
  case run =>
    iintro ⟨H0, H1, H2, H3, H4, H5, H6, H7, H8, H9, H10, H11, H12, H13, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.Proof
-- ==== Proof.Values.lean ====
/- What the two TensorCore bodies make of the blocks they are given, as functions of those blocks. -/
module

public import proofs.«01_k».proof.Proof.Rows

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Tactic

/-! ## What the first call makes of its blocks -/

/-- Column `k` of a point's block, repeated over the planes. -/
abbrev ptCol (x : FVec F S2000x8 .f32) (k : Fin 2 → ℕ) (h : S2000x8.Slices k S2000x1) : FVec F S2000x64 .f32 :=
  broadcastTo S2000x64 (extractStridedSlice S2000x1 k (shapeCast S2000x8 x shapeCasts_S2000x8_S2000x8) h) broadcasts_S2000x1_S2000x64
/-- Row `k` of the planes' table. -/
abbrev plRow (y : FVec F S16x64 .f32) (k : Fin 2 → ℕ) (h : S16x64.Slices k S1x64) : FVec F S1x64 .f32 :=
  extractStridedSlice S1x64 k (shapeCast S16x64 y shapeCasts_S16x64_S16x64) h
abbrev plAll (r : FVec F S1x64 .f32) : FVec F S2000x64 .f32 := broadcastTo S2000x64 r broadcasts_S1x64_S2000x64
/-- One direction's product: the offset and the normal, each rounded. -/
abbrev along (x : FVec F S2000x64 .f32) (a b : FVec F S1x64 .f32) : FVec F S2000x64 .f32 :=
  mulf (extf .f32 (truncf .bf16 (subf x (plAll a)) bitsLt_bf16_f32) bitsLt_bf16_f32)
    (plAll (extf .f32 (truncf .bf16 b bitsLt_bf16_f32) bitsLt_bf16_f32))

/-- Which points lie on which planes. -/
def tcMask (x : FVec F S2000x8 .f32) (y : FVec F S16x64 .f32) : IVec S2000x64 1 :=
  andi
    (andi (andi (andi (cmpf .oge (ptCol x ![0, 0] slices_S2000x8_o0_0_S2000x1) (plAll (plRow y ![0, 0] slices_S16x64_o0_0_S1x64)))
        (cmpf .olt (ptCol x ![0, 0] slices_S2000x8_o0_0_S2000x1) (plAll (plRow y ![1, 0] slices_S16x64_o1_0_S1x64))))
        (cmpf .oge (ptCol x ![0, 1] slices_S2000x8_o0_1_S2000x1) (plAll (plRow y ![2, 0] slices_S16x64_o2_0_S1x64))))
        (cmpf .olt (ptCol x ![0, 1] slices_S2000x8_o0_1_S2000x1) (plAll (plRow y ![3, 0] slices_S16x64_o3_0_S1x64))))
    (cmpf .olt
      (absf (addf (addf
        (along (ptCol x ![0, 0] slices_S2000x8_o0_0_S2000x1) (plRow y ![4, 0] slices_S16x64_o4_0_S1x64) (plRow y ![7, 0] slices_S16x64_o7_0_S1x64))
        (along (ptCol x ![0, 1] slices_S2000x8_o0_1_S2000x1) (plRow y ![5, 0] slices_S16x64_o5_0_S1x64) (plRow y ![8, 0] slices_S16x64_o8_0_S1x64)))
        (along (ptCol x ![0, 2] slices_S2000x8_o0_2_S2000x1) (plRow y ![6, 0] slices_S16x64_o6_0_S1x64) (plRow y ![9, 0] slices_S16x64_o9_0_S1x64))))
      (broadcast S2000x64 (Scalar.ofBits .f32 0x3DCCCCCD#32)))

/-- The two dense layers of a block of rows. -/
def tcRows (x0 x1 : FVec F S2000x128 .f32) (w0 : FVec F S256x128 .f32) (w1 : FVec F S128x128 .f32) (b0 b1 : FVec F S1x128 .f32) :
    FVec F S2000x128 .f32 :=
  maximumf (addf (matmul dot_S2000x128_S128x128_S2000x128_1_0_0_1_n_n none
      (maximumf (addf (matmul dot_S2000x256_S256x128_S2000x128_1_0_0_1_n_n none
          (concatenate S2000x256 1 [⟨S2000x128, x0⟩, ⟨S2000x128, x1⟩] concatenates_S2000x128_S2000x128_S2000x256_d1) w0 (constant S2000x128 .f32 0x00000000#32))
        (broadcastTo S2000x128 (shapeCast S1x128 b0 shapeCasts_S1x128_S1x128) broadcasts_S1x128_S2000x128))
        (broadcast S2000x128 (Scalar.ofBits .f32 0x00000000#32)))
      w1 (constant S2000x128 .f32 0x00000000#32))
    (broadcastTo S2000x128 (shapeCast S1x128 b1 shapeCasts_S1x128_S1x128) broadcasts_S1x128_S2000x128))
    (broadcast S2000x128 (Scalar.ofBits .f32 0x00000000#32))

/-- The score of each row of a block. -/
def tcScore (h : FVec F S2000x128 .f32) (w : FVec F S128x1 .f32) (b : FVec F S1x1 .f32) : FVec F S2000x1 .f32 :=
  addf (matmul dot_S2000x128_S128x1_S2000x1_1_0_0_1_n_n none h w (constant S2000x1 .f32 0x00000000#32))
    (broadcastTo S2000x1 (shapeCast S1x1 b shapeCasts_S1x1_S1x1) broadcasts_S1x1_S2000x1)

/-- The block of plane logits. -/
def tcLogits (k : IVec S2000x64 1) (s : FVec F S2000x1 .f32) : FVec F S2000x64 .f32 :=
  select k (broadcastTo S2000x64 (shapeCast S2000x1 s shapeCasts_S2000x1_S2000x1) broadcasts_S2000x1_S2000x64)
    (broadcast S2000x64 (Scalar.ofBits .f32 0x00000000#32))

/-- The block of mask words. -/
def tcWords (k : IVec S2000x64 1) (s : FVec F S2000x1 .f32) (p : FVec F S128x16 .f32) : IVec S2000x16 32 :=
  have on : IVec S2000x1 1 := cmpf .ogt s (broadcast S2000x1 (Scalar.ofBits .f32 0x00000000#32))
  fptosi 32 (matmul dot_S2000x128_S128x16_S2000x16_1_0_0_1_n_n none
    (concatenate S2000x128 1
      [⟨S2000x64, (sitofp .f32 (extui 32 (andi k (broadcastTo S2000x64 on broadcasts_S2000x1_S2000x64)) natLt_1_32) : FVec F S2000x64 .f32)⟩,
       ⟨S2000x64, (sitofp .f32 (extui 32 (andi k (broadcastTo S2000x64 (xori on (constantI S2000x1 1 1#1)) broadcasts_S2000x1_S2000x64)) natLt_1_32) : FVec F S2000x64 .f32)⟩]
      concatenates_S2000x64_S2000x64_S2000x128_d1)
    (shapeCast S128x16 p shapeCasts_S128x16_S128x16) (constant S2000x16 .f32 0x00000000#32))

/-! ## What the merge makes of the tasks' blocks -/

theorem inbBlk (n : ℕ) (h : n < 32) : ∀ a, (![n, 0, 0] : Fin 3 → ℕ) a + S1x128x128.size a ≤ S32x128x128.size a := by
  intro a; match a with | 0 => exact h | 1 => exact le_rfl | 2 => exact le_rfl

/-- Task `n`'s block as a matrix. -/
def blkMat (x : FVec F S32x128x128 .f32) (n : ℕ) : FVec F S128x128 .f32 :=
  if h : n < 32 then shapeCast S128x128 (fun y => x ((Rect.unit (s := S32x128x128) ![n, 0, 0] S1x128x128.size (inbBlk n h)).toLoadRect.idx y)) shapeCasts_S1x128x128_S128x128
  else fun _ => Scalar.ofBits .f32 0x00000000#32
/-- The greatest of the first `n + 1` blocks. -/
def mergeAcc (x : FVec F S32x128x128 .f32) : ℕ → FVec F S128x128 .f32
  | 0 => blkMat x 0
  | n + 1 => maximumf (mergeAcc x n) (blkMat x (n + 1))
def mergeTop (x : FVec F S32x128x128 .f32) : FVec F S64x128 .f32 := extractStridedSlice S64x128 ![0, 0] (mergeAcc x 31) slices_S128x128_o0_0_S64x128
def mergeBot (x : FVec F S32x128x128 .f32) : FVec F S64x128 .f32 := extractStridedSlice S64x128 ![64, 0] (mergeAcc x 31) slices_S128x128_o64_0_S64x128

/-! ## The two runs over owned buffers -/

theorem owns_take (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns; rw [h.set_eq_univ]

theorem owns_put (c : Dev nD) {sp : Space} {S : Shape} {e : EltTy} (M : Memref sig .tc sp S e) (h : M.IsWhole) (X : S.Idx → Elt F e)
    (f : Bf (F := F) c M) (hf : M.view.read (Elt F) f = X) : (pt c M f : sProp 𝕄) ⊢ owns (c : Thread nD τ) M fullShare X := by
  subst hf; unfold owns; rw [h.set_eq_univ]; iintro H; iexists f; isplitr; (· ipureintro; rfl); iexact H

theorem mergeRun_fst (c : Dev nD) (M0 : Memref sig .tc .vmem S32x128x128 .f32) (h0 : M0.IsWhole) (M1 : Memref sig .tc .vmem S64x128 .f32) (h1 : M1.IsWhole)
    (M2 : Memref sig .tc .vmem S64x128 .f32) (h2 : M2.IsWhole) (f0 : Bf (F := F) c M0) :
    M1.view.read (Elt F) (mergeRun c M0 h0 M1 h1 M2 h2 f0).1 = mergeTop (M0.view.read (Elt F) f0) := by
  unfold mergeRun; dsimp only; unfold mergeRun.sl.H1_1
  rw [View.read_writes_full]
  rfl

theorem mergeRun_snd (c : Dev nD) (M0 : Memref sig .tc .vmem S32x128x128 .f32) (h0 : M0.IsWhole) (M1 : Memref sig .tc .vmem S64x128 .f32) (h1 : M1.IsWhole)
    (M2 : Memref sig .tc .vmem S64x128 .f32) (h2 : M2.IsWhole) (f0 : Bf (F := F) c M0) :
    M2.view.read (Elt F) (mergeRun c M0 h0 M1 h1 M2 h2 f0).2.1 = mergeBot (M0.view.read (Elt F) f0) := by
  unfold mergeRun; dsimp only; unfold mergeRun.sl.H2_1
  rw [View.read_writes_full]
  rfl

theorem wp_merge (c : Dev nD) (M0 : Memref sig .tc .vmem S32x128x128 .f32) (h0 : M0.IsWhole) (M1 : Memref sig .tc .vmem S64x128 .f32) (h1 : M1.IsWhole)
    (M2 : Memref sig .tc .vmem S64x128 .f32) (h2 : M2.IsWhole) (x : FVec F S32x128x128 .f32) (Q : PUnit → sProp 𝕄) :
    iprop(owns (c : Thread nD τ) M0 fullShare x ∗ (∃ X, owns (c : Thread nD τ) M1 fullShare X) ∗ (∃ X, owns (c : Thread nD τ) M2 fullShare X)
        ∗ (iprop(owns (c : Thread nD τ) M0 fullShare x ∗ owns (c : Thread nD τ) M1 fullShare (mergeTop x) ∗ owns (c : Thread nD τ) M2 fullShare (mergeBot x)) -∗ Q ⟨⟩))
      ⊢ wp frame (wpE (defs₀ (F := F)) 𝒱₀ (c : Thread nD τ) none) Set.univ (cc2__merge_kernel M0 h0 M1 h1 M2 h2) Q := by
  iintro ⟨H0, ⟨%X1, H1⟩, ⟨%X2, H2⟩, Hk⟩
  ihave H0 := owns_take c M0 h0 x $$ H0
  ihave H1 := owns_take c M1 h1 X1 $$ H1
  ihave H2 := owns_take c M2 h2 X2 $$ H2
  icases H0 with ⟨%f0, %hf0, H0⟩
  icases H1 with ⟨%f1, -, H1⟩
  icases H2 with ⟨%f2, -, H2⟩
  iapply ((mergeRun c M0 h0 M1 h1 M2 h2 f0).2.2 f1 f2 Set.univ Q)
  isplitl [H0]; · iexact H0
  isplitl [H1]; · iexact H1
  isplitl [H2]; · iexact H2
  iintro ⟨H0, H1, H2⟩
  iapply Hk
  isplitl [H0]; · iapply (owns_put c M0 h0 x f0 hf0) $$ H0
  isplitl [H1]; · iapply (owns_put c M1 h1 _ _ ((mergeRun_fst c M0 h0 M1 h1 M2 h2 f0).trans (congrArg mergeTop hf0))) $$ H1
  iapply (owns_put c M2 h2 _ _ ((mergeRun_snd c M0 h0 M1 h1 M2 h2 f0).trans (congrArg mergeBot hf0))) $$ H2

theorem tcRun_fst (c : Dev nD) (i : grid0.Coords) (M0 : Memref sig .tc .vmem S2000x128 .f32) (h0 : M0.IsWhole) (M1 : Memref sig .tc .vmem S2000x128 .f32) (h1 : M1.IsWhole) (M2 : Memref sig .tc .vmem S2000x8 .f32) (h2 : M2.IsWhole) (M3 : Memref sig .tc .vmem S16x64 .f32) (h3 : M3.IsWhole) (M4 : Memref sig .tc .vmem S256x128 .f32) (h4 : M4.IsWhole) (M5 : Memref sig .tc .vmem S128x128 .f32) (h5 : M5.IsWhole) (M6 : Memref sig .tc .vmem S128x1 .f32) (h6 : M6.IsWhole) (M7 : Memref sig .tc .vmem S1x128 .f32) (h7 : M7.IsWhole) (M8 : Memref sig .tc .vmem S1x128 .f32) (h8 : M8.IsWhole) (M9 : Memref sig .tc .vmem S1x1 .f32) (h9 : M9.IsWhole) (M10 : Memref sig .tc .vmem S128x16 .f32) (h10 : M10.IsWhole) (M11 : Memref sig .tc .vmem S2000x64 .f32) (h11 : M11.IsWhole) (M12 : Memref sig .tc .vmem S2000x128 .f32) (h12 : M12.IsWhole) (M13 : Memref sig .tc .vmem S2000x16 .i32) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M11.view.read (Elt F) (tcRun c i M0 h0 M1 h1 M2 h2 M3 h3 M4 h4 M5 h5 M6 h6 M7 h7 M8 h8 M9 h9 M10 h10 M11 h11 M12 h12 M13 h13 f0 f1 f2 f3 f4 f5 f6 f7 f8 f9 f10).1 = tcLogits (tcMask (M2.view.read (Elt F) f2) (M3.view.read (Elt F) f3)) (tcScore (tcRows (M0.view.read (Elt F) f0) (M1.view.read (Elt F) f1) (M4.view.read (Elt F) f4) (M5.view.read (Elt F) f5) (M7.view.read (Elt F) f7) (M8.view.read (Elt F) f8)) (M6.view.read (Elt F) f6) (M9.view.read (Elt F) f9)) := by
  unfold tcRun; dsimp only; unfold tcRun.sl.H11_1
  rw [View.read_writes_full]
  rw [← View.readAt_full M0.view f0 inb_S2000x128_S2000x128_0_0, ← View.readAt_full M1.view f1 inb_S2000x128_S2000x128_0_0, ← View.readAt_full M2.view f2 inb_S2000x8_S2000x8_0_0, ← View.readAt_full M3.view f3 inb_S16x64_S16x64_0_0, ← View.readAt_full M4.view f4 inb_S256x128_S256x128_0_0, ← View.readAt_full M5.view f5 inb_S128x128_S128x128_0_0, ← View.readAt_full M6.view f6 inb_S128x1_S128x1_0_0, ← View.readAt_full M7.view f7 inb_S1x128_S1x128_0_0, ← View.readAt_full M8.view f8 inb_S1x128_S1x128_0_0, ← View.readAt_full M9.view f9 inb_S1x1_S1x1_0_0]
  rfl

theorem tcRun_snd (c : Dev nD) (i : grid0.Coords) (M0 : Memref sig .tc .vmem S2000x128 .f32) (h0 : M0.IsWhole) (M1 : Memref sig .tc .vmem S2000x128 .f32) (h1 : M1.IsWhole) (M2 : Memref sig .tc .vmem S2000x8 .f32) (h2 : M2.IsWhole) (M3 : Memref sig .tc .vmem S16x64 .f32) (h3 : M3.IsWhole) (M4 : Memref sig .tc .vmem S256x128 .f32) (h4 : M4.IsWhole) (M5 : Memref sig .tc .vmem S128x128 .f32) (h5 : M5.IsWhole) (M6 : Memref sig .tc .vmem S128x1 .f32) (h6 : M6.IsWhole) (M7 : Memref sig .tc .vmem S1x128 .f32) (h7 : M7.IsWhole) (M8 : Memref sig .tc .vmem S1x128 .f32) (h8 : M8.IsWhole) (M9 : Memref sig .tc .vmem S1x1 .f32) (h9 : M9.IsWhole) (M10 : Memref sig .tc .vmem S128x16 .f32) (h10 : M10.IsWhole) (M11 : Memref sig .tc .vmem S2000x64 .f32) (h11 : M11.IsWhole) (M12 : Memref sig .tc .vmem S2000x128 .f32) (h12 : M12.IsWhole) (M13 : Memref sig .tc .vmem S2000x16 .i32) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M12.view.read (Elt F) (tcRun c i M0 h0 M1 h1 M2 h2 M3 h3 M4 h4 M5 h5 M6 h6 M7 h7 M8 h8 M9 h9 M10 h10 M11 h11 M12 h12 M13 h13 f0 f1 f2 f3 f4 f5 f6 f7 f8 f9 f10).2.1 = (tcRows (M0.view.read (Elt F) f0) (M1.view.read (Elt F) f1) (M4.view.read (Elt F) f4) (M5.view.read (Elt F) f5) (M7.view.read (Elt F) f7) (M8.view.read (Elt F) f8)) := by
  unfold tcRun; dsimp only; unfold tcRun.sl.H12_1
  rw [View.read_writes_full]
  rw [← View.readAt_full M0.view f0 inb_S2000x128_S2000x128_0_0, ← View.readAt_full M1.view f1 inb_S2000x128_S2000x128_0_0, ← View.readAt_full M4.view f4 inb_S256x128_S256x128_0_0, ← View.readAt_full M5.view f5 inb_S128x128_S128x128_0_0, ← View.readAt_full M7.view f7 inb_S1x128_S1x128_0_0, ← View.readAt_full M8.view f8 inb_S1x128_S1x128_0_0]
  rfl

theorem tcRun_trd (c : Dev nD) (i : grid0.Coords) (M0 : Memref sig .tc .vmem S2000x128 .f32) (h0 : M0.IsWhole) (M1 : Memref sig .tc .vmem S2000x128 .f32) (h1 : M1.IsWhole) (M2 : Memref sig .tc .vmem S2000x8 .f32) (h2 : M2.IsWhole) (M3 : Memref sig .tc .vmem S16x64 .f32) (h3 : M3.IsWhole) (M4 : Memref sig .tc .vmem S256x128 .f32) (h4 : M4.IsWhole) (M5 : Memref sig .tc .vmem S128x128 .f32) (h5 : M5.IsWhole) (M6 : Memref sig .tc .vmem S128x1 .f32) (h6 : M6.IsWhole) (M7 : Memref sig .tc .vmem S1x128 .f32) (h7 : M7.IsWhole) (M8 : Memref sig .tc .vmem S1x128 .f32) (h8 : M8.IsWhole) (M9 : Memref sig .tc .vmem S1x1 .f32) (h9 : M9.IsWhole) (M10 : Memref sig .tc .vmem S128x16 .f32) (h10 : M10.IsWhole) (M11 : Memref sig .tc .vmem S2000x64 .f32) (h11 : M11.IsWhole) (M12 : Memref sig .tc .vmem S2000x128 .f32) (h12 : M12.IsWhole) (M13 : Memref sig .tc .vmem S2000x16 .i32) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M13.view.read (Elt F) (tcRun c i M0 h0 M1 h1 M2 h2 M3 h3 M4 h4 M5 h5 M6 h6 M7 h7 M8 h8 M9 h9 M10 h10 M11 h11 M12 h12 M13 h13 f0 f1 f2 f3 f4 f5 f6 f7 f8 f9 f10).2.2.1 = tcWords (tcMask (M2.view.read (Elt F) f2) (M3.view.read (Elt F) f3)) (tcScore (tcRows (M0.view.read (Elt F) f0) (M1.view.read (Elt F) f1) (M4.view.read (Elt F) f4) (M5.view.read (Elt F) f5) (M7.view.read (Elt F) f7) (M8.view.read (Elt F) f8)) (M6.view.read (Elt F) f6) (M9.view.read (Elt F) f9)) (M10.view.read (Elt F) f10) := by
  unfold tcRun; dsimp only; unfold tcRun.sl.H13_1
  rw [View.read_writes_full]
  rw [← View.readAt_full M0.view f0 inb_S2000x128_S2000x128_0_0, ← View.readAt_full M1.view f1 inb_S2000x128_S2000x128_0_0, ← View.readAt_full M2.view f2 inb_S2000x8_S2000x8_0_0, ← View.readAt_full M3.view f3 inb_S16x64_S16x64_0_0, ← View.readAt_full M4.view f4 inb_S256x128_S256x128_0_0, ← View.readAt_full M5.view f5 inb_S128x128_S128x128_0_0, ← View.readAt_full M6.view f6 inb_S128x1_S128x1_0_0, ← View.readAt_full M7.view f7 inb_S1x128_S1x128_0_0, ← View.readAt_full M8.view f8 inb_S1x128_S1x128_0_0, ← View.readAt_full M9.view f9 inb_S1x1_S1x1_0_0, ← View.readAt_full M10.view f10 inb_S128x16_S128x16_0_0]
  rfl

theorem wp_tc (c : Dev nD) (i : grid0.Coords) (M0 : Memref sig .tc .vmem S2000x128 .f32) (h0 : M0.IsWhole) (M1 : Memref sig .tc .vmem S2000x128 .f32) (h1 : M1.IsWhole) (M2 : Memref sig .tc .vmem S2000x8 .f32) (h2 : M2.IsWhole) (M3 : Memref sig .tc .vmem S16x64 .f32) (h3 : M3.IsWhole) (M4 : Memref sig .tc .vmem S256x128 .f32) (h4 : M4.IsWhole) (M5 : Memref sig .tc .vmem S128x128 .f32) (h5 : M5.IsWhole) (M6 : Memref sig .tc .vmem S128x1 .f32) (h6 : M6.IsWhole) (M7 : Memref sig .tc .vmem S1x128 .f32) (h7 : M7.IsWhole) (M8 : Memref sig .tc .vmem S1x128 .f32) (h8 : M8.IsWhole) (M9 : Memref sig .tc .vmem S1x1 .f32) (h9 : M9.IsWhole) (M10 : Memref sig .tc .vmem S128x16 .f32) (h10 : M10.IsWhole) (M11 : Memref sig .tc .vmem S2000x64 .f32) (h11 : M11.IsWhole) (M12 : Memref sig .tc .vmem S2000x128 .f32) (h12 : M12.IsWhole) (M13 : Memref sig .tc .vmem S2000x16 .i32) (h13 : M13.IsWhole)
    (x0 : FVec F S2000x128 .f32) (x1 : FVec F S2000x128 .f32) (x2 : FVec F S2000x8 .f32) (x3 : FVec F S16x64 .f32) (x4 : FVec F S256x128 .f32) (x5 : FVec F S128x128 .f32) (x6 : FVec F S128x1 .f32) (x7 : FVec F S1x128 .f32) (x8 : FVec F S1x128 .f32) (x9 : FVec F S1x1 .f32) (x10 : FVec F S128x16 .f32) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ X, owns (c : Thread nD τ) M11 fullShare X) ∗ (∃ X, owns (c : Thread nD τ) M12 fullShare X) ∗ (∃ X, owns (c : Thread nD τ) M13 fullShare X)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare (tcLogits (tcMask x2 x3) (tcScore (tcRows x0 x1 x4 x5 x7 x8) x6 x9)) ∗ owns (c : Thread nD τ) M12 fullShare (tcRows x0 x1 x4 x5 x7 x8) ∗ owns (c : Thread nD τ) M13 fullShare (tcWords (tcMask x2 x3) (tcScore (tcRows x0 x1 x4 x5 x7 x8) x6 x9) x10)) -∗ Q ⟨⟩))
      ⊢ wp frame (wpE (defs₀ (F := F)) 𝒱₀ (c : Thread nD τ) none) Set.univ (cc0__tc_kernel i M0 h0 M1 h1 M2 h2 M3 h3 M4 h4 M5 h5 M6 h6 M7 h7 M8 h8 M9 h9 M10 h10 M11 h11 M12 h12 M13 h13) Q := by
  iintro ⟨H0, H1, H2, H3, H4, H5, H6, H7, H8, H9, H10, ⟨%X11, H11⟩, ⟨%X12, H12⟩, ⟨%X13, H13⟩, Hk⟩
  ihave H0 := owns_take c M0 h0 x0 $$ H0
  ihave H1 := owns_take c M1 h1 x1 $$ H1
  ihave H2 := owns_take c M2 h2 x2 $$ H2
  ihave H3 := owns_take c M3 h3 x3 $$ H3
  ihave H4 := owns_take c M4 h4 x4 $$ H4
  ihave H5 := owns_take c M5 h5 x5 $$ H5
  ihave H6 := owns_take c M6 h6 x6 $$ H6
  ihave H7 := owns_take c M7 h7 x7 $$ H7
  ihave H8 := owns_take c M8 h8 x8 $$ H8
  ihave H9 := owns_take c M9 h9 x9 $$ H9
  ihave H10 := owns_take c M10 h10 x10 $$ H10
  ihave H11 := owns_take c M11 h11 X11 $$ H11
  ihave H12 := owns_take c M12 h12 X12 $$ H12
  ihave H13 := owns_take c M13 h13 X13 $$ H13
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, -, H11⟩
  icases H12 with ⟨%f12, -, H12⟩
  icases H13 with ⟨%f13, -, H13⟩
  subst hf0 hf1 hf2 hf3 hf4 hf5 hf6 hf7 hf8 hf9 hf10
  iapply ((tcRun c i M0 h0 M1 h1 M2 h2 M3 h3 M4 h4 M5 h5 M6 h6 M7 h7 M8 h8 M9 h9 M10 h10 M11 h11 M12 h12 M13 h13 f0 f1 f2 f3 f4 f5 f6 f7 f8 f9 f10).2.2.2 f11 f12 f13 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  iapply Hk
  isplitl [H0]; · iapply (owns_put c M0 h0 _ f0 rfl) $$ H0
  isplitl [H1]; · iapply (owns_put c M1 h1 _ f1 rfl) $$ H1
  isplitl [H2]; · iapply (owns_put c M2 h2 _ f2 rfl) $$ H2
  isplitl [H3]; · iapply (owns_put c M3 h3 _ f3 rfl) $$ H3
  isplitl [H4]; · iapply (owns_put c M4 h4 _ f4 rfl) $$ H4
  isplitl [H5]; · iapply (owns_put c M5 h5 _ f5 rfl) $$ H5
  isplitl [H6]; · iapply (owns_put c M6 h6 _ f6 rfl) $$ H6
  isplitl [H7]; · iapply (owns_put c M7 h7 _ f7 rfl) $$ H7
  isplitl [H8]; · iapply (owns_put c M8 h8 _ f8 rfl) $$ H8
  isplitl [H9]; · iapply (owns_put c M9 h9 _ f9 rfl) $$ H9
  isplitl [H10]; · iapply (owns_put c M10 h10 _ f10 rfl) $$ H10
  isplitl [H11]; · iapply (owns_put c M11 h11 _ _ (tcRun_fst c i M0 h0 M1 h1 M2 h2 M3 h3 M4 h4 M5 h5 M6 h6 M7 h7 M8 h8 M9 h9 M10 h10 M11 h11 M12 h12 M13 h13 f0 f1 f2 f3 f4 f5 f6 f7 f8 f9 f10)) $$ H11
  isplitl [H12]; · iapply (owns_put c M12 h12 _ _ (tcRun_snd c i M0 h0 M1 h1 M2 h2 M3 h3 M4 h4 M5 h5 M6 h6 M7 h7 M8 h8 M9 h9 M10 h10 M11 h11 M12 h12 M13 h13 f0 f1 f2 f3 f4 f5 f6 f7 f8 f9 f10)) $$ H12
  iapply (owns_put c M13 h13 _ _ (tcRun_trd c i M0 h0 M1 h1 M2 h2 M3 h3 M4 h4 M5 h5 M6 h6 M7 h7 M8 h8 M9 h9 M10 h10 M11 h11 M12 h12 M13 h13 f0 f1 f2 f3 f4 f5 f6 f7 f8 f9 f10)) $$ H13

end Cert.Proof
-- ==== Proof.Calls.lean ====
/- The two TensorCore calls' proof data at a valuation of the host's buffers, and the calls as steps of the host's run. -/
module

public import proofs.«01_k».proof.Proof.Values
public import Idealize.ShloMosaic.Lib.Pipeline.FrameBody

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A window's block at a point, cut from the array's contents at the valuation `W`. -/
abbrev in0_0 (W : Valuation τ sig (Elt F)) (t : Fin cfg0.N) : FVec F S2000x128 .f32 := ((cfg0.win 0).blk t).view.read (Elt F) (W (Proc.devRef .tc (arrRef cfg0.spec 0)))
abbrev in0_1 (W : Valuation τ sig (Elt F)) (t : Fin cfg0.N) : FVec F S2000x128 .f32 := ((cfg0.win 1).blk t).view.read (Elt F) (W (Proc.devRef .tc (arrRef cfg0.spec 1)))
abbrev in0_2 (W : Valuation τ sig (Elt F)) (t : Fin cfg0.N) : FVec F S2000x8 .f32 := ((cfg0.win 2).blk t).view.read (Elt F) (W (Proc.devRef .tc (arrRef cfg0.spec 2)))
abbrev in0_3 (W : Valuation τ sig (Elt F)) (t : Fin cfg0.N) : FVec F S16x64 .f32 := ((cfg0.win 3).blk t).view.read (Elt F) (W (Proc.devRef .tc (arrRef cfg0.spec 3)))
abbrev in0_4 (W : Valuation τ sig (Elt F)) (t : Fin cfg0.N) : FVec F S256x128 .f32 := ((cfg0.win 4).blk t).view.read (Elt F) (W (Proc.devRef .tc (arrRef cfg0.spec 4)))
abbrev in0_5 (W : Valuation τ sig (Elt F)) (t : Fin cfg0.N) : FVec F S128x128 .f32 := ((cfg0.win 5).blk t).view.read (Elt F) (W (Proc.devRef .tc (arrRef cfg0.spec 5)))
abbrev in0_6 (W : Valuation τ sig (Elt F)) (t : Fin cfg0.N) : FVec F S128x1 .f32 := ((cfg0.win 6).blk t).view.read (Elt F) (W (Proc.devRef .tc (arrRef cfg0.spec 6)))
abbrev in0_7 (W : Valuation τ sig (Elt F)) (t : Fin cfg0.N) : FVec F S1x128 .f32 := ((cfg0.win 7).blk t).view.read (Elt F) (W (Proc.devRef .tc (arrRef cfg0.spec 7)))
abbrev in0_8 (W : Valuation τ sig (Elt F)) (t : Fin cfg0.N) : FVec F S1x128 .f32 := ((cfg0.win 8).blk t).view.read (Elt F) (W (Proc.devRef .tc (arrRef cfg0.spec 8)))
abbrev in0_9 (W : Valuation τ sig (Elt F)) (t : Fin cfg0.N) : FVec F S1x1 .f32 := ((cfg0.win 9).blk t).view.read (Elt F) (W (Proc.devRef .tc (arrRef cfg0.spec 9)))
abbrev in0_10 (W : Valuation τ sig (Elt F)) (t : Fin cfg0.N) : FVec F S128x16 .f32 := ((cfg0.win 10).blk t).view.read (Elt F) (W (Proc.devRef .tc (arrRef cfg0.spec 10)))
abbrev in2_0 (W : Valuation τ sig (Elt F)) (t : Fin cfg2.N) : FVec F S32x128x128 .f32 := ((cfg2.win 0).blk t).view.read (Elt F) (W (Proc.devRef .tc (arrRef cfg2.spec 0)))

/-- What the first call makes of the blocks of a point. -/
def maskAt (W : Valuation τ sig (Elt F)) (t : Fin cfg0.N) : IVec S2000x64 1 := tcMask (in0_2 W t) (in0_3 W t)
def rowsAt (W : Valuation τ sig (Elt F)) (t : Fin cfg0.N) : FVec F S2000x128 .f32 :=
  tcRows (in0_0 W t) (in0_1 W t) (in0_4 W t) (in0_5 W t) (in0_7 W t) (in0_8 W t)
def scoreAt (W : Valuation τ sig (Elt F)) (t : Fin cfg0.N) : FVec F S2000x1 .f32 := tcScore (rowsAt W t) (in0_6 W t) (in0_9 W t)

/-- The scoped buffers the call `p` stages nothing in, each at something. -/
def rest (p : Fin 2) (c : Dev nD) : sProp 𝕄 := Pipeline.scopedRest (pin (pcfgs (F := F)) adm p).spec c

/-- The first call's proof data. -/
def dat0 (W : Valuation τ sig (Elt F)) (c : Dev nD) : Dat τ (Elt F) (HIx 1) ℕ UU ℕ cfg0 c where
  A w := W (Proc.devRef .tc (arrRef cfg0.spec w))
  after w t := match w with
    | ⟨0, _⟩ => in0_0 W t
    | ⟨1, _⟩ => in0_1 W t
    | ⟨2, _⟩ => in0_2 W t
    | ⟨3, _⟩ => in0_3 W t
    | ⟨4, _⟩ => in0_4 W t
    | ⟨5, _⟩ => in0_5 W t
    | ⟨6, _⟩ => in0_6 W t
    | ⟨7, _⟩ => in0_7 W t
    | ⟨8, _⟩ => in0_8 W t
    | ⟨9, _⟩ => in0_9 W t
    | ⟨10, _⟩ => in0_10 W t
    | ⟨11, _⟩ => tcLogits (maskAt W t) (scoreAt W t)
    | ⟨12, _⟩ => rowsAt W t
    | ⟨13, _⟩ => tcWords (maskAt W t) (scoreAt W t) (in0_10 W t)
  Φ _ := rest 0 c
  q _ := fullShare
  owed _ := (K (F := F)).Otc c 0
  recorded _ := seen (F := F) c 0

/-- The merge's proof data. -/
def dat2 (W : Valuation τ sig (Elt F)) (c : Dev nD) : Dat τ (Elt F) (HIx 1) ℕ UU ℕ cfg2 c where
  A w := W (Proc.devRef .tc (arrRef cfg2.spec w))
  after w t := match w with
    | ⟨0, _⟩ => in2_0 W t
    | ⟨1, _⟩ => mergeTop (in2_0 W t)
    | ⟨2, _⟩ => mergeBot (in2_0 W t)
  Φ _ := rest 1 c
  q _ := fullShare
  owed _ := (K (F := F)).Otc c 1
  recorded _ := seen (F := F) c 1

/-- The data of both calls, each at its own valuation. -/
def pdats (W0 W2 : Dev nD → Valuation τ sig (Elt F)) : (p : Fin 2) → (c : Dev nD) → Dat τ (Elt F) (HIx 1) ℕ UU ℕ (pin (pcfgs (F := F)) adm p) c
  | ⟨0, _⟩ => fun c => dat0 (W0 c) c
  | ⟨1, _⟩ => fun c => dat2 (W2 c) c

section First

variable (W : Valuation τ sig (Elt F)) (c : Dev nD)

theorem before0_0 (t : Fin cfg0.N) (d : (cfg0.win 0).block.Idx → Elt F (cfg0.win 0).elt) : (dat0 W c).before 0 t d = in0_0 W t :=
  ((dat0 W c).before_in_eq_fetched 0 rfl (fun _ => rfl) (fun _ _ _ => rfl) (fun _ => rfl) t d).trans rfl

theorem before0_1 (t : Fin cfg0.N) (d : (cfg0.win 1).block.Idx → Elt F (cfg0.win 1).elt) : (dat0 W c).before 1 t d = in0_1 W t :=
  ((dat0 W c).before_in_eq_fetched 1 rfl (fun _ => rfl) (fun _ _ _ => rfl) (fun _ => rfl) t d).trans rfl

theorem before0_2 (t : Fin cfg0.N) (d : (cfg0.win 2).block.Idx → Elt F (cfg0.win 2).elt) : (dat0 W c).before 2 t d = in0_2 W t :=
  ((dat0 W c).before_in_eq_fetched 2 rfl (fun _ => rfl) (fun _ _ _ => rfl) (fun _ => rfl) t d).trans rfl

theorem before0_3 (t : Fin cfg0.N) (d : (cfg0.win 3).block.Idx → Elt F (cfg0.win 3).elt) : (dat0 W c).before 3 t d = in0_3 W t :=
  ((dat0 W c).before_in_eq_fetched 3 rfl (fun _ => rfl) (fun _ _ _ => rfl) (fun _ => rfl) t d).trans rfl

theorem before0_4 (t : Fin cfg0.N) (d : (cfg0.win 4).block.Idx → Elt F (cfg0.win 4).elt) : (dat0 W c).before 4 t d = in0_4 W t :=
  ((dat0 W c).before_in_eq_fetched 4 rfl (fun _ => rfl) (fun _ _ _ => rfl) (fun _ => rfl) t d).trans rfl

theorem before0_5 (t : Fin cfg0.N) (d : (cfg0.win 5).block.Idx → Elt F (cfg0.win 5).elt) : (dat0 W c).before 5 t d = in0_5 W t :=
  ((dat0 W c).before_in_eq_fetched 5 rfl (fun _ => rfl) (fun _ _ _ => rfl) (fun _ => rfl) t d).trans rfl

theorem before0_6 (t : Fin cfg0.N) (d : (cfg0.win 6).block.Idx → Elt F (cfg0.win 6).elt) : (dat0 W c).before 6 t d = in0_6 W t :=
  ((dat0 W c).before_in_eq_fetched 6 rfl (fun _ => rfl) (fun _ _ _ => rfl) (fun _ => rfl) t d).trans rfl

theorem before0_7 (t : Fin cfg0.N) (d : (cfg0.win 7).block.Idx → Elt F (cfg0.win 7).elt) : (dat0 W c).before 7 t d = in0_7 W t :=
  ((dat0 W c).before_in_eq_fetched 7 rfl (fun _ => rfl) (fun _ _ _ => rfl) (fun _ => rfl) t d).trans rfl

theorem before0_8 (t : Fin cfg0.N) (d : (cfg0.win 8).block.Idx → Elt F (cfg0.win 8).elt) : (dat0 W c).before 8 t d = in0_8 W t :=
  ((dat0 W c).before_in_eq_fetched 8 rfl (fun _ => rfl) (fun _ _ _ => rfl) (fun _ => rfl) t d).trans rfl

theorem before0_9 (t : Fin cfg0.N) (d : (cfg0.win 9).block.Idx → Elt F (cfg0.win 9).elt) : (dat0 W c).before 9 t d = in0_9 W t :=
  ((dat0 W c).before_in_eq_fetched 9 rfl (fun _ => rfl) (fun _ _ _ => rfl) (fun _ => rfl) t d).trans rfl

theorem before0_10 (t : Fin cfg0.N) (d : (cfg0.win 10).block.Idx → Elt F (cfg0.win 10).elt) : (dat0 W c).before 10 t d = in0_10 W t :=
  ((dat0 W c).before_in_eq_fetched 10 rfl (fun _ => rfl) (fun _ _ _ => rfl) (fun _ => rfl) t d).trans rfl

theorem body0 : Pipeline.BodyObligation (dat0 W c) (defs₀ (F := F)) 𝒱₀ none Set.univ := fun t => by
  rw [bigSep_W0, bigSep_W0]
  show iprop((dat0 W c).Φ t.castSucc ∗ (dat0 W c).owesAt none t.castSucc ∗ (∃ d, owns (c : Thread nD τ) (st0_0 t) fullShare ((dat0 W c).before 0 t d)) ∗ (∃ d, owns (c : Thread nD τ) (st0_1 t) fullShare ((dat0 W c).before 1 t d)) ∗ (∃ d, owns (c : Thread nD τ) (st0_2 t) fullShare ((dat0 W c).before 2 t d)) ∗ (∃ d, owns (c : Thread nD τ) (st0_3 t) fullShare ((dat0 W c).before 3 t d)) ∗ (∃ d, owns (c : Thread nD τ) (st0_4 t) fullShare ((dat0 W c).before 4 t d)) ∗ (∃ d, owns (c : Thread nD τ) (st0_5 t) fullShare ((dat0 W c).before 5 t d)) ∗ (∃ d, owns (c : Thread nD τ) (st0_6 t) fullShare ((dat0 W c).before 6 t d)) ∗ (∃ d, owns (c : Thread nD τ) (st0_7 t) fullShare ((dat0 W c).before 7 t d)) ∗ (∃ d, owns (c : Thread nD τ) (st0_8 t) fullShare ((dat0 W c).before 8 t d)) ∗ (∃ d, owns (c : Thread nD τ) (st0_9 t) fullShare ((dat0 W c).before 9 t d)) ∗ (∃ d, owns (c : Thread nD τ) (st0_10 t) fullShare ((dat0 W c).before 10 t d)) ∗ (∃ d, owns (c : Thread nD τ) (st0_11 t) fullShare ((dat0 W c).before 11 t d)) ∗ (∃ d, owns (c : Thread nD τ) (st0_12 t) fullShare ((dat0 W c).before 12 t d)) ∗ (∃ d, owns (c : Thread nD τ) (st0_13 t) fullShare ((dat0 W c).before 13 t d)))
    ⊢ wp frame (wpE (defs₀ (F := F)) 𝒱₀ (c : Thread nD τ) none) Set.univ (bodyAt0 t)
      (fun _ => iprop((dat0 W c).Φ t.castSucc ∗ (dat0 W c).owesAt none t.castSucc ∗ owns (c : Thread nD τ) (st0_0 t) fullShare (in0_0 W t) ∗ owns (c : Thread nD τ) (st0_1 t) fullShare (in0_1 W t) ∗ owns (c : Thread nD τ) (st0_2 t) fullShare (in0_2 W t) ∗ owns (c : Thread nD τ) (st0_3 t) fullShare (in0_3 W t) ∗ owns (c : Thread nD τ) (st0_4 t) fullShare (in0_4 W t) ∗ owns (c : Thread nD τ) (st0_5 t) fullShare (in0_5 W t) ∗ owns (c : Thread nD τ) (st0_6 t) fullShare (in0_6 W t) ∗ owns (c : Thread nD τ) (st0_7 t) fullShare (in0_7 W t) ∗ owns (c : Thread nD τ) (st0_8 t) fullShare (in0_8 W t) ∗ owns (c : Thread nD τ) (st0_9 t) fullShare (in0_9 W t) ∗ owns (c : Thread nD τ) (st0_10 t) fullShare (in0_10 W t) ∗ owns (c : Thread nD τ) (st0_11 t) fullShare (tcLogits (maskAt W t) (scoreAt W t)) ∗ owns (c : Thread nD τ) (st0_12 t) fullShare (rowsAt W t) ∗ owns (c : Thread nD τ) (st0_13 t) fullShare (tcWords (maskAt W t) (scoreAt W t) (in0_10 W t))))
  simp only [before0_0, before0_1, before0_2, before0_3, before0_4, before0_5, before0_6, before0_7, before0_8, before0_9, before0_10]
  generalize (dat0 W c).Φ t.castSucc = A
  generalize (dat0 W c).owesAt none t.castSucc = B
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_tc c (grid0.coords t) _ _ _ _ _ _ _ _ _ _ _ _ _ _ _ _ _ _ _ _ _ _ _ _ _ _ _ _ (in0_0 W t) (in0_1 W t) (in0_2 W t) (in0_3 W t) (in0_4 W t) (in0_5 W t) (in0_6 W t) (in0_7 W t) (in0_8 W t) (in0_9 W t) (in0_10 W t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem start0 (w : Fin cfg0.W) : (dat0 W c).arrAt w 0 = W (Proc.devRef .tc (arrRef cfg0.spec w)) := by unfold Dat.arrAt dat0; rfl

end First

section Second

variable (W : Valuation τ sig (Elt F)) (c : Dev nD)

theorem before2_0 (t : Fin cfg2.N) (d : (cfg2.win 0).block.Idx → Elt F (cfg2.win 0).elt) : (dat2 W c).before 0 t d = in2_0 W t :=
  ((dat2 W c).before_in_eq_fetched 0 rfl (fun _ => rfl) (fun _ _ _ => rfl) (fun _ => rfl) t d).trans rfl

theorem body2 : Pipeline.BodyObligation (dat2 W c) (defs₀ (F := F)) 𝒱₀ none Set.univ := fun t => by
  rw [bigSep_W2, bigSep_W2]
  show iprop((dat2 W c).Φ t.castSucc ∗ (dat2 W c).owesAt none t.castSucc ∗ (∃ d, owns (c : Thread nD τ) (st2_0 t) fullShare ((dat2 W c).before 0 t d)) ∗ (∃ d, owns (c : Thread nD τ) (st2_1 t) fullShare ((dat2 W c).before 1 t d)) ∗ (∃ d, owns (c : Thread nD τ) (st2_2 t) fullShare ((dat2 W c).before 2 t d)))
    ⊢ wp frame (wpE (defs₀ (F := F)) 𝒱₀ (c : Thread nD τ) none) Set.univ (bodyAt2 t)
      (fun _ => iprop((dat2 W c).Φ t.castSucc ∗ (dat2 W c).owesAt none t.castSucc ∗ owns (c : Thread nD τ) (st2_0 t) fullShare (in2_0 W t) ∗ owns (c : Thread nD τ) (st2_1 t) fullShare (mergeTop (in2_0 W t)) ∗ owns (c : Thread nD τ) (st2_2 t) fullShare (mergeBot (in2_0 W t))))
  simp only [before2_0]
  generalize (dat2 W c).Φ t.castSucc = A
  generalize (dat2 W c).owesAt none t.castSucc = B
  iintro ⟨HΦ, Howes, ⟨%d0, H0⟩, ⟨%d1, H1⟩, ⟨%d2, H2⟩⟩
  iapply (wp_merge c _ _ _ _ _ _ (in2_0 W t))
  isplitl [H0]; · iexact H0
  isplitl [H1]; · iexists _; iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

theorem start2 (w : Fin cfg2.W) : (dat2 W c).arrAt w 0 = W (Proc.devRef .tc (arrRef cfg2.spec w)) := by unfold Dat.arrAt dat2; rfl

end Second

end Cert.Proof
-- ==== Proof.Segs.lean ====
/- The two TensorCore calls as steps of the host's run. -/
module

public import proofs.«01_k».proof.Proof.Calls

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem phi0 (W : Valuation τ sig (Elt F)) (c : Dev nD) (t : Fin (cfg0.N + 1)) :
    (dat0 W c).Φ t = Pipeline.scopedRest (pin (pcfgs (F := F)) adm 0).spec c := by
  dsimp only [dat0]; unfold rest; with_reducible rfl
theorem phi2 (W : Valuation τ sig (Elt F)) (c : Dev nD) (t : Fin (cfg2.N + 1)) :
    (dat2 W c).Φ t = Pipeline.scopedRest (pin (pcfgs (F := F)) adm 1).spec c := by
  dsimp only [dat2]; unfold rest; with_reducible rfl

variable (W0 W2 : Dev nD → Valuation τ sig (Elt F))

/-- The first call as a step of the host's run. -/
def seg0 : Pipeline.RegionSeg (pcfgs (F := F)) adm (pdats W0 W2) none (defs₀ (F := F)) 𝒱₀ (K (F := F)).L (K (F := F)).lev 0 :=
  seg (pdats W0 W2) 0 0 launch0 (fun c => body0 (W0 c) c) (fun _ _ => rfl) (fun _ _ => rfl)
    (fun c w => (pdats W0 W2 0 c).share_full (fun _ => rfl) w) (fun c t => phi0 (W0 c) c t) W0 (fun c w => start0 (W0 c) c w)

/-- The merge as a step of the host's run. -/
def seg2 : Pipeline.RegionSeg (pcfgs (F := F)) adm (pdats W0 W2) none (defs₀ (F := F)) 𝒱₀ (K (F := F)).L (K (F := F)).lev 1 :=
  seg (pdats W0 W2) 1 1 launch2 (fun c => body2 (W2 c) c) (fun _ _ => rfl) (fun _ _ => rfl)
    (fun c w => (pdats W0 W2 1 c).share_full (fun _ => rfl) w) (fun c t => phi2 (W2 c) c t) W2 (fun c w => start2 (W2 c) c w)

end Cert.Proof
-- ==== Proof.Deal.lean ====
/- The SparseCore call as a step of the host's run: the tables dealt to the tiles by share, the result by block. -/
module

public import proofs.«01_k».proof.Proof.Segs

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev rH : DevRef τ sig := Proc.devRef .tc main_v72_1
abbrev rW : DevRef τ sig := Proc.devRef .tc main_v72_2
abbrev rO : DevRef τ sig := Proc.devRef .tc main_v73

/-! ## Dealing -/

/-- The coordinates of tile `j` of SparseCore `c`. -/
def co (c : Fin 2) (j : Fin 16) : grid1.Coords := coordsV c j

theorem share_deal (ℓ : Loc nD τ sig) (f : Buf (Elt F) ℓ) :
    (ℓ ↦{fullShare} f : sProp 𝕄) = bigSep Finset.univ fun c : Fin 2 => bigSep Finset.univ fun j : Fin 16 => ℓ ↦{tileShare (co c j)} f := by
  refine (Transfers.pointsTo_deal (Finset.univ : Finset (Fin 2)) ⟨0, Finset.mem_univ _⟩ fullShare).trans (bigSep_congr fun c _ => ?_)
  exact Transfers.pointsTo_deal (Finset.univ : Finset (Fin 16)) ⟨0, Finset.mem_univ _⟩ _

theorem coords_eta (i : grid1.Coords) : co (i 0) (i 1) = i := funext (Fin.forall_fin_two.mpr ⟨rfl, rfl⟩)

theorem mem_blk (i : grid1.Coords) (y : S32x128x128.Idx) : y ∈ (dst4 i).view.set ↔ tileOf (y 0) = i := by
  constructor
  · intro h
    obtain ⟨x, -, e⟩ := Finset.mem_map.mp h
    rw [← e]; exact dst4_tile i x
  · rintro rfl
    refine Finset.mem_map.mpr ⟨ixRow (y 1) (y 2), Finset.mem_univ _, ?_⟩
    refine funext fun a => Fin.ext ((dst4_emb _ _ a).trans ?_)
    match a with
    | 0 => exact Nat.div_add_mod (y 0).val 2
    | 1 => rfl
    | 2 => rfl

/-- A tile's block of the result. -/
def blkSet (c : Fin 2) (j : Fin 16) : Finset S32x128x128.Idx := (dst4 (co c j)).view.set

theorem mem_blkSet (c : Fin 2) (j : Fin 16) (y : S32x128x128.Idx) : y ∈ blkSet c j ↔ tileOf (y 0) = co c j := mem_blk _ y

theorem set_deal (ℓ : Loc nD τ sig) (S : Fin 2 → Fin 16 → Finset (Idx ℓ)) (key : Idx ℓ → Fin 2 × Fin 16) (hS : ∀ c j y, y ∈ S c j ↔ key y = (c, j)) (f : Buf (Elt F) ℓ) :
    (ℓ ↦{fullShare} f : sProp 𝕄) = bigSep Finset.univ fun c : Fin 2 => bigSep Finset.univ fun j : Fin 16 => ℓ ↦[S c j]{fullShare} f := by
  classical
  have hj : ∀ c, ∀ j ∈ (Finset.univ : Finset (Fin 16)), ∀ j' ∈ (Finset.univ : Finset (Fin 16)), j ≠ j' → Disjoint (S c j) (S c j') := fun c j _ j' _ h =>
    Finset.disjoint_left.mpr fun y hy hy' => h (congrArg Prod.snd (((hS c j y).mp hy).symm.trans ((hS c j' y).mp hy')))
  have hc : ∀ c ∈ (Finset.univ : Finset (Fin 2)), ∀ c' ∈ (Finset.univ : Finset (Fin 2)), c ≠ c' →
      Disjoint (Finset.univ.biUnion (S c)) (Finset.univ.biUnion (S c')) := fun c _ c' _ h =>
    Finset.disjoint_left.mpr fun y hy hy' => by
      obtain ⟨j, -, hj⟩ := Finset.mem_biUnion.mp hy
      obtain ⟨j', -, hj'⟩ := Finset.mem_biUnion.mp hy'
      exact h (congrArg Prod.fst (((hS c j y).mp hj).symm.trans ((hS c' j' y).mp hj')))
  have hu : (Finset.univ.biUnion fun c => Finset.univ.biUnion (S c)) = (Finset.univ : Finset (Idx ℓ)) :=
    Finset.eq_univ_iff_forall.mpr fun y => Finset.mem_biUnion.mpr ⟨(key y).1, Finset.mem_univ _, Finset.mem_biUnion.mpr ⟨(key y).2, Finset.mem_univ _, (hS _ _ y).mpr rfl⟩⟩
  rw [← hu, pointsTo_biUnion Finset.univ _ hc]
  exact bigSep_congr fun c _ => pointsTo_biUnion Finset.univ _ (hj c)

theorem key_iff (i : grid1.Coords) (c : Fin 2) (j : Fin 16) : i = co c j ↔ ((i 0, i 1) : Fin 2 × Fin 16) = (c, j) :=
  ⟨fun h => by rw [h]; rfl, fun h => (coords_eta i).symm.trans (congrArg₂ co (congrArg Prod.fst h) (congrArg Prod.snd h))⟩

theorem block_deal (d : Dev nD) (f : Buf (Elt F) ((d, rO) : Loc nD τ sig)) :
    (((d, rO) : Loc nD τ sig) ↦{fullShare} f : sProp 𝕄)
      = bigSep Finset.univ fun c : Fin 2 => bigSep Finset.univ fun j : Fin 16 => ((d, rO) : Loc nD τ sig) ↦[blkSet c j]{fullShare} f :=
  set_deal ((d, rO) : Loc nD τ sig) blkSet (fun y : S32x128x128.Idx => (tileOf (y 0) 0, tileOf (y 0) 1)) (fun c j y => (mem_blkSet c j y).trans (key_iff _ c j)) f

/-! ## What the call takes and hands back -/

variable (fh : Dev nD → S54000x128.Idx → F .f32) (fw : Dev nD → S54000x16.Idx → BitVec 32) (fo : Dev nD → S32x128x128.Idx → F .f32)

/-- The two tables and the result, whole. -/
def three (d : Dev nD) (g : S32x128x128.Idx → F .f32) : sProp 𝕄 :=
  iprop((((d, rH) : Loc nD τ sig) ↦{fullShare} (fh d : Buf (Elt F) ((d, rH) : Loc nD τ sig))) ∗ (((d, rW) : Loc nD τ sig) ↦{fullShare} (fw d : Buf (Elt F) ((d, rW) : Loc nD τ sig)))
    ∗ (((d, rO) : Loc nD τ sig) ↦{fullShare} (g : Buf (Elt F) ((d, rO) : Loc nD τ sig))))

theorem three_deal (d : Dev nD) (g : S32x128x128.Idx → F .f32) :
    (three fh fw d g : sProp 𝕄) = bigSep Finset.univ fun c : Fin 2 => bigSep Finset.univ fun j : Fin 16 =>
      iprop(tab5 d (co c j) (tileShare (co c j)) (fh d) ∗ tab6 d (co c j) (tileShare (co c j)) (fw d) ∗ blk d (co c j) g) := by
  unfold three
  rw [share_deal, share_deal, block_deal]
  simp only [← bigSep_sep']
  first | done | rfl

theorem fin_cast {n n' : ℕ} (h : n = n') (Φ : Fin n' → sProp 𝕄) : (bigSep Finset.univ fun c : Fin n => Φ (Fin.cast h c)) = bigSep Finset.univ Φ := by
  subst h; rfl

theorem deal_cast (Φ : Fin 2 → Fin 16 → sProp 𝕄) :
    (bigSep Finset.univ fun c : Fin ((K (F := F)).nCore 0) => bigSep Finset.univ fun j : Fin ((K (F := F)).nSub 0) => Φ (Fin.cast (nCore_eq 0) c) (Fin.cast (nSub_eq 0) j))
      = bigSep Finset.univ fun c : Fin 2 => bigSep Finset.univ fun j : Fin 16 => Φ c j :=
  (bigSep_congr fun c _ => fin_cast (nSub_eq 0) (Φ (Fin.cast (nCore_eq 0) c))).trans (fin_cast (nCore_eq 0) fun c => bigSep Finset.univ (Φ c))

theorem st_eq (d : Dev nD) (c : Fin ((K (F := F)).nCore 0)) :
    (P fh fw fo).st 0 d c = bigSep Finset.univ fun j => taskIn fh fw fo d (co (Fin.cast (nCore_eq (F := F) 0) c) (Fin.cast (nSub_eq (F := F) 0) j)) := by
  with_unfolding_all rfl
theorem dn_eq (d : Dev nD) (c : Fin ((K (F := F)).nCore 0)) :
    (P fh fw fo).dn 0 d c = bigSep Finset.univ fun j => taskOut fh fw d (co (Fin.cast (nCore_eq (F := F) 0) c) (Fin.cast (nSub_eq (F := F) 0) j)) := by
  with_unfolding_all rfl

theorem st_three (d : Dev nD) : (bigSep Finset.univ fun c : Fin ((K (F := F)).nCore 0) => (P fh fw fo).st 0 d c : sProp 𝕄) = three fh fw d (fo d) := by
  rw [bigSep_congr fun c _ => st_eq fh fw fo d c, deal_cast fun c j => taskIn fh fw fo d (co c j), three_deal]
  simp only [taskIn]
theorem dn_three (d : Dev nD) : (bigSep Finset.univ fun c : Fin ((K (F := F)).nCore 0) => (P fh fw fo).dn 0 d c : sProp 𝕄) = three fh fw d (outOf (fh d) (fw d)) := by
  rw [bigSep_congr fun c _ => dn_eq fh fw fo d c, deal_cast fun c j => taskOut fh fw d (co c j), three_deal]
  simp only [taskOut]

/-! ## The call over the host's buffers -/

variable (W : Dev nD → Valuation τ sig (Elt F))

def tblH (d : Dev nD) : S54000x128.Idx → F .f32 := W d rH
def tblW (d : Dev nD) : S54000x16.Idx → BitVec 32 := W d rW
def tblO (d : Dev nD) : S32x128x128.Idx → F .f32 := W d rO

/-- The host's buffers after the call. -/
def afterCall (d : Dev nD) : Valuation τ sig (Elt F) := Function.update (W d) rO (outOf (tblH W d) (tblW W d))

def offThree : Finset (DevRef τ sig) := ((ucRefs.erase rH).erase rW).erase rO

theorem uc_mem (r : Ref sig .tc) (h : r.isScoped = false) : Proc.devRef (τ := τ) .tc r ∈ ucRefs :=
  Finset.mem_filter.mpr ⟨StableHlo.devRef_mem_tcRefs r, by simp [h]⟩
theorem hW_ne : rW ≠ rH := fun e => absurd (Proc.devRef_injective _ e) (by decide)
theorem hOH_ne : rO ≠ rH := fun e => absurd (Proc.devRef_injective _ e) (by decide)
theorem hOW_ne : rO ≠ rW := fun e => absurd (Proc.devRef_injective _ e) (by decide)

theorem off_three {I : Type} [DecidableEq I] {s : Finset I} {a b c : I} (ha : a ∈ s) (hb : b ∈ s) (hc : c ∈ s) (hba : b ≠ a) (hca : c ≠ a) (hcb : c ≠ b) (Φ : I → sProp 𝕄) :
    bigSep s Φ = iprop(Φ a ∗ Φ b ∗ Φ c ∗ bigSep (((s.erase a).erase b).erase c) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩)]

theorem uc_H : rH ∈ ucRefs := uc_mem main_v72_1 (by decide)
theorem uc_W : rW ∈ ucRefs := uc_mem main_v72_2 (by decide)
theorem uc_O : rO ∈ ucRefs := uc_mem main_v73 (by decide)

theorem held_three (d : Dev nD) (V : Valuation τ sig (Elt F)) :
    (StableHlo.held (T d) ucRefs V : sProp 𝕄)
      = iprop((((d, rH) : Loc nD τ sig) ↦{fullShare} V rH) ∗ (((d, rW) : Loc nD τ sig) ↦{fullShare} V rW) ∗ (((d, rO) : Loc nD τ sig) ↦{fullShare} V rO)
          ∗ StableHlo.held (T d) offThree V) := by
  unfold StableHlo.held offThree
  exact off_three uc_H uc_W uc_O hW_ne hOH_ne hOW_ne fun b => ((d, b) : Loc nD τ sig) ↦{fullShare} V b

theorem held_before (d : Dev nD) :
    (StableHlo.held (T d) ucRefs (W d) : sProp 𝕄) ⊢ iprop(three (tblH W) (tblW W) d (tblO W d) ∗ StableHlo.held (T d) offThree (W d)) := by
  rw [held_three]; unfold three
  iintro ⟨H1, H2, H3, H⟩
  isplitr [H]
  · isplitl [H1]; · iexact H1
    isplitl [H2]; · iexact H2
    iexact H3
  iexact H

theorem held_after (d : Dev nD) :
    iprop(three (tblH W) (tblW W) d (outOf (tblH W d) (tblW W d)) ∗ StableHlo.held (T d) offThree (W d))
      ⊢ (StableHlo.held (T d) ucRefs (afterCall W d) : sProp 𝕄) := by
  rw [held_three, StableHlo.held_congr (T d) (S := offThree) (V := afterCall W d) (V' := W d)
    (fun b hb => Function.update_of_ne (Finset.ne_of_mem_erase hb) _ _),
    show afterCall W d rH = W d rH from Function.update_of_ne hOH_ne.symm _ _,
    show afterCall W d rW = W d rW from Function.update_of_ne hOW_ne.symm _ _,
    show afterCall W d rO = outOf (tblH W d) (tblW W d) from Function.update_self ..]
  unfold three
  iintro ⟨⟨H1, H2, H3⟩, H⟩
  isplitl [H1]; · iexact H1
  isplitl [H2]; · iexact H2
  isplitl [H3]; · iexact H3
  iexact H

/-- The call, on the host's buffers at `W`. -/
theorem wp_call (κ : GSem nD τ sig → ℕ) (d : Dev nD) {Φ : PUnit → sProp 𝕄} :
    iprop((K (F := F)).ctx EH (P (tblH W) (tblW W) (tblO W)) κ ∗ (K (F := F)).tcSt EH d 0 ∗ StableHlo.held (T d) ucRefs (W d)
      ∗ (iprop((K (F := F)).tcSt EH d 1 ∗ StableHlo.held (T d) ucRefs (afterCall W d)) -∗ Φ ⟨⟩))
    ⊢ wp frame (wpE ((K (F := F)).defs (D (F := F))) 𝒱 (T d) none) Set.univ ((K (F := F)).run d 0) Φ := by
  iintro ⟨Hctx, Hst, Hh, HK⟩
  ihave Hh' := (held_before W d) $$ Hh
  icases Hh' with ⟨H3, Hr⟩
  iapply ((K (F := F)).wp_run (D (F := F)) 𝒱 (EH := EH) (P := P (tblH W) (tblW W) (tblO W)) κ d 0) $$ [Hctx Hst H3 Hr HK]
  isplitl [Hctx]; · iexact Hctx
  isplitl [Hst]; · iexact Hst
  isplitl [H3]; · iapply (Entails.of_eq (st_three (tblH W) (tblW W) (tblO W) d).symm); iexact H3
  iintro ⟨Hst, Hdn⟩
  ihave Hdn' := (Entails.of_eq (dn_three (tblH W) (tblW W) (tblO W) d)) $$ Hdn
  iapply HK
  isplitl [Hst]; · iexact Hst
  iapply (held_after W d)
  isplitl [Hdn']; · iexact Hdn'
  iexact Hr

end Cert.Proof
-- ==== Proof.Host.lean ====
/- The host's operations around the calls, as two straight lines, and what they write. -/
module

public import proofs.«01_k».proof.Proof.Segs

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Two columns side by side. -/
def pairUp : (⟨S128x1, .i32⟩ : BufTy).Contents (Elt F) → (⟨S128x1, .i32⟩ : BufTy).Contents (Elt F) → (⟨S128x2, .i32⟩ : BufTy).Contents (Elt F) :=
  fun a b => concatenate S128x2 1 [⟨S128x1, a⟩, ⟨S128x1, b⟩] concatenates_S128x1_S128x1_S128x2_d1
/-- The three results end to end. -/
def joinAll : (main_v76 : Ref sig .tc).ty.Contents (Elt F) → (main_v77 : Ref sig .tc).ty.Contents (Elt F) → (main_v78 : Ref sig .tc).ty.Contents (Elt F) → (main_v79 : Ref sig .tc).ty.Contents (Elt F) :=
  fun a b c => (concatenate S3216384 0 [⟨S3200000, (a : (⟨S3200000, .f32⟩ : BufTy).Contents (Elt F))⟩, ⟨S8192, (b : (⟨S8192, .f32⟩ : BufTy).Contents (Elt F))⟩, ⟨S8192, (c : (⟨S8192, .f32⟩ : BufTy).Contents (Elt F))⟩] concatenates_S3200000_S8192_S8192_S3216384_d0 : (⟨S3216384, .f32⟩ : BufTy).Contents (Elt F))

/-- The operations before the first call. -/
abbrev opsA : List (HloOp τ sig (Elt F)) :=
  [ StableHlo.unary main_arg3 main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S50000x3 ![0, 1] bcast_S1x3_S50000x3_0_1 : (⟨S1x3, .f32⟩ : BufTy).Contents (Elt F) → (⟨S50000x3, .f32⟩ : BufTy).Contents (Elt F)),
    StableHlo.binary main_arg2 main_v1 main_v2 (addf : (⟨S50000x3, .f32⟩ : BufTy).Contents (Elt F) → (⟨S50000x3, .f32⟩ : BufTy).Contents (Elt F) → (⟨S50000x3, .f32⟩ : BufTy).Contents (Elt F)),
    StableHlo.nullary main_cst (constant S_ .f32 0x00000000#32),
    StableHlo.unary main_cst main_v3 (broadcastInDim S50000x8 ![] bcast_S_S50000x8 : (⟨S_, .f32⟩ : BufTy).Contents (Elt F) → (⟨S50000x8, .f32⟩ : BufTy).Contents (Elt F)),
    StableHlo.nullary main_c (constantI S_ 32 0#32),
    StableHlo.unary main_c main_v4 (broadcastInDim S1 ![] bcast_S_S1 : (⟨S_, .i32⟩ : BufTy).Contents (Elt F) → (⟨S1, .i32⟩ : BufTy).Contents (Elt F)),
    StableHlo.ternary main_v3 main_v4 main_v2 main_v5 ((fun x i u => Host.scatter scatter_S50000x8_S1_S50000x3_01_n_1_0 (fun _ b => b) x i u) : (⟨S50000x8, .f32⟩ : BufTy).Contents (Elt F) → (⟨S1, .i32⟩ : BufTy).Contents (Elt F) → (⟨S50000x3, .f32⟩ : BufTy).Contents (Elt F) → (⟨S50000x8, .f32⟩ : BufTy).Contents (Elt F)),
    StableHlo.nullary main_cst_0 (constant S_ .f32 0x00000000#32),
    StableHlo.unary main_cst_0 main_v6 (broadcastInDim S16x64 ![] bcast_S_S16x64 : (⟨S_, .f32⟩ : BufTy).Contents (Elt F) → (⟨S16x64, .f32⟩ : BufTy).Contents (Elt F)),
    StableHlo.unary main_arg6 main_v7 ((extractStridedSlice S64x1 ![0, 0] · slices_S64x3_S64x1_0_0) : (⟨S64x3, .f32⟩ : BufTy).Contents (Elt F) → (⟨S64x1, .f32⟩ : BufTy).Contents (Elt F)),
    StableHlo.reshape main_v7 main_v8 (rfl : (.f32 : EltTy) = .f32) shapeCasts_S64x1_S64,
    StableHlo.nullary main_c_1 (constantI S_ 32 0#32),
    StableHlo.unary main_c_1 main_v9 (broadcastInDim S1 ![] bcast_S_S1 : (⟨S_, .i32⟩ : BufTy).Contents (Elt F) → (⟨S1, .i32⟩ : BufTy).Contents (Elt F)),
    StableHlo.ternary main_v6 main_v9 main_v8 main_v10 ((fun x i u => Host.scatter scatter_S16x64_S1_S64_0_0_0_0 (fun _ b => b) x i u) : (⟨S16x64, .f32⟩ : BufTy).Contents (Elt F) → (⟨S1, .i32⟩ : BufTy).Contents (Elt F) → (⟨S64, .f32⟩ : BufTy).Contents (Elt F) → (⟨S16x64, .f32⟩ : BufTy).Contents (Elt F)),
    StableHlo.unary main_arg7 main_v11 ((extractStridedSlice S64x1 ![0, 0] · slices_S64x3_S64x1_0_0) : (⟨S64x3, .f32⟩ : BufTy).Contents (Elt F) → (⟨S64x1, .f32⟩ : BufTy).Contents (Elt F)),
    StableHlo.reshape main_v11 main_v12 (rfl : (.f32 : EltTy) = .f32) shapeCasts_S64x1_S64,
    StableHlo.nullary main_c_2 (constantI S_ 32 1#32),
    StableHlo.unary main_c_2 main_v13 (broadcastInDim S1 ![] bcast_S_S1 : (⟨S_, .i32⟩ : BufTy).Contents (Elt F) → (⟨S1, .i32⟩ : BufTy).Contents (Elt F)),
    StableHlo.ternary main_v10 main_v13 main_v12 main_v14 ((fun x i u => Host.scatter scatter_S16x64_S1_S64_0_0_0_0 (fun _ b => b) x i u) : (⟨S16x64, .f32⟩ : BufTy).Contents (Elt F) → (⟨S1, .i32⟩ : BufTy).Contents (Elt F) → (⟨S64, .f32⟩ : BufTy).Contents (Elt F) → (⟨S16x64, .f32⟩ : BufTy).Contents (Elt F)),
    StableHlo.unary main_arg6 main_v15 ((extractStridedSlice S64x1 ![0, 1] · slices_S64x3_S64x1_0_1) : (⟨S64x3, .f32⟩ : BufTy).Contents (Elt F) → (⟨S64x1, .f32⟩ : BufTy).Contents (Elt F)),
    StableHlo.reshape main_v15 main_v16 (rfl : (.f32 : EltTy) = .f32) shapeCasts_S64x1_S64,
    StableHlo.nullary main_c_3 (constantI S_ 32 2#32),
    StableHlo.unary main_c_3 main_v17 (broadcastInDim S1 ![] bcast_S_S1 : (⟨S_, .i32⟩ : BufTy).Contents (Elt F) → (⟨S1, .i32⟩ : BufTy).Contents (Elt F)),
    StableHlo.ternary main_v14 main_v17 main_v16 main_v18 ((fun x i u => Host.scatter scatter_S16x64_S1_S64_0_0_0_0 (fun _ b => b) x i u) : (⟨S16x64, .f32⟩ : BufTy).Contents (Elt F) → (⟨S1, .i32⟩ : BufTy).Contents (Elt F) → (⟨S64, .f32⟩ : BufTy).Contents (Elt F) → (⟨S16x64, .f32⟩ : BufTy).Contents (Elt F)),
    StableHlo.unary main_arg7 main_v19 ((extractStridedSlice S64x1 ![0, 1] · slices_S64x3_S64x1_0_1) : (⟨S64x3, .f32⟩ : BufTy).Contents (Elt F) → (⟨S64x1, .f32⟩ : BufTy).Contents (Elt F)),
    StableHlo.reshape main_v19 main_v20 (rfl : (.f32 : EltTy) = .f32) shapeCasts_S64x1_S64,
    StableHlo.nullary main_c_4 (constantI S_ 32 3#32),
    StableHlo.unary main_c_4 main_v21 (broadcastInDim S1 ![] bcast_S_S1 : (⟨S_, .i32⟩ : BufTy).Contents (Elt F) → (⟨S1, .i32⟩ : BufTy).Contents (Elt F)),
    StableHlo.ternary main_v18 main_v21 main_v20 main_v22 ((fun x i u => Host.scatter scatter_S16x64_S1_S64_0_0_0_0 (fun _ b => b) x i u) : (⟨S16x64, .f32⟩ : BufTy).Contents (Elt F) → (⟨S1, .i32⟩ : BufTy).Contents (Elt F) → (⟨S64, .f32⟩ : BufTy).Contents (Elt F) → (⟨S16x64, .f32⟩ : BufTy).Contents (Elt F)),
    StableHlo.unary main_arg4 main_v23 ((transpose S3x64 [1, 0] · transposes_S64x3_S3x64_1_0) : (⟨S64x3, .f32⟩ : BufTy).Contents (Elt F) → (⟨S3x64, .f32⟩ : BufTy).Contents (Elt F)),
    StableHlo.nullary main_c_5 (constantI S_ 32 4#32),
    StableHlo.unary main_c_5 main_v24 (broadcastInDim S1 ![] bcast_S_S1 : (⟨S_, .i32⟩ : BufTy).Contents (Elt F) → (⟨S1, .i32⟩ : BufTy).Contents (Elt F)),
    StableHlo.ternary main_v22 main_v24 main_v23 main_v25 ((fun x i u => Host.scatter scatter_S16x64_S1_S3x64_01_n_0_0 (fun _ b => b) x i u) : (⟨S16x64, .f32⟩ : BufTy).Contents (Elt F) → (⟨S1, .i32⟩ : BufTy).Contents (Elt F) → (⟨S3x64, .f32⟩ : BufTy).Contents (Elt F) → (⟨S16x64, .f32⟩ : BufTy).Contents (Elt F)),
    StableHlo.unary main_arg5 main_v26 ((transpose S3x64 [1, 0] · transposes_S64x3_S3x64_1_0) : (⟨S64x3, .f32⟩ : BufTy).Contents (Elt F) → (⟨S3x64, .f32⟩ : BufTy).Contents (Elt F)),
    StableHlo.nullary main_c_6 (constantI S_ 32 7#32),
    StableHlo.unary main_c_6 main_v27 (broadcastInDim S1 ![] bcast_S_S1 : (⟨S_, .i32⟩ : BufTy).Contents (Elt F) → (⟨S1, .i32⟩ : BufTy).Contents (Elt F)),
    StableHlo.ternary main_v25 main_v27 main_v26 main_v28 ((fun x i u => Host.scatter scatter_S16x64_S1_S3x64_01_n_0_0 (fun _ b => b) x i u) : (⟨S16x64, .f32⟩ : BufTy).Contents (Elt F) → (⟨S1, .i32⟩ : BufTy).Contents (Elt F) → (⟨S3x64, .f32⟩ : BufTy).Contents (Elt F) → (⟨S16x64, .f32⟩ : BufTy).Contents (Elt F)),
    StableHlo.nullary main_v29 (iotaInDim S128 32 0),
    StableHlo.nullary main_cst_7 (constant S_ .f32 0x00000000#32),
    StableHlo.unary main_cst_7 main_v30 (broadcastInDim S128x16 ![] bcast_S_S128x16 : (⟨S_, .f32⟩ : BufTy).Contents (Elt F) → (⟨S128x16, .f32⟩ : BufTy).Contents (Elt F)),
    StableHlo.nullary main_c_8 (constantI S_ 32 16#32),
    StableHlo.TRef.unary (StableHlo.TRef.of (T := ⟨S_, .i32⟩) main_c_8) (StableHlo.TRef.of (T := ⟨S_, .i32⟩) main_call0_v0) id,
    StableHlo.TRef.unary (StableHlo.TRef.of (T := ⟨S_, .i32⟩) main_call0_v0) (StableHlo.TRef.of (T := ⟨S128, .i32⟩) main_call0_v1) (broadcastInDim S128 ![] bcast_S_S128),
    StableHlo.TRef.binary (StableHlo.TRef.of (T := ⟨S128, .i32⟩) main_v29) (StableHlo.TRef.of (T := ⟨S128, .i32⟩) main_call0_v1) (StableHlo.TRef.of (T := ⟨S128, .i32⟩) main_call0_v2) Host.divsi,
    StableHlo.TRef.unary (StableHlo.TRef.of (T := ⟨S128, .i32⟩) main_v29) (StableHlo.TRef.of (T := ⟨S128, .i32⟩) main_call0_v3) signi,
    StableHlo.TRef.unary (StableHlo.TRef.of (T := ⟨S_, .i32⟩) main_call0_v0) (StableHlo.TRef.of (T := ⟨S_, .i32⟩) main_call0_v4) signi,
    StableHlo.TRef.unary (StableHlo.TRef.of (T := ⟨S_, .i32⟩) main_call0_v4) (StableHlo.TRef.of (T := ⟨S128, .i32⟩) main_call0_v5) (broadcastInDim S128 ![] bcast_S_S128),
    StableHlo.TRef.binary (StableHlo.TRef.of (T := ⟨S128, .i32⟩) main_call0_v3) (StableHlo.TRef.of (T := ⟨S128, .i32⟩) main_call0_v5) (StableHlo.TRef.of (T := ⟨S128, .i1⟩) main_call0_v6) (cmpi .ne),
    StableHlo.TRef.unary (StableHlo.TRef.of (T := ⟨S_, .i32⟩) main_call0_v0) (StableHlo.TRef.of (T := ⟨S128, .i32⟩) main_call0_v7) (broadcastInDim S128 ![] bcast_S_S128),
    StableHlo.TRef.binary (StableHlo.TRef.of (T := ⟨S128, .i32⟩) main_v29) (StableHlo.TRef.of (T := ⟨S128, .i32⟩) main_call0_v7) (StableHlo.TRef.of (T := ⟨S128, .i32⟩) main_call0_v8) Host.remsi,
    StableHlo.TRef.nullary (StableHlo.TRef.of (T := ⟨S_, .i32⟩) main_call0_c) (constantI S_ 32 0#32),
    StableHlo.TRef.unary (StableHlo.TRef.of (T := ⟨S_, .i32⟩) main_call0_c) (StableHlo.TRef.of (T := ⟨S128, .i32⟩) main_call0_v9) (broadcastInDim S128 ![] bcast_S_S128),
    StableHlo.TRef.binary (StableHlo.TRef.of (T := ⟨S128, .i32⟩) main_call0_v8) (StableHlo.TRef.of (T := ⟨S128, .i32⟩) main_call0_v9) (StableHlo.TRef.of (T := ⟨S128, .i1⟩) main_call0_v10) (cmpi .ne),
    StableHlo.TRef.binary (StableHlo.TRef.of (T := ⟨S128, .i1⟩) main_call0_v6) (StableHlo.TRef.of (T := ⟨S128, .i1⟩) main_call0_v10) (StableHlo.TRef.of (T := ⟨S128, .i1⟩) main_call0_v11) andi,
    StableHlo.TRef.nullary (StableHlo.TRef.of (T := ⟨S_, .i32⟩) main_call0_c_0) (constantI S_ 32 1#32),
    StableHlo.TRef.unary (StableHlo.TRef.of (T := ⟨S_, .i32⟩) main_call0_c_0) (StableHlo.TRef.of (T := ⟨S128, .i32⟩) main_call0_v12) (broadcastInDim S128 ![] bcast_S_S128),
    StableHlo.TRef.binary (StableHlo.TRef.of (T := ⟨S128, .i32⟩) main_call0_v2) (StableHlo.TRef.of (T := ⟨S128, .i32⟩) main_call0_v12) (StableHlo.TRef.of (T := ⟨S128, .i32⟩) main_call0_v13) subi,
    StableHlo.TRef.ternary (StableHlo.TRef.of (T := ⟨S128, .i1⟩) main_call0_v11) (StableHlo.TRef.of (T := ⟨S128, .i32⟩) main_call0_v13) (StableHlo.TRef.of (T := ⟨S128, .i32⟩) main_call0_v2) (StableHlo.TRef.of (T := ⟨S128, .i32⟩) main_v31) select,
    StableHlo.nullary main_c_9 (constantI S_ 32 16#32),
    StableHlo.TRef.unary (StableHlo.TRef.of (T := ⟨S_, .i32⟩) main_c_9) (StableHlo.TRef.of (T := ⟨S_, .i32⟩) main_call1_v0) id,
    StableHlo.TRef.nullary (StableHlo.TRef.of (T := ⟨S_, .i32⟩) main_call1_c) (constantI S_ 32 0#32),
    StableHlo.TRef.binary (StableHlo.TRef.of (T := ⟨S_, .i32⟩) main_call1_v0) (StableHlo.TRef.of (T := ⟨S_, .i32⟩) main_call1_c) (StableHlo.TRef.of (T := ⟨S_, .i1⟩) main_call1_v1) (cmpi .eq),
    StableHlo.TRef.nullary (StableHlo.TRef.of (T := ⟨S_, .i32⟩) main_call1_c_0) (constantI S_ 32 1#32),
    StableHlo.TRef.ternary (StableHlo.TRef.of (T := ⟨S_, .i1⟩) main_call1_v1) (StableHlo.TRef.of (T := ⟨S_, .i32⟩) main_call1_c_0) (StableHlo.TRef.of (T := ⟨S_, .i32⟩) main_call1_v0) (StableHlo.TRef.of (T := ⟨S_, .i32⟩) main_call1_v2) select,
    StableHlo.TRef.unary (StableHlo.TRef.of (T := ⟨S_, .i32⟩) main_call1_v2) (StableHlo.TRef.of (T := ⟨S128, .i32⟩) main_call1_v3) (broadcastInDim S128 ![] bcast_S_S128),
    StableHlo.TRef.binary (StableHlo.TRef.of (T := ⟨S128, .i32⟩) main_v29) (StableHlo.TRef.of (T := ⟨S128, .i32⟩) main_call1_v3) (StableHlo.TRef.of (T := ⟨S128, .i32⟩) main_call1_v4) Host.remsi,
    StableHlo.TRef.nullary (StableHlo.TRef.of (T := ⟨S_, .i32⟩) main_call1_c_1) (constantI S_ 32 0#32),
    StableHlo.TRef.unary (StableHlo.TRef.of (T := ⟨S_, .i32⟩) main_call1_c_1) (StableHlo.TRef.of (T := ⟨S128, .i32⟩) main_call1_v5) (broadcastInDim S128 ![] bcast_S_S128),
    StableHlo.TRef.binary (StableHlo.TRef.of (T := ⟨S128, .i32⟩) main_call1_v4) (StableHlo.TRef.of (T := ⟨S128, .i32⟩) main_call1_v5) (StableHlo.TRef.of (T := ⟨S128, .i1⟩) main_call1_v6) (cmpi .ne),
    StableHlo.TRef.nullary (StableHlo.TRef.of (T := ⟨S_, .i32⟩) main_call1_c_2) (constantI S_ 32 0#32),
    StableHlo.TRef.unary (StableHlo.TRef.of (T := ⟨S_, .i32⟩) main_call1_c_2) (StableHlo.TRef.of (T := ⟨S128, .i32⟩) main_call1_v7) (broadcastInDim S128 ![] bcast_S_S128),
    StableHlo.TRef.binary (StableHlo.TRef.of (T := ⟨S128, .i32⟩) main_call1_v4) (StableHlo.TRef.of (T := ⟨S128, .i32⟩) main_call1_v7) (StableHlo.TRef.of (T := ⟨S128, .i1⟩) main_call1_v8) (cmpi .slt),
    StableHlo.TRef.nullary (StableHlo.TRef.of (T := ⟨S_, .i32⟩) main_call1_c_3) (constantI S_ 32 0#32),
    StableHlo.TRef.binary (StableHlo.TRef.of (T := ⟨S_, .i32⟩) main_call1_v2) (StableHlo.TRef.of (T := ⟨S_, .i32⟩) main_call1_c_3) (StableHlo.TRef.of (T := ⟨S_, .i1⟩) main_call1_v9) (cmpi .slt),
    StableHlo.TRef.unary (StableHlo.TRef.of (T := ⟨S_, .i1⟩) main_call1_v9) (StableHlo.TRef.of (T := ⟨S128, .i1⟩) main_call1_v10) (broadcastInDim S128 ![] bcast_S_S128),
    StableHlo.TRef.binary (StableHlo.TRef.of (T := ⟨S128, .i1⟩) main_call1_v8) (StableHlo.TRef.of (T := ⟨S128, .i1⟩) main_call1_v10) (StableHlo.TRef.of (T := ⟨S128, .i1⟩) main_call1_v11) (cmpi .ne),
    StableHlo.TRef.binary (StableHlo.TRef.of (T := ⟨S128, .i1⟩) main_call1_v11) (StableHlo.TRef.of (T := ⟨S128, .i1⟩) main_call1_v6) (StableHlo.TRef.of (T := ⟨S128, .i1⟩) main_call1_v12) andi,
    StableHlo.TRef.unary (StableHlo.TRef.of (T := ⟨S_, .i32⟩) main_call1_v2) (StableHlo.TRef.of (T := ⟨S128, .i32⟩) main_call1_v13) (broadcastInDim S128 ![] bcast_S_S128),
    StableHlo.TRef.binary (StableHlo.TRef.of (T := ⟨S128, .i32⟩) main_call1_v4) (StableHlo.TRef.of (T := ⟨S128, .i32⟩) main_call1_v13) (StableHlo.TRef.of (T := ⟨S128, .i32⟩) main_call1_v14) addi,
    StableHlo.TRef.ternary (StableHlo.TRef.of (T := ⟨S128, .i1⟩) main_call1_v12) (StableHlo.TRef.of (T := ⟨S128, .i32⟩) main_call1_v14) (StableHlo.TRef.of (T := ⟨S128, .i32⟩) main_call1_v4) (StableHlo.TRef.of (T := ⟨S128, .i32⟩) main_v32) select,
    StableHlo.unary main_v32 main_v33 (sitofp .f32 : (⟨S128, .i32⟩ : BufTy).Contents (Elt F) → (⟨S128, .f32⟩ : BufTy).Contents (Elt F)),
    StableHlo.nullary main_cst_10 (constant S_ .f32 0x40000000#32),
    StableHlo.unary main_v32 main_v34 (sitofp .f32 : (⟨S128, .i32⟩ : BufTy).Contents (Elt F) → (⟨S128, .f32⟩ : BufTy).Contents (Elt F)),
    StableHlo.unary main_cst_10 main_v35 (broadcastInDim S128 ![] bcast_S_S128 : (⟨S_, .f32⟩ : BufTy).Contents (Elt F) → (⟨S128, .f32⟩ : BufTy).Contents (Elt F)),
    StableHlo.binary main_v35 main_v34 main_v36 (Host.powf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.unary main_c_11 main_v37 (broadcastInDim S128 ![] bcast_S_S128 : (⟨S_, .i32⟩ : BufTy).Contents (Elt F) → (⟨S128, .i32⟩ : BufTy).Contents (Elt F)),
    StableHlo.binary main_v29 main_v37 main_v38 (cmpi .slt : (⟨S128, .i32⟩ : BufTy).Contents (Elt F) → (⟨S128, .i32⟩ : BufTy).Contents (Elt F) → (⟨S128, .i1⟩ : BufTy).Contents (Elt F)),
    StableHlo.nullary main_c_12 (constantI S_ 32 128#32),
    StableHlo.unary main_c_12 main_v39 (broadcastInDim S128 ![] bcast_S_S128 : (⟨S_, .i32⟩ : BufTy).Contents (Elt F) → (⟨S128, .i32⟩ : BufTy).Contents (Elt F)),
    StableHlo.binary main_v29 main_v39 main_v40 (addi : (⟨S128, .i32⟩ : BufTy).Contents (Elt F) → (⟨S128, .i32⟩ : BufTy).Contents (Elt F) → (⟨S128, .i32⟩ : BufTy).Contents (Elt F)),
    StableHlo.ternary main_v38 main_v40 main_v29 main_v41 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_13 (constantI S_ 32 0#32),
    StableHlo.unary main_c_13 main_v42 (broadcastInDim S128 ![] bcast_S_S128 : (⟨S_, .i32⟩ : BufTy).Contents (Elt F) → (⟨S128, .i32⟩ : BufTy).Contents (Elt F)),
    StableHlo.binary main_v31 main_v42 main_v43 (cmpi .slt : (⟨S128, .i32⟩ : BufTy).Contents (Elt F) → (⟨S128, .i32⟩ : BufTy).Contents (Elt F) → (⟨S128, .i1⟩ : BufTy).Contents (Elt F)),
    StableHlo.nullary main_c_14 (constantI S_ 32 16#32),
    StableHlo.unary main_c_14 main_v44 (broadcastInDim S128 ![] bcast_S_S128 : (⟨S_, .i32⟩ : BufTy).Contents (Elt F) → (⟨S128, .i32⟩ : BufTy).Contents (Elt F)),
    StableHlo.binary main_v31 main_v44 main_v45 (addi : (⟨S128, .i32⟩ : BufTy).Contents (Elt F) → (⟨S128, .i32⟩ : BufTy).Contents (Elt F) → (⟨S128, .i32⟩ : BufTy).Contents (Elt F)),
    StableHlo.ternary main_v43 main_v45 main_v31 main_v46 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v41 main_v47 (broadcastInDim S128x1 ![0] bcast_S128_S128x1_0 : (⟨S128, .i32⟩ : BufTy).Contents (Elt F) → (⟨S128x1, .i32⟩ : BufTy).Contents (Elt F)),
    StableHlo.unary main_v46 main_v48 (broadcastInDim S128x1 ![0] bcast_S128_S128x1_0 : (⟨S128, .i32⟩ : BufTy).Contents (Elt F) → (⟨S128x1, .i32⟩ : BufTy).Contents (Elt F)),
    StableHlo.binary main_v47 main_v48 main_v49 pairUp,
    StableHlo.ternary main_v30 main_v49 main_v36 main_v50 ((fun x i u => Host.scatter scatter_S128x16_S128x2_S128_n_01_01_1 (fun _ b => b) x i u) : (⟨S128x16, .f32⟩ : BufTy).Contents (Elt F) → (⟨S128x2, .i32⟩ : BufTy).Contents (Elt F) → (⟨S128, .f32⟩ : BufTy).Contents (Elt F) → (⟨S128x16, .f32⟩ : BufTy).Contents (Elt F)),
    StableHlo.nullary main_c_15 (constantI S_ 32 32#32),
    StableHlo.TRef.unary (StableHlo.TRef.of (T := ⟨S_, .i32⟩) main_c_15) (StableHlo.TRef.of (T := ⟨S_, .i32⟩) main_call2_v0) id,
    StableHlo.TRef.unary (StableHlo.TRef.of (T := ⟨S_, .i32⟩) main_call2_v0) (StableHlo.TRef.of (T := ⟨S128, .i32⟩) main_call2_v1) (broadcastInDim S128 ![] bcast_S_S128),
    StableHlo.TRef.binary (StableHlo.TRef.of (T := ⟨S128, .i32⟩) main_v29) (StableHlo.TRef.of (T := ⟨S128, .i32⟩) main_call2_v1) (StableHlo.TRef.of (T := ⟨S128, .i32⟩) main_call2_v2) Host.divsi,
    StableHlo.TRef.unary (StableHlo.TRef.of (T := ⟨S128, .i32⟩) main_v29) (StableHlo.TRef.of (T := ⟨S128, .i32⟩) main_call2_v3) signi,
    StableHlo.TRef.unary (StableHlo.TRef.of (T := ⟨S_, .i32⟩) main_call2_v0) (StableHlo.TRef.of (T := ⟨S_, .i32⟩) main_call2_v4) signi,
    StableHlo.TRef.unary (StableHlo.TRef.of (T := ⟨S_, .i32⟩) main_call2_v4) (StableHlo.TRef.of (T := ⟨S128, .i32⟩) main_call2_v5) (broadcastInDim S128 ![] bcast_S_S128),
    StableHlo.TRef.binary (StableHlo.TRef.of (T := ⟨S128, .i32⟩) main_call2_v3) (StableHlo.TRef.of (T := ⟨S128, .i32⟩) main_call2_v5) (StableHlo.TRef.of (T := ⟨S128, .i1⟩) main_call2_v6) (cmpi .ne),
    StableHlo.TRef.unary (StableHlo.TRef.of (T := ⟨S_, .i32⟩) main_call2_v0) (StableHlo.TRef.of (T := ⟨S128, .i32⟩) main_call2_v7) (broadcastInDim S128 ![] bcast_S_S128),
    StableHlo.TRef.binary (StableHlo.TRef.of (T := ⟨S128, .i32⟩) main_v29) (StableHlo.TRef.of (T := ⟨S128, .i32⟩) main_call2_v7) (StableHlo.TRef.of (T := ⟨S128, .i32⟩) main_call2_v8) Host.remsi,
    StableHlo.TRef.nullary (StableHlo.TRef.of (T := ⟨S_, .i32⟩) main_call2_c) (constantI S_ 32 0#32),
    StableHlo.TRef.unary (StableHlo.TRef.of (T := ⟨S_, .i32⟩) main_call2_c) (StableHlo.TRef.of (T := ⟨S128, .i32⟩) main_call2_v9) (broadcastInDim S128 ![] bcast_S_S128),
    StableHlo.TRef.binary (StableHlo.TRef.of (T := ⟨S128, .i32⟩) main_call2_v8) (StableHlo.TRef.of (T := ⟨S128, .i32⟩) main_call2_v9) (StableHlo.TRef.of (T := ⟨S128, .i1⟩) main_call2_v10) (cmpi .ne),
    StableHlo.TRef.binary (StableHlo.TRef.of (T := ⟨S128, .i1⟩) main_call2_v6) (StableHlo.TRef.of (T := ⟨S128, .i1⟩) main_call2_v10) (StableHlo.TRef.of (T := ⟨S128, .i1⟩) main_call2_v11) andi,
    StableHlo.TRef.nullary (StableHlo.TRef.of (T := ⟨S_, .i32⟩) main_call2_c_0) (constantI S_ 32 1#32),
    StableHlo.TRef.unary (StableHlo.TRef.of (T := ⟨S_, .i32⟩) main_call2_c_0) (StableHlo.TRef.of (T := ⟨S128, .i32⟩) main_call2_v12) (broadcastInDim S128 ![] bcast_S_S128),
    StableHlo.TRef.binary (StableHlo.TRef.of (T := ⟨S128, .i32⟩) main_call2_v2) (StableHlo.TRef.of (T := ⟨S128, .i32⟩) main_call2_v12) (StableHlo.TRef.of (T := ⟨S128, .i32⟩) main_call2_v13) subi,
    StableHlo.TRef.ternary (StableHlo.TRef.of (T := ⟨S128, .i1⟩) main_call2_v11) (StableHlo.TRef.of (T := ⟨S128, .i32⟩) main_call2_v13) (StableHlo.TRef.of (T := ⟨S128, .i32⟩) main_call2_v2) (StableHlo.TRef.of (T := ⟨S128, .i32⟩) main_v51) select,
    StableHlo.nullary main_c_16 (constantI S_ 32 8#32),
    StableHlo.unary main_c_16 main_v52 (broadcastInDim S128 ![] bcast_S_S128 : (⟨S_, .i32⟩ : BufTy).Contents (Elt F) → (⟨S128, .i32⟩ : BufTy).Contents (Elt F)),
    StableHlo.binary main_v52 main_v51 main_v53 (addi : (⟨S128, .i32⟩ : BufTy).Contents (Elt F) → (⟨S128, .i32⟩ : BufTy).Contents (Elt F) → (⟨S128, .i32⟩ : BufTy).Contents (Elt F)),
    StableHlo.nullary main_c_17 (constantI S_ 32 0#32),
    StableHlo.unary main_c_17 main_v54 (broadcastInDim S128 ![] bcast_S_S128 : (⟨S_, .i32⟩ : BufTy).Contents (Elt F) → (⟨S128, .i32⟩ : BufTy).Contents (Elt F)),
    StableHlo.binary main_v29 main_v54 main_v55 (cmpi .slt : (⟨S128, .i32⟩ : BufTy).Contents (Elt F) → (⟨S128, .i32⟩ : BufTy).Contents (Elt F) → (⟨S128, .i1⟩ : BufTy).Contents (Elt F)),
    StableHlo.nullary main_c_18 (constantI S_ 32 128#32),
    StableHlo.unary main_c_18 main_v56 (broadcastInDim S128 ![] bcast_S_S128 : (⟨S_, .i32⟩ : BufTy).Contents (Elt F) → (⟨S128, .i32⟩ : BufTy).Contents (Elt F)),
    StableHlo.binary main_v29 main_v56 main_v57 (addi : (⟨S128, .i32⟩ : BufTy).Contents (Elt F) → (⟨S128, .i32⟩ : BufTy).Contents (Elt F) → (⟨S128, .i32⟩ : BufTy).Contents (Elt F)),
    StableHlo.ternary main_v55 main_v57 main_v29 main_v58 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_19 (constantI S_ 32 0#32),
    StableHlo.unary main_c_19 main_v59 (broadcastInDim S128 ![] bcast_S_S128 : (⟨S_, .i32⟩ : BufTy).Contents (Elt F) → (⟨S128, .i32⟩ : BufTy).Contents (Elt F)),
    StableHlo.binary main_v53 main_v59 main_v60 (cmpi .slt : (⟨S128, .i32⟩ : BufTy).Contents (Elt F) → (⟨S128, .i32⟩ : BufTy).Contents (Elt F) → (⟨S128, .i1⟩ : BufTy).Contents (Elt F)),
    StableHlo.nullary main_c_20 (constantI S_ 32 16#32),
    StableHlo.unary main_c_20 main_v61 (broadcastInDim S128 ![] bcast_S_S128 : (⟨S_, .i32⟩ : BufTy).Contents (Elt F) → (⟨S128, .i32⟩ : BufTy).Contents (Elt F)),
    StableHlo.binary main_v53 main_v61 main_v62 (addi : (⟨S128, .i32⟩ : BufTy).Contents (Elt F) → (⟨S128, .i32⟩ : BufTy).Contents (Elt F) → (⟨S128, .i32⟩ : BufTy).Contents (Elt F)),
    StableHlo.ternary main_v60 main_v62 main_v53 main_v63 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v58 main_v64 (broadcastInDim S128x1 ![0] bcast_S128_S128x1_0 : (⟨S128, .i32⟩ : BufTy).Contents (Elt F) → (⟨S128x1, .i32⟩ : BufTy).Contents (Elt F)),
    StableHlo.unary main_v63 main_v65 (broadcastInDim S128x1 ![0] bcast_S128_S128x1_0 : (⟨S128, .i32⟩ : BufTy).Contents (Elt F) → (⟨S128x1, .i32⟩ : BufTy).Contents (Elt F)),
    StableHlo.binary main_v64 main_v65 main_v66 pairUp,
    StableHlo.nullary main_cst_21 (constant S_ .f32 0x3F800000#32),
    StableHlo.unary main_cst_21 main_v67 (broadcastInDim S128 ![] bcast_S_S128 : (⟨S_, .f32⟩ : BufTy).Contents (Elt F) → (⟨S128, .f32⟩ : BufTy).Contents (Elt F)),
    StableHlo.ternary main_v50 main_v66 main_v67 main_v68 ((fun x i u => Host.scatter scatter_S128x16_S128x2_S128_n_01_01_1 (fun _ b => b) x i u) : (⟨S128x16, .f32⟩ : BufTy).Contents (Elt F) → (⟨S128x2, .i32⟩ : BufTy).Contents (Elt F) → (⟨S128, .f32⟩ : BufTy).Contents (Elt F) → (⟨S128x16, .f32⟩ : BufTy).Contents (Elt F)),
    StableHlo.reshape main_arg9 main_v69 (rfl : (.f32 : EltTy) = .f32) shapeCasts_S128_S1x128,
    StableHlo.reshape main_arg11 main_v70 (rfl : (.f32 : EltTy) = .f32) shapeCasts_S128_S1x128,
    StableHlo.reshape main_arg13 main_v71 (rfl : (.f32 : EltTy) = .f32) shapeCasts_S1_S1x1 ]

/-- The operations after the last call. -/
abbrev opsB : List (HloOp τ sig (Elt F)) :=
  [ StableHlo.unary main_v72_0 main_v75 ((transpose S64x50000 [1, 0] · transposes_S50000x64_S64x50000_1_0) : (⟨S50000x64, .f32⟩ : BufTy).Contents (Elt F) → (⟨S64x50000, .f32⟩ : BufTy).Contents (Elt F)),
    StableHlo.reshape main_v75 main_v76 (rfl : (.f32 : EltTy) = .f32) shapeCasts_S64x50000_S3200000,
    StableHlo.reshape main_v74_0 main_v77 (rfl : (.f32 : EltTy) = .f32) shapeCasts_S64x128_S8192,
    StableHlo.reshape main_v74_1 main_v78 (rfl : (.f32 : EltTy) = .f32) shapeCasts_S64x128_S8192,
    StableHlo.nary ![main_v76, main_v77, main_v78] main_v79 (fun u => joinAll (F := F) (u 0) (u 1) (u 2)) ]

set_option maxRecDepth 8192 in
theorem opsA_sub : (opsA : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.reshape_bufs_sub .., StableHlo.nullary_bufs_sub .., StableHlo.unary_bufs_sub .., StableHlo.ternary_bufs_sub .., StableHlo.unary_bufs_sub .., StableHlo.reshape_bufs_sub .., StableHlo.nullary_bufs_sub .., StableHlo.unary_bufs_sub .., StableHlo.ternary_bufs_sub .., StableHlo.unary_bufs_sub .., StableHlo.reshape_bufs_sub .., StableHlo.nullary_bufs_sub .., StableHlo.unary_bufs_sub .., StableHlo.ternary_bufs_sub .., StableHlo.unary_bufs_sub .., StableHlo.reshape_bufs_sub .., StableHlo.nullary_bufs_sub .., StableHlo.unary_bufs_sub .., StableHlo.ternary_bufs_sub .., StableHlo.unary_bufs_sub .., StableHlo.nullary_bufs_sub .., StableHlo.unary_bufs_sub .., StableHlo.ternary_bufs_sub .., StableHlo.unary_bufs_sub .., StableHlo.nullary_bufs_sub .., StableHlo.unary_bufs_sub .., StableHlo.ternary_bufs_sub .., StableHlo.nullary_bufs_sub .., StableHlo.nullary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.reshape_bufs_sub .., StableHlo.reshape_bufs_sub .., StableHlo.reshape_bufs_sub ..⟩
theorem opsB_sub : (opsB : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.nary_bufs_sub ..⟩

/-- What the operations before the first call write, in order. -/
abbrev refsA : List (Ref sig .tc) := [main_v0, main_v1, main_v2, main_cst, main_v3, main_c, main_v4, main_v5, main_cst_0, main_v6, main_v7, main_v8, main_c_1, main_v9, main_v10, main_v11, main_v12, main_c_2, main_v13, main_v14, main_v15, main_v16, main_c_3, main_v17, main_v18, main_v19, main_v20, main_c_4, main_v21, main_v22, main_v23, main_c_5, main_v24, main_v25, main_v26, main_c_6, main_v27, main_v28, main_v29, main_cst_7, main_v30, main_c_8, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v31, main_c_9, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v32, main_v33, main_cst_10, main_v34, main_v35, main_v36, main_c_11, main_v37, main_v38, main_c_12, main_v39, main_v40, main_v41, main_c_13, main_v42, main_v43, main_c_14, main_v44, main_v45, main_v46, main_v47, main_v48, main_v49, main_v50, main_c_15, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v51, main_c_16, main_v52, main_v53, main_c_17, main_v54, main_v55, main_c_18, main_v56, main_v57, main_v58, main_c_19, main_v59, main_v60, main_c_20, main_v61, main_v62, main_v63, main_v64, main_v65, main_v66, main_cst_21, main_v67, main_v68, main_v69, main_v70, main_v71]
abbrev refsB : List (Ref sig .tc) := [main_v75, main_v76, main_v77, main_v78, main_v79]

set_option maxRecDepth 8192 in
theorem writesA : (opsA : List (HloOp τ sig (Elt F))).map (·.writes) = refsA.map fun r => {Proc.devRef (τ := τ) .tc r} := rfl
theorem writesB : (opsB : List (HloOp τ sig (Elt F))).map (·.writes) = refsB.map fun r => {Proc.devRef (τ := τ) .tc r} := rfl

set_option maxRecDepth 8192 in
theorem freshA : ∀ op ∈ (opsA : List (HloOp τ sig (Elt F))), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem freshB : ∀ op ∈ (opsB : List (HloOp τ sig (Elt F))), op.fresh = ∅ := by
  refine List.forall_iff_forall_mem.mp ?_
  exact ⟨rfl, rfl, rfl, rfl, rfl⟩

set_option maxRecDepth 8192 in
set_option maxHeartbeats 4000000 in
theorem main_eq (d : Dev nD) : main (F := F) d = (StableHlo.seq opsA >>= fun _ =>
    (Prog.lift (.customCall (SparseCore.inner (Pipeline.entry 0)) ()) >>= fun _ =>
      (sc.run d 0 >>= fun _ => (Prog.lift (.customCall (SparseCore.inner (Pipeline.entry 1)) ()) >>= fun _ => StableHlo.seq opsB)))) := rfl

end Cert.Proof
-- ==== Proof.Main.lean ====
/- The host's run: its operations, the first call, the SparseCores, the merge, its last operations. -/
module

public import proofs.«01_k».proof.Proof.Deal
public import proofs.«01_k».proof.Proof.Host

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The host's program over its two straight lines. -/
def chain (lA lB : List (HloOp τ sig (Elt F))) (d : Dev nD) : Prog (TpuEff nD τ sig (Elt F) (SparseCore.Sig (ΛP (F := F)) 1) .tc) PUnit :=
  StableHlo.seq lA >>= fun _ =>
    (Prog.lift (.customCall (SparseCore.inner (Pipeline.entry 0)) ()) >>= fun _ =>
      (sc.run d 0 >>= fun _ => (Prog.lift (.customCall (SparseCore.inner (Pipeline.entry 1)) ()) >>= fun _ => StableHlo.seq lB)))

set_option maxRecDepth 8192 in
theorem main_chain (d : Dev nD) : main (F := F) d = chain opsA opsB d := by
  unfold chain; exact main_eq d

/-- A TensorCore call, entered from the host's program. -/
theorem wp_enter {pdats : (p : Fin 2) → (c : Dev nD) → Dat τ (Elt F) (HIx 1) ℕ UU ℕ (pin (pcfgs (F := F)) adm p) c} (p : Fin 2)
    (R : Pipeline.RegionSeg (pcfgs (F := F)) adm pdats none (defs₀ (F := F)) 𝒱₀ (K (F := F)).L (K (F := F)).lev p) (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (T d) none) Set.univ (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (Pipeline.RegionSeg.wp (pcfgs (F := F)) adm pdats none cellOf_inj EP (defs₀ (F := F)) 𝒱₀ (K (F := F)).L (K (F := F)).lev R d none (fun u hu => nomatch hu) .ret Q)
  refine sep_mono_left (wand_mono .rfl ?_)
  iintro H
  rw [wp_ret]
  imodintro; iexact H

variable (m : (ℓ : Loc nD τ sig) → Buf (Elt F) ℓ) (ρ : Dev nD → PrngReg)

/-- The host's buffers at the launch, before the first call, after it, after the SparseCores, after the merge, at the end. -/
def vL (d : Dev nD) : Valuation τ sig (Elt F) := fun b => m (d, b)
def vA (d : Dev nD) : Valuation τ sig (Elt F) := StableHlo.after opsA (vL m d)
def vB (d : Dev nD) : Valuation τ sig (Elt F) := afterRegion (dat0 (vA m d) d) (vA m d)
def vC (d : Dev nD) : Valuation τ sig (Elt F) := afterCall (vB m) d
def vD (d : Dev nD) : Valuation τ sig (Elt F) := afterRegion (dat2 (vC m d) d) (vC m d)
def vE (d : Dev nD) : Valuation τ sig (Elt F) := StableHlo.after opsB (vD m d)

theorem vA_eq (d : Dev nD) : vA m d = StableHlo.after opsA (vL m d) := by unfold vA; with_reducible rfl
theorem vB_eq (d : Dev nD) : afterRegion (pdats (vA m) (vC m) 0 d) (vA m d) = vB m d := by unfold vB; rfl
theorem vC_eq (d : Dev nD) : afterCall (vB m) d = vC m d := by unfold vC; with_reducible rfl
theorem vD_eq (d : Dev nD) : afterRegion (pdats (vA m) (vC m) 1 d) (vC m d) = vD m d := by unfold vD; rfl
theorem vE_eq (d : Dev nD) : vE m d = StableHlo.after opsB (vD m d) := by unfold vE; with_reducible rfl

abbrev PL : (K (F := F)).Pay (nD := nD) (Val := Elt F) (Name := ℕ) (U := UU) := P (tblH (vB m)) (tblW (vB m)) (tblO (vB m))

/-- What a TensorCore's two calls need of the staging cells. -/
def ghost (d : Dev nD) : sProp 𝕄 :=
  iprop((Pipeline.cellsGhost (pin (pcfgs (F := F)) adm) EP 0 d ∗ Pipeline.toksInit (pin (pcfgs (F := F)) adm) EP 0 d)
    ∗ (Pipeline.cellsGhost (pin (pcfgs (F := F)) adm) EP 1 d ∗ Pipeline.toksInit (pin (pcfgs (F := F)) adm) EP 1 d))

def FIN (d : Dev nD) : sProp 𝕄 := StableHlo.held (T d) ucRefs (vE m d)

theorem tcSt_open (d : Dev nD) (n : ℕ) : ∃ R : sProp 𝕄, (K (F := F)).tcSt EH d n = iprop(dues (F := F) d n ∗ R) := ⟨_, rfl⟩

theorem subA : ∀ op ∈ (opsA : List (HloOp τ sig (Elt F))), op.bufs ⊆ ucRefs := fun op h =>
  Pipeline.sub_ucRefs op (List.forall_iff_forall_mem.mp opsA_sub op h)
theorem subB : ∀ op ∈ (opsB : List (HloOp τ sig (Elt F))), op.bufs ⊆ ucRefs := fun op h =>
  Pipeline.sub_ucRefs op (List.forall_iff_forall_mem.mp opsB_sub op h)

section Steps

variable (lA lB : List (HloOp τ sig (Elt F))) (sA : ∀ op ∈ lA, op.bufs ⊆ ucRefs) (fA : ∀ op ∈ lA, op.fresh = ∅)
  (sB : ∀ op ∈ lB, op.bufs ⊆ ucRefs) (fB : ∀ op ∈ lB, op.fresh = ∅)
  (V0 WA WB WC WD WE : Dev nD → Valuation τ sig (Elt F)) (hA : ∀ d, WA d = StableHlo.after lA (V0 d))
  (hB : ∀ d, afterRegion (pdats WA WC 0 d) (WA d) = WB d) (hC : ∀ d, afterCall WB d = WC d)
  (hD : ∀ d, afterRegion (pdats WA WC 1 d) (WC d) = WD d) (hE : ∀ d, WE d = StableHlo.after lB (WD d))

include fB sB hE in
theorem step_last (d : Dev nD) (Q : PUnit → sProp 𝕄) :
    iprop((iprop(boundary (T d) ∗ StableHlo.held (T d) ucRefs (WE d)) -∗ Q ⟨⟩) ∗ boundary (T d) ∗ StableHlo.held (T d) ucRefs (WD d))
      ⊢ wp frame (wpE ((K (F := F)).defs (D (F := F))) 𝒱 (T d) none) Set.univ (StableHlo.seq lB) Q := by
  rw [← bind_pure (StableHlo.seq lB), hE d]
  iintro ⟨HK, Hb, Hh⟩
  iapply (StableHlo.wp_seq 𝒱 none Set.univ d ucRefs _ lB sB fB (WD d)) $$ [Hb Hh]
  · isplitl [Hb]; · iexact Hb
    iexact Hh
  iintro ⟨Hb, Hh⟩
  rw [wp_pure]
  imodintro
  iapply HK
  isplitl [Hb]; · iexact Hb
  iexact Hh

include hD in
theorem step_merge (d : Dev nD) (Q : PUnit → sProp 𝕄) :
    iprop((iprop(boundary (T d) ∗ StableHlo.held (T d) ucRefs (WD d) ∗ (K (F := F)).tcSt EH d 1) -∗ Q ⟨⟩)
        ∗ boundary (T d) ∗ StableHlo.held (T d) ucRefs (WC d) ∗ (K (F := F)).tcSt EH d 1 ∗ levAts (K (F := F)).L (K (F := F)).lev
        ∗ Pipeline.cellsGhost (pin (pcfgs (F := F)) adm) EP 1 d ∗ Pipeline.toksInit (pin (pcfgs (F := F)) adm) EP 1 d)
      ⊢ wp frame (wpE ((K (F := F)).defs (D (F := F))) 𝒱 (T d) none) Set.univ (Prog.lift (.customCall (SparseCore.inner (Pipeline.entry 1)) ())) Q := by
  obtain ⟨R1, h1⟩ := tcSt_open (F := F) d 1
  refine BIBase.Entails.trans ?_ (wp_enter 1 (seg2 WA WC) d Q)
  rw [show (seg2 WA WC).post d = iprop(StableHlo.held (T d) ucRefs (afterRegion (pdats WA WC 1 d) (WC d)) ∗ dues (F := F) d 1) from rfl,
    show (seg2 WA WC).pre d = iprop(StableHlo.held (T d) ucRefs (WC d) ∗ dues (F := F) d 1) from rfl, hD d, h1]
  iintro ⟨HK, Hb, Hh, ⟨Hd, HR⟩, Hlv, Hg, Ht⟩
  isplitl [HK HR]
  · iintro ⟨Hb, Hh, Hd⟩
    iapply HK
    isplitl [Hb]; · iexact Hb
    isplitl [Hh]; · iexact Hh
    isplitl [Hd]; · iexact Hd
    iexact HR
  isplitl [Hb]; · iexact Hb
  isplitl [Hh Hd]
  · isplitl [Hh]; · iexact Hh
    iexact Hd
  isplitl [Hlv]; · iexact Hlv
  isplitl [Hg]; · iexact Hg
  iexact Ht

include hB in
theorem step_first (d : Dev nD) (Q : PUnit → sProp 𝕄) :
    iprop((iprop(boundary (T d) ∗ StableHlo.held (T d) ucRefs (WB d) ∗ (K (F := F)).tcSt EH d 0) -∗ Q ⟨⟩)
        ∗ boundary (T d) ∗ StableHlo.held (T d) ucRefs (WA d) ∗ (K (F := F)).tcSt EH d 0 ∗ levAts (K (F := F)).L (K (F := F)).lev
        ∗ Pipeline.cellsGhost (pin (pcfgs (F := F)) adm) EP 0 d ∗ Pipeline.toksInit (pin (pcfgs (F := F)) adm) EP 0 d)
      ⊢ wp frame (wpE ((K (F := F)).defs (D (F := F))) 𝒱 (T d) none) Set.univ (Prog.lift (.customCall (SparseCore.inner (Pipeline.entry 0)) ())) Q := by
  obtain ⟨R1, h1⟩ := tcSt_open (F := F) d 0
  refine BIBase.Entails.trans ?_ (wp_enter 0 (seg0 WA WC) d Q)
  rw [show (seg0 WA WC).post d = iprop(StableHlo.held (T d) ucRefs (afterRegion (pdats WA WC 0 d) (WA d)) ∗ dues (F := F) d 0) from rfl,
    show (seg0 WA WC).pre d = iprop(StableHlo.held (T d) ucRefs (WA d) ∗ dues (F := F) d 0) from rfl, hB d, h1]
  iintro ⟨HK, Hb, Hh, ⟨Hd, HR⟩, Hlv, Hg, Ht⟩
  isplitl [HK HR]
  · iintro ⟨Hb, Hh, Hd⟩
    iapply HK
    isplitl [Hb]; · iexact Hb
    isplitl [Hh]; · iexact Hh
    isplitl [Hd]; · iexact Hd
    iexact HR
  isplitl [Hb]; · iexact Hb
  isplitl [Hh Hd]
  · isplitl [Hh]; · iexact Hh
    iexact Hd
  isplitl [Hlv]; · iexact Hlv
  isplitl [Hg]; · iexact Hg
  iexact Ht

include hC in
theorem step_call (κ : GSem nD τ sig → ℕ) (d : Dev nD) (Q : PUnit → sProp 𝕄) :
    iprop((iprop((K (F := F)).tcSt EH d 1 ∗ StableHlo.held (T d) ucRefs (WC d)) -∗ Q ⟨⟩)
        ∗ (K (F := F)).ctx EH (P (tblH WB) (tblW WB) (tblO WB)) κ ∗ (K (F := F)).tcSt EH d 0 ∗ StableHlo.held (T d) ucRefs (WB d))
      ⊢ wp frame (wpE ((K (F := F)).defs (D (F := F))) 𝒱 (T d) none) Set.univ (sc.run d 0) Q := by
  refine BIBase.Entails.trans ?_ (wp_call WB κ d)
  rw [hC d]
  iintro ⟨HK, Hc, Hst, Hh⟩
  isplitl [Hc]; · iexact Hc
  isplitl [Hst]; · iexact Hst
  isplitl [Hh]; · iexact Hh
  iexact HK

include hA hB hC hD hE sA fA sB fB in
theorem steps (κ : GSem nD τ sig → ℕ) (d : Dev nD) (Q : PUnit → sProp 𝕄) :
    iprop((iprop(boundary (T d) ∗ StableHlo.held (T d) ucRefs (WE d) ∗ (K (F := F)).tcSt EH d 1) -∗ Q ⟨⟩)
        ∗ (K (F := F)).ctx EH (P (tblH WB) (tblW WB) (tblO WB)) κ ∗ (K (F := F)).tcSt EH d 0 ∗ boundary (T d) ∗ StableHlo.held (T d) ucRefs (V0 d) ∗ ghost d)
      ⊢ wp frame (wpE ((K (F := F)).defs (D (F := F))) 𝒱 (T d) none) Set.univ (chain lA lB d) Q := by
  unfold ghost chain
  iintro ⟨HK, #Hctx, Hst, Hb, Hh, ⟨Hg0, Ht0⟩, Hg1, Ht1⟩
  ihave #Hlv := ((K (F := F)).ctx_levAts κ) $$ Hctx
  iapply (StableHlo.wp_seq 𝒱 none Set.univ d ucRefs _ lA sA fA (V0 d)) $$ [Hb Hh]
  · isplitl [Hb]; · iexact Hb
    iexact Hh
  rw [← hA d]
  iintro ⟨Hb, Hh⟩
  rw [wp_bind]
  iapply (step_first WA WB WC hB d)
  isplitr [Hb Hh Hst Hg0 Ht0]
  · iintro ⟨Hb, Hh, Hst⟩
    rw [wp_bind]
    iapply (step_call WB WC hC κ d)
    isplitr [Hst Hh]
    · iintro ⟨Hst, Hh⟩
      rw [wp_bind]
      iapply (step_merge WA WC WD hD d)
      isplitr [Hb Hh Hst Hg1 Ht1]
      · iintro ⟨Hb, Hh, Hst⟩
        iapply (step_last lB sB fB WD WE hE d)
        isplitl [HK Hst]
        · iintro ⟨Hb, Hh⟩
          iapply HK
          isplitl [Hb]; · iexact Hb
          isplitl [Hh]; · iexact Hh
          iexact Hst
        isplitl [Hb]; · iexact Hb
        iexact Hh
      · isplitl [Hb]; · iexact Hb
        isplitl [Hh]; · iexact Hh
        isplitl [Hst]; · iexact Hst
        isplitr; · iexact Hlv
        isplitl [Hg1]; · iexact Hg1
        iexact Ht1
    · isplitr; · iexact Hctx
      isplitl [Hst]; · iexact Hst
      iexact Hh
  · isplitl [Hb]; · iexact Hb
    isplitl [Hh]; · iexact Hh
    isplitl [Hst]; · iexact Hst
    isplitr; · iexact Hlv
    isplitl [Hg0]; · iexact Hg0
    iexact Ht0

include hA hB hC hD hE sA fA sB fB in
theorem steps_post (κ : GSem nD τ sig → ℕ) (d : Dev nD) (S R : sProp 𝕄) :
    iprop((K (F := F)).ctx EH (P (tblH WB) (tblW WB) (tblO WB)) κ ∗ (K (F := F)).tcSt EH d 0
        ∗ (boundary (T d) ∗ StableHlo.held (T d) ucRefs (V0 d) ∗ S ∗ R) ∗ ghost d)
      ⊢ wp frame (wpE ((K (F := F)).defs (D (F := F))) 𝒱 (T d) none) Set.univ (chain lA lB d)
          fun _ => iprop((K (F := F)).tcSt EH d 1 ∗ StableHlo.held (T d) ucRefs (WE d) ∗ boundary (T d) ∗ S) := by
  refine BIBase.Entails.trans ?_ (steps lA lB sA fA sB fB V0 WA WB WC WD WE hA hB hC hD hE κ d _)
  iintro ⟨Hctx, Hst, ⟨Hb, Hh, Hts, -⟩, Hg⟩
  isplitl [Hts]
  · iintro ⟨Hb, Hh, Hst⟩
    isplitl [Hst]; · iexact Hst
    isplitl [Hh]; · iexact Hh
    isplitl [Hb]; · iexact Hb
    iexact Hts
  isplitl [Hctx]; · iexact Hctx
  isplitl [Hst]; · iexact Hst
  isplitl [Hb]; · iexact Hb
  isplitl [Hh]; · iexact Hh
  iexact Hg

end Steps

theorem start_held (d : Dev nD) :
    (unscopedBufs d (fun b => m ((SparseCore.T d : Thread nD τ).loc b)) : sProp 𝕄) = StableHlo.held (T d) ucRefs (vL m d) := by
  have h : (fun b : Ref sig .tc => m ((SparseCore.T d : Thread nD τ).loc b)) = fun b : Ref sig .tc => vL m d (Proc.devRef .tc b) := funext fun b => rfl
  exact (congrArg (unscopedBufs (Ix := HIx 1) (Val := Elt F) (Name := ℕ) (U := UU) (Lvl := ℕ) d) h).trans (Pipeline.unscopedBufs_held d (vL m d))

theorem tcRes_held (d : Dev nD) :
    (K (F := F)).tcRes m ρ d = (iprop(boundary (T d) ∗ StableHlo.held (T d) ucRefs (vL m d) ∗ (K (F := F)).tcSems0 d ∗ prngReg d (ρ d)) : sProp 𝕄) := by
  unfold SparseCore.Cfg.tcRes
  rw [start_held]

theorem wp_of_eq {d : Dev nD} {pr pr' : Prog (TpuEff nD τ sig (Elt F) (SparseCore.Sig (ΛP (F := F)) 1) .tc) PUnit} {L L' : sProp 𝕄} {Q Q' : PUnit → sProp 𝕄}
    (hp : pr' = pr) (hL : L' = L) (hQ : Q' = Q) (h : L ⊢ wp frame (wpE ((K (F := F)).defs (D (F := F))) 𝒱 (T d) none) Set.univ pr Q) :
    L' ⊢ wp frame (wpE ((K (F := F)).defs (D (F := F))) 𝒱 (T d) none) Set.univ pr' Q' := by
  subst hp; subst hL; subst hQ; exact h

theorem end_eq (d : Dev nD) : (iprop((K (F := F)).tcSt EH d 1 ∗ FIN m d ∗ (K (F := F)).tcEnd d) : sProp 𝕄)
    = iprop((K (F := F)).tcSt EH d 1 ∗ StableHlo.held (T d) ucRefs (vE m d) ∗ boundary (T d) ∗ (K (F := F)).tcSems0 d) := by
  unfold FIN SparseCore.Cfg.tcEnd; with_reducible rfl

theorem begin_eq (d : Dev nD) (κ : GSem nD τ sig → ℕ) : (iprop((K (F := F)).ctx EH (PL m) κ ∗ (K (F := F)).tcSt EH d 0 ∗ (K (F := F)).tcRes m ρ d ∗ ghost d) : sProp 𝕄)
    = iprop((K (F := F)).ctx EH (P (tblH (vB m)) (tblW (vB m)) (tblO (vB m))) κ ∗ (K (F := F)).tcSt EH d 0
        ∗ (boundary (T d) ∗ StableHlo.held (T d) ucRefs (vL m d) ∗ (K (F := F)).tcSems0 d ∗ prngReg d (ρ d)) ∗ ghost d) := by
  rw [tcRes_held]

theorem hmain (κ : GSem nD τ sig → ℕ) (d : Dev nD) :
    iprop((K (F := F)).ctx EH (PL m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  have e1 := steps_post (F := F) opsA opsB subA freshA subB freshB
  have e2 := e1 (vL m) (vA m) (vB m) (vC m) (vD m) (vE m)
  have e3 := e2 (vA_eq m)
  have e4 := e3 (vB_eq m) (vC_eq m) (vD_eq m) (vE_eq m) κ d
  have e5 := e4 ((K (F := F)).tcSems0 d) (prngReg d (ρ d))
  have hc := main_chain (F := F) d
  generalize chain (F := F) opsA opsB d = pr at e5 hc
  generalize main (F := F) d = pm at hc ⊢
  subst hc
  exact wp_of_eq rfl (begin_eq m ρ d κ) (funext fun _ => end_eq m d) e5

end Cert.Proof
-- ==== Proof.Launch.lean ====
/- The launch: every run of the program ends, with the result at its value, the arguments kept and every counter at zero. -/
module

public import proofs.«01_k».proof.Proof.Main

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.Pipeline (Dat arrRef arrRefs afterRegion pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Rounds

variable (m : (ℓ : Loc nD τ sig) → Buf (Elt F) ℓ) (ρ : Dev nD → PrngReg)

/-! ## The launch element -/

abbrev pCells : Finset (GSem nD τ sig) := Pipeline.cells (pin (pcfgs (F := F)) adm) cellOf_inj
abbrev pToks : Finset (GSem nD τ sig × ℕ × Unit) := Pipeline.launchToks (pin (pcfgs (F := F)) adm) cellOf_inj

def u₀ : UU := (initOf (K (F := F)).hsCells (K (F := F)).hsToks, (initOf (pCells (F := F)) (pToks (F := F)), 1))

theorem u₀_split : (ownU (u₀ (F := F)) : sProp 𝕄) ⊢ iprop(BI.own (EH (initOf (K (F := F)).hsCells (K (F := F)).hsToks)) ∗ BI.own (EP (initOf (pCells (F := F)) (pToks (F := F))))) :=
  ownU_pair _ _

theorem two {Φ : Fin 2 → sProp 𝕄} : bigSep Finset.univ Φ = iprop(Φ 0 ∗ Φ 1) := by
  rw [show (Finset.univ : Finset (Fin 2)) = {0, 1} by decide, SparseCore.bigSep_insert' (by decide), bigSep_singleton]

theorem ghost_deal :
    iprop((bigSep Finset.univ fun c : Dev nD => bigSep Finset.univ fun p => Pipeline.cellsGhost (pin (pcfgs (F := F)) adm) EP p c)
          ∗ (bigSep Finset.univ fun c : Dev nD => bigSep Finset.univ fun p => (Pipeline.toksInit (pin (pcfgs (F := F)) adm) EP p c : sProp 𝕄)))
      ⊢ (bigSep Finset.univ fun d : Dev nD => ghost (F := F) d) := by
  rw [← bigSep_sep']
  refine bigSep_mono fun d _ => ?_
  rw [two, two]
  unfold ghost
  refine BIBase.Entails.trans (Q := iprop((Pipeline.cellsGhost (pin (pcfgs (F := F)) adm) EP 0 d ∗ Pipeline.cellsGhost (pin (pcfgs (F := F)) adm) EP 1 d)
    ∗ (Pipeline.toksInit (pin (pcfgs (F := F)) adm) EP 0 d ∗ Pipeline.toksInit (pin (pcfgs (F := F)) adm) EP 1 d))) .rfl ?_
  iintro ⟨⟨H0, H1⟩, H2, H3⟩
  isplitl [H0 H2]
  · isplitl [H0]; · iexact H0
    iexact H2
  isplitl [H1]; · iexact H1
  iexact H3

theorem x_emp : (bigSep Finset.univ fun thr : Thread nD τ => bigSep Finset.univ fun q : Fin 1 => (PL m).x q thr : sProp 𝕄) = iprop(emp) := by
  have h : (bigSep Finset.univ fun _ : Thread nD τ => bigSep Finset.univ fun _ : Fin 1 => (iprop(emp) : sProp 𝕄)) = iprop(emp) := by
    rw [show (bigSep Finset.univ fun _ : Fin 1 => (iprop(emp) : sProp 𝕄)) = iprop(emp) from bigSep_emp_const _]
    exact bigSep_emp_const _
  exact h

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PL m).x q thr) := by
  rw [x_emp]
  iintro Hu
  ihave H := (u₀_split (F := F)) $$ Hu
  icases H with ⟨HH, HP⟩
  imod (Pipeline.fund_ghost (pin (pcfgs (F := F)) adm) EP cellOf_inj) $$ HP with HG
  ihave HG' := (ghost_deal (F := F)) $$ HG
  imodintro
  isplitl [HH]; · iexact HH
  isplitl [HG']; · iexact HG'
  iempintro

/-! ## What a run leaves -/

/-- The arguments. -/
abbrev argRefs : List (Ref sig .tc) := [main_arg0, main_arg1, main_arg2, main_arg3, main_arg4, main_arg5, main_arg6, main_arg7, main_arg8, main_arg9, main_arg10, main_arg11, main_arg12, main_arg13]

theorem offA : ∀ r ∈ argRefs, r ∉ refsA := by decide
theorem offB : ∀ r ∈ argRefs, r ∉ refsB := by decide
theorem off0 : ∀ r ∈ argRefs, ∀ w : Fin 14, arrRef spec0 w = r → (cfg0.win w).isOut = false := by decide
theorem off2 : ∀ r ∈ argRefs, ∀ w : Fin 3, arrRef spec2 w = r → (cfg2.win w).isOut = false := by decide
theorem offO : ∀ r ∈ argRefs, r ≠ main_v73 := by decide
theorem offU : ∀ r ∈ argRefs, r.isScoped = false := by decide

/-- An argument is as at the launch before each step, -/
theorem vA_arg (d : Dev nD) (r : Ref sig .tc) (h : r ∈ argRefs) : vA m d (Proc.devRef .tc r) = vL m d (Proc.devRef .tc r) := by
  unfold vA; exact StableHlo.after_of_writes_sub opsA _ (StableHlo.forall_writes_sub_of_map writesA) (offA r h)
theorem vB_arg (d : Dev nD) (r : Ref sig .tc) (h : r ∈ argRefs) : vB m d (Proc.devRef .tc r) = vL m d (Proc.devRef .tc r) := by
  unfold vB
  exact (Pipeline.afterRegion_keeps (dat0 (vA m d) d) (vA m d) launch0.win.arr_inj (fun w => start0 (vA m d) d w) r (off0 r h)).trans (vA_arg m d r h)
theorem vC_arg (d : Dev nD) (r : Ref sig .tc) (h : r ∈ argRefs) : vC m d (Proc.devRef .tc r) = vL m d (Proc.devRef .tc r) := by
  unfold vC afterCall
  exact (Function.update_of_ne (fun e => offO r h (Proc.devRef_injective _ e)) _ _).trans (vB_arg m d r h)
theorem vD_arg (d : Dev nD) (r : Ref sig .tc) (h : r ∈ argRefs) : vD m d (Proc.devRef .tc r) = vL m d (Proc.devRef .tc r) := by
  unfold vD
  exact (Pipeline.afterRegion_keeps (dat2 (vC m d) d) (vC m d) launch2.win.arr_inj (fun w => start2 (vC m d) d w) r (off2 r h)).trans (vC_arg m d r h)
/-- and at the end. -/
theorem vE_arg (d : Dev nD) (r : Ref sig .tc) (h : r ∈ argRefs) : vE m d (Proc.devRef .tc r) = vL m d (Proc.devRef .tc r) := by
  unfold vE; exact (StableHlo.after_of_writes_sub opsB _ (StableHlo.forall_writes_sub_of_map writesB) (offB r h)).trans (vD_arg m d r h)

/-- A device's TensorCore buffers at the end. -/
def fq (d : Dev nD) (s' : Phys nD τ sig (Elt F)) : Prop := ∀ b ∈ ucRefs, s'.mem.mem (d, b) = vE m d b

theorem hfin (d : Dev nD) (s' : Phys nD τ sig (Elt F)) : iprop(FIN m d ∗ SI s') ⊢ (⌜fq m d s'⌝ : sProp 𝕄) := by
  unfold FIN StableHlo.held fq
  iintro ⟨H, HSI⟩
  ihave %h := (SI_pointsTo_bufs_agree (qs := fun _ => fullShare) ucRefs) $$ [HSI H]
  · isplitl [HSI]; · iexact HSI
    iexact H
  ipureintro
  exact h

def QC : PUnit × MemSt nD τ sig (Elt F) → Prop := fun r => (∀ (d : Dev nD), ∀ b ∈ ucRefs, r.2.mem (d, b) = vE m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PL m) (A := ∅) facts v₀
    (fun q hq => match q with | 0 => nomatch hq)
    (fun q _ => match q with | 0 => tileObl (tblH (vB m)) (tblW (vB m)) (tblO (vB m)))
    (fun q _ => match q with | 0 => SparseCore.Cfg.VecSplit.of_plain (vecSplit (tblH (vB m)) (tblW (vB m)) (tblO (vB m))))
    m ρ main (fun d => ghost (F := F) d) (FIN m) (u₀ (F := F)) (sep_elim_left.trans (hu₀ m)) (hmain m ρ) (fq m) (hfin m) (QC m) (fun _ h hz => ⟨h, hz⟩)

/-- The result. -/
def result (d : Dev nD) : Buf (Elt F) ((d.tc : Thread nD τ).loc main_v79) := vE m d (Proc.devRef .tc main_v79)

theorem args_kept (r : PUnit × MemSt nD τ sig (Elt F)) (hr : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) := by
  have h : ∀ b : Ref sig .tc, b ∈ argRefs → r.2.mem ((c.tc : Thread nD τ).loc b) = m ((c.tc : Thread nD τ).loc b) := fun b hb =>
    (hr.1 c (Proc.devRef .tc b) (uc_mem b (offU b hb))).trans (vE_arg m c b hb)
  exact ⟨h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide)⟩

theorem result_at (r : PUnit × MemSt nD τ sig (Elt F)) (hr : QC m r) (c : Dev nD) : r.2.mem ((c.tc : Thread nD τ).loc main_v79) = result m c :=
  hr.1 c (Proc.devRef .tc main_v79) (uc_mem main_v79 (by decide))

end Cert.Proof
-- ==== Proof.Same.lean ====
/- The kernel's tile body as printed twice: one program under two names. -/
module

public import proofs.«01_k».proof.Proof.Gen.Kernel
public import proofs.«01_k».proof.Proof.Gen.KernelIdeal

@[expose] public section

namespace Cert.Proof

open Idealize.ShloMosaic

attribute [local instance] Cert.Kernel.Gen.facts Cert.KernelIdeal.Gen.facts

variable {F : FTy → Type} [FloatOps F]

set_option maxHeartbeats 0 in
theorem same_tile : Cert.Kernel.cc1_sc_seg_max (F := F) = Cert.KernelIdeal.cc1_sc_seg_max (F := F) := rfl

end Cert.Proof
-- ==== Proof.SameMain.lean ====
/- The kernel's main as printed twice: one program under two names. -/
module

public import proofs.«01_k».proof.Proof.Gen.Kernel
public import proofs.«01_k».proof.Proof.Gen.KernelIdeal

@[expose] public section

namespace Cert.Proof

open Idealize.ShloMosaic

attribute [local instance] Cert.Kernel.Gen.facts Cert.KernelIdeal.Gen.facts

variable {F : FTy → Type} [FloatOps F]

set_option maxHeartbeats 0 in
theorem same_main : Cert.Kernel.main (F := F) = Cert.KernelIdeal.main (F := F) := rfl

set_option maxHeartbeats 0 in
theorem same_threads : Cert.Kernel.threads (F := F) = Cert.KernelIdeal.threads (F := F) := congrArg Cert.KernelIdeal.sc.threads (same_main (F := F))

end Cert.Proof
-- ==== Proof.SameRun.lean ====
/- The kernel's bodies and its main, as printed twice: one program under two names. -/
module

public import proofs.«01_k».proof.Proof.Same
public import proofs.«01_k».proof.Proof.SameMain

@[expose] public section

namespace Cert.Proof

open Idealize.SL Idealize.SL.Sem Idealize.ShloMosaic
open Cert.KernelIdeal.Facts₀ (hcore1 hsub1)

attribute [local instance] Cert.Kernel.Gen.facts Cert.KernelIdeal.Gen.facts

variable {F : FTy → Type} [FloatOps F]

set_option maxHeartbeats 0 in
theorem same_at : ∀ p ℓ a, Cert.Kernel.defs₀ (F := F) p ℓ a = Cert.KernelIdeal.defs₀ (F := F) p ℓ a
  | .tc, ⟨0, _⟩, (_, _) => rfl
  | .tc, ⟨1, _⟩, _ => rfl
  | .tc, ⟨2, _⟩, (_, _) => rfl
  | .scScalar _, ⟨0, _⟩, _ => rfl
  | .scScalar _, ⟨1, _⟩, _ => rfl
  | .scScalar _, ⟨2, _⟩, _ => rfl
  | .scVector _ _, ⟨0, _⟩, _ => rfl
  | .scVector c s, ⟨1, _⟩, _ => by
    simp only [Cert.Kernel.defs₀, same_tile]
    rfl
  | .scVector _ _, ⟨2, _⟩, _ => rfl
theorem same_bodies : Cert.Kernel.defs₀ (F := F) = Cert.KernelIdeal.defs₀ (F := F) := funext fun p => funext fun ℓ => funext fun a => same_at p ℓ a

set_option maxHeartbeats 0 in
theorem same_defs : Cert.Kernel.defs (F := F) = Cert.KernelIdeal.defs (F := F) :=
  congrArg (fun d => Cert.KernelIdeal.sc.defs (Pipeline.defs Cert.KernelIdeal.pcfgs d)) (same_bodies (F := F))

end Cert.Proof
-- ==== Proof.Frames.lean ====
/- The frames of the three programs. -/
module

public import proofs.«01_k».proof.Proof.Launch
public import proofs.«01_k».proof.Proof.SameRun
public import proofs.«01_k».proof.Defs
public import proofs.«01_k».proof.Proof.Gen.ReferenceIdeal
public import proofs.«01_k».proof.Proof.Gen.ReferenceIdeal.Run

@[expose] public section

namespace Cert.Proof

open Idealize.SL Idealize.SL.Sem Idealize.ShloMosaic

attribute [local instance] Cert.Kernel.Gen.facts Cert.KernelIdeal.Gen.facts

set_option maxHeartbeats 0 in
theorem run_kernel (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (Cert.Kernel.threads (F := Bits)) ⟨m, fun _ => 0, ρ⟩ (QC m) := by
  have key : ∀ D, D = Cert.KernelIdeal.defs (F := Bits) → ∀ T, T = Cert.KernelIdeal.threads (F := Bits) → θ_run D T ⟨m, fun _ => 0, ρ⟩ (QC m) := by
    rintro _ rfl _ rfl
    exact run_main (F := Bits) m ρ
  exact key _ (same_defs (F := Bits)) _ (same_threads (F := Bits))

set_option maxHeartbeats 0 in
theorem frame_kernel : Cert.quiescent_Kernel (hKernel := Cert.Kernel.Gen.facts) := fun m ρ _ =>
  (θ_run (Cert.Kernel.defs (F := Bits)) _ _).mono (fun r h => ⟨fun c => args_kept m r h c, h.2⟩) (run_kernel m ρ)

theorem frame_ideal : Cert.quiescent_KernelIdeal (hKernelIdeal := Cert.KernelIdeal.Gen.facts) := fun m ρ _ =>
  (θ_run (Cert.KernelIdeal.defs (F := Ideal)) _ _).mono (fun r h => ⟨fun c => args_kept m r h c, h.2⟩) (run_main (F := Ideal) m ρ)

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof
-- ==== Proof.Scatter.lean ====
/- Writing whole rows and columns into a table, read at an element. -/
module

public import proofs.«01_k».proof.Proof.Rows
public import Idealize.ShloMosaic.Lib.Pointwise
public import Idealize.ShloMosaic.Lib.Routing.OpsSet
public import Idealize.ShloMosaic.Lib.Routing.OpsPair

@[expose] public section
noncomputable section
namespace Cert.Proof
open Cert.KernelIdeal Cert.KernelIdeal.Gen
open Idealize.ShloMosaic

variable {α : Type}

/-- A matrix some of whose rows are written, read at an element that the update `k` alone reaches. -/
theorem scat_hit {s si u : Shape} {d : ScatterDims s si u} (z : s.Idx → α) (idx : IVec si 32) (v : u.Idx → α) (ι : s.Idx) (k : u.Idx)
    (h : ∀ j, (∀ a, d.start j idx a + (d.window j a : Int) = ((ι a).val : Int)) ↔ j = k) : Host.scatter d (fun _ b => b) z idx v ι = v k :=
  Routing.scatter_set_hit _ z idx v _ _ (fun j hj => by rw [(h j).1 ((Routing.resultIdx?_eq_some d j idx ι).1 hj)]) k
    ((Routing.resultIdx?_eq_some d k idx ι).2 ((h k).2 rfl))

theorem scat_miss {s si u : Shape} {d : ScatterDims s si u} (z : s.Idx → α) (idx : IVec si 32) (v : u.Idx → α) (ι : s.Idx)
    (h : ∀ j, ¬ ∀ a, d.start j idx a + (d.window j a : Int) = ((ι a).val : Int)) : Host.scatter d (fun _ b => b) z idx v ι = z ι :=
  Routing.scatter_set_miss _ z idx v _ (fun j hj => h j ((Routing.resultIdx?_eq_some d j idx ι).1 hj))

theorem lands8 (idx : IVec S1 32) (hi : ∀ i, idx i = 0#32) (k0 : Fin 50000) (k1 : Fin 3) (n : Fin 50000) (c : Fin 8) :
    (∀ a, scatter_S50000x8_S1_S50000x3_01_n_1_0.start (ix2 k0 k1) idx a + (scatter_S50000x8_S1_S50000x3_01_n_1_0.window (ix2 k0 k1) a : Int) = ((ix2 n c a).val : Int))
      ↔ k0.val = n.val ∧ k1.val = c.val := by
  have h1 : scatter_S50000x8_S1_S50000x3_01_n_1_0.start (ix2 k0 k1) idx 1 = (0#32 : BitVec 32).toInt := congrArg BitVec.toInt (hi _)
  have h0 : scatter_S50000x8_S1_S50000x3_01_n_1_0.start (ix2 k0 k1) idx 0 = 0 := rfl
  have w0 : scatter_S50000x8_S1_S50000x3_01_n_1_0.window (ix2 k0 k1) 0 = k0.val := rfl
  have w1 : scatter_S50000x8_S1_S50000x3_01_n_1_0.window (ix2 k0 k1) 1 = k1.val := rfl
  refine (Fin.forall_fin_two (p := fun a => scatter_S50000x8_S1_S50000x3_01_n_1_0.start (ix2 k0 k1) idx a + (scatter_S50000x8_S1_S50000x3_01_n_1_0.window (ix2 k0 k1) a : Int) = ((ix2 n c a).val : Int))).trans ?_
  rw [h0, h1, w0, w1]
  show (0 + (k0.val : Int) = (n.val : Int) ∧ (0#32 : BitVec 32).toInt + (k1.val : Int) = (c.val : Int)) ↔ _
  simp only [show (0#32 : BitVec 32).toInt = 0 from rfl]
  omega

theorem landsRow (idx : IVec S1 32) (q : Fin 16) (hi : ∀ i, idx i = BitVec.ofNat 32 q.val) (k0 : Fin 64) (r : Fin 16) (p : Fin 64) :
    (∀ a, scatter_S16x64_S1_S64_0_0_0_0.start (ix1 k0) idx a + (scatter_S16x64_S1_S64_0_0_0_0.window (ix1 k0) a : Int) = ((ix2 r p a).val : Int))
      ↔ q.val = r.val ∧ k0.val = p.val := by
  have h0 : scatter_S16x64_S1_S64_0_0_0_0.start (ix1 k0) idx 0 = (BitVec.ofNat 32 q.val).toInt := congrArg BitVec.toInt (hi _)
  have h1 : scatter_S16x64_S1_S64_0_0_0_0.start (ix1 k0) idx 1 = 0 := rfl
  have w0 : scatter_S16x64_S1_S64_0_0_0_0.window (ix1 k0) 0 = 0 := rfl
  have w1 : scatter_S16x64_S1_S64_0_0_0_0.window (ix1 k0) 1 = k0.val := rfl
  have hq : (BitVec.ofNat 32 q.val).toInt = (q.val : Int) := by clear h0 hi; revert q; decide
  refine (Fin.forall_fin_two (p := fun a => scatter_S16x64_S1_S64_0_0_0_0.start (ix1 k0) idx a + (scatter_S16x64_S1_S64_0_0_0_0.window (ix1 k0) a : Int) = ((ix2 r p a).val : Int))).trans ?_
  rw [h0, h1, w0, w1, hq]
  show ((q.val : Int) + (0 : Nat) = (r.val : Int) ∧ 0 + (k0.val : Int) = (p.val : Int)) ↔ _
  omega

theorem lands3 (idx : IVec S1 32) (q : Fin 14) (hi : ∀ i, idx i = BitVec.ofNat 32 q.val) (k0 : Fin 3) (k1 : Fin 64) (r : Fin 16) (p : Fin 64) :
    (∀ a, scatter_S16x64_S1_S3x64_01_n_0_0.start (ix2 k0 k1) idx a + (scatter_S16x64_S1_S3x64_01_n_0_0.window (ix2 k0 k1) a : Int) = ((ix2 r p a).val : Int))
      ↔ q.val + k0.val = r.val ∧ k1.val = p.val := by
  have h0 : scatter_S16x64_S1_S3x64_01_n_0_0.start (ix2 k0 k1) idx 0 = (BitVec.ofNat 32 q.val).toInt := congrArg BitVec.toInt (hi _)
  have h1 : scatter_S16x64_S1_S3x64_01_n_0_0.start (ix2 k0 k1) idx 1 = 0 := rfl
  have w0 : scatter_S16x64_S1_S3x64_01_n_0_0.window (ix2 k0 k1) 0 = k0.val := rfl
  have w1 : scatter_S16x64_S1_S3x64_01_n_0_0.window (ix2 k0 k1) 1 = k1.val := rfl
  have hq : (BitVec.ofNat 32 q.val).toInt = (q.val : Int) := by clear h0 hi; revert q; decide
  refine (Fin.forall_fin_two (p := fun a => scatter_S16x64_S1_S3x64_01_n_0_0.start (ix2 k0 k1) idx a + (scatter_S16x64_S1_S3x64_01_n_0_0.window (ix2 k0 k1) a : Int) = ((ix2 r p a).val : Int))).trans ?_
  rw [h0, h1, w0, w1, hq]
  show ((q.val : Int) + (k0.val : Int) = (r.val : Int) ∧ 0 + (k1.val : Int) = (p.val : Int)) ↔ _
  omega

/-- Three columns written into a table from column 0 on. -/
theorem scat8 (z : S50000x8.Idx → α) (idx : IVec S1 32) (v : S50000x3.Idx → α) (hi : ∀ i, idx i = 0#32) (n : Fin 50000) (c : Fin 3) (c' : Fin 8) (hc : c'.val = c.val) :
    Host.scatter scatter_S50000x8_S1_S50000x3_01_n_1_0 (fun _ b => b) z idx v (ix2 n c') = v (ix2 n c) :=
  scat_hit z idx v _ _ fun j => by
    idx_vars j
    rw [lands8 idx hi, ix2_inj, Fin.ext_iff, Fin.ext_iff, hc]

/-- A row written into the planes' table, -/
theorem scatRow_hit (z : S16x64.Idx → α) (idx : IVec S1 32) (v : S64.Idx → α) (q : Fin 16) (hi : ∀ i, idx i = BitVec.ofNat 32 q.val) (p : Fin 64) :
    Host.scatter scatter_S16x64_S1_S64_0_0_0_0 (fun _ b => b) z idx v (ix2 q p) = v (ix1 p) :=
  scat_hit z idx v _ _ fun j => by
    idx_vars j
    rw [landsRow idx q hi, ix1_inj, Fin.ext_iff]
    exact and_iff_right rfl
/-- the other rows as they were. -/
theorem scatRow_miss (z : S16x64.Idx → α) (idx : IVec S1 32) (v : S64.Idx → α) (q : Fin 16) (hi : ∀ i, idx i = BitVec.ofNat 32 q.val) (r : Fin 16) (p : Fin 64)
    (h : q.val ≠ r.val) : Host.scatter scatter_S16x64_S1_S64_0_0_0_0 (fun _ b => b) z idx v (ix2 r p) = z (ix2 r p) :=
  scat_miss z idx v _ fun j => by
    idx_vars j
    rw [landsRow idx q hi]
    exact fun a => h a.1

/-- Three rows written into the planes' table, -/
theorem scat3_hit (z : S16x64.Idx → α) (idx : IVec S1 32) (v : S3x64.Idx → α) (q : Fin 14) (hi : ∀ i, idx i = BitVec.ofNat 32 q.val) (c : Fin 3) (r : Fin 16) (p : Fin 64)
    (h : q.val + c.val = r.val) : Host.scatter scatter_S16x64_S1_S3x64_01_n_0_0 (fun _ b => b) z idx v (ix2 r p) = v (ix2 c p) :=
  scat_hit z idx v _ _ fun j => by
    idx_vars j
    rw [lands3 idx q hi, ix2_inj, Fin.ext_iff, Fin.ext_iff]
    omega
/-- the other rows as they were. -/
theorem scat3_miss (z : S16x64.Idx → α) (idx : IVec S1 32) (v : S3x64.Idx → α) (q : Fin 14) (hi : ∀ i, idx i = BitVec.ofNat 32 q.val) (r : Fin 16) (p : Fin 64)
    (h : r.val < q.val ∨ q.val + 3 ≤ r.val) : Host.scatter scatter_S16x64_S1_S3x64_01_n_0_0 (fun _ b => b) z idx v (ix2 r p) = z (ix2 r p) :=
  scat_miss z idx v _ fun j => by
    idx_vars j
    rw [lands3 idx q hi]
    omega
end Cert.Proof
-- ==== Proof.Reads.lean ====
/- What the host lines before and after the calls leave, read at an element. -/
module

public import proofs.«01_k».proof.Proof.Launch
public import proofs.«01_k».proof.Proof.Scatter
public import Idealize.ShloMosaic.Lib.StableHlo.ReadAt
public import Idealize.ShloMosaic.Lib.Pointwise

@[expose] public section
noncomputable section
namespace Cert.Proof
open Cert.KernelIdeal Cert.KernelIdeal.Gen
open Idealize.ShloMosaic Idealize.ShloMosaic.TcCoe

/-- A buffer of a valuation. -/
abbrev at_ (W : Valuation τ sig (Elt Ideal)) (r : Ref sig .tc) : r.ty.Contents (Elt Ideal) := W (Proc.devRef .tc r)

/-- A word repeated. -/
theorem word (k : BitVec 32) (q : ℕ) (h : k = BitVec.ofNat 32 q) (i : S1.Idx) : broadcastInDim S1 ![] bcast_S_S1 (constantI S_ 32 k) i = BitVec.ofNat 32 q := h

variable (W : Valuation τ sig (Elt Ideal))

/-- The points moved by the centre, in the first three columns. -/
theorem rd5 (n : Fin 50000) (c : Fin 3) (c' : Fin 8) (hc : c'.val = c.val) :
    at_ (StableHlo.after opsA W) main_v5 (ix2 n c') = addf (F := Ideal) (φ := .f32) (at_ W main_arg2) (broadcastInDim S50000x3 ![0, 1] bcast_S1x3_S50000x3_0_1 (broadcastInDim S1x3 ![1] bcast_S3_S1x3_1 (at_ W main_arg3))) (ix2 n c) := by
  have e : at_ (StableHlo.after opsA W) main_v5 = Host.scatter scatter_S50000x8_S1_S50000x3_01_n_1_0 (fun _ b => b)
      (broadcastInDim S50000x8 ![] bcast_S_S50000x8 (constant (F := Ideal) S_ FTy.f32 0#32))
      (broadcastInDim S1 ![] bcast_S_S1 (constantI S_ 32 0#32))
      (addf (F := Ideal) (φ := .f32) (at_ W main_arg2)
        (broadcastInDim S50000x3 ![0, 1] bcast_S1x3_S50000x3_0_1
          (broadcastInDim S1x3 ![1] bcast_S3_S1x3_1 (at_ W main_arg3)))) := by
    unfold at_; after_reads_simp
  rw [e, scat8 _ _ _ (word 0#32 0 rfl) n c c' hc]

/-- The planes' table. -/
def planes (a4 a5 a6 a7 : FVec Ideal S64x3 .f32) : FVec Ideal S16x64 .f32 :=
  Host.scatter scatter_S16x64_S1_S3x64_01_n_0_0 (fun _ b => b)
    (Host.scatter scatter_S16x64_S1_S3x64_01_n_0_0 (fun _ b => b)
      (Host.scatter scatter_S16x64_S1_S64_0_0_0_0 (fun _ b => b)
        (Host.scatter scatter_S16x64_S1_S64_0_0_0_0 (fun _ b => b)
          (Host.scatter scatter_S16x64_S1_S64_0_0_0_0 (fun _ b => b)
            (Host.scatter scatter_S16x64_S1_S64_0_0_0_0 (fun _ b => b)
              (broadcastInDim S16x64 ![] bcast_S_S16x64 (constant S_ FTy.f32 0#32))
              (broadcastInDim S1 ![] bcast_S_S1 (constantI S_ 32 0#32))
              (shapeCast S64 (extractStridedSlice S64x1 ![0, 0] a6 slices_S64x3_S64x1_0_0) shapeCasts_S64x1_S64))
            (broadcastInDim S1 ![] bcast_S_S1 (constantI S_ 32 1#32))
            (shapeCast S64 (extractStridedSlice S64x1 ![0, 0] a7 slices_S64x3_S64x1_0_0) shapeCasts_S64x1_S64))
          (broadcastInDim S1 ![] bcast_S_S1 (constantI S_ 32 2#32))
          (shapeCast S64 (extractStridedSlice S64x1 ![0, 1] a6 slices_S64x3_S64x1_0_1) shapeCasts_S64x1_S64))
        (broadcastInDim S1 ![] bcast_S_S1 (constantI S_ 32 3#32))
        (shapeCast S64 (extractStridedSlice S64x1 ![0, 1] a7 slices_S64x3_S64x1_0_1) shapeCasts_S64x1_S64))
      (broadcastInDim S1 ![] bcast_S_S1 (constantI S_ 32 4#32))
      (transpose S3x64 [1, 0] a4 transposes_S64x3_S3x64_1_0))
    (broadcastInDim S1 ![] bcast_S_S1 (constantI S_ 32 7#32))
    (transpose S3x64 [1, 0] a5 transposes_S64x3_S3x64_1_0)

theorem rd28 : at_ (StableHlo.after opsA W) main_v28 = planes (at_ W main_arg4) (at_ W main_arg5) (at_ W main_arg6) (at_ W main_arg7) := by
  unfold at_; after_reads_simp; rfl

section
variable (a4 a5 a6 a7 : FVec Ideal S64x3 .f32) (p : Fin 64)

theorem planes_normal (c : Fin 3) (r : Fin 16) (h : 7 + c.val = r.val) : planes a4 a5 a6 a7 (ix2 r p) = a5 (ix2 p c) := by
  unfold planes
  rw [scat3_hit _ _ _ 7 (word 7#32 7 rfl) c r p h]
  pointwise
theorem planes_centre (c : Fin 3) (r : Fin 16) (h : 4 + c.val = r.val) : planes a4 a5 a6 a7 (ix2 r p) = a4 (ix2 p c) := by
  unfold planes
  rw [scat3_miss _ _ _ 7 (word 7#32 7 rfl) r p (by show _ < 7 ∨ _; omega), scat3_hit _ _ _ 4 (word 4#32 4 rfl) c r p h]
  pointwise
theorem planes_3 : planes a4 a5 a6 a7 (ix2 3 p) = a7 (ix2 p 1) := by
  unfold planes
  rw [scat3_miss _ _ _ 7 (word 7#32 7 rfl) 3 p (by decide), scat3_miss _ _ _ 4 (word 4#32 4 rfl) 3 p (by decide), scatRow_hit _ _ _ 3 (word 3#32 3 rfl)]
  pointwise
theorem planes_2 : planes a4 a5 a6 a7 (ix2 2 p) = a6 (ix2 p 1) := by
  unfold planes
  rw [scat3_miss _ _ _ 7 (word 7#32 7 rfl) 2 p (by decide), scat3_miss _ _ _ 4 (word 4#32 4 rfl) 2 p (by decide), scatRow_miss _ _ _ 3 (word 3#32 3 rfl) 2 p (by decide),
    scatRow_hit _ _ _ 2 (word 2#32 2 rfl)]
  pointwise
theorem planes_1 : planes a4 a5 a6 a7 (ix2 1 p) = a7 (ix2 p 0) := by
  unfold planes
  rw [scat3_miss _ _ _ 7 (word 7#32 7 rfl) 1 p (by decide), scat3_miss _ _ _ 4 (word 4#32 4 rfl) 1 p (by decide), scatRow_miss _ _ _ 3 (word 3#32 3 rfl) 1 p (by decide),
    scatRow_miss _ _ _ 2 (word 2#32 2 rfl) 1 p (by decide), scatRow_hit _ _ _ 1 (word 1#32 1 rfl)]
  pointwise
theorem planes_0 : planes a4 a5 a6 a7 (ix2 0 p) = a6 (ix2 p 0) := by
  unfold planes
  rw [scat3_miss _ _ _ 7 (word 7#32 7 rfl) 0 p (by decide), scat3_miss _ _ _ 4 (word 4#32 4 rfl) 0 p (by decide), scatRow_miss _ _ _ 3 (word 3#32 3 rfl) 0 p (by decide),
    scatRow_miss _ _ _ 2 (word 2#32 2 rfl) 0 p (by decide), scatRow_miss _ _ _ 1 (word 1#32 1 rfl) 0 p (by decide), scatRow_hit _ _ _ 0 (word 0#32 0 rfl)]
  pointwise
end

theorem rd69 (k : Fin 128) : at_ (StableHlo.after opsA W) main_v69 (ix2 0 k) = at_ W main_arg9 (ix1 k) := by
  have e : at_ (StableHlo.after opsA W) main_v69 = shapeCast S1x128 (at_ W main_arg9) shapeCasts_S128_S1x128 := by unfold at_; after_reads_simp; rfl
  rw [e]; pointwise
theorem rd70 (k : Fin 128) : at_ (StableHlo.after opsA W) main_v70 (ix2 0 k) = at_ W main_arg11 (ix1 k) := by
  have e : at_ (StableHlo.after opsA W) main_v70 = shapeCast S1x128 (at_ W main_arg11) shapeCasts_S128_S1x128 := by unfold at_; after_reads_simp; rfl
  rw [e]; pointwise
theorem rd71 : at_ (StableHlo.after opsA W) main_v71 (ix2 0 0) = at_ W main_arg13 (ix1 0) := by
  have e : at_ (StableHlo.after opsA W) main_v71 = shapeCast S1x1 (at_ W main_arg13) shapeCasts_S1_S1x1 := by unfold at_; after_reads_simp; rfl
  rw [e]; pointwise

/-- The result's first part is the logits, transposed. -/
theorem rd79 (i : Fin 3216384) (h : i.val < 3200000) :
    at_ (StableHlo.after opsB W) main_v79 (ix1 i) = at_ W main_v72_0 (ix2 ⟨i.val % 50000, Nat.mod_lt _ (by decide)⟩ ⟨i.val / 50000, by omega⟩) := by
  have e : at_ (StableHlo.after opsB W) main_v79 = joinAll (F := Ideal) (at_ (StableHlo.upto opsB W 4) main_v76) (at_ (StableHlo.upto opsB W 4) main_v77) (at_ (StableHlo.upto opsB W 4) main_v78) :=
    (StableHlo.after_last_write (i := 4) (rest := []) [] rfl rfl (by simp) W).trans (StableHlo.nary_result' ..)
  have e' : at_ (StableHlo.upto opsB W 4) main_v76 = shapeCast S3200000 (transpose S64x50000 [1, 0] (at_ W main_v72_0) transposes_S50000x64_S64x50000_1_0) shapeCasts_S64x50000_S3200000 := by
    unfold at_; after_reads_simp; rfl
  rw [e, e']
  unfold joinAll
  pointwise
  rw [dif_pos h]
end Cert.Proof
-- ==== Proof.Logits.lean ====
/- The reference's plane logits, and what each of them is in terms of the arguments. -/
module

public import proofs.«01_k».proof.Proof.Gen.ReferenceIdeal
public import proofs.«01_k».proof.Proof.Gen.ReferenceIdeal.Run
public import proofs.«01_k».proof.Proof.Values
public import Idealize.ShloMosaic.Lib.Pointwise

@[expose] public section

noncomputable section

namespace Cert.Proof

open Cert.ReferenceIdeal Cert.ReferenceIdeal.Gen
open Idealize.ShloMosaic

/-- Values of a shape, exact. -/
abbrev Fl (s : Shape) := FVec Ideal s .f32

/-- The logits as the reference writes them, plane by plane. -/
def refLogits (a0 a1 : Fl S50000x128) (a2 : Fl S50000x3) (a3 : Fl S3) (a4 a5 a6 a7 : Fl S64x3) (a8 : Fl S256x128) (a9 : Fl S128) (a10 : Fl S128x128) (a11 : Fl S128)
    (a12 : Fl S128x1) (a13 : Fl S1) : Fl S64x50000 :=
  (select (andi (cmpf .olt (Host.absf (Host.dotGeneral dot_S64x50000x3_S64x3_S64x50000_2_1_1_n_0_0 none (subf (broadcastInDim S64x50000x3 ![0, 1, 2] bcast_S1x50000x3_S64x50000x3_0_1_2 (broadcastInDim S1x50000x3 ![1, 2] bcast_S50000x3_S1x50000x3_1_2 (addf a2 (broadcastInDim S50000x3 ![0, 1] bcast_S1x3_S50000x3_0_1 (broadcastInDim S1x3 ![1] bcast_S3_S1x3_1 a3))))) (broadcastInDim S64x50000x3 ![0, 1, 2] bcast_S64x1x3_S64x50000x3_0_1_2 (broadcastInDim S64x1x3 ![0, 2] bcast_S64x3_S64x1x3_0_2 a4))) a5)) (broadcastInDim S64x50000 ![] bcast_S_S64x50000 (constant S_ .f32 0x3DCCCCCD#32))) (andi (andi (andi (cmpf .oge (broadcastInDim S64x50000 ![0, 1] bcast_S1x50000_S64x50000_0_1 (broadcastInDim S1x50000 ![1] bcast_S50000_S1x50000_1 (shapeCast _ (extractStridedSlice S50000x1 ![0, 0] (addf a2 (broadcastInDim S50000x3 ![0, 1] bcast_S1x3_S50000x3_0_1 (broadcastInDim S1x3 ![1] bcast_S3_S1x3_1 a3))) slices_S50000x3_S50000x1_0_0) shapeCasts_S50000x1_S50000))) (broadcastInDim S64x50000 ![0, 1] bcast_S64x1_S64x50000_0_1 (broadcastInDim S64x1 ![0] bcast_S64_S64x1_0 (shapeCast _ (extractStridedSlice S64x1 ![0, 0] a6 slices_S64x3_S64x1_0_0) shapeCasts_S64x1_S64)))) (cmpf .olt (broadcastInDim S64x50000 ![0, 1] bcast_S1x50000_S64x50000_0_1 (broadcastInDim S1x50000 ![1] bcast_S50000_S1x50000_1 (shapeCast _ (extractStridedSlice S50000x1 ![0, 0] (addf a2 (broadcastInDim S50000x3 ![0, 1] bcast_S1x3_S50000x3_0_1 (broadcastInDim S1x3 ![1] bcast_S3_S1x3_1 a3))) slices_S50000x3_S50000x1_0_0) shapeCasts_S50000x1_S50000))) (broadcastInDim S64x50000 ![0, 1] bcast_S64x1_S64x50000_0_1 (broadcastInDim S64x1 ![0] bcast_S64_S64x1_0 (shapeCast _ (extractStridedSlice S64x1 ![0, 0] a7 slices_S64x3_S64x1_0_0) shapeCasts_S64x1_S64))))) (cmpf .oge (broadcastInDim S64x50000 ![0, 1] bcast_S1x50000_S64x50000_0_1 (broadcastInDim S1x50000 ![1] bcast_S50000_S1x50000_1 (shapeCast _ (extractStridedSlice S50000x1 ![0, 1] (addf a2 (broadcastInDim S50000x3 ![0, 1] bcast_S1x3_S50000x3_0_1 (broadcastInDim S1x3 ![1] bcast_S3_S1x3_1 a3))) slices_S50000x3_S50000x1_0_1) shapeCasts_S50000x1_S50000))) (broadcastInDim S64x50000 ![0, 1] bcast_S64x1_S64x50000_0_1 (broadcastInDim S64x1 ![0] bcast_S64_S64x1_0 (shapeCast _ (extractStridedSlice S64x1 ![0, 1] a6 slices_S64x3_S64x1_0_1) shapeCasts_S64x1_S64))))) (cmpf .olt (broadcastInDim S64x50000 ![0, 1] bcast_S1x50000_S64x50000_0_1 (broadcastInDim S1x50000 ![1] bcast_S50000_S1x50000_1 (shapeCast _ (extractStridedSlice S50000x1 ![0, 1] (addf a2 (broadcastInDim S50000x3 ![0, 1] bcast_S1x3_S50000x3_0_1 (broadcastInDim S1x3 ![1] bcast_S3_S1x3_1 a3))) slices_S50000x3_S50000x1_0_1) shapeCasts_S50000x1_S50000))) (broadcastInDim S64x50000 ![0, 1] bcast_S64x1_S64x50000_0_1 (broadcastInDim S64x1 ![0] bcast_S64_S64x1_0 (shapeCast _ (extractStridedSlice S64x1 ![0, 1] a7 slices_S64x3_S64x1_0_1) shapeCasts_S64x1_S64)))))) (broadcastInDim S64x50000 ![0, 1] bcast_S1x50000_S64x50000_0_1 (broadcastInDim S1x50000 ![1] bcast_S50000_S1x50000_1 (shapeCast _ (addf (Host.dotGeneral dot_S50000x128_S128x1_S50000x1_1_0_0_1_n_n none (maximumf (addf (Host.dotGeneral dot_S50000x128_S128x128_S50000x128_1_0_0_1_n_n none (maximumf (addf (Host.dotGeneral dot_S50000x256_S256x128_S50000x128_1_0_0_1_n_n none (concatenate S50000x256 1 [⟨S50000x128, a0⟩, ⟨S50000x128, a1⟩] concatenates_S50000x128_S50000x128_S50000x256_d1) a8) (broadcastInDim S50000x128 ![0, 1] bcast_S1x128_S50000x128_0_1 (broadcastInDim S1x128 ![1] bcast_S128_S1x128_1 a9))) (broadcastInDim S50000x128 ![] bcast_S_S50000x128 (constant S_ .f32 0x00000000#32))) a10) (broadcastInDim S50000x128 ![0, 1] bcast_S1x128_S50000x128_0_1 (broadcastInDim S1x128 ![1] bcast_S128_S1x128_1 a11))) (broadcastInDim S50000x128 ![] bcast_S_S50000x128 (constant S_ .f32 0x00000000#32))) a12) (broadcastInDim S50000x1 ![0, 1] bcast_S1x1_S50000x1_0_1 (broadcastInDim S1x1 ![1] bcast_S1_S1x1_1 a13))) shapeCasts_S50000x1_S50000))) (broadcastInDim S64x50000 ![] bcast_S_S64x50000 (id (constant S_ .f32 0x00000000#32))))

/-- One logit of a block, where the block's rows are the arguments' rows. -/
theorem logit_eq (a0 a1 : Fl S50000x128) (a2 : Fl S50000x3) (a3 : Fl S3) (a4 a5 a6 a7 : Fl S64x3) (a8 : Fl S256x128) (a9 : Fl S128) (a10 : Fl S128x128) (a11 : Fl S128)
    (a12 : Fl S128x1) (a13 : Fl S1) (p : Fin 64) (n : Fin 50000)
    (x : Fl Cert.KernelIdeal.S2000x8) (y : Fl Cert.KernelIdeal.S16x64) (x0 x1 : Fl Cert.KernelIdeal.S2000x128) (b0 b1 : Fl Cert.KernelIdeal.S1x128) (b : Fl Cert.KernelIdeal.S1x1) (r : Fin 2000)
    (hx0 : x (ix2 r 0) = a2 (ix2 n 0) + a3 (ix1 0)) (hx1 : x (ix2 r 1) = a2 (ix2 n 1) + a3 (ix1 1)) (hx2 : x (ix2 r 2) = a2 (ix2 n 2) + a3 (ix1 2))
    (hy0 : y (ix2 0 p) = a6 (ix2 p 0)) (hy1 : y (ix2 1 p) = a7 (ix2 p 0)) (hy2 : y (ix2 2 p) = a6 (ix2 p 1)) (hy3 : y (ix2 3 p) = a7 (ix2 p 1))
    (hy4 : y (ix2 4 p) = a4 (ix2 p 0)) (hy5 : y (ix2 5 p) = a4 (ix2 p 1)) (hy6 : y (ix2 6 p) = a4 (ix2 p 2))
    (hy7 : y (ix2 7 p) = a5 (ix2 p 0)) (hy8 : y (ix2 8 p) = a5 (ix2 p 1)) (hy9 : y (ix2 9 p) = a5 (ix2 p 2))
    (h0 : ∀ k, x0 (ix2 r k) = a0 (ix2 n k)) (h1 : ∀ k, x1 (ix2 r k) = a1 (ix2 n k))
    (hb0 : ∀ k, b0 (ix2 0 k) = a9 (ix1 k)) (hb1 : ∀ k, b1 (ix2 0 k) = a11 (ix1 k)) (hb : b (ix2 0 0) = a13 (ix1 0)) :
    tcLogits (tcMask x y) (tcScore (tcRows x0 x1 a8 a10 b0 b1) a12 b) (ix2 r p) = refLogits a0 a1 a2 a3 a4 a5 a6 a7 a8 a9 a10 a11 a12 a13 (ix2 p n) := by
  unfold tcLogits tcMask tcScore tcRows refLogits
  pointwise
  simp only [hx0, hx1, hx2, hy0, hy1, hy2, hy3, hy4, hy5, hy6, hy7, hy8, hy9, h0, h1, hb0, hb1, hb, Fin.sum_univ_three]
  have and_comm' : ∀ u v : BitVec 1, IntOp.andi u v = IntOp.andi v u := by decide
  rw [and_comm']
  show Scalar.select _ _ 0 = Scalar.select _ _ (Ideal.ofBits .f32 0#32)
  rw [Ideal.ofBits_zero_f32]

end Cert.Proof
-- ==== Proof.Blocks.lean ====
/- The logits' array after the first call, read at an element. -/
module

public import proofs.«01_k».proof.Proof.Calls
public import Idealize.ShloMosaic.Lib.Pointwise
public import Idealize.ShloMosaic.Lib.Pipeline.ValueKit

@[expose] public section
noncomputable section
namespace Cert.Proof
open Cert.KernelIdeal Cert.KernelIdeal.Gen
open Idealize.ShloMosaic Idealize.ShloMosaic.TcCoe
open Idealize.ShloMosaic.Pipeline (Dat arrRef arrRefs afterRegion pin)

variable (W : Valuation τ sig (Elt Ideal)) (c : Dev nD)

/-- A buffer of a valuation. -/
abbrev at' (r : Ref sig .tc) : r.ty.Contents (Elt Ideal) := W (Proc.devRef .tc r)

theorem idx0 : ∀ t : Fin cfg0.N, win0_0.index t 0 = t.val ∧ win0_0.index t 1 = 0 := by decide +kernel
theorem in0_at (t : Fin cfg0.N) (ht : t.val < 25) (r : Fin 2000) (k : Fin 128) : in0_0 W t (ix2 r k) = at' W main_arg0 (ix2 ⟨2000 * t.val + r.val, by omega⟩ k) := by
  refine congrArg (at' W main_arg0) (funext fun a => Fin.ext ?_)
  match a with
  | 0 =>
    blk_simp; rw [(idx0 t).1]; show t.val * 2000 + r.val = 2000 * t.val + r.val; omega
  | 1 =>
    blk_simp; rw [(idx0 t).2]; show 0 * 128 + k.val = k.val; omega
theorem idx1 : ∀ t : Fin cfg0.N, win0_1.index t 0 = t.val ∧ win0_1.index t 1 = 0 := by decide +kernel
theorem in1_at (t : Fin cfg0.N) (ht : t.val < 25) (r : Fin 2000) (k : Fin 128) : in0_1 W t (ix2 r k) = at' W main_arg1 (ix2 ⟨2000 * t.val + r.val, by omega⟩ k) := by
  refine congrArg (at' W main_arg1) (funext fun a => Fin.ext ?_)
  match a with
  | 0 =>
    blk_simp; rw [(idx1 t).1]; show t.val * 2000 + r.val = 2000 * t.val + r.val; omega
  | 1 =>
    blk_simp; rw [(idx1 t).2]; show 0 * 128 + k.val = k.val; omega
theorem idx2 : ∀ t : Fin cfg0.N, win0_2.index t 0 = t.val ∧ win0_2.index t 1 = 0 := by decide +kernel
theorem in2_at (t : Fin cfg0.N) (ht : t.val < 25) (r : Fin 2000) (k : Fin 8) : in0_2 W t (ix2 r k) = at' W main_v5 (ix2 ⟨2000 * t.val + r.val, by omega⟩ k) := by
  refine congrArg (at' W main_v5) (funext fun a => Fin.ext ?_)
  match a with
  | 0 =>
    blk_simp; rw [(idx2 t).1]; show t.val * 2000 + r.val = 2000 * t.val + r.val; omega
  | 1 =>
    blk_simp; rw [(idx2 t).2]; show 0 * 8 + k.val = k.val; omega
theorem idx3 : ∀ t : Fin cfg0.N, win0_3.index t 0 = 0 ∧ win0_3.index t 1 = 0 := by decide +kernel
theorem in3_at (t : Fin cfg0.N) : in0_3 W t = at' W main_v28 := by
  funext y
  refine congrArg (at' W main_v28) (funext fun a => Fin.ext ?_)
  match a with
  | 0 => blk_simp; simp only [(idx3 t).1, Nat.zero_mul, Nat.zero_add]
  | 1 => blk_simp; simp only [(idx3 t).2, Nat.zero_mul, Nat.zero_add]
theorem idx4 : ∀ t : Fin cfg0.N, win0_4.index t 0 = 0 ∧ win0_4.index t 1 = 0 := by decide +kernel
theorem in4_at (t : Fin cfg0.N) : in0_4 W t = at' W main_arg8 := by
  funext y
  refine congrArg (at' W main_arg8) (funext fun a => Fin.ext ?_)
  match a with
  | 0 => blk_simp; simp only [(idx4 t).1, Nat.zero_mul, Nat.zero_add]
  | 1 => blk_simp; simp only [(idx4 t).2, Nat.zero_mul, Nat.zero_add]
theorem idx5 : ∀ t : Fin cfg0.N, win0_5.index t 0 = 0 ∧ win0_5.index t 1 = 0 := by decide +kernel
theorem in5_at (t : Fin cfg0.N) : in0_5 W t = at' W main_arg10 := by
  funext y
  refine congrArg (at' W main_arg10) (funext fun a => Fin.ext ?_)
  match a with
  | 0 => blk_simp; simp only [(idx5 t).1, Nat.zero_mul, Nat.zero_add]
  | 1 => blk_simp; simp only [(idx5 t).2, Nat.zero_mul, Nat.zero_add]
theorem idx6 : ∀ t : Fin cfg0.N, win0_6.index t 0 = 0 ∧ win0_6.index t 1 = 0 := by decide +kernel
theorem in6_at (t : Fin cfg0.N) : in0_6 W t = at' W main_arg12 := by
  funext y
  refine congrArg (at' W main_arg12) (funext fun a => Fin.ext ?_)
  match a with
  | 0 => blk_simp; simp only [(idx6 t).1, Nat.zero_mul, Nat.zero_add]
  | 1 => blk_simp; simp only [(idx6 t).2, Nat.zero_mul, Nat.zero_add]
theorem idx7 : ∀ t : Fin cfg0.N, win0_7.index t 0 = 0 ∧ win0_7.index t 1 = 0 := by decide +kernel
theorem in7_at (t : Fin cfg0.N) : in0_7 W t = at' W main_v69 := by
  funext y
  refine congrArg (at' W main_v69) (funext fun a => Fin.ext ?_)
  match a with
  | 0 => blk_simp; simp only [(idx7 t).1, Nat.zero_mul, Nat.zero_add]
  | 1 => blk_simp; simp only [(idx7 t).2, Nat.zero_mul, Nat.zero_add]
theorem idx8 : ∀ t : Fin cfg0.N, win0_8.index t 0 = 0 ∧ win0_8.index t 1 = 0 := by decide +kernel
theorem in8_at (t : Fin cfg0.N) : in0_8 W t = at' W main_v70 := by
  funext y
  refine congrArg (at' W main_v70) (funext fun a => Fin.ext ?_)
  match a with
  | 0 => blk_simp; simp only [(idx8 t).1, Nat.zero_mul, Nat.zero_add]
  | 1 => blk_simp; simp only [(idx8 t).2, Nat.zero_mul, Nat.zero_add]
theorem idx9 : ∀ t : Fin cfg0.N, win0_9.index t 0 = 0 ∧ win0_9.index t 1 = 0 := by decide +kernel
theorem in9_at (t : Fin cfg0.N) : in0_9 W t = at' W main_v71 := by
  funext y
  refine congrArg (at' W main_v71) (funext fun a => Fin.ext ?_)
  match a with
  | 0 => blk_simp; simp only [(idx9 t).1, Nat.zero_mul, Nat.zero_add]
  | 1 => blk_simp; simp only [(idx9 t).2, Nat.zero_mul, Nat.zero_add]
theorem idx11 : ∀ t : Fin cfg0.N, win0_11.index t 0 = t.val ∧ win0_11.index t 1 = 0 := by decide +kernel
theorem points (t : Fin cfg0.N) : t.val < 25 := t.isLt

/-- The array of logits is what its blocks are. -/
theorem logits_arr (G : S50000x64.Idx → Elt Ideal .f32)
    (h : ∀ (t : Fin cfg0.N) (r : Fin 2000) (p : Fin 64), tcLogits (maskAt W t) (scoreAt W t) (ix2 r p) = G (ix2 ⟨2000 * t.val + r.val, by have := points t; omega⟩ p)) :
    (dat0 W c).arrAt 11 cfg0.N = G := by
  refine (dat0 W c).arrAt_eq_of_covers 11 _ (by decide +kernel) fun t hf y => ?_
  obtain ⟨r, p, rfl⟩ : ∃ (r : Fin 2000) (p : Fin 64), y = ix2 r p := ⟨y 0, y 1, eq_ix2 y⟩
  refine (h t r p).trans (congrArg G (funext fun a => Fin.ext ?_))
  match a with
  | 0 =>
    blk_simp; rw [(idx11 t).1]; show 2000 * t.val + r.val = t.val * 2000 + r.val; omega
  | 1 =>
    blk_simp; rw [(idx11 t).2]; show p.val = 0 * 64 + p.val; omega
end Cert.Proof
-- ==== Proof.Value.lean ====
/- The plane logits: what the kernel leaves in the first part of its result, and what the reference does. -/
module

public import proofs.«01_k».proof.Proof.Reads
public import proofs.«01_k».proof.Proof.Logits
public import proofs.«01_k».proof.Proof.Blocks
public import proofs.«01_k».proof.Proof.Gen.ReferenceIdeal.Run

@[expose] public section

noncomputable section

namespace Cert.Proof

open Cert.KernelIdeal Cert.KernelIdeal.Gen
open Idealize.ShloMosaic Idealize.ShloMosaic.TcCoe
open Idealize.ShloMosaic.Pipeline (Dat arrRef arrRefs afterRegion pin)

variable (W : Valuation τ sig (Elt Ideal)) (c : Dev nD)

/-- The reference's logits of a valuation's arguments, point by point. -/
def goal : S50000x64.Idx → Elt Ideal .f32 := fun j =>
  refLogits (at_ W main_arg0) (at_ W main_arg1) (at_ W main_arg2) (at_ W main_arg3) (at_ W main_arg4) (at_ W main_arg5) (at_ W main_arg6)
    (at_ W main_arg7) (at_ W main_arg8) (at_ W main_arg9) (at_ W main_arg10) (at_ W main_arg11) (at_ W main_arg12) (at_ W main_arg13) (ix2 (j 1) (j 0))

/-- A point's coordinate, moved by the centre. -/
theorem point_at (n : Fin 50000) (k : Fin 3) (k' : Fin 8) (h : k'.val = k.val) :
    at_ (StableHlo.after opsA W) main_v5 (ix2 n k') = FloatOps.addf (F := Ideal) (φ := .f32) (at_ W main_arg2 (ix2 n k)) (at_ W main_arg3 (ix1 k)) := by
  rw [rd5 W n k k' h]
  pointwise

/-- An argument is as it was after the first stretch of the main. -/
theorem keepA (r : Ref sig .tc) (h : r ∈ argRefs) : at_ (StableHlo.after opsA W) r = at_ W r :=
  StableHlo.after_of_writes_sub opsA _ (StableHlo.forall_writes_sub_of_map writesA) (offA r h)

theorem block_logits (t : Fin cfg0.N) (r : Fin 2000) (p : Fin 64) :
    tcLogits (maskAt (StableHlo.after opsA W) t) (scoreAt (StableHlo.after opsA W) t) (ix2 r p)
      = goal W (ix2 ⟨2000 * t.val + r.val, by have := points t; omega⟩ p) := by
  unfold maskAt scoreAt rowsAt
  rw [in3_at, in4_at, in5_at, in6_at, in7_at, in8_at, in9_at]
  have e4 : at' (StableHlo.after opsA W) main_arg8 = at_ W main_arg8 := keepA W main_arg8 (by decide)
  have e5 : at' (StableHlo.after opsA W) main_arg10 = at_ W main_arg10 := keepA W main_arg10 (by decide)
  have e6 : at' (StableHlo.after opsA W) main_arg12 = at_ W main_arg12 := keepA W main_arg12 (by decide)
  have e3 : at' (StableHlo.after opsA W) main_v28 = planes (at_ W main_arg4) (at_ W main_arg5) (at_ W main_arg6) (at_ W main_arg7) := rd28 W
  rw [e3, e4, e5, e6]
  exact logit_eq (at_ W main_arg0) (at_ W main_arg1) (at_ W main_arg2) (at_ W main_arg3) (at_ W main_arg4) (at_ W main_arg5) (at_ W main_arg6)
    (at_ W main_arg7) (at_ W main_arg8) (at_ W main_arg9) (at_ W main_arg10) (at_ W main_arg11) (at_ W main_arg12) (at_ W main_arg13)
    p ⟨2000 * t.val + r.val, by have := points t; omega⟩ _ _ _ _ _ _ _ r
    ((in2_at _ t (points t) r 0).trans (point_at W _ 0 0 rfl)) ((in2_at _ t (points t) r 1).trans (point_at W _ 1 1 rfl)) ((in2_at _ t (points t) r 2).trans (point_at W _ 2 2 rfl))
    (planes_0 ..) (planes_1 ..) (planes_2 ..) (planes_3 ..)
    (planes_centre _ _ _ _ p 0 4 rfl) (planes_centre _ _ _ _ p 1 5 rfl) (planes_centre _ _ _ _ p 2 6 rfl)
    (planes_normal _ _ _ _ p 0 7 rfl) (planes_normal _ _ _ _ p 1 8 rfl) (planes_normal _ _ _ _ p 2 9 rfl)
    (fun k => (in0_at _ t (points t) r k).trans (congrFun (keepA W main_arg0 (by decide)) _))
    (fun k => (in1_at _ t (points t) r k).trans (congrFun (keepA W main_arg1 (by decide)) _))
    (rd69 W) (rd70 W) (rd71 W)

variable (m : (ℓ : Loc nD τ sig) → Buf (Elt Ideal) ℓ)

/-- The logits' array after the calls is what the first call leaves there. -/
theorem logits_kept : at_ (vD m c) main_v72_0 = goal (vL m c) := by
  have eD : vD m c (Proc.devRef .tc main_v72_0) = vC m c (Proc.devRef .tc main_v72_0) := by
    unfold vD
    exact Pipeline.afterRegion_keeps (dat2 (vC m c) c) (vC m c) launch2.win.arr_inj (fun w => start2 (vC m c) c w) main_v72_0 (by decide)
  have eC : vC m c (Proc.devRef .tc main_v72_0) = vB m c (Proc.devRef .tc main_v72_0) := by
    unfold vC afterCall
    exact Function.update_of_ne (fun e => absurd (Proc.devRef_injective _ e) (by decide)) _ _
  have eB : vB m c (Proc.devRef .tc main_v72_0) = (dat0 (vA m c) c).arrAt 11 cfg0.N := by
    unfold vB
    exact Pipeline.afterRegion_arr (dat0 (vA m c) c) (vA m c) launch0.win.arr_inj 11
  have eA : (dat0 (vA m c) c).arrAt 11 cfg0.N = goal (vL m c) := by
    rw [vA_eq]
    exact logits_arr _ c (goal (vL m c)) (block_logits (vL m c))
  exact eD.trans (eC.trans (eB.trans eA))

/-- The kernel's result at a plane's logit. -/
theorem result_logits (i : Fin 3216384) (h : i.val < 3200000) :
    result m c (ix1 i) = goal (vL m c) (ix2 ⟨i.val % 50000, Nat.mod_lt _ (by decide)⟩ ⟨i.val / 50000, by omega⟩) := by
  have e : result m c (ix1 i) = at_ (StableHlo.after opsB (vD m c)) main_v79 (ix1 i) := by
    unfold result; rw [vE_eq]
  rw [e, rd79 _ i h, logits_kept]

end Cert.Proof
-- ==== Proof.ValueRef.lean ====
/- The plane logits of the reference's result. -/
module

public import proofs.«01_k».proof.Proof.Logits
public import proofs.«01_k».proof.Proof.Gen.ReferenceIdeal.Run

@[expose] public section

noncomputable section

namespace Cert.Proof

open Cert.ReferenceIdeal Cert.ReferenceIdeal.Gen
open Idealize.ShloMosaic Idealize.ShloMosaic.TcCoe

/-- A result's first part, read row by row. -/
theorem joined_at (L : Fl S64x50000) (b c : Fl S8192) (i : Fin 3216384) (h : i.val < 3200000) :
    concatenate S3216384 0 [⟨S3200000, shapeCast S3200000 L shapeCasts_S64x50000_S3200000⟩, ⟨S8192, b⟩, ⟨S8192, c⟩] concatenates_S3200000_S8192_S8192_S3216384_d0 (ix1 i)
      = L (ix2 ⟨i.val / 50000, by omega⟩ ⟨i.val % 50000, Nat.mod_lt _ (by decide)⟩) := by
  pointwise
  rw [dif_pos h]

set_option maxHeartbeats 1000000 in
theorem reference_logits (m : (ℓ : Loc nD τ sig) → Buf (Elt Ideal) ℓ) (c : Dev nD) (i : Fin 3216384) (h : i.val < 3200000) :
    Value.res_main_v107 m c (ix1 i)
      = refLogits (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (ix2 ⟨i.val / 50000, by omega⟩ ⟨i.val % 50000, Nat.mod_lt _ (by decide)⟩) := by
  unfold Value.res_main_v107
  exact joined_at (refLogits _ _ _ _ _ _ _ _ _ _ _ _ _ _) _ _ i h

end Cert.Proof
-- ==== Proof.Algebraic.lean ====
/- The plane logits of the kernel are the reference's. -/
module

public import proofs.«01_k».proof.Defs
public import proofs.«01_k».proof.On_plane_logits
public import proofs.«01_k».proof.Proof.Value
public import proofs.«01_k».proof.Proof.ValueRef
public import proofs.«01_k».proof.Proof.Gen.KernelIdeal
public import proofs.«01_k».proof.Proof.Gen.ReferenceIdeal
public import proofs.«01_k».proof.Proof.Gen.ReferenceIdeal.Run

@[expose] public section

namespace Cert.Proof

open Idealize.SL Idealize.SL.Sem Idealize.ShloMosaic Idealize.ShloMosaic.TcCoe

theorem facts_on : Cert.On_plane_logits.Facts := ⟨by decide⟩

attribute [local instance] Cert.KernelIdeal.Gen.facts Cert.ReferenceIdeal.Gen.facts facts_on

/-- A position the mask selects is a plane logit's. -/
theorem selected (i : Fin 3216384) (h : IntOp.cmpi .slt (BitVec.ofNat 32 i.val) 3200000#32 = 1#1) : i.val < 3200000 := by
  have h' : BitVec.slt (BitVec.ofNat 32 i.val) 3200000#32 = true := by
    revert h; unfold IntOp.cmpi; cases BitVec.slt (BitVec.ofNat 32 i.val) 3200000#32 <;> simp
  have hi := i.isLt
  have e : (BitVec.ofNat 32 i.val).toInt = (i.val : Int) := by
    rw [BitVec.toInt_eq_toNat_of_lt] <;> rw [BitVec.toNat_ofNat, Nat.mod_eq_of_lt (by omega)]
    omega
  have e' : (3200000#32).toInt = 3200000 := by decide
  simp only [BitVec.slt, e, e', decide_eq_true_eq] at h'
  omega

theorem algebraic_logits : Cert.algebraic_KernelIdeal_ReferenceIdeal_on_plane_logits (hKernelIdeal := Cert.KernelIdeal.Gen.facts) (hReferenceIdeal := Cert.ReferenceIdeal.Gen.facts)
    (hOn_plane_logits := facts_on) := by
  intro m ρ m' ρ' _ hm
  refine ⟨fun c => result m c, ?_, ?_⟩
  · exact (θ_run (Cert.KernelIdeal.defs (F := Ideal)) _ _).mono (fun r h c => ⟨fun i _ => congrFun (result_at m r h c) i, args_kept m r h c⟩) (run_main (F := Ideal) m ρ)
  · refine (θ_run (Cert.ReferenceIdeal.defs (F := Ideal)) _ _).mono (fun r h c => ⟨fun i hi => ?_, (h c).2⟩) (Cert.ReferenceIdeal.Value.run (F := Ideal) m' ρ')
    obtain ⟨i, rfl⟩ : ∃ k : Fin 3216384, i = ix1 k := ⟨i 0, eq_ix1 i⟩
    have hlt : i.val < 3200000 := selected i hi
    obtain ⟨h0, h1, h2, h3, h4, h5, h6, h7, h8, h9, h10, h11, h12, h13⟩ := hm c
    refine (congrFun (h c).1 (ix1 i)).trans ((reference_logits m' c i hlt).trans ?_)
    rw [h0, h1, h2, h3, h4, h5, h6, h7, h8, h9, h10, h11, h12, h13]
    exact (result_logits c m i hlt).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, facts_on, frame_kernel, frame_ideal, frame_reference, trivial, algebraic_logits⟩

end Cert.Proof

end
